-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9))).2.2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9))).2.2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))).2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))).2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).2.2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).2.2.2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).2.2.2.2.2.2.2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8))).2.2.2.2.2.2.2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))).2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))).2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))).2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))).2.2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))).2.2.2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))).2.2.2.2.2.2.2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6)) (m ((c.tc : Thread Cert.Reference8Ideal.nD Cert.Reference8Ideal.τ).loc Cert.Reference8Ideal.main_arg7)) (m ((c.tc : Thread Cert.Reference8Ideal.nD Cert.Reference8Ideal.τ).loc Cert.Reference8Ideal.main_arg8))).2.2.2.2.2.2.2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))).2.2.2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)) (v2 : (c : Dev Cert.Kernel2Ideal.nD) → Buf (Elt Ideal) ((c.tc : Thread Cert.Kernel2Ideal.nD Cert.Kernel2Ideal.τ).loc Cert.Kernel2Ideal.main_v16_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_v16_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_v36) = v1 c
          ∧ r.2.mem ((c.tc : Thread Cert.Reference2Ideal.nD Cert.Reference2Ideal.τ).loc Cert.Reference2Ideal.main_v38) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v29_0)) (v1 : (c : Dev Cert.Kernel3Ideal.nD) → Buf (Elt Ideal) ((c.tc : Thread Cert.Kernel3Ideal.nD Cert.Kernel3Ideal.τ).loc Cert.Kernel3Ideal.main_v29_1)) (v2 : (c : Dev Cert.Kernel3Ideal.nD) → Buf (Elt Ideal) ((c.tc : Thread Cert.Kernel3Ideal.nD Cert.Kernel3Ideal.τ).loc Cert.Kernel3Ideal.main_v29_2)) (v3 : (c : Dev Cert.Kernel3Ideal.nD) → Buf (Elt Ideal) ((c.tc : Thread Cert.Kernel3Ideal.nD Cert.Kernel3Ideal.τ).loc Cert.Kernel3Ideal.main_v29_3)) (v4 : (c : Dev Cert.Kernel3Ideal.nD) → Buf (Elt Ideal) ((c.tc : Thread Cert.Kernel3Ideal.nD Cert.Kernel3Ideal.τ).loc Cert.Kernel3Ideal.main_v29_4)) (v5 : (c : Dev Cert.Kernel3Ideal.nD) → Buf (Elt Ideal) ((c.tc : Thread Cert.Kernel3Ideal.nD Cert.Kernel3Ideal.τ).loc Cert.Kernel3Ideal.main_v29_5)) (v6 : (c : Dev Cert.Kernel3Ideal.nD) → Buf (Elt Ideal) ((c.tc : Thread Cert.Kernel3Ideal.nD Cert.Kernel3Ideal.τ).loc Cert.Kernel3Ideal.main_v29_6)) (v7 : (c : Dev Cert.Kernel3Ideal.nD) → Buf (Elt Ideal) ((c.tc : Thread Cert.Kernel3Ideal.nD Cert.Kernel3Ideal.τ).loc Cert.Kernel3Ideal.main_v29_7)) (v8 : (c : Dev Cert.Kernel3Ideal.nD) → Buf (Elt Ideal) ((c.tc : Thread Cert.Kernel3Ideal.nD Cert.Kernel3Ideal.τ).loc Cert.Kernel3Ideal.main_v29_8)) (v9 : (c : Dev Cert.Kernel3Ideal.nD) → Buf (Elt Ideal) ((c.tc : Thread Cert.Kernel3Ideal.nD Cert.Kernel3Ideal.τ).loc Cert.Kernel3Ideal.main_v29_9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v29_0) = v0 c
          ∧ r.2.mem ((c.tc : Thread Cert.Kernel3Ideal.nD Cert.Kernel3Ideal.τ).loc Cert.Kernel3Ideal.main_v29_1) = v1 c
          ∧ r.2.mem ((c.tc : Thread Cert.Kernel3Ideal.nD Cert.Kernel3Ideal.τ).loc Cert.Kernel3Ideal.main_v29_2) = v2 c
          ∧ r.2.mem ((c.tc : Thread Cert.Kernel3Ideal.nD Cert.Kernel3Ideal.τ).loc Cert.Kernel3Ideal.main_v29_3) = v3 c
          ∧ r.2.mem ((c.tc : Thread Cert.Kernel3Ideal.nD Cert.Kernel3Ideal.τ).loc Cert.Kernel3Ideal.main_v29_4) = v4 c
          ∧ r.2.mem ((c.tc : Thread Cert.Kernel3Ideal.nD Cert.Kernel3Ideal.τ).loc Cert.Kernel3Ideal.main_v29_5) = v5 c
          ∧ r.2.mem ((c.tc : Thread Cert.Kernel3Ideal.nD Cert.Kernel3Ideal.τ).loc Cert.Kernel3Ideal.main_v29_6) = v6 c
          ∧ r.2.mem ((c.tc : Thread Cert.Kernel3Ideal.nD Cert.Kernel3Ideal.τ).loc Cert.Kernel3Ideal.main_v29_7) = v7 c
          ∧ r.2.mem ((c.tc : Thread Cert.Kernel3Ideal.nD Cert.Kernel3Ideal.τ).loc Cert.Kernel3Ideal.main_v29_8) = v8 c
          ∧ r.2.mem ((c.tc : Thread Cert.Kernel3Ideal.nD Cert.Kernel3Ideal.τ).loc Cert.Kernel3Ideal.main_v29_9) = v9 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v89) = v0 c
          ∧ r.2.mem ((c.tc : Thread Cert.Reference3Ideal.nD Cert.Reference3Ideal.τ).loc Cert.Reference3Ideal.main_v90) = v1 c
          ∧ r.2.mem ((c.tc : Thread Cert.Reference3Ideal.nD Cert.Reference3Ideal.τ).loc Cert.Reference3Ideal.main_v91) = v2 c
          ∧ r.2.mem ((c.tc : Thread Cert.Reference3Ideal.nD Cert.Reference3Ideal.τ).loc Cert.Reference3Ideal.main_v92) = v3 c
          ∧ r.2.mem ((c.tc : Thread Cert.Reference3Ideal.nD Cert.Reference3Ideal.τ).loc Cert.Reference3Ideal.main_v93) = v4 c
          ∧ r.2.mem ((c.tc : Thread Cert.Reference3Ideal.nD Cert.Reference3Ideal.τ).loc Cert.Reference3Ideal.main_v94) = v5 c
          ∧ r.2.mem ((c.tc : Thread Cert.Reference3Ideal.nD Cert.Reference3Ideal.τ).loc Cert.Reference3Ideal.main_v95) = v6 c
          ∧ r.2.mem ((c.tc : Thread Cert.Reference3Ideal.nD Cert.Reference3Ideal.τ).loc Cert.Reference3Ideal.main_v70) = v7 c
          ∧ r.2.mem ((c.tc : Thread Cert.Reference3Ideal.nD Cert.Reference3Ideal.τ).loc Cert.Reference3Ideal.main_v81) = v8 c
          ∧ r.2.mem ((c.tc : Thread Cert.Reference3Ideal.nD Cert.Reference3Ideal.τ).loc Cert.Reference3Ideal.main_v88) = v9 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  IdealRules.named_const.Statement Cert.Kernel4Ideal.κ "ln2" .f32 0x3F317218#32 ((Real.log 2 : ℝ) : EReal)

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v46_0)) (v1 : (c : Dev Cert.Kernel4Ideal.nD) → Buf (Elt Ideal) ((c.tc : Thread Cert.Kernel4Ideal.nD Cert.Kernel4Ideal.τ).loc Cert.Kernel4Ideal.main_v46_1)) (v2 : (c : Dev Cert.Kernel4Ideal.nD) → Buf (Elt Ideal) ((c.tc : Thread Cert.Kernel4Ideal.nD Cert.Kernel4Ideal.τ).loc Cert.Kernel4Ideal.main_v46_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v46_0) = v0 c
          ∧ r.2.mem ((c.tc : Thread Cert.Kernel4Ideal.nD Cert.Kernel4Ideal.τ).loc Cert.Kernel4Ideal.main_v46_1) = v1 c
          ∧ r.2.mem ((c.tc : Thread Cert.Kernel4Ideal.nD Cert.Kernel4Ideal.τ).loc Cert.Kernel4Ideal.main_v46_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v61) = v0 c
          ∧ r.2.mem ((c.tc : Thread Cert.Reference4Ideal.nD Cert.Reference4Ideal.τ).loc Cert.Reference4Ideal.main_v65) = v1 c
          ∧ r.2.mem ((c.tc : Thread Cert.Reference4Ideal.nD Cert.Reference4Ideal.τ).loc Cert.Reference4Ideal.main_v68) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v41_0)) (v1 : (c : Dev Cert.Kernel5Ideal.nD) → Buf (Elt Ideal) ((c.tc : Thread Cert.Kernel5Ideal.nD Cert.Kernel5Ideal.τ).loc Cert.Kernel5Ideal.main_v41_1)) (v2 : (c : Dev Cert.Kernel5Ideal.nD) → Buf (Elt Ideal) ((c.tc : Thread Cert.Kernel5Ideal.nD Cert.Kernel5Ideal.τ).loc Cert.Kernel5Ideal.main_v41_2)) (v3 : (c : Dev Cert.Kernel5Ideal.nD) → Buf (Elt Ideal) ((c.tc : Thread Cert.Kernel5Ideal.nD Cert.Kernel5Ideal.τ).loc Cert.Kernel5Ideal.main_v41_3)) (v4 : (c : Dev Cert.Kernel5Ideal.nD) → Buf (Elt Ideal) ((c.tc : Thread Cert.Kernel5Ideal.nD Cert.Kernel5Ideal.τ).loc Cert.Kernel5Ideal.main_v41_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v41_0) = v0 c
          ∧ r.2.mem ((c.tc : Thread Cert.Kernel5Ideal.nD Cert.Kernel5Ideal.τ).loc Cert.Kernel5Ideal.main_v41_1) = v1 c
          ∧ r.2.mem ((c.tc : Thread Cert.Kernel5Ideal.nD Cert.Kernel5Ideal.τ).loc Cert.Kernel5Ideal.main_v41_2) = v2 c
          ∧ r.2.mem ((c.tc : Thread Cert.Kernel5Ideal.nD Cert.Kernel5Ideal.τ).loc Cert.Kernel5Ideal.main_v41_3) = v3 c
          ∧ r.2.mem ((c.tc : Thread Cert.Kernel5Ideal.nD Cert.Kernel5Ideal.τ).loc Cert.Kernel5Ideal.main_v41_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v205) = v0 c
          ∧ r.2.mem ((c.tc : Thread Cert.Reference5Ideal.nD Cert.Reference5Ideal.τ).loc Cert.Reference5Ideal.main_v208) = v1 c
          ∧ r.2.mem ((c.tc : Thread Cert.Reference5Ideal.nD Cert.Reference5Ideal.τ).loc Cert.Reference5Ideal.main_v210) = v2 c
          ∧ r.2.mem ((c.tc : Thread Cert.Reference5Ideal.nD Cert.Reference5Ideal.τ).loc Cert.Reference5Ideal.main_v196) = v3 c
          ∧ r.2.mem ((c.tc : Thread Cert.Reference5Ideal.nD Cert.Reference5Ideal.τ).loc Cert.Reference5Ideal.main_v171) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)) (v2 : (c : Dev Cert.Kernel6Ideal.nD) → Buf (Elt Ideal) ((c.tc : Thread Cert.Kernel6Ideal.nD Cert.Kernel6Ideal.τ).loc Cert.Kernel6Ideal.main_v8_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_v8_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v47) = v0 c
          ∧ r.2.mem ((c.tc : Thread Cert.Reference6Ideal.nD Cert.Reference6Ideal.τ).loc Cert.Reference6Ideal.main_v52) = v1 c
          ∧ r.2.mem ((c.tc : Thread Cert.Reference6Ideal.nD Cert.Reference6Ideal.τ).loc Cert.Reference6Ideal.main_v46) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v41) = v0 c
          ∧ r.2.mem ((c.tc : Thread Cert.Reference7Ideal.nD Cert.Reference7Ideal.τ).loc Cert.Reference7Ideal.main_v42) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v8_0)) (v1 : (c : Dev Cert.Kernel8Ideal.nD) → Buf (Elt Ideal) ((c.tc : Thread Cert.Kernel8Ideal.nD Cert.Kernel8Ideal.τ).loc Cert.Kernel8Ideal.main_v8_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8_0) = v0 c
          ∧ r.2.mem ((c.tc : Thread Cert.Kernel8Ideal.nD Cert.Kernel8Ideal.τ).loc Cert.Kernel8Ideal.main_v8_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v42) = v0 c
          ∧ r.2.mem ((c.tc : Thread Cert.Reference8Ideal.nD Cert.Reference8Ideal.τ).loc Cert.Reference8Ideal.main_v43) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)) (v2 : (c : Dev Cert.Kernel9Ideal.nD) → Buf (Elt Ideal) ((c.tc : Thread Cert.Kernel9Ideal.nD Cert.Kernel9Ideal.τ).loc Cert.Kernel9Ideal.main_v2_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_v2_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v32) = v1 c
          ∧ r.2.mem ((c.tc : Thread Cert.Reference9Ideal.nD Cert.Reference9Ideal.τ).loc Cert.Reference9Ideal.main_v34) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite2 : Cert.Pre_finite2.Facts) (hPre_finite3 : Cert.Pre_finite3.Facts) (hPre_finite4 : Cert.Pre_finite4.Facts) (hPre_finite5 : Cert.Pre_finite5.Facts) (hPre_finite6 : Cert.Pre_finite6.Facts) (hPre_finite7 : Cert.Pre_finite7.Facts) (hPre_finite8 : Cert.Pre_finite8.Facts) (hPre_finite9 : Cert.Pre_finite9.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_finite9 (hKernel9Ideal := hKernel9Ideal) (hReference9Ideal := hReference9Ideal) (hPre_finite9 := hPre_finite9)
-- ==== Pre_finite.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S1x1024 .f32) (main_arg2 : FVec F S1x1024 .f32) (main_arg3 : FVec F S1x1024 .f32) (main_arg4 : FVec F S4096x1024 .bf16) : IVec S4096x1024 1 × IVec S1x1024 1 × IVec S1x1024 1 × IVec S1x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S4096x1024 .bf16 := Host.absf main_arg4
  let main_cst_3 : FVec F S_ .bf16 := constant S_ .bf16 0x7F80#16
  let main_v13 : FVec F S4096x1024 .bf16 := broadcastInDim S4096x1024 ![] bcast_S_S4096x1024 main_cst_3
  let main_v14 : IVec S4096x1024 1 := cmpf .olt main_v12 main_v13
  (main_v2, main_v5, main_v8, main_v11, main_v14)
-- ==== Pre_finite2.lean ====
abbrev S4096x1024 : Shape := ⟨2, ![4096, 1024]⟩
abbrev S1x31x1x1024 : Shape := ⟨4, ![1, 31, 1, 1024]⟩
abbrev S_ : Shape := ⟨0, ![]⟩

class Facts : Prop where
  bcast_S_S4096x1024 : S_.BroadcastsInDim S4096x1024 (![] : Fin 0 → Fin S4096x1024.rank)
  bcast_S_S1x31x1x1024 : S_.BroadcastsInDim S1x31x1x1024 (![] : Fin 0 → Fin S1x31x1x1024.rank)

variable [Facts]

def fn {F : FTy → Type} [FloatOps F] (main_arg0 : FVec F S4096x1024 .f32) (main_arg1 : FVec F S4096x1024 .f32) (main_arg2 : FVec F S4096x1024 .f32) (main_arg3 : FVec F S1x31x1x1024 .f32) : IVec S4096x1024 1 × IVec S4096x1024 1 × IVec S4096x1024 1 × IVec S1x31x1x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x31x1x1024 .f32 := Host.absf main_arg3
  let main_cst_2 : FVec F S_ .f32 := constant S_ .f32 0x7F800000#32
  let main_v10 : FVec F S1x31x1x1024 .f32 := broadcastInDim S1x31x1x1024 ![] bcast_S_S1x31x1x1024 main_cst_2
  let main_v11 : IVec S1x31x1x1024 1 := cmpf .olt main_v9 main_v10
  (main_v2, main_v5, main_v8, main_v11)
-- ==== Pre_finite3.lean ====
abbrev S4096x1024 : Shape := ⟨2, ![4096, 1024]⟩
abbrev S1x1024x1024 : Shape := ⟨3, ![1, 1024, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024x1024 : S_.BroadcastsInDim S1x1024x1024 (![] : Fin 0 → Fin S1x1024x1024.rank)
  bcast_S_S1x1024 : S_.BroadcastsInDim S1x1024 (![] : Fin 0 → Fin S1x1024.rank)

variable [Facts]

def fn_part1 {F : FTy → Type} [FloatOps F] (main_arg6 : FVec F S1x1024 .f32) (main_arg7 : FVec F S1x1024x1024 .f32) (main_arg8 : FVec F S1x1024 .f32) (main_arg9 : FVec F S4096x1024 .f32) (main_v2 : IVec S4096x1024 1) (main_v5 : IVec S4096x1024 1) (main_v8 : IVec S4096x1024 1) (main_v11 : IVec S4096x1024 1) (main_v14 : IVec S1x1024x1024 1) (main_v17 : IVec S1x1024x1024 1) : IVec S4096x1024 1 × IVec S4096x1024 1 × IVec S4096x1024 1 × IVec S4096x1024 1 × IVec S1x1024x1024 1 × IVec S1x1024x1024 1 × IVec S1x1024 1 × IVec S1x1024x1024 1 × IVec S1x1024 1 × IVec S4096x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S1x1024x1024 .f32 := Host.absf main_arg7
  let main_cst_6 : FVec F S_ .f32 := constant S_ .f32 0x7F800000#32
  let main_v22 : FVec F S1x1024x1024 .f32 := broadcastInDim S1x1024x1024 ![] bcast_S_S1x1024x1024 main_cst_6
  let main_v23 : IVec S1x1024x1024 1 := cmpf .olt main_v21 main_v22
  let main_v24 : FVec F S1x1024 .f32 := Host.absf main_arg8
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  let main_v27 : FVec F S4096x1024 .f32 := Host.absf main_arg9
  let main_cst_8 : FVec F S_ .f32 := constant S_ .f32 0x7F800000#32
  let main_v28 : FVec F S4096x1024 .f32 := broadcastInDim S4096x1024 ![] bcast_S_S4096x1024 main_cst_8
  let main_v29 : IVec S4096x1024 1 := cmpf .olt main_v27 main_v28
  (main_v2, main_v5, main_v8, main_v11, main_v14, main_v17, main_v20, main_v23, main_v26, main_v29)

def fn {F : FTy → Type} [FloatOps F] (main_arg0 : FVec F S4096x1024 .bf16) (main_arg1 : FVec F S4096x1024 .bf16) (main_arg2 : FVec F S4096x1024 .f32) (main_arg3 : FVec F S4096x1024 .f32) (main_arg4 : FVec F S1x1024x1024 .f32) (main_arg5 : FVec F S1x1024x1024 .f32) (main_arg6 : FVec F S1x1024 .f32) (main_arg7 : FVec F S1x1024x1024 .f32) (main_arg8 : FVec F S1x1024 .f32) (main_arg9 : FVec F S4096x1024 .f32) : IVec S4096x1024 1 × IVec S4096x1024 1 × IVec S4096x1024 1 × IVec S4096x1024 1 × IVec S1x1024x1024 1 × IVec S1x1024x1024 1 × IVec S1x1024 1 × IVec S1x1024x1024 1 × IVec S1x1024 1 × IVec S4096x1024 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S4096x1024 .bf16 := Host.absf main_arg1
  let main_cst_0 : FVec F S_ .bf16 := constant S_ .bf16 0x7F80#16
  let main_v4 : FVec F S4096x1024 .bf16 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1x1024x1024 .f32 := Host.absf main_arg4
  let main_cst_3 : FVec F S_ .f32 := constant S_ .f32 0x7F800000#32
  let main_v13 : FVec F S1x1024x1024 .f32 := broadcastInDim S1x1024x1024 ![] bcast_S_S1x1024x1024 main_cst_3
  let main_v14 : IVec S1x1024x1024 1 := cmpf .olt main_v12 main_v13
  let main_v15 : FVec F S1x1024x1024 .f32 := Host.absf main_arg5
  let main_cst_4 : FVec F S_ .f32 := constant S_ .f32 0x7F800000#32
  let main_v16 : FVec F S1x1024x1024 .f32 := broadcastInDim S1x1024x1024 ![] bcast_S_S1x1024x1024 main_cst_4
  let main_v17 : IVec S1x1024x1024 1 := cmpf .olt main_v15 main_v16
  fn_part1 (F := F) main_arg6 main_arg7 main_arg8 main_arg9 main_v2 main_v5 main_v8 main_v11 main_v14 main_v17
-- ==== Pre_finite4.lean ====
abbrev S8x4096x192 : Shape := ⟨3, ![8, 4096, 192]⟩
abbrev S8x4096x128 : Shape := ⟨3, ![8, 4096, 128]⟩
abbrev S_ : Shape := ⟨0, ![]⟩

class Facts : Prop where
  bcast_S_S8x4096x192 : S_.BroadcastsInDim S8x4096x192 (![] : Fin 0 → Fin S8x4096x192.rank)
  bcast_S_S8x4096x128 : S_.BroadcastsInDim S8x4096x128 (![] : Fin 0 → Fin S8x4096x128.rank)

variable [Facts]

def fn {F : FTy → Type} [FloatOps F] (main_arg0 : FVec F S8x4096x192 .f32) (main_arg1 : FVec F S8x4096x192 .f32) (main_arg2 : FVec F S8x4096x128 .f32) (main_arg3 : FVec F S8x4096x128 .f32) : IVec S8x4096x192 1 × IVec S8x4096x192 1 × IVec S8x4096x128 1 × IVec S8x4096x128 1 :=
  let main_v0 : FVec F S8x4096x192 .f32 := Host.absf main_arg0
  let main_cst : FVec F S_ .f32 := constant S_ .f32 0x7F800000#32
  let main_v1 : FVec F S8x4096x192 .f32 := broadcastInDim S8x4096x192 ![] bcast_S_S8x4096x192 main_cst
  let main_v2 : IVec S8x4096x192 1 := cmpf .olt main_v0 main_v1
  let main_v3 : FVec F S8x4096x192 .f32 := Host.absf main_arg1
  let main_cst_0 : FVec F S_ .f32 := constant S_ .f32 0x7F800000#32
  let main_v4 : FVec F S8x4096x192 .f32 := broadcastInDim S8x4096x192 ![] bcast_S_S8x4096x192 main_cst_0
  let main_v5 : IVec S8x4096x192 1 := cmpf .olt main_v3 main_v4
  let main_v6 : FVec F S8x4096x128 .f32 := Host.absf main_arg2
  let main_cst_1 : FVec F S_ .f32 := constant S_ .f32 0x7F800000#32
  let main_v7 : FVec F S8x4096x128 .f32 := broadcastInDim S8x4096x128 ![] bcast_S_S8x4096x128 main_cst_1
  let main_v8 : IVec S8x4096x128 1 := cmpf .olt main_v6 main_v7
  let main_v9 : FVec F S8x4096x128 .f32 := Host.absf main_arg3
  let main_cst_2 : FVec F S_ .f32 := constant S_ .f32 0x7F800000#32
  let main_v10 : FVec F S8x4096x128 .f32 := broadcastInDim S8x4096x128 ![] bcast_S_S8x4096x128 main_cst_2
  let main_v11 : IVec S8x4096x128 1 := cmpf .olt main_v9 main_v10
  (main_v2, main_v5, main_v8, main_v11)
-- ==== Pre_finite5.lean ====
abbrev S4096x704 : Shape := ⟨2, ![4096, 704]⟩
abbrev S1x4096 : Shape := ⟨2, ![1, 4096]⟩
abbrev S1x384 : Shape := ⟨2, ![1, 384]⟩
abbrev S1x384x1536 : Shape := ⟨3, ![1, 384, 1536]⟩
abbrev S1x256 : Shape := ⟨2, ![1, 256]⟩
abbrev S1x256x8x128 : Shape := ⟨4, ![1, 256, 8, 128]⟩
abbrev S4096x8x192 : Shape := ⟨3, ![4096, 8, 192]⟩
abbrev S4096x1024 : Shape := ⟨2, ![4096, 1024]⟩
abbrev S_ : Shape := ⟨0, ![]⟩

class Facts : Prop where
  bcast_S_S4096x704 : S_.BroadcastsInDim S4096x704 (![] : Fin 0 → Fin S4096x704.rank)
  bcast_S_S1x384 : S_.BroadcastsInDim S1x384 (![] : Fin 0 → Fin S1x384.rank)
  bcast_S_S1x384x1536 : S_.BroadcastsInDim S1x384x1536 (![] : Fin 0 → Fin S1x384x1536.rank)
  bcast_S_S1x256 : S_.BroadcastsInDim S1x256 (![] : Fin 0 → Fin S1x256.rank)
  bcast_S_S1x256x8x128 : S_.BroadcastsInDim S1x256x8x128 (![] : Fin 0 → Fin S1x256x8x128.rank)
  bcast_S_S4096x8x192 : S_.BroadcastsInDim S4096x8x192 (![] : Fin 0 → Fin S4096x8x192.rank)
  bcast_S_S4096x1024 : S_.BroadcastsInDim S4096x1024 (![] : Fin 0 → Fin S4096x1024.rank)

variable [Facts]

def fn_part1 {F : FTy → Type} [FloatOps F] (main_arg7 : FVec F S4096x8x192 .bf16) (main_arg8 : FVec F S4096x8x192 .bf16) (main_arg9 : FVec F S4096x1024 .bf16) (main_v2 : IVec S4096x704 1) (main_v5 : IVec S1x384 1) (main_v8 : IVec S1x384x1536 1) (main_v11 : IVec S1x256 1) (main_v14 : IVec S1x256x8x128 1) (main_v17 : IVec S1x256x8x128 1) : IVec S4096x704 1 × IVec S1x384 1 × IVec S1x384x1536 1 × IVec S1x256 1 × IVec S1x256x8x128 1 × IVec S1x256x8x128 1 × IVec S4096x8x192 1 × IVec S4096x8x192 1 × IVec S4096x1024 1 :=
  let main_v18 : FVec F S4096x8x192 .bf16 := Host.absf main_arg7
  let main_cst_5 : FVec F S_ .bf16 := constant S_ .bf16 0x7F80#16
  let main_v19 : FVec F S4096x8x192 .bf16 := broadcastInDim S4096x8x192 ![] bcast_S_S4096x8x192 main_cst_5
  let main_v20 : IVec S4096x8x192 1 := cmpf .olt main_v18 main_v19
  let main_v21 : FVec F S4096x8x192 .bf16 := Host.absf main_arg8
  let main_cst_6 : FVec F S_ .bf16 := constant S_ .bf16 0x7F80#16
  let main_v22 : FVec F S4096x8x192 .bf16 := broadcastInDim S4096x8x192 ![] bcast_S_S4096x8x192 main_cst_6
  let main_v23 : IVec S4096x8x192 1 := cmpf .olt main_v21 main_v22
  let main_v24 : FVec F S4096x1024 .bf16 := Host.absf main_arg9
  let main_cst_7 : FVec F S_ .bf16 := constant S_ .bf16 0x7F80#16
  let main_v25 : FVec F S4096x1024 .bf16 := broadcastInDim S4096x1024 ![] bcast_S_S4096x1024 main_cst_7
  let main_v26 : IVec S4096x1024 1 := cmpf .olt main_v24 main_v25
  (main_v2, main_v5, main_v8, main_v11, main_v14, main_v17, main_v20, main_v23, main_v26)

def fn {F : FTy → Type} [FloatOps F] (main_arg0 : FVec F S4096x704 .f32) (main_arg1 : IVec S1x4096 32) (main_arg2 : FVec F S1x384 .f32) (main_arg3 : FVec F S1x384x1536 .f32) (main_arg4 : FVec F S1x256 .f32) (main_arg5 : FVec F S1x256x8x128 .f32) (main_arg6 : FVec F S1x256x8x128 .f32) (main_arg7 : FVec F S4096x8x192 .bf16) (main_arg8 : FVec F S4096x8x192 .bf16) (main_arg9 : FVec F S4096x1024 .bf16) : IVec S4096x704 1 × IVec S1x384 1 × IVec S1x384x1536 1 × IVec S1x256 1 × IVec S1x256x8x128 1 × IVec S1x256x8x128 1 × IVec S4096x8x192 1 × IVec S4096x8x192 1 × IVec S4096x1024 1 :=
  let main_v0 : FVec F S4096x704 .f32 := Host.absf main_arg0
  let main_cst : FVec F S_ .f32 := constant S_ .f32 0x7F800000#32
  let main_v1 : FVec F S4096x704 .f32 := broadcastInDim S4096x704 ![] bcast_S_S4096x704 main_cst
  let main_v2 : IVec S4096x704 1 := cmpf .olt main_v0 main_v1
  let main_v3 : FVec F S1x384 .f32 := Host.absf main_arg2
  let main_cst_0 : FVec F S_ .f32 := constant S_ .f32 0x7F800000#32
  let main_v4 : FVec F S1x384 .f32 := broadcastInDim S1x384 ![] bcast_S_S1x384 main_cst_0
  let main_v5 : IVec S1x384 1 := cmpf .olt main_v3 main_v4
  let main_v6 : FVec F S1x384x1536 .f32 := Host.absf main_arg3
  let main_cst_1 : FVec F S_ .f32 := constant S_ .f32 0x7F800000#32
  let main_v7 : FVec F S1x384x1536 .f32 := broadcastInDim S1x384x1536 ![] bcast_S_S1x384x1536 main_cst_1
  let main_v8 : IVec S1x384x1536 1 := cmpf .olt main_v6 main_v7
  let main_v9 : FVec F S1x256 .f32 := Host.absf main_arg4
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_v12 : FVec F S1x256x8x128 .f32 := Host.absf main_arg5
  let main_cst_3 : FVec F S_ .f32 := constant S_ .f32 0x7F800000#32
  let main_v13 : FVec F S1x256x8x128 .f32 := broadcastInDim S1x256x8x128 ![] bcast_S_S1x256x8x128 main_cst_3
  let main_v14 : IVec S1x256x8x128 1 := cmpf .olt main_v12 main_v13
  let main_v15 : FVec F S1x256x8x128 .f32 := Host.absf main_arg6
  let main_cst_4 : FVec F S_ .f32 := constant S_ .f32 0x7F800000#32
  let main_v16 : FVec F S1x256x8x128 .f32 := broadcastInDim S1x256x8x128 ![] bcast_S_S1x256x8x128 main_cst_4
  let main_v17 : IVec S1x256x8x128 1 := cmpf .olt main_v15 main_v16
  fn_part1 (F := F) main_arg7 main_arg8 main_arg9 main_v2 main_v5 main_v8 main_v11 main_v14 main_v17
-- ==== Pre_finite6.lean ====
abbrev S4096x4096 : Shape := ⟨2, ![4096, 4096]⟩
abbrev S1x4096x1024 : Shape := ⟨3, ![1, 4096, 1024]⟩
abbrev S1x1024 : Shape := ⟨2, ![1, 1024]⟩
abbrev S4096x1024 : Shape := ⟨2, ![4096, 1024]⟩
abbrev S_ : Shape := ⟨0, ![]⟩

class Facts : Prop where
  bcast_S_S4096x4096 : S_.BroadcastsInDim S4096x4096 (![] : Fin 0 → Fin S4096x4096.rank)
  bcast_S_S1x4096x1024 : S_.BroadcastsInDim S1x4096x1024 (![] : Fin 0 → Fin S1x4096x1024.rank)
  bcast_S_S1x1024 : S_.BroadcastsInDim S1x1024 (![] : Fin 0 → Fin S1x1024.rank)
  bcast_S_S4096x1024 : S_.BroadcastsInDim S4096x1024 (![] : Fin 0 → Fin S4096x1024.rank)

variable [Facts]

def fn {F : FTy → Type} [FloatOps F] (main_arg0 : FVec F S4096x4096 .f32) (main_arg1 : FVec F S1x4096x1024 .f32) (main_arg2 : FVec F S1x1024 .f32) (main_arg3 : FVec F S4096x1024 .f32) : IVec S4096x4096 1 × IVec S1x4096x1024 1 × IVec S1x1024 1 × IVec S4096x1024 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S1x4096x1024 .f32 := Host.absf main_arg1
  let main_cst_0 : FVec F S_ .f32 := constant S_ .f32 0x7F800000#32
  let main_v4 : FVec F S1x4096x1024 .f32 := broadcastInDim S1x4096x1024 ![] bcast_S_S1x4096x1024 main_cst_0
  let main_v5 : IVec S1x4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite7.lean ====
abbrev S4096x1024 : Shape := ⟨2, ![4096, 1024]⟩
abbrev S1x1024 : Shape := ⟨2, ![1, 1024]⟩
abbrev S1x1024x4096 : Shape := ⟨3, ![1, 1024, 4096]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1x1024x4096 : S_.BroadcastsInDim S1x1024x4096 (![] : Fin 0 → Fin S1x1024x4096.rank)
  bcast_S_S4096x4096 : S_.BroadcastsInDim S4096x4096 (![] : Fin 0 → Fin S4096x4096.rank)

variable [Facts]

def fn {F : FTy → Type} [FloatOps F] (main_arg0 : FVec F S4096x1024 .f32) (main_arg1 : FVec F S1x1024 .f32) (main_arg2 : FVec F S1x1024x4096 .f32) (main_arg3 : FVec F S4096x1024 .f32) (main_arg4 : FVec F S4096x4096 .bf16) : IVec S4096x1024 1 × IVec S1x1024 1 × IVec S1x1024x4096 1 × IVec S4096x1024 1 × IVec S4096x4096 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x4096 .f32 := Host.absf main_arg2
  let main_cst_1 : FVec F S_ .f32 := constant S_ .f32 0x7F800000#32
  let main_v7 : FVec F S1x1024x4096 .f32 := broadcastInDim S1x1024x4096 ![] bcast_S_S1x1024x4096 main_cst_1
  let main_v8 : IVec S1x1024x4096 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x4096 .bf16 := Host.absf main_arg4
  let main_cst_3 : FVec F S_ .bf16 := constant S_ .bf16 0x7F80#16
  let main_v13 : FVec F S4096x4096 .bf16 := broadcastInDim S4096x4096 ![] bcast_S_S4096x4096 main_cst_3
  let main_v14 : IVec S4096x4096 1 := cmpf .olt main_v12 main_v13
  (main_v2, main_v5, main_v8, main_v11, main_v14)
-- ==== Pre_finite8.lean ====
abbrev S4096x1024 : Shape := ⟨2, ![4096, 1024]⟩
abbrev S1x1024 : Shape := ⟨2, ![1, 1024]⟩
abbrev S1x1024x4800 : Shape := ⟨3, ![1, 1024, 4800]⟩
abbrev S4096x704 : Shape := ⟨2, ![4096, 704]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1x1024x4800 : S_.BroadcastsInDim S1x1024x4800 (![] : Fin 0 → Fin S1x1024x4800.rank)
  bcast_S_S4096x704 : S_.BroadcastsInDim S4096x704 (![] : Fin 0 → Fin S4096x704.rank)

variable [Facts]

def fn_part1 {F : FTy → Type} [FloatOps F] (main_arg6 : FVec F S4096x1024 .bf16) (main_arg7 : FVec F S4096x1024 .bf16) (main_arg8 : FVec F S4096x1024 .bf16) (main_v2 : IVec S4096x1024 1) (main_v5 : IVec S1x1024 1) (main_v8 : IVec S1x1024x4800 1) (main_v11 : IVec S4096x1024 1) (main_v14 : IVec S4096x704 1) (main_v17 : IVec S4096x1024 1) : IVec S4096x1024 1 × IVec S1x1024 1 × IVec S1x1024x4800 1 × IVec S4096x1024 1 × IVec S4096x704 1 × IVec S4096x1024 1 × IVec S4096x1024 1 × IVec S4096x1024 1 × IVec S4096x1024 1 :=
  let main_v18 : FVec F S4096x1024 .bf16 := Host.absf main_arg6
  let main_cst_5 : FVec F S_ .bf16 := constant S_ .bf16 0x7F80#16
  let main_v19 : FVec F S4096x1024 .bf16 := broadcastInDim S4096x1024 ![] bcast_S_S4096x1024 main_cst_5
  let main_v20 : IVec S4096x1024 1 := cmpf .olt main_v18 main_v19
  let main_v21 : FVec F S4096x1024 .bf16 := Host.absf main_arg7
  let main_cst_6 : FVec F S_ .bf16 := constant S_ .bf16 0x7F80#16
  let main_v22 : FVec F S4096x1024 .bf16 := broadcastInDim S4096x1024 ![] bcast_S_S4096x1024 main_cst_6
  let main_v23 : IVec S4096x1024 1 := cmpf .olt main_v21 main_v22
  let main_v24 : FVec F S4096x1024 .bf16 := Host.absf main_arg8
  let main_cst_7 : FVec F S_ .bf16 := constant S_ .bf16 0x7F80#16
  let main_v25 : FVec F S4096x1024 .bf16 := broadcastInDim S4096x1024 ![] bcast_S_S4096x1024 main_cst_7
  let main_v26 : IVec S4096x1024 1 := cmpf .olt main_v24 main_v25
  (main_v2, main_v5, main_v8, main_v11, main_v14, main_v17, main_v20, main_v23, main_v26)

def fn {F : FTy → Type} [FloatOps F] (main_arg0 : FVec F S4096x1024 .f32) (main_arg1 : FVec F S1x1024 .f32) (main_arg2 : FVec F S1x1024x4800 .f32) (main_arg3 : FVec F S4096x1024 .f32) (main_arg4 : FVec F S4096x704 .bf16) (main_arg5 : FVec F S4096x1024 .bf16) (main_arg6 : FVec F S4096x1024 .bf16) (main_arg7 : FVec F S4096x1024 .bf16) (main_arg8 : FVec F S4096x1024 .bf16) : IVec S4096x1024 1 × IVec S1x1024 1 × IVec S1x1024x4800 1 × IVec S4096x1024 1 × IVec S4096x704 1 × IVec S4096x1024 1 × IVec S4096x1024 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x4800 .f32 := Host.absf main_arg2
  let main_cst_1 : FVec F S_ .f32 := constant S_ .f32 0x7F800000#32
  let main_v7 : FVec F S1x1024x4800 .f32 := broadcastInDim S1x1024x4800 ![] bcast_S_S1x1024x4800 main_cst_1
  let main_v8 : IVec S1x1024x4800 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x704 .bf16 := Host.absf main_arg4
  let main_cst_3 : FVec F S_ .bf16 := constant S_ .bf16 0x7F80#16
  let main_v13 : FVec F S4096x704 .bf16 := broadcastInDim S4096x704 ![] bcast_S_S4096x704 main_cst_3
  let main_v14 : IVec S4096x704 1 := cmpf .olt main_v12 main_v13
  let main_v15 : FVec F S4096x1024 .bf16 := Host.absf main_arg5
  let main_cst_4 : FVec F S_ .bf16 := constant S_ .bf16 0x7F80#16
  let main_v16 : FVec F S4096x1024 .bf16 := broadcastInDim S4096x1024 ![] bcast_S_S4096x1024 main_cst_4
  let main_v17 : IVec S4096x1024 1 := cmpf .olt main_v15 main_v16
  fn_part1 (F := F) main_arg6 main_arg7 main_arg8 main_v2 main_v5 main_v8 main_v11 main_v14 main_v17
-- ==== Pre_finite9.lean ====
abbrev S4096x4096 : Shape := ⟨2, ![4096, 4096]⟩
abbrev S4096x1024 : Shape := ⟨2, ![4096, 1024]⟩
abbrev S1x4096x1024 : Shape := ⟨3, ![1, 4096, 1024]⟩
abbrev S1x1024 : Shape := ⟨2, ![1, 1024]⟩
abbrev S_ : Shape := ⟨0, ![]⟩

class Facts : Prop where
  bcast_S_S4096x4096 : S_.BroadcastsInDim S4096x4096 (![] : Fin 0 → Fin S4096x4096.rank)
  bcast_S_S4096x1024 : S_.BroadcastsInDim S4096x1024 (![] : Fin 0 → Fin S4096x1024.rank)
  bcast_S_S1x4096x1024 : S_.BroadcastsInDim S1x4096x1024 (![] : Fin 0 → Fin S1x4096x1024.rank)
  bcast_S_S1x1024 : S_.BroadcastsInDim S1x1024 (![] : Fin 0 → Fin S1x1024.rank)

variable [Facts]

def fn {F : FTy → Type} [FloatOps F] (main_arg0 : FVec F S4096x4096 .bf16) (main_arg1 : FVec F S4096x1024 .f32) (main_arg2 : FVec F S4096x1024 .f32) (main_arg3 : FVec F S1x4096x1024 .f32) (main_arg4 : FVec F S1x1024 .f32) : IVec S4096x4096 1 × IVec S4096x1024 1 × IVec S4096x1024 1 × IVec S1x4096x1024 1 × IVec S1x1024 1 :=
  let main_v0 : FVec F S4096x4096 .bf16 := Host.absf main_arg0
  let main_cst : FVec F S_ .bf16 := constant S_ .bf16 0x7F80#16
  let main_v1 : FVec F S4096x4096 .bf16 := broadcastInDim S4096x4096 ![] bcast_S_S4096x4096 main_cst
  let main_v2 : IVec S4096x4096 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x4096x1024 .f32 := Host.absf main_arg3
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== Kernel.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 109
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x1024, .bf16⟩
  | .hbm, ⟨5, _⟩ => ⟨S1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S_, .f32⟩
  | .hbm, ⟨64, _⟩ => ⟨S1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x1024, .f32⟩
  | .hbm, ⟨78, _⟩ => ⟨S4096x1024, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S4096x1024, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S1x1024, .f32⟩
  | .hbm, ⟨102, _⟩ => ⟨S1x1024, .f32⟩
  | .hbm, ⟨103, _⟩ => ⟨S_, .f32⟩
  | .hbm, ⟨104, _⟩ => ⟨S1024, .f32⟩
  | .hbm, ⟨105, _⟩ => ⟨S1x1024, .f32⟩
  | .hbm, ⟨106, _⟩ => ⟨S_, .f32⟩
  | .hbm, ⟨107, _⟩ => ⟨S1024, .f32⟩
  | .hbm, ⟨108, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v31_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v31_1 : Ref sig .tc := ⟨.hbm, 53, rfl⟩
abbrev main_v31_0 : Ref sig .tc := ⟨.hbm, 54, rfl⟩
abbrev main_v32 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v33 : Ref sig .tc := ⟨.hbm, 59, rfl⟩
abbrev main_cst_5 : Ref sig .tc := ⟨.hbm, 60, rfl⟩
abbrev main_v34 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_8 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_10 : Ref sig .tc := ⟨.hbm, 80, rfl⟩
abbrev main_v49 : Ref sig .tc := ⟨.hbm, 81, rfl⟩
abbrev main_v50 : Ref sig .tc := ⟨.hbm, 82, rfl⟩
abbrev main_cst_11 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_12 : Ref sig .tc := ⟨.hbm, 91, rfl⟩
abbrev main_v58 : Ref sig .tc := ⟨.hbm, 92, rfl⟩
abbrev main_v59 : Ref sig .tc := ⟨.hbm, 93, rfl⟩
abbrev main_cst_13 : Ref sig .tc := ⟨.hbm, 94, rfl⟩
abbrev main_v60 : Ref sig .tc := ⟨.hbm, 95, rfl⟩
abbrev main_v61 : Ref sig .tc := ⟨.hbm, 96, rfl⟩
abbrev main_cst_14 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_15 : Ref sig .tc := ⟨.hbm, 103, rfl⟩
abbrev main_v67 : Ref sig .tc := ⟨.hbm, 104, rfl⟩
abbrev main_v68 : Ref sig .tc := ⟨.hbm, 105, rfl⟩
abbrev main_cst_16 : Ref sig .tc := ⟨.hbm, 106, rfl⟩
abbrev main_v69 : Ref sig .tc := ⟨.hbm, 107, rfl⟩
abbrev main_v70 : Ref sig .tc := ⟨.hbm, 108, rfl⟩

abbrev nD : Nat := 1
abbrev τ : Topo := Topo.v7x

variable {F : FTy → Type} [FloatOps F]
-- ==== Kernel2.lean ====
abbrev S4096x1024 : Shape := ⟨2, ![4096, 1024]⟩
abbrev S1x31x1x1024 : Shape := ⟨4, ![1, 31, 1, 1024]⟩
abbrev S_ : Shape := ⟨0, ![]⟩
abbrev S31x1024 : Shape := ⟨2, ![31, 1024]⟩
abbrev S32x1024 : Shape := ⟨2, ![32, 1024]⟩
abbrev S256x1024 : Shape := ⟨2, ![256, 1024]⟩
abbrev S288x1024 : Shape := ⟨2, ![288, 1024]⟩
abbrev S7x280x1024 : Shape := ⟨3, ![7, 280, 1024]⟩
abbrev S280x1024 : Shape := ⟨2, ![280, 1024]⟩
abbrev S1x280x1024 : Shape := ⟨3, ![1, 280, 1024]⟩
abbrev S1x1024 : Shape := ⟨2, ![1, 1024]⟩
abbrev S1024 : Shape := ⟨1, ![1024]⟩

abbrev nBuf : Space → Nat
  | .hbm => 27
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x31x1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S31x1024, .f32⟩
  | .hbm, ⟨13, _⟩ => ⟨S31x1024, .bf16⟩
  | .hbm, ⟨14, _⟩ => ⟨S31x1024, .f32⟩
  | .hbm, ⟨15, _⟩ => ⟨S31x1024, .f32⟩
  | .hbm, ⟨16, _⟩ => ⟨S31x1024, .bf16⟩
  | .hbm, ⟨17, _⟩ => ⟨S31x1024, .f32⟩
  | .hbm, ⟨18, _⟩ => ⟨S31x1024, .f32⟩
  | .hbm, ⟨19, _⟩ => ⟨S31x1024, .f32⟩
  | .hbm, ⟨20, _⟩ => ⟨S_, .i32⟩
  | .hbm, ⟨21, _⟩ => ⟨S_, .f32⟩
  | .hbm, ⟨22, _⟩ => ⟨S32x1024, .f32⟩
  | .hbm, ⟨23, _⟩ => ⟨S4096x1024, .f32⟩
  | .hbm, ⟨24, _⟩ => ⟨S4096x1024, .bf16⟩
  | .hbm, ⟨25, _⟩ => ⟨S4096x1024, .bf16⟩
  | .hbm, ⟨26, _⟩ => ⟨S32x1024, .f32⟩
  | .local _ .vmem, ⟨0, _⟩ => ⟨S256x1024, .f32⟩
  | .local _ .vmem, ⟨1, _⟩ => ⟨S256x1024, .f32⟩
  | .local _ .vmem, ⟨2, _⟩ => ⟨S32x1024, .f32⟩
  | .local _ .vmem, ⟨3, _⟩ => ⟨S32x1024, .f32⟩
  | .local _ .vmem, ⟨4, _⟩ => ⟨S256x1024, .f32⟩
  | .local _ .vmem, ⟨5, _⟩ => ⟨S256x1024, .f32⟩
  | .local _ .vmem, ⟨6, _⟩ => ⟨S32x1024, .f32⟩
  | .local _ .vmem, ⟨7, _⟩ => ⟨S32x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S32x1024, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S32x1024, .f32⟩
  | .local _ .vmem, ⟨18, _⟩ => ⟨S288x1024, .f32⟩
  | .local _ .vmem, ⟨19, _⟩ => ⟨S288x1024, .f32⟩
  | .local _ .vmem, ⟨20, _⟩ => ⟨S7x280x1024, .f32⟩
  | .local _ .vmem, ⟨21, _⟩ => ⟨S7x280x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S4096x1024 : Shape := ⟨2, ![4096, 1024]⟩
abbrev S1x31x1x1024 : Shape := ⟨4, ![1, 31, 1, 1024]⟩
abbrev S_ : Shape := ⟨0, ![]⟩
abbrev S31x4096x4096 : Shape := ⟨3, ![31, 4096, 4096]⟩
abbrev S31x1x1024 : Shape := ⟨3, ![31, 1, 1024]⟩
abbrev S31x4096x1024 : Shape := ⟨3, ![31, 4096, 1024]⟩
abbrev S31x1024 : Shape := ⟨2, ![31, 1024]⟩
abbrev S1024x4096 : Shape := ⟨2, ![1024, 4096]⟩
abbrev S32x1024 : Shape := ⟨2, ![32, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x31x1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S31x4096x4096, .i32⟩
  | .hbm, ⟨18, _⟩ => ⟨S31x4096x4096, .i32⟩
  | .hbm, ⟨19, _⟩ => ⟨S31x4096x4096, .i32⟩
  | .hbm, ⟨20, _⟩ => ⟨S31x4096x4096, .i32⟩
  | .hbm, ⟨21, _⟩ => ⟨S_, .i32⟩
  | .hbm, ⟨22, _⟩ => ⟨S31x4096x4096, .i32⟩
  | .hbm, ⟨23, _⟩ => ⟨S31x4096x4096, .i32⟩
  | .hbm, ⟨24, _⟩ => ⟨S31x4096x4096, .i1⟩
  | .hbm, ⟨25, _⟩ => ⟨S_, .f32⟩
  | .hbm, ⟨26, _⟩ => ⟨S_, .f32⟩
  | .hbm, ⟨27, _⟩ => ⟨S31x4096x4096, .f32⟩
  | .hbm, ⟨28, _⟩ => ⟨S31x4096x4096, .f32⟩
  | .hbm, ⟨29, _⟩ => ⟨S31x4096x4096, .f32⟩
  | .hbm, ⟨30, _⟩ => ⟨S31x1x1024, .f32⟩
  | .hbm, ⟨31, _⟩ => ⟨S31x4096x1024, .f32⟩
  | .hbm, ⟨32, _⟩ => ⟨S31x4096x1024, .f32⟩
  | .hbm, ⟨33, _⟩ => ⟨S31x4096x1024, .f32⟩
  | .hbm, ⟨34, _⟩ => ⟨S_, .f32⟩
  | .hbm, ⟨35, _⟩ => ⟨S4096x1024, .f32⟩
  | .hbm, ⟨36, _⟩ => ⟨S31x4096x1024, .f32⟩
  | .hbm, ⟨37, _⟩ => ⟨S31x4096x1024, .f32⟩
  | .hbm, ⟨38, _⟩ => ⟨S31x4096x1024, .f32⟩
  | .hbm, ⟨39, _⟩ => ⟨S31x4096x1024, .f32⟩
  | .hbm, ⟨40, _⟩ => ⟨S_, .f32⟩
  | .hbm, ⟨41, _⟩ => ⟨S31x1024, .f32⟩
  | .hbm, ⟨42, _⟩ => ⟨S31x1x1024, .f32⟩
  | .hbm, ⟨43, _⟩ => ⟨S1024x4096, .f32⟩
  | .hbm, ⟨44, _⟩ => ⟨S4096x1024, .f32⟩
  | .hbm, ⟨45, _⟩ => ⟨S1x31x1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .bf16⟩
  | .hbm, ⟨50, _⟩ => ⟨S4096x1024, .bf16⟩
  | .hbm, ⟨51, _⟩ => ⟨S31x1024, .f32⟩
  | .hbm, ⟨52, _⟩ => ⟨S_, .i32⟩
  | .hbm, ⟨53, _⟩ => ⟨S_, .f32⟩
  | .hbm, ⟨54, _⟩ => ⟨S32x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_call1_v0 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Kernel3.lean ====
abbrev S4096x1024 : Shape := ⟨2, ![4096, 1024]⟩
abbrev S1x1024x1024 : Shape := ⟨3, ![1, 1024, 1024]⟩
abbrev S1x1024 : Shape := ⟨2, ![1, 1024]⟩
abbrev S1024x1024 : Shape := ⟨2, ![1024, 1024]⟩
abbrev S_ : Shape := ⟨0, ![]⟩
abbrev S8x16x1x256 : Shape := ⟨4, ![8, 16, 1, 256]⟩
abbrev S256x1024 : Shape := ⟨2, ![256, 1024]⟩
abbrev S8x1x1x256 : Shape := ⟨4, ![8, 1, 1, 256]⟩
abbrev S256 : Shape := ⟨1, ![256]⟩
abbrev S256x1 : Shape := ⟨2, ![256, 1]⟩
abbrev S1024 : Shape := ⟨1, ![1024]⟩
abbrev S256x128 : Shape := ⟨2, ![256, 128]⟩
abbrev S128x256 : Shape := ⟨2, ![128, 256]⟩
abbrev S1x256 : Shape := ⟨2, ![1, 256]⟩
abbrev S1x1x1x256 : Shape := ⟨4, ![1, 1, 1, 256]⟩

abbrev nBuf : Space → Nat
  | .hbm => 53
  | .vmem => 36
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1x1024x1024, .f32⟩
  | .hbm, ⟨5, _⟩ => ⟨S1x1024x1024, .f32⟩
  | .hbm, ⟨6, _⟩ => ⟨S1x1024, .f32⟩
  | .hbm, ⟨7, _⟩ => ⟨S1x1024x1024, .f32⟩
  | .hbm, ⟨8, _⟩ => ⟨S1x1024, .f32⟩
  | .hbm, ⟨9, _⟩ => ⟨S4096x1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | .hbm, ⟨40, _⟩ => ⟨S4096x1024, .f32⟩
  | .hbm, ⟨41, _⟩ => ⟨S4096x1024, .bf16⟩
  | .hbm, ⟨42, _⟩ => ⟨S4096x1024, .bf16⟩
  | .hbm, ⟨43, _⟩ => ⟨S4096x1024, .bf16⟩
  | .hbm, ⟨44, _⟩ => ⟨S4096x1024, .bf16⟩
  | .hbm, ⟨45, _⟩ => ⟨S4096x1024, .bf16⟩
  | .hbm, ⟨46, _⟩ => ⟨S4096x1024, .bf16⟩
  | .hbm, ⟨47, _⟩ => ⟨S4096x1024, .bf16⟩
  | .hbm, ⟨48, _⟩ => ⟨S4096x1024, .bf16⟩
  | .hbm, ⟨49, _⟩ => ⟨S4096x1024, .bf16⟩
  | .hbm, ⟨50, _⟩ => ⟨S1x1024, .f32⟩
  | .hbm, ⟨51, _⟩ => ⟨S1x1024, .f32⟩
  | .hbm, ⟨52, _⟩ => ⟨S8x16x1x256, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S1x1024, .f32⟩
  | .local _ .vmem, ⟨33, _⟩ => ⟨S1x1024, .f32⟩
  | .local _ .vmem, ⟨34, _⟩ => ⟨S8x1x1x256, .f32⟩
  | .local _ .vmem, ⟨35, _⟩ => ⟨S8x1x1x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29_0 : Ref sig .tc := ⟨.hbm, 43, rfl⟩
abbrev main_v29_1 : Ref sig .tc := ⟨.hbm, 44, rfl⟩
abbrev main_v29_2 : Ref sig .tc := ⟨.hbm, 45, rfl⟩
abbrev main_v29_3 : Ref sig .tc := ⟨.hbm, 46, rfl⟩
abbrev main_v29_4 : Ref sig .tc := ⟨.hbm, 47, rfl⟩
abbrev main_v29_5 : Ref sig .tc := ⟨.hbm, 48, rfl⟩
abbrev main_v29_6 : Ref sig .tc := ⟨.hbm, 49, rfl⟩
abbrev main_v29_7 : Ref sig .tc := ⟨.hbm, 50, rfl⟩
abbrev main_v29_8 : Ref sig .tc := ⟨.hbm, 51, rfl⟩
abbrev main_v29_9 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg20_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem19_0 : DmaSem sig := 33
abbrev cc0_sem20_0 : DmaSem sig := 34
abbrev cc0_sem20_1 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S8x1x1x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference3Ideal.lean ====
abbrev S4096x1024 : Shape := ⟨2, ![4096, 1024]⟩
abbrev S1x1024x1024 : Shape := ⟨3, ![1, 1024, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S16x256x8x128 : Shape := ⟨4, ![16, 256, 8, 128]⟩
abbrev S16x256x8 : Shape := ⟨3, ![16, 256, 8]⟩
abbrev S8x16x256 : Shape := ⟨3, ![8, 16, 256]⟩
abbrev S8x16x1x256 : Shape := ⟨4, ![8, 16, 1, 256]⟩

abbrev nBuf : Space → Nat
  | .hbm => 124
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1x1024x1024, .f32⟩
  | .hbm, ⟨5, _⟩ => ⟨S1x1024x1024, .f32⟩
  | .hbm, ⟨6, _⟩ => ⟨S1x1024, .f32⟩
  | .hbm, ⟨7, _⟩ => ⟨S1x1024x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1024x1024, .f32⟩
  | .hbm, ⟨13, _⟩ => ⟨S4096x1024, .f32⟩
  | .hbm, ⟨14, _⟩ => ⟨S1024x1024, .f32⟩
  | .hbm, ⟨15, _⟩ => ⟨S4096x1024, .f32⟩
  | .hbm, ⟨16, _⟩ => ⟨S1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S1024x1024, .f32⟩
  | .hbm, ⟨48, _⟩ => ⟨S4096x1024, .f32⟩
  | .hbm, ⟨49, _⟩ => ⟨S1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S4096x1024, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S4096x1024, .f32⟩
  | .hbm, ⟨83, _⟩ => ⟨S4096x1024, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S1x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S_, .f32⟩
  | .hbm, ⟨104, _⟩ => ⟨S1024, .f32⟩
  | .hbm, ⟨105, _⟩ => ⟨S1x1024, .f32⟩
  | .hbm, ⟨106, _⟩ => ⟨S_, .f32⟩
  | .hbm, ⟨107, _⟩ => ⟨S1024, .f32⟩
  | .hbm, ⟨108, _⟩ => ⟨S1x1024, .f32⟩
  | .hbm, ⟨109, _⟩ => ⟨S4096x1024, .f32⟩
  | .hbm, ⟨110, _⟩ => ⟨S4096x1024, .f32⟩
  | .hbm, ⟨111, _⟩ => ⟨S4096x1024, .f32⟩
  | .hbm, ⟨112, _⟩ => ⟨S16x256x8x128, .f32⟩
  | .hbm, ⟨113, _⟩ => ⟨S_, .f32⟩
  | .hbm, ⟨114, _⟩ => ⟨S16x256x8, .f32⟩
  | .hbm, ⟨115, _⟩ => ⟨S8x16x256, .f32⟩
  | .hbm, ⟨116, _⟩ => ⟨S8x16x1x256, .f32⟩
  | .hbm, ⟨117, _⟩ => ⟨S4096x1024, .bf16⟩
  | .hbm, ⟨118, _⟩ => ⟨S4096x1024, .bf16⟩
  | .hbm, ⟨119, _⟩ => ⟨S4096x1024, .bf16⟩
  | .hbm, ⟨120, _⟩ => ⟨S4096x1024, .bf16⟩
  | .hbm, ⟨121, _⟩ => ⟨S4096x1024, .bf16⟩
  | .hbm, ⟨122, _⟩ => ⟨S4096x1024, .bf16⟩
  | .hbm, ⟨123, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_cst_13 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_v79 : Ref sig .tc := ⟨.hbm, 105, rfl⟩
abbrev main_cst_15 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_16 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩

abbrev nD : Nat := 1
abbrev τ : Topo := Topo.v7x

variable {F : FTy → Type} [FloatOps F]
-- ==== Kernel4.lean ====
abbrev S8x4096x192 : Shape := ⟨3, ![8, 4096, 192]⟩
abbrev S8x4096x128 : Shape := ⟨3, ![8, 4096, 128]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x8x1x512 : Shape := ⟨4, ![8, 8, 1, 512]⟩
abbrev S8x16x1x256 : Shape := ⟨4, ![8, 16, 1, 256]⟩
abbrev S8x4096x256 : Shape := ⟨3, ![8, 4096, 256]⟩
abbrev S4096x8x256 : Shape := ⟨3, ![4096, 8, 256]⟩
abbrev S4096x2048 : Shape := ⟨2, ![4096, 2048]⟩
abbrev S4096x8x128 : Shape := ⟨3, ![4096, 8, 128]⟩
abbrev S4096x1024 : Shape := ⟨2, ![4096, 1024]⟩
abbrev S4096x256 : Shape := ⟨2, ![4096, 256]⟩
abbrev S512x256 : Shape := ⟨2, ![512, 256]⟩
abbrev S512x128 : Shape := ⟨2, ![512, 128]⟩
abbrev S4096x128 : Shape := ⟨2, ![4096, 128]⟩
abbrev S1x8x1x512 : Shape := ⟨4, ![1, 8, 1, 512]⟩
abbrev S1x16x1x256 : Shape := ⟨4, ![1, 16, 1, 256]⟩
abbrev S2x512x512 : Shape := ⟨3, ![2, 512, 512]⟩
abbrev S512x512 : Shape := ⟨2, ![512, 512]⟩
abbrev S1x512x512 : Shape := ⟨3, ![1, 512, 512]⟩
abbrev S1x1x1x512 : Shape := ⟨4, ![1, 1, 1, 512]⟩
abbrev S1x512 : Shape := ⟨2, ![1, 512]⟩
abbrev S1x1x1x256 : Shape := ⟨4, ![1, 1, 1, 256]⟩
abbrev S1x256 : Shape := ⟨2, ![1, 256]⟩

abbrev nBuf : Space → Nat
  | .hbm => 67
  | .vmem => 23
  | .smem => 0
  | _ => 0

abbrev bufTy : (tb : Table) → Fin (tcTables nBuf tb) → BufTy
  | .hbm, ⟨0, _⟩ => ⟨S8x4096x192, .f32⟩
  | .hbm, ⟨1, _⟩ => ⟨S8x4096x192, .f32⟩
  | .hbm, ⟨2, _⟩ => ⟨S8x4096x128, .f32⟩
  | .hbm, ⟨3, _⟩ => ⟨S8x4096x128, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S8x4096x4096, .i32⟩
  | .hbm, ⟨9, _⟩ => ⟨S8x4096x4096, .i32⟩
  | .hbm, ⟨10, _⟩ => ⟨S8x4096x4096, .i1⟩
  | .hbm, ⟨11, _⟩ => ⟨S_, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S8x4096x4096, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S8x4096x128, .f32⟩
  | .hbm, ⟨25, _⟩ => ⟨S8x4096x128, .f32⟩
  | .hbm, ⟨26, _⟩ => ⟨S8x4096x128, .f32⟩
  | .hbm, ⟨27, _⟩ => ⟨S8x4096x1, .f32⟩
  | .hbm, ⟨28, _⟩ => ⟨S8x4096x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8x4096x1, .f32⟩
  | .hbm, ⟨33, _⟩ => ⟨S8x4096x1, .f32⟩
  | .hbm, ⟨34, _⟩ => ⟨S8x8x1x512, .f32⟩
  | .hbm, ⟨35, _⟩ => ⟨S8x4096x128, .f32⟩
  | .hbm, ⟨36, _⟩ => ⟨S_, .f32⟩
  | .hbm, ⟨37, _⟩ => ⟨S8x4096, .f32⟩
  | .hbm, ⟨38, _⟩ => ⟨S8x16x1x256, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8x4096x192, .f32⟩
  | .hbm, ⟨45, _⟩ => ⟨S8x4096x192, .f32⟩
  | .hbm, ⟨46, _⟩ => ⟨S_, .i32⟩
  | .hbm, ⟨47, _⟩ => ⟨S_, .f32⟩
  | .hbm, ⟨48, _⟩ => ⟨S8x4096x256, .f32⟩
  | .hbm, ⟨49, _⟩ => ⟨S4096x8x256, .f32⟩
  | .hbm, ⟨50, _⟩ => ⟨S4096x2048, .f32⟩
  | .hbm, ⟨51, _⟩ => ⟨S4096x2048, .bf16⟩
  | .hbm, ⟨52, _⟩ => ⟨S_, .i32⟩
  | .hbm, ⟨53, _⟩ => ⟨S_, .f32⟩
  | .hbm, ⟨54, _⟩ => ⟨S8x4096x256, .f32⟩
  | .hbm, ⟨55, _⟩ => ⟨S4096x8x256, .f32⟩
  | .hbm, ⟨56, _⟩ => ⟨S4096x2048, .f32⟩
  | .hbm, ⟨57, _⟩ => ⟨S4096x2048, .bf16⟩
  | .hbm, ⟨58, _⟩ => ⟨S4096x8x128, .f32⟩
  | .hbm, ⟨59, _⟩ => ⟨S4096x1024, .f32⟩
  | .hbm, ⟨60, _⟩ => ⟨S4096x1024, .bf16⟩
  | .hbm, ⟨61, _⟩ => ⟨S4096x8x128, .f32⟩
  | .hbm, ⟨62, _⟩ => ⟨S4096x1024, .f32⟩
  | .hbm, ⟨63, _⟩ => ⟨S4096x1024, .bf16⟩
  | .hbm, ⟨64, _⟩ => ⟨S4096x2048, .bf16⟩
  | .hbm, ⟨65, _⟩ => ⟨S4096x2048, .bf16⟩
  | .hbm, ⟨66, _⟩ => ⟨S4096x1024, .bf16⟩
  | .local _ .vmem, ⟨0, _⟩ => ⟨S4096x256, .bf16⟩
  | .local _ .vmem, ⟨1, _⟩ => ⟨S4096x256, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S4096x128, .bf16⟩
  | .local _ .vmem, ⟨7, _⟩ => ⟨S4096x128, .bf16⟩
  | .local _ .vmem, ⟨8, _⟩ => ⟨S1x8x1x512, .f32⟩
  | .local _ .vmem, ⟨9, _⟩ => ⟨S1x8x1x512, .f32⟩
  | .local _ .vmem, ⟨10, _⟩ => ⟨S1x16x1x256, .f32⟩
  | .local _ .vmem, ⟨11, _⟩ => ⟨S1x16x1x256, .f32⟩
  | .local _ .vmem, ⟨12, _⟩ => ⟨S4096x256, .bf16⟩
  | .local _ .vmem, ⟨13, _⟩ => ⟨S4096x256, .bf16⟩
  | .local _ .vmem, ⟨14, _⟩ => ⟨S512x256, .bf16⟩
  | .local _ .vmem, ⟨15, _⟩ => ⟨S512x256, .bf16⟩
  | .local _ .vmem, ⟨16, _⟩ => ⟨S512x128, .bf16⟩
  | .local _ .vmem, ⟨17, _⟩ => ⟨S512x128, .bf16⟩
  | .local _ .vmem, ⟨18, _⟩ => ⟨S512x256, .f32⟩
  | .local _ .vmem, ⟨19, _⟩ => ⟨S512x128, .f32⟩
  | .local _ .vmem, ⟨20, _⟩ => ⟨S2x512x512, .f32⟩
  | .local _ .vmem, ⟨21, _⟩ => ⟨S2x512x512, .f32⟩
  | .local _ .vmem, ⟨22, _⟩ => ⟨S4096x256, .f32⟩
  | _, _ => ⟨S8x4096x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c : Ref sig .tc := ⟨.hbm, 46, rfl⟩
abbrev main_call1_v0 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_call2_v0 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46_0 : Ref sig .tc := ⟨.hbm, 64, rfl⟩
abbrev main_v46_1 : Ref sig .tc := ⟨.hbm, 65, rfl⟩
abbrev main_v46_2 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c7_i32_9 : BitVec 32 := 7#32
  let v16 : BitVec 32 := Scalar.minsi arg1 c7_i32_9
  let c512_i32 : BitVec 32 := 512#32
  let v17 : BitVec 32 := Scalar.muli v16 c512_i32
  v17
def k0_off1 (i : grid0.Coords) : Fin 2 → Nat :=
  let arg1 : BitVec 32 := BitVec.ofNat 32 (i 1).val
  let c7_i32_9 : BitVec 32 := 7#32
  let v16 : BitVec 32 := Scalar.minsi arg1 c7_i32_9
  let c512_i32 : BitVec 32 := 512#32
  let v17 : BitVec 32 := Scalar.muli v16 c512_i32
  let v18 : BitVec 32 := v17
  let v19 : Index := Scalar.indexCast v18
  let c0_10 : Index := 0#32
  ![v19.toNat, 0]
def k0_mult2 (i : grid0.Coords) : BitVec 32 :=
  let arg1 : BitVec 32 := BitVec.ofNat 32 (i 1).val
  let c7_i32_9 : BitVec 32 := 7#32
  let v16 : BitVec 32 := Scalar.minsi arg1 c7_i32_9
  let c512_i32_15 : BitVec 32 := 512#32
  let v26 : BitVec 32 := Scalar.muli v16 c512_i32_15
  v26
def k0_off2 (i : grid0.Coords) : Fin 2 → Nat :=
  let arg1 : BitVec 32 := BitVec.ofNat 32 (i 1).val
  let c7_i32_9 : BitVec 32 := 7#32
  let v16 : BitVec 32 := Scalar.minsi arg1 c7_i32_9
  let c512_i32_15 : BitVec 32 := 512#32
  let v26 : BitVec 32 := Scalar.muli v16 c512_i32_15
  let v27 : BitVec 32 := v26
  let v28 : Index := Scalar.indexCast v27
  let c0_16 : Index := 0#32
  ![v28.toNat, 0]
def k0_mult3 (i : grid0.Coords) : BitVec 32 :=
  let arg1 : BitVec 32 := BitVec.ofNat 32 (i 1).val
  let c1_i32 : BitVec 32 := 1#32
  let v35 : BitVec 32 := Scalar.addi arg1 c1_i32
  let c7_i32_21 : BitVec 32 := 7#32
  let v36 : BitVec 32 := Scalar.minsi v35 c7_i32_21
  let c512_i32_22 : BitVec 32 := 512#32
  let v37 : BitVec 32 := Scalar.muli v36 c512_i32_22
  v37
def k0_off3 (i : grid0.Coords) : Fin 2 → Nat :=
  let arg1 : BitVec 32 := BitVec.ofNat 32 (i 1).val
  let c1_i32 : BitVec 32 := 1#32
  let v35 : BitVec 32 := Scalar.addi arg1 c1_i32
  let c7_i32_21 : BitVec 32 := 7#32
  let v36 : BitVec 32 := Scalar.minsi v35 c7_i32_21
  let c512_i32_22 : BitVec 32 := 512#32
  let v37 : BitVec 32 := Scalar.muli v36 c512_i32_22
  let v38 : BitVec 32 := v37
  let v39 : Index := Scalar.indexCast v38
  let c0_23 : Index := 0#32
  ![v39.toNat, 0]
def k0_mult4 (i : grid0.Coords) : BitVec 32 :=
  let arg1 : BitVec 32 := BitVec.ofNat 32 (i 1).val
  let c1_i32 : BitVec 32 := 1#32
  let v35 : BitVec 32 := Scalar.addi arg1 c1_i32
  let c7_i32_21 : BitVec 32 := 7#32
  let v36 : BitVec 32 := Scalar.minsi v35 c7_i32_21
  let c512_i32_27 : BitVec 32 := 512#32
  let v46 : BitVec 32 := Scalar.muli v36 c512_i32_27
  v46
def k0_off4 (i : grid0.Coords) : Fin 2 → Nat :=
  let arg1 : BitVec 32 := BitVec.ofNat 32 (i 1).val
  let c1_i32 : BitVec 32 := 1#32
  let v35 : BitVec 32 := Scalar.addi arg1 c1_i32
  let c7_i32_21 : BitVec 32 := 7#32
  let v36 : BitVec 32 := Scalar.minsi v35 c7_i32_21
  let c512_i32_27 : BitVec 32 := 512#32
  let v46 : BitVec 32 := Scalar.muli v36 c512_i32_27
  let v47 : BitVec 32 := v46
  let v48 : Index := Scalar.indexCast v47
  let c0_28 : Index := 0#32
  ![v48.toNat, 0]
def k0_mult5 (i : grid0.Coords) : BitVec 32 :=
  let arg1 : BitVec 32 := BitVec.ofNat 32 (i 1).val
  let c512_i32_33 : BitVec 32 := 512#32
  let v55 : BitVec 32 := Scalar.muli arg1 c512_i32_33
  v55
def k0_off5 (i : grid0.Coords) : Fin 2 → Nat :=
  let arg1 : BitVec 32 := BitVec.ofNat 32 (i 1).val
  let c512_i32_33 : BitVec 32 := 512#32
  let v55 : BitVec 32 := Scalar.muli arg1 c512_i32_33
  let v56 : BitVec 32 := v55
  let v57 : Index := Scalar.indexCast v56
  let c0_34 : Index := 0#32
  ![v57.toNat, 0]
def k0_mult6 (i : grid0.Coords) : BitVec 32 :=
  let arg1 : BitVec 32 := BitVec.ofNat 32 (i 1).val
  let c512_i32_35 : BitVec 32 := 512#32
  let v60 : BitVec 32 := Scalar.muli arg1 c512_i32_35
  v60
def k0_off6 (i : grid0.Coords) : Fin 2 → Nat :=
  let arg1 : BitVec 32 := BitVec.ofNat 32 (i 1).val
  let c512_i32_35 : BitVec 32 := 512#32
  let v60 : BitVec 32 := Scalar.muli arg1 c512_i32_35
  let v61 : BitVec 32 := v60
  let v62 : Index := Scalar.indexCast v61
  let c0_36 : Index := 0#32
  ![v62.toNat, 0]
def k0_off7 (i : grid0.Coords) : Fin 4 → Nat :=
  let c0_40 : Index := 0#32
  let arg1 : BitVec 32 := BitVec.ofNat 32 (i 1).val
  let v67 : Index := Scalar.indexCast arg1
  let c0_41 : Index := 0#32
  let c0_42 : Index := 0#32
  ![0, v67.toNat, 0, 0]
def k0_off8 (i : grid0.Coords) (c0_i32_49 : BitVec 32) : Fin 4 → Nat :=
  let c0_50 : Index := 0#32
  let c2_i32 : BitVec 32 := 2#32
  let arg1 : BitVec 32 := BitVec.ofNat 32 (i 1).val
  let v85 : BitVec 32 := Scalar.muli c2_i32 arg1
  let v86 : BitVec 32 := Scalar.addi v85 c0_i32_49
  let v87 : Index := Scalar.indexCast v86
  let c0_51 : Index := 0#32
  let c0_52 : Index := 0#32
  ![0, v87.toNat, 0, 0]
def k0_mult7 (i : grid0.Coords) : BitVec 32 :=
  let arg1 : BitVec 32 := BitVec.ofNat 32 (i 1).val
  let c512_i32_66 : BitVec 32 := 512#32
  let v108 : BitVec 32 := Scalar.muli arg1 c512_i32_66
  v108
@[reducible] def k0_t1_loop (i : grid0.Coords) : Scf.Loop 32 :=
  let c0_i32_78 : BitVec 32 := 0#32
  let c7_i32 : BitVec 32 := 7#32
  let arg1 : BitVec 32 := BitVec.ofNat 32 (i 1).val
  let v15 : BitVec 32 := Scalar.subi c7_i32 arg1
  let c0_i32_71 : BitVec 32 := 0#32
  let v119 : BitVec 1 := Scalar.cmpi .sgt v15 c0_i32_71
  let v120 : BitVec 32 := Scalar.extui v119
  let c0_i32_72 : BitVec 32 := 0#32
  let v121 : BitVec 1 := Scalar.cmpi .slt v15 c0_i32_72
  let v122 : BitVec 32 := Scalar.extui v121
  let v123 : BitVec 32 := Scalar.subi v120 v122
  let c2_i32_70 : BitVec 32 := 2#32
  let c0_i32_73 : BitVec 32 := 0#32
  let v124 : BitVec 1 := Scalar.cmpi .sgt c2_i32_70 c0_i32_73
  let v125 : BitVec 32 := Scalar.extui v124
  let c0_i32_74 : BitVec 32 := 0#32
  let v126 : BitVec 1 := Scalar.cmpi .slt c2_i32_70 c0_i32_74
  let v127 : BitVec 32 := Scalar.extui v126
  let v128 : BitVec 32 := Scalar.subi v125 v127
  let v129 : BitVec 1 := Scalar.cmpi .ne v123 v128
  let v130 : BitVec 32 := Scalar.remsi v15 c2_i32_70
  let c0_i32_75 : BitVec 32 := 0#32
  let v131 : BitVec 1 := Scalar.cmpi .ne v130 c0_i32_75
  let v132 : BitVec 1 := Scalar.andi v129 v131
  let v118 : BitVec 32 := Scalar.divsi v15 c2_i32_70
  let c1_i32_76 : BitVec 32 := 1#32
  let v133 : BitVec 32 := Scalar.subi v118 c1_i32_76
  let v134 : BitVec 32 := Scalar.select v132 v133 v118
  let v135 : BitVec 32 := Scalar.subi v134 c0_i32_78
  let c1_i32_79 : BitVec 32 := 1#32
  let v137 : BitVec 32 := Scalar.divsi v135 c1_i32_79
  let v138 : BitVec 32 := Scalar.muli v137 c1_i32_79
  let v139 : BitVec 32 := Scalar.addi c0_i32_78 v138
  let c1_i32_80 : BitVec 32 := 1#32
  ⟨c0_i32_78, v139, c1_i32_80⟩
def k0_mult8 (i : grid0.Coords) (k0_t1 : Fin (k0_t1_loop i).trips) : BitVec 32 :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c1_i32_80 : BitVec 32 := 1#32
  let arg16 : BitVec 32 := Scf.iv c0_i32_78 c1_i32_80 k0_t1
  let v165 : BitVec 32 := Scalar.muli c2_i32_102 arg16
  let v166 : BitVec 32 := Scalar.addi v164 v165
  let c1_i32_103 : BitVec 32 := 1#32
  let v167 : BitVec 32 := Scalar.addi v166 c1_i32_103
  let c7_i32_104 : BitVec 32 := 7#32
  let v168 : BitVec 32 := Scalar.minsi v167 c7_i32_104
  let c512_i32_105 : BitVec 32 := 512#32
  let v169 : BitVec 32 := Scalar.muli v168 c512_i32_105
  v169
def k0_off9 (i : grid0.Coords) (k0_t1 : Fin (k0_t1_loop i).trips) (c1_i32_103 : BitVec 32) : Fin 2 → Nat :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c1_i32_80 : BitVec 32 := 1#32
  let arg16 : BitVec 32 := Scf.iv c0_i32_78 c1_i32_80 k0_t1
  let v165 : BitVec 32 := Scalar.muli c2_i32_102 arg16
  let v166 : BitVec 32 := Scalar.addi v164 v165
  let v167 : BitVec 32 := Scalar.addi v166 c1_i32_103
  let c7_i32_104 : BitVec 32 := 7#32
  let v168 : BitVec 32 := Scalar.minsi v167 c7_i32_104
  let c512_i32_105 : BitVec 32 := 512#32
  let v169 : BitVec 32 := Scalar.muli v168 c512_i32_105
  let v170 : BitVec 32 := v169
  let v171 : Index := Scalar.indexCast v170
  let c0_106 : Index := 0#32
  ![v171.toNat, 0]
def k0_mult9 (i : grid0.Coords) (k0_t1 : Fin (k0_t1_loop i).trips) : BitVec 32 :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c1_i32_80 : BitVec 32 := 1#32
  let arg16 : BitVec 32 := Scf.iv c0_i32_78 c1_i32_80 k0_t1
  let v165 : BitVec 32 := Scalar.muli c2_i32_102 arg16
  let v166 : BitVec 32 := Scalar.addi v164 v165
  let c1_i32_103 : BitVec 32 := 1#32
  let v167 : BitVec 32 := Scalar.addi v166 c1_i32_103
  let c7_i32_104 : BitVec 32 := 7#32
  let v168 : BitVec 32 := Scalar.minsi v167 c7_i32_104
  let c512_i32_111 : BitVec 32 := 512#32
  let v178 : BitVec 32 := Scalar.muli v168 c512_i32_111
  v178
def k0_off10 (i : grid0.Coords) (k0_t1 : Fin (k0_t1_loop i).trips) (c1_i32_103 : BitVec 32) : Fin 2 → Nat :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c1_i32_80 : BitVec 32 := 1#32
  let arg16 : BitVec 32 := Scf.iv c0_i32_78 c1_i32_80 k0_t1
  let v165 : BitVec 32 := Scalar.muli c2_i32_102 arg16
  let v166 : BitVec 32 := Scalar.addi v164 v165
  let v167 : BitVec 32 := Scalar.addi v166 c1_i32_103
  let c7_i32_104 : BitVec 32 := 7#32
  let v168 : BitVec 32 := Scalar.minsi v167 c7_i32_104
  let c512_i32_111 : BitVec 32 := 512#32
  let v178 : BitVec 32 := Scalar.muli v168 c512_i32_111
  let v179 : BitVec 32 := v178
  let v180 : Index := Scalar.indexCast v179
  let c0_112 : Index := 0#32
  ![v180.toNat, 0]
def k0_mult10 (i : grid0.Coords) (k0_t1 : Fin (k0_t1_loop i).trips) : BitVec 32 :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c1_i32_80 : BitVec 32 := 1#32
  let arg16 : BitVec 32 := Scf.iv c0_i32_78 c1_i32_80 k0_t1
  let v165 : BitVec 32 := Scalar.muli c2_i32_102 arg16
  let v166 : BitVec 32 := Scalar.addi v164 v165
  let c512_i32_117 : BitVec 32 := 512#32
  let v187 : BitVec 32 := Scalar.muli v166 c512_i32_117
  v187
def k0_off11 (i : grid0.Coords) (k0_t1 : Fin (k0_t1_loop i).trips) : Fin 2 → Nat :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c1_i32_80 : BitVec 32 := 1#32
  let arg16 : BitVec 32 := Scf.iv c0_i32_78 c1_i32_80 k0_t1
  let v165 : BitVec 32 := Scalar.muli c2_i32_102 arg16
  let v166 : BitVec 32 := Scalar.addi v164 v165
  let c512_i32_117 : BitVec 32 := 512#32
  let v187 : BitVec 32 := Scalar.muli v166 c512_i32_117
  let v188 : BitVec 32 := v187
  let v189 : Index := Scalar.indexCast v188
  let c0_118 : Index := 0#32
  ![v189.toNat, 0]
def k0_mult11 (i : grid0.Coords) (k0_t1 : Fin (k0_t1_loop i).trips) : BitVec 32 :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c1_i32_80 : BitVec 32 := 1#32
  let arg16 : BitVec 32 := Scf.iv c0_i32_78 c1_i32_80 k0_t1
  let v165 : BitVec 32 := Scalar.muli c2_i32_102 arg16
  let v166 : BitVec 32 := Scalar.addi v164 v165
  let c512_i32_119 : BitVec 32 := 512#32
  let v192 : BitVec 32 := Scalar.muli v166 c512_i32_119
  v192
def k0_off12 (i : grid0.Coords) (k0_t1 : Fin (k0_t1_loop i).trips) : Fin 2 → Nat :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c1_i32_80 : BitVec 32 := 1#32
  let arg16 : BitVec 32 := Scf.iv c0_i32_78 c1_i32_80 k0_t1
  let v165 : BitVec 32 := Scalar.muli c2_i32_102 arg16
  let v166 : BitVec 32 := Scalar.addi v164 v165
  let c512_i32_119 : BitVec 32 := 512#32
  let v192 : BitVec 32 := Scalar.muli v166 c512_i32_119
  let v193 : BitVec 32 := v192
  let v194 : Index := Scalar.indexCast v193
  let c0_120 : Index := 0#32
  ![v194.toNat, 0]
def k0_off13 (i : grid0.Coords) (k0_t1 : Fin (k0_t1_loop i).trips) : Fin 4 → Nat :=
  let c0_124 : Index := 0#32
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c1_i32_80 : BitVec 32 := 1#32
  let arg16 : BitVec 32 := Scf.iv c0_i32_78 c1_i32_80 k0_t1
  let v165 : BitVec 32 := Scalar.muli c2_i32_102 arg16
  let v166 : BitVec 32 := Scalar.addi v164 v165
  let v199 : Index := Scalar.indexCast v166
  let c0_125 : Index := 0#32
  let c0_126 : Index := 0#32
  ![0, v199.toNat, 0, 0]
def k0_off14 (i : grid0.Coords) (k0_t1 : Fin (k0_t1_loop i).trips) (c0_i32_133 : BitVec 32) : Fin 4 → Nat :=
  let c0_134 : Index := 0#32
  let c2_i32_132 : BitVec 32 := 2#32
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c1_i32_80 : BitVec 32 := 1#32
  let arg16 : BitVec 32 := Scf.iv c0_i32_78 c1_i32_80 k0_t1
  let v165 : BitVec 32 := Scalar.muli c2_i32_102 arg16
  let v166 : BitVec 32 := Scalar.addi v164 v165
  let v212 : BitVec 32 := Scalar.muli c2_i32_132 v166
  let v213 : BitVec 32 := Scalar.addi v212 c0_i32_133
  let v214 : Index := Scalar.indexCast v213
  let c0_135 : Index := 0#32
  let c0_136 : Index := 0#32
  ![0, v214.toNat, 0, 0]
def k0_mult12 (i : grid0.Coords) (k0_t1 : Fin (k0_t1_loop i).trips) : BitVec 32 :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c1_i32_80 : BitVec 32 := 1#32
  let arg16 : BitVec 32 := Scf.iv c0_i32_78 c1_i32_80 k0_t1
  let v165 : BitVec 32 := Scalar.muli c2_i32_102 arg16
  let v166 : BitVec 32 := Scalar.addi v164 v165
  let c512_i32_150 : BitVec 32 := 512#32
  let v235 : BitVec 32 := Scalar.muli v166 c512_i32_150
  v235
def k0_mult13 (i : grid0.Coords) (k0_t1 : Fin (k0_t1_loop i).trips) : BitVec 32 :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c1_i32_80 : BitVec 32 := 1#32
  let arg16 : BitVec 32 := Scf.iv c0_i32_78 c1_i32_80 k0_t1
  let v165 : BitVec 32 := Scalar.muli c2_i32_102 arg16
  let v166 : BitVec 32 := Scalar.addi v164 v165
  let c2_i32_154 : BitVec 32 := 2#32
  let v245 : BitVec 32 := Scalar.addi v166 c2_i32_154
  let c7_i32_155 : BitVec 32 := 7#32
  let v246 : BitVec 32 := Scalar.minsi v245 c7_i32_155
  let c512_i32_156 : BitVec 32 := 512#32
  let v247 : BitVec 32 := Scalar.muli v246 c512_i32_156
  v247
def k0_mult14 (i : grid0.Coords) (k0_t1 : Fin (k0_t1_loop i).trips) : BitVec 32 :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c1_i32_80 : BitVec 32 := 1#32
  let arg16 : BitVec 32 := Scf.iv c0_i32_78 c1_i32_80 k0_t1
  let v165 : BitVec 32 := Scalar.muli c2_i32_102 arg16
  let v166 : BitVec 32 := Scalar.addi v164 v165
  let c2_i32_154 : BitVec 32 := 2#32
  let v245 : BitVec 32 := Scalar.addi v166 c2_i32_154
  let c7_i32_155 : BitVec 32 := 7#32
  let v246 : BitVec 32 := Scalar.minsi v245 c7_i32_155
  let c512_i32_162 : BitVec 32 := 512#32
  let v256 : BitVec 32 := Scalar.muli v246 c512_i32_162
  v256
def k0_mult15 (i : grid0.Coords) (k0_t1 : Fin (k0_t1_loop i).trips) : BitVec 32 :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c1_i32_80 : BitVec 32 := 1#32
  let arg16 : BitVec 32 := Scf.iv c0_i32_78 c1_i32_80 k0_t1
  let v165 : BitVec 32 := Scalar.muli c2_i32_102 arg16
  let v166 : BitVec 32 := Scalar.addi v164 v165
  let c1_i32_168 : BitVec 32 := 1#32
  let v265 : BitVec 32 := Scalar.addi v166 c1_i32_168
  let c512_i32_169 : BitVec 32 := 512#32
  let v266 : BitVec 32 := Scalar.muli v265 c512_i32_169
  v266
def k0_off15 (i : grid0.Coords) (k0_t1 : Fin (k0_t1_loop i).trips) : Fin 2 → Nat :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c1_i32_80 : BitVec 32 := 1#32
  let arg16 : BitVec 32 := Scf.iv c0_i32_78 c1_i32_80 k0_t1
  let v165 : BitVec 32 := Scalar.muli c2_i32_102 arg16
  let v166 : BitVec 32 := Scalar.addi v164 v165
  let c1_i32_168 : BitVec 32 := 1#32
  let v265 : BitVec 32 := Scalar.addi v166 c1_i32_168
  let c512_i32_169 : BitVec 32 := 512#32
  let v266 : BitVec 32 := Scalar.muli v265 c512_i32_169
  let v267 : BitVec 32 := v266
  let v268 : Index := Scalar.indexCast v267
  let c0_170 : Index := 0#32
  ![v268.toNat, 0]
def k0_mult16 (i : grid0.Coords) (k0_t1 : Fin (k0_t1_loop i).trips) : BitVec 32 :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c1_i32_80 : BitVec 32 := 1#32
  let arg16 : BitVec 32 := Scf.iv c0_i32_78 c1_i32_80 k0_t1
  let v165 : BitVec 32 := Scalar.muli c2_i32_102 arg16
  let v166 : BitVec 32 := Scalar.addi v164 v165
  let c1_i32_168 : BitVec 32 := 1#32
  let v265 : BitVec 32 := Scalar.addi v166 c1_i32_168
  let c512_i32_171 : BitVec 32 := 512#32
  let v271 : BitVec 32 := Scalar.muli v265 c512_i32_171
  v271
def k0_off16 (i : grid0.Coords) (k0_t1 : Fin (k0_t1_loop i).trips) : Fin 2 → Nat :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c1_i32_80 : BitVec 32 := 1#32
  let arg16 : BitVec 32 := Scf.iv c0_i32_78 c1_i32_80 k0_t1
  let v165 : BitVec 32 := Scalar.muli c2_i32_102 arg16
  let v166 : BitVec 32 := Scalar.addi v164 v165
  let c1_i32_168 : BitVec 32 := 1#32
  let v265 : BitVec 32 := Scalar.addi v166 c1_i32_168
  let c512_i32_171 : BitVec 32 := 512#32
  let v271 : BitVec 32 := Scalar.muli v265 c512_i32_171
  let v272 : BitVec 32 := v271
  let v273 : Index := Scalar.indexCast v272
  let c0_172 : Index := 0#32
  ![v273.toNat, 0]
def k0_off17 (i : grid0.Coords) (k0_t1 : Fin (k0_t1_loop i).trips) : Fin 4 → Nat :=
  let c0_176 : Index := 0#32
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c1_i32_80 : BitVec 32 := 1#32
  let arg16 : BitVec 32 := Scf.iv c0_i32_78 c1_i32_80 k0_t1
  let v165 : BitVec 32 := Scalar.muli c2_i32_102 arg16
  let v166 : BitVec 32 := Scalar.addi v164 v165
  let c1_i32_168 : BitVec 32 := 1#32
  let v265 : BitVec 32 := Scalar.addi v166 c1_i32_168
  let v278 : Index := Scalar.indexCast v265
  let c0_177 : Index := 0#32
  let c0_178 : Index := 0#32
  ![0, v278.toNat, 0, 0]
def k0_off18 (i : grid0.Coords) (k0_t1 : Fin (k0_t1_loop i).trips) (c0_i32_185 : BitVec 32) : Fin 4 → Nat :=
  let c0_186 : Index := 0#32
  let c2_i32_184 : BitVec 32 := 2#32
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c1_i32_80 : BitVec 32 := 1#32
  let arg16 : BitVec 32 := Scf.iv c0_i32_78 c1_i32_80 k0_t1
  let v165 : BitVec 32 := Scalar.muli c2_i32_102 arg16
  let v166 : BitVec 32 := Scalar.addi v164 v165
  let c1_i32_168 : BitVec 32 := 1#32
  let v265 : BitVec 32 := Scalar.addi v166 c1_i32_168
  let v291 : BitVec 32 := Scalar.muli c2_i32_184 v265
  let v292 : BitVec 32 := Scalar.addi v291 c0_i32_185
  let v293 : Index := Scalar.indexCast v292
  let c0_187 : Index := 0#32
  let c0_188 : Index := 0#32
  ![0, v293.toNat, 0, 0]
def k0_mult17 (i : grid0.Coords) (k0_t1 : Fin (k0_t1_loop i).trips) : BitVec 32 :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c1_i32_80 : BitVec 32 := 1#32
  let arg16 : BitVec 32 := Scf.iv c0_i32_78 c1_i32_80 k0_t1
  let v165 : BitVec 32 := Scalar.muli c2_i32_102 arg16
  let v166 : BitVec 32 := Scalar.addi v164 v165
  let c1_i32_168 : BitVec 32 := 1#32
  let v265 : BitVec 32 := Scalar.addi v166 c1_i32_168
  let c512_i32_202 : BitVec 32 := 512#32
  let v314 : BitVec 32 := Scalar.muli v265 c512_i32_202
  v314
@[reducible] def k0_t2_loop (i : grid0.Coords) : Scf.Loop 32 :=
  let c0_i32_78 : BitVec 32 := 0#32
  let c7_i32 : BitVec 32 := 7#32
  let arg1 : BitVec 32 := BitVec.ofNat 32 (i 1).val
  let v15 : BitVec 32 := Scalar.subi c7_i32 arg1
  let c0_i32_71 : BitVec 32 := 0#32
  let v119 : BitVec 1 := Scalar.cmpi .sgt v15 c0_i32_71
  let v120 : BitVec 32 := Scalar.extui v119
  let c0_i32_72 : BitVec 32 := 0#32
  let v121 : BitVec 1 := Scalar.cmpi .slt v15 c0_i32_72
  let v122 : BitVec 32 := Scalar.extui v121
  let v123 : BitVec 32 := Scalar.subi v120 v122
  let c2_i32_70 : BitVec 32 := 2#32
  let c0_i32_73 : BitVec 32 := 0#32
  let v124 : BitVec 1 := Scalar.cmpi .sgt c2_i32_70 c0_i32_73
  let v125 : BitVec 32 := Scalar.extui v124
  let c0_i32_74 : BitVec 32 := 0#32
  let v126 : BitVec 1 := Scalar.cmpi .slt c2_i32_70 c0_i32_74
  let v127 : BitVec 32 := Scalar.extui v126
  let v128 : BitVec 32 := Scalar.subi v125 v127
  let v129 : BitVec 1 := Scalar.cmpi .ne v123 v128
  let v130 : BitVec 32 := Scalar.remsi v15 c2_i32_70
  let c0_i32_75 : BitVec 32 := 0#32
  let v131 : BitVec 1 := Scalar.cmpi .ne v130 c0_i32_75
  let v132 : BitVec 1 := Scalar.andi v129 v131
  let v118 : BitVec 32 := Scalar.divsi v15 c2_i32_70
  let c1_i32_76 : BitVec 32 := 1#32
  let v133 : BitVec 32 := Scalar.subi v118 c1_i32_76
  let v134 : BitVec 32 := Scalar.select v132 v133 v118
  let v135 : BitVec 32 := Scalar.subi v134 c0_i32_78
  let c1_i32_79 : BitVec 32 := 1#32
  let v137 : BitVec 32 := Scalar.divsi v135 c1_i32_79
  let v138 : BitVec 32 := Scalar.muli v137 c1_i32_79
  let v139 : BitVec 32 := Scalar.addi c0_i32_78 v138
  let v136 : BitVec 32 := Scalar.addi c0_i32_78 v135
  let c1_i32_81 : BitVec 32 := 1#32
  ⟨v139, v136, c1_i32_81⟩
def k0_mult18 (i : grid0.Coords) (k0_t2 : Fin (k0_t2_loop i).trips) : BitVec 32 :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c7_i32 : BitVec 32 := 7#32
  let v15 : BitVec 32 := Scalar.subi c7_i32 arg1
  let c0_i32_71 : BitVec 32 := 0#32
  let v119 : BitVec 1 := Scalar.cmpi .sgt v15 c0_i32_71
  let v120 : BitVec 32 := Scalar.extui v119
  let c0_i32_72 : BitVec 32 := 0#32
  let v121 : BitVec 1 := Scalar.cmpi .slt v15 c0_i32_72
  let v122 : BitVec 32 := Scalar.extui v121
  let v123 : BitVec 32 := Scalar.subi v120 v122
  let c2_i32_70 : BitVec 32 := 2#32
  let c0_i32_73 : BitVec 32 := 0#32
  let v124 : BitVec 1 := Scalar.cmpi .sgt c2_i32_70 c0_i32_73
  let v125 : BitVec 32 := Scalar.extui v124
  let c0_i32_74 : BitVec 32 := 0#32
  let v126 : BitVec 1 := Scalar.cmpi .slt c2_i32_70 c0_i32_74
  let v127 : BitVec 32 := Scalar.extui v126
  let v128 : BitVec 32 := Scalar.subi v125 v127
  let v129 : BitVec 1 := Scalar.cmpi .ne v123 v128
  let v130 : BitVec 32 := Scalar.remsi v15 c2_i32_70
  let c0_i32_75 : BitVec 32 := 0#32
  let v131 : BitVec 1 := Scalar.cmpi .ne v130 c0_i32_75
  let v132 : BitVec 1 := Scalar.andi v129 v131
  let v118 : BitVec 32 := Scalar.divsi v15 c2_i32_70
  let c1_i32_76 : BitVec 32 := 1#32
  let v133 : BitVec 32 := Scalar.subi v118 c1_i32_76
  let v134 : BitVec 32 := Scalar.select v132 v133 v118
  let v135 : BitVec 32 := Scalar.subi v134 c0_i32_78
  let c1_i32_79 : BitVec 32 := 1#32
  let v137 : BitVec 32 := Scalar.divsi v135 c1_i32_79
  let v138 : BitVec 32 := Scalar.muli v137 c1_i32_79
  let v139 : BitVec 32 := Scalar.addi c0_i32_78 v138
  let c1_i32_81 : BitVec 32 := 1#32
  let arg16 : BitVec 32 := Scf.iv v139 c1_i32_81 k0_t2
  let v165 : BitVec 32 := Scalar.muli c2_i32_102 arg16
  let v166 : BitVec 32 := Scalar.addi v164 v165
  let c1_i32_103 : BitVec 32 := 1#32
  let v167 : BitVec 32 := Scalar.addi v166 c1_i32_103
  let c7_i32_104 : BitVec 32 := 7#32
  let v168 : BitVec 32 := Scalar.minsi v167 c7_i32_104
  let c512_i32_105 : BitVec 32 := 512#32
  let v169 : BitVec 32 := Scalar.muli v168 c512_i32_105
  v169
def k0_off19 (i : grid0.Coords) (k0_t2 : Fin (k0_t2_loop i).trips) (c1_i32_103 : BitVec 32) : Fin 2 → Nat :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c7_i32 : BitVec 32 := 7#32
  let v15 : BitVec 32 := Scalar.subi c7_i32 arg1
  let c0_i32_71 : BitVec 32 := 0#32
  let v119 : BitVec 1 := Scalar.cmpi .sgt v15 c0_i32_71
  let v120 : BitVec 32 := Scalar.extui v119
  let c0_i32_72 : BitVec 32 := 0#32
  let v121 : BitVec 1 := Scalar.cmpi .slt v15 c0_i32_72
  let v122 : BitVec 32 := Scalar.extui v121
  let v123 : BitVec 32 := Scalar.subi v120 v122
  let c2_i32_70 : BitVec 32 := 2#32
  let c0_i32_73 : BitVec 32 := 0#32
  let v124 : BitVec 1 := Scalar.cmpi .sgt c2_i32_70 c0_i32_73
  let v125 : BitVec 32 := Scalar.extui v124
  let c0_i32_74 : BitVec 32 := 0#32
  let v126 : BitVec 1 := Scalar.cmpi .slt c2_i32_70 c0_i32_74
  let v127 : BitVec 32 := Scalar.extui v126
  let v128 : BitVec 32 := Scalar.subi v125 v127
  let v129 : BitVec 1 := Scalar.cmpi .ne v123 v128
  let v130 : BitVec 32 := Scalar.remsi v15 c2_i32_70
  let c0_i32_75 : BitVec 32 := 0#32
  let v131 : BitVec 1 := Scalar.cmpi .ne v130 c0_i32_75
  let v132 : BitVec 1 := Scalar.andi v129 v131
  let v118 : BitVec 32 := Scalar.divsi v15 c2_i32_70
  let c1_i32_76 : BitVec 32 := 1#32
  let v133 : BitVec 32 := Scalar.subi v118 c1_i32_76
  let v134 : BitVec 32 := Scalar.select v132 v133 v118
  let v135 : BitVec 32 := Scalar.subi v134 c0_i32_78
  let c1_i32_79 : BitVec 32 := 1#32
  let v137 : BitVec 32 := Scalar.divsi v135 c1_i32_79
  let v138 : BitVec 32 := Scalar.muli v137 c1_i32_79
  let v139 : BitVec 32 := Scalar.addi c0_i32_78 v138
  let c1_i32_81 : BitVec 32 := 1#32
  let arg16 : BitVec 32 := Scf.iv v139 c1_i32_81 k0_t2
  let v165 : BitVec 32 := Scalar.muli c2_i32_102 arg16
  let v166 : BitVec 32 := Scalar.addi v164 v165
  let v167 : BitVec 32 := Scalar.addi v166 c1_i32_103
  let c7_i32_104 : BitVec 32 := 7#32
  let v168 : BitVec 32 := Scalar.minsi v167 c7_i32_104
  let c512_i32_105 : BitVec 32 := 512#32
  let v169 : BitVec 32 := Scalar.muli v168 c512_i32_105
  let v170 : BitVec 32 := v169
  let v171 : Index := Scalar.indexCast v170
  let c0_106 : Index := 0#32
  ![v171.toNat, 0]
def k0_mult19 (i : grid0.Coords) (k0_t2 : Fin (k0_t2_loop i).trips) : BitVec 32 :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c7_i32 : BitVec 32 := 7#32
  let v15 : BitVec 32 := Scalar.subi c7_i32 arg1
  let c0_i32_71 : BitVec 32 := 0#32
  let v119 : BitVec 1 := Scalar.cmpi .sgt v15 c0_i32_71
  let v120 : BitVec 32 := Scalar.extui v119
  let c0_i32_72 : BitVec 32 := 0#32
  let v121 : BitVec 1 := Scalar.cmpi .slt v15 c0_i32_72
  let v122 : BitVec 32 := Scalar.extui v121
  let v123 : BitVec 32 := Scalar.subi v120 v122
  let c2_i32_70 : BitVec 32 := 2#32
  let c0_i32_73 : BitVec 32 := 0#32
  let v124 : BitVec 1 := Scalar.cmpi .sgt c2_i32_70 c0_i32_73
  let v125 : BitVec 32 := Scalar.extui v124
  let c0_i32_74 : BitVec 32 := 0#32
  let v126 : BitVec 1 := Scalar.cmpi .slt c2_i32_70 c0_i32_74
  let v127 : BitVec 32 := Scalar.extui v126
  let v128 : BitVec 32 := Scalar.subi v125 v127
  let v129 : BitVec 1 := Scalar.cmpi .ne v123 v128
  let v130 : BitVec 32 := Scalar.remsi v15 c2_i32_70
  let c0_i32_75 : BitVec 32 := 0#32
  let v131 : BitVec 1 := Scalar.cmpi .ne v130 c0_i32_75
  let v132 : BitVec 1 := Scalar.andi v129 v131
  let v118 : BitVec 32 := Scalar.divsi v15 c2_i32_70
  let c1_i32_76 : BitVec 32 := 1#32
  let v133 : BitVec 32 := Scalar.subi v118 c1_i32_76
  let v134 : BitVec 32 := Scalar.select v132 v133 v118
  let v135 : BitVec 32 := Scalar.subi v134 c0_i32_78
  let c1_i32_79 : BitVec 32 := 1#32
  let v137 : BitVec 32 := Scalar.divsi v135 c1_i32_79
  let v138 : BitVec 32 := Scalar.muli v137 c1_i32_79
  let v139 : BitVec 32 := Scalar.addi c0_i32_78 v138
  let c1_i32_81 : BitVec 32 := 1#32
  let arg16 : BitVec 32 := Scf.iv v139 c1_i32_81 k0_t2
  let v165 : BitVec 32 := Scalar.muli c2_i32_102 arg16
  let v166 : BitVec 32 := Scalar.addi v164 v165
  let c1_i32_103 : BitVec 32 := 1#32
  let v167 : BitVec 32 := Scalar.addi v166 c1_i32_103
  let c7_i32_104 : BitVec 32 := 7#32
  let v168 : BitVec 32 := Scalar.minsi v167 c7_i32_104
  let c512_i32_111 : BitVec 32 := 512#32
  let v178 : BitVec 32 := Scalar.muli v168 c512_i32_111
  v178
def k0_off20 (i : grid0.Coords) (k0_t2 : Fin (k0_t2_loop i).trips) (c1_i32_103 : BitVec 32) : Fin 2 → Nat :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c7_i32 : BitVec 32 := 7#32
  let v15 : BitVec 32 := Scalar.subi c7_i32 arg1
  let c0_i32_71 : BitVec 32 := 0#32
  let v119 : BitVec 1 := Scalar.cmpi .sgt v15 c0_i32_71
  let v120 : BitVec 32 := Scalar.extui v119
  let c0_i32_72 : BitVec 32 := 0#32
  let v121 : BitVec 1 := Scalar.cmpi .slt v15 c0_i32_72
  let v122 : BitVec 32 := Scalar.extui v121
  let v123 : BitVec 32 := Scalar.subi v120 v122
  let c2_i32_70 : BitVec 32 := 2#32
  let c0_i32_73 : BitVec 32 := 0#32
  let v124 : BitVec 1 := Scalar.cmpi .sgt c2_i32_70 c0_i32_73
  let v125 : BitVec 32 := Scalar.extui v124
  let c0_i32_74 : BitVec 32 := 0#32
  let v126 : BitVec 1 := Scalar.cmpi .slt c2_i32_70 c0_i32_74
  let v127 : BitVec 32 := Scalar.extui v126
  let v128 : BitVec 32 := Scalar.subi v125 v127
  let v129 : BitVec 1 := Scalar.cmpi .ne v123 v128
  let v130 : BitVec 32 := Scalar.remsi v15 c2_i32_70
  let c0_i32_75 : BitVec 32 := 0#32
  let v131 : BitVec 1 := Scalar.cmpi .ne v130 c0_i32_75
  let v132 : BitVec 1 := Scalar.andi v129 v131
  let v118 : BitVec 32 := Scalar.divsi v15 c2_i32_70
  let c1_i32_76 : BitVec 32 := 1#32
  let v133 : BitVec 32 := Scalar.subi v118 c1_i32_76
  let v134 : BitVec 32 := Scalar.select v132 v133 v118
  let v135 : BitVec 32 := Scalar.subi v134 c0_i32_78
  let c1_i32_79 : BitVec 32 := 1#32
  let v137 : BitVec 32 := Scalar.divsi v135 c1_i32_79
  let v138 : BitVec 32 := Scalar.muli v137 c1_i32_79
  let v139 : BitVec 32 := Scalar.addi c0_i32_78 v138
  let c1_i32_81 : BitVec 32 := 1#32
  let arg16 : BitVec 32 := Scf.iv v139 c1_i32_81 k0_t2
  let v165 : BitVec 32 := Scalar.muli c2_i32_102 arg16
  let v166 : BitVec 32 := Scalar.addi v164 v165
  let v167 : BitVec 32 := Scalar.addi v166 c1_i32_103
  let c7_i32_104 : BitVec 32 := 7#32
  let v168 : BitVec 32 := Scalar.minsi v167 c7_i32_104
  let c512_i32_111 : BitVec 32 := 512#32
  let v178 : BitVec 32 := Scalar.muli v168 c512_i32_111
  let v179 : BitVec 32 := v178
  let v180 : Index := Scalar.indexCast v179
  let c0_112 : Index := 0#32
  ![v180.toNat, 0]
def k0_mult20 (i : grid0.Coords) (k0_t2 : Fin (k0_t2_loop i).trips) : BitVec 32 :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c7_i32 : BitVec 32 := 7#32
  let v15 : BitVec 32 := Scalar.subi c7_i32 arg1
  let c0_i32_71 : BitVec 32 := 0#32
  let v119 : BitVec 1 := Scalar.cmpi .sgt v15 c0_i32_71
  let v120 : BitVec 32 := Scalar.extui v119
  let c0_i32_72 : BitVec 32 := 0#32
  let v121 : BitVec 1 := Scalar.cmpi .slt v15 c0_i32_72
  let v122 : BitVec 32 := Scalar.extui v121
  let v123 : BitVec 32 := Scalar.subi v120 v122
  let c2_i32_70 : BitVec 32 := 2#32
  let c0_i32_73 : BitVec 32 := 0#32
  let v124 : BitVec 1 := Scalar.cmpi .sgt c2_i32_70 c0_i32_73
  let v125 : BitVec 32 := Scalar.extui v124
  let c0_i32_74 : BitVec 32 := 0#32
  let v126 : BitVec 1 := Scalar.cmpi .slt c2_i32_70 c0_i32_74
  let v127 : BitVec 32 := Scalar.extui v126
  let v128 : BitVec 32 := Scalar.subi v125 v127
  let v129 : BitVec 1 := Scalar.cmpi .ne v123 v128
  let v130 : BitVec 32 := Scalar.remsi v15 c2_i32_70
  let c0_i32_75 : BitVec 32 := 0#32
  let v131 : BitVec 1 := Scalar.cmpi .ne v130 c0_i32_75
  let v132 : BitVec 1 := Scalar.andi v129 v131
  let v118 : BitVec 32 := Scalar.divsi v15 c2_i32_70
  let c1_i32_76 : BitVec 32 := 1#32
  let v133 : BitVec 32 := Scalar.subi v118 c1_i32_76
  let v134 : BitVec 32 := Scalar.select v132 v133 v118
  let v135 : BitVec 32 := Scalar.subi v134 c0_i32_78
  let c1_i32_79 : BitVec 32 := 1#32
  let v137 : BitVec 32 := Scalar.divsi v135 c1_i32_79
  let v138 : BitVec 32 := Scalar.muli v137 c1_i32_79
  let v139 : BitVec 32 := Scalar.addi c0_i32_78 v138
  let c1_i32_81 : BitVec 32 := 1#32
  let arg16 : BitVec 32 := Scf.iv v139 c1_i32_81 k0_t2
  let v165 : BitVec 32 := Scalar.muli c2_i32_102 arg16
  let v166 : BitVec 32 := Scalar.addi v164 v165
  let c512_i32_117 : BitVec 32 := 512#32
  let v187 : BitVec 32 := Scalar.muli v166 c512_i32_117
  v187
def k0_off21 (i : grid0.Coords) (k0_t2 : Fin (k0_t2_loop i).trips) : Fin 2 → Nat :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c7_i32 : BitVec 32 := 7#32
  let v15 : BitVec 32 := Scalar.subi c7_i32 arg1
  let c0_i32_71 : BitVec 32 := 0#32
  let v119 : BitVec 1 := Scalar.cmpi .sgt v15 c0_i32_71
  let v120 : BitVec 32 := Scalar.extui v119
  let c0_i32_72 : BitVec 32 := 0#32
  let v121 : BitVec 1 := Scalar.cmpi .slt v15 c0_i32_72
  let v122 : BitVec 32 := Scalar.extui v121
  let v123 : BitVec 32 := Scalar.subi v120 v122
  let c2_i32_70 : BitVec 32 := 2#32
  let c0_i32_73 : BitVec 32 := 0#32
  let v124 : BitVec 1 := Scalar.cmpi .sgt c2_i32_70 c0_i32_73
  let v125 : BitVec 32 := Scalar.extui v124
  let c0_i32_74 : BitVec 32 := 0#32
  let v126 : BitVec 1 := Scalar.cmpi .slt c2_i32_70 c0_i32_74
  let v127 : BitVec 32 := Scalar.extui v126
  let v128 : BitVec 32 := Scalar.subi v125 v127
  let v129 : BitVec 1 := Scalar.cmpi .ne v123 v128
  let v130 : BitVec 32 := Scalar.remsi v15 c2_i32_70
  let c0_i32_75 : BitVec 32 := 0#32
  let v131 : BitVec 1 := Scalar.cmpi .ne v130 c0_i32_75
  let v132 : BitVec 1 := Scalar.andi v129 v131
  let v118 : BitVec 32 := Scalar.divsi v15 c2_i32_70
  let c1_i32_76 : BitVec 32 := 1#32
  let v133 : BitVec 32 := Scalar.subi v118 c1_i32_76
  let v134 : BitVec 32 := Scalar.select v132 v133 v118
  let v135 : BitVec 32 := Scalar.subi v134 c0_i32_78
  let c1_i32_79 : BitVec 32 := 1#32
  let v137 : BitVec 32 := Scalar.divsi v135 c1_i32_79
  let v138 : BitVec 32 := Scalar.muli v137 c1_i32_79
  let v139 : BitVec 32 := Scalar.addi c0_i32_78 v138
  let c1_i32_81 : BitVec 32 := 1#32
  let arg16 : BitVec 32 := Scf.iv v139 c1_i32_81 k0_t2
  let v165 : BitVec 32 := Scalar.muli c2_i32_102 arg16
  let v166 : BitVec 32 := Scalar.addi v164 v165
  let c512_i32_117 : BitVec 32 := 512#32
  let v187 : BitVec 32 := Scalar.muli v166 c512_i32_117
  let v188 : BitVec 32 := v187
  let v189 : Index := Scalar.indexCast v188
  let c0_118 : Index := 0#32
  ![v189.toNat, 0]
def k0_mult21 (i : grid0.Coords) (k0_t2 : Fin (k0_t2_loop i).trips) : BitVec 32 :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c7_i32 : BitVec 32 := 7#32
  let v15 : BitVec 32 := Scalar.subi c7_i32 arg1
  let c0_i32_71 : BitVec 32 := 0#32
  let v119 : BitVec 1 := Scalar.cmpi .sgt v15 c0_i32_71
  let v120 : BitVec 32 := Scalar.extui v119
  let c0_i32_72 : BitVec 32 := 0#32
  let v121 : BitVec 1 := Scalar.cmpi .slt v15 c0_i32_72
  let v122 : BitVec 32 := Scalar.extui v121
  let v123 : BitVec 32 := Scalar.subi v120 v122
  let c2_i32_70 : BitVec 32 := 2#32
  let c0_i32_73 : BitVec 32 := 0#32
  let v124 : BitVec 1 := Scalar.cmpi .sgt c2_i32_70 c0_i32_73
  let v125 : BitVec 32 := Scalar.extui v124
  let c0_i32_74 : BitVec 32 := 0#32
  let v126 : BitVec 1 := Scalar.cmpi .slt c2_i32_70 c0_i32_74
  let v127 : BitVec 32 := Scalar.extui v126
  let v128 : BitVec 32 := Scalar.subi v125 v127
  let v129 : BitVec 1 := Scalar.cmpi .ne v123 v128
  let v130 : BitVec 32 := Scalar.remsi v15 c2_i32_70
  let c0_i32_75 : BitVec 32 := 0#32
  let v131 : BitVec 1 := Scalar.cmpi .ne v130 c0_i32_75
  let v132 : BitVec 1 := Scalar.andi v129 v131
  let v118 : BitVec 32 := Scalar.divsi v15 c2_i32_70
  let c1_i32_76 : BitVec 32 := 1#32
  let v133 : BitVec 32 := Scalar.subi v118 c1_i32_76
  let v134 : BitVec 32 := Scalar.select v132 v133 v118
  let v135 : BitVec 32 := Scalar.subi v134 c0_i32_78
  let c1_i32_79 : BitVec 32 := 1#32
  let v137 : BitVec 32 := Scalar.divsi v135 c1_i32_79
  let v138 : BitVec 32 := Scalar.muli v137 c1_i32_79
  let v139 : BitVec 32 := Scalar.addi c0_i32_78 v138
  let c1_i32_81 : BitVec 32 := 1#32
  let arg16 : BitVec 32 := Scf.iv v139 c1_i32_81 k0_t2
  let v165 : BitVec 32 := Scalar.muli c2_i32_102 arg16
  let v166 : BitVec 32 := Scalar.addi v164 v165
  let c512_i32_119 : BitVec 32 := 512#32
  let v192 : BitVec 32 := Scalar.muli v166 c512_i32_119
  v192
def k0_off22 (i : grid0.Coords) (k0_t2 : Fin (k0_t2_loop i).trips) : Fin 2 → Nat :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c7_i32 : BitVec 32 := 7#32
  let v15 : BitVec 32 := Scalar.subi c7_i32 arg1
  let c0_i32_71 : BitVec 32 := 0#32
  let v119 : BitVec 1 := Scalar.cmpi .sgt v15 c0_i32_71
  let v120 : BitVec 32 := Scalar.extui v119
  let c0_i32_72 : BitVec 32 := 0#32
  let v121 : BitVec 1 := Scalar.cmpi .slt v15 c0_i32_72
  let v122 : BitVec 32 := Scalar.extui v121
  let v123 : BitVec 32 := Scalar.subi v120 v122
  let c2_i32_70 : BitVec 32 := 2#32
  let c0_i32_73 : BitVec 32 := 0#32
  let v124 : BitVec 1 := Scalar.cmpi .sgt c2_i32_70 c0_i32_73
  let v125 : BitVec 32 := Scalar.extui v124
  let c0_i32_74 : BitVec 32 := 0#32
  let v126 : BitVec 1 := Scalar.cmpi .slt c2_i32_70 c0_i32_74
  let v127 : BitVec 32 := Scalar.extui v126
  let v128 : BitVec 32 := Scalar.subi v125 v127
  let v129 : BitVec 1 := Scalar.cmpi .ne v123 v128
  let v130 : BitVec 32 := Scalar.remsi v15 c2_i32_70
  let c0_i32_75 : BitVec 32 := 0#32
  let v131 : BitVec 1 := Scalar.cmpi .ne v130 c0_i32_75
  let v132 : BitVec 1 := Scalar.andi v129 v131
  let v118 : BitVec 32 := Scalar.divsi v15 c2_i32_70
  let c1_i32_76 : BitVec 32 := 1#32
  let v133 : BitVec 32 := Scalar.subi v118 c1_i32_76
  let v134 : BitVec 32 := Scalar.select v132 v133 v118
  let v135 : BitVec 32 := Scalar.subi v134 c0_i32_78
  let c1_i32_79 : BitVec 32 := 1#32
  let v137 : BitVec 32 := Scalar.divsi v135 c1_i32_79
  let v138 : BitVec 32 := Scalar.muli v137 c1_i32_79
  let v139 : BitVec 32 := Scalar.addi c0_i32_78 v138
  let c1_i32_81 : BitVec 32 := 1#32
  let arg16 : BitVec 32 := Scf.iv v139 c1_i32_81 k0_t2
  let v165 : BitVec 32 := Scalar.muli c2_i32_102 arg16
  let v166 : BitVec 32 := Scalar.addi v164 v165
  let c512_i32_119 : BitVec 32 := 512#32
  let v192 : BitVec 32 := Scalar.muli v166 c512_i32_119
  let v193 : BitVec 32 := v192
  let v194 : Index := Scalar.indexCast v193
  let c0_120 : Index := 0#32
  ![v194.toNat, 0]
def k0_off23 (i : grid0.Coords) (k0_t2 : Fin (k0_t2_loop i).trips) : Fin 4 → Nat :=
  let c0_124 : Index := 0#32
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c7_i32 : BitVec 32 := 7#32
  let v15 : BitVec 32 := Scalar.subi c7_i32 arg1
  let c0_i32_71 : BitVec 32 := 0#32
  let v119 : BitVec 1 := Scalar.cmpi .sgt v15 c0_i32_71
  let v120 : BitVec 32 := Scalar.extui v119
  let c0_i32_72 : BitVec 32 := 0#32
  let v121 : BitVec 1 := Scalar.cmpi .slt v15 c0_i32_72
  let v122 : BitVec 32 := Scalar.extui v121
  let v123 : BitVec 32 := Scalar.subi v120 v122
  let c2_i32_70 : BitVec 32 := 2#32
  let c0_i32_73 : BitVec 32 := 0#32
  let v124 : BitVec 1 := Scalar.cmpi .sgt c2_i32_70 c0_i32_73
  let v125 : BitVec 32 := Scalar.extui v124
  let c0_i32_74 : BitVec 32 := 0#32
  let v126 : BitVec 1 := Scalar.cmpi .slt c2_i32_70 c0_i32_74
  let v127 : BitVec 32 := Scalar.extui v126
  let v128 : BitVec 32 := Scalar.subi v125 v127
  let v129 : BitVec 1 := Scalar.cmpi .ne v123 v128
  let v130 : BitVec 32 := Scalar.remsi v15 c2_i32_70
  let c0_i32_75 : BitVec 32 := 0#32
  let v131 : BitVec 1 := Scalar.cmpi .ne v130 c0_i32_75
  let v132 : BitVec 1 := Scalar.andi v129 v131
  let v118 : BitVec 32 := Scalar.divsi v15 c2_i32_70
  let c1_i32_76 : BitVec 32 := 1#32
  let v133 : BitVec 32 := Scalar.subi v118 c1_i32_76
  let v134 : BitVec 32 := Scalar.select v132 v133 v118
  let v135 : BitVec 32 := Scalar.subi v134 c0_i32_78
  let c1_i32_79 : BitVec 32 := 1#32
  let v137 : BitVec 32 := Scalar.divsi v135 c1_i32_79
  let v138 : BitVec 32 := Scalar.muli v137 c1_i32_79
  let v139 : BitVec 32 := Scalar.addi c0_i32_78 v138
  let c1_i32_81 : BitVec 32 := 1#32
  let arg16 : BitVec 32 := Scf.iv v139 c1_i32_81 k0_t2
  let v165 : BitVec 32 := Scalar.muli c2_i32_102 arg16
  let v166 : BitVec 32 := Scalar.addi v164 v165
  let v199 : Index := Scalar.indexCast v166
  let c0_125 : Index := 0#32
  let c0_126 : Index := 0#32
  ![0, v199.toNat, 0, 0]
def k0_off24 (i : grid0.Coords) (k0_t2 : Fin (k0_t2_loop i).trips) (c0_i32_133 : BitVec 32) : Fin 4 → Nat :=
  let c0_134 : Index := 0#32
  let c2_i32_132 : BitVec 32 := 2#32
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c7_i32 : BitVec 32 := 7#32
  let v15 : BitVec 32 := Scalar.subi c7_i32 arg1
  let c0_i32_71 : BitVec 32 := 0#32
  let v119 : BitVec 1 := Scalar.cmpi .sgt v15 c0_i32_71
  let v120 : BitVec 32 := Scalar.extui v119
  let c0_i32_72 : BitVec 32 := 0#32
  let v121 : BitVec 1 := Scalar.cmpi .slt v15 c0_i32_72
  let v122 : BitVec 32 := Scalar.extui v121
  let v123 : BitVec 32 := Scalar.subi v120 v122
  let c2_i32_70 : BitVec 32 := 2#32
  let c0_i32_73 : BitVec 32 := 0#32
  let v124 : BitVec 1 := Scalar.cmpi .sgt c2_i32_70 c0_i32_73
  let v125 : BitVec 32 := Scalar.extui v124
  let c0_i32_74 : BitVec 32 := 0#32
  let v126 : BitVec 1 := Scalar.cmpi .slt c2_i32_70 c0_i32_74
  let v127 : BitVec 32 := Scalar.extui v126
  let v128 : BitVec 32 := Scalar.subi v125 v127
  let v129 : BitVec 1 := Scalar.cmpi .ne v123 v128
  let v130 : BitVec 32 := Scalar.remsi v15 c2_i32_70
  let c0_i32_75 : BitVec 32 := 0#32
  let v131 : BitVec 1 := Scalar.cmpi .ne v130 c0_i32_75
  let v132 : BitVec 1 := Scalar.andi v129 v131
  let v118 : BitVec 32 := Scalar.divsi v15 c2_i32_70
  let c1_i32_76 : BitVec 32 := 1#32
  let v133 : BitVec 32 := Scalar.subi v118 c1_i32_76
  let v134 : BitVec 32 := Scalar.select v132 v133 v118
  let v135 : BitVec 32 := Scalar.subi v134 c0_i32_78
  let c1_i32_79 : BitVec 32 := 1#32
  let v137 : BitVec 32 := Scalar.divsi v135 c1_i32_79
  let v138 : BitVec 32 := Scalar.muli v137 c1_i32_79
  let v139 : BitVec 32 := Scalar.addi c0_i32_78 v138
  let c1_i32_81 : BitVec 32 := 1#32
  let arg16 : BitVec 32 := Scf.iv v139 c1_i32_81 k0_t2
  let v165 : BitVec 32 := Scalar.muli c2_i32_102 arg16
  let v166 : BitVec 32 := Scalar.addi v164 v165
  let v212 : BitVec 32 := Scalar.muli c2_i32_132 v166
  let v213 : BitVec 32 := Scalar.addi v212 c0_i32_133
  let v214 : Index := Scalar.indexCast v213
  let c0_135 : Index := 0#32
  let c0_136 : Index := 0#32
  ![0, v214.toNat, 0, 0]
def k0_mult22 (i : grid0.Coords) (k0_t2 : Fin (k0_t2_loop i).trips) : BitVec 32 :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c7_i32 : BitVec 32 := 7#32
  let v15 : BitVec 32 := Scalar.subi c7_i32 arg1
  let c0_i32_71 : BitVec 32 := 0#32
  let v119 : BitVec 1 := Scalar.cmpi .sgt v15 c0_i32_71
  let v120 : BitVec 32 := Scalar.extui v119
  let c0_i32_72 : BitVec 32 := 0#32
  let v121 : BitVec 1 := Scalar.cmpi .slt v15 c0_i32_72
  let v122 : BitVec 32 := Scalar.extui v121
  let v123 : BitVec 32 := Scalar.subi v120 v122
  let c2_i32_70 : BitVec 32 := 2#32
  let c0_i32_73 : BitVec 32 := 0#32
  let v124 : BitVec 1 := Scalar.cmpi .sgt c2_i32_70 c0_i32_73
  let v125 : BitVec 32 := Scalar.extui v124
  let c0_i32_74 : BitVec 32 := 0#32
  let v126 : BitVec 1 := Scalar.cmpi .slt c2_i32_70 c0_i32_74
  let v127 : BitVec 32 := Scalar.extui v126
  let v128 : BitVec 32 := Scalar.subi v125 v127
  let v129 : BitVec 1 := Scalar.cmpi .ne v123 v128
  let v130 : BitVec 32 := Scalar.remsi v15 c2_i32_70
  let c0_i32_75 : BitVec 32 := 0#32
  let v131 : BitVec 1 := Scalar.cmpi .ne v130 c0_i32_75
  let v132 : BitVec 1 := Scalar.andi v129 v131
  let v118 : BitVec 32 := Scalar.divsi v15 c2_i32_70
  let c1_i32_76 : BitVec 32 := 1#32
  let v133 : BitVec 32 := Scalar.subi v118 c1_i32_76
  let v134 : BitVec 32 := Scalar.select v132 v133 v118
  let v135 : BitVec 32 := Scalar.subi v134 c0_i32_78
  let c1_i32_79 : BitVec 32 := 1#32
  let v137 : BitVec 32 := Scalar.divsi v135 c1_i32_79
  let v138 : BitVec 32 := Scalar.muli v137 c1_i32_79
  let v139 : BitVec 32 := Scalar.addi c0_i32_78 v138
  let c1_i32_81 : BitVec 32 := 1#32
  let arg16 : BitVec 32 := Scf.iv v139 c1_i32_81 k0_t2
  let v165 : BitVec 32 := Scalar.muli c2_i32_102 arg16
  let v166 : BitVec 32 := Scalar.addi v164 v165
  let c512_i32_150 : BitVec 32 := 512#32
  let v235 : BitVec 32 := Scalar.muli v166 c512_i32_150
  v235
def k0_mult23 (i : grid0.Coords) (k0_t2 : Fin (k0_t2_loop i).trips) : BitVec 32 :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c7_i32 : BitVec 32 := 7#32
  let v15 : BitVec 32 := Scalar.subi c7_i32 arg1
  let c0_i32_71 : BitVec 32 := 0#32
  let v119 : BitVec 1 := Scalar.cmpi .sgt v15 c0_i32_71
  let v120 : BitVec 32 := Scalar.extui v119
  let c0_i32_72 : BitVec 32 := 0#32
  let v121 : BitVec 1 := Scalar.cmpi .slt v15 c0_i32_72
  let v122 : BitVec 32 := Scalar.extui v121
  let v123 : BitVec 32 := Scalar.subi v120 v122
  let c2_i32_70 : BitVec 32 := 2#32
  let c0_i32_73 : BitVec 32 := 0#32
  let v124 : BitVec 1 := Scalar.cmpi .sgt c2_i32_70 c0_i32_73
  let v125 : BitVec 32 := Scalar.extui v124
  let c0_i32_74 : BitVec 32 := 0#32
  let v126 : BitVec 1 := Scalar.cmpi .slt c2_i32_70 c0_i32_74
  let v127 : BitVec 32 := Scalar.extui v126
  let v128 : BitVec 32 := Scalar.subi v125 v127
  let v129 : BitVec 1 := Scalar.cmpi .ne v123 v128
  let v130 : BitVec 32 := Scalar.remsi v15 c2_i32_70
  let c0_i32_75 : BitVec 32 := 0#32
  let v131 : BitVec 1 := Scalar.cmpi .ne v130 c0_i32_75
  let v132 : BitVec 1 := Scalar.andi v129 v131
  let v118 : BitVec 32 := Scalar.divsi v15 c2_i32_70
  let c1_i32_76 : BitVec 32 := 1#32
  let v133 : BitVec 32 := Scalar.subi v118 c1_i32_76
  let v134 : BitVec 32 := Scalar.select v132 v133 v118
  let v135 : BitVec 32 := Scalar.subi v134 c0_i32_78
  let c1_i32_79 : BitVec 32 := 1#32
  let v137 : BitVec 32 := Scalar.divsi v135 c1_i32_79
  let v138 : BitVec 32 := Scalar.muli v137 c1_i32_79
  let v139 : BitVec 32 := Scalar.addi c0_i32_78 v138
  let c1_i32_81 : BitVec 32 := 1#32
  let arg16 : BitVec 32 := Scf.iv v139 c1_i32_81 k0_t2
  let v165 : BitVec 32 := Scalar.muli c2_i32_102 arg16
  let v166 : BitVec 32 := Scalar.addi v164 v165
  let c2_i32_154 : BitVec 32 := 2#32
  let v245 : BitVec 32 := Scalar.addi v166 c2_i32_154
  let c7_i32_155 : BitVec 32 := 7#32
  let v246 : BitVec 32 := Scalar.minsi v245 c7_i32_155
  let c512_i32_156 : BitVec 32 := 512#32
  let v247 : BitVec 32 := Scalar.muli v246 c512_i32_156
  v247
def k0_mult24 (i : grid0.Coords) (k0_t2 : Fin (k0_t2_loop i).trips) : BitVec 32 :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c7_i32 : BitVec 32 := 7#32
  let v15 : BitVec 32 := Scalar.subi c7_i32 arg1
  let c0_i32_71 : BitVec 32 := 0#32
  let v119 : BitVec 1 := Scalar.cmpi .sgt v15 c0_i32_71
  let v120 : BitVec 32 := Scalar.extui v119
  let c0_i32_72 : BitVec 32 := 0#32
  let v121 : BitVec 1 := Scalar.cmpi .slt v15 c0_i32_72
  let v122 : BitVec 32 := Scalar.extui v121
  let v123 : BitVec 32 := Scalar.subi v120 v122
  let c2_i32_70 : BitVec 32 := 2#32
  let c0_i32_73 : BitVec 32 := 0#32
  let v124 : BitVec 1 := Scalar.cmpi .sgt c2_i32_70 c0_i32_73
  let v125 : BitVec 32 := Scalar.extui v124
  let c0_i32_74 : BitVec 32 := 0#32
  let v126 : BitVec 1 := Scalar.cmpi .slt c2_i32_70 c0_i32_74
  let v127 : BitVec 32 := Scalar.extui v126
  let v128 : BitVec 32 := Scalar.subi v125 v127
  let v129 : BitVec 1 := Scalar.cmpi .ne v123 v128
  let v130 : BitVec 32 := Scalar.remsi v15 c2_i32_70
  let c0_i32_75 : BitVec 32 := 0#32
  let v131 : BitVec 1 := Scalar.cmpi .ne v130 c0_i32_75
  let v132 : BitVec 1 := Scalar.andi v129 v131
  let v118 : BitVec 32 := Scalar.divsi v15 c2_i32_70
  let c1_i32_76 : BitVec 32 := 1#32
  let v133 : BitVec 32 := Scalar.subi v118 c1_i32_76
  let v134 : BitVec 32 := Scalar.select v132 v133 v118
  let v135 : BitVec 32 := Scalar.subi v134 c0_i32_78
  let c1_i32_79 : BitVec 32 := 1#32
  let v137 : BitVec 32 := Scalar.divsi v135 c1_i32_79
  let v138 : BitVec 32 := Scalar.muli v137 c1_i32_79
  let v139 : BitVec 32 := Scalar.addi c0_i32_78 v138
  let c1_i32_81 : BitVec 32 := 1#32
  let arg16 : BitVec 32 := Scf.iv v139 c1_i32_81 k0_t2
  let v165 : BitVec 32 := Scalar.muli c2_i32_102 arg16
  let v166 : BitVec 32 := Scalar.addi v164 v165
  let c2_i32_154 : BitVec 32 := 2#32
  let v245 : BitVec 32 := Scalar.addi v166 c2_i32_154
  let c7_i32_155 : BitVec 32 := 7#32
  let v246 : BitVec 32 := Scalar.minsi v245 c7_i32_155
  let c512_i32_162 : BitVec 32 := 512#32
  let v256 : BitVec 32 := Scalar.muli v246 c512_i32_162
  v256
def k0_mult25 (i : grid0.Coords) (k0_t2 : Fin (k0_t2_loop i).trips) : BitVec 32 :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c7_i32 : BitVec 32 := 7#32
  let v15 : BitVec 32 := Scalar.subi c7_i32 arg1
  let c0_i32_71 : BitVec 32 := 0#32
  let v119 : BitVec 1 := Scalar.cmpi .sgt v15 c0_i32_71
  let v120 : BitVec 32 := Scalar.extui v119
  let c0_i32_72 : BitVec 32 := 0#32
  let v121 : BitVec 1 := Scalar.cmpi .slt v15 c0_i32_72
  let v122 : BitVec 32 := Scalar.extui v121
  let v123 : BitVec 32 := Scalar.subi v120 v122
  let c2_i32_70 : BitVec 32 := 2#32
  let c0_i32_73 : BitVec 32 := 0#32
  let v124 : BitVec 1 := Scalar.cmpi .sgt c2_i32_70 c0_i32_73
  let v125 : BitVec 32 := Scalar.extui v124
  let c0_i32_74 : BitVec 32 := 0#32
  let v126 : BitVec 1 := Scalar.cmpi .slt c2_i32_70 c0_i32_74
  let v127 : BitVec 32 := Scalar.extui v126
  let v128 : BitVec 32 := Scalar.subi v125 v127
  let v129 : BitVec 1 := Scalar.cmpi .ne v123 v128
  let v130 : BitVec 32 := Scalar.remsi v15 c2_i32_70
  let c0_i32_75 : BitVec 32 := 0#32
  let v131 : BitVec 1 := Scalar.cmpi .ne v130 c0_i32_75
  let v132 : BitVec 1 := Scalar.andi v129 v131
  let v118 : BitVec 32 := Scalar.divsi v15 c2_i32_70
  let c1_i32_76 : BitVec 32 := 1#32
  let v133 : BitVec 32 := Scalar.subi v118 c1_i32_76
  let v134 : BitVec 32 := Scalar.select v132 v133 v118
  let v135 : BitVec 32 := Scalar.subi v134 c0_i32_78
  let c1_i32_79 : BitVec 32 := 1#32
  let v137 : BitVec 32 := Scalar.divsi v135 c1_i32_79
  let v138 : BitVec 32 := Scalar.muli v137 c1_i32_79
  let v139 : BitVec 32 := Scalar.addi c0_i32_78 v138
  let c1_i32_81 : BitVec 32 := 1#32
  let arg16 : BitVec 32 := Scf.iv v139 c1_i32_81 k0_t2
  let v165 : BitVec 32 := Scalar.muli c2_i32_102 arg16
  let v166 : BitVec 32 := Scalar.addi v164 v165
  let c1_i32_168 : BitVec 32 := 1#32
  let v265 : BitVec 32 := Scalar.addi v166 c1_i32_168
  let c512_i32_169 : BitVec 32 := 512#32
  let v266 : BitVec 32 := Scalar.muli v265 c512_i32_169
  v266
def k0_off25 (i : grid0.Coords) (k0_t2 : Fin (k0_t2_loop i).trips) : Fin 2 → Nat :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c7_i32 : BitVec 32 := 7#32
  let v15 : BitVec 32 := Scalar.subi c7_i32 arg1
  let c0_i32_71 : BitVec 32 := 0#32
  let v119 : BitVec 1 := Scalar.cmpi .sgt v15 c0_i32_71
  let v120 : BitVec 32 := Scalar.extui v119
  let c0_i32_72 : BitVec 32 := 0#32
  let v121 : BitVec 1 := Scalar.cmpi .slt v15 c0_i32_72
  let v122 : BitVec 32 := Scalar.extui v121
  let v123 : BitVec 32 := Scalar.subi v120 v122
  let c2_i32_70 : BitVec 32 := 2#32
  let c0_i32_73 : BitVec 32 := 0#32
  let v124 : BitVec 1 := Scalar.cmpi .sgt c2_i32_70 c0_i32_73
  let v125 : BitVec 32 := Scalar.extui v124
  let c0_i32_74 : BitVec 32 := 0#32
  let v126 : BitVec 1 := Scalar.cmpi .slt c2_i32_70 c0_i32_74
  let v127 : BitVec 32 := Scalar.extui v126
  let v128 : BitVec 32 := Scalar.subi v125 v127
  let v129 : BitVec 1 := Scalar.cmpi .ne v123 v128
  let v130 : BitVec 32 := Scalar.remsi v15 c2_i32_70
  let c0_i32_75 : BitVec 32 := 0#32
  let v131 : BitVec 1 := Scalar.cmpi .ne v130 c0_i32_75
  let v132 : BitVec 1 := Scalar.andi v129 v131
  let v118 : BitVec 32 := Scalar.divsi v15 c2_i32_70
  let c1_i32_76 : BitVec 32 := 1#32
  let v133 : BitVec 32 := Scalar.subi v118 c1_i32_76
  let v134 : BitVec 32 := Scalar.select v132 v133 v118
  let v135 : BitVec 32 := Scalar.subi v134 c0_i32_78
  let c1_i32_79 : BitVec 32 := 1#32
  let v137 : BitVec 32 := Scalar.divsi v135 c1_i32_79
  let v138 : BitVec 32 := Scalar.muli v137 c1_i32_79
  let v139 : BitVec 32 := Scalar.addi c0_i32_78 v138
  let c1_i32_81 : BitVec 32 := 1#32
  let arg16 : BitVec 32 := Scf.iv v139 c1_i32_81 k0_t2
  let v165 : BitVec 32 := Scalar.muli c2_i32_102 arg16
  let v166 : BitVec 32 := Scalar.addi v164 v165
  let c1_i32_168 : BitVec 32 := 1#32
  let v265 : BitVec 32 := Scalar.addi v166 c1_i32_168
  let c512_i32_169 : BitVec 32 := 512#32
  let v266 : BitVec 32 := Scalar.muli v265 c512_i32_169
  let v267 : BitVec 32 := v266
  let v268 : Index := Scalar.indexCast v267
  let c0_170 : Index := 0#32
  ![v268.toNat, 0]
def k0_mult26 (i : grid0.Coords) (k0_t2 : Fin (k0_t2_loop i).trips) : BitVec 32 :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c7_i32 : BitVec 32 := 7#32
  let v15 : BitVec 32 := Scalar.subi c7_i32 arg1
  let c0_i32_71 : BitVec 32 := 0#32
  let v119 : BitVec 1 := Scalar.cmpi .sgt v15 c0_i32_71
  let v120 : BitVec 32 := Scalar.extui v119
  let c0_i32_72 : BitVec 32 := 0#32
  let v121 : BitVec 1 := Scalar.cmpi .slt v15 c0_i32_72
  let v122 : BitVec 32 := Scalar.extui v121
  let v123 : BitVec 32 := Scalar.subi v120 v122
  let c2_i32_70 : BitVec 32 := 2#32
  let c0_i32_73 : BitVec 32 := 0#32
  let v124 : BitVec 1 := Scalar.cmpi .sgt c2_i32_70 c0_i32_73
  let v125 : BitVec 32 := Scalar.extui v124
  let c0_i32_74 : BitVec 32 := 0#32
  let v126 : BitVec 1 := Scalar.cmpi .slt c2_i32_70 c0_i32_74
  let v127 : BitVec 32 := Scalar.extui v126
  let v128 : BitVec 32 := Scalar.subi v125 v127
  let v129 : BitVec 1 := Scalar.cmpi .ne v123 v128
  let v130 : BitVec 32 := Scalar.remsi v15 c2_i32_70
  let c0_i32_75 : BitVec 32 := 0#32
  let v131 : BitVec 1 := Scalar.cmpi .ne v130 c0_i32_75
  let v132 : BitVec 1 := Scalar.andi v129 v131
  let v118 : BitVec 32 := Scalar.divsi v15 c2_i32_70
  let c1_i32_76 : BitVec 32 := 1#32
  let v133 : BitVec 32 := Scalar.subi v118 c1_i32_76
  let v134 : BitVec 32 := Scalar.select v132 v133 v118
  let v135 : BitVec 32 := Scalar.subi v134 c0_i32_78
  let c1_i32_79 : BitVec 32 := 1#32
  let v137 : BitVec 32 := Scalar.divsi v135 c1_i32_79
  let v138 : BitVec 32 := Scalar.muli v137 c1_i32_79
  let v139 : BitVec 32 := Scalar.addi c0_i32_78 v138
  let c1_i32_81 : BitVec 32 := 1#32
  let arg16 : BitVec 32 := Scf.iv v139 c1_i32_81 k0_t2
  let v165 : BitVec 32 := Scalar.muli c2_i32_102 arg16
  let v166 : BitVec 32 := Scalar.addi v164 v165
  let c1_i32_168 : BitVec 32 := 1#32
  let v265 : BitVec 32 := Scalar.addi v166 c1_i32_168
  let c512_i32_171 : BitVec 32 := 512#32
  let v271 : BitVec 32 := Scalar.muli v265 c512_i32_171
  v271
def k0_off26 (i : grid0.Coords) (k0_t2 : Fin (k0_t2_loop i).trips) : Fin 2 → Nat :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c7_i32 : BitVec 32 := 7#32
  let v15 : BitVec 32 := Scalar.subi c7_i32 arg1
  let c0_i32_71 : BitVec 32 := 0#32
  let v119 : BitVec 1 := Scalar.cmpi .sgt v15 c0_i32_71
  let v120 : BitVec 32 := Scalar.extui v119
  let c0_i32_72 : BitVec 32 := 0#32
  let v121 : BitVec 1 := Scalar.cmpi .slt v15 c0_i32_72
  let v122 : BitVec 32 := Scalar.extui v121
  let v123 : BitVec 32 := Scalar.subi v120 v122
  let c2_i32_70 : BitVec 32 := 2#32
  let c0_i32_73 : BitVec 32 := 0#32
  let v124 : BitVec 1 := Scalar.cmpi .sgt c2_i32_70 c0_i32_73
  let v125 : BitVec 32 := Scalar.extui v124
  let c0_i32_74 : BitVec 32 := 0#32
  let v126 : BitVec 1 := Scalar.cmpi .slt c2_i32_70 c0_i32_74
  let v127 : BitVec 32 := Scalar.extui v126
  let v128 : BitVec 32 := Scalar.subi v125 v127
  let v129 : BitVec 1 := Scalar.cmpi .ne v123 v128
  let v130 : BitVec 32 := Scalar.remsi v15 c2_i32_70
  let c0_i32_75 : BitVec 32 := 0#32
  let v131 : BitVec 1 := Scalar.cmpi .ne v130 c0_i32_75
  let v132 : BitVec 1 := Scalar.andi v129 v131
  let v118 : BitVec 32 := Scalar.divsi v15 c2_i32_70
  let c1_i32_76 : BitVec 32 := 1#32
  let v133 : BitVec 32 := Scalar.subi v118 c1_i32_76
  let v134 : BitVec 32 := Scalar.select v132 v133 v118
  let v135 : BitVec 32 := Scalar.subi v134 c0_i32_78
  let c1_i32_79 : BitVec 32 := 1#32
  let v137 : BitVec 32 := Scalar.divsi v135 c1_i32_79
  let v138 : BitVec 32 := Scalar.muli v137 c1_i32_79
  let v139 : BitVec 32 := Scalar.addi c0_i32_78 v138
  let c1_i32_81 : BitVec 32 := 1#32
  let arg16 : BitVec 32 := Scf.iv v139 c1_i32_81 k0_t2
  let v165 : BitVec 32 := Scalar.muli c2_i32_102 arg16
  let v166 : BitVec 32 := Scalar.addi v164 v165
  let c1_i32_168 : BitVec 32 := 1#32
  let v265 : BitVec 32 := Scalar.addi v166 c1_i32_168
  let c512_i32_171 : BitVec 32 := 512#32
  let v271 : BitVec 32 := Scalar.muli v265 c512_i32_171
  let v272 : BitVec 32 := v271
  let v273 : Index := Scalar.indexCast v272
  let c0_172 : Index := 0#32
  ![v273.toNat, 0]
def k0_off27 (i : grid0.Coords) (k0_t2 : Fin (k0_t2_loop i).trips) : Fin 4 → Nat :=
  let c0_176 : Index := 0#32
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c7_i32 : BitVec 32 := 7#32
  let v15 : BitVec 32 := Scalar.subi c7_i32 arg1
  let c0_i32_71 : BitVec 32 := 0#32
  let v119 : BitVec 1 := Scalar.cmpi .sgt v15 c0_i32_71
  let v120 : BitVec 32 := Scalar.extui v119
  let c0_i32_72 : BitVec 32 := 0#32
  let v121 : BitVec 1 := Scalar.cmpi .slt v15 c0_i32_72
  let v122 : BitVec 32 := Scalar.extui v121
  let v123 : BitVec 32 := Scalar.subi v120 v122
  let c2_i32_70 : BitVec 32 := 2#32
  let c0_i32_73 : BitVec 32 := 0#32
  let v124 : BitVec 1 := Scalar.cmpi .sgt c2_i32_70 c0_i32_73
  let v125 : BitVec 32 := Scalar.extui v124
  let c0_i32_74 : BitVec 32 := 0#32
  let v126 : BitVec 1 := Scalar.cmpi .slt c2_i32_70 c0_i32_74
  let v127 : BitVec 32 := Scalar.extui v126
  let v128 : BitVec 32 := Scalar.subi v125 v127
  let v129 : BitVec 1 := Scalar.cmpi .ne v123 v128
  let v130 : BitVec 32 := Scalar.remsi v15 c2_i32_70
  let c0_i32_75 : BitVec 32 := 0#32
  let v131 : BitVec 1 := Scalar.cmpi .ne v130 c0_i32_75
  let v132 : BitVec 1 := Scalar.andi v129 v131
  let v118 : BitVec 32 := Scalar.divsi v15 c2_i32_70
  let c1_i32_76 : BitVec 32 := 1#32
  let v133 : BitVec 32 := Scalar.subi v118 c1_i32_76
  let v134 : BitVec 32 := Scalar.select v132 v133 v118
  let v135 : BitVec 32 := Scalar.subi v134 c0_i32_78
  let c1_i32_79 : BitVec 32 := 1#32
  let v137 : BitVec 32 := Scalar.divsi v135 c1_i32_79
  let v138 : BitVec 32 := Scalar.muli v137 c1_i32_79
  let v139 : BitVec 32 := Scalar.addi c0_i32_78 v138
  let c1_i32_81 : BitVec 32 := 1#32
  let arg16 : BitVec 32 := Scf.iv v139 c1_i32_81 k0_t2
  let v165 : BitVec 32 := Scalar.muli c2_i32_102 arg16
  let v166 : BitVec 32 := Scalar.addi v164 v165
  let c1_i32_168 : BitVec 32 := 1#32
  let v265 : BitVec 32 := Scalar.addi v166 c1_i32_168
  let v278 : Index := Scalar.indexCast v265
  let c0_177 : Index := 0#32
  let c0_178 : Index := 0#32
  ![0, v278.toNat, 0, 0]
def k0_off28 (i : grid0.Coords) (k0_t2 : Fin (k0_t2_loop i).trips) (c0_i32_185 : BitVec 32) : Fin 4 → Nat :=
  let c0_186 : Index := 0#32
  let c2_i32_184 : BitVec 32 := 2#32
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c7_i32 : BitVec 32 := 7#32
  let v15 : BitVec 32 := Scalar.subi c7_i32 arg1
  let c0_i32_71 : BitVec 32 := 0#32
  let v119 : BitVec 1 := Scalar.cmpi .sgt v15 c0_i32_71
  let v120 : BitVec 32 := Scalar.extui v119
  let c0_i32_72 : BitVec 32 := 0#32
  let v121 : BitVec 1 := Scalar.cmpi .slt v15 c0_i32_72
  let v122 : BitVec 32 := Scalar.extui v121
  let v123 : BitVec 32 := Scalar.subi v120 v122
  let c2_i32_70 : BitVec 32 := 2#32
  let c0_i32_73 : BitVec 32 := 0#32
  let v124 : BitVec 1 := Scalar.cmpi .sgt c2_i32_70 c0_i32_73
  let v125 : BitVec 32 := Scalar.extui v124
  let c0_i32_74 : BitVec 32 := 0#32
  let v126 : BitVec 1 := Scalar.cmpi .slt c2_i32_70 c0_i32_74
  let v127 : BitVec 32 := Scalar.extui v126
  let v128 : BitVec 32 := Scalar.subi v125 v127
  let v129 : BitVec 1 := Scalar.cmpi .ne v123 v128
  let v130 : BitVec 32 := Scalar.remsi v15 c2_i32_70
  let c0_i32_75 : BitVec 32 := 0#32
  let v131 : BitVec 1 := Scalar.cmpi .ne v130 c0_i32_75
  let v132 : BitVec 1 := Scalar.andi v129 v131
  let v118 : BitVec 32 := Scalar.divsi v15 c2_i32_70
  let c1_i32_76 : BitVec 32 := 1#32
  let v133 : BitVec 32 := Scalar.subi v118 c1_i32_76
  let v134 : BitVec 32 := Scalar.select v132 v133 v118
  let v135 : BitVec 32 := Scalar.subi v134 c0_i32_78
  let c1_i32_79 : BitVec 32 := 1#32
  let v137 : BitVec 32 := Scalar.divsi v135 c1_i32_79
  let v138 : BitVec 32 := Scalar.muli v137 c1_i32_79
  let v139 : BitVec 32 := Scalar.addi c0_i32_78 v138
  let c1_i32_81 : BitVec 32 := 1#32
  let arg16 : BitVec 32 := Scf.iv v139 c1_i32_81 k0_t2
  let v165 : BitVec 32 := Scalar.muli c2_i32_102 arg16
  let v166 : BitVec 32 := Scalar.addi v164 v165
  let c1_i32_168 : BitVec 32 := 1#32
  let v265 : BitVec 32 := Scalar.addi v166 c1_i32_168
  let v291 : BitVec 32 := Scalar.muli c2_i32_184 v265
  let v292 : BitVec 32 := Scalar.addi v291 c0_i32_185
  let v293 : Index := Scalar.indexCast v292
  let c0_187 : Index := 0#32
  let c0_188 : Index := 0#32
  ![0, v293.toNat, 0, 0]
def k0_mult27 (i : grid0.Coords) (k0_t2 : Fin (k0_t2_loop i).trips) : BitVec 32 :=
  let arg1 : BitVec 32 := BitVec.ofNat 32 (i 1).val
  let c1_i32_101 : BitVec 32 := 1#32
  let v164 : BitVec 32 := Scalar.addi arg1 c1_i32_101
  let c2_i32_102 : BitVec 32 := 2#32
  let c0_i32_78 : BitVec 32 := 0#32
  let c7_i32 : BitVec 32 := 7#32
  let v15 : BitVec 32 := Scalar.subi c7_i32 arg1
  let c0_i32_71 : BitVec 32 := 0#32
  let v119 : BitVec 1 := Scalar.cmpi .sgt v15 c0_i32_71
  let v120 : BitVec 32 := Scalar.extui v119
  let c0_i32_72 : BitVec 32 := 0#32
  let v121 : BitVec 1 := Scalar.cmpi .slt v15 c0_i32_72
  let v122 : BitVec 32 := Scalar.extui v121
  let v123 : BitVec 32 := Scalar.subi v120 v122
  let c2_i32_70 : BitVec 32 := 2#32
  let c0_i32_73 : BitVec 32 := 0#32
  let v124 : BitVec 1 := Scalar.cmpi .sgt c2_i32_70 c0_i32_73
  let v125 : BitVec 32 := Scalar.extui v124
  let c0_i32_74 : BitVec 32 := 0#32
  let v126 : BitVec 1 := Scalar.cmpi .slt c2_i32_70 c0_i32_74
  let v127 : BitVec 32 := Scalar.extui v126
  let v128 : BitVec 32 := Scalar.subi v125 v127
  let v129 : BitVec 1 := Scalar.cmpi .ne v123 v128
  let v130 : BitVec 32 := Scalar.remsi v15 c2_i32_70
  let c0_i32_75 : BitVec 32 := 0#32
  let v131 : BitVec 1 := Scalar.cmpi .ne v130 c0_i32_75
  let v132 : BitVec 1 := Scalar.andi v129 v131
  let v118 : BitVec 32 := Scalar.divsi v15 c2_i32_70
  let c1_i32_76 : BitVec 32 := 1#32
  let v133 : BitVec 32 := Scalar.subi v118 c1_i32_76
  let v134 : BitVec 32 := Scalar.select v132 v133 v118
  let v135 : BitVec 32 := Scalar.subi v134 c0_i32_78
  let c1_i32_79 : BitVec 32 := 1#32
  let v137 : BitVec 32 := Scalar.divsi v135 c1_i32_79
  let v138 : BitVec 32 := Scalar.muli v137 c1_i32_79
  let v139 : BitVec 32 := Scalar.addi c0_i32_78 v138
  let c1_i32_81 : BitVec 32 := 1#32
  let arg16 : BitVec 32 := Scf.iv v139 c1_i32_81 k0_t2
  let v165 : BitVec 32 := Scalar.muli c2_i32_102 arg16
  let v166 : BitVec 32 := Scalar.addi v164 v165
  let c1_i32_168 : BitVec 32 := 1#32
  let v265 : BitVec 32 := Scalar.addi v166 c1_i32_168
  let c512_i32_202 : BitVec 32 := 512#32
  let v314 : BitVec 32 := Scalar.muli v265 c512_i32_202
  v314
def k0_cond2 (i : grid0.Coords) : BitVec 1 :=
  let c7_i32 : BitVec 32 := 7#32
  let arg1 : BitVec 32 := BitVec.ofNat 32 (i 1).val
  let v15 : BitVec 32 := Scalar.subi c7_i32 arg1
  let c2_i32_82 : BitVec 32 := 2#32
  let c0_i32_83 : BitVec 32 := 0#32
  let v140 : BitVec 1 := Scalar.cmpi .eq c2_i32_82 c0_i32_83
  let c1_i32_84 : BitVec 32 := 1#32
  let v141 : BitVec 32 := Scalar.select v140 c1_i32_84 c2_i32_82
  let v142 : BitVec 32 := Scalar.remsi v15 v141
  let c0_i32_86 : BitVec 32 := 0#32
  let v144 : BitVec 1 := Scalar.cmpi .slt v142 c0_i32_86
  let c0_i32_87 : BitVec 32 := 0#32
  let v145 : BitVec 1 := Scalar.cmpi .slt v141 c0_i32_87
  let v146 : BitVec 1 := Scalar.xori v144 v145
  let c0_i32_85 : BitVec 32 := 0#32
  let v143 : BitVec 1 := Scalar.cmpi .ne v142 c0_i32_85
  let v147 : BitVec 1 := Scalar.andi v146 v143
  let v148 : BitVec 32 := Scalar.addi v142 v141
  let v149 : BitVec 32 := Scalar.select v147 v148 v142
  let c1_i32_88 : BitVec 32 := 1#32
  let v150 : BitVec 1 := Scalar.cmpi .eq v149 c1_i32_88
  let v151 : BitVec 32 := Scalar.extui v150
  let c0_i32_89 : BitVec 32 := 0#32
  let v152 : BitVec 1 := Scalar.cmpi .ne v151 c0_i32_89
  v152

def k0_mult28 : BitVec 32 :=
  let c3584_i32 : BitVec 32 := 3584#32
  c3584_i32
def k0_mult29 : BitVec 32 :=
  let c3584_i32_102 : BitVec 32 := 3584#32
  c3584_i32_102
def k0_mult30 : BitVec 32 :=
  let c3584_i32_129 : BitVec 32 := 3584#32
  c3584_i32_129
def k0_cond3 (i : grid0.Coords) : BitVec 1 :=
  let arg1 : BitVec 32 := BitVec.ofNat 32 (i 1).val
  let c7_i32_90 : BitVec 32 := 7#32
  let v153 : BitVec 1 := Scalar.cmpi .eq arg1 c7_i32_90
  let v154 : BitVec 32 := Scalar.extui v153
  let c0_i32_91 : BitVec 32 := 0#32
  let v155 : BitVec 1 := Scalar.cmpi .ne v154 c0_i32_91
  v155

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x16x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel4Ideal.lean ====
variable {F : FTy → Type} [FloatOps F] [Named F]
def κ : String → Option EReal := fun
  | "ln2" => some ((Real.log 2 : ℝ) : EReal)
  | _ => none
-- ==== Reference4Ideal.lean ====
abbrev S8x4096x192 : Shape := ⟨3, ![8, 4096, 192]⟩
abbrev S8x4096x128 : Shape := ⟨3, ![8, 4096, 128]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x128x4096 : Shape := ⟨3, ![8, 128, 4096]⟩
abbrev S8x4096x256 : Shape := ⟨3, ![8, 4096, 256]⟩
abbrev S4096x8x256 : Shape := ⟨3, ![4096, 8, 256]⟩
abbrev S4096x2048 : Shape := ⟨2, ![4096, 2048]⟩
abbrev S4096x8x128 : Shape := ⟨3, ![4096, 8, 128]⟩
abbrev S4096x1024 : Shape := ⟨2, ![4096, 1024]⟩

abbrev nBuf : Space → Nat
  | .hbm => 99
  | .vmem => 0
  | .smem => 0
  | _ => 0

abbrev bufTy : (tb : Table) → Fin (tcTables nBuf tb) → BufTy
  | .hbm, ⟨0, _⟩ => ⟨S8x4096x192, .f32⟩
  | .hbm, ⟨1, _⟩ => ⟨S8x4096x192, .f32⟩
  | .hbm, ⟨2, _⟩ => ⟨S8x4096x128, .f32⟩
  | .hbm, ⟨3, _⟩ => ⟨S8x4096x128, .f32⟩
  | .hbm, ⟨4, _⟩ => ⟨S8x4096x4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S8x4096x4096, .i32⟩
  | .hbm, ⟨9, _⟩ => ⟨S8x4096x4096, .i32⟩
  | .hbm, ⟨10, _⟩ => ⟨S8x4096x4096, .i1⟩
  | .hbm, ⟨11, _⟩ => ⟨S_, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S_, .f32⟩
  | .hbm, ⟨16, _⟩ => ⟨S8x4096x4096, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S8x4096x4096, .f32⟩
  | .hbm, ⟨21, _⟩ => ⟨S8x4096x4096, .i1⟩
  | .hbm, ⟨22, _⟩ => ⟨S8x4096x4096, .f32⟩
  | .hbm, ⟨23, _⟩ => ⟨S_, .f32⟩
  | .hbm, ⟨24, _⟩ => ⟨S8x4096, .f32⟩
  | .hbm, ⟨25, _⟩ => ⟨S_, .f32⟩
  | .hbm, ⟨26, _⟩ => ⟨S8x4096, .f32⟩
  | .hbm, ⟨27, _⟩ => ⟨S8x4096, .f32⟩
  | .hbm, ⟨28, _⟩ => ⟨S_, .f32⟩
  | .hbm, ⟨29, _⟩ => ⟨S8x4096, .f32⟩
  | .hbm, ⟨30, _⟩ => ⟨S8x4096, .i1⟩
  | .hbm, ⟨31, _⟩ => ⟨S_, .f32⟩
  | .hbm, ⟨32, _⟩ => ⟨S8x4096, .f32⟩
  | .hbm, ⟨33, _⟩ => ⟨S8x4096, .i1⟩
  | .hbm, ⟨34, _⟩ => ⟨S_, .f32⟩
  | .hbm, ⟨35, _⟩ => ⟨S8x4096, .f32⟩
  | .hbm, ⟨36, _⟩ => ⟨S_, .f32⟩
  | .hbm, ⟨37, _⟩ => ⟨S8x4096, .f32⟩
  | .hbm, ⟨38, _⟩ => ⟨S_, .f32⟩
  | .hbm, ⟨39, _⟩ => ⟨S8x4096, .f32⟩
  | .hbm, ⟨40, _⟩ => ⟨S8x4096, .f32⟩
  | .hbm, ⟨41, _⟩ => ⟨S8x4096, .f32⟩
  | .hbm, ⟨42, _⟩ => ⟨S8x4096x1, .f32⟩
  | .hbm, ⟨43, _⟩ => ⟨S8x4096x4096, .f32⟩
  | .hbm, ⟨44, _⟩ => ⟨S8x4096x4096, .f32⟩
  | .hbm, ⟨45, _⟩ => ⟨S8x4096x4096, .f32⟩
  | .hbm, ⟨46, _⟩ => ⟨S_, .f32⟩
  | .hbm, ⟨47, _⟩ => ⟨S8x4096, .f32⟩
  | .hbm, ⟨48, _⟩ => ⟨S8x4096x1, .f32⟩
  | .hbm, ⟨49, _⟩ => ⟨S8x4096x4096, .f32⟩
  | .hbm, ⟨50, _⟩ => ⟨S8x4096x4096, .f32⟩
  | .hbm, ⟨51, _⟩ => ⟨S8x4096x1, .f32⟩
  | .hbm, ⟨52, _⟩ => ⟨S_, .f32⟩
  | .hbm, ⟨53, _⟩ => ⟨S8x4096x1, .f32⟩
  | .hbm, ⟨54, _⟩ => ⟨S8x4096x1, .f32⟩
  | .hbm, ⟨55, _⟩ => ⟨S8x4096x128, .f32⟩
  | .hbm, ⟨56, _⟩ => ⟨S8x128x4096, .f32⟩
  | .hbm, ⟨57, _⟩ => ⟨S8x4096x128, .f32⟩
  | .hbm, ⟨58, _⟩ => ⟨S8x4096x4096, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S_, .f32⟩
  | .hbm, ⟨63, _⟩ => ⟨S8x4096, .f32⟩
  | .hbm, ⟨64, _⟩ => ⟨S8x4096x1, .f32⟩
  | .hbm, ⟨65, _⟩ => ⟨S8x4096x1, .f32⟩
  | .hbm, ⟨66, _⟩ => ⟨S8x4096x4096, .f32⟩
  | .hbm, ⟨67, _⟩ => ⟨S8x4096x4096, .f32⟩
  | .hbm, ⟨68, _⟩ => ⟨S_, .f32⟩
  | .hbm, ⟨69, _⟩ => ⟨S8x4096, .f32⟩
  | .hbm, ⟨70, _⟩ => ⟨S8x4096x4096, .f32⟩
  | .hbm, ⟨71, _⟩ => ⟨S8x4096x4096, .f32⟩
  | .hbm, ⟨72, _⟩ => ⟨S8x4096x4096, .f32⟩
  | .hbm, ⟨73, _⟩ => ⟨S_, .f32⟩
  | .hbm, ⟨74, _⟩ => ⟨S8x4096x4096, .f32⟩
  | .hbm, ⟨75, _⟩ => ⟨S8x4096x4096, .f32⟩
  | .hbm, ⟨76, _⟩ => ⟨S_, .f32⟩
  | .hbm, ⟨77, _⟩ => ⟨S8x4096x4096, .f32⟩
  | .hbm, ⟨78, _⟩ => ⟨S8x4096x4096, .f32⟩
  | .hbm, ⟨79, _⟩ => ⟨S8x4096x192, .f32⟩
  | .hbm, ⟨80, _⟩ => ⟨S8x4096x192, .f32⟩
  | .hbm, ⟨81, _⟩ => ⟨S_, .f32⟩
  | .hbm, ⟨82, _⟩ => ⟨S8x4096x192, .f32⟩
  | .hbm, ⟨83, _⟩ => ⟨S8x4096x192, .f32⟩
  | .hbm, ⟨84, _⟩ => ⟨S_, .i32⟩
  | .hbm, ⟨85, _⟩ => ⟨S_, .f32⟩
  | .hbm, ⟨86, _⟩ => ⟨S8x4096x256, .f32⟩
  | .hbm, ⟨87, _⟩ => ⟨S4096x8x256, .f32⟩
  | .hbm, ⟨88, _⟩ => ⟨S4096x2048, .f32⟩
  | .hbm, ⟨89, _⟩ => ⟨S4096x2048, .bf16⟩
  | .hbm, ⟨90, _⟩ => ⟨S_, .i32⟩
  | .hbm, ⟨91, _⟩ => ⟨S_, .f32⟩
  | .hbm, ⟨92, _⟩ => ⟨S8x4096x256, .f32⟩
  | .hbm, ⟨93, _⟩ => ⟨S4096x8x256, .f32⟩
  | .hbm, ⟨94, _⟩ => ⟨S4096x2048, .f32⟩
  | .hbm, ⟨95, _⟩ => ⟨S4096x2048, .bf16⟩
  | .hbm, ⟨96, _⟩ => ⟨S4096x8x128, .f32⟩
  | .hbm, ⟨97, _⟩ => ⟨S4096x1024, .f32⟩
  | .hbm, ⟨98, _⟩ => ⟨S4096x1024, .bf16⟩
  | _, _ => ⟨S8x4096x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_v6_0 : Ref sig .tc := ⟨.hbm, 14, rfl⟩
abbrev main_call0_cst : Ref sig .tc := ⟨.hbm, 15, rfl⟩
abbrev main_v6_1 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_cst_5 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_cst_8 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_9 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_11 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_12 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_call1_cst : Ref sig .tc := ⟨.hbm, 73, rfl⟩
abbrev main_call1_v0 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_14 : Ref sig .tc := ⟨.hbm, 81, rfl⟩
abbrev main_v56 : Ref sig .tc := ⟨.hbm, 82, rfl⟩
abbrev main_v57 : Ref sig .tc := ⟨.hbm, 83, rfl⟩
abbrev main_c : Ref sig .tc := ⟨.hbm, 84, rfl⟩
abbrev main_call2_v0 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_15 : Ref sig .tc := ⟨.hbm, 90, rfl⟩
abbrev main_call3_v0 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩

abbrev nD : Nat := 1
abbrev τ : Topo := Topo.v7x

variable {F : FTy → Type} [FloatOps F]
-- ==== Kernel5.lean ====
abbrev S4096x704 : Shape := ⟨2, ![4096, 704]⟩
abbrev S1x4096 : Shape := ⟨2, ![1, 4096]⟩
abbrev S1x384 : Shape := ⟨2, ![1, 384]⟩
abbrev S1x384x1536 : Shape := ⟨3, ![1, 384, 1536]⟩
abbrev S1x256 : Shape := ⟨2, ![1, 256]⟩
abbrev S1x256x8x128 : Shape := ⟨4, ![1, 256, 8, 128]⟩
abbrev S4096x8x192 : Shape := ⟨3, ![4096, 8, 192]⟩
abbrev S4096x1024 : Shape := ⟨2, ![4096, 1024]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S4096x768 : Shape := ⟨2, ![4096, 768]⟩
abbrev S384x1536 : Shape := ⟨2, ![384, 1536]⟩
abbrev S384x8x192 : Shape := ⟨3, ![384, 8, 192]⟩
abbrev S8x384x192 : Shape := ⟨3, ![8, 384, 192]⟩
abbrev S8x384x256 : Shape := ⟨3, ![8, 384, 256]⟩
abbrev S256x8x128 : Shape := ⟨3, ![256, 8, 128]⟩
abbrev S256x1024 : Shape := ⟨2, ![256, 1024]⟩
abbrev S4096x8x256 : Shape := ⟨3, ![4096, 8, 256]⟩
abbrev S4096x2048 : Shape := ⟨2, ![4096, 2048]⟩
abbrev S256x2048 : Shape := ⟨2, ![256, 2048]⟩
abbrev S256x768 : Shape := ⟨2, ![256, 768]⟩
abbrev S256x128 : Shape := ⟨2, ![256, 128]⟩
abbrev S256x384 : Shape := ⟨2, ![256, 384]⟩
abbrev S256x256 : Shape := ⟨2, ![256, 256]⟩
abbrev S1x384x256 : Shape := ⟨3, ![1, 384, 256]⟩
abbrev S384x256 : Shape := ⟨2, ![384, 256]⟩
abbrev S256 : Shape := ⟨1, ![256]⟩
abbrev S256x1 : Shape := ⟨2, ![256, 1]⟩
abbrev S384 : Shape := ⟨1, ![384]⟩

abbrev nBuf : Space → Nat
  | .hbm => 70
  | .vmem => 27
  | .smem => 0
  | _ => 0

abbrev bufTy : (tb : Table) → Fin (tcTables nBuf tb) → BufTy
  | .hbm, ⟨0, _⟩ => ⟨S4096x704, .f32⟩
  | .hbm, ⟨1, _⟩ => ⟨S1x4096, .i32⟩
  | .hbm, ⟨2, _⟩ => ⟨S1x384, .f32⟩
  | .hbm, ⟨3, _⟩ => ⟨S1x384x1536, .f32⟩
  | .hbm, ⟨4, _⟩ => ⟨S1x256, .f32⟩
  | .hbm, ⟨5, _⟩ => ⟨S1x256x8x128, .f32⟩
  | .hbm, ⟨6, _⟩ => ⟨S1x256x8x128, .f32⟩
  | .hbm, ⟨7, _⟩ => ⟨S4096x8x192, .bf16⟩
  | .hbm, ⟨8, _⟩ => ⟨S4096x8x192, .bf16⟩
  | .hbm, ⟨9, _⟩ => ⟨S4096x1024, .bf16⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S4096, .i32⟩
  | .hbm, ⟨25, _⟩ => ⟨S4096, .f32⟩
  | .hbm, ⟨26, _⟩ => ⟨S4096x1, .f32⟩
  | .hbm, ⟨27, _⟩ => ⟨S1x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S_, .f32⟩
  | .hbm, ⟨34, _⟩ => ⟨S4096x32, .f32⟩
  | .hbm, ⟨35, _⟩ => ⟨S_, .f32⟩
  | .hbm, ⟨36, _⟩ => ⟨S4096x64, .f32⟩
  | .hbm, ⟨37, _⟩ => ⟨S4096x128, .f32⟩
  | .hbm, ⟨38, _⟩ => ⟨S4096x32, .f32⟩
  | .hbm, ⟨39, _⟩ => ⟨S4096x128, .f32⟩
  | .hbm, ⟨40, _⟩ => ⟨S4096x128, .f32⟩
  | .hbm, ⟨41, _⟩ => ⟨S_, .i32⟩
  | .hbm, ⟨42, _⟩ => ⟨S_, .f32⟩
  | .hbm, ⟨43, _⟩ => ⟨S4096x768, .f32⟩
  | .hbm, ⟨44, _⟩ => ⟨S384x1536, .f32⟩
  | .hbm, ⟨45, _⟩ => ⟨S384x8x192, .f32⟩
  | .hbm, ⟨46, _⟩ => ⟨S8x384x192, .f32⟩
  | .hbm, ⟨47, _⟩ => ⟨S_, .i32⟩
  | .hbm, ⟨48, _⟩ => ⟨S_, .f32⟩
  | .hbm, ⟨49, _⟩ => ⟨S8x384x256, .f32⟩
  | .hbm, ⟨50, _⟩ => ⟨S8x384x256, .bf16⟩
  | .hbm, ⟨51, _⟩ => ⟨S256x8x128, .f32⟩
  | .hbm, ⟨52, _⟩ => ⟨S256x1024, .f32⟩
  | .hbm, ⟨53, _⟩ => ⟨S256x1024, .bf16⟩
  | .hbm, ⟨54, _⟩ => ⟨S256x8x128, .f32⟩
  | .hbm, ⟨55, _⟩ => ⟨S256x1024, .f32⟩
  | .hbm, ⟨56, _⟩ => ⟨S256x1024, .bf16⟩
  | .hbm, ⟨57, _⟩ => ⟨S_, .i32⟩
  | .hbm, ⟨58, _⟩ => ⟨S_, .bf16⟩
  | .hbm, ⟨59, _⟩ => ⟨S4096x8x256, .bf16⟩
  | .hbm, ⟨60, _⟩ => ⟨S4096x2048, .bf16⟩
  | .hbm, ⟨61, _⟩ => ⟨S_, .i32⟩
  | .hbm, ⟨62, _⟩ => ⟨S_, .bf16⟩
  | .hbm, ⟨63, _⟩ => ⟨S4096x8x256, .bf16⟩
  | .hbm, ⟨64, _⟩ => ⟨S4096x2048, .bf16⟩
  | .hbm, ⟨65, _⟩ => ⟨S4096x2048, .bf16⟩
  | .hbm, ⟨66, _⟩ => ⟨S4096x1024, .bf16⟩
  | .hbm, ⟨67, _⟩ => ⟨S4096x768, .bf16⟩
  | .hbm, ⟨68, _⟩ => ⟨S1x384, .f32⟩
  | .hbm, ⟨69, _⟩ => ⟨S1x256, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x1024, .bf16⟩
  | .local _ .vmem, ⟨5, _⟩ => ⟨S256x1024, .bf16⟩
  | .local _ .vmem, ⟨6, _⟩ => ⟨S256x768, .f32⟩
  | .local _ .vmem, ⟨7, _⟩ => ⟨S256x768, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S1x384, .f32⟩
  | .local _ .vmem, ⟨15, _⟩ => ⟨S1x256, .f32⟩
  | .local _ .vmem, ⟨16, _⟩ => ⟨S8x384x256, .bf16⟩
  | .local _ .vmem, ⟨17, _⟩ => ⟨S256x1024, .bf16⟩
  | .local _ .vmem, ⟨18, _⟩ => ⟨S256x1024, .bf16⟩
  | .local _ .vmem, ⟨19, _⟩ => ⟨S256x2048, .bf16⟩
  | .local _ .vmem, ⟨20, _⟩ => ⟨S256x2048, .bf16⟩
  | .local _ .vmem, ⟨21, _⟩ => ⟨S256x1024, .bf16⟩
  | .local _ .vmem, ⟨22, _⟩ => ⟨S256x1024, .bf16⟩
  | .local _ .vmem, ⟨23, _⟩ => ⟨S256x768, .bf16⟩
  | .local _ .vmem, ⟨24, _⟩ => ⟨S256x768, .bf16⟩
  | .local _ .vmem, ⟨25, _⟩ => ⟨S1x384, .f32⟩
  | .local _ .vmem, ⟨26, _⟩ => ⟨S1x256, .f32⟩
  | _, _ => ⟨S4096x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c : Ref sig .tc := ⟨.hbm, 41, rfl⟩
abbrev main_call0_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_call1_v0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_6 : Ref sig .tc := ⟨.hbm, 57, rfl⟩
abbrev main_call2_v0 : Ref sig .tc := ⟨.hbm, 58, rfl⟩
abbrev main_v37 : Ref sig .tc := ⟨.hbm, 59, rfl⟩
abbrev main_v38 : Ref sig .tc := ⟨.hbm, 60, rfl⟩
abbrev main_c_7 : Ref sig .tc := ⟨.hbm, 61, rfl⟩
abbrev main_call3_v0 : Ref sig .tc := ⟨.hbm, 62, rfl⟩
abbrev main_v39 : Ref sig .tc := ⟨.hbm, 63, rfl⟩
abbrev main_v40 : Ref sig .tc := ⟨.hbm, 64, rfl⟩
abbrev main_v41_0 : Ref sig .tc := ⟨.hbm, 65, rfl⟩
abbrev main_v41_1 : Ref sig .tc := ⟨.hbm, 66, rfl⟩
abbrev main_v41_2 : Ref sig .tc := ⟨.hbm, 67, rfl⟩
abbrev main_v41_3 : Ref sig .tc := ⟨.hbm, 68, rfl⟩
abbrev main_v41_4 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x384x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x768 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference5Ideal.lean ====
abbrev S4096x704 : Shape := ⟨2, ![4096, 704]⟩
abbrev S1x4096 : Shape := ⟨2, ![1, 4096]⟩
abbrev S1x384 : Shape := ⟨2, ![1, 384]⟩
abbrev S1x384x1536 : Shape := ⟨3, ![1, 384, 1536]⟩
abbrev S1x256 : Shape := ⟨2, ![1, 256]⟩
abbrev S1x256x8x128 : Shape := ⟨4, ![1, 256, 8, 128]⟩
abbrev S4096x8x192 : Shape := ⟨3, ![4096, 8, 192]⟩
abbrev S4096x1024 : Shape := ⟨2, ![4096, 1024]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x1536 : Shape := ⟨2, ![4096, 1536]⟩
abbrev S4096x8x64 : Shape := ⟨3, ![4096, 8, 64]⟩
abbrev S4096x1x32 : Shape := ⟨3, ![4096, 1, 32]⟩
abbrev S4096x8x32 : Shape := ⟨3, ![4096, 8, 32]⟩
abbrev S4096x8x128 : Shape := ⟨3, ![4096, 8, 128]⟩
abbrev S4096x384 : Shape := ⟨2, ![4096, 384]⟩
abbrev S4096x256 : Shape := ⟨2, ![4096, 256]⟩
abbrev S4096x64 : Shape := ⟨2, ![4096, 64]⟩
abbrev S384 : Shape := ⟨1, ![384]⟩
abbrev S384x1536 : Shape := ⟨2, ![384, 1536]⟩
abbrev S256 : Shape := ⟨1, ![256]⟩
abbrev S256x8x128 : Shape := ⟨3, ![256, 8, 128]⟩
abbrev S4096x1x64 : Shape := ⟨3, ![4096, 1, 64]⟩
abbrev S8x128x256 : Shape := ⟨3, ![8, 128, 256]⟩
abbrev S1536x384 : Shape := ⟨2, ![1536, 384]⟩
abbrev S4096x8x256 : Shape := ⟨3, ![4096, 8, 256]⟩
abbrev S4096x2048 : Shape := ⟨2, ![4096, 2048]⟩
abbrev S4096x768 : Shape := ⟨2, ![4096, 768]⟩

abbrev nBuf : Space → Nat
  | .hbm => 261
  | .vmem => 0
  | .smem => 0
  | _ => 0

abbrev hbmTy0_0 (i : Nat) : BufTy := match i % 128 with
  | 0 => ⟨S4096x704, .f32⟩
  | 1 => ⟨S1x4096, .i32⟩
  | 2 => ⟨S1x384, .f32⟩
  | 3 => ⟨S1x384x1536, .f32⟩
  | 4 => ⟨S1x256, .f32⟩
  | 5 => ⟨S1x256x8x128, .f32⟩
  | 6 => ⟨S1x256x8x128, .f32⟩
  | 7 => ⟨S4096x8x192, .bf16⟩
  | 8 => ⟨S4096x8x192, .bf16⟩
  | 9 => ⟨S4096x1024, .bf16⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S4096, .i32⟩
  | 25 => ⟨S4096, .f32⟩
  | 26 => ⟨S4096x1, .f32⟩
  | 27 => ⟨S1x32, .f32⟩
  | 28 => ⟨S4096x32, .f32⟩
  | 29 => ⟨S4096x32, .f32⟩
  | 30 => ⟨S4096x32, .f32⟩
  | 31 => ⟨S4096x32, .f32⟩
  | 32 => ⟨S4096x32, .f32⟩
  | 33 => ⟨S4096x8x192, .f32⟩
  | 34 => ⟨S4096x8x192, .f32⟩
  | 35 => ⟨S4096x1024, .f32⟩
  | 36 => ⟨S_, .f32⟩
  | 37 => ⟨S4096x1536, .f32⟩
  | 38 => ⟨S4096x8x192, .f32⟩
  | 39 => ⟨S4096x8x64, .f32⟩
  | 40 => ⟨S4096x1x32, .f32⟩
  | 41 => ⟨S4096x1x32, .f32⟩
  | 42 => ⟨S4096x8x32, .f32⟩
  | 43 => ⟨S4096x8x32, .f32⟩
  | 44 => ⟨S4096x8x32, .f32⟩
  | 45 => ⟨S4096x8x32, .f32⟩
  | 46 => ⟨S4096x8x32, .f32⟩
  | 47 => ⟨S4096x8x32, .f32⟩
  | 48 => ⟨S4096x8x32, .f32⟩
  | 49 => ⟨S4096x8x32, .f32⟩
  | 50 => ⟨S4096x8x32, .f32⟩
  | 51 => ⟨S4096x8x32, .f32⟩
  | 52 => ⟨S4096x8x32, .f32⟩
  | 53 => ⟨S4096x8x32, .f32⟩
  | 54 => ⟨S4096x8x64, .f32⟩
  | 55 => ⟨S4096x8x128, .f32⟩
  | 56 => ⟨S4096x8x192, .f32⟩
  | 57 => ⟨S_, .f32⟩
  | 58 => ⟨S4096x8x192, .f32⟩
  | 59 => ⟨S4096x8x192, .f32⟩
  | 60 => ⟨S_, .f32⟩
  | 61 => ⟨S4096x8x192, .f32⟩
  | 62 => ⟨S4096x8x192, .f32⟩
  | 63 => ⟨S4096x8x128, .f32⟩
  | 64 => ⟨S4096x8x64, .f32⟩
  | 65 => ⟨S_, .f32⟩
  | 66 => ⟨S4096x8x192, .f32⟩
  | 67 => ⟨S4096x8x32, .f32⟩
  | 68 => ⟨S4096x8x32, .f32⟩
  | 69 => ⟨S4096x8x32, .f32⟩
  | 70 => ⟨S4096x8x32, .f32⟩
  | 71 => ⟨S4096x8x32, .f32⟩
  | 72 => ⟨S4096x8x32, .f32⟩
  | 73 => ⟨S4096x8x32, .f32⟩
  | 74 => ⟨S4096x8x32, .f32⟩
  | 75 => ⟨S4096x8x32, .f32⟩
  | 76 => ⟨S4096x8x32, .f32⟩
  | 77 => ⟨S4096x8x32, .f32⟩
  | 78 => ⟨S4096x8x32, .f32⟩
  | 79 => ⟨S4096x8x32, .f32⟩
  | 80 => ⟨S_, .f32⟩
  | 81 => ⟨S4096x8x64, .f32⟩
  | 82 => ⟨S_, .f32⟩
  | 83 => ⟨S4096x8x64, .f32⟩
  | 84 => ⟨S4096x8x64, .f32⟩
  | 85 => ⟨S_, .f32⟩
  | 86 => ⟨S4096x8x192, .f32⟩
  | 87 => ⟨S4096x8x192, .f32⟩
  | 88 => ⟨S4096x1536, .f32⟩
  | 89 => ⟨S4096x384, .f32⟩
  | 90 => ⟨S4096x256, .f32⟩
  | 91 => ⟨S4096x64, .f32⟩
  | 92 => ⟨S384, .f32⟩
  | 93 => ⟨S4096x384, .f32⟩
  | 94 => ⟨S_, .f32⟩
  | 95 => ⟨S4096, .f32⟩
  | 96 => ⟨S4096x1, .f32⟩
  | 97 => ⟨S_, .f32⟩
  | 98 => ⟨S4096x1, .f32⟩
  | 99 => ⟨S4096x1, .f32⟩
  | 100 => ⟨S_, .f32⟩
  | 101 => ⟨S4096x1, .f32⟩
  | 102 => ⟨S4096x1, .f32⟩
  | 103 => ⟨S4096x1, .f32⟩
  | 104 => ⟨S4096x1, .f32⟩
  | 105 => ⟨S_, .f32⟩
  | 106 => ⟨S4096x1, .f32⟩
  | 107 => ⟨S4096x1, .f32⟩
  | 108 => ⟨S4096x384, .f32⟩
  | 109 => ⟨S4096x384, .f32⟩
  | 110 => ⟨S1x384, .f32⟩
  | 111 => ⟨S4096x384, .f32⟩
  | 112 => ⟨S4096x384, .f32⟩
  | 113 => ⟨S384x1536, .f32⟩
  | 114 => ⟨S4096x1536, .f32⟩
  | 115 => ⟨S256, .f32⟩
  | 116 => ⟨S4096x256, .f32⟩
  | 117 => ⟨S_, .f32⟩
  | 118 => ⟨S4096, .f32⟩
  | 119 => ⟨S4096x1, .f32⟩
  | 120 => ⟨S_, .f32⟩
  | 121 => ⟨S4096x1, .f32⟩
  | 122 => ⟨S4096x1, .f32⟩
  | 123 => ⟨S_, .f32⟩
  | 124 => ⟨S4096x1, .f32⟩
  | 125 => ⟨S4096x1, .f32⟩
  | 126 => ⟨S4096x1, .f32⟩
  | 127 => ⟨S4096x1, .f32⟩
  | _ => ⟨S4096x704, .f32⟩

abbrev hbmTy0_1 (i : Nat) : BufTy := match i % 128 with
  | 0 => ⟨S_, .f32⟩
  | 1 => ⟨S4096x1, .f32⟩
  | 2 => ⟨S4096x1, .f32⟩
  | 3 => ⟨S4096x256, .f32⟩
  | 4 => ⟨S4096x256, .f32⟩
  | 5 => ⟨S1x256, .f32⟩
  | 6 => ⟨S4096x256, .f32⟩
  | 7 => ⟨S4096x256, .f32⟩
  | 8 => ⟨S256x8x128, .f32⟩
  | 9 => ⟨S4096x8x128, .f32⟩
  | 10 => ⟨S256x8x128, .f32⟩
  | 11 => ⟨S4096x8x128, .f32⟩
  | 12 => ⟨S4096x32, .f32⟩
  | 13 => ⟨S4096x32, .f32⟩
  | 14 => ⟨S4096x32, .f32⟩
  | 15 => ⟨S4096x32, .f32⟩
  | 16 => ⟨S4096x32, .f32⟩
  | 17 => ⟨S4096x32, .f32⟩
  | 18 => ⟨S4096x32, .f32⟩
  | 19 => ⟨S4096x32, .f32⟩
  | 20 => ⟨S4096x64, .f32⟩
  | 21 => ⟨S4096x1x64, .f32⟩
  | 22 => ⟨S4096x8x64, .f32⟩
  | 23 => ⟨S4096x8x192, .f32⟩
  | 24 => ⟨S4096x1024, .f32⟩
  | 25 => ⟨S4096x8x128, .f32⟩
  | 26 => ⟨S4096x8x128, .f32⟩
  | 27 => ⟨S4096x8x64, .f32⟩
  | 28 => ⟨S_, .f32⟩
  | 29 => ⟨S4096x64, .f32⟩
  | 30 => ⟨S4096x1x64, .f32⟩
  | 31 => ⟨S_, .f32⟩
  | 32 => ⟨S4096x64, .f32⟩
  | 33 => ⟨S4096x32, .f32⟩
  | 34 => ⟨S4096x32, .f32⟩
  | 35 => ⟨S4096x32, .f32⟩
  | 36 => ⟨S4096x32, .f32⟩
  | 37 => ⟨S4096x32, .f32⟩
  | 38 => ⟨S4096x32, .f32⟩
  | 39 => ⟨S4096x32, .f32⟩
  | 40 => ⟨S4096x32, .f32⟩
  | 41 => ⟨S4096x32, .f32⟩
  | 42 => ⟨S_, .f32⟩
  | 43 => ⟨S4096x64, .f32⟩
  | 44 => ⟨S_, .f32⟩
  | 45 => ⟨S4096x64, .f32⟩
  | 46 => ⟨S4096x64, .f32⟩
  | 47 => ⟨S8x128x256, .f32⟩
  | 48 => ⟨S256x8x128, .f32⟩
  | 49 => ⟨S4096x256, .f32⟩
  | 50 => ⟨S1x256x8x128, .f32⟩
  | 51 => ⟨S8x128x256, .f32⟩
  | 52 => ⟨S256x8x128, .f32⟩
  | 53 => ⟨S4096x256, .f32⟩
  | 54 => ⟨S4096x256, .f32⟩
  | 55 => ⟨S1x256x8x128, .f32⟩
  | 56 => ⟨S4096x256, .f32⟩
  | 57 => ⟨S_, .f32⟩
  | 58 => ⟨S256, .f32⟩
  | 59 => ⟨S1x256, .f32⟩
  | 60 => ⟨S4096x256, .f32⟩
  | 61 => ⟨S4096x256, .f32⟩
  | 62 => ⟨S_, .f32⟩
  | 63 => ⟨S256, .f32⟩
  | 64 => ⟨S4096x256, .f32⟩
  | 65 => ⟨S_, .f32⟩
  | 66 => ⟨S4096, .f32⟩
  | 67 => ⟨S4096x1, .f32⟩
  | 68 => ⟨S4096x256, .f32⟩
  | 69 => ⟨S4096x256, .f32⟩
  | 70 => ⟨S4096x1, .f32⟩
  | 71 => ⟨S_, .f32⟩
  | 72 => ⟨S4096x1, .f32⟩
  | 73 => ⟨S4096x1, .f32⟩
  | 74 => ⟨S_, .f32⟩
  | 75 => ⟨S4096, .f32⟩
  | 76 => ⟨S4096x256, .f32⟩
  | 77 => ⟨S4096x256, .f32⟩
  | 78 => ⟨S4096x256, .f32⟩
  | 79 => ⟨S4096x256, .f32⟩
  | 80 => ⟨S4096x256, .f32⟩
  | 81 => ⟨S1x256, .f32⟩
  | 82 => ⟨S1536x384, .f32⟩
  | 83 => ⟨S384x1536, .f32⟩
  | 84 => ⟨S4096x384, .f32⟩
  | 85 => ⟨S1x384x1536, .f32⟩
  | 86 => ⟨S4096x384, .f32⟩
  | 87 => ⟨S_, .f32⟩
  | 88 => ⟨S384, .f32⟩
  | 89 => ⟨S1x384, .f32⟩
  | 90 => ⟨S4096x384, .f32⟩
  | 91 => ⟨S4096x384, .f32⟩
  | 92 => ⟨S_, .f32⟩
  | 93 => ⟨S384, .f32⟩
  | 94 => ⟨S4096x384, .f32⟩
  | 95 => ⟨S_, .f32⟩
  | 96 => ⟨S4096, .f32⟩
  | 97 => ⟨S4096x1, .f32⟩
  | 98 => ⟨S4096x384, .f32⟩
  | 99 => ⟨S4096x384, .f32⟩
  | 100 => ⟨S4096x1, .f32⟩
  | 101 => ⟨S_, .f32⟩
  | 102 => ⟨S4096x1, .f32⟩
  | 103 => ⟨S4096x1, .f32⟩
  | 104 => ⟨S_, .f32⟩
  | 105 => ⟨S4096, .f32⟩
  | 106 => ⟨S4096x384, .f32⟩
  | 107 => ⟨S4096x384, .f32⟩
  | 108 => ⟨S4096x384, .f32⟩
  | 109 => ⟨S4096x384, .f32⟩
  | 110 => ⟨S4096x384, .f32⟩
  | 111 => ⟨S1x384, .f32⟩
  | 112 => ⟨S_, .f32⟩
  | 113 => ⟨S4096x704, .f32⟩
  | 114 => ⟨S_, .f32⟩
  | 115 => ⟨S4096x704, .f32⟩
  | 116 => ⟨S4096x704, .f32⟩
  | 117 => ⟨S_, .f32⟩
  | 118 => ⟨S4096x704, .f32⟩
  | 119 => ⟨S4096x704, .f32⟩
  | 120 => ⟨S4096x8x192, .f32⟩
  | 121 => ⟨S_, .i32⟩
  | 122 => ⟨S_, .f32⟩
  | 123 => ⟨S4096x8x256, .f32⟩
  | 124 => ⟨S4096x2048, .f32⟩
  | 125 => ⟨S4096x2048, .bf16⟩
  | 126 => ⟨S4096x8x128, .f32⟩
  | 127 => ⟨S4096x1024, .f32⟩
  | _ => ⟨S4096x704, .f32⟩

abbrev hbmTy0_2 (i : Nat) : BufTy := match i % 128 with
  | 0 => ⟨S4096x1024, .bf16⟩
  | 1 => ⟨S_, .i32⟩
  | 2 => ⟨S_, .f32⟩
  | 3 => ⟨S4096x768, .f32⟩
  | 4 => ⟨S4096x768, .bf16⟩
  | _ => ⟨S4096x704, .f32⟩

abbrev hbmTy (i : Nat) : BufTy := match i / 128 with
  | 0 => hbmTy0_0 i
  | 1 => hbmTy0_1 i
  | 2 => hbmTy0_2 i
  | _ => ⟨S4096x704, .f32⟩

abbrev bufTy : (tb : Table) → Fin (tcTables nBuf tb) → BufTy
  | .hbm, ⟨i, _⟩ => hbmTy i
  | _, _ => ⟨S4096x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_4 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_7 : Ref sig .tc := ⟨.hbm, 80, rfl⟩
abbrev main_v62 : Ref sig .tc := ⟨.hbm, 81, rfl⟩
abbrev main_cst_8 : Ref sig .tc := ⟨.hbm, 82, rfl⟩
abbrev main_v63 : Ref sig .tc := ⟨.hbm, 83, rfl⟩
abbrev main_v64 : Ref sig .tc := ⟨.hbm, 84, rfl⟩
abbrev main_cst_9 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_10 : Ref sig .tc := ⟨.hbm, 94, rfl⟩
abbrev main_v73 : Ref sig .tc := ⟨.hbm, 95, rfl⟩
abbrev main_v74 : Ref sig .tc := ⟨.hbm, 96, rfl⟩
abbrev main_cst_11 : Ref sig .tc := ⟨.hbm, 97, rfl⟩
abbrev main_v75 : Ref sig .tc := ⟨.hbm, 98, rfl⟩
abbrev main_v76 : Ref sig .tc := ⟨.hbm, 99, rfl⟩
abbrev main_cst_12 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_13 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_14 : Ref sig .tc := ⟨.hbm, 117, rfl⟩
abbrev main_v92 : Ref sig .tc := ⟨.hbm, 118, rfl⟩
abbrev main_v93 : Ref sig .tc := ⟨.hbm, 119, rfl⟩
abbrev main_cst_15 : Ref sig .tc := ⟨.hbm, 120, rfl⟩
abbrev main_v94 : Ref sig .tc := ⟨.hbm, 121, rfl⟩
abbrev main_v95 : Ref sig .tc := ⟨.hbm, 122, rfl⟩
abbrev main_cst_16 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_cst_17 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_cst_18 : Ref sig .tc := ⟨.hbm, 156, rfl⟩
abbrev main_v127 : Ref sig .tc := ⟨.hbm, 157, rfl⟩
abbrev main_v128 : Ref sig .tc := ⟨.hbm, 158, rfl⟩
abbrev main_cst_19 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_cst_20 : Ref sig .tc := ⟨.hbm, 170, rfl⟩
abbrev main_v139 : Ref sig .tc := ⟨.hbm, 171, rfl⟩
abbrev main_cst_21 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_cst_22 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_cst_23 : Ref sig .tc := ⟨.hbm, 190, rfl⟩
abbrev main_v156 : Ref sig .tc := ⟨.hbm, 191, rfl⟩
abbrev main_v157 : Ref sig .tc := ⟨.hbm, 192, rfl⟩
abbrev main_cst_24 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_cst_25 : Ref sig .tc := ⟨.hbm, 199, rfl⟩
abbrev main_v163 : Ref sig .tc := ⟨.hbm, 200, rfl⟩
abbrev main_v164 : Ref sig .tc := ⟨.hbm, 201, rfl⟩
abbrev main_cst_26 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_cst_27 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_cst_28 : Ref sig .tc := ⟨.hbm, 220, rfl⟩
abbrev main_v181 : Ref sig .tc := ⟨.hbm, 221, rfl⟩
abbrev main_v182 : Ref sig .tc := ⟨.hbm, 222, rfl⟩
abbrev main_cst_29 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_cst_30 : Ref sig .tc := ⟨.hbm, 229, rfl⟩
abbrev main_v188 : Ref sig .tc := ⟨.hbm, 230, rfl⟩
abbrev main_v189 : Ref sig .tc := ⟨.hbm, 231, rfl⟩
abbrev main_cst_31 : Ref sig .tc := ⟨.hbm, 232, rfl⟩
abbrev main_v190 : Ref sig .tc := ⟨.hbm, 233, rfl⟩
abbrev main_v191 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_cst_32 : Ref sig .tc := ⟨.hbm, 240, rfl⟩
abbrev main_v197 : Ref sig .tc := ⟨.hbm, 241, rfl⟩
abbrev main_cst_33 : Ref sig .tc := ⟨.hbm, 242, rfl⟩
abbrev main_v198 : Ref sig .tc := ⟨.hbm, 243, rfl⟩
abbrev main_v199 : Ref sig .tc := ⟨.hbm, 244, rfl⟩
abbrev main_cst_34 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_c : Ref sig .tc := ⟨.hbm, 249, rfl⟩
abbrev main_call0_v0 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_c_35 : Ref sig .tc := ⟨.hbm, 257, rfl⟩
abbrev main_call1_v0 : Ref sig .tc := ⟨.hbm, 258, rfl⟩
abbrev main_v209 : Ref sig .tc := ⟨.hbm, 259, rfl⟩
abbrev main_v210 : Ref sig .tc := ⟨.hbm, 260, rfl⟩

abbrev nD : Nat := 1
abbrev τ : Topo := Topo.v7x

variable {F : FTy → Type} [FloatOps F]
-- ==== Kernel6.lean ====
abbrev S4096x4096 : Shape := ⟨2, ![4096, 4096]⟩
abbrev S1x4096x1024 : Shape := ⟨3, ![1, 4096, 1024]⟩
abbrev S1x1024 : Shape := ⟨2, ![1, 1024]⟩
abbrev S4096x1024 : Shape := ⟨2, ![4096, 1024]⟩
abbrev S_ : Shape := ⟨0, ![]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1024 : Shape := ⟨1, ![1024]⟩

abbrev nBuf : Space → Nat
  | .hbm => 16
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S1x4096x1024, .f32⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S4096x1024, .f32⟩
  | .hbm, ⟨12, _⟩ => ⟨S4096x4096, .bf16⟩
  | .hbm, ⟨13, _⟩ => ⟨S4096x1024, .bf16⟩
  | .hbm, ⟨14, _⟩ => ⟨S4096x4096, .bf16⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x4096, .bf16⟩
  | .local _ .vmem, ⟨5, _⟩ => ⟨S512x4096, .bf16⟩
  | .local _ .vmem, ⟨6, _⟩ => ⟨S4096x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x4096, .bf16⟩
  | .local _ .vmem, ⟨11, _⟩ => ⟨S512x4096, .bf16⟩
  | .local _ .vmem, ⟨12, _⟩ => ⟨S1x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference6Ideal.lean ====
abbrev S4096x4096 : Shape := ⟨2, ![4096, 4096]⟩
abbrev S1x4096x1024 : Shape := ⟨3, ![1, 4096, 1024]⟩
abbrev S1x1024 : Shape := ⟨2, ![1, 1024]⟩
abbrev S4096x1024 : Shape := ⟨2, ![4096, 1024]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 72
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x1024, .f32⟩
  | .hbm, ⟨17, _⟩ => ⟨S4096x1024, .f32⟩
  | .hbm, ⟨18, _⟩ => ⟨S1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S1x1024, .f32⟩
  | .hbm, ⟨65, _⟩ => ⟨S4096x1024, .bf16⟩
  | .hbm, ⟨66, _⟩ => ⟨S4096x4096, .f32⟩
  | .hbm, ⟨67, _⟩ => ⟨S4096x4096, .f32⟩
  | .hbm, ⟨68, _⟩ => ⟨S_, .f32⟩
  | .hbm, ⟨69, _⟩ => ⟨S4096x4096, .f32⟩
  | .hbm, ⟨70, _⟩ => ⟨S4096x4096, .f32⟩
  | .hbm, ⟨71, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S1x1024x4096 : Shape := ⟨3, ![1, 1024, 4096]⟩
abbrev S4096x4096 : Shape := ⟨2, ![4096, 4096]⟩
abbrev S1024x4096 : Shape := ⟨2, ![1024, 4096]⟩
abbrev S1024x8x512 : Shape := ⟨3, ![1024, 8, 512]⟩
abbrev S8x1024x512 : Shape := ⟨3, ![8, 1024, 512]⟩
abbrev S512x4096 : Shape := ⟨2, ![512, 4096]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x4096, .f32⟩
  | .hbm, ⟨3, _⟩ => ⟨S4096x1024, .f32⟩
  | .hbm, ⟨4, _⟩ => ⟨S4096x4096, .bf16⟩
  | .hbm, ⟨5, _⟩ => ⟨S1024x4096, .f32⟩
  | .hbm, ⟨6, _⟩ => ⟨S1024x8x512, .f32⟩
  | .hbm, ⟨7, _⟩ => ⟨S8x1024x512, .f32⟩
  | .hbm, ⟨8, _⟩ => ⟨S8x1024x512, .bf16⟩
  | .hbm, ⟨9, _⟩ => ⟨S4096x1024, .f32⟩
  | .hbm, ⟨10, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024x512, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S4096x1024 : Shape := ⟨2, ![4096, 1024]⟩
abbrev S1x1024 : Shape := ⟨2, ![1, 1024]⟩
abbrev S1x1024x4096 : Shape := ⟨3, ![1, 1024, 4096]⟩
abbrev S4096x4096 : Shape := ⟨2, ![4096, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x4096, .f32⟩
  | .hbm, ⟨3, _⟩ => ⟨S4096x1024, .f32⟩
  | .hbm, ⟨4, _⟩ => ⟨S4096x4096, .bf16⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x4096, .f32⟩
  | .hbm, ⟨27, _⟩ => ⟨S4096x4096, .f32⟩
  | .hbm, ⟨28, _⟩ => ⟨S4096x4096, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S1x1024x4800 : Shape := ⟨3, ![1, 1024, 4800]⟩
abbrev S4096x704 : Shape := ⟨2, ![4096, 704]⟩
abbrev S1024x4800 : Shape := ⟨2, ![1024, 4800]⟩
abbrev S4800x1024 : Shape := ⟨2, ![4800, 1024]⟩
abbrev S704x1024 : Shape := ⟨2, ![704, 1024]⟩
abbrev S_ : Shape := ⟨0, ![]⟩
abbrev S64x1024 : Shape := ⟨2, ![64, 1024]⟩
abbrev S4864x1024 : Shape := ⟨2, ![4864, 1024]⟩
abbrev S4096x768 : Shape := ⟨2, ![4096, 768]⟩
abbrev S512x768 : Shape := ⟨2, ![512, 768]⟩
abbrev S512x1024 : Shape := ⟨2, ![512, 1024]⟩
abbrev S768x1024 : Shape := ⟨2, ![768, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 22
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x4800, .f32⟩
  | .hbm, ⟨3, _⟩ => ⟨S4096x1024, .f32⟩
  | .hbm, ⟨4, _⟩ => ⟨S4096x704, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S1024x4800, .f32⟩
  | .hbm, ⟨10, _⟩ => ⟨S4800x1024, .f32⟩
  | .hbm, ⟨11, _⟩ => ⟨S704x1024, .f32⟩
  | .hbm, ⟨12, _⟩ => ⟨S_, .f32⟩
  | .hbm, ⟨13, _⟩ => ⟨S64x1024, .f32⟩
  | .hbm, ⟨14, _⟩ => ⟨S4096x1024, .f32⟩
  | .hbm, ⟨15, _⟩ => ⟨S4864x1024, .f32⟩
  | .hbm, ⟨16, _⟩ => ⟨S4864x1024, .bf16⟩
  | .hbm, ⟨17, _⟩ => ⟨S_, .i32⟩
  | .hbm, ⟨18, _⟩ => ⟨S_, .bf16⟩
  | .hbm, ⟨19, _⟩ => ⟨S4096x768, .bf16⟩
  | .hbm, ⟨20, _⟩ => ⟨S4096x1024, .f32⟩
  | .hbm, ⟨21, _⟩ => ⟨S1x1024, .f32⟩
  | .local _ .vmem, ⟨0, _⟩ => ⟨S512x768, .bf16⟩
  | .local _ .vmem, ⟨1, _⟩ => ⟨S512x768, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S4864x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4864x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference8Ideal.lean ====
abbrev S4096x1024 : Shape := ⟨2, ![4096, 1024]⟩
abbrev S1x1024 : Shape := ⟨2, ![1, 1024]⟩
abbrev S1x1024x4800 : Shape := ⟨3, ![1, 1024, 4800]⟩
abbrev S4096x704 : Shape := ⟨2, ![4096, 704]⟩
abbrev S4096x4800 : Shape := ⟨2, ![4096, 4800]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4800 : Shape := ⟨2, ![1024, 4800]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024x4800, .f32⟩
  | .hbm, ⟨3, _⟩ => ⟨S4096x1024, .f32⟩
  | .hbm, ⟨4, _⟩ => ⟨S4096x704, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x4800, .bf16⟩
  | .hbm, ⟨10, _⟩ => ⟨S4096x4800, .f32⟩
  | .hbm, ⟨11, _⟩ => ⟨S1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1024x4800, .f32⟩
  | .hbm, ⟨33, _⟩ => ⟨S4096x4800, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel9.lean ====
abbrev S4096x4096 : Shape := ⟨2, ![4096, 4096]⟩
abbrev S4096x1024 : Shape := ⟨2, ![4096, 1024]⟩
abbrev S1x4096x1024 : Shape := ⟨3, ![1, 4096, 1024]⟩
abbrev S1x1024 : Shape := ⟨2, ![1, 1024]⟩
abbrev S8x128 : Shape := ⟨2, ![8, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 10
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S1x4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S4096x1024, .f32⟩
  | .hbm, ⟨9, _⟩ => ⟨S8x128, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4096x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S8x128, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference9Ideal.lean ====
abbrev S4096x4096 : Shape := ⟨2, ![4096, 4096]⟩
abbrev S4096x1024 : Shape := ⟨2, ![4096, 1024]⟩
abbrev S1x4096x1024 : Shape := ⟨3, ![1, 4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x128 : Shape := ⟨2, ![8, 128]⟩

abbrev nBuf : Space → Nat
  | .hbm => 52
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4096x1024, .f32⟩
  | .hbm, ⟨3, _⟩ => ⟨S1x4096x1024, .f32⟩
  | .hbm, ⟨4, _⟩ => ⟨S1x1024, .f32⟩
  | .hbm, ⟨5, _⟩ => ⟨S4096x4096, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S_, .f32⟩
  | .hbm, ⟨51, _⟩ => ⟨S8x128, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]
-- ==== Proof.Common.Lift.lean ====
/-
  Arrays of finite extended reals as arrays of real numbers.

  Every value claim here is proved the same way: its arguments are finite, so each is the image of an array of reals
  (`up1`, `up2`, `up3`); every operation of the two programs then stays inside the reals, and its value is read off by
  the lemmas below. The algebra is done over ℝ, where it is `ring` and sums.
-/
module

public import Idealize.ShloMosaic.Lib.Pointwise

@[expose] public section

noncomputable section

open Idealize.ShloMosaic

namespace Cert.Lift

/-- A vector of reals as a vector of extended reals. -/
def up1 {n : ℕ} (X : Fin n → ℝ) : (⟨1, ![n]⟩ : Shape).Idx → EReal := fun i => ((X (i 0) : ℝ) : EReal)

/-- A matrix of reals as a matrix of extended reals. -/
def up2 {n p : ℕ} (X : Fin n → Fin p → ℝ) : (⟨2, ![n, p]⟩ : Shape).Idx → EReal := fun i => ((X (i 0) (i 1) : ℝ) : EReal)

/-- A rank three array of reals as one of extended reals. -/
def up3 {n p q : ℕ} (X : Fin n → Fin p → Fin q → ℝ) : (⟨3, ![n, p, q]⟩ : Shape).Idx → EReal :=
  fun i => ((X (i 0) (i 1) (i 2) : ℝ) : EReal)

theorem up1_apply {n : ℕ} (X : Fin n → ℝ) (i : (⟨1, ![n]⟩ : Shape).Idx) : up1 X i = ((X (i 0) : ℝ) : EReal) := rfl

theorem up2_apply {n p : ℕ} (X : Fin n → Fin p → ℝ) (i : (⟨2, ![n, p]⟩ : Shape).Idx) :
    up2 X i = ((X (i 0) (i 1) : ℝ) : EReal) := rfl

theorem up3_apply {n p q : ℕ} (X : Fin n → Fin p → Fin q → ℝ) (i : (⟨3, ![n, p, q]⟩ : Shape).Idx) :
    up3 X i = ((X (i 0) (i 1) (i 2) : ℝ) : EReal) := rfl

theorem up1_ix {n : ℕ} (X : Fin n → ℝ) (a : Fin n) : up1 X (ix1 a) = ((X a : ℝ) : EReal) := rfl

theorem up2_ix {n p : ℕ} (X : Fin n → Fin p → ℝ) (a : Fin n) (b : Fin p) : up2 X (ix2 a b) = ((X a b : ℝ) : EReal) := rfl

theorem up3_ix {n p q : ℕ} (X : Fin n → Fin p → Fin q → ℝ) (a : Fin n) (b : Fin p) (c : Fin q) :
    up3 X (ix3 a b c) = ((X a b c : ℝ) : EReal) := rfl

/-- A real matrix read through a map of indices that moves each axis by itself. -/
theorem up2_comp {n p n' p' : ℕ} (X : Fin n → Fin p → ℝ) (e : (⟨2, ![n', p']⟩ : Shape).Idx → (⟨2, ![n, p]⟩ : Shape).Idx)
    (f : Fin n' → Fin n) (g : Fin p' → Fin p) (h0 : ∀ j, (e j 0).val = (f (j 0)).val) (h1 : ∀ j, (e j 1).val = (g (j 1)).val) :
    (fun j => up2 X (e j)) = up2 fun a b => X (f a) (g b) :=
  funext fun j => congrArg (fun z : ℝ => (z : EReal)) (congrArg₂ X (Fin.ext (h0 j)) (Fin.ext (h1 j)))

/-- An extended real whose absolute value is below infinity is a real. -/
theorem real_of_abs_lt_top {x : EReal} (h : max x (-x) < ⊤) : ∃ r : ℝ, x = (r : EReal) := by
  induction x with
  | bot => simp at h
  | coe r => exact ⟨r, rfl⟩
  | top => simp at h

/-- A finite matrix is the image of a real one. -/
theorem exists_up2 {n p : ℕ} {x : (⟨2, ![n, p]⟩ : Shape).Idx → EReal} (h : ∀ i, max (x i) (-(x i)) < ⊤) :
    ∃ X : Fin n → Fin p → ℝ, x = up2 X := by
  choose f hf using fun i => real_of_abs_lt_top (h i)
  exact ⟨fun a b => f (ix2 a b), funext fun i => (hf i).trans (by rw [up2_apply, ← eq_ix2 i])⟩

/-- A finite rank three array is the image of a real one. -/
theorem exists_up3 {n p q : ℕ} {x : (⟨3, ![n, p, q]⟩ : Shape).Idx → EReal} (h : ∀ i, max (x i) (-(x i)) < ⊤) :
    ∃ X : Fin n → Fin p → Fin q → ℝ, x = up3 X := by
  choose f hf using fun i => real_of_abs_lt_top (h i)
  exact ⟨fun a b c => f (ix3 a b c), funext fun i => (hf i).trans (by rw [up3_apply, ← eq_ix3 i])⟩

/-- The image of a finite sum of reals. -/
theorem coe_sum {ι : Type*} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- A real quotient by a nonzero real. -/
theorem div_real (x : ℝ) {y : ℝ} (h : y ≠ 0) : Ideal.div (x : EReal) (y : EReal) = ((x / y : ℝ) : EReal) := by
  rw [Ideal.div_coe h, ← EReal.coe_mul, mul_one_div]

/-- The reciprocal square root of a positive real. -/
theorem rsqrt_real {r : ℝ} (h : 0 < r) : Ideal.rsqrt (r : EReal) = (((Real.sqrt r)⁻¹ : ℝ) : EReal) := by
  rw [Ideal.rsqrt_coe, if_neg h.le.not_gt, if_neg h.ne']

/-- The image of a maximum. -/
theorem coe_max (x y : ℝ) : ((max x y : ℝ) : EReal) = max (x : EReal) (y : EReal) :=
  (Monotone.map_max (fun _ _ h => EReal.coe_le_coe_iff.mpr h))

/-- The number the norms add under their square root, as the nearest 32-bit float. -/
def eps : ℝ := 8796093 * (2 : ℝ) ^ (-43 : ℤ)

theorem eps_pos : 0 < eps := by unfold eps; positivity

theorem lit_eps : Ideal.ofBits .f32 0x358637BD#32 = ((eps : ℝ) : EReal) := by
  unfold eps; simp [Ideal.ofBits, Ideal.ieee, -EReal.coe_mul]

theorem lit_one : Ideal.ofBits .f32 0x3F800000#32 = ((1 : ℝ) : EReal) := by
  simp [Ideal.ofBits, Ideal.ieee, -EReal.coe_mul]; norm_num

theorem lit_zero : Ideal.ofBits .f32 0x00000000#32 = ((0 : ℝ) : EReal) := by
  simp [Ideal.ofBits, Ideal.ieee]

theorem lit_two : Ideal.ofBits .f32 0x40000000#32 = ((2 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; norm_num

theorem lit_2048 : Ideal.ofBits .f32 0x45000000#32 = ((2048 : ℝ) : EReal) := by
  simp [Ideal.ofBits, Ideal.ieee, -EReal.coe_mul]; norm_num

theorem lit_inv_1024 : Ideal.ofBits .f32 0x3A800000#32 = ((1 / 1024 : ℝ) : EReal) := by
  simp [Ideal.ofBits, Ideal.ieee, -EReal.coe_mul]; norm_num

theorem lit_1024 : Ideal.ofBits .f32 0x44800000#32 = ((1024 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

end Cert.Lift
-- ==== Proof.Common.Finite.lean ====
/-
  What the precondition says: an array whose mask `abs x < inf` is all ones holds real numbers only.
-/
module

public import proofs.«01_k».proof.Proof.Common.Lift

@[expose] public section

noncomputable section

open Idealize.ShloMosaic

namespace Cert.Lift

/-- The 32-bit infinity is the top extended real. -/
theorem lit_inf : Ideal.ofBits .f32 0x7F800000#32 = ⊤ := by
  simp [Ideal.ofBits, Ideal.ieee]

/-- The 16-bit infinity is the top extended real. -/
theorem lit_inf16 : Ideal.ofBits .bf16 0x7F80#16 = ⊤ := by
  simp [Ideal.ofBits, Ideal.ieee]

/-- A mask bit that is one says the comparison holds. -/
theorem lt_of_cmp {x y : EReal} (h : Ideal.cmp .olt x y = 1#1) : x < y := by
  by_contra hn
  simp [Ideal.cmp, hn] at h

/-- A 32-bit array whose mask is all ones is below infinity in absolute value. -/
theorem below_of_mask {S : Shape} {h} {x : FVec Ideal S .f32}
    (e : cmpf .olt (Host.absf x) (broadcastInDim S ![] h (constant ⟨0, ![]⟩ .f32 0x7F800000#32)) = fun _ => 1#1) (i : S.Idx) :
    max (x i) (-(x i)) < ⊤ :=
  lt_of_cmp ((congrArg (Ideal.cmp .olt (max (x i) (-(x i)))) lit_inf.symm).trans (congrFun e i))

/-- A 16-bit array whose mask is all ones is below infinity in absolute value. -/
theorem below_of_mask16 {S : Shape} {h} {x : FVec Ideal S .bf16}
    (e : cmpf .olt (Host.absf x) (broadcastInDim S ![] h (constant ⟨0, ![]⟩ .bf16 0x7F80#16)) = fun _ => 1#1) (i : S.Idx) :
    max (x i) (-(x i)) < ⊤ :=
  lt_of_cmp ((congrArg (Ideal.cmp .olt (max (x i) (-(x i)))) lit_inf16.symm).trans (congrFun e i))

end Cert.Lift

end
-- ==== Proof.Common.Norm.lean ====
/-
  One row of a layer norm followed by the sigmoid-weighted unit, and its gradient: the real formulas both programs'
  values are read as.
-/
module

public import proofs.«01_k».proof.Proof.Common.Lift

@[expose] public section

noncomputable section

open Idealize.ShloMosaic

namespace Cert.Lift

/-- The logistic function. -/
def sig (t : ℝ) : ℝ := 1 / (1 + Real.exp (0 - t))

/-- The mean of a row of 1024. -/
def mean (x : Fin 1024 → ℝ) : ℝ := (∑ k, x k) / 1024

/-- A row less its mean. -/
def cen (x : Fin 1024 → ℝ) (c : Fin 1024) : ℝ := x c - mean x

/-- The reciprocal of a row's standard deviation. -/
def rstd (x : Fin 1024 → ℝ) : ℝ := (Real.sqrt (mean (fun k => cen x k * cen x k) + eps))⁻¹

/-- The normalised row. -/
def nrm (x : Fin 1024 → ℝ) (c : Fin 1024) : ℝ := cen x c * rstd x

theorem mean_sq_pos (x : Fin 1024 → ℝ) : 0 < mean (fun k => x k * x k) + eps :=
  add_pos_of_nonneg_of_pos (div_nonneg (Finset.sum_nonneg fun k _ => mul_self_nonneg (x k)) (by norm_num)) eps_pos

/-- The logistic function as a kernel writes it. -/
theorem sig_real (t : ℝ) : Ideal.div 1 (1 + Ideal.exp (0 - (t : EReal))) = ((sig t : ℝ) : EReal) := by
  rw [← EReal.coe_one, ← EReal.coe_zero, ← EReal.coe_sub, Ideal.exp_coe, ← EReal.coe_add,
    div_real _ (by positivity : (1 : ℝ) + Real.exp (0 - t) ≠ 0)]
  rfl

/-- The logistic function as the host writes it. -/
theorem sig_real_host (t : ℝ) : Ideal.div 1 (1 + Ideal.exp (-(t : EReal))) = ((sig t : ℝ) : EReal) := by
  rw [← sig_real, _root_.zero_sub]

/-- The derivative of `t * sig t`. -/
def dsilu (t : ℝ) : ℝ := sig t + t * sig t * (1 - sig t)

/-- The gradient of the normalised row `h` of scale `s` at the cotangent `d`. -/
def nrmGrad (s : ℝ) (h d : Fin 1024 → ℝ) (c : Fin 1024) : ℝ :=
  s * (d c - mean d - h c * mean (fun k => d k * h k))

theorem sum_cen (x : Fin 1024 → ℝ) : ∑ k, cen x k = 0 := by
  unfold cen mean
  rw [Finset.sum_sub_distrib, Finset.sum_const, Finset.card_univ, Fintype.card_fin, nsmul_eq_mul]
  push_cast
  ring

theorem rstd_sq (x : Fin 1024 → ℝ) : rstd x * rstd x * (mean (fun k => cen x k * cen x k) + eps) = 1 := by
  have h := mean_sq_pos (cen x)
  unfold rstd
  rw [← mul_inv, Real.mul_self_sqrt h.le, inv_mul_cancel₀ h.ne']

/-- What differentiating the mean, the variance and the reciprocal root one by one gives is the norm's gradient. -/
theorem nrmGrad_of_steps (x d : Fin 1024 → ℝ) (c : Fin 1024) {q : ℝ}
    (hq : q = (∑ k, cen x k * d k) * (-(1 / 2) * (rstd x / (mean (fun k => cen x k * cen x k) + eps))) / 1024) :
    (d c * rstd x + cen x c * q + q * cen x c) + (∑ k, -(d k * rstd x + cen x k * q + q * cen x k)) / 1024
      = nrmGrad (rstd x) (nrm x) d c := by
  have hs := mean_sq_pos (cen x)
  have hr := rstd_sq x
  have e1 : ∑ k, -(d k * rstd x + cen x k * q + q * cen x k) = -((∑ k, d k) * rstd x) := by
    have : ∀ k, -(d k * rstd x + cen x k * q + q * cen x k) = -(d k * rstd x) + (-2 * q) * cen x k := fun k => by ring
    simp only [this]
    rw [Finset.sum_add_distrib, ← Finset.mul_sum, sum_cen, Finset.sum_neg_distrib, Finset.sum_mul]
    ring
  have e2 : mean (fun k => d k * nrm x k) = (∑ k, cen x k * d k) * rstd x / 1024 := by
    unfold mean nrm
    rw [Finset.sum_mul]
    exact congrArg (· / 1024) (Finset.sum_congr rfl fun k _ => by ring)
  have e3 : q = -(1 / 2) * (∑ k, cen x k * d k) * (rstd x * rstd x * rstd x) / 1024 := by
    rw [hq]
    have : rstd x / (mean (fun k => cen x k * cen x k) + eps) = rstd x * rstd x * rstd x := by
      rw [div_eq_iff hs.ne']
      linear_combination -rstd x * hr
    rw [this]
    ring
  rw [e1, nrmGrad, e2, e3]
  unfold nrm mean
  ring

end Cert.Lift
-- ==== Proof.Ln.Body.lean ====
/-
  The layer norm's backward kernel: the values its body computes from one block of 256 rows.
-/
module

public import proofs.«01_k».proof.Proof.Common.Norm
public import proofs.«01_k».proof.Proof.Gen.KernelIdeal.Skeleton

@[expose] public section

set_option maxRecDepth 16384

noncomputable section

open Idealize.ShloMosaic Cert.Lift

namespace Cert.Ln

open Cert.KernelIdeal Cert.KernelIdeal.Gen

/-- Mean and division by the row length, as reals. -/
theorem div_1024 (x : ℝ) : Ideal.div (x : EReal) ((1024 : ℝ) : EReal) = ((x / 1024 : ℝ) : EReal) :=
  div_real x (by norm_num)

theorem pay3 (X : Fin 256 → Fin 1024 → ℝ) : k0_pay3 (F := Ideal) (up2 X) = up2 fun r => cen (X r) := by
  funext j
  idx_vars j
  pointwise [k0_pay3]
  simp only [up2_ix, zero_add, ← coe_sum, lit_1024, div_1024, ← EReal.coe_sub]
  rfl

theorem pay4 (X : Fin 256 → Fin 1024 → ℝ) : k0_pay4 (F := Ideal) (up2 X) = up2 fun r _ => rstd (X r) := by
  funext j
  idx_vars j
  unfold k0_pay4
  rw [pay3]
  pointwise
  simp only [up2_ix, zero_add, ← EReal.coe_mul, ← coe_sum, lit_1024, div_1024, lit_eps, ← EReal.coe_add]
  exact rsqrt_real (mean_sq_pos (cen (X j0)))

theorem pay5 (X : Fin 256 → Fin 1024 → ℝ) : k0_pay5 (F := Ideal) (up2 X) = up2 fun r => nrm (X r) := by
  funext j
  idx_vars j
  unfold k0_pay5
  rw [pay3, pay4]
  pointwise
  simp only [up2_ix, ← EReal.coe_mul]
  rfl

/-- The cotangent of the norm's output: the unit's derivative at the norm's output times the cotangent. -/
def ctY (g b x d : Fin 1024 → ℝ) (c : Fin 1024) : ℝ := d c * dsilu (nrm x c * g c + b c)

theorem pay6 (X D : Fin 256 → Fin 1024 → ℝ) (G B : Fin 1 → Fin 1024 → ℝ) :
    k0_pay6 (F := Ideal) (up2 X) (up2 G) (up2 B) (up2 D) = up2 fun r => ctY (G 0) (B 0) (X r) (D r) := by
  funext j
  idx_vars j
  unfold k0_pay6
  rw [pay5]
  pointwise
  simp only [up2_ix, ← EReal.coe_mul, ← EReal.coe_add, sig_real]
  simp only [← EReal.coe_one, ← EReal.coe_mul, ← EReal.coe_add, ← EReal.coe_sub]
  rfl

theorem pay7 (X D : Fin 256 → Fin 1024 → ℝ) (G B : Fin 1 → Fin 1024 → ℝ) :
    k0_pay7 (F := Ideal) (up2 X) (up2 G) (up2 B) (up2 D) = up2 fun _ c => ∑ r, ctY (G 0) (B 0) (X r) (D r) c := by
  funext j
  idx_vars j
  unfold k0_pay7
  rw [pay6]
  pointwise
  simp only [up2_ix, zero_add, ← coe_sum]

theorem pay9 (X Y : Fin 1 → Fin 1024 → ℝ) : k0_pay9 (F := Ideal) (up2 X) (up2 Y) = up2 fun r c => Y r c + X r c := by
  funext j
  idx_vars j
  pointwise [k0_pay9]
  simp only [up2_ix, ← EReal.coe_add]

theorem pay11 (H D : Fin 256 → Fin 1024 → ℝ) (Y : Fin 1 → Fin 1024 → ℝ) :
    k0_pay11 (F := Ideal) (up2 H) (up2 D) (up2 Y) = up2 fun r c => Y r c + ∑ k, D k c * H k c := by
  funext j
  idx_vars j
  pointwise [k0_pay11]
  simp only [up2_ix, zero_add, ← EReal.coe_mul, ← coe_sum, ← EReal.coe_add]

theorem pay2 (D : Fin 256 → Fin 1024 → ℝ) (Y : Fin 1 → Fin 1024 → ℝ) :
    k0_pay2 (F := Ideal) (up2 D) (up2 Y) = up2 fun r c => Y r c + ∑ k, D k c := by
  funext j
  idx_vars j
  pointwise [k0_pay2]
  simp only [up2_ix, zero_add, ← coe_sum, ← EReal.coe_add]

theorem pay12 (H D : Fin 256 → Fin 1024 → ℝ) (G : Fin 1 → Fin 1024 → ℝ) (S : Fin 256 → Fin 1 → ℝ) :
    k0_pay12 (F := Ideal) (up2 G) (up2 S) (up2 H) (up2 D)
      = up2 fun r => nrmGrad (S r 0) (H r) fun c => D r c * G 0 c := by
  funext j
  idx_vars j
  pointwise [k0_pay12]
  simp only [up2_ix, zero_add, ← EReal.coe_mul, ← coe_sum, lit_1024, div_1024, ← EReal.coe_sub]
  rfl

theorem pay1 : k0_pay1 (F := Ideal) = up2 fun _ _ => 0 := by
  funext j
  idx_vars j
  pointwise [k0_pay1]
  rfl

theorem pay8 : k0_pay8 (F := Ideal) = up2 fun _ _ => 0 := pay1

theorem pay10 : k0_pay10 (F := Ideal) = up2 fun _ _ => 0 := pay1

end Cert.Ln
-- ==== Proof.Ln.Points.lean ====
/-
  The layer norm's backward kernel, point by point: what its body leaves in the four output blocks, as the payloads of
  the stores over the input blocks and, for the three accumulators, what the point before left.
-/
module

public import proofs.«01_k».proof.Proof.Ln.Body
public import proofs.«01_k».proof.Proof.Gen.KernelIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem Cert.Lift

namespace Cert.Ln

open Cert.KernelIdeal Cert.KernelIdeal.Gen

theorem hz : (![0, 0] : Fin 2 → Nat) = fun _ => 0 := funext fun a => by fin_cases a <;> rfl

/-- The four output blocks after a point, over its input blocks and the accumulators before it. -/
def step {F : FTy → Type} [FloatOps F] (d : Vec F S256x1024 .bf16) (x : Vec F S256x1024 .f32) (g b o5 o6 o7 : Vec F S1x1024 .f32) :
    Vec F S256x1024 .f32 × Vec F S1x1024 .f32 × Vec F S1x1024 .f32 × Vec F S1x1024 .f32 :=
  (k0_pay12 g (k0_pay4 x) (k0_pay5 x) (k0_pay6 x g b d),
    k0_pay11 (k0_pay5 x) (k0_pay6 x g b d) o5,
    k0_pay9 (k0_pay7 x g b d) o6,
    k0_pay2 (k0_pay12 g (k0_pay4 x) (k0_pay5 x) (k0_pay6 x g b d)) o7)

variable {F : FTy → Type} [FloatOps F]
variable (m : (ℓ : Loc nD τ sig) → Buf (Elt F) ℓ)

theorem outs_B (c : Dev nD) (t : Fin cfg0.N) (h : ¬t.val % 16 = 0) :
    outsAt0 m c t.val t.isLt = step (iblk m c 0 t) (iblk m c 1 t) (iblk m c 2 t) (iblk m c 3 t)
      (outsAt0 m c (t.val - 1) (Nat.lt_of_le_of_lt (Nat.sub_le _ _) t.isLt)).2.1
      (outsAt0 m c (t.val - 1) (Nat.lt_of_le_of_lt (Nat.sub_le _ _) t.isLt)).2.2.1
      (outsAt0 m c (t.val - 1) (Nat.lt_of_le_of_lt (Nat.sub_le _ _) t.isLt)).2.2.2 := by
  rw [outsAt0_B m c t h h h]
  generalize outsAt0 m c (t.val - 1) _ = prev
  generalize iblk m c 0 t = x0
  generalize iblk m c 1 t = x1
  generalize iblk m c 2 t = x2
  generalize iblk m c 3 t = x3
  refine Prod.ext ?_ (Prod.ext ?_ (Prod.ext ?_ ?_)) <;> dsimp only
  · unfold out0_B_4
    refine (View.read_writes_eq_canon _ _ _ fun _ => cover0_B_4 ..).trans ?_
    unfold kernelRun0_B
    dsimp only
    sl_unfold_words
    rw [View.canon_unit_zero hz]
    simp only [View.readAt_eq_ld, Memref.IsWhole.read_unread, View.ld_unit_zero (S := S256x1024) hz, View.ld_unit_zero (S := S1x1024) hz]
    rfl
  · unfold out0_B_5
    refine (View.read_writes_eq_canon _ _ _ fun _ => cover0_B_5 ..).trans ?_
    unfold kernelRun0_B
    dsimp only
    sl_unfold_words
    rw [View.canon_unit_zero hz]
    simp only [View.readAt_eq_ld, Memref.IsWhole.read_unread, View.ld_unit_zero (S := S256x1024) hz, View.ld_unit_zero (S := S1x1024) hz]
    rfl
  · unfold out0_B_6
    refine (View.read_writes_eq_canon _ _ _ fun _ => cover0_B_6 ..).trans ?_
    unfold kernelRun0_B
    dsimp only
    sl_unfold_words
    rw [View.canon_unit_zero hz]
    simp only [View.readAt_eq_ld, Memref.IsWhole.read_unread, View.ld_unit_zero (S := S256x1024) hz, View.ld_unit_zero (S := S1x1024) hz]
    rfl
  · unfold out0_B_7
    refine (View.read_writes_eq_canon _ _ _ fun _ => cover0_B_7 ..).trans ?_
    unfold kernelRun0_B
    dsimp only
    sl_unfold_words
    rw [View.canon_unit_zero hz]
    simp only [View.readAt_eq_ld, Memref.IsWhole.read_unread, View.ld_unit_zero (S := S256x1024) hz, View.ld_unit_zero (S := S1x1024) hz]
    rfl

theorem outs_A (c : Dev nD) (t : Fin cfg0.N) (h : t.val % 16 = 0) :
    outsAt0 m c t.val t.isLt = step (iblk m c 0 t) (iblk m c 1 t) (iblk m c 2 t) (iblk m c 3 t) k0_pay10 k0_pay8 k0_pay1 := by
  rw [outsAt0_A m c t h h h]
  generalize iblk m c 0 t = x0
  generalize iblk m c 1 t = x1
  generalize iblk m c 2 t = x2
  generalize iblk m c 3 t = x3
  refine Prod.ext ?_ (Prod.ext ?_ (Prod.ext ?_ ?_)) <;> dsimp only
  · unfold out0_A_4
    refine (View.read_writes_eq_canon _ _ _ fun _ => cover0_A_4 ..).trans ?_
    unfold kernelRun0_A
    dsimp only
    sl_unfold_words
    rw [View.canon_unit_zero hz]
    simp only [View.readAt_eq_ld, Memref.IsWhole.read_unread, View.ld_unit_zero (S := S256x1024) hz, View.ld_unit_zero (S := S1x1024) hz]
    rfl
  · unfold out0_A_5
    refine (View.read_writes_eq_canon _ _ _ fun _ => cover0_A_5 ..).trans ?_
    unfold kernelRun0_A
    dsimp only
    sl_unfold_words
    rw [View.canon_cons_unit_zero (S := S1x1024) hz]
    simp only [View.readCov_unit_zero (S := S1x1024) _ hz, View.readAt_eq_ld, Memref.IsWhole.read_unread, View.ld_unit_zero (S := S256x1024) hz, View.ld_unit_zero (S := S1x1024) hz]
    rfl
  · unfold out0_A_6
    refine (View.read_writes_eq_canon _ _ _ fun _ => cover0_A_6 ..).trans ?_
    unfold kernelRun0_A
    dsimp only
    sl_unfold_words
    rw [View.canon_cons_unit_zero (S := S1x1024) hz]
    simp only [View.readCov_unit_zero (S := S1x1024) _ hz, View.readAt_eq_ld, Memref.IsWhole.read_unread, View.ld_unit_zero (S := S256x1024) hz, View.ld_unit_zero (S := S1x1024) hz]
    rfl
  · unfold out0_A_7
    refine (View.read_writes_eq_canon _ _ _ fun _ => cover0_A_7 ..).trans ?_
    unfold kernelRun0_A
    dsimp only
    sl_unfold_words
    rw [View.canon_cons_unit_zero (S := S1x1024) hz]
    simp only [View.readCov_unit_zero (S := S1x1024) _ hz, View.readAt_eq_ld, Memref.IsWhole.read_unread, View.ld_unit_zero (S := S256x1024) hz, View.ld_unit_zero (S := S1x1024) hz]
    rfl

end Cert.Ln
-- ==== Proof.Common.Tile.lean ====
/-
  Sums over the rows of an array taken tile by tile: a grid point `s` covers rows `s * B … s * B + B - 1`.
-/
module

public import proofs.«01_k».proof.Proof.Common.Lift

@[expose] public section

noncomputable section

namespace Cert.Lift

/-- Row `r` of tile `s`, of tiles of `B` rows among `N`. -/
def tileIx (N : ℕ) [NeZero N] (B s : ℕ) (r : Fin B) : Fin N := Fin.ofNat N (s * B + r.val)

theorem tileIx_val {N : ℕ} [NeZero N] {B s : ℕ} (r : Fin B) (h : s * B + B ≤ N) : (tileIx N B s r).val = s * B + r.val :=
  Nat.mod_eq_of_lt (by have := r.isLt; omega)

/-- The sum over all rows is the sum over the tiles of the sums over each tile's rows. -/
theorem sum_tiles {M : Type*} [AddCommMonoid M] {N : ℕ} [NeZero N] (A B : ℕ) (h : A * B = N) (f : Fin N → M) :
    ∑ s ∈ Finset.range A, ∑ r : Fin B, f (tileIx N B s r) = ∑ i, f i := by
  subst h
  rw [Finset.sum_range, ← Fintype.sum_prod_type', ← finProdFinEquiv.sum_comp]
  refine Finset.sum_congr rfl fun p _ => congrArg f (Fin.ext ?_)
  have hp := p.1.isLt
  rw [tileIx_val _ (by nlinarith [Nat.mul_le_mul_right B (Nat.succ_le_of_lt hp), Nat.succ_mul p.1.val B])]
  simp [finProdFinEquiv]
  ring

/-- The sum of `f` over the rows of the first `n` tiles of `B` rows. -/
def part {N : ℕ} [NeZero N] (B : ℕ) (f : Fin N → ℝ) (n : ℕ) : ℝ := ∑ s ∈ Finset.range n, ∑ r : Fin B, f (tileIx N B s r)

theorem part_zero {N : ℕ} [NeZero N] (B : ℕ) (f : Fin N → ℝ) : part B f 0 = 0 := rfl

theorem part_one {N : ℕ} [NeZero N] (B : ℕ) (f : Fin N → ℝ) : part B f 1 = ∑ r : Fin B, f (tileIx N B 0 r) :=
  Finset.sum_range_one _

theorem part_succ {N : ℕ} [NeZero N] (B : ℕ) (f : Fin N → ℝ) (n : ℕ) :
    part B f (n + 1) = part B f n + ∑ r : Fin B, f (tileIx N B n r) := Finset.sum_range_succ _ n

theorem part_all {N : ℕ} [NeZero N] {A B : ℕ} (h : A * B = N) (f : Fin N → ℝ) : part B f A = ∑ i, f i := sum_tiles A B h f

end Cert.Lift
-- ==== Proof.Ln.Result.lean ====
/-
  The layer norm's backward kernel: its four results as arrays of reals, from the arrays its windows read.
-/
module

public import proofs.«01_k».proof.Proof.Ln.Points
public import proofs.«01_k».proof.Proof.Common.Tile
public import proofs.«01_k».proof.Proof.Gen.KernelIdeal.Value

@[expose] public section

set_option maxRecDepth 16384

noncomputable section

open Idealize.ShloMosaic Idealize.ShloMosaic.TcCoe Idealize.SL.Sem Cert.Lift
open Idealize.ShloMosaic.Pipeline (Dat)

namespace Cert.Ln

open Cert.KernelIdeal Cert.KernelIdeal.Gen

/-- The gradient of the norm's input, row by row. -/
def dX (X D : Fin 4096 → Fin 1024 → ℝ) (G B : Fin 1 → Fin 1024 → ℝ) (r : Fin 4096) : Fin 1024 → ℝ :=
  nrmGrad (rstd (X r)) (nrm (X r)) fun c => ctY (G 0) (B 0) (X r) (D r) c * G 0 c

/-- A row's term of the gradients of the scale, of the shift, and of the bias added before the norm. -/
def gG (X D : Fin 4096 → Fin 1024 → ℝ) (G B : Fin 1 → Fin 1024 → ℝ) (k : Fin 1024) (i : Fin 4096) : ℝ :=
  ctY (G 0) (B 0) (X i) (D i) k * nrm (X i) k
@[inherit_doc gG]
def gB (X D : Fin 4096 → Fin 1024 → ℝ) (G B : Fin 1 → Fin 1024 → ℝ) (k : Fin 1024) (i : Fin 4096) : ℝ :=
  ctY (G 0) (B 0) (X i) (D i) k
@[inherit_doc gG]
def gX (X D : Fin 4096 → Fin 1024 → ℝ) (G B : Fin 1 → Fin 1024 → ℝ) (k : Fin 1024) (i : Fin 4096) : ℝ :=
  dX X D G B i k

variable (m : (ℓ : Loc nD τ sig) → Buf (Elt Ideal) ℓ) (c : Dev nD)
variable (X D : Fin 4096 → Fin 1024 → ℝ) (G B : Fin 1 → Fin 1024 → ℝ)

/-- The windows' arrays hold these reals. -/
structure Reads : Prop where
  d : V m c (Pipeline.arrRef spec0 0) = up2 D
  x : V m c (Pipeline.arrRef spec0 1) = up2 X
  g : V m c (Pipeline.arrRef spec0 2) = up2 G
  b : V m c (Pipeline.arrRef spec0 3) = up2 B

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)

variable {m c X D G B}

theorem blk_d (h : Reads m c X D G B) (t : Fin cfg0.N) : iblk m c 0 t = up2 fun r => D (tileIx 4096 256 t.val r) := by
  have hN : t.val < 16 := lt_of_lt_of_eq t.isLt N_0
  unfold iblk
  rw [h.d]
  refine up2_comp D _ (tileIx 4096 256 t.val) id (fun j => ?_) fun j => ?_
  · refine Eq.trans ?_ (tileIx_val (N := 4096) (B := 256) (s := t.val) (j 0) (by omega)).symm
    show win0_0.index t 0 * 256 + 1 * (j 0).val = t.val * 256 + (j 0).val
    rw [(idx0 t).1]; omega
  · show win0_0.index t 1 * 1024 + 1 * (j 1).val = (j 1).val
    rw [(idx0 t).2]; omega

theorem blk_x (h : Reads m c X D G B) (t : Fin cfg0.N) : iblk m c 1 t = up2 fun r => X (tileIx 4096 256 t.val r) := by
  have hN : t.val < 16 := lt_of_lt_of_eq t.isLt N_0
  unfold iblk
  rw [h.x]
  refine up2_comp X _ (tileIx 4096 256 t.val) id (fun j => ?_) fun j => ?_
  · refine Eq.trans ?_ (tileIx_val (N := 4096) (B := 256) (s := t.val) (j 0) (by omega)).symm
    show win0_1.index t 0 * 256 + 1 * (j 0).val = t.val * 256 + (j 0).val
    rw [(idx1 t).1]; omega
  · show win0_1.index t 1 * 1024 + 1 * (j 1).val = (j 1).val
    rw [(idx1 t).2]; omega

theorem blk_g (h : Reads m c X D G B) (t : Fin cfg0.N) : iblk m c 2 t = up2 G := by
  unfold iblk
  rw [h.g]
  refine up2_comp G _ id id (fun j => ?_) fun j => ?_
  · show win0_2.index t 0 * 1 + 1 * (j 0).val = (j 0).val
    rw [(idx2 t).1]; omega
  · show win0_2.index t 1 * 1024 + 1 * (j 1).val = (j 1).val
    rw [(idx2 t).2]; omega

theorem blk_b (h : Reads m c X D G B) (t : Fin cfg0.N) : iblk m c 3 t = up2 B := by
  unfold iblk
  rw [h.b]
  refine up2_comp B _ id id (fun j => ?_) fun j => ?_
  · show win0_3.index t 0 * 1 + 1 * (j 0).val = (j 0).val
    rw [(idx3 t).1]; omega
  · show win0_3.index t 1 * 1024 + 1 * (j 1).val = (j 1).val
    rw [(idx3 t).2]; omega

/-- The body's step on blocks of reals. -/
theorem step_real (X D : Fin 256 → Fin 1024 → ℝ) (G B O5 O6 O7 : Fin 1 → Fin 1024 → ℝ) :
    step (F := Ideal) (up2 D) (up2 X) (up2 G) (up2 B) (up2 O5) (up2 O6) (up2 O7)
      = (up2 fun r => nrmGrad (rstd (X r)) (nrm (X r)) fun c => ctY (G 0) (B 0) (X r) (D r) c * G 0 c,
         up2 fun i c => O5 i c + ∑ r, ctY (G 0) (B 0) (X r) (D r) c * nrm (X r) c,
         up2 fun i c => O6 i c + ∑ r, ctY (G 0) (B 0) (X r) (D r) c,
         up2 fun i c => O7 i c + ∑ r, nrmGrad (rstd (X r)) (nrm (X r)) (fun c => ctY (G 0) (B 0) (X r) (D r) c * G 0 c) c) := by
  unfold step
  rw [pay4, pay5, pay6, pay7, pay12, pay11, pay9, pay2]

/-- After point `n` the blocks hold: the rows of tile `n`, and the sums over the rows of the tiles so far. -/
theorem outs_real (h : Reads m c X D G B) : ∀ (n : ℕ) (hn : n < cfg0.N), outsAt0 m c n hn
    = (up2 fun r => dX X D G B (tileIx 4096 256 n r),
       up2 fun _ k => part 256 (gG X D G B k) (n + 1),
       up2 fun _ k => part 256 (gB X D G B k) (n + 1),
       up2 fun _ k => part 256 (gX X D G B k) (n + 1))
  | 0, hn => by
    refine (outs_A m c ⟨0, hn⟩ rfl).trans ?_
    rw [blk_d h, blk_x h, blk_g h, blk_b h, pay10, pay8, pay1, step_real]
    simp only [Nat.zero_add, part_one, _root_.zero_add]
    rfl
  | n + 1, hn => by
    have hN : n + 1 < 16 := lt_of_lt_of_eq hn N_0
    refine (outs_B m c ⟨n + 1, hn⟩ (by dsimp only; omega)).trans ?_
    rw [blk_d h, blk_x h, blk_g h, blk_b h]
    simp only [Nat.add_sub_cancel]
    rw [outs_real h n (Nat.lt_of_succ_lt hn), step_real]
    simp only [part_succ _ _ (n + 1)]
    rfl

theorem idx4 : ∀ t : Fin cfg0.N, win0_4.index t 0 = t.val ∧ win0_4.index t 1 = 0 :=
  (by decide +kernel : ∀ t : Fin grid0.N, win0_4.index t 0 = t.val ∧ win0_4.index t 1 = 0)

/-- Result 0: the gradient of the norm's input. -/
theorem final4 (h : Reads m c X D G B) : (dats m 0 c).arrAt 4 cfg0.N = up2 (dX X D G B) := by
  refine (dats m 0 c).arrAt_eq_of_cover 4 (up2 (dX X D G B)) (fun t _ => ?_) fun i => ?_
  · have hN : t.val < 16 := lt_of_lt_of_eq t.isLt N_0
    rw [Value.flushed4, outs_real h t.val t.isLt]
    refine (up2_comp (dX X D G B) _ (tileIx 4096 256 t.val) id (fun j => ?_) fun j => ?_).symm
    · refine Eq.trans ?_ (tileIx_val (N := 4096) (B := 256) (s := t.val) (j 0) (by omega)).symm
      show win0_4.index t 0 * 256 + 1 * (j 0).val = t.val * 256 + (j 0).val
      rw [(idx4 t).1]; omega
    · show win0_4.index t 1 * 1024 + 1 * (j 1).val = (j 1).val
      rw [(idx4 t).2]; omega
  · have h0 : (i 0 : Nat) < 4096 := (i 0).isLt
    have h1 : (i 1 : Nat) < 1024 := (i 1).isLt
    have ht : (i 0 : Nat) / 256 < cfg0.N := lt_of_lt_of_eq (by omega : (i 0 : Nat) / 256 < 16) N_0.symm
    refine ⟨⟨(i 0 : Nat) / 256, ht⟩, flush0_4 _, ?_⟩
    show i ∈ ((View.whole main_v2_0).slice (win0_4.rect ⟨(i 0 : Nat) / 256, ht⟩)).set
    rw [View.set_slice_whole, Rect.mem_set_unit]
    intro a
    match a with
    | ⟨0, _⟩ =>
      show win0_4.index ⟨(i 0 : Nat) / 256, ht⟩ 0 * 256 ≤ (i 0 : Nat) ∧ (i 0 : Nat) < win0_4.index ⟨(i 0 : Nat) / 256, ht⟩ 0 * 256 + 256
      rw [(idx4 _).1]; dsimp only; omega
    | ⟨1, _⟩ =>
      show win0_4.index ⟨(i 0 : Nat) / 256, ht⟩ 1 * 1024 ≤ (i 1 : Nat) ∧ (i 1 : Nat) < win0_4.index ⟨(i 0 : Nat) / 256, ht⟩ 1 * 1024 + 1024
      rw [(idx4 _).2]; omega

theorem idx5 : ∀ t : Fin cfg0.N, win0_5.index t 0 = 0 ∧ win0_5.index t 1 = 0 :=
  (by decide +kernel : ∀ t : Fin grid0.N, win0_5.index t 0 = 0 ∧ win0_5.index t 1 = 0)

/-- Result 1: the gradient of the scale. -/
theorem final5 (h : Reads m c X D G B) : (dats m 0 c).arrAt 5 cfg0.N = up2 fun (_ : Fin 1) k => ∑ i, gG X D G B k i := by
  refine (dats m 0 c).arrAt_eq_of_cover 5 (up2 fun (_ : Fin 1) k => ∑ i, gG X D G B k i) (fun t hf => ?_) fun i => ?_
  · have hN : t.val < 16 := lt_of_lt_of_eq t.isLt N_0
    have ht : t.val + 1 = 16 := by have := (flush0_5 t).mp hf; omega
    rw [Value.flushed5, outs_real h t.val t.isLt, ht]
    simp only [part_all (show 16 * 256 = 4096 by norm_num)]
    refine (up2_comp (fun (_ : Fin 1) k => ∑ i, gG X D G B k i) _ id id (fun j => ?_) fun j => ?_).symm
    · show win0_5.index t 0 * 1 + 1 * (j 0).val = (j 0).val
      rw [(idx5 t).1]; omega
    · show win0_5.index t 1 * 1024 + 1 * (j 1).val = (j 1).val
      rw [(idx5 t).2]; omega
  · have h0 : (i 0 : Nat) < 1 := (i 0).isLt
    have h1 : (i 1 : Nat) < 1024 := (i 1).isLt
    have ht : 15 < cfg0.N := lt_of_lt_of_eq (by omega : 15 < 16) N_0.symm
    refine ⟨⟨15, ht⟩, (flush0_5 _).mpr rfl, ?_⟩
    show i ∈ ((View.whole main_v2_1).slice (win0_5.rect ⟨15, ht⟩)).set
    rw [View.set_slice_whole, Rect.mem_set_unit]
    intro a
    match a with
    | ⟨0, _⟩ =>
      show win0_5.index ⟨15, ht⟩ 0 * 1 ≤ (i 0 : Nat) ∧ (i 0 : Nat) < win0_5.index ⟨15, ht⟩ 0 * 1 + 1
      rw [(idx5 _).1]; omega
    | ⟨1, _⟩ =>
      show win0_5.index ⟨15, ht⟩ 1 * 1024 ≤ (i 1 : Nat) ∧ (i 1 : Nat) < win0_5.index ⟨15, ht⟩ 1 * 1024 + 1024
      rw [(idx5 _).2]; omega

theorem idx6 : ∀ t : Fin cfg0.N, win0_6.index t 0 = 0 ∧ win0_6.index t 1 = 0 :=
  (by decide +kernel : ∀ t : Fin grid0.N, win0_6.index t 0 = 0 ∧ win0_6.index t 1 = 0)

/-- Result 2: the gradient of the shift. -/
theorem final6 (h : Reads m c X D G B) : (dats m 0 c).arrAt 6 cfg0.N = up2 fun (_ : Fin 1) k => ∑ i, gB X D G B k i := by
  refine (dats m 0 c).arrAt_eq_of_cover 6 (up2 fun (_ : Fin 1) k => ∑ i, gB X D G B k i) (fun t hf => ?_) fun i => ?_
  · have hN : t.val < 16 := lt_of_lt_of_eq t.isLt N_0
    have ht : t.val + 1 = 16 := by have := (flush0_6 t).mp hf; omega
    rw [Value.flushed6, outs_real h t.val t.isLt, ht]
    simp only [part_all (show 16 * 256 = 4096 by norm_num)]
    refine (up2_comp (fun (_ : Fin 1) k => ∑ i, gB X D G B k i) _ id id (fun j => ?_) fun j => ?_).symm
    · show win0_6.index t 0 * 1 + 1 * (j 0).val = (j 0).val
      rw [(idx6 t).1]; omega
    · show win0_6.index t 1 * 1024 + 1 * (j 1).val = (j 1).val
      rw [(idx6 t).2]; omega
  · have h0 : (i 0 : Nat) < 1 := (i 0).isLt
    have h1 : (i 1 : Nat) < 1024 := (i 1).isLt
    have ht : 15 < cfg0.N := lt_of_lt_of_eq (by omega : 15 < 16) N_0.symm
    refine ⟨⟨15, ht⟩, (flush0_6 _).mpr rfl, ?_⟩
    show i ∈ ((View.whole main_v2_2).slice (win0_6.rect ⟨15, ht⟩)).set
    rw [View.set_slice_whole, Rect.mem_set_unit]
    intro a
    match a with
    | ⟨0, _⟩ =>
      show win0_6.index ⟨15, ht⟩ 0 * 1 ≤ (i 0 : Nat) ∧ (i 0 : Nat) < win0_6.index ⟨15, ht⟩ 0 * 1 + 1
      rw [(idx6 _).1]; omega
    | ⟨1, _⟩ =>
      show win0_6.index ⟨15, ht⟩ 1 * 1024 ≤ (i 1 : Nat) ∧ (i 1 : Nat) < win0_6.index ⟨15, ht⟩ 1 * 1024 + 1024
      rw [(idx6 _).2]; omega

theorem idx7 : ∀ t : Fin cfg0.N, win0_7.index t 0 = 0 ∧ win0_7.index t 1 = 0 :=
  (by decide +kernel : ∀ t : Fin grid0.N, win0_7.index t 0 = 0 ∧ win0_7.index t 1 = 0)

/-- Result 3: the gradient of the bias added before the norm. -/
theorem final7 (h : Reads m c X D G B) : (dats m 0 c).arrAt 7 cfg0.N = up2 fun (_ : Fin 1) k => ∑ i, gX X D G B k i := by
  refine (dats m 0 c).arrAt_eq_of_cover 7 (up2 fun (_ : Fin 1) k => ∑ i, gX X D G B k i) (fun t hf => ?_) fun i => ?_
  · have hN : t.val < 16 := lt_of_lt_of_eq t.isLt N_0
    have ht : t.val + 1 = 16 := by have := (flush0_7 t).mp hf; omega
    rw [Value.flushed7, outs_real h t.val t.isLt, ht]
    simp only [part_all (show 16 * 256 = 4096 by norm_num)]
    refine (up2_comp (fun (_ : Fin 1) k => ∑ i, gX X D G B k i) _ id id (fun j => ?_) fun j => ?_).symm
    · show win0_7.index t 0 * 1 + 1 * (j 0).val = (j 0).val
      rw [(idx7 t).1]; omega
    · show win0_7.index t 1 * 1024 + 1 * (j 1).val = (j 1).val
      rw [(idx7 t).2]; omega
  · have h0 : (i 0 : Nat) < 1 := (i 0).isLt
    have h1 : (i 1 : Nat) < 1024 := (i 1).isLt
    have ht : 15 < cfg0.N := lt_of_lt_of_eq (by omega : 15 < 16) N_0.symm
    refine ⟨⟨15, ht⟩, (flush0_7 _).mpr rfl, ?_⟩
    show i ∈ ((View.whole main_v2_3).slice (win0_7.rect ⟨15, ht⟩)).set
    rw [View.set_slice_whole, Rect.mem_set_unit]
    intro a
    match a with
    | ⟨0, _⟩ =>
      show win0_7.index ⟨15, ht⟩ 0 * 1 ≤ (i 0 : Nat) ∧ (i 0 : Nat) < win0_7.index ⟨15, ht⟩ 0 * 1 + 1
      rw [(idx7 _).1]; omega
    | ⟨1, _⟩ =>
      show win0_7.index ⟨15, ht⟩ 1 * 1024 ≤ (i 1 : Nat) ∧ (i 1 : Nat) < win0_7.index ⟨15, ht⟩ 1 * 1024 + 1024
      rw [(idx7 _).2]; omega

end Cert.Ln
-- ==== Proof.Ln.Reference.lean ====
/-
  The layer norm's reference: its four results as arrays of reals. The stages are the operations of the gradient in
  program order, several at a time.
-/
module

public import proofs.«01_k».proof.Proof.Ln.Result
public import proofs.«01_k».proof.Proof.Gen.ReferenceIdeal.Read

@[expose] public section

set_option maxRecDepth 16384

noncomputable section

open Idealize.ShloMosaic Cert.Lift

namespace Cert.Ln.Ref

open Cert.ReferenceIdeal Cert.ReferenceIdeal.Read

/-- The norm's input: the convolution's result plus its bias. -/
def inp (C : Fin 4096 → Fin 1024 → ℝ) (Cb : Fin 1 → Fin 1024 → ℝ) (r : Fin 4096) (k : Fin 1024) : ℝ := C r k + Cb 0 k

variable (C D : Fin 4096 → Fin 1024 → ℝ) (Cb G B : Fin 1 → Fin 1024 → ℝ)

theorem v3 : val_main_v3 (F := Ideal) (up2 C) (up2 Cb) = up2 (inp C Cb) := by
  funext j
  idx_vars j
  pointwise [val_main_v3, val_main_v2, val_main_v1, val_main_v0]
  simp only [up2_ix, ← EReal.coe_add]
  rfl

theorem v11 : val_main_v11 (F := Ideal) (up2 C) (up2 Cb) = up2 fun r => cen (inp C Cb r) := by
  funext j
  idx_vars j
  pointwise [val_main_v11, val_main_v10, val_main_v9, val_main_v8, val_main_cst_0, val_main_v7, val_main_v6, val_main_cst, v3]
  simp only [up2_ix, zero_add, ← coe_sum, lit_1024, div_1024, ← EReal.coe_sub]
  rfl

theorem v18 : val_main_v18 (F := Ideal) (up2 C) (up2 Cb)
    = up2 fun r _ => mean (fun k => cen (inp C Cb r) k * cen (inp C Cb r) k) + eps := by
  funext j
  idx_vars j
  pointwise [val_main_v18, val_main_v17, val_main_cst_3, val_main_v16, val_main_v15, val_main_cst_2, val_main_v14,
    val_main_v13, val_main_cst_1, val_main_v12, v11]
  simp only [up2_ix, zero_add, ← EReal.coe_mul, ← coe_sum, lit_1024, div_1024, lit_eps, ← EReal.coe_add]
  rfl

theorem v19 : val_main_v19 (F := Ideal) (up2 C) (up2 Cb) = up2 fun r _ => rstd (inp C Cb r) := by
  funext j
  idx_vars j
  pointwise [val_main_v19, v18]
  simp only [up2_ix]
  exact rsqrt_real (mean_sq_pos (cen (inp C Cb j0)))

theorem v22 : val_main_v22 (F := Ideal) (up2 C) (up2 Cb) = up2 fun r _ => -(1 / 2)
    * (rstd (inp C Cb r) / (mean (fun k => cen (inp C Cb r) k * cen (inp C Cb r) k) + eps)) := by
  funext j
  idx_vars j
  pointwise [val_main_v22, val_main_v21, val_main_cst_4, val_main_v20, v18, v19]
  simp only [up2_ix, lit_neg_half, div_real _ (mean_sq_pos _).ne', ← EReal.coe_mul]

theorem v24 : val_main_v24 (F := Ideal) (up2 C) (up2 Cb) = up2 fun r => nrm (inp C Cb r) := by
  funext j
  idx_vars j
  pointwise [val_main_v24, val_main_v23, v11, v19]
  simp only [up2_ix, ← EReal.coe_mul]
  rfl

theorem v25 : val_main_v25 (F := Ideal) (up2 G) = up2 G := by
  funext j
  idx_vars j
  pointwise [val_main_v25, val_main_v4]
  simp only [up2_ix]
  rw [Subsingleton.elim j0 0]

theorem v30 : val_main_v30 (F := Ideal) (up2 C) (up2 Cb) (up2 G) (up2 B)
    = up2 fun r k => nrm (inp C Cb r) k * G 0 k + B 0 k := by
  funext j
  idx_vars j
  pointwise [val_main_v30, val_main_v29, val_main_v28, val_main_v27, val_main_v26, val_main_v5, v24, v25]
  simp only [up2_ix, ← EReal.coe_mul, ← EReal.coe_add]

theorem v31_2 : val_main_v31_2 (F := Ideal) (up2 C) (up2 Cb) (up2 G) (up2 B)
    = up2 fun r k => sig (nrm (inp C Cb r) k * G 0 k + B 0 k) := by
  funext j
  idx_vars j
  pointwise [val_main_v31_2, val_main_call0_v4, val_main_call0_cst_0, val_main_call0_v3, val_main_call0_v2,
    val_main_call0_cst, val_main_call0_v1, val_main_call0_v0, v30]
  simp only [up2_ix, sig_real_host]

theorem v33 : val_main_v33 (F := Ideal) (up2 C) (up2 Cb) (up2 G) (up2 B) (up2 D)
    = up2 fun r => ctY (G 0) (B 0) (inp C Cb r) (D r) := by
  funext j
  idx_vars j
  pointwise [val_main_v33, val_main_call1_v0, val_main_call1_v1, val_main_call1_v2, val_main_v32, val_main_v31_1,
    val_main_call0_v7, val_main_call0_v6, val_main_call0_cst_1, v30, v31_2]
  simp only [up2_ix, ← EReal.coe_one, ← EReal.coe_mul, ← EReal.coe_sub, ← EReal.coe_add]
  refine congrArg (fun z : ℝ => (z : EReal)) ?_
  unfold ctY dsilu
  ring

theorem v41 : val_main_v41 (F := Ideal) (up2 C) (up2 Cb) (up2 G) (up2 B) (up2 D)
    = up2 fun r k => ctY (G 0) (B 0) (inp C Cb r) (D r) k * G 0 k := by
  funext j
  idx_vars j
  pointwise [val_main_v41, val_main_v40, v33, v25]
  simp only [up2_ix, ← EReal.coe_mul]

/-- The gradient through the variance, per row. -/
def qv (r : Fin 4096) : ℝ := (∑ k, cen (inp C Cb r) k * (ctY (G 0) (B 0) (inp C Cb r) (D r) k * G 0 k))
  * (-(1 / 2) * (rstd (inp C Cb r) / (mean (fun k => cen (inp C Cb r) k * cen (inp C Cb r) k) + eps))) / 1024

theorem v52 : val_main_v52 (F := Ideal) (up2 C) (up2 Cb) (up2 G) (up2 B) (up2 D) = up2 fun r _ => qv C D Cb G B r := by
  funext j
  idx_vars j
  pointwise [val_main_v52, val_main_v51, val_main_cst_11, val_main_v50, val_main_v49, val_main_cst_10, val_main_v48,
    val_main_v45, val_main_v44, val_main_cst_9, val_main_v43, v11, v41, v22]
  simp only [up2_ix, zero_add, Fin.sum_univ_one, ← EReal.coe_mul, ← coe_sum, lit_1024, div_1024]
  rfl

theorem v56 : val_main_v56 (F := Ideal) (up2 C) (up2 Cb) (up2 G) (up2 B) (up2 D)
    = up2 fun r k => ctY (G 0) (B 0) (inp C Cb r) (D r) k * G 0 k * rstd (inp C Cb r)
        + cen (inp C Cb r) k * qv C D Cb G B r + qv C D Cb G B r * cen (inp C Cb r) k := by
  funext j
  idx_vars j
  pointwise [val_main_v56, val_main_v55, val_main_v54, val_main_v53, val_main_v47, val_main_v46, v52, v41, v11, v19]
  simp only [up2_ix, ← EReal.coe_mul, ← EReal.coe_add]

/-- Result 0. -/
theorem v64 : val_main_v64 (F := Ideal) (up2 C) (up2 Cb) (up2 G) (up2 B) (up2 D) = up2 (dX (inp C Cb) D G B) := by
  funext j
  idx_vars j
  pointwise [val_main_v64, val_main_v63, val_main_v62, val_main_cst_14, val_main_v61, val_main_v60, val_main_cst_13,
    val_main_v59, val_main_v58, val_main_cst_12, val_main_v57, v56]
  simp only [up2_ix, zero_add, Fin.sum_univ_one, ← EReal.coe_neg, ← coe_sum, lit_1024, div_1024, ← EReal.coe_add]
  exact congrArg (fun z : ℝ => (z : EReal)) (nrmGrad_of_steps _ (fun k => _ * _) _ rfl)

/-- Result 1. -/
theorem v66 : val_main_v66 (F := Ideal) (up2 C) (up2 Cb) (up2 G) (up2 B) (up2 D)
    = up2 fun _ k => ∑ i, gG (inp C Cb) D G B k i := by
  funext j
  idx_vars j
  pointwise [val_main_v66, val_main_v42, val_main_cst_8, val_main_v39, val_main_v38, val_main_cst_7, val_main_v37, v24, v33]
  simp only [up2_ix, zero_add, Fin.sum_univ_one, ← EReal.coe_mul, ← coe_sum]
  refine congrArg (fun z : ℝ => (z : EReal)) (Finset.sum_congr rfl fun i _ => mul_comm _ _)

/-- Result 2. -/
theorem v65 : val_main_v65 (F := Ideal) (up2 C) (up2 Cb) (up2 G) (up2 B) (up2 D)
    = up2 fun _ k => ∑ i, gB (inp C Cb) D G B k i := by
  funext j
  idx_vars j
  pointwise [val_main_v65, val_main_v36, val_main_cst_6, val_main_v35, val_main_v34, val_main_cst_5, v33]
  simp only [up2_ix, zero_add, Fin.sum_univ_one, ← coe_sum]
  rfl

/-- Result 3. -/
theorem v70 : val_main_v70 (F := Ideal) (up2 C) (up2 Cb) (up2 G) (up2 B) (up2 D)
    = up2 fun _ k => ∑ i, gX (inp C Cb) D G B k i := by
  funext j
  idx_vars j
  pointwise [val_main_v70, val_main_v69, val_main_cst_16, val_main_v68, val_main_v67, val_main_cst_15, v64]
  simp only [up2_ix, zero_add, Fin.sum_univ_one, ← coe_sum]
  rfl

end Cert.Ln.Ref
-- ==== Proof.Ln.Claim.lean ====
/-
  The layer norm's backward kernel computes the gradients of the plain layer norm: the claim over the reals.
-/
module

public import proofs.«01_k».proof.Defs
public import proofs.«01_k».proof.Proof.Common.Finite
public import proofs.«01_k».proof.Proof.Ln.Result
public import proofs.«01_k».proof.Proof.Ln.Reference
public import proofs.«01_k».proof.Proof.Gen.Pre_finite
public import proofs.«01_k».proof.Proof.Gen.ReferenceIdeal.Run

@[expose] public section

set_option maxRecDepth 16384

noncomputable section

open Idealize.ShloMosaic Idealize.ShloMosaic.TcCoe Idealize.SL.Sem Cert.Lift

namespace Cert.Ln

open Cert.KernelIdeal Cert.KernelIdeal.Gen

variable (m : (ℓ : Loc nD τ sig) → Buf (Elt Ideal) ℓ) (c : Dev nD)

/-- The host's sum of the convolution and its bias, as the kernel's second window reads it. -/
theorem V_main_v1 : @Eq (FVec Ideal S4096x1024 .f32) (V m c main_v1)
    (addf (m ((c.tc : Thread nD τ).loc main_arg0) : FVec Ideal S4096x1024 .f32)
        (broadcastInDim S4096x1024 ![0, 1] bcast_S1x1024_S4096x1024_0_1 (m ((c.tc : Thread nD τ).loc main_arg1) : FVec Ideal S1x1024 .f32))) := by
  unfold V
  after_results

/-- The arguments of one device are arrays of reals. -/
structure Args (C : Fin 4096 → Fin 1024 → ℝ) (Cb G B : Fin 1 → Fin 1024 → ℝ) (D : Fin 4096 → Fin 1024 → ℝ) : Prop where
  h0 : m ((c.tc : Thread nD τ).loc main_arg0) = up2 C
  h1 : m ((c.tc : Thread nD τ).loc main_arg1) = up2 Cb
  h2 : m ((c.tc : Thread nD τ).loc main_arg2) = up2 G
  h3 : m ((c.tc : Thread nD τ).loc main_arg3) = up2 B
  h4 : m ((c.tc : Thread nD τ).loc main_arg4) = up2 D

/-- Under the precondition there are such reals. -/
theorem exists_args (h : Cert.Pre_KernelIdeal_finite m) : ∃ C Cb G B D, Args m c C Cb G B D := by
  obtain ⟨e0, e1, e2, e3, e4⟩ := h c
  obtain ⟨C, hC⟩ := exists_up2 (below_of_mask e0)
  obtain ⟨Cb, hCb⟩ := exists_up2 (below_of_mask e1)
  obtain ⟨G, hG⟩ := exists_up2 (below_of_mask e2)
  obtain ⟨B, hB⟩ := exists_up2 (below_of_mask e3)
  obtain ⟨D, hD⟩ := exists_up2 (below_of_mask16 e4)
  exact ⟨C, Cb, G, B, D, hC, hCb, hG, hB, hD⟩

variable {m c} {C D : Fin 4096 → Fin 1024 → ℝ} {Cb G B : Fin 1 → Fin 1024 → ℝ}

/-- What the kernel's windows read. -/
theorem reads (a : Args m c C Cb G B D) : Reads m c (Ref.inp C Cb) D G B where
  d := (V_main_arg4 m c).trans a.h4
  x := by
    refine (V_main_v1 m c).trans ?_
    rw [a.h0, a.h1]
    funext j
    idx_vars j
    pointwise []
    exact (EReal.coe_add _ _).symm
  g := (V_main_arg2 m c).trans a.h2
  b := (V_main_arg3 m c).trans a.h3

/-- The reference keeps its arguments and declares no semaphore. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩) (Cert.ReferenceIdeal.Value.run m ρ)

/-- The kernel's four results are the reference's four. -/
theorem algebraic : Cert.algebraic_KernelIdeal_ReferenceIdeal_pre_finite := by
  intro m g m' g' hp hm
  have hk := Value.run_blocks m g
  have hr := Cert.ReferenceIdeal.Value.run (F := Ideal) m' g'
  refine ⟨fun c => (dats m 0 c).arrAt 4 cfg0.N, fun c => (dats m 0 c).arrAt 5 cfg0.N, fun c => (dats m 0 c).arrAt 6 cfg0.N,
    fun c => (dats m 0 c).arrAt 7 cfg0.N, hk, (θ_run _ _ _).mono (fun r h c => ?_) hr⟩
  obtain ⟨q0, q1, q2, q3, k⟩ := h c
  obtain ⟨C, Cb, G, B, D, a⟩ := exists_args m c hp
  obtain ⟨i0, i1, i2, i3, i4⟩ := hm c
  have b := reads a
  have l0 : StableHlo.launchContents m' c (Proc.devRef .tc Cert.ReferenceIdeal.main_arg0) = up2 C := i0.trans a.h0
  have l1 : StableHlo.launchContents m' c (Proc.devRef .tc Cert.ReferenceIdeal.main_arg1) = up2 Cb := i1.trans a.h1
  have l2 : StableHlo.launchContents m' c (Proc.devRef .tc Cert.ReferenceIdeal.main_arg2) = up2 G := i2.trans a.h2
  have l3 : StableHlo.launchContents m' c (Proc.devRef .tc Cert.ReferenceIdeal.main_arg3) = up2 B := i3.trans a.h3
  have l4 : StableHlo.launchContents m' c (Proc.devRef .tc Cert.ReferenceIdeal.main_arg4) = up2 D := i4.trans a.h4
  refine ⟨(q0.trans (Cert.ReferenceIdeal.Read.val_main_v64_eq _)).trans ?_, (q1.trans (Cert.ReferenceIdeal.Read.val_main_v66_eq _)).trans ?_,
    (q2.trans (Cert.ReferenceIdeal.Read.val_main_v65_eq _)).trans ?_, (q3.trans (Cert.ReferenceIdeal.Read.val_main_v70_eq _)).trans ?_, k⟩
  all_goals rw [l0, l1, l2, l3, l4]
  · exact (Ref.v64 ..).trans (final4 b).symm
  · exact (Ref.v66 ..).trans (final5 b).symm
  · exact (Ref.v65 ..).trans (final6 b).symm
  · exact (Ref.v70 ..).trans (final7 b).symm

end Cert.Ln

end
-- ==== Proof.Frames.References.lean ====
/-
  The frames of the eight reference programs: their host lines run, end, and leave the arguments as they were.
-/
module

public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Defs
public import Idealize.ShloMosaic.Adequacy
public import Idealize.ShloMosaic.Init

@[expose] public section

noncomputable section

namespace Cert.Frames

open Idealize.ShloMosaic Idealize.ShloMosaic.TcCoe Idealize.SL.Sem

theorem reference2 : Cert.quiescent_Reference2Ideal := fun m ρ _ =>
  (θ_run Cert.Reference2Ideal.defs _ _).mono (fun r h => ⟨fun c => (h c).2.2.2, sem_eq_zero_of_no_sems (by decide) r.2⟩) (Cert.Reference2Ideal.Value.run m ρ)

theorem reference3 : Cert.quiescent_Reference3Ideal := fun m ρ _ =>
  (θ_run Cert.Reference3Ideal.defs _ _).mono (fun r h => ⟨fun c => (h c).2.2.2.2.2.2.2.2.2.2, sem_eq_zero_of_no_sems (by decide) r.2⟩) (Cert.Reference3Ideal.Value.run m ρ)

theorem reference4 : Cert.quiescent_Reference4Ideal := fun m ρ _ =>
  (θ_run Cert.Reference4Ideal.defs _ _).mono (fun r h => ⟨fun c => (h c).2.2.2, sem_eq_zero_of_no_sems (by decide) r.2⟩) (Cert.Reference4Ideal.Value.run m ρ)

theorem reference5 : Cert.quiescent_Reference5Ideal := fun m ρ _ =>
  (θ_run Cert.Reference5Ideal.defs _ _).mono (fun r h => ⟨fun c => (h c).2.2.2.2.2, sem_eq_zero_of_no_sems (by decide) r.2⟩) (Cert.Reference5Ideal.Value.run m ρ)

theorem reference6 : Cert.quiescent_Reference6Ideal := fun m ρ _ =>
  (θ_run Cert.Reference6Ideal.defs _ _).mono (fun r h => ⟨fun c => (h c).2.2.2, sem_eq_zero_of_no_sems (by decide) r.2⟩) (Cert.Reference6Ideal.Value.run m ρ)

theorem reference7 : Cert.quiescent_Reference7Ideal := fun m ρ _ =>
  (θ_run Cert.Reference7Ideal.defs _ _).mono (fun r h => ⟨fun c => (h c).2.2, sem_eq_zero_of_no_sems (by decide) r.2⟩) (Cert.Reference7Ideal.Value.run m ρ)

theorem reference8 : Cert.quiescent_Reference8Ideal := fun m ρ _ =>
  (θ_run Cert.Reference8Ideal.defs _ _).mono (fun r h => ⟨fun c => (h c).2.2, sem_eq_zero_of_no_sems (by decide) r.2⟩) (Cert.Reference8Ideal.Value.run m ρ)

theorem reference9 : Cert.quiescent_Reference9Ideal := fun m ρ _ =>
  (θ_run Cert.Reference9Ideal.defs _ _).mono (fun r h => ⟨fun c => (h c).2.2.2, sem_eq_zero_of_no_sems (by decide) r.2⟩) (Cert.Reference9Ideal.Value.run m ρ)

end Cert.Frames
-- ==== Proof.Attn.Offsets.lean ====
/-
  Where the attention backward body reads and writes: each printed chain of row offsets in closed form of the key block `j`
  and the trip `k`.
-/
module

public import proofs.«01_k».proof.Proof.Gen.Kernel4Ideal.Frame
public import proofs.«01_k».proof.Proof.Gen.Kernel4Ideal.Loops

@[expose] public section

set_option maxRecDepth 16384

noncomputable section

namespace Cert.Kernel4Ideal.Attn

open Idealize.ShloMosaic Idealize.ShloMosaic.TcCoe Idealize.ShloMosaic.Tactic

theorem trips2 (i : grid0.Coords) : (k0_t2_loop i).trips = 0 := by revert i; decide +kernel
theorem trips1 (i : grid0.Coords) : (k0_t1_loop i).trips = (7 - (i 1).val) / 2 := by revert i; decide +kernel

theorem off1_eq : ∀ i, k0_off1 i = ![512 * (i 1).val, 0] := by decide +kernel
theorem off2_eq : ∀ i, k0_off2 i = ![512 * (i 1).val, 0] := by decide +kernel
theorem off3_eq : ∀ i, k0_off3 i = ![512 * min ((i 1).val + 1) 7, 0] := by decide +kernel
theorem off4_eq : ∀ i, k0_off4 i = ![512 * min ((i 1).val + 1) 7, 0] := by decide +kernel
theorem off5_eq : ∀ i, k0_off5 i = ![512 * (i 1).val, 0] := by decide +kernel
theorem off6_eq : ∀ i, k0_off6 i = ![512 * (i 1).val, 0] := by decide +kernel
theorem off7_eq : ∀ i, k0_off7 i = ![0, (i 1).val, 0, 0] := by decide +kernel
theorem off8_eq : ∀ i (r : Fin 2), k0_off8 i (BitVec.ofNat 32 r.val) = ![0, 2 * (i 1).val + r.val, 0, 0] := by decide +kernel
theorem off9_eq : ∀ i k (r : Fin 2), k0_off9 i k (BitVec.ofNat 32 (1 + r.val)) = ![512 * min ((i 1).val + 2 + 2 * k.val + r.val) 7, 0] := by decide +kernel
theorem off10_eq : ∀ i k (r : Fin 2), k0_off10 i k (BitVec.ofNat 32 (1 + r.val)) = ![512 * min ((i 1).val + 2 + 2 * k.val + r.val) 7, 0] := by decide +kernel
theorem off11_eq : ∀ i k, k0_off11 i k = ![512 * ((i 1).val + 1 + 2 * k.val), 0] := by decide +kernel
theorem off12_eq : ∀ i k, k0_off12 i k = ![512 * ((i 1).val + 1 + 2 * k.val), 0] := by decide +kernel
theorem off13_eq : ∀ i k, k0_off13 i k = ![0, (i 1).val + 1 + 2 * k.val, 0, 0] := by decide +kernel
theorem off14_eq : ∀ i k (r : Fin 2), k0_off14 i k (BitVec.ofNat 32 r.val) = ![0, 2 * ((i 1).val + 1 + 2 * k.val) + r.val, 0, 0] := by decide +kernel
theorem off15_eq : ∀ i k, k0_off15 i k = ![512 * ((i 1).val + 2 + 2 * k.val), 0] := by decide +kernel
theorem off16_eq : ∀ i k, k0_off16 i k = ![512 * ((i 1).val + 2 + 2 * k.val), 0] := by decide +kernel
theorem off17_eq : ∀ i k, k0_off17 i k = ![0, (i 1).val + 2 + 2 * k.val, 0, 0] := by decide +kernel
theorem off18_eq : ∀ i k (r : Fin 2), k0_off18 i k (BitVec.ofNat 32 r.val) = ![0, 2 * ((i 1).val + 2 + 2 * k.val) + r.val, 0, 0] := by decide +kernel

instance (i : grid0.Coords) (k : Fin (k0_t1_loop i).trips) : ClosedOff (k0_off11 i k) := ⟨_, off11_eq i k⟩
instance (i : grid0.Coords) (k : Fin (k0_t1_loop i).trips) : ClosedOff (k0_off15 i k) := ⟨_, off15_eq i k⟩
instance (i : grid0.Coords) : ClosedOff (k0_off5 i) := ⟨_, off5_eq i⟩

/-- The test of the first key block, of an odd number of blocks after `j`, and the test of the last key block. -/
theorem cond1_iff : ∀ i : grid0.Coords, (Scalar.cmpi .ne (Scalar.extui (Scalar.cmpi .eq (BitVec.ofNat 32 (i 1).val) 0#32) : BitVec 32) 0#32 = 1#1) ↔ (i 1).val = 0 := by decide +kernel
theorem cond2_iff : ∀ i, (k0_cond2 i = 1#1) ↔ (i 1).val % 2 = 0 := by decide +kernel
theorem cond3_iff : ∀ i, (k0_cond3 i = 1#1) ↔ (i 1).val = 7 := by decide +kernel

end Cert.Kernel4Ideal.Attn
-- ==== Proof.Attn.Trip.lean ====
/-
  One trip of the attention backward kernel's loop over pairs of query blocks, at a symbolic trip.
-/
module

public import proofs.«01_k».proof.Proof.Attn.Offsets

@[expose] public section

set_option maxRecDepth 16384

noncomputable section

namespace Cert.Kernel4Ideal.Attn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S1x8x1x512 .f32) (harg6 : arg6.IsWhole) (arg7 : Memref sig .tc .vmem S1x16x1x256 .f32) (harg7 : arg7.IsWhole) (arg8 : Memref sig .tc .vmem S4096x256 .bf16) (harg8 : arg8.IsWhole) (arg9 : Memref sig .tc .vmem S512x256 .bf16) (harg9 : arg9.IsWhole) (arg10 : Memref sig .tc .vmem S512x128 .bf16) (harg10 : arg10.IsWhole) (arg11 : Memref sig .tc .vmem S512x256 .f32) (harg11 : arg11.IsWhole) (arg12 : Memref sig .tc .vmem S512x128 .f32) (harg12 : arg12.IsWhole) (arg13 : Memref sig .tc .vmem S2x512x512 .f32) (harg13 : arg13.IsWhole) (arg14 : Memref sig .tc .vmem S2x512x512 .f32) (harg14 : arg14.IsWhole) (arg15 : Memref sig .tc .vmem S4096x256 .f32) (harg15 : arg15.IsWhole)

/-- The contents of the five work buffers: the two sums of the key block, the two pairs of tiles worked ahead, the sum of the
    query rows. -/
structure Bufs where
  dk : Buf (Elt F) (arg11.view.loc (c : Thread nD τ))
  dv : Buf (Elt F) (arg12.view.loc (c : Thread nD τ))
  s : Buf (Elt F) (arg13.view.loc (c : Thread nD τ))
  dp : Buf (Elt F) (arg14.view.loc (c : Thread nD τ))
  dq : Buf (Elt F) (arg15.view.loc (c : Thread nD τ))

/-- The work buffers held at such contents. -/
abbrev held (b : Bufs (F := F) c arg11 arg12 arg13 arg14 arg15) : sProp 𝕄 :=
  iprop((arg11.view.loc (c : Thread nD τ) ↦[arg11.view.set]{fullShare} b.dk)
    ∗ (arg12.view.loc (c : Thread nD τ) ↦[arg12.view.set]{fullShare} b.dv)
    ∗ (arg13.view.loc (c : Thread nD τ) ↦[arg13.view.set]{fullShare} b.s)
    ∗ (arg14.view.loc (c : Thread nD τ) ↦[arg14.view.set]{fullShare} b.dp)
    ∗ (arg15.view.loc (c : Thread nD τ) ↦[arg15.view.set]{fullShare} b.dq))

variable (f2 : Buf (Elt F) (arg2.view.loc (c : Thread nD τ))) (f5 : Buf (Elt F) (arg5.view.loc (c : Thread nD τ)))
  (f6 : Buf (Elt F) (arg6.view.loc (c : Thread nD τ))) (f7 : Buf (Elt F) (arg7.view.loc (c : Thread nD τ)))

/-- The operands a trip reads: the query rows, the output gradient's rows, the two row statistics. -/
abbrev rows : sProp 𝕄 :=
  iprop((arg2.view.loc (c : Thread nD τ) ↦[arg2.view.set]{fullShare} f2)
    ∗ (arg5.view.loc (c : Thread nD τ) ↦[arg5.view.set]{fullShare} f5)
    ∗ (arg6.view.loc (c : Thread nD τ) ↦[arg6.view.set]{fullShare} f6)
    ∗ (arg7.view.loc (c : Thread nD τ) ↦[arg7.view.set]{fullShare} f7))

variable (arg1 : BitVec 32) (v12 : FVec F S512x256 .bf16) (v14 : FVec F S512x128 .bf16) (c0 : BitVec 32)

set_option maxHeartbeats 4000000 in
set_option sl_exec.squeezeSlice true in
/-- One trip: two query blocks finished, two more worked ahead. -/
def trip (k : Fin (k0_t1_loop i).trips) (b : Bufs (F := F) c arg11 arg12 arg13 arg14 arg15) :
    { b' : Bufs (F := F) c arg11 arg12 arg13 arg14 arg15 //
      iprop(rows c arg2 arg5 arg6 arg7 f2 f5 f6 f7 ∗ held c arg11 arg12 arg13 arg14 arg15 b)
        ⊢ wp frame (wpE (defs₀ (F := F)) Variants.none (c : Thread nD τ) none) Set.univ
            (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v12 v14 c0 k ())
            (fun _ => iprop(rows c arg2 arg5 arg6 arg7 f2 f5 f6 f7 ∗ held c arg11 arg12 arg13 arg14 arg15 b')) } := by
  refine ⟨⟨?_, ?_, ?_, ?_, ?_⟩, ?run⟩
  case run =>
    unfold k0_t1_body
    simp only [k0_part1_eq_skeleton, k0_part2_eq_skeleton, k0_part3_eq_skeleton, k0_part4_eq_skeleton]
    iintro ⟨⟨H2, H5, H6, H7⟩, H11, H12, H13, H14, H15⟩
    sl_exec
    sl_step
    dsimp only [held]
    isplitl [H2 H5 H6 H7]
    · isplitl [H2]; · iexact H2
      isplitl [H5]; · iexact H5
      isplitl [H6]; · iexact H6
      iexact H7
    isplitl [H11]; · iexact H11
    isplitl [H12]; · iexact H12
    isplitl [H13]; · iexact H13
    isplitl [H14]; · iexact H14
    iexact H15

end Cert.Kernel4Ideal.Attn
-- ==== Proof.Attn.Body.lean ====
/-
  The attention backward kernel's body at one grid point, run once at symbolic coordinates.
-/
module

public import proofs.«01_k».proof.Proof.Attn.Trip

@[expose] public section

set_option maxRecDepth 16384

noncomputable section

namespace Cert.Kernel4Ideal.Attn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords)
  (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S1x8x1x512 .f32) (harg6 : arg6.IsWhole) (arg7 : Memref sig .tc .vmem S1x16x1x256 .f32) (harg7 : arg7.IsWhole) (arg8 : Memref sig .tc .vmem S4096x256 .bf16) (harg8 : arg8.IsWhole) (arg9 : Memref sig .tc .vmem S512x256 .bf16) (harg9 : arg9.IsWhole) (arg10 : Memref sig .tc .vmem S512x128 .bf16) (harg10 : arg10.IsWhole) (arg11 : Memref sig .tc .vmem S512x256 .f32) (harg11 : arg11.IsWhole) (arg12 : Memref sig .tc .vmem S512x128 .f32) (harg12 : arg12.IsWhole) (arg13 : Memref sig .tc .vmem S2x512x512 .f32) (harg13 : arg13.IsWhole) (arg14 : Memref sig .tc .vmem S2x512x512 .f32) (harg14 : arg14.IsWhole) (arg15 : Memref sig .tc .vmem S4096x256 .f32) (harg15 : arg15.IsWhole)

section Loops

variable (f2 : Buf (Elt F) (arg2.view.loc (c : Thread nD τ))) (f5 : Buf (Elt F) (arg5.view.loc (c : Thread nD τ)))
  (f6 : Buf (Elt F) (arg6.view.loc (c : Thread nD τ))) (f7 : Buf (Elt F) (arg7.view.loc (c : Thread nD τ)))
  (arg1 : BitVec 32) (v12 : FVec F S512x256 .bf16) (v14 : FVec F S512x128 .bf16) (c0 : BitVec 32)

/-- The work buffers before trip `k`, from what they hold at the loop's entry. -/
def stAt (b : Bufs (F := F) c arg11 arg12 arg13 arg14 arg15) : ℕ → Bufs (F := F) c arg11 arg12 arg13 arg14 arg15
  | 0 => b
  | k + 1 =>
    if h : k < (k0_t1_loop i).trips then
      (trip c i arg2 harg2 arg3 harg3 arg4 harg4 arg5 harg5 arg6 harg6 arg7 harg7 arg8 harg8 arg9 harg9 arg10 harg10 arg11 harg11 arg12 harg12 arg13 harg13 arg14 harg14 arg15 harg15 f2 f5 f6 f7 arg1 v12 v14 c0 ⟨k, h⟩ (stAt b k)).1
    else stAt b k

theorem stAt_succ (b : Bufs (F := F) c arg11 arg12 arg13 arg14 arg15) (k : Fin (k0_t1_loop i).trips) :
    stAt c i arg2 harg2 arg3 harg3 arg4 harg4 arg5 harg5 arg6 harg6 arg7 harg7 arg8 harg8 arg9 harg9 arg10 harg10 arg11 harg11 arg12 harg12 arg13 harg13 arg14 harg14 arg15 harg15 f2 f5 f6 f7 arg1 v12 v14 c0 b (k.val + 1)
      = (trip c i arg2 harg2 arg3 harg3 arg4 harg4 arg5 harg5 arg6 harg6 arg7 harg7 arg8 harg8 arg9 harg9 arg10 harg10 arg11 harg11 arg12 harg12 arg13 harg13 arg14 harg14 arg15 harg15 f2 f5 f6 f7 arg1 v12 v14 c0 k
          (stAt c i arg2 harg2 arg3 harg3 arg4 harg4 arg5 harg5 arg6 harg6 arg7 harg7 arg8 harg8 arg9 harg9 arg10 harg10 arg11 harg11 arg12 harg12 arg13 harg13 arg14 harg14 arg15 harg15 f2 f5 f6 f7 arg1 v12 v14 c0 b k.val)).1 := by
  rw [stAt.eq_2]; exact dif_pos k.isLt

/-- The resources before trip `k`: at the entry the buffers stand as they are named. -/
def pairsAt (b : Bufs (F := F) c arg11 arg12 arg13 arg14 arg15) : ℕ → sProp 𝕄
  | 0 => iprop(rows c arg2 arg5 arg6 arg7 f2 f5 f6 f7 ∗ held c arg11 arg12 arg13 arg14 arg15 b)
  | k + 1 => iprop(rows c arg2 arg5 arg6 arg7 f2 f5 f6 f7
      ∗ held c arg11 arg12 arg13 arg14 arg15 (stAt c i arg2 harg2 arg3 harg3 arg4 harg4 arg5 harg5 arg6 harg6 arg7 harg7 arg8 harg8 arg9 harg9 arg10 harg10 arg11 harg11 arg12 harg12 arg13 harg13 arg14 harg14 arg15 harg15 f2 f5 f6 f7 arg1 v12 v14 c0 b (k + 1)))

theorem pairsAt_eq (b : Bufs (F := F) c arg11 arg12 arg13 arg14 arg15) (k : ℕ) :
    pairsAt c i arg2 harg2 arg3 harg3 arg4 harg4 arg5 harg5 arg6 harg6 arg7 harg7 arg8 harg8 arg9 harg9 arg10 harg10 arg11 harg11 arg12 harg12 arg13 harg13 arg14 harg14 arg15 harg15 f2 f5 f6 f7 arg1 v12 v14 c0 b k
      = iprop(rows c arg2 arg5 arg6 arg7 f2 f5 f6 f7
        ∗ held c arg11 arg12 arg13 arg14 arg15 (stAt c i arg2 harg2 arg3 harg3 arg4 harg4 arg5 harg5 arg6 harg6 arg7 harg7 arg8 harg8 arg9 harg9 arg10 harg10 arg11 harg11 arg12 harg12 arg13 harg13 arg14 harg14 arg15 harg15 f2 f5 f6 f7 arg1 v12 v14 c0 b k)) := by
  cases k <;> rfl

section Entry

variable (f11 : Buf (Elt F) (arg11.view.loc (c : Thread nD τ))) (f12 : Buf (Elt F) (arg12.view.loc (c : Thread nD τ)))
  (f13 : Buf (Elt F) (arg13.view.loc (c : Thread nD τ))) (f14 : Buf (Elt F) (arg14.view.loc (c : Thread nD τ)))
  (f15 : Buf (Elt F) (arg15.view.loc (c : Thread nD τ)))

set_option warn.classDefReducibility false in
/-- The loop over pairs of query blocks: its invariant is the work buffers at `stAt`. -/
@[sl_loop] def pairs :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg1 v12 v14 c0 where
  inv k _ := pairsAt c i arg2 harg2 arg3 harg3 arg4 harg4 arg5 harg5 arg6 harg6 arg7 harg7 arg8 harg8 arg9 harg9 arg10 harg10 arg11 harg11 arg12 harg12 arg13 harg13 arg14 harg14 arg15 harg15 f2 f5 f6 f7 arg1 v12 v14 c0 ⟨f11, f12, f13, f14, f15⟩ k
  step k _ := by
    rw [pairsAt_eq, pairsAt_eq, stAt_succ]
    exact (trip c i arg2 harg2 arg3 harg3 arg4 harg4 arg5 harg5 arg6 harg6 arg7 harg7 arg8 harg8 arg9 harg9 arg10 harg10 arg11 harg11 arg12 harg12 arg13 harg13 arg14 harg14 arg15 harg15 f2 f5 f6 f7 arg1 v12 v14 c0 k _).2

/-- What the loop hands on: the buffers at `stAt` of its trip count. -/
instance pairsExit : LoopExit (pairs (F := F) c i arg2 harg2 arg3 harg3 arg4 harg4 arg5 harg5 arg6 harg6 arg7 harg7 arg8 harg8 arg9 harg9 arg10 harg10 arg11 harg11 arg12 harg12 arg13 harg13 arg14 harg14 arg15 harg15 f2 f5 f6 f7 arg1 v12 v14 c0 f11 f12 f13 f14 f15) where
  post _ := iprop(rows c arg2 arg5 arg6 arg7 f2 f5 f6 f7
    ∗ held c arg11 arg12 arg13 arg14 arg15 (stAt c i arg2 harg2 arg3 harg3 arg4 harg4 arg5 harg5 arg6 harg6 arg7 harg7 arg8 harg8 arg9 harg9 arg10 harg10 arg11 harg11 arg12 harg12 arg13 harg13 arg14 harg14 arg15 harg15 f2 f5 f6 f7 arg1 v12 v14 c0 ⟨f11, f12, f13, f14, f15⟩ (k0_t1_loop i).trips))
  exit _ := by
    refine BIBase.Entails.of_eq ?_
    exact pairsAt_eq ..

end Entry

end Loops

/-- The contents of the three result blocks. -/
structure Outs where
  dq : Buf (Elt F) (arg8.view.loc (c : Thread nD τ))
  dk : Buf (Elt F) (arg9.view.loc (c : Thread nD τ))
  dv : Buf (Elt F) (arg10.view.loc (c : Thread nD τ))

/-- The result blocks held at such contents. -/
abbrev given (o : Outs (F := F) c arg8 arg9 arg10) : sProp 𝕄 :=
  iprop((arg8.view.loc (c : Thread nD τ) ↦[arg8.view.set]{fullShare} o.dq)
    ∗ (arg9.view.loc (c : Thread nD τ) ↦[arg9.view.set]{fullShare} o.dk)
    ∗ (arg10.view.loc (c : Thread nD τ) ↦[arg10.view.set]{fullShare} o.dv))

variable (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (f6 : Buf (Elt F) (arg6.view.loc (c : Thread nD τ))) (f7 : Buf (Elt F) (arg7.view.loc (c : Thread nD τ)))

/-- The key block and its values. -/
abbrev keys : sProp 𝕄 :=
  iprop((arg3.view.loc (c : Thread nD τ) ↦[arg3.view.set]{fullShare} f3)
    ∗ (arg4.view.loc (c : Thread nD τ) ↦[arg4.view.set]{fullShare} f4))

set_option maxHeartbeats 8000000 in
set_option sl_exec.squeezeSlice true in
/-- The body at a point, run once for all points: each guarded region is taken both ways. -/
def body (o : Outs (F := F) c arg8 arg9 arg10) (b : Bufs (F := F) c arg11 arg12 arg13 arg14 arg15) :
    { ob : Outs (F := F) c arg8 arg9 arg10 × Bufs (F := F) c arg11 arg12 arg13 arg14 arg15 //
      iprop(rows c arg2 arg5 arg6 arg7 f2 f5 f6 f7 ∗ keys c arg3 arg4 f3 f4 ∗ given c arg8 arg9 arg10 o ∗ held c arg11 arg12 arg13 arg14 arg15 b)
        ⊢ wp frame (wpE (defs₀ (F := F)) Variants.none (c : Thread nD τ) none) Set.univ
            (cc0_attn_bwd (F := F) i arg2 harg2 arg3 harg3 arg4 harg4 arg5 harg5 arg6 harg6 arg7 harg7 arg8 harg8 arg9 harg9 arg10 harg10 arg11 harg11 arg12 harg12 arg13 harg13 arg14 harg14 arg15 harg15)
            (fun _ => iprop(rows c arg2 arg5 arg6 arg7 f2 f5 f6 f7 ∗ keys c arg3 arg4 f3 f4 ∗ given c arg8 arg9 arg10 ob.1 ∗ held c arg11 arg12 arg13 arg14 arg15 ob.2)) } := by
  refine ⟨⟨⟨?_, ?_, ?_⟩, ⟨?_, ?_, ?_, ?_, ?_⟩⟩, ?run⟩
  case run =>
    simp only [cc0_attn_bwd_eq_skeleton]; unfold cc0_attn_bwd_skel
    simp only [k0_part9_eq_skeleton, k0_part10_eq_skeleton, k0_part11_eq_skeleton, k0_part12_eq_skeleton, k0_part13_eq_skeleton]
    iintro ⟨⟨H2, H5, H6, H7⟩, ⟨H3, H4⟩, ⟨H8, H9, H10⟩, H11, H12, H13, H14, H15⟩
    have htr := trips2 i
    sl_exec
    sl_step
    dsimp only [held, given]
    isplitl [H2 H5 H6 H7]
    · isplitl [H2]; · iexact H2
      isplitl [H5]; · iexact H5
      isplitl [H6]; · iexact H6
      iexact H7
    isplitl [H3 H4]
    · isplitl [H3]; · iexact H3
      iexact H4
    isplitl [H8 H9 H10]
    · isplitl [H8]; · iexact H8
      isplitl [H9]; · iexact H9
      iexact H10
    isplitl [H11]; · iexact H11
    isplitl [H12]; · iexact H12
    isplitl [H13]; · iexact H13
    isplitl [H14]; · iexact H14
    iexact H15

end Cert.Kernel4Ideal.Attn
-- ==== Proof.Attn.Launch.lean ====
/-
  The attention backward call's launch: the work buffers carried from point to point, the result blocks held to
  what the body may leave in them, and the frame.
-/
module

public import proofs.«01_k».proof.Proof.Attn.Body
public import Idealize.ShloMosaic.Lib.Pipeline.DatRel
public import Idealize.ShloMosaic.Lib.Pipeline.ArrRel

@[expose] public section

set_option maxRecDepth 16384

noncomputable section

namespace Cert.Kernel4Ideal.Attn

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What a point makes of the work buffers and of the result blocks -/

/-- The contents of the five work buffers. -/
abbrev Work (c : Dev nD) := Bufs (F := F) c (Memref.whole cc0_scratch0) (Memref.whole cc0_scratch1) (Memref.whole cc0_scratch2) (Memref.whole cc0_scratch3) (Memref.whole cc0_scratch4)

/-- The contents of the three result blocks' buffers at a point. -/
abbrev Left (c : Dev nD) (t : Fin cfg0.N) := Outs (F := F) c (win0_6.stage (cfg0.slots t 6)) (win0_7.stage (cfg0.slots t 7)) (win0_8.stage (cfg0.slots t 8))

/-- The body at point `t` on the blocks of the arrays, from result buffers `o` and work buffers `b`. -/
def point (c : Dev nD) (t : Fin cfg0.N) (o : Left (F := F) c t) (b : Work (F := F) c) :=
  body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    ((hstage0_0 ((cfg0.slots t 0).cast nbuf0_0)).unread (iblk m c 0 t)) ((hstage0_1 ((cfg0.slots t 1).cast nbuf0_1)).unread (iblk m c 1 t)) ((hstage0_2 ((cfg0.slots t 2).cast nbuf0_2)).unread (iblk m c 2 t)) ((hstage0_3 ((cfg0.slots t 3).cast nbuf0_3)).unread (iblk m c 3 t)) ((hstage0_4 ((cfg0.slots t 4).cast nbuf0_4)).unread (iblk m c 4 t)) ((hstage0_5 ((cfg0.slots t 5).cast nbuf0_5)).unread (iblk m c 5 t)) o b

/-- What the work buffers may hold before point `t`. -/
def Reached (c : Dev nD) : ℕ → Work (F := F) c → Prop
  | 0, _ => True
  | t + 1, b' => ∃ (h : t < cfg0.N) (o : Left (F := F) c ⟨t, h⟩) (b : Work (F := F) c), Reached c t b ∧ b' = (point m c ⟨t, h⟩ o b).1.2

/-- The result windows: what the body leaves in them is held to `left`. -/
def marked : Fin 9 → Bool := fun w => w.val == 6 || w.val == 7 || w.val == 8

/-- What the body may leave in a result block at point `t`. -/
def left (c : Dev nD) : (w : Fin cfg0.W) → (t : Fin cfg0.N) → ((cfg0.win w).block.Idx → Elt F (cfg0.win w).elt) → Prop
  | ⟨6, _⟩, t, X => ∃ o b, Reached m c t.val b ∧ X = (win0_6.stage (cfg0.slots t 6)).view.read (Elt F) (point m c t o b).1.1.dq
  | ⟨7, _⟩, t, X => ∃ o b, Reached m c t.val b ∧ X = (win0_7.stage (cfg0.slots t 7)).view.read (Elt F) (point m c t o b).1.1.dk
  | ⟨8, _⟩, t, X => ∃ o b, Reached m c t.val b ∧ X = (win0_8.stage (cfg0.slots t 8)).view.read (Elt F) (point m c t o b).1.1.dv
  | _, _, _ => True

/-- What is carried from point to point: the work buffers, at contents that they may have reached, and the generator. -/
def carried (c : Dev nD) (t : ℕ) : sProp 𝕄 :=
  iprop(∃ b : Work (F := F) c, ⌜Reached m c t b⌝ ∗ held c (Memref.whole cc0_scratch0) (Memref.whole cc0_scratch1) (Memref.whole cc0_scratch2) (Memref.whole cc0_scratch3) (Memref.whole cc0_scratch4) b ∗ ∃ r, prngReg c r)

/-- The proof data: the arrays as the call finds them, each operand's block kept in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ t := carried m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d

/-- What the body is called with at point `t`, window by window. -/
def given0 (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ Y, ⌜((dats m 0 c).toRRel marked (left m c)).Finds 6 t Y⌝ ∗ owns (c : Thread nD τ) (st0_6 t) fullShare Y)
    ∗ (∃ Y, ⌜((dats m 0 c).toRRel marked (left m c)).Finds 7 t Y⌝ ∗ owns (c : Thread nD τ) (st0_7 t) fullShare Y)
    ∗ (∃ Y, ⌜((dats m 0 c).toRRel marked (left m c)).Finds 8 t Y⌝ ∗ owns (c : Thread nD τ) (st0_8 t) fullShare Y))

/-- What it returns. -/
def taken0 (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, ⌜left m c 6 t X⌝ ∗ owns (c : Thread nD τ) (st0_6 t) fullShare X)
    ∗ (∃ X, ⌜left m c 7 t X⌝ ∗ owns (c : Thread nD τ) (st0_7 t) fullShare X)
    ∗ (∃ X, ⌜left m c 8 t X⌝ ∗ owns (c : Thread nD τ) (st0_8 t) fullShare X))

set_option maxHeartbeats 1600000 in
theorem sound (c : Dev nD) (t : Fin cfg0.N) :
    given0 m c t ⊢ wp frame (wpE (defs₀ (F := F)) Variants.none c none) Set.univ (bodyAt0 t) (fun _ => taken0 m c t) := by
  unfold given0 taken0 bodyAt0
  simp only [before_0, before_1, before_2, before_3, before_4, before_5]
  rw [show (dats m 0 c).Φ t.castSucc = carried m c t.val from rfl, show (dats m 0 c).Φ t.succ = carried m c (t.val + 1) from rfl,
    show (dats m 0 c).owesAt () t.succ = (dats m 0 c).owesAt () t.castSucc from rfl,
    after_0, after_1, after_2, after_3, after_4, after_5]
  unfold owns carried
  iintro ⟨⟨%b, %hb, Hb, Hr⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%Y6, -, %f6, -, H6⟩, ⟨%Y7, -, %f7, -, H7⟩, ⟨%Y8, -, %f8, -, H8⟩⟩
  obtain rfl := (hstage0_0 ((cfg0.slots t 0).cast nbuf0_0)).eq_unread e0
  obtain rfl := (hstage0_1 ((cfg0.slots t 1).cast nbuf0_1)).eq_unread e1
  obtain rfl := (hstage0_2 ((cfg0.slots t 2).cast nbuf0_2)).eq_unread e2
  obtain rfl := (hstage0_3 ((cfg0.slots t 3).cast nbuf0_3)).eq_unread e3
  obtain rfl := (hstage0_4 ((cfg0.slots t 4).cast nbuf0_4)).eq_unread e4
  obtain rfl := (hstage0_5 ((cfg0.slots t 5).cast nbuf0_5)).eq_unread e5
  iapply (wp_wand_r Idealize.ShloMosaic.frame (wpE (defs₀ (F := F)) Variants.none (c : Thread nD τ) none) Set.univ)
  isplitl [Hb H0 H1 H2 H3 H4 H5 H6 H7 H8]
  · iapply (point m c t ⟨f6, f7, f8⟩ b).2
    isplitl [H0 H3 H4 H5]
    · isplitl [H0]; · iexact H0
      isplitl [H3]; · iexact H3
      isplitl [H4]; · iexact H4
      iexact H5
    isplitl [H1 H2]
    · isplitl [H1]; · iexact H1
      iexact H2
    isplitl [H6 H7 H8]
    · isplitl [H6]; · iexact H6
      isplitl [H7]; · iexact H7
      iexact H8
    iexact Hb
  iintro %_ ⟨⟨H0, H3, H4, H5⟩, ⟨H1, H2⟩, ⟨H6, H7, H8⟩, Hb⟩
  isplitl [Hb Hr]
  · iexists (point m c t ⟨f6, f7, f8⟩ b).1.2
    isplitr
    · ipureintro; exact ⟨t.isLt, _, b, hb, rfl⟩
    isplitl [Hb]; · iexact Hb
    iexact Hr
  isplitl [Ho]; · iexact Ho
  isplitl [H0]
  · iexists _; isplitr; · ipureintro; exact e0
    iexact H0
  isplitl [H1]
  · iexists _; isplitr; · ipureintro; exact e1
    iexact H1
  isplitl [H2]
  · iexists _; isplitr; · ipureintro; exact e2
    iexact H2
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H6]
  · iexists _; isplitr; · ipureintro; exact ⟨⟨f6, f7, f8⟩, b, hb, rfl⟩
    iexists _; isplitr; · ipureintro; rfl
    iexact H6
  isplitl [H7]
  · iexists _; isplitr; · ipureintro; exact ⟨⟨f6, f7, f8⟩, b, hb, rfl⟩
    iexists _; isplitr; · ipureintro; rfl
    iexact H7
  · iexists _; isplitr; · ipureintro; exact ⟨⟨f6, f7, f8⟩, b, hb, rfl⟩
    iexists _; isplitr; · ipureintro; rfl
    iexact H8

theorem row (t : Fin cfg0.N) :
    defs₀ (F := F) .tc cfg0.body (cfg0.bodyArgs t (cfg0.slots t)) = bodyAt0 t := by
  unfold defs₀; rw [Defs.onTc_tc]

theorem obligation (c : Dev nD) :
    Pipeline.BodyObligationRel (dats (F := F) m 0 c) (defs₀ (F := F)) Variants.none () Set.univ marked (left m c) := fun t => by
  rw [bigSep_W0, bigSep_W0, row]
  exact triple_restated (sound m c t) rfl .rfl fun _ => .rfl

theorem enter (c : Dev nD) : Pipeline.ΦA spec0 c ⊢ carried (F := F) m c 0 := by
  unfold Pipeline.ΦA carried
  rw [scopedRest0_eq]
  iintro ⟨⟨⟨%g0, G0⟩, ⟨%g1, G1⟩, ⟨%g2, G2⟩, ⟨%g3, G3⟩, ⟨%g4, G4⟩⟩, Hr⟩
  iexists (⟨g0, g1, g2, g3, g4⟩ : Work (F := F) c)
  isplitr; · ipureintro; trivial
  simp only [held, Memref.view_whole, View.set_whole]
  isplitr [Hr]
  · isplitl [G0]; · iexact G0
    isplitl [G1]; · iexact G1
    isplitl [G2]; · iexact G2
    isplitl [G3]; · iexact G3
    iexact G4
  iexact Hr

theorem leave (c : Dev nD) (t : ℕ) : carried (F := F) m c t ⊢ Pipeline.ΦA spec0 c := by
  unfold Pipeline.ΦA carried
  rw [scopedRest0_eq]
  simp only [held, Memref.view_whole, View.set_whole]
  iintro ⟨%b, -, ⟨G0, G1, G2, G3, G4⟩, Hr⟩
  isplitr [Hr]
  · isplitl [G0]; · iexists b.dk; iexact G0
    isplitl [G1]; · iexists b.dv; iexact G1
    isplitl [G2]; · iexists b.s; iexact G2
    isplitl [G3]; · iexists b.dp; iexact G3
    iexists b.dq; iexact G4
  iexact Hr

/-- The data read relationally: the result blocks held to `left`. -/
abbrev rel (c : Dev nD) := (dats (F := F) m 0 c).toRRel marked (left m c)

set_option backward.isDefEq.respectTransparency.types false in
/-- The launch: the run ends with every counter at zero and the arrays as `rel` says. -/
theorem run : θ_run defs (onTc (τ := τ) (main (F := F))) (s₀ m ρ)
    (fun r => Pipeline.RDat.FramePost (cfgs 0) (rel m) (V m) r ∧ r.2.sem = fun _ => 0) :=
  Pipeline.RDat.θ_run_frame_track cfgs (0 : Fin 1) launch0 defs₀ Variants.none (rel m) m ρ main
    (hbody := fun c => (obligation m c).toRRel) (hshare := fun c => (dats m 0 c).share_full fun _ => rfl)
    (howed := fun _ _ => rfl) (V := V m) (hmain := hmain m Variants.none) (hA := A_eq m)
    (hin := fun c => enter m c) (hout := fun c => leave m c _) (Q' := _)

/-- The arguments end unchanged and every counter at zero. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h => ⟨fun c =>
    ⟨((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c),
     ((h.1 c).2 main_arg3 (Pipeline.mem_restRefs_of main_arg3 (by decide) (by decide))).trans (V_main_arg3 m c)⟩, h.2⟩) (run m ρ)

end Cert.Kernel4Ideal.Attn
-- ==== Proof.Attn.Tiles.lean ====
/-
  The tile arithmetic of attention's backward over the reals, and each printed payload of the kernel's body at real
  arguments.
-/
module

public import proofs.«01_k».proof.Proof.Common.Lift
public import proofs.«01_k».proof.Proof.Gen.Kernel4Ideal.Skeleton
public import Idealize.ShloMosaic.Lib.Tactic
public import Idealize.ShloMosaic.Lib.Pipeline.Value

@[expose] public section

set_option maxRecDepth 16384

noncomputable section

open Idealize.ShloMosaic Idealize.ShloMosaic.TcCoe Cert.Lift

namespace Cert.Kernel4Ideal.Attn

open Cert.Kernel4Ideal Cert.Kernel4Ideal.Gen

/-! ## Tiles of reals -/

/-- The product of `A` with the transpose of `B`. -/
def nt {m n p : ℕ} (A : Fin m → Fin p → ℝ) (B : Fin n → Fin p → ℝ) (a : Fin m) (b : Fin n) : ℝ := ∑ d, A a d * B b d

/-- The product of `A` with `B`. -/
def nn {m n p : ℕ} (A : Fin m → Fin p → ℝ) (B : Fin p → Fin n → ℝ) (a : Fin m) (b : Fin n) : ℝ := ∑ d, A a d * B d b

/-- The product of the transpose of `A` with `B`. -/
def tn {m n p : ℕ} (A : Fin p → Fin m → ℝ) (B : Fin p → Fin n → ℝ) (a : Fin m) (b : Fin n) : ℝ := ∑ d, A d a * B d b

/-- The weights of a tile of scores, keys by queries, from the queries' statistics. -/
def prob {m n : ℕ} (S : Fin m → Fin n → ℝ) (L : Fin n → ℝ) (a : Fin m) (b : Fin n) : ℝ := (2 : ℝ) ^ (S a b - L b)

/-- The same on the diagonal: a query sees the keys up to its own. -/
def probDiag {n : ℕ} (S : Fin n → Fin n → ℝ) (L : Fin n → ℝ) (a b : Fin n) : ℝ := if a.val ≤ b.val then (2 : ℝ) ^ (S a b - L b) else 0

/-- The gradient of a tile of scores. -/
def grad {m n : ℕ} (P E : Fin m → Fin n → ℝ) (D : Fin n → ℝ) (a : Fin m) (b : Fin n) : ℝ := P a b * (E a b - D b)

/-- One matrix more in a sum. -/
def plus {m n : ℕ} (X Y : Fin m → Fin n → ℝ) (a : Fin m) (b : Fin n) : ℝ := X a b + Y a b

/-- A tile as a block of one slot. -/
def tile {m n : ℕ} (X : Fin m → Fin n → ℝ) : (⟨3, ![1, m, n]⟩ : Shape).Idx → EReal := fun j => ((X (j 1) (j 2) : ℝ) : EReal)

/-- A row statistic as it is kept. -/
def stat {n : ℕ} (L : Fin n → ℝ) : (⟨4, ![1, 1, 1, n]⟩ : Shape).Idx → EReal := fun j => ((L (j 3) : ℝ) : EReal)

theorem tile_ix {m n : ℕ} (X : Fin m → Fin n → ℝ) (i : Fin 1) (a : Fin m) (b : Fin n) : tile X (ix3 i a b) = ((X a b : ℝ) : EReal) := rfl

/-- The first and the second half of a row of 512. -/
def half0 (D : Fin 512 → ℝ) (a : Fin 256) : ℝ := D ⟨a.val, by omega⟩
def half1 (D : Fin 512 → ℝ) (a : Fin 256) : ℝ := D ⟨256 + a.val, by omega⟩

theorem exp2_real (x : ℝ) : Ideal.exp2 (x : EReal) = (((2 : ℝ) ^ x : ℝ) : EReal) := rfl

theorem dot_real {n : ℕ} (f g : Fin n → ℝ) : ∑ x, ((f x : ℝ) : EReal) * ((g x : ℝ) : EReal) = ((∑ x, f x * g x : ℝ) : EReal) := by
  rw [coe_sum]
  exact Finset.sum_congr rfl fun x _ => (EReal.coe_mul _ _).symm

theorem add_dot_real {n : ℕ} (r : ℝ) (f g : Fin n → ℝ) :
    (r : EReal) + ∑ x, ((f x : ℝ) : EReal) * ((g x : ℝ) : EReal) = ((r + ∑ x, f x * g x : ℝ) : EReal) := by
  rw [dot_real, EReal.coe_add]

/-! ## The payloads: scores and their gradients' tiles -/

section Payloads

variable (A B K X Q : Fin 512 → Fin 256 → ℝ) (V O Y : Fin 512 → Fin 128 → ℝ) (S E G P : Fin 512 → Fin 512 → ℝ) (L D : Fin 512 → ℝ)

theorem pay13 : (k0_pay13 (F := Ideal) (up2 A) (up2 B) : S1x512x512.Idx → EReal) = tile (nt A B) := by
  funext j; idx_vars j
  unfold k0_pay13
  pointwise []
  exact dot_real (fun d => A _ d) (fun d => B _ d)

theorem pay23 : (k0_pay23 (F := Ideal) (up2 A) (up2 B) : S1x512x512.Idx → EReal) = tile (nt A B) := pay13 A B
theorem pay54 : (k0_pay54 (F := Ideal) (up2 A) (up2 B) : S1x512x512.Idx → EReal) = tile (nt A B) := by
  funext j; idx_vars j
  unfold k0_pay54 k0_pay52
  pointwise []
  exact dot_real (fun d => A _ d) (fun d => B _ d)
theorem pay57 : (k0_pay57 (F := Ideal) (up2 A) (up2 B) : S1x512x512.Idx → EReal) = tile (nt A B) := pay13 A B

theorem pay14 : (k0_pay14 (F := Ideal) (up2 V) (up2 O) : S1x512x512.Idx → EReal) = tile (nt V O) := by
  funext j; idx_vars j
  unfold k0_pay14
  pointwise []
  exact dot_real (fun d => V _ d) (fun d => O _ d)

theorem pay24 : (k0_pay24 (F := Ideal) (up2 V) (up2 O) : S1x512x512.Idx → EReal) = tile (nt V O) := pay14 V O
theorem pay58 : (k0_pay58 (F := Ideal) (up2 V) (up2 O) : S1x512x512.Idx → EReal) = tile (nt V O) := pay14 V O
theorem pay56 : (k0_pay56 (F := Ideal) (up2 V) (up2 O) (constant S512x512 .f32 0x00000000#32) : S1x512x512.Idx → EReal) = tile (nt V O) := by
  funext j; idx_vars j
  unfold k0_pay56
  pointwise []
  exact dot_real (fun d => V _ d) (fun d => O _ d)

theorem pay15 : (k0_pay15 (F := Ideal) (up2 A) : S512x256.Idx → EReal) = up2 A := by
  funext j; idx_vars j
  unfold k0_pay15
  pointwise []
theorem pay25 : (k0_pay25 (F := Ideal) (up2 A) : S512x256.Idx → EReal) = up2 A := pay15 A
theorem pay45 : (k0_pay45 (F := Ideal) (up2 A) : S512x256.Idx → EReal) = up2 A := pay15 A
theorem pay52 : (k0_pay52 (F := Ideal) (up2 A) : S512x256.Idx → EReal) = up2 A := pay15 A
theorem pay59 : (k0_pay59 (F := Ideal) (up2 A) : S512x256.Idx → EReal) = up2 A := pay15 A

theorem pay16 : (k0_pay16 (F := Ideal) (up2 V) : S512x128.Idx → EReal) = up2 V := by
  funext j; idx_vars j
  unfold k0_pay16
  pointwise []
theorem pay53 : (k0_pay53 (F := Ideal) (up2 V) : S512x128.Idx → EReal) = up2 V := pay16 V
theorem pay55 : (k0_pay55 (F := Ideal) (up2 V) : S512x128.Idx → EReal) = up2 V := pay16 V
theorem pay60 : (k0_pay60 (F := Ideal) (up2 V) : S512x128.Idx → EReal) = up2 V := pay16 V

theorem pay21 : (k0_pay21 (F := Ideal) (up2 X) : S512x256.Idx → EReal) = up2 X := by
  funext j; idx_vars j
  unfold k0_pay21
  pointwise []

/-! ## The weights -/

theorem pay17 : (k0_pay17 (F := Ideal) (tile S) (stat L) : S512x512.Idx → EReal) = up2 (prob S L) := by
  funext j; idx_vars j
  unfold k0_pay17
  pointwise []
  exact (congrArg Ideal.exp2 (EReal.coe_sub _ _).symm).trans (exp2_real _)
theorem pay26 : (k0_pay26 (F := Ideal) (tile S) (stat L) : S512x512.Idx → EReal) = up2 (prob S L) := pay17 S L
theorem pay46 : (k0_pay46 (F := Ideal) (tile S) (stat L) : S512x512.Idx → EReal) = up2 (prob S L) := pay17 S L

/-- The comparison of two positions of a tile. -/
theorem sle_pos : ∀ a b : Fin 512, IntOp.cmpi CmpIPredicate.sle (BitVec.ofNat 32 a.val) (BitVec.ofNat 32 b.val) = if a.val ≤ b.val then 1#1 else 0#1 := by
  intro a b
  have ha : (BitVec.ofNat 32 a.val).toInt = a.val := by rw [BitVec.toInt_eq_toNat_of_lt] <;> simp <;> omega
  have hb : (BitVec.ofNat 32 b.val).toInt = b.val := by rw [BitVec.toInt_eq_toNat_of_lt] <;> simp <;> omega
  simp only [IntOp.cmpi, BitVec.sle, ha, hb, Nat.cast_le]
  by_cases h : a.val ≤ b.val <;> simp [h]

theorem pay61 : (k0_pay61 (F := Ideal) (tile S) (stat L) : S512x512.Idx → EReal) = up2 (probDiag S L) := by
  funext j; idx_vars j
  unfold k0_pay61
  pointwise []
  rw [sle_pos, up2_ix, probDiag]
  by_cases h : j0.val ≤ j1.val
  · rw [if_pos h, if_pos h]
    exact (congrArg Ideal.exp2 (EReal.coe_sub _ _).symm).trans (exp2_real _)
  · rw [if_neg h, if_neg h]; rfl

/-! ## The sums over query blocks -/

theorem pay18 : (k0_pay18 (F := Ideal) (up2 O) (tile S) (stat L) (up2 Y) : S512x128.Idx → EReal) = up2 (plus Y (nn (prob S L) O)) := by
  unfold k0_pay18; rw [pay17]
  funext j; idx_vars j
  pointwise []
  exact add_dot_real (Y _ _) (fun d => prob S L _ d) (fun d => O d _)
theorem pay27 : (k0_pay27 (F := Ideal) (up2 O) (tile S) (stat L) (up2 Y) : S512x128.Idx → EReal) = up2 (plus Y (nn (prob S L) O)) := by
  unfold k0_pay27; rw [pay26]
  funext j; idx_vars j
  pointwise []
  exact add_dot_real (Y _ _) (fun d => prob S L _ d) (fun d => O d _)
theorem pay47 : (k0_pay47 (F := Ideal) (up2 O) (tile S) (stat L) (up2 Y) : S512x128.Idx → EReal) = up2 (plus Y (nn (prob S L) O)) := pay27 O Y S L
theorem pay62 : (k0_pay62 (F := Ideal) (up2 O) (tile S) (stat L) (up2 Y) : S512x128.Idx → EReal) = up2 (plus Y (nn (probDiag S L) O)) := by
  unfold k0_pay62; rw [pay61]
  funext j; idx_vars j
  pointwise []
  exact add_dot_real (Y _ _) (fun d => probDiag S L _ d) (fun d => O d _)

/-- The two halves of a statistic, one beside the other. -/
theorem halves (b : Fin 512) :
    (if h : b.val < 256 then stat (half0 D) (ix4 0 0 0 ⟨b.val, h⟩) else stat (half1 D) (ix4 0 0 0 ⟨b.val - 256, by omega⟩)) = ((D b : ℝ) : EReal) := by
  by_cases h : b.val < 256
  · rw [dif_pos h]; rfl
  · rw [dif_neg h]
    exact congrArg (fun z => ((D z : ℝ) : EReal)) (Fin.ext (show 256 + (b.val - 256) = b.val by omega))

theorem grad_real (p e d : ℝ) : (p : EReal) * ((e : EReal) - (d : EReal)) = ((p * (e - d) : ℝ) : EReal) := by
  rw [EReal.coe_mul, EReal.coe_sub]

theorem pay19 : (k0_pay19 (F := Ideal) (tile S) (stat L) (stat (half0 D)) (stat (half1 D)) (tile E) : S512x512.Idx → EReal) = up2 (grad (prob S L) E D) := by
  unfold k0_pay19; rw [pay17]
  funext j; idx_vars j
  pointwise []
  rw [halves]
  exact grad_real _ _ _
theorem pay48 : (k0_pay48 (F := Ideal) (tile S) (stat L) (stat (half0 D)) (stat (half1 D)) (tile E) : S512x512.Idx → EReal) = up2 (grad (prob S L) E D) := pay19 S E L D
theorem pay63 : (k0_pay63 (F := Ideal) (tile S) (stat L) (stat (half0 D)) (stat (half1 D)) (tile E) : S512x512.Idx → EReal) = up2 (grad (probDiag S L) E D) := by
  unfold k0_pay63; rw [pay61]
  funext j; idx_vars j
  pointwise []
  rw [halves]
  exact grad_real _ _ _

theorem pay28 : (k0_pay28 (F := Ideal) (stat (half0 D)) (stat (half1 D)) : S1x512.Idx → EReal) = up2 fun _ b => D b := by
  unfold k0_pay28
  funext j; idx_vars j
  pointwise []
  rw [halves]; rfl

theorem pay1 : (k0_pay1 (F := Ideal) (up2 P) (up2 fun _ b => D b) (tile E) : S512x512.Idx → EReal) = up2 (grad P E D) := by
  unfold k0_pay1
  funext j; idx_vars j
  pointwise []
  exact grad_real _ _ _

theorem pay20 : (k0_pay20 (F := Ideal) (up2 Q) (tile S) (stat L) (stat (half0 D)) (stat (half1 D)) (tile E) (up2 X) : S512x256.Idx → EReal)
    = up2 (plus X (nn (grad (prob S L) E D) Q)) := by
  unfold k0_pay20; rw [pay19]
  funext j; idx_vars j
  pointwise []
  exact add_dot_real (X _ _) (fun d => grad (prob S L) E D _ d) (fun d => Q d _)

theorem pay2 : (k0_pay2 (F := Ideal) (up2 Q) (up2 P) (up2 fun _ b => D b) (tile E) (up2 X) : S512x256.Idx → EReal) = up2 (plus X (nn (grad P E D) Q)) := by
  unfold k0_pay2; rw [pay1]
  funext j; idx_vars j
  pointwise []
  exact add_dot_real (X _ _) (fun d => grad P E D _ d) (fun d => Q d _)

theorem pay8 : (k0_pay8 (F := Ideal) (up2 Q) (up2 G) (up2 X) : S512x256.Idx → EReal) = up2 (plus X (nn G Q)) := by
  unfold k0_pay8 k0_pay7
  funext j; idx_vars j
  pointwise []
  exact add_dot_real (X _ _) (fun d => G _ d) (fun d => Q d _)
theorem pay65 : (k0_pay65 (F := Ideal) (up2 Q) (up2 G) (up2 X) : S512x256.Idx → EReal) = up2 (plus X (nn G Q)) := pay8 X Q G

/-! ## The sum over key blocks -/

theorem pay22 : (k0_pay22 (F := Ideal) (up2 K) (up2 G) (up2 X) : S512x256.Idx → EReal) = up2 (plus X (tn G K)) := by
  unfold k0_pay22
  funext j; idx_vars j
  pointwise []
  exact add_dot_real (X _ _) (fun d => G d _) (fun d => K d _)

theorem pay3 : (k0_pay3 (F := Ideal) (up2 K) (up2 P) (up2 fun _ b => D b) (tile E) (up2 X) : S512x256.Idx → EReal) = up2 (plus X (tn (grad P E D) K)) := by
  unfold k0_pay3; rw [pay1]
  funext j; idx_vars j
  pointwise []
  exact add_dot_real (X _ _) (fun d => grad P E D d _) (fun d => K d _)

theorem pay9 : (k0_pay9 (F := Ideal) (up2 K) (up2 G) (up2 X) : S512x256.Idx → EReal) = up2 (plus X (tn G K)) := by
  unfold k0_pay9 k0_pay7
  funext j; idx_vars j
  pointwise []
  exact add_dot_real (X _ _) (fun d => G d _) (fun d => K d _)
theorem pay66 : (k0_pay66 (F := Ideal) (up2 K) (up2 G) (up2 X) : S512x256.Idx → EReal) = up2 (plus X (tn G K)) := pay9 K X G

/-! ## The zeros and the results -/

theorem pay49 : (k0_pay49 (F := Ideal) : S4096x256.Idx → EReal) = up2 (fun (_ : Fin 4096) (_ : Fin 256) => 0) := by
  unfold k0_pay49
  funext j; idx_vars j
  pointwise []
  rfl
theorem pay50 : (k0_pay50 (F := Ideal) : S512x256.Idx → EReal) = up2 (fun (_ : Fin 512) (_ : Fin 256) => 0) := by
  unfold k0_pay50
  funext j; idx_vars j
  pointwise []
  rfl
theorem pay51 : (k0_pay51 (F := Ideal) : S512x128.Idx → EReal) = up2 (fun (_ : Fin 512) (_ : Fin 128) => 0) := by
  unfold k0_pay51
  funext j; idx_vars j
  pointwise []
  rfl

theorem pay10 (Z : Fin 4096 → Fin 256 → ℝ) : (k0_pay10 (F := Ideal) (up2 Z) : S4096x256.Idx → EReal) = up2 Z := by
  unfold k0_pay10
  funext j; idx_vars j
  pointwise []
theorem pay11 : (k0_pay11 (F := Ideal) (up2 X) : S512x256.Idx → EReal) = up2 fun a d => X a d * Real.log 2 := by
  unfold k0_pay11
  funext j; idx_vars j
  pointwise []
  exact (congrArg (fun z : EReal => ((X _ _ : ℝ) : EReal) * z) (show Named.named (F := Ideal) (φ := .f32) κ "ln2" 0x3F317218#32 = ((Real.log 2 : ℝ) : EReal) from rfl)).trans (EReal.coe_mul _ _).symm
theorem pay12 : (k0_pay12 (F := Ideal) (up2 Y) : S512x128.Idx → EReal) = up2 Y := by
  unfold k0_pay12
  funext j; idx_vars j
  pointwise []

end Payloads

end Cert.Kernel4Ideal.Attn
-- ==== Proof.Attn.Windows.lean ====
/-
  Blocks of the operands and of the work buffers as the attention backward body reads and writes them, over the reals.
-/
module

public import proofs.«01_k».proof.Proof.Attn.Tiles
public import Idealize.ShloMosaic.Lib.VecWindow

@[expose] public section

set_option maxRecDepth 16384

noncomputable section

open Idealize.ShloMosaic Idealize.ShloMosaic.TcCoe Cert.Lift

namespace Cert.Kernel4Ideal.Attn

/-- Rows `512 i` to `512 i + 511` of a matrix of 4096 rows. -/
def blk {p : ℕ} (Z : Fin 4096 → Fin p → ℝ) (i : Fin 8) (a : Fin 512) (d : Fin p) : ℝ := Z ⟨512 * i.val + a.val, by omega⟩ d

/-- The matrix with `T` added to those rows. -/
def addBlk {p : ℕ} (Z : Fin 4096 → Fin p → ℝ) (i : Fin 8) (T : Fin 512 → Fin p → ℝ) (r : Fin 4096) (d : Fin p) : ℝ :=
  if r.val / 512 = i.val then Z r d + T ⟨r.val % 512, by omega⟩ d else Z r d

/-- A statistic of all rows, a block of 512 at a time. -/
def stats (L : Fin 8 → Fin 512 → ℝ) : (⟨4, ![1, 8, 1, 512]⟩ : Shape).Idx → EReal := fun j => ((L (j 1) (j 3) : ℝ) : EReal)

/-- The same, a block of 256 at a time. -/
def pieces (D : Fin 8 → Fin 512 → ℝ) : (⟨4, ![1, 16, 1, 256]⟩ : Shape).Idx → EReal :=
  fun j => ((D ⟨(j 1).val / 2, by have := (j 1).isLt; simp at this; omega⟩ ⟨256 * ((j 1).val % 2) + (j 3).val, by have := (j 3).isLt; simp at this; omega⟩ : ℝ) : EReal)

theorem blk_addBlk_ne {p : ℕ} (Z : Fin 4096 → Fin p → ℝ) {i i' : Fin 8} (h : i ≠ i') (T : Fin 512 → Fin p → ℝ) :
    blk (addBlk Z i T) i' = blk Z i' := by
  funext a d
  refine if_neg fun e => h (Fin.ext ?_)
  have e' : (512 * i'.val + a.val) / 512 = i.val := e
  omega

section Pure

theorem window_rows {p : ℕ} (Z : Fin 4096 → Fin p → ℝ) (i : Fin 8) (inb : ∀ a, ![512 * i.val, 0] a + ![512, p] a ≤ (⟨2, ![4096, p]⟩ : Shape).size a) :
    VecWindow.window (s := ⟨2, ![4096, p]⟩) (up2 Z) ![512 * i.val, 0] ![512, p] inb = up2 (blk Z i) := by
  funext j
  exact congrArg (fun z : ℝ => (z : EReal)) (congrArg₂ Z (Fin.ext (show 512 * i.val + 1 * (j 0).val = 512 * i.val + (j 0).val by omega))
    (Fin.ext (show 0 + 1 * (j 1).val = (j 1).val by omega)))

theorem put_rows {p : ℕ} (Z : Fin 4096 → Fin p → ℝ) (i : Fin 8) (T : Fin 512 → Fin p → ℝ) :
    VecWindow.put (s := ⟨2, ![4096, p]⟩) (up2 Z) ![512 * i.val, 0] ![512, p] (up2 (plus (blk Z i) T)) = up2 (addBlk Z i T) := by
  funext y
  obtain ⟨r, d, rfl⟩ : ∃ (r : Fin 4096) (d : Fin p), y = ix2 r d := ⟨y 0, y 1, eq_ix2 y⟩
  unfold VecWindow.put
  rw [up2_ix]
  unfold addBlk
  by_cases h : r.val / 512 = i.val
  · have hr : 512 * i.val ≤ r.val ∧ r.val < 512 * i.val + 512 := by omega
    have hall : ∀ a, ![512 * i.val, 0] a ≤ ((ix2 r d : (⟨2, ![4096, p]⟩ : Shape).Idx) a).val ∧ ((ix2 r d : (⟨2, ![4096, p]⟩ : Shape).Idx) a).val < ![512 * i.val, 0] a + ![512, p] a :=
      Fin.forall_fin_two.mpr ⟨hr, ⟨Nat.zero_le _, show d.val < 0 + p by omega⟩⟩
    rw [dif_pos hall]
    refine Eq.trans ?_ (congrArg (fun z : ℝ => (z : EReal)) (if_pos h).symm)
    refine congrArg (fun z : ℝ => (z : EReal)) (congrArg₂ (· + ·) (congrArg₂ Z (Fin.ext ?_) rfl) (congrArg₂ T (Fin.ext ?_) rfl))
    · show 512 * i.val + (r.val - 512 * i.val) = r.val; omega
    · show r.val - 512 * i.val = r.val % 512; omega
  · rw [dif_neg]
    · exact congrArg (fun z : ℝ => (z : EReal)) (if_neg h).symm
    · intro hall
      have h0 : 512 * i.val ≤ r.val ∧ r.val < 512 * i.val + 512 := hall 0
      exact h (by omega)

theorem window_stat (L : Fin 8 → Fin 512 → ℝ) (i : Fin 8) (inb : ∀ a, ![0, i.val, 0, 0] a + ![1, 1, 1, 512] a ≤ (⟨4, ![1, 8, 1, 512]⟩ : Shape).size a) :
    VecWindow.window (s := ⟨4, ![1, 8, 1, 512]⟩) (stats L) ![0, i.val, 0, 0] ![1, 1, 1, 512] inb = stat (L i) := by
  funext j
  have h1 : (j 1).val < 1 := (j 1).isLt
  exact congrArg (fun z : ℝ => (z : EReal)) (congrArg₂ L (Fin.ext (show i.val + 1 * (j 1).val = i.val by omega))
    (Fin.ext (show 0 + 1 * (j 3).val = (j 3).val by omega)))

theorem window_half0 (D : Fin 8 → Fin 512 → ℝ) (i : Fin 8) (inb : ∀ a, ![0, 2 * i.val, 0, 0] a + ![1, 1, 1, 256] a ≤ (⟨4, ![1, 16, 1, 256]⟩ : Shape).size a) :
    VecWindow.window (s := ⟨4, ![1, 16, 1, 256]⟩) (pieces D) ![0, 2 * i.val, 0, 0] ![1, 1, 1, 256] inb = stat (half0 (D i)) := by
  funext j
  have h1 : (j 1).val < 1 := (j 1).isLt
  exact congrArg (fun z : ℝ => (z : EReal)) (congrArg₂ D (Fin.ext (show (2 * i.val + 1 * (j 1).val) / 2 = i.val by omega))
    (Fin.ext (show 256 * ((2 * i.val + 1 * (j 1).val) % 2) + (0 + 1 * (j 3).val) = (j 3).val by omega)))

theorem window_half1 (D : Fin 8 → Fin 512 → ℝ) (i : Fin 8) (inb : ∀ a, ![0, 2 * i.val + 1, 0, 0] a + ![1, 1, 1, 256] a ≤ (⟨4, ![1, 16, 1, 256]⟩ : Shape).size a) :
    VecWindow.window (s := ⟨4, ![1, 16, 1, 256]⟩) (pieces D) ![0, 2 * i.val + 1, 0, 0] ![1, 1, 1, 256] inb = stat (half1 (D i)) := by
  funext j
  have h1 : (j 1).val < 1 := (j 1).isLt
  exact congrArg (fun z : ℝ => (z : EReal)) (congrArg₂ D (Fin.ext (show (2 * i.val + 1 + 1 * (j 1).val) / 2 = i.val by omega))
    (Fin.ext (show 256 * ((2 * i.val + 1 + 1 * (j 1).val) % 2) + (0 + 1 * (j 3).val) = 256 + (j 3).val by omega)))

end Pure

/-! ## Loads and stores of a view -/

section Views

variable {sig : RefSig} {κ : Kind} {sp : Space} {s : Shape} {e : EltTy} {Val : EltTy → Type}

/-- A load of a window of known contents. -/
theorem readAt_of (v : View sig κ sp s e) (f : v.ty.Contents Val) {X : s.Idx → Val e} (hf : v.read Val f = X) {off off' size : Fin s.rank → ℕ}
    (inb : ∀ a, off a + size a ≤ s.size a) (h : off = off') :
    v.readAt Val (Rect.unit off size inb).toLoadRect f = VecWindow.window X off' size (h ▸ inb) := by
  subst h hf
  exact View.readAt_unit v f inb rfl inb

/-- A load of all of known contents. -/
theorem readAt_all (v : View sig κ sp s e) (f : v.ty.Contents Val) {X : s.Idx → Val e} (hf : v.read Val f = X) {off : Fin s.rank → ℕ}
    (inb : ∀ a, off a + s.size a ≤ s.size a) : v.readAt Val (Rect.unit off s.size inb).toLoadRect f = X :=
  (View.readAt_full v f inb).trans hf

/-- Contents after a store over known contents. -/
theorem read_put (v : View sig κ sp s e) (f : v.ty.Contents Val) (L : List (View.Piece Val s e)) {X : s.Idx → Val e} (hf : v.read Val (v.writes Val f L) = X)
    {off off' size : Fin s.rank → ℕ} (inb : ∀ a, off a + size a ≤ s.size a) (w : (Rect.unit off size inb).shape.Idx → Val e) (h : off = off') :
    v.read Val (v.writes Val f (⟨Rect.unit off size inb, w⟩ :: L)) = VecWindow.put X off' size w := by
  rw [View.read_writes_cons_put v f inb w L h, hf]

/-- A load of the window stored last. -/
theorem readAt_last (v : View sig κ sp s e) (f : v.ty.Contents Val) (L : List (View.Piece Val s e)) {off size : Fin s.rank → ℕ}
    (inb : ∀ a, off a + size a ≤ s.size a) (w : (Rect.unit off size inb).shape.Idx → Val e) :
    v.readAt Val (Rect.unit off size inb).toLoadRect (v.writes Val f (⟨Rect.unit off size inb, w⟩ :: L)) = w := by
  rw [View.readAt_unit v _ inb rfl inb, View.read_writes_cons_put v f inb w L rfl]
  exact VecWindow.window_put_same _ _ _ _ _

/-- A load of the window stored before the last, of other places. -/
theorem readAt_before (v : View sig κ sp s e) (f : v.ty.Contents Val) (L : List (View.Piece Val s e)) {off off' size size' : Fin s.rank → ℕ}
    (inb : ∀ a, off a + size a ≤ s.size a) (w : (Rect.unit off size inb).shape.Idx → Val e)
    (inb' : ∀ a, off' a + size' a ≤ s.size a) (w' : (Rect.unit off' size' inb').shape.Idx → Val e)
    (a : Fin s.rank) (ha : off a + size a ≤ off' a ∨ off' a + size' a ≤ off a) :
    v.readAt Val (Rect.unit off size inb).toLoadRect (v.writes Val f (⟨Rect.unit off' size' inb', w'⟩ :: ⟨Rect.unit off size inb, w⟩ :: L)) = w := by
  rw [View.readAt_unit v _ inb rfl inb, View.read_writes_cons_put v f inb' w' _ rfl, View.read_writes_cons_put v f inb w L rfl,
    VecWindow.window_put_of_disjoint _ _ _ _ _ _ _ a ha]
  exact VecWindow.window_put_same _ _ _ _ _

end Views

end Cert.Kernel4Ideal.Attn
-- ==== Proof.Attn.TripValue.lean ====
/-
  What one trip of the attention backward kernel's loop leaves, over the reals.
-/
module

public import proofs.«01_k».proof.Proof.Attn.Trip
public import proofs.«01_k».proof.Proof.Attn.Windows

@[expose] public section

set_option maxRecDepth 16384

noncomputable section

namespace Cert.Kernel4Ideal.Attn

open Cert.Kernel4Ideal Cert.Kernel4Ideal.Gen
open Idealize.ShloMosaic Idealize.ShloMosaic.TcCoe Cert.Lift

/-! ## Loads -/

section Loads

variable {off : Fin 2 → ℕ} {off4 : Fin 4 → ℕ} {n : Fin 8}

theorem load_q (v : View sig .tc .vmem S4096x256 .bf16) {f : v.ty.Contents (Elt Ideal)} {Q : Fin 4096 → Fin 256 → ℝ} (hf : v.read (Elt Ideal) f = up2 Q)
    (inb : ∀ a, off a + S512x256.size a ≤ S4096x256.size a) (h : off = ![512 * n.val, 0]) :
    v.readAt (Elt Ideal) (Rect.unit (s := S4096x256) off S512x256.size inb).toLoadRect f = up2 (blk Q n) :=
  (readAt_of v f hf inb h).trans (window_rows Q n _)

theorem load_o (v : View sig .tc .vmem S4096x128 .bf16) {f : v.ty.Contents (Elt Ideal)} {O : Fin 4096 → Fin 128 → ℝ} (hf : v.read (Elt Ideal) f = up2 O)
    (inb : ∀ a, off a + S512x128.size a ≤ S4096x128.size a) (h : off = ![512 * n.val, 0]) :
    v.readAt (Elt Ideal) (Rect.unit (s := S4096x128) off S512x128.size inb).toLoadRect f = up2 (blk O n) :=
  (readAt_of v f hf inb h).trans (window_rows O n _)

theorem load_dq (v : View sig .tc .vmem S4096x256 .f32) {f : v.ty.Contents (Elt Ideal)} {Z : Fin 4096 → Fin 256 → ℝ} (hf : v.read (Elt Ideal) f = up2 Z)
    (inb : ∀ a, off a + S512x256.size a ≤ S4096x256.size a) (h : off = ![512 * n.val, 0]) :
    v.readAt (Elt Ideal) (Rect.unit (s := S4096x256) off S512x256.size inb).toLoadRect f = up2 (blk Z n) :=
  (readAt_of v f hf inb h).trans (window_rows Z n _)

theorem load_l (v : View sig .tc .vmem S1x8x1x512 .f32) {f : v.ty.Contents (Elt Ideal)} {L : Fin 8 → Fin 512 → ℝ} (hf : v.read (Elt Ideal) f = stats L)
    (inb : ∀ a, off4 a + S1x1x1x512.size a ≤ S1x8x1x512.size a) (h : off4 = ![0, n.val, 0, 0]) :
    v.readAt (Elt Ideal) (Rect.unit (s := S1x8x1x512) off4 S1x1x1x512.size inb).toLoadRect f = stat (L n) :=
  (readAt_of v f hf inb h).trans (window_stat L n _)

theorem load_d0 (v : View sig .tc .vmem S1x16x1x256 .f32) {f : v.ty.Contents (Elt Ideal)} {D : Fin 8 → Fin 512 → ℝ} (hf : v.read (Elt Ideal) f = pieces D)
    (inb : ∀ a, off4 a + S1x1x1x256.size a ≤ S1x16x1x256.size a) (h : off4 = ![0, 2 * n.val, 0, 0]) :
    v.readAt (Elt Ideal) (Rect.unit (s := S1x16x1x256) off4 S1x1x1x256.size inb).toLoadRect f = stat (half0 (D n)) :=
  (readAt_of v f hf inb h).trans (window_half0 D n _)

theorem load_d1 (v : View sig .tc .vmem S1x16x1x256 .f32) {f : v.ty.Contents (Elt Ideal)} {D : Fin 8 → Fin 512 → ℝ} (hf : v.read (Elt Ideal) f = pieces D)
    (inb : ∀ a, off4 a + S1x1x1x256.size a ≤ S1x16x1x256.size a) (h : off4 = ![0, 2 * n.val + 1, 0, 0]) :
    v.readAt (Elt Ideal) (Rect.unit (s := S1x16x1x256) off4 S1x1x1x256.size inb).toLoadRect f = stat (half1 (D n)) :=
  (readAt_of v f hf inb h).trans (window_half1 D n _)

end Loads

/-! ## A trip -/

variable (c : Dev nD) (i : grid0.Coords)
  (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S1x8x1x512 .f32) (harg6 : arg6.IsWhole) (arg7 : Memref sig .tc .vmem S1x16x1x256 .f32) (harg7 : arg7.IsWhole) (arg8 : Memref sig .tc .vmem S4096x256 .bf16) (harg8 : arg8.IsWhole) (arg9 : Memref sig .tc .vmem S512x256 .bf16) (harg9 : arg9.IsWhole) (arg10 : Memref sig .tc .vmem S512x128 .bf16) (harg10 : arg10.IsWhole) (arg11 : Memref sig .tc .vmem S512x256 .f32) (harg11 : arg11.IsWhole) (arg12 : Memref sig .tc .vmem S512x128 .f32) (harg12 : arg12.IsWhole) (arg13 : Memref sig .tc .vmem S2x512x512 .f32) (harg13 : arg13.IsWhole) (arg14 : Memref sig .tc .vmem S2x512x512 .f32) (harg14 : arg14.IsWhole) (arg15 : Memref sig .tc .vmem S4096x256 .f32) (harg15 : arg15.IsWhole)

variable (f2 : Buf (Elt Ideal) (arg2.view.loc (c : Thread nD τ))) (f5 : Buf (Elt Ideal) (arg5.view.loc (c : Thread nD τ)))
  (f6 : Buf (Elt Ideal) (arg6.view.loc (c : Thread nD τ))) (f7 : Buf (Elt Ideal) (arg7.view.loc (c : Thread nD τ)))

variable (Q : Fin 4096 → Fin 256 → ℝ) (O : Fin 4096 → Fin 128 → ℝ) (L D : Fin 8 → Fin 512 → ℝ) (K : Fin 512 → Fin 256 → ℝ) (V : Fin 512 → Fin 128 → ℝ)

/-- The rows a trip reads are `Q` and `O`, the statistics `L` and `D`. -/
structure Reads : Prop where
  q : arg2.view.read (Elt Ideal) f2 = up2 Q
  o : arg5.view.read (Elt Ideal) f5 = up2 O
  l : arg6.view.read (Elt Ideal) f6 = stats L
  d : arg7.view.read (Elt Ideal) f7 = pieces D

/-- The scores of query block `i` against the keys `K`. -/
abbrev score (i : Fin 8) : Fin 512 → Fin 512 → ℝ := nt K (blk Q i)
/-- The products of the values `V` with the output gradients of block `i`. -/
abbrev vdo (i : Fin 8) : Fin 512 → Fin 512 → ℝ := nt V (blk O i)
/-- The weights of query block `i`, past the diagonal. -/
abbrev past (i : Fin 8) : Fin 512 → Fin 512 → ℝ := prob (score Q K i) (L i)
/-- The gradients of those scores. -/
abbrev pastGrad (i : Fin 8) : Fin 512 → Fin 512 → ℝ := grad (past Q L K i) (vdo O V i) (D i)

variable (b : Bufs (F := Ideal) c arg11 arg12 arg13 arg14 arg15)

/-- The work buffers read as sums `X`, `Y`, `Z`, and query block `i` is the one worked ahead. -/
structure Holds (X : Fin 512 → Fin 256 → ℝ) (Y : Fin 512 → Fin 128 → ℝ) (Z : Fin 4096 → Fin 256 → ℝ) (n : Fin 8) : Prop where
  dk : arg11.view.read (Elt Ideal) b.dk = up2 X
  dv : arg12.view.read (Elt Ideal) b.dv = up2 Y
  dq : arg15.view.read (Elt Ideal) b.dq = up2 Z
  s : arg13.view.readAt (Elt Ideal) (Rect.unit (s := S2x512x512) ![1, 0, 0] S1x512x512.size inb_S2x512x512_S1x512x512_1_0_0).toLoadRect b.s = tile (score Q K n)
  dp : arg14.view.readAt (Elt Ideal) (Rect.unit (s := S2x512x512) ![1, 0, 0] S1x512x512.size inb_S2x512x512_S1x512x512_1_0_0).toLoadRect b.dp = tile (vdo O V n)

variable (arg1 : BitVec 32) (v12 : FVec Ideal S512x256 .bf16) (v14 : FVec Ideal S512x128 .bf16) (c0 : BitVec 32) (k : Fin (k0_t1_loop i).trips)

section Values

variable {c i arg2 arg3 arg4 arg5 arg6 arg7 arg8 arg9 arg10 arg11 arg12 arg13 arg14 arg15 harg2 harg3 harg4 harg5 harg6 harg7 harg8 harg9 harg10 harg11 harg12 harg13 harg14 harg15}
  {f2 f5 f6 f7 Q O L D K V b v12 v14 k} {X : Fin 512 → Fin 256 → ℝ} {Y : Fin 512 → Fin 128 → ℝ} {Z : Fin 4096 → Fin 256 → ℝ} {i1 i2 i3 : Fin 8}
  (hr : Reads c arg2 arg5 arg6 arg7 f2 f5 f6 f7 Q O L D) (hb : Holds c arg11 arg12 arg13 arg14 arg15 Q O K V b X Y Z i1)
  (hK : v12 = up2 K) (hV : v14 = up2 V)
  (h1 : i1.val = (i 1).val + 1 + 2 * k.val) (h2 : i2.val = (i 1).val + 2 + 2 * k.val) (h3 : i3.val = min ((i 1).val + 3 + 2 * k.val) 7)

include hr hb hK hV h1 h2 h3

/-! ### The offsets of the trip -/

omit hr hb hK hV h2 h3 in
theorem at11 : k0_off11 i k = ![512 * i1.val, 0] := (off11_eq i k).trans (by rw [h1])
omit hr hb hK hV h2 h3 in
theorem at12 : k0_off12 i k = ![512 * i1.val, 0] := (off12_eq i k).trans (by rw [h1])
omit hr hb hK hV h2 h3 in
theorem at13 : k0_off13 i k = ![0, i1.val, 0, 0] := (off13_eq i k).trans (by rw [h1])
omit hr hb hK hV h1 h3 in
theorem at15 : k0_off15 i k = ![512 * i2.val, 0] := (off15_eq i k).trans (by rw [h2])
omit hr hb hK hV h1 h3 in
theorem at16 : k0_off16 i k = ![512 * i2.val, 0] := (off16_eq i k).trans (by rw [h2])
omit hr hb hK hV h1 h3 in
theorem at17 : k0_off17 i k = ![0, i2.val, 0, 0] := (off17_eq i k).trans (by rw [h2])
omit hr hb hK hV h2 h3 in
theorem at14_0 : k0_off14 i k 0#32 = ![0, 2 * i1.val, 0, 0] := (off14_eq i k 0).trans (by rw [h1]; rfl)
omit hr hb hK hV h2 h3 in
theorem at14_1 : k0_off14 i k 1#32 = ![0, 2 * i1.val + 1, 0, 0] := (off14_eq i k 1).trans (by rw [h1]; rfl)
omit hr hb hK hV h1 h3 in
theorem at18_0 : k0_off18 i k 0#32 = ![0, 2 * i2.val, 0, 0] := (off18_eq i k 0).trans (by rw [h2]; rfl)
omit hr hb hK hV h1 h3 in
theorem at18_1 : k0_off18 i k 1#32 = ![0, 2 * i2.val + 1, 0, 0] := (off18_eq i k 1).trans (by rw [h2]; rfl)
omit hr hb hK hV h1 h3 in
theorem at9_0 : k0_off9 i k 1#32 = ![512 * i2.val, 0] := (off9_eq i k 0).trans (by
  have := i2.isLt
  rw [show min ((i 1).val + 2 + 2 * k.val + (0 : Fin 2).val) 7 = i2.val by simp; omega])
omit hr hb hK hV h1 h2 in
theorem at9_1 : k0_off9 i k 2#32 = ![512 * i3.val, 0] := (off9_eq i k 1).trans (by
  rw [show min ((i 1).val + 2 + 2 * k.val + (1 : Fin 2).val) 7 = i3.val by simp; omega])
omit hr hb hK hV h1 h3 in
theorem at10_0 : k0_off10 i k 1#32 = ![512 * i2.val, 0] := (off10_eq i k 0).trans (by
  have := i2.isLt
  rw [show min ((i 1).val + 2 + 2 * k.val + (0 : Fin 2).val) 7 = i2.val by simp; omega])
omit hr hb hK hV h1 h2 in
theorem at10_1 : k0_off10 i k 2#32 = ![512 * i3.val, 0] := (off10_eq i k 1).trans (by
  rw [show min ((i 1).val + 2 + 2 * k.val + (1 : Fin 2).val) 7 = i3.val by simp; omega])

/-! ### The query block worked before the trip -/

theorem trip_s1 : trip.sl.v197 c arg11 arg12 arg13 arg14 arg15 b = tile (score Q K i1) := hb.s
theorem trip_dp1 : trip.sl.v223 c arg11 arg12 arg13 arg14 arg15 b = tile (vdo O V i1) := hb.dp
theorem trip_q1 : trip.sl.r c i arg2 f2 k = up2 (blk Q i1) := by
  unfold trip.sl.r
  rw [load_q _ hr.q _ (at11 h1), pay15]
theorem trip_o1 : trip.sl.r_1 c i arg5 f5 k = up2 (blk O i1) := by
  unfold trip.sl.r_1
  rw [load_o _ hr.o _ (at12 h1), pay16]
theorem trip_g1 : trip.sl.r_2 c i arg6 arg7 arg11 arg12 arg13 arg14 arg15 f6 f7 k b = up2 (pastGrad Q O L D K V i1) := by
  unfold trip.sl.r_2
  rw [trip_s1 hr hb hK hV h1 h2 h3, trip_dp1 hr hb hK hV h1 h2 h3, load_l _ hr.l _ (at13 h1),
    load_d0 _ hr.d _ (at14_0 h1), load_d1 _ hr.d _ (at14_1 h1), pay19]
theorem trip_dk1 : trip.sl.r_3 c i arg2 arg6 arg7 arg11 arg12 arg13 arg14 arg15 f2 f6 f7 k b = up2 (plus X (nn (pastGrad Q O L D K V i1) (blk Q i1))) := by
  unfold trip.sl.r_3
  rw [trip_q1 hr hb hK hV h1 h2 h3, trip_s1 hr hb hK hV h1 h2 h3, trip_dp1 hr hb hK hV h1 h2 h3, load_l _ hr.l _ (at13 h1),
    load_d0 _ hr.d _ (at14_0 h1), load_d1 _ hr.d _ (at14_1 h1), readAt_all _ _ hb.dk, pay20]
theorem trip_dv1 : trip.sl.v284 c i arg5 arg6 arg11 arg12 arg13 arg14 arg15 f5 f6 k b = up2 (plus Y (nn (past Q L K i1) (blk O i1))) := by
  unfold trip.sl.v284 trip.sl.H12_1
  refine (View.readCov_full _ _ _ _ _).trans ?_
  rw [trip_o1 hr hb hK hV h1 h2 h3, trip_s1 hr hb hK hV h1 h2 h3, load_l _ hr.l _ (at13 h1), readAt_all _ _ hb.dv, pay18]
theorem trip_dk1' : trip.sl.v308 c i arg2 arg6 arg7 arg11 arg12 arg13 arg14 arg15 f2 f6 f7 k b = up2 (plus X (nn (pastGrad Q O L D K V i1) (blk Q i1))) := by
  unfold trip.sl.v308 trip.sl.H11_1
  refine (View.readCov_full _ _ _ _ _).trans ?_
  rw [trip_dk1 hr hb hK hV h1 h2 h3, pay21]

/-! ### The next one -/

theorem trip_s2 : trip.sl.v276 c i arg2 arg13 f2 v12 k = tile (score Q K i2) := by
  unfold trip.sl.v276 trip.sl.H13_2
  refine (readAt_before arg13.view _ _ _ _ _ _ 0 (Or.inl (by decide))).trans ?_
  rw [load_q (n := i2) _ hr.q _ (at9_0 h2), hK, pay13]
theorem trip_dp2 : trip.sl.v302 c i arg5 arg14 f5 v14 k = tile (vdo O V i2) := by
  unfold trip.sl.v302 trip.sl.H14_2
  refine (readAt_before arg14.view _ _ _ _ _ _ 0 (Or.inl (by decide))).trans ?_
  rw [load_o (n := i2) _ hr.o _ (at10_0 h2), hV, pay14]
theorem trip_q2 : trip.sl.r_4 c i arg2 f2 k = up2 (blk Q i2) := by
  unfold trip.sl.r_4
  rw [load_q _ hr.q _ (at15 h2), pay25]
theorem trip_p2 : trip.sl.r_5 c i arg2 arg6 arg13 f2 f6 v12 k = up2 (past Q L K i2) := by
  unfold trip.sl.r_5
  rw [trip_s2 hr hb hK hV h1 h2 h3, load_l _ hr.l _ (at17 h2), pay26]
theorem trip_d2 : trip.sl.r_6 c i arg7 f7 k = up2 fun _ b => D i2 b := by
  unfold trip.sl.r_6
  rw [load_d0 _ hr.d _ (at18_0 h2), load_d1 _ hr.d _ (at18_1 h2), pay28]

/-! ### The whole trip -/

/-- After a trip two query blocks more are in the sums, and the one after is worked ahead. -/
theorem trip_value : Holds c arg11 arg12 arg13 arg14 arg15 Q O K V
    (trip (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f5 f6 f7 arg1 v12 v14 c0 k b).1
    (plus (plus X (nn (pastGrad Q O L D K V i1) (blk Q i1))) (nn (pastGrad Q O L D K V i2) (blk Q i2)))
    (plus (plus Y (nn (past Q L K i1) (blk O i1))) (nn (past Q L K i2) (blk O i2)))
    (addBlk (addBlk Z i1 (tn (pastGrad Q O L D K V i1) K)) i2 (tn (pastGrad Q O L D K V i2) K)) i3 where
  dk := by
    simp only [trip]
    refine (View.read_writes_full _ _ _ _ _).trans ?_
    rw [trip_q2 hr hb hK hV h1 h2 h3, trip_p2 hr hb hK hV h1 h2 h3, trip_d2 hr hb hK hV h1 h2 h3, trip_dp2 hr hb hK hV h1 h2 h3, trip_dk1' hr hb hK hV h1 h2 h3, pay2]
  dv := by
    simp only [trip]
    refine (View.read_writes_full _ _ _ _ _).trans ?_
    rw [load_o _ hr.o _ (at16 h2), trip_s2 hr hb hK hV h1 h2 h3, load_l _ hr.l _ (at17 h2), trip_dv1 hr hb hK hV h1 h2 h3, pay27]
  dq := by
    have hne : i1 ≠ i2 := fun e => by have := congrArg Fin.val e; omega
    simp only [trip]
    refine (read_put arg15.view _ _ (X := up2 (addBlk Z i1 (tn (pastGrad Q O L D K V i1) K))) ?_ _ _ (at15 h2)).trans ?_
    · refine (read_put arg15.view _ _ (X := up2 Z) hb.dq _ _ (at11 h1)).trans ?_
      rw [trip_g1 hr hb hK hV h1 h2 h3, load_dq _ hb.dq _ (at11 h1), hK, pay22]
      exact put_rows Z i1 _
    · rw [trip_p2 hr hb hK hV h1 h2 h3, trip_d2 hr hb hK hV h1 h2 h3, trip_dp2 hr hb hK hV h1 h2 h3, hK]
      unfold trip.sl.v317
      rw [load_dq (n := i2) _ hb.dq _ (at15 h2), pay3, ← blk_addBlk_ne Z hne]
      exact put_rows _ i2 _
  s := by
    simp only [trip]
    refine (readAt_last arg13.view _ _ _ _).trans ?_
    rw [load_q (n := i3) _ hr.q _ (at9_1 h3), hK, pay23]
  dp := by
    simp only [trip]
    refine (readAt_last arg14.view _ _ _ _).trans ?_
    rw [load_o (n := i3) _ hr.o _ (at10_1 h3), hV, pay24]

end Values

end Cert.Kernel4Ideal.Attn
-- ==== Proof.Attn.Upto.lean ====
/-
  The sums of a key block of the attention backward kernel, up to a query block.
-/
module

public import proofs.«01_k».proof.Proof.Attn.TripValue

@[expose] public section

set_option maxRecDepth 16384

noncomputable section

namespace Cert.Kernel4Ideal.Attn

open Cert.Kernel4Ideal Cert.Kernel4Ideal.Gen
open Idealize.ShloMosaic Idealize.ShloMosaic.TcCoe Cert.Lift

variable (Q : Fin 4096 → Fin 256 → ℝ) (O : Fin 4096 → Fin 128 → ℝ) (L D : Fin 8 → Fin 512 → ℝ) (K : Fin 512 → Fin 256 → ℝ) (V : Fin 512 → Fin 128 → ℝ)
  (Z : Fin 4096 → Fin 256 → ℝ) (j : Fin 8)

/-- The weights of query block `i` at key block `j`. -/
def weight (i : Fin 8) : Fin 512 → Fin 512 → ℝ := if i = j then probDiag (score Q K i) (L i) else past Q L K i

/-- The gradients of the scores of query block `i` at key block `j`. -/
def wgrad (i : Fin 8) : Fin 512 → Fin 512 → ℝ := grad (weight Q L K j i) (vdo O V i) (D i)

/-- The sum for the keys over the query blocks from `j` to `u`. -/
def upK (u : ℕ) (a : Fin 512) (d : Fin 256) : ℝ := ∑ i : Fin 8, if j.val ≤ i.val ∧ i.val ≤ u then nn (wgrad Q O L D K V j i) (blk Q i) a d else 0

/-- The sum for the values over the same blocks. -/
def upV (u : ℕ) (a : Fin 512) (d : Fin 128) : ℝ := ∑ i : Fin 8, if j.val ≤ i.val ∧ i.val ≤ u then nn (weight Q L K j i) (blk O i) a d else 0

/-- The sum for the queries, with the rows of the same blocks past `Z`. -/
def upQ (u : ℕ) (r : Fin 4096) (d : Fin 256) : ℝ :=
  Z r d + if j.val ≤ r.val / 512 ∧ r.val / 512 ≤ u then tn (wgrad Q O L D K V j ⟨r.val / 512, by omega⟩) K ⟨r.val % 512, by omega⟩ d else 0

theorem sum_step (T : Fin 8 → ℝ) {u : ℕ} {i : Fin 8} (hi : i.val = u + 1) (hj : j.val ≤ i.val) :
    (∑ i' : Fin 8, if j.val ≤ i'.val ∧ i'.val ≤ u then T i' else 0) + T i = ∑ i' : Fin 8, if j.val ≤ i'.val ∧ i'.val ≤ u + 1 then T i' else 0 := by
  have e : T i = ∑ i' : Fin 8, if i' = i then T i' else 0 := by simp
  rw [e, ← Finset.sum_add_distrib]
  refine Finset.sum_congr rfl fun x _ => ?_
  by_cases hx : x = i
  · subst hx
    rw [if_neg (by omega), if_pos rfl, if_pos (by omega), zero_add]
  · have : x.val ≠ i.val := fun h => hx (Fin.ext h)
    rw [if_neg hx, add_zero]
    exact if_congr (by omega) rfl rfl

theorem sum_first (T : Fin 8 → ℝ) : (∑ i' : Fin 8, if j.val ≤ i'.val ∧ i'.val ≤ j.val then T i' else 0) = T j := by
  have e : T j = ∑ i' : Fin 8, if i' = j then T i' else 0 := by simp
  rw [e]
  refine Finset.sum_congr rfl fun x _ => if_congr ?_ rfl rfl
  exact ⟨fun h => Fin.ext (by omega), fun h => by subst h; omega⟩

variable {j} {u : ℕ} {i : Fin 8}

theorem wgrad_past (h : i ≠ j) : wgrad Q O L D K V j i = pastGrad Q O L D K V i := by
  unfold wgrad weight; rw [if_neg h]

theorem upK_step (hi : i.val = u + 1) (hj : j.val < i.val) :
    plus (upK Q O L D K V j u) (nn (pastGrad Q O L D K V i) (blk Q i)) = upK Q O L D K V j (u + 1) := by
  rw [← wgrad_past Q O L D K V (j := j) (fun e => by subst e; omega)]
  funext a d
  exact sum_step j (fun i => nn (wgrad Q O L D K V j i) (blk Q i) a d) hi hj.le

theorem upV_step (hi : i.val = u + 1) (hj : j.val < i.val) :
    plus (upV Q O L K j u) (nn (past Q L K i) (blk O i)) = upV Q O L K j (u + 1) := by
  rw [show past Q L K i = weight Q L K j i from (if_neg (fun e => by subst e; omega)).symm]
  funext a d
  exact sum_step j (fun i => nn (weight Q L K j i) (blk O i) a d) hi hj.le

theorem upQ_step (hi : i.val = u + 1) (hj : j.val < i.val) :
    addBlk (upQ Q O L D K V Z j u) i (tn (pastGrad Q O L D K V i) K) = upQ Q O L D K V Z j (u + 1) := by
  rw [← wgrad_past Q O L D K V (j := j) (fun e => by subst e; omega)]
  funext r d
  unfold addBlk upQ
  by_cases h : r.val / 512 = i.val
  · rw [if_pos h, if_neg (by omega), if_pos (by omega), add_zero]
    rw [show i = (⟨r.val / 512, by omega⟩ : Fin 8) from Fin.ext h.symm]
  · rw [if_neg h]
    exact congrArg (Z r d + ·) (if_congr (by omega) rfl rfl)

theorem upK_first : plus (fun _ _ => 0) (nn (grad (probDiag (score Q K j) (L j)) (vdo O V j) (D j)) (blk Q j)) = upK Q O L D K V j j.val := by
  funext a d
  refine (zero_add _).trans ((congrArg (fun G => nn G (blk Q j) a d) ?_).trans (sum_first j fun i => nn (wgrad Q O L D K V j i) (blk Q i) a d).symm)
  unfold wgrad weight; rw [if_pos rfl]

theorem upV_first : plus (fun _ _ => 0) (nn (probDiag (score Q K j) (L j)) (blk O j)) = upV Q O L K j j.val := by
  funext a d
  refine (zero_add _).trans ((congrArg (fun G => nn G (blk O j) a d) ?_).trans (sum_first j fun i => nn (weight Q L K j i) (blk O i) a d).symm)
  unfold weight; rw [if_pos rfl]

theorem upQ_first : addBlk Z j (tn (grad (probDiag (score Q K j) (L j)) (vdo O V j) (D j)) K) = upQ Q O L D K V Z j j.val := by
  have e : grad (probDiag (score Q K j) (L j)) (vdo O V j) (D j) = wgrad Q O L D K V j j := by unfold wgrad weight; rw [if_pos rfl]
  rw [e]
  funext r d
  unfold addBlk upQ
  by_cases h : r.val / 512 = j.val
  · rw [if_pos h, if_pos (by omega)]
    have : j = (⟨r.val / 512, by omega⟩ : Fin 8) := Fin.ext h.symm
    rw [show wgrad Q O L D K V j (⟨r.val / 512, by omega⟩ : Fin 8) = wgrad Q O L D K V j j from congrArg _ this.symm]
  · rw [if_neg h, if_neg (by omega), add_zero]

end Cert.Kernel4Ideal.Attn
-- ==== Proof.Attn.Diagonal.lean ====
/-
  What the body of the attention backward kernel leaves at a point, over the reals.
-/
module

public import proofs.«01_k».proof.Proof.Attn.Body
public import proofs.«01_k».proof.Proof.Attn.Upto

@[expose] public section

set_option maxRecDepth 16384

noncomputable section

namespace Cert.Kernel4Ideal.Attn

open Cert.Kernel4Ideal Cert.Kernel4Ideal.Gen
open Idealize.ShloMosaic Idealize.ShloMosaic.TcCoe Cert.Lift

variable (c : Dev nD) (i : grid0.Coords)
  (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S1x8x1x512 .f32) (harg6 : arg6.IsWhole) (arg7 : Memref sig .tc .vmem S1x16x1x256 .f32) (harg7 : arg7.IsWhole) (arg8 : Memref sig .tc .vmem S4096x256 .bf16) (harg8 : arg8.IsWhole) (arg9 : Memref sig .tc .vmem S512x256 .bf16) (harg9 : arg9.IsWhole) (arg10 : Memref sig .tc .vmem S512x128 .bf16) (harg10 : arg10.IsWhole) (arg11 : Memref sig .tc .vmem S512x256 .f32) (harg11 : arg11.IsWhole) (arg12 : Memref sig .tc .vmem S512x128 .f32) (harg12 : arg12.IsWhole) (arg13 : Memref sig .tc .vmem S2x512x512 .f32) (harg13 : arg13.IsWhole) (arg14 : Memref sig .tc .vmem S2x512x512 .f32) (harg14 : arg14.IsWhole) (arg15 : Memref sig .tc .vmem S4096x256 .f32) (harg15 : arg15.IsWhole)

variable (f2 : Buf (Elt Ideal) (arg2.view.loc (c : Thread nD τ))) (f3 : Buf (Elt Ideal) (arg3.view.loc (c : Thread nD τ)))
  (f4 : Buf (Elt Ideal) (arg4.view.loc (c : Thread nD τ))) (f5 : Buf (Elt Ideal) (arg5.view.loc (c : Thread nD τ)))
  (f6 : Buf (Elt Ideal) (arg6.view.loc (c : Thread nD τ))) (f7 : Buf (Elt Ideal) (arg7.view.loc (c : Thread nD τ)))

variable (Q : Fin 4096 → Fin 256 → ℝ) (O : Fin 4096 → Fin 128 → ℝ) (L D : Fin 8 → Fin 512 → ℝ) (K : Fin 512 → Fin 256 → ℝ) (V : Fin 512 → Fin 128 → ℝ)
  (Z : Fin 4096 → Fin 256 → ℝ) (j : Fin 8)

variable (o : Outs (F := Ideal) c arg8 arg9 arg10) (b : Bufs (F := Ideal) c arg11 arg12 arg13 arg14 arg15)

/-- The work buffers read as the sums over the query blocks from `j` to `u`, with block `n` worked ahead. -/
abbrev Upto (b : Bufs (F := Ideal) c arg11 arg12 arg13 arg14 arg15) (u : ℕ) (n : Fin 8) : Prop :=
  Holds c arg11 arg12 arg13 arg14 arg15 Q O K V b (upK Q O L D K V j u) (upV Q O L K j u) (upQ Q O L D K V Z j u) n

/-! ## The loop -/

section Loop

variable {c i arg2 harg2 arg3 harg3 arg4 harg4 arg5 harg5 arg6 harg6 arg7 harg7 arg8 harg8 arg9 harg9 arg10 harg10 arg11 harg11 arg12 harg12 arg13 harg13 arg14 harg14 arg15 harg15 f2 f5 f6 f7 Q O L D K V Z j b}

theorem loop_value (hr : Reads c arg2 arg5 arg6 arg7 f2 f5 f6 f7 Q O L D) (hj : j.val = (i 1).val) (arg1 : BitVec 32) (v12 : FVec Ideal S512x256 .bf16)
    (v14 : FVec Ideal S512x128 .bf16) (c0 : BitVec 32) (hK : v12 = up2 K) (hV : v14 = up2 V)
    (h0 : ∀ n : Fin 8, n.val = min (j.val + 1) 7 → Upto c arg11 arg12 arg13 arg14 arg15 Q O L D K V Z j b j.val n) :
    ∀ m, m ≤ (k0_t1_loop i).trips → ∀ n : Fin 8, n.val = min (j.val + 1 + 2 * m) 7 →
      Upto c arg11 arg12 arg13 arg14 arg15 Q O L D K V Z j (stAt c i arg2 harg2 arg3 harg3 arg4 harg4 arg5 harg5 arg6 harg6 arg7 harg7 arg8 harg8 arg9 harg9 arg10 harg10 arg11 harg11 arg12 harg12 arg13 harg13 arg14 harg14 arg15 harg15 f2 f5 f6 f7 arg1 v12 v14 c0 b m) (j.val + 2 * m) n := by
  intro m
  induction m with
  | zero => exact fun _ n hn => h0 n hn
  | succ m ih =>
    intro hm n hn
    have ht := trips1 i
    have hb1 : j.val + 2 + 2 * m ≤ 7 := by omega
    have e := stAt_succ c i arg2 harg2 arg3 harg3 arg4 harg4 arg5 harg5 arg6 harg6 arg7 harg7 arg8 harg8 arg9 harg9 arg10 harg10 arg11 harg11 arg12 harg12 arg13 harg13 arg14 harg14 arg15 harg15 f2 f5 f6 f7 arg1 v12 v14 c0 b ⟨m, hm⟩
    rw [e]
    have hi1 : ((⟨j.val + 1 + 2 * m, by omega⟩ : Fin 8)).val = j.val + 2 * m + 1 := by simp; omega
    have hi2 : ((⟨j.val + 2 + 2 * m, by omega⟩ : Fin 8)).val = j.val + 2 * m + 1 + 1 := by simp; omega
    have hv := trip_value (harg2 := harg2) (harg3 := harg3) (harg4 := harg4) (harg5 := harg5) (harg6 := harg6) (harg7 := harg7) (harg8 := harg8) (harg9 := harg9)
      (harg10 := harg10) (harg11 := harg11) (harg12 := harg12) (harg13 := harg13) (harg14 := harg14) (harg15 := harg15) (arg1 := arg1) (c0 := c0)
      (i1 := ⟨j.val + 1 + 2 * m, by omega⟩) (i2 := ⟨j.val + 2 + 2 * m, by omega⟩) (i3 := n) (k := ⟨m, hm⟩) hr
      (ih (by omega) ⟨j.val + 1 + 2 * m, by omega⟩ (by simp; omega)) hK hV (by simp; omega) (by simp; omega) (by simp; omega)
    rw [upK_step Q O L D K V hi1 (by omega), upK_step Q O L D K V hi2 (by omega), upV_step Q O L K hi1 (by omega), upV_step Q O L K hi2 (by omega),
      upQ_step Q O L D K V Z hi1 (by omega), upQ_step Q O L D K V Z hi2 (by omega)] at hv
    exact hv

end Loop

/-! ## The diagonal block -/

/-- The contents of the work buffers before the loop. -/
def start : Bufs (F := Ideal) c arg11 arg12 arg13 arg14 arg15 where
  dk := arg11.view.writes (Elt Ideal) arg11.view.junk (body.sl.H11_2 (F := Ideal) c i arg2 arg3 arg4 arg5 arg6 arg7 arg11 arg13 arg14 f2 f3 f4 f5 f6 f7)
  dv := arg12.view.writes (Elt Ideal) arg12.view.junk (body.sl.H12_2 (F := Ideal) c i arg2 arg3 arg5 arg6 arg12 arg13 f2 f3 f5 f6)
  s := arg13.view.writes (Elt Ideal) arg13.view.junk (body.sl.H13_2 (F := Ideal) c i arg2 arg3 f2 f3)
  dp := arg14.view.writes (Elt Ideal) arg14.view.junk (body.sl.H14_2 (F := Ideal) c i arg4 arg5 f4 f5)
  dq := arg15.view.writes (Elt Ideal)
    (if hc : body.sl.v2 i = 1#1 then arg15.view.writes (Elt Ideal) b.5 [⟨Rect.unit ![0, 0] S4096x256.size inb_S4096x256_S4096x256_0_0, k0_pay49 (F := Ideal)⟩] else b.dq)
    [⟨Rect.unit (k0_off5 i) S512x256.size (k0_off5_inb i), k0_pay66 (body.sl.r (F := Ideal) c arg3 f3)
      (body.sl.r_5 (F := Ideal) c i arg2 arg3 arg4 arg5 arg6 arg7 arg13 arg14 f2 f3 f4 f5 f6 f7) (body.sl.v111 (F := Ideal) c i arg11 arg12 arg13 arg14 arg15 b)⟩]

/-- The contents after the loop. -/
def looped : Bufs (F := Ideal) c arg11 arg12 arg13 arg14 arg15 :=
  stAt c i arg2 harg2 arg3 harg3 arg4 harg4 arg5 harg5 arg6 harg6 arg7 harg7 arg8 harg8 arg9 harg9 arg10 harg10 arg11 harg11 arg12 harg12 arg13 harg13 arg14 harg14 arg15 harg15 f2 f5 f6 f7 (BitVec.ofNat 32 (i 1).val) (body.sl.r (F := Ideal) c arg3 f3) (body.sl.r_1 (F := Ideal) c arg4 f4) 0#32
    (start c i arg2 arg3 arg4 arg5 arg6 arg7 arg11 arg12 arg13 arg14 arg15 f2 f3 f4 f5 f6 f7 b) (k0_t1_loop i).trips

section Values

variable {c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 Q O L D K V Z j b}
  (hr : Reads c arg2 arg5 arg6 arg7 f2 f5 f6 f7 Q O L D) (h3 : arg3.view.read (Elt Ideal) f3 = up2 K) (h4 : arg4.view.read (Elt Ideal) f4 = up2 V)
  (hj : j.val = (i 1).val)
  (hZ : arg15.view.read (Elt Ideal) (if hc : body.sl.v2 i = 1#1 then arg15.view.writes (Elt Ideal) b.5 [⟨Rect.unit ![0, 0] S4096x256.size inb_S4096x256_S4096x256_0_0, k0_pay49 (F := Ideal)⟩] else b.dq) = up2 Z)

omit hr h4 hj hZ in
include h3 in
theorem body_k : body.sl.r (F := Ideal) c arg3 f3 = up2 K := by
  unfold body.sl.r
  rw [readAt_all _ _ h3, pay52]

omit hr h3 hj hZ in
include h4 in
theorem body_v : body.sl.r_1 (F := Ideal) c arg4 f4 = up2 V := by
  unfold body.sl.r_1
  rw [readAt_all _ _ h4, pay53]

include hr h3 h4 hj

theorem body_s : body.sl.v65 (F := Ideal) c i arg2 arg3 arg13 f2 f3 = tile (score Q K j) := by
  unfold body.sl.v65 body.sl.H13_2
  refine (readAt_before arg13.view _ _ _ _ _ _ 0 (Or.inl (by decide))).trans ?_
  rw [load_q (n := j) _ hr.q _ ((off1_eq i).trans (by rw [hj])), readAt_all _ _ h3, pay54]

theorem body_dp : body.sl.v96 (F := Ideal) c i arg4 arg5 arg14 f4 f5 = tile (vdo O V j) := by
  unfold body.sl.v96 body.sl.H14_2 body.sl.r_2
  refine (readAt_before arg14.view _ _ _ _ _ _ 0 (Or.inl (by decide))).trans ?_
  rw [load_o (n := j) _ hr.o _ ((off2_eq i).trans (by rw [hj])), body_v h4, pay55]
  exact pay56 V (blk O j)

theorem body_g : body.sl.r_5 (F := Ideal) c i arg2 arg3 arg4 arg5 arg6 arg7 arg13 arg14 f2 f3 f4 f5 f6 f7
    = up2 (grad (probDiag (score Q K j) (L j)) (vdo O V j) (D j)) := by
  unfold body.sl.r_5
  have e0 : k0_off8 i 0#32 = ![0, 2 * j.val, 0, 0] := (off8_eq i 0).trans (by rw [hj]; rfl)
  have e1 : k0_off8 i 1#32 = ![0, 2 * j.val + 1, 0, 0] := (off8_eq i 1).trans (by rw [hj]; rfl)
  rw [body_s hr h3 h4 hj, body_dp hr h3 h4 hj, load_l (n := j) _ hr.l _ ((off7_eq i).trans (by rw [hj])), load_d0 (n := j) _ hr.d _ e0, load_d1 (n := j) _ hr.d _ e1, pay63]

include hZ in
theorem start_value (n : Fin 8) (hn : n.val = min (j.val + 1) 7) :
    Upto c arg11 arg12 arg13 arg14 arg15 Q O L D K V Z j (start c i arg2 arg3 arg4 arg5 arg6 arg7 arg11 arg12 arg13 arg14 arg15 f2 f3 f4 f5 f6 f7 b) j.val n where
  dk := by
    simp only [start]
    unfold body.sl.H11_2
    refine (View.read_writes_full _ _ _ _ _).trans ?_
    unfold body.sl.r_3 body.sl.v102 body.sl.H11_1
    rw [load_q (n := j) _ hr.q _ ((off5_eq i).trans (by rw [hj])), pay59, body_g hr h3 h4 hj, View.readCov_full, pay50, pay65, upK_first]
  dv := by
    simp only [start]
    unfold body.sl.H12_2
    refine (View.read_writes_full _ _ _ _ _).trans ?_
    unfold body.sl.r_4 body.sl.v78 body.sl.H12_1
    rw [load_o (n := j) _ hr.o _ ((off6_eq i).trans (by rw [hj])), pay60, body_s hr h3 h4 hj, load_l (n := j) _ hr.l _ ((off7_eq i).trans (by rw [hj])), View.readCov_full, pay51, pay62, upV_first]
  dq := by
    simp only [start]
    refine (read_put arg15.view _ _ (X := up2 Z) hZ _ _ ((off5_eq i).trans (by rw [← hj]))).trans ?_
    unfold body.sl.v111
    rw [load_dq (n := j) _ hZ _ ((off5_eq i).trans (by rw [hj])), body_k h3, body_g hr h3 h4 hj, pay66, ← upQ_first]
    exact put_rows Z j _
  s := by
    simp only [start]
    unfold body.sl.H13_2
    refine (readAt_last arg13.view _ _ _ _).trans ?_
    rw [load_q (n := n) _ hr.q _ ((off3_eq i).trans (by rw [hn, hj])), body_k h3, pay57]
  dp := by
    simp only [start]
    unfold body.sl.H14_2
    refine (readAt_last arg14.view _ _ _ _).trans ?_
    rw [load_o (n := n) _ hr.o _ ((off4_eq i).trans (by rw [hn, hj])), body_v h4, pay58]

include hZ in
theorem looped_value (n : Fin 8) (hn : n.val = min (j.val + 1 + 2 * ((7 - j.val) / 2)) 7) :
    Upto c arg11 arg12 arg13 arg14 arg15 Q O L D K V Z j (looped c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 b) (j.val + 2 * ((7 - j.val) / 2)) n := by
  have h := loop_value (harg2 := harg2) (harg3 := harg3) (harg4 := harg4) (harg5 := harg5) (harg6 := harg6) (harg7 := harg7) (harg8 := harg8) (harg9 := harg9)
      (harg10 := harg10) (harg11 := harg11) (harg12 := harg12) (harg13 := harg13) (harg14 := harg14) (harg15 := harg15) hr hj (BitVec.ofNat 32 (i 1).val) _ _ 0#32 (body_k h3) (body_v h4)
      (start_value hr h3 h4 hj hZ) (k0_t1_loop i).trips le_rfl n (by rw [trips1, ← hj, hn])
  rw [trips1, ← hj] at h
  unfold looped
  rw [trips1, ← hj]
  exact h

end Values

end Cert.Kernel4Ideal.Attn
-- ==== Proof.Attn.BodyValue.lean ====
/-
  What the body of the attention backward kernel leaves at a point: the sums over all query blocks from the diagonal on.
-/
module

public import proofs.«01_k».proof.Proof.Attn.Diagonal

@[expose] public section

set_option maxRecDepth 16384

noncomputable section

namespace Cert.Kernel4Ideal.Attn

open Cert.Kernel4Ideal Cert.Kernel4Ideal.Gen
open Idealize.ShloMosaic Idealize.ShloMosaic.TcCoe Cert.Lift

variable (c : Dev nD) (i : grid0.Coords)
  (arg2 : Memref sig .tc .vmem S4096x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S1x8x1x512 .f32) (harg6 : arg6.IsWhole) (arg7 : Memref sig .tc .vmem S1x16x1x256 .f32) (harg7 : arg7.IsWhole) (arg8 : Memref sig .tc .vmem S4096x256 .bf16) (harg8 : arg8.IsWhole) (arg9 : Memref sig .tc .vmem S512x256 .bf16) (harg9 : arg9.IsWhole) (arg10 : Memref sig .tc .vmem S512x128 .bf16) (harg10 : arg10.IsWhole) (arg11 : Memref sig .tc .vmem S512x256 .f32) (harg11 : arg11.IsWhole) (arg12 : Memref sig .tc .vmem S512x128 .f32) (harg12 : arg12.IsWhole) (arg13 : Memref sig .tc .vmem S2x512x512 .f32) (harg13 : arg13.IsWhole) (arg14 : Memref sig .tc .vmem S2x512x512 .f32) (harg14 : arg14.IsWhole) (arg15 : Memref sig .tc .vmem S4096x256 .f32) (harg15 : arg15.IsWhole)

variable (f2 : Buf (Elt Ideal) (arg2.view.loc (c : Thread nD τ))) (f3 : Buf (Elt Ideal) (arg3.view.loc (c : Thread nD τ)))
  (f4 : Buf (Elt Ideal) (arg4.view.loc (c : Thread nD τ))) (f5 : Buf (Elt Ideal) (arg5.view.loc (c : Thread nD τ)))
  (f6 : Buf (Elt Ideal) (arg6.view.loc (c : Thread nD τ))) (f7 : Buf (Elt Ideal) (arg7.view.loc (c : Thread nD τ)))

variable (Q : Fin 4096 → Fin 256 → ℝ) (O : Fin 4096 → Fin 128 → ℝ) (L D : Fin 8 → Fin 512 → ℝ) (K : Fin 512 → Fin 256 → ℝ) (V : Fin 512 → Fin 128 → ℝ)
  (Z : Fin 4096 → Fin 256 → ℝ) (j : Fin 8)

variable (o : Outs (F := Ideal) c arg8 arg9 arg10) (b : Bufs (F := Ideal) c arg11 arg12 arg13 arg14 arg15)

/-- The body's results and work buffers at a point. -/
abbrev left' := (body (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 o b).1

variable {c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 Q O L D K V Z j o b}
  (hr : Reads c arg2 arg5 arg6 arg7 f2 f5 f6 f7 Q O L D) (h3 : arg3.view.read (Elt Ideal) f3 = up2 K) (h4 : arg4.view.read (Elt Ideal) f4 = up2 V)
  (hj : j.val = (i 1).val)
  (hZ : arg15.view.read (Elt Ideal) (if hc : body.sl.v2 i = 1#1 then arg15.view.writes (Elt Ideal) b.5 [⟨Rect.unit ![0, 0] S4096x256.size inb_S4096x256_S4096x256_0_0, k0_pay49 (F := Ideal)⟩] else b.dq) = up2 Z)

include hr h3 h4 hj hZ

/-! ## The last block, where the number of blocks past the diagonal is odd -/

theorem end7 : Upto c arg11 arg12 arg13 arg14 arg15 Q O L D K V Z j (looped c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 b) (j.val + 2 * ((7 - j.val) / 2)) 7 :=
  looped_value hr h3 h4 hj hZ 7 (show 7 = min (j.val + 1 + 2 * ((7 - j.val) / 2)) 7 by omega)

theorem last_s (he : (i 1).val % 2 = 0) : body.sl.v172 (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 b = tile (score Q K 7) :=
  (end7 hr h3 h4 hj hZ : Upto c arg11 arg12 arg13 arg14 arg15 Q O L D K V Z j (looped c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 b) _ 7).s

theorem last_dp (he : (i 1).val % 2 = 0) : body.sl.v191 (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 b = tile (vdo O V 7) :=
  (end7 hr h3 h4 hj hZ : Upto c arg11 arg12 arg13 arg14 arg15 Q O L D K V Z j (looped c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 b) _ 7).dp

theorem last_dk (he : (i 1).val % 2 = 0) : body.sl.v197 (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 b = up2 (upK Q O L D K V j 6) := by
  have h := (end7 hr h3 h4 hj hZ : Upto c arg11 arg12 arg13 arg14 arg15 Q O L D K V Z j (looped c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 b) _ 7).dk
  rw [show j.val + 2 * ((7 - j.val) / 2) = 6 by omega] at h
  exact (View.readAt_full _ _ _).trans h

theorem last_dv (he : (i 1).val % 2 = 0) : body.sl.v179 (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 b = up2 (upV Q O L K j 6) := by
  have h := (end7 hr h3 h4 hj hZ : Upto c arg11 arg12 arg13 arg14 arg15 Q O L D K V Z j (looped c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 b) _ 7).dv
  rw [show j.val + 2 * ((7 - j.val) / 2) = 6 by omega] at h
  exact (View.readAt_full _ _ _).trans h

theorem last_q : body.sl.r_6 (F := Ideal) c arg2 f2 = up2 (blk Q 7) := by
  unfold body.sl.r_6
  rw [load_q (n := 7) _ hr.q _ (show (![3584, 0] : Fin 2 → ℕ) = ![512 * (7 : Fin 8).val, 0] from rfl), pay45]

theorem last_g (he : (i 1).val % 2 = 0) : body.sl.r_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 b = up2 (pastGrad Q O L D K V 7) := by
  unfold body.sl.r_7
  rw [last_s hr h3 h4 hj hZ he, last_dp hr h3 h4 hj hZ he, load_l (n := 7) _ hr.l _ (show (![0, 7, 0, 0] : Fin 4 → ℕ) = ![0, (7 : Fin 8).val, 0, 0] from rfl), load_d0 (n := 7) _ hr.d _ (show (![0, 14, 0, 0] : Fin 4 → ℕ) = ![0, 2 * (7 : Fin 8).val, 0, 0] from rfl), load_d1 (n := 7) _ hr.d _ (show (![0, 15, 0, 0] : Fin 4 → ℕ) = ![0, 2 * (7 : Fin 8).val + 1, 0, 0] from rfl), pay48]

/-! ## The work buffers -/

theorem body_dk : arg11.view.read (Elt Ideal) (left' c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 o b).2.dk = up2 (upK Q O L D K V j 7) := by
  simp only [left', body]
  split
  case isTrue hc =>
    have he := (cond2_iff i).mp hc
    refine (View.read_writes_full _ _ _ _ _).trans ?_
    rw [last_q hr h3 h4 hj hZ, last_g hr h3 h4 hj hZ he, last_dk hr h3 h4 hj hZ he, pay8, upK_step (u := 6) (i := 7) _ _ _ _ _ _ rfl (show j.val < 7 by omega)]
  case isFalse hc =>
    have he : ¬ (i 1).val % 2 = 0 := fun h => hc ((cond2_iff i).mpr h)
    have h := (end7 hr h3 h4 hj hZ : Upto c arg11 arg12 arg13 arg14 arg15 Q O L D K V Z j (looped c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 b) _ 7).dk
    rw [show j.val + 2 * ((7 - j.val) / 2) = 7 by omega] at h
    exact h

theorem body_dv : arg12.view.read (Elt Ideal) (left' c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 o b).2.dv = up2 (upV Q O L K j 7) := by
  simp only [left', body]
  split
  case isTrue hc =>
    have he := (cond2_iff i).mp hc
    refine (View.read_writes_full _ _ _ _ _).trans ?_
    rw [last_s hr h3 h4 hj hZ he, last_dv hr h3 h4 hj hZ he]
    refine (congrArg₂ (fun x y => k0_pay47 (F := Ideal) x (tile (score Q K 7)) y (up2 (upV Q O L K j 6))) (load_o (n := 7) _ hr.o _ (show (![3584, 0] : Fin 2 → ℕ) = ![512 * (7 : Fin 8).val, 0] from rfl)) (load_l (n := 7) _ hr.l _ (show (![0, 7, 0, 0] : Fin 4 → ℕ) = ![0, (7 : Fin 8).val, 0, 0] from rfl))).trans ?_
    rw [pay47, upV_step (u := 6) (i := 7) _ _ _ _ rfl (show j.val < 7 by omega)]
  case isFalse hc =>
    have he : ¬ (i 1).val % 2 = 0 := fun h => hc ((cond2_iff i).mpr h)
    have h := (end7 hr h3 h4 hj hZ : Upto c arg11 arg12 arg13 arg14 arg15 Q O L D K V Z j (looped c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 b) _ 7).dv
    rw [show j.val + 2 * ((7 - j.val) / 2) = 7 by omega] at h
    exact h

theorem body_dq : arg15.view.read (Elt Ideal) (left' c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 o b).2.dq = up2 (upQ Q O L D K V Z j 7) := by
  have h := (end7 hr h3 h4 hj hZ : Upto c arg11 arg12 arg13 arg14 arg15 Q O L D K V Z j (looped c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 b) _ 7).dq
  simp only [left', body]
  split
  case isTrue hc =>
    have he := (cond2_iff i).mp hc
    rw [show j.val + 2 * ((7 - j.val) / 2) = 6 by omega] at h
    refine (read_put arg15.view (looped c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 b).dq [] (X := up2 (upQ Q O L D K V Z j 6)) h _ _ rfl).trans ?_
    rw [last_g hr h3 h4 hj hZ he, body_k h3]
    have e : body.sl.v205 (F := Ideal) c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 b = up2 (blk (upQ Q O L D K V Z j 6) 7) := load_dq (n := 7) _ h _ (show (![3584, 0] : Fin 2 → ℕ) = ![512 * (7 : Fin 8).val, 0] from rfl)
    rw [e, pay9, ← upQ_step (u := 6) (i := 7) Q O L D K V Z rfl (show j.val < 7 by omega)]
    exact put_rows _ 7 _
  case isFalse hc =>
    have he : ¬ (i 1).val % 2 = 0 := fun h => hc ((cond2_iff i).mpr h)
    rw [show j.val + 2 * ((7 - j.val) / 2) = 7 by omega] at h
    exact h

/-! ## The results -/

theorem out_dk : arg9.view.read (Elt Ideal) (left' c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 o b).1.dk = up2 fun a d => upK Q O L D K V j 7 a d * Real.log 2 := by
  have h := body_dk (o := o) (harg2 := harg2) (harg3 := harg3) (harg4 := harg4) (harg5 := harg5) (harg6 := harg6) (harg7 := harg7) (harg8 := harg8) (harg9 := harg9)
    (harg10 := harg10) (harg11 := harg11) (harg12 := harg12) (harg13 := harg13) (harg14 := harg14) (harg15 := harg15) hr h3 h4 hj hZ
  simp only [left', body] at h ⊢
  refine (View.read_writes_full _ _ _ _ _).trans ?_
  unfold body.sl.v156
  exact (congrArg (k0_pay11 (F := Ideal)) ((View.readAt_full _ _ _).trans h)).trans (pay11 _)

theorem out_dv : arg10.view.read (Elt Ideal) (left' c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 o b).1.dv = up2 (upV Q O L K j 7) := by
  have h := body_dv (o := o) (harg2 := harg2) (harg3 := harg3) (harg4 := harg4) (harg5 := harg5) (harg6 := harg6) (harg7 := harg7) (harg8 := harg8) (harg9 := harg9)
    (harg10 := harg10) (harg11 := harg11) (harg12 := harg12) (harg13 := harg13) (harg14 := harg14) (harg15 := harg15) hr h3 h4 hj hZ
  simp only [left', body] at h ⊢
  refine (View.read_writes_full _ _ _ _ _).trans ?_
  unfold body.sl.v161
  exact (congrArg (k0_pay12 (F := Ideal)) ((View.readAt_full _ _ _).trans h)).trans (pay12 _)

theorem out_dq (h7 : j.val = 7) : arg8.view.read (Elt Ideal) (left' c i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 o b).1.dq = up2 (upQ Q O L D K V Z j 7) := by
  have h := body_dq (o := o) (harg2 := harg2) (harg3 := harg3) (harg4 := harg4) (harg5 := harg5) (harg6 := harg6) (harg7 := harg7) (harg8 := harg8) (harg9 := harg9)
    (harg10 := harg10) (harg11 := harg11) (harg12 := harg12) (harg13 := harg13) (harg14 := harg14) (harg15 := harg15) hr h3 h4 hj hZ
  simp only [left', body] at h ⊢
  rw [dif_pos ((cond3_iff i).mpr (by omega))]
  refine (View.read_writes_full _ _ _ _ _).trans ?_
  unfold body.sl.v164
  exact (congrArg (k0_pay10 (F := Ideal)) ((View.readAt_full _ _ _).trans h)).trans (pay10 _)

end Cert.Kernel4Ideal.Attn
-- ==== Proof.Attn.Points.lean ====
/-
  What the attention backward call's points leave, over the reals: the work buffer of the queries carried along a head.
-/
module

public import proofs.«01_k».proof.Proof.Attn.Launch
public import proofs.«01_k».proof.Proof.Attn.BodyValue

@[expose] public section

set_option maxRecDepth 16384

noncomputable section

namespace Cert.Kernel4Ideal.Attn

open Cert.Kernel4Ideal Cert.Kernel4Ideal.Gen
open Idealize.ShloMosaic Idealize.ShloMosaic.TcCoe Cert.Lift

variable (m : (ℓ : Loc nD τ sig) → Buf (Elt Ideal) ℓ) (c : Dev nD)

/-- The operands of all heads, as reals. -/
structure Heads where
  q : Fin 8 → Fin 4096 → Fin 256 → ℝ
  k : Fin 8 → Fin 4096 → Fin 256 → ℝ
  v : Fin 8 → Fin 4096 → Fin 128 → ℝ
  o : Fin 8 → Fin 4096 → Fin 128 → ℝ
  l : Fin 8 → Fin 8 → Fin 512 → ℝ
  d : Fin 8 → Fin 8 → Fin 512 → ℝ

/-- The head of a point, and its key block. -/
def headOf (t : Fin cfg0.N) : Fin 8 := ⟨t.val / 8, by have h : t.val < 64 := t.isLt; omega⟩
def blockOf (t : Fin cfg0.N) : Fin 8 := ⟨t.val % 8, by omega⟩

theorem coords_block : ∀ t : Fin cfg0.N, (grid0.coords t 1).val = t.val % 8 := by decide +kernel

variable (H : Heads)

/-- The blocks that the points find are those of `H`. -/
structure Blocks : Prop where
  q : ∀ t, iblk m c 0 t = up2 (H.q (headOf t))
  k : ∀ t, iblk m c 1 t = up2 (blk (H.k (headOf t)) (blockOf t))
  v : ∀ t, iblk m c 2 t = up2 (blk (H.v (headOf t)) (blockOf t))
  o : ∀ t, iblk m c 3 t = up2 (H.o (headOf t))
  l : ∀ t, iblk m c 4 t = stats (H.l (headOf t))
  d : ∀ t, iblk m c 5 t = pieces (H.d (headOf t))

/-- The sums for head `h` and key block `j`. -/
def headK (h j : Fin 8) : Fin 512 → Fin 256 → ℝ := upK (H.q h) (H.o h) (H.l h) (H.d h) (blk (H.k h) j) (blk (H.v h) j) j 7
def headV (h j : Fin 8) : Fin 512 → Fin 128 → ℝ := upV (H.q h) (H.o h) (H.l h) (blk (H.k h) j) j 7

/-- The sum for the queries of head `h` after the first `n` key blocks. -/
def headQ (h : Fin 8) : ℕ → Fin 4096 → Fin 256 → ℝ
  | 0 => fun _ _ => 0
  | n + 1 => upQ (H.q h) (H.o h) (H.l h) (H.d h) (blk (H.k h) (Fin.ofNat 8 n)) (blk (H.v h) (Fin.ofNat 8 n)) (headQ h n) (Fin.ofNat 8 n) 7

variable {m c H} (hB : Blocks m c H) {t : Fin cfg0.N} {o : Left (F := Ideal) c t} {b : Work (F := Ideal) c}

include hB

theorem reads : Reads c (win0_0.stage (cfg0.slots t 0)) (win0_3.stage (cfg0.slots t 3)) (win0_4.stage (cfg0.slots t 4)) (win0_5.stage (cfg0.slots t 5))
    ((hstage0_0 ((cfg0.slots t 0).cast nbuf0_0)).unread (iblk m c 0 t)) ((hstage0_3 ((cfg0.slots t 3).cast nbuf0_3)).unread (iblk m c 3 t))
    ((hstage0_4 ((cfg0.slots t 4).cast nbuf0_4)).unread (iblk m c 4 t)) ((hstage0_5 ((cfg0.slots t 5).cast nbuf0_5)).unread (iblk m c 5 t))
    (H.q (headOf t)) (H.o (headOf t)) (H.l (headOf t)) (H.d (headOf t)) where
  q := ((hstage0_0 _).read_unread _).trans (hB.q t)
  o := ((hstage0_3 _).read_unread _).trans (hB.o t)
  l := ((hstage0_4 _).read_unread _).trans (hB.l t)
  d := ((hstage0_5 _).read_unread _).trans (hB.d t)

theorem reads_k : (win0_1.stage (cfg0.slots t 1)).view.read (Elt Ideal) ((hstage0_1 ((cfg0.slots t 1).cast nbuf0_1)).unread (iblk m c 1 t)) = up2 (blk (H.k (headOf t)) (blockOf t)) :=
  ((hstage0_1 _).read_unread _).trans (hB.k t)

theorem reads_v : (win0_2.stage (cfg0.slots t 2)).view.read (Elt Ideal) ((hstage0_2 ((cfg0.slots t 2).cast nbuf0_2)).unread (iblk m c 2 t)) = up2 (blk (H.v (headOf t)) (blockOf t)) :=
  ((hstage0_2 _).read_unread _).trans (hB.v t)

omit hB in
theorem block_coords : (blockOf t).val = ((grid0.coords t) 1).val := (coords_block t).symm

omit hB in
/-- The sum of the query rows as the body finds it: cleared at a head's first key block. -/
theorem found (hb : t.val % 8 ≠ 0 → (Memref.whole cc0_scratch4).view.read (Elt Ideal) b.dq = up2 (headQ H (headOf t) (t.val % 8))) :
    (Memref.whole cc0_scratch4).view.read (Elt Ideal) (if hc : body.sl.v2 (grid0.coords t) = 1#1 then (Memref.whole cc0_scratch4).view.writes (Elt Ideal) b.5
      [⟨Rect.unit ![0, 0] S4096x256.size inb_S4096x256_S4096x256_0_0, k0_pay49 (F := Ideal)⟩] else b.dq) = up2 (headQ H (headOf t) (t.val % 8)) := by
  have hi : body.sl.v2 (grid0.coords t) = 1#1 ↔ ((grid0.coords t) 1).val = 0 := cond1_iff _
  rw [coords_block] at hi
  by_cases h : t.val % 8 = 0
  · rw [dif_pos (hi.mpr h), h]
    exact (View.read_writes_full _ _ _ _ _).trans pay49
  · rw [dif_neg fun e => h (hi.mp e)]
    exact hb h

theorem point_dk (hb : t.val % 8 ≠ 0 → (Memref.whole cc0_scratch4).view.read (Elt Ideal) b.dq = up2 (headQ H (headOf t) (t.val % 8))) :
    (win0_7.stage (cfg0.slots t 7)).view.read (Elt Ideal) (point m c t o b).1.1.dk = up2 fun a d => headK H (headOf t) (blockOf t) a d * Real.log 2 :=
  out_dk (reads hB) (reads_k hB) (reads_v hB) block_coords (found hb)

theorem point_dv (hb : t.val % 8 ≠ 0 → (Memref.whole cc0_scratch4).view.read (Elt Ideal) b.dq = up2 (headQ H (headOf t) (t.val % 8))) :
    (win0_8.stage (cfg0.slots t 8)).view.read (Elt Ideal) (point m c t o b).1.1.dv = up2 (headV H (headOf t) (blockOf t)) :=
  out_dv (reads hB) (reads_k hB) (reads_v hB) block_coords (found hb)

omit hB in
theorem headQ_succ : headQ H (headOf t) (t.val % 8 + 1) = upQ (H.q (headOf t)) (H.o (headOf t)) (H.l (headOf t)) (H.d (headOf t)) (blk (H.k (headOf t)) (blockOf t))
    (blk (H.v (headOf t)) (blockOf t)) (headQ H (headOf t) (t.val % 8)) (blockOf t) 7 := by
  have e : Fin.ofNat 8 (t.val % 8) = blockOf t := Fin.ext (Nat.mod_eq_of_lt (Nat.mod_lt _ (by norm_num)))
  conv_lhs => unfold headQ
  rw [e]

theorem point_work (hb : t.val % 8 ≠ 0 → (Memref.whole cc0_scratch4).view.read (Elt Ideal) b.dq = up2 (headQ H (headOf t) (t.val % 8))) :
    (Memref.whole cc0_scratch4).view.read (Elt Ideal) (point m c t o b).1.2.dq = up2 (headQ H (headOf t) (t.val % 8 + 1)) := by
  rw [headQ_succ]
  exact body_dq (reads hB) (reads_k hB) (reads_v hB) block_coords (found hb)

theorem point_dq (hb : t.val % 8 ≠ 0 → (Memref.whole cc0_scratch4).view.read (Elt Ideal) b.dq = up2 (headQ H (headOf t) (t.val % 8))) (h7 : t.val % 8 = 7) :
    (win0_6.stage (cfg0.slots t 6)).view.read (Elt Ideal) (point m c t o b).1.1.dq = up2 (headQ H (headOf t) 8) := by
  have e := headQ_succ (H := H) (t := t)
  have e8 : t.val % 8 + 1 = 8 := by omega
  rw [e8] at e
  rw [e]
  exact out_dq (reads hB) (reads_k hB) (reads_v hB) block_coords (found hb) h7

/-- Before a point inside a head the work buffer holds the sum over the head's earlier key blocks. -/
theorem reached : ∀ (n : ℕ) (hn : n < cfg0.N) (b : Work (F := Ideal) c), Reached m c n b → n % 8 ≠ 0 →
    (Memref.whole cc0_scratch4).view.read (Elt Ideal) b.dq = up2 (headQ H (headOf ⟨n, hn⟩) (n % 8)) := by
  intro n
  induction n with
  | zero => intro _ _ _ h; exact absurd rfl h
  | succ n ih =>
    rintro hn b ⟨h, o, b0, h0, rfl⟩ hne
    have e := point_work (t := ⟨n, h⟩) (o := o) (b := b0) hB (ih h b0 h0)
    refine e.trans (congrArg up2 ?_)
    have e1 : headOf ⟨n + 1, hn⟩ = headOf ⟨n, h⟩ := Fin.ext (show (n + 1) / 8 = n / 8 by omega)
    have e2 : (n + 1) % 8 = n % 8 + 1 := by omega
    rw [e1, e2]

theorem left_dk {X} (h : left m c 7 t X) : X = up2 fun a d => headK H (headOf t) (blockOf t) a d * Real.log 2 := by
  obtain ⟨o, b, hb, rfl⟩ := h
  exact point_dk hB (reached hB t.val t.isLt b hb)

theorem left_dv {X} (h : left m c 8 t X) : X = up2 (headV H (headOf t) (blockOf t)) := by
  obtain ⟨o, b, hb, rfl⟩ := h
  exact point_dv hB (reached hB t.val t.isLt b hb)

theorem left_dq {X} (h : left m c 6 t X) (h7 : t.val % 8 = 7) : X = up2 (headQ H (headOf t) 8) := by
  obtain ⟨o, b, hb, rfl⟩ := h
  exact point_dq hB (reached hB t.val t.isLt b hb) h7

end Cert.Kernel4Ideal.Attn
-- ==== Proof.Attn.Arrays.lean ====
/-
  The attention backward call's arrays: the blocks its points find in them, and the three results they leave.
-/
module

public import proofs.«01_k».proof.Proof.Attn.Points

@[expose] public section

set_option maxRecDepth 16384

noncomputable section

namespace Cert.Kernel4Ideal.Attn

open Cert.Kernel4Ideal Cert.Kernel4Ideal.Gen
open Idealize.ShloMosaic Idealize.ShloMosaic.TcCoe Cert.Lift

/-- Matrices of eight heads side by side. -/
def wide {p w : ℕ} (hw : 8 * p = w) (Z : Fin 8 → Fin 4096 → Fin p → ℝ) (r : Fin 4096) (x : Fin w) : ℝ :=
  Z ⟨x.val / p, by have h := x.isLt; exact Nat.div_lt_of_lt_mul (by rw [mul_comm, hw]; exact h)⟩ r
    ⟨x.val % p, Nat.mod_lt _ (by have h := x.isLt; rcases Nat.eq_zero_or_pos p with e | e; · subst e; omega
                                 · exact e)⟩

theorem wide_at {p w : ℕ} (hw : 8 * p = w) (Z : Fin 8 → Fin 4096 → Fin p → ℝ) {r r' : Fin 4096} {x : Fin w} {h : Fin 8} {d : Fin p} (hr : r.val = r'.val)
    (hx : x.val = h.val * p + d.val) : wide hw Z r x = Z h r' d := by
  have e1 : x.val / p = h.val := by
    rw [hx, mul_comm, Nat.mul_add_div (Nat.pos_of_ne_zero fun e => by have := d.isLt; omega), Nat.div_eq_of_lt d.isLt, Nat.add_zero]
  have e2 : x.val % p = d.val := by rw [hx, mul_comm, Nat.mul_add_mod, Nat.mod_eq_of_lt d.isLt]
  obtain rfl : r = r' := Fin.ext hr
  exact congr (congrFun (congrArg Z (Fin.ext e1)) r) (Fin.ext e2)

/-- A block of one head's rows. -/
theorem wide_block {n p w : ℕ} (hw : 8 * p = w) (Z : Fin 8 → Fin 4096 → Fin p → ℝ) (e : (⟨2, ![n, p]⟩ : Shape).Idx → (⟨2, ![4096, w]⟩ : Shape).Idx)
    (f : Fin n → Fin 4096) (h : Fin 8) (h0 : ∀ j, (e j 0).val = (f (j 0)).val) (h1 : ∀ j, (e j 1).val = h.val * p + (j 1).val) :
    (fun j => up2 (wide hw Z) (e j)) = up2 fun a b => Z h (f a) b :=
  funext fun j => congrArg (fun z : ℝ => (z : EReal)) (wide_at hw Z (h0 j) (h1 j))

variable (m : (ℓ : Loc nD τ sig) → Buf (Elt Ideal) ℓ) (c : Dev nD) (H : Heads)

/-- The call's operands hold `H`. -/
structure Packs : Prop where
  q : V m c main_v35 = up2 (wide (w := 2048) rfl H.q)
  k : V m c main_v39 = up2 (wide (w := 2048) rfl H.k)
  v : V m c main_v42 = up2 (wide (w := 1024) rfl H.v)
  o : V m c main_v45 = up2 (wide (w := 1024) rfl H.o)
  l : V m c main_v23 = fun i : (⟨4, ![8, 8, 1, 512]⟩ : Shape).Idx => ((H.l (i 0) (i 1) (i 3) : ℝ) : EReal)
  d : V m c main_v26 = fun i : (⟨4, ![8, 16, 1, 256]⟩ : Shape).Idx =>
    ((H.d (i 0) ⟨(i 1).val / 2, by have := (i 1).isLt; simp at this; omega⟩ ⟨256 * ((i 1).val % 2) + (i 3).val, by have := (i 3).isLt; simp at this; omega⟩ : ℝ) : EReal)

theorem idx0 : ∀ t : Fin cfg0.N, win0_0.index t 0 = 0 ∧ win0_0.index t 1 = t.val / 8 :=
  (by decide +kernel : ∀ t : Fin grid0.N, win0_0.index t 0 = 0 ∧ win0_0.index t 1 = t.val / 8)
theorem idx1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)
theorem idx2 : ∀ t : Fin cfg0.N, win0_2.index t 0 = t.val % 8 ∧ win0_2.index t 1 = t.val / 8 :=
  (by decide +kernel : ∀ t : Fin grid0.N, win0_2.index t 0 = t.val % 8 ∧ win0_2.index t 1 = t.val / 8)
theorem idx3 : ∀ t : Fin cfg0.N, win0_3.index t 0 = 0 ∧ win0_3.index t 1 = t.val / 8 :=
  (by decide +kernel : ∀ t : Fin grid0.N, win0_3.index t 0 = 0 ∧ win0_3.index t 1 = t.val / 8)
theorem idx4 : ∀ t : Fin cfg0.N, win0_4.index t 0 = t.val / 8 ∧ win0_4.index t 1 = 0 ∧ win0_4.index t 2 = 0 ∧ win0_4.index t 3 = 0 :=
  (by decide +kernel : ∀ t : Fin grid0.N, win0_4.index t 0 = t.val / 8 ∧ win0_4.index t 1 = 0 ∧ win0_4.index t 2 = 0 ∧ win0_4.index t 3 = 0)
theorem idx5 : ∀ t : Fin cfg0.N, win0_5.index t 0 = t.val / 8 ∧ win0_5.index t 1 = 0 ∧ win0_5.index t 2 = 0 ∧ win0_5.index t 3 = 0 :=
  (by decide +kernel : ∀ t : Fin grid0.N, win0_5.index t 0 = t.val / 8 ∧ win0_5.index t 1 = 0 ∧ win0_5.index t 2 = 0 ∧ win0_5.index t 3 = 0)

variable {m c H}

theorem blocks (h : Packs m c H) : Blocks m c H where
  q t := by
    unfold iblk
    refine (congrArg (View.read (Elt Ideal) ((cfg0.win 0).blk t).view) h.q).trans (wide_block rfl H.q _ id (headOf t) (fun j => ?_) fun j => ?_)
    · show win0_0.index t 0 * 4096 + 1 * (j 0).val = (j 0).val
      rw [(idx0 t).1]; omega
    · show win0_0.index t 1 * 256 + 1 * (j 1).val = (t.val / 8) * 256 + (j 1).val
      rw [(idx0 t).2]; omega
  k t := by
    unfold iblk
    refine (congrArg (View.read (Elt Ideal) ((cfg0.win 1).blk t).view) h.k).trans (wide_block rfl H.k _ (fun a => ⟨512 * (blockOf t).val + a.val, by omega⟩) (headOf t) (fun j => ?_) fun j => ?_)
    · show win0_1.index t 0 * 512 + 1 * (j 0).val = 512 * (t.val % 8) + (j 0).val
      rw [(idx1 t).1]; omega
    · show win0_1.index t 1 * 256 + 1 * (j 1).val = (t.val / 8) * 256 + (j 1).val
      rw [(idx1 t).2]; omega
  v t := by
    unfold iblk
    refine (congrArg (View.read (Elt Ideal) ((cfg0.win 2).blk t).view) h.v).trans (wide_block rfl H.v _ (fun a => ⟨512 * (blockOf t).val + a.val, by omega⟩) (headOf t) (fun j => ?_) fun j => ?_)
    · show win0_2.index t 0 * 512 + 1 * (j 0).val = 512 * (t.val % 8) + (j 0).val
      rw [(idx2 t).1]; omega
    · show win0_2.index t 1 * 128 + 1 * (j 1).val = (t.val / 8) * 128 + (j 1).val
      rw [(idx2 t).2]; omega
  o t := by
    unfold iblk
    refine (congrArg (View.read (Elt Ideal) ((cfg0.win 3).blk t).view) h.o).trans (wide_block rfl H.o _ id (headOf t) (fun j => ?_) fun j => ?_)
    · show win0_3.index t 0 * 4096 + 1 * (j 0).val = (j 0).val
      rw [(idx3 t).1]; omega
    · show win0_3.index t 1 * 128 + 1 * (j 1).val = (t.val / 8) * 128 + (j 1).val
      rw [(idx3 t).2]; omega
  l t := by
    unfold iblk
    refine (congrArg (View.read (Elt Ideal) ((cfg0.win 4).blk t).view) h.l).trans (funext fun j => congrArg (fun z : ℝ => (z : EReal)) (congr (congr (congrArg H.l (Fin.ext ?_)) (Fin.ext ?_)) (Fin.ext ?_)))
    · show win0_4.index t 0 * 1 + 1 * (j 0).val = t.val / 8
      have h0 : (j 0).val < 1 := (j 0).isLt
      rw [(idx4 t).1]; omega
    · show win0_4.index t 1 * 8 + 1 * (j 1).val = (j 1).val
      rw [(idx4 t).2.1]; omega
    · show win0_4.index t 3 * 512 + 1 * (j 3).val = (j 3).val
      rw [(idx4 t).2.2.2]; omega
  d t := by
    unfold iblk
    refine (congrArg (View.read (Elt Ideal) ((cfg0.win 5).blk t).view) h.d).trans (funext fun j => congrArg (fun z : ℝ => (z : EReal)) (congr (congr (congrArg H.d (Fin.ext ?_)) (Fin.ext ?_)) (Fin.ext ?_)))
    · show win0_5.index t 0 * 1 + 1 * (j 0).val = t.val / 8
      have h0 : (j 0).val < 1 := (j 0).isLt
      rw [(idx5 t).1]; omega
    · show (win0_5.index t 1 * 16 + 1 * (j 1).val) / 2 = (j 1).val / 2
      rw [(idx5 t).2.1]; omega
    · show 256 * ((win0_5.index t 1 * 16 + 1 * (j 1).val) % 2) + (win0_5.index t 3 * 256 + 1 * (j 3).val) = 256 * ((j 1).val % 2) + (j 3).val
      rw [(idx5 t).2.1, (idx5 t).2.2.2]; omega

theorem idx6 : ∀ t : Fin cfg0.N, win0_6.index t 0 = 0 ∧ win0_6.index t 1 = t.val / 8 :=
  (by decide +kernel : ∀ t : Fin grid0.N, win0_6.index t 0 = 0 ∧ win0_6.index t 1 = t.val / 8)
theorem idx7 : ∀ t : Fin cfg0.N, win0_7.index t 0 = t.val % 8 ∧ win0_7.index t 1 = t.val / 8 :=
  (by decide +kernel : ∀ t : Fin grid0.N, win0_7.index t 0 = t.val % 8 ∧ win0_7.index t 1 = t.val / 8)
theorem idx8 : ∀ t : Fin cfg0.N, win0_8.index t 0 = t.val % 8 ∧ win0_8.index t 1 = t.val / 8 :=
  (by decide +kernel : ∀ t : Fin grid0.N, win0_8.index t 0 = t.val % 8 ∧ win0_8.index t 1 = t.val / 8)

/-- A row of all keys as a row of its block. -/
def ofBlocks {p : ℕ} (Z : Fin 8 → Fin 512 → Fin p → ℝ) (r : Fin 4096) : Fin p → ℝ := Z ⟨r.val / 512, by omega⟩ ⟨r.val % 512, by omega⟩

theorem ofBlocks_at {p : ℕ} (Z : Fin 8 → Fin 512 → Fin p → ℝ) (j : Fin 8) (a : Fin 512) (h : 512 * j.val + a.val < 4096) :
    ofBlocks Z ⟨512 * j.val + a.val, h⟩ = Z j a := by
  have e1 : (⟨(512 * j.val + a.val) / 512, by omega⟩ : Fin 8) = j := Fin.ext (show (512 * j.val + a.val) / 512 = j.val by omega)
  have e2 : (⟨(512 * j.val + a.val) % 512, by omega⟩ : Fin 512) = a := Fin.ext (show (512 * j.val + a.val) % 512 = a.val by omega)
  exact congrArg₂ Z e1 e2

/-- The three results, over all heads. -/
def resQ (H : Heads) : Fin 4096 → Fin 2048 → ℝ := wide rfl fun h => headQ H h 8
@[inherit_doc resQ]
def resK (H : Heads) : Fin 4096 → Fin 2048 → ℝ := wide rfl fun h => ofBlocks fun j a d => headK H h j a d * Real.log 2
@[inherit_doc resQ]
def resV (H : Heads) : Fin 4096 → Fin 1024 → ℝ := wide rfl fun h => ofBlocks (headV H h)

variable (h : Packs m c H) {after : (w : Fin cfg0.W) → Fin cfg0.N → (cfg0.win w).block.Idx → Elt Ideal (cfg0.win w).elt}

include h

theorem array_dq (ha : ∀ t, (cfg0.win 6).flush t = true → left m c 6 t (after 6 t)) : ((rel m c).withAfter after).arrAt 6 cfg0.N = up2 (resQ H) := by
  refine ((rel m c).withAfter after).arrAt_eq_of_covers 6 (up2 (resQ H)) (by decide +kernel) fun t hf y => ?_
  have e : after 6 t = up2 (headQ H (headOf t) 8) := left_dq (blocks h) (ha t hf) ((flush0_6 t).mp hf)
  refine (congrFun e y).trans (congrFun (wide_block rfl (fun h => headQ H h 8) (fun j => ((cfg0.win 6).blk t).view.emb j) id (headOf t) (fun j => ?_) fun j => ?_) y).symm
  · show win0_6.index t 0 * 4096 + 1 * (j 0).val = (j 0).val
    rw [(idx6 t).1]; omega
  · show win0_6.index t 1 * 256 + 1 * (j 1).val = (t.val / 8) * 256 + (j 1).val
    rw [(idx6 t).2]; omega

theorem array_dk (ha : ∀ t, (cfg0.win 7).flush t = true → left m c 7 t (after 7 t)) : ((rel m c).withAfter after).arrAt 7 cfg0.N = up2 (resK H) := by
  refine ((rel m c).withAfter after).arrAt_eq_of_covers 7 (up2 (resK H)) (by decide +kernel) fun t hf y => ?_
  have e : after 7 t = up2 fun a d => headK H (headOf t) (blockOf t) a d * Real.log 2 := left_dk (blocks h) (ha t hf)
  refine (congrFun e y).trans (Eq.trans ?_ (congrFun (wide_block rfl (fun h => ofBlocks fun j a d => headK H h j a d * Real.log 2) (fun j => ((cfg0.win 7).blk t).view.emb j)
    (fun a => ⟨512 * (blockOf t).val + a.val, by omega⟩) (headOf t) (fun j => ?_) fun j => ?_) y).symm)
  · exact congrArg (fun z : ℝ => (z : EReal)) (congrFun (ofBlocks_at (fun j a d => headK H (headOf t) j a d * Real.log 2) (blockOf t) (y 0) _) (y 1)).symm
  · show win0_7.index t 0 * 512 + 1 * (j 0).val = 512 * (t.val % 8) + (j 0).val
    rw [(idx7 t).1]; omega
  · show win0_7.index t 1 * 256 + 1 * (j 1).val = (t.val / 8) * 256 + (j 1).val
    rw [(idx7 t).2]; omega

theorem array_dv (ha : ∀ t, (cfg0.win 8).flush t = true → left m c 8 t (after 8 t)) : ((rel m c).withAfter after).arrAt 8 cfg0.N = up2 (resV H) := by
  refine ((rel m c).withAfter after).arrAt_eq_of_covers 8 (up2 (resV H)) (by decide +kernel) fun t hf y => ?_
  have e : after 8 t = up2 (headV H (headOf t) (blockOf t)) := left_dv (blocks h) (ha t hf)
  refine (congrFun e y).trans (Eq.trans ?_ (congrFun (wide_block rfl (fun h => ofBlocks (headV H h)) (fun j => ((cfg0.win 8).blk t).view.emb j)
    (fun a => ⟨512 * (blockOf t).val + a.val, by omega⟩) (headOf t) (fun j => ?_) fun j => ?_) y).symm)
  · exact congrArg (fun z : ℝ => (z : EReal)) (congrFun (ofBlocks_at (headV H (headOf t)) (blockOf t) (y 0) _) (y 1)).symm
  · show win0_8.index t 0 * 512 + 1 * (j 0).val = 512 * (t.val % 8) + (j 0).val
    rw [(idx8 t).1]; omega
  · show win0_8.index t 1 * 128 + 1 * (j 1).val = (t.val / 8) * 128 + (j 1).val
    rw [(idx8 t).2]; omega

omit h in
/-- The run: the three results, and the arguments unchanged. -/
theorem run_value (H : Dev nD → Heads) (h : ∀ c, Packs m c (H c)) (ρ) :
    θ_run defs (onTc (τ := τ) (main (F := Ideal))) ⟨m, fun _ => 0, ρ⟩ (fun r =>
    (∀ c : Dev nD, r.2.mem ((c.tc : Thread nD τ).loc main_v46_0) = up2 (resQ (H c))
      ∧ r.2.mem ((c.tc : Thread nD τ).loc main_v46_1) = up2 (resK (H c))
      ∧ r.2.mem ((c.tc : Thread nD τ).loc main_v46_2) = up2 (resV (H c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r hr => ⟨fun c => by
    obtain ⟨after, hL, hA⟩ := hr.1.exists_exact c
    refine ⟨(hA 6).trans (array_dq (h c) fun t hf => ?_), (hA 7).trans (array_dk (h c) fun t hf => ?_), (hA 8).trans (array_dv (h c) fun t hf => ?_),
     ((hr.1 c).2 main_arg0 (Pipeline.mem_restRefs_of main_arg0 (by decide) (by decide))).trans (V_main_arg0 m c),
     ((hr.1 c).2 main_arg1 (Pipeline.mem_restRefs_of main_arg1 (by decide) (by decide))).trans (V_main_arg1 m c),
     ((hr.1 c).2 main_arg2 (Pipeline.mem_restRefs_of main_arg2 (by decide) (by decide))).trans (V_main_arg2 m c),
     ((hr.1 c).2 main_arg3 (Pipeline.mem_restRefs_of main_arg3 (by decide) (by decide))).trans (V_main_arg3 m c)⟩
    · exact Pipeline.Dat.toRRel_leaves _ rfl (hL 6 t hf)
    · exact Pipeline.Dat.toRRel_leaves _ rfl (hL 7 t hf)
    · exact Pipeline.Dat.toRRel_leaves _ rfl (hL 8 t hf), hr.2⟩) (run m ρ)

end Cert.Kernel4Ideal.Attn
-- ==== Proof.Attn.Soft.lean ====
/-
  Masked softmax attention over the reals: its weights, and the gradients of its queries, keys and values.
-/
module

public import proofs.«01_k».proof.Proof.Common.Lift

@[expose] public section

set_option maxRecDepth 16384

noncomputable section

open Idealize.ShloMosaic Cert.Lift

namespace Cert.Attn

/-- The scale of the scores. -/
def scale : ℝ := 9686330 * (2 : ℝ) ^ (-27 : ℤ)

theorem scale_ne : scale ≠ 0 := by unfold scale; positivity

theorem lit_scale : Ideal.ofBits .f32 0x3D93CD3A#32 = ((scale : ℝ) : EReal) := by
  unfold scale; simp [Ideal.ofBits, Ideal.ieee, -EReal.coe_mul]

/-- The largest of finitely many extended reals below infinity, one of them a real, is a real. -/
theorem fold_max_real {n : ℕ} (x : Fin n → EReal) (ht : ∀ k, x k < ⊤) (k0 : Fin n) (r : ℝ) (h0 : x k0 = (r : EReal)) :
    ∃ M : ℝ, (Finset.univ : Finset (Fin n)).fold max ⊥ x = (M : EReal) := by
  have hlt : (Finset.univ : Finset (Fin n)).fold max ⊥ x < ⊤ := (Finset.fold_max_lt _).mpr ⟨bot_lt_top, fun k _ => ht k⟩
  have hle : (r : EReal) ≤ (Finset.univ : Finset (Fin n)).fold max ⊥ x := (Finset.le_fold_max _).mpr (Or.inr ⟨k0, Finset.mem_univ _, h0.ge⟩)
  refine ⟨_, (EReal.coe_toReal hlt.ne fun e => ?_).symm⟩
  rw [e] at hle
  exact absurd hle (not_le.mpr (EReal.bot_lt_coe r))

variable (Q K : Fin 8 → Fin 4096 → Fin 192 → ℝ) (V G : Fin 8 → Fin 4096 → Fin 128 → ℝ) (M : Fin 8 → Fin 4096 → ℝ)

/-- The scores. -/
def score (h : Fin 8) (r c : Fin 4096) : ℝ := (∑ d, Q h r d * K h c d) * scale

/-- The exponentials of the scores less the row's `M`; a query sees the keys up to its own. -/
def expo (h : Fin 8) (r c : Fin 4096) : ℝ := if c.val ≤ r.val then Real.exp (score Q K h r c - M h r) else 0

/-- Their sum, which is positive. -/
def total (h : Fin 8) (r : Fin 4096) : ℝ := ∑ c, expo Q K M h r c

theorem total_pos (h : Fin 8) (r : Fin 4096) : 0 < total Q K M h r := by
  refine Finset.sum_pos' (fun c _ => ?_) ⟨r, Finset.mem_univ _, ?_⟩
  · unfold expo; split
    · exact (Real.exp_pos _).le
    · exact le_rfl
  · unfold expo; rw [if_pos le_rfl]; exact Real.exp_pos _

/-- The weights. -/
def weight (h : Fin 8) (r c : Fin 4096) : ℝ := expo Q K M h r c / total Q K M h r

/-- The gradients of the weights. -/
def gradW (h : Fin 8) (r c : Fin 4096) : ℝ := ∑ d, G h r d * V h c d

/-- A query's sum of its weights times their gradients. -/
def delta (h : Fin 8) (r : Fin 4096) : ℝ := ∑ c, weight Q K M h r c * gradW V G h r c

/-- The gradients of the scores. -/
def gradS (h : Fin 8) (r c : Fin 4096) : ℝ := weight Q K M h r c * (gradW V G h r c - delta Q K V G M h r)

/-- The gradients of the queries, less the scale; of the keys; and of the values. -/
def gradQ (h : Fin 8) (r : Fin 4096) (d : Fin 192) : ℝ := ∑ c, gradS Q K V G M h r c * K h c d
@[inherit_doc gradQ]
def gradK (h : Fin 8) (c : Fin 4096) (d : Fin 192) : ℝ := ∑ r, gradS Q K V G M h r c * scale * Q h r d
@[inherit_doc gradQ]
def gradV (h : Fin 8) (c : Fin 4096) (d : Fin 128) : ℝ := ∑ r, weight Q K M h r c * G h r d

end Cert.Attn

end
-- ==== Proof.Attn.Reference.lean ====
/-
  The reference of the attention's gradients, line by line, as arrays of reals.
-/
module

public import proofs.«01_k».proof.Proof.Attn.Soft
public import proofs.«01_k».proof.Proof.Gen.Reference4Ideal.Read

@[expose] public section

set_option maxRecDepth 16384

noncomputable section

open Idealize.ShloMosaic Cert.Lift

namespace Cert.Attn.Ref

open Cert.Reference4Ideal Cert.Reference4Ideal.Gen Cert.Reference4Ideal.Read

variable (Q K : Fin 8 → Fin 4096 → Fin 192 → ℝ) (V G : Fin 8 → Fin 4096 → Fin 128 → ℝ) (M : Fin 8 → Fin 4096 → ℝ)

theorem lit_bot : Ideal.ofBits .f32 0xFF800000#32 = (⊥ : EReal) := by
  simp [Ideal.ofBits, Ideal.ieee]

/-- The comparison of two positions. -/
theorem sle_pos {a b : ℕ} (ha : a < 4096) (hb : b < 4096) : IntOp.cmpi .sle (BitVec.ofNat 32 a) (BitVec.ofNat 32 b) = if a ≤ b then 1#1 else 0#1 := by
  have e : BitVec.sle (BitVec.ofNat 32 a) (BitVec.ofNat 32 b) = decide (a ≤ b) := by
    rw [BitVec.sle_eq_decide, BitVec.toInt_ofNat', BitVec.toInt_ofNat']
    congr 1
    rw [Int.bmod_eq_of_le (by omega) (by omega), Int.bmod_eq_of_le (by omega) (by omega)]
    exact propext Int.ofNat_le
  unfold IntOp.cmpi
  simp only [e]
  by_cases h : a ≤ b <;> simp [h]

theorem v6 (h : Fin 8) (r c : Fin 4096) :
    val_main_v6_0 (F := Ideal) (up3 Q) (up3 K) (ix3 h r c) = if c.val ≤ r.val then ((score Q K h r c : ℝ) : EReal) else ⊥ := by
  rw [val_main_v6_0_apply, val_main_v5_apply, val_main_v4_apply, val_main_v3_apply, val_main_v2_apply, val_main_v0_apply, val_main_v1_apply, val_main_cst_apply,
    val_main_call0_v1_apply, val_main_call0_v0_apply, val_main_cst_0_apply]
  rw [show IntOp.cmpi .sle (BitVec.ofNat 32 (ix3 h r c 2).val) (BitVec.ofNat 32 (ix3 h r c 1).val) = (if c.val ≤ r.val then 1#1 else 0#1) from sle_pos c.isLt r.isLt]
  by_cases e : c.val ≤ r.val
  · rw [if_pos e, if_pos e, show FloatOps.ofBits (F := Ideal) .f32 0x3D93CD3A#32 = ((scale : ℝ) : EReal) from lit_scale]
    show (∑ k, ((Q h r k : ℝ) : EReal) * ((K h c k : ℝ) : EReal)) * ((scale : ℝ) : EReal) = _
    simp only [← EReal.coe_mul, ← coe_sum]
    rfl
  · rw [if_neg e, if_neg e]
    exact lit_bot

/-- The maximum of each row is a real. -/
theorem exists_max : ∃ M : Fin 8 → Fin 4096 → ℝ, val_main_v7 (F := Ideal) (up3 Q) (up3 K) = up2 M := by
  have hr : ∀ (h : Fin 8) (r : Fin 4096), ∃ M : ℝ, val_main_v7 (F := Ideal) (up3 Q) (up3 K) (ix2 h r) = (M : EReal) := fun h r => by
    have e : ∀ k : Fin 4096, (Shape.Reduces.lift (s := S8x4096x4096) (t := S8x4096) (a := 2) (by decide) (ix2 h r) k) = ix3 h r k := fun k =>
      funext fun a => Fin.ext (by match a with | ⟨0, _⟩ => rfl | ⟨1, _⟩ => rfl | ⟨2, _⟩ => rfl)
    obtain ⟨M, hM⟩ := fold_max_real (fun k : Fin 4096 => val_main_v6_0 (F := Ideal) (up3 Q) (up3 K) (ix3 h r k)) (fun k => by
      rw [v6]; split
      · exact EReal.coe_lt_top _
      · exact bot_lt_top) r (score Q K h r r) (by rw [v6, if_pos le_rfl])
    refine ⟨M, Eq.trans ?_ hM⟩
    unfold val_main_v7
    refine (Host.reduce_eq_fold_single (fun x y : EReal => max x y) _ _ reducesTo_S8x4096x4096_S8x4096_d2 (by decide) h_S_ (ix2 h r)).trans ?_
    exact congr (congrArg (Finset.fold max) lit_bot) (funext fun k => congrArg _ (e k)) |> fun t => congrFun t _
  choose M hM using hr
  exact ⟨M, funext fun i => (congrArg _ (eq_ix2 i)).trans (hM (i 0) (i 1))⟩

variable {Q K M} (hM : val_main_v7 (F := Ideal) (up3 Q) (up3 K) = up2 M)

include hM

theorem v27 : val_main_v27 (F := Ideal) (up3 Q) (up3 K) = up3 (expo Q K M) := by
  funext j
  idx_vars j
  pointwise [val_main_v27, val_main_v26, val_main_v25, val_main_v24, val_main_v14, val_main_v13, val_main_cst_3, hM]
  rw [v6, up3_ix, up2_ix, lit_bot, max_eq_right bot_le]
  unfold expo
  by_cases e : j2.val ≤ j1.val
  · rw [if_pos e, if_pos e, ← EReal.coe_sub]; rfl
  · rw [if_neg e, if_neg e]; rfl

theorem v28 : val_main_v28 (F := Ideal) (up3 Q) (up3 K) = up2 (total Q K M) := by
  funext j
  idx_vars j
  pointwise [val_main_v28, val_main_cst_9, v27 hM]
  simp only [up3_ix, ← coe_sum, lit_zero, ← EReal.coe_add, zero_add]
  rfl

theorem v31 : val_main_v31 (F := Ideal) (up3 Q) (up3 K) = up3 (weight Q K M) := by
  funext j
  idx_vars j
  pointwise [val_main_v31, val_main_v30, val_main_v29, v28 hM, v27 hM]
  rw [up3_ix, up2_ix, div_real _ (total_pos Q K M _ _).ne']
  rfl

omit hM in
theorem v38 : val_main_v38 (F := Ideal) (up3 V) (up3 G) = up3 (gradW V G) := by
  funext j
  idx_vars j
  pointwise [val_main_v38]
  simp only [up3_ix, ← EReal.coe_mul, ← coe_sum]
  rfl

/-- What the reference takes from a quotient by the sum: a row's sum of weights times gradients, over the sum again. -/
def share (Q K : Fin 8 → Fin 4096 → Fin 192 → ℝ) (V G : Fin 8 → Fin 4096 → Fin 128 → ℝ) (M : Fin 8 → Fin 4096 → ℝ) (h : Fin 8) (r : Fin 4096) : ℝ :=
  ∑ c, gradW V G h r c * (1 / (total Q K M h r * total Q K M h r)) * expo Q K M h r c

omit hM in
theorem share_eq (h : Fin 8) (r : Fin 4096) : share Q K V G M h r = delta Q K V G M h r / total Q K M h r := by
  unfold share delta weight
  rw [Finset.sum_div]
  refine Finset.sum_congr rfl fun c _ => ?_
  have := (total_pos Q K M h r).ne'
  field_simp

theorem v42 : val_main_v42 (F := Ideal) (up3 Q) (up3 K) (up3 V) (up3 G) = up2 (share Q K V G M) := by
  funext j
  idx_vars j
  pointwise [val_main_v42, val_main_cst_11, val_main_v41, val_main_v40, val_main_v39, val_main_v34, val_main_v33, val_main_cst_10, val_main_v32, val_main_v29, v28 hM, v27 hM, v38]
  have hd : Ideal.div 1 ((total Q K M j0 j1 * total Q K M j0 j1 : ℝ) : EReal) = ((1 / (total Q K M j0 j1 * total Q K M j0 j1) : ℝ) : EReal) :=
    div_real 1 (mul_pos (total_pos Q K M _ _) (total_pos Q K M _ _)).ne'
  simp only [up3_ix, up2_ix, ← EReal.coe_mul, hd, ← coe_sum, lit_zero, ← EReal.coe_add, zero_add]
  rfl

theorem v53 : val_main_v53 (F := Ideal) (up3 Q) (up3 K) (up3 V) (up3 G) = up3 fun h r c => gradS Q K V G M h r c * scale := by
  have hc : ∀ h (r c : Fin 4096), val_main_v50 (F := Ideal) (up3 Q) (up3 K) (up3 V) (up3 G) (ix3 h r c) = ((gradS Q K V G M h r c : ℝ) : EReal) := fun h r c => by
    pointwise [val_main_v50, val_main_v49, val_main_v48, val_main_v47, val_main_cst_12, val_main_v46, val_main_v45, val_main_v44, val_main_v43, val_main_v29, v42, v28 hM, v27 hM, v38, v42 V G hM]
    simp only [up3_ix, up2_ix, div_real _ (total_pos Q K M _ _).ne', ← EReal.coe_neg, ← coe_sum, lit_zero, ← EReal.coe_add, ← EReal.coe_mul, zero_add,
      Finset.sum_const, Finset.card_univ, Fintype.card_fin, one_smul, share_eq]
    refine congrArg (fun z : ℝ => (z : EReal)) ?_
    unfold gradS weight
    have := (total_pos Q K M h r).ne'
    field_simp
    ring
  funext j
  idx_vars j
  pointwise [val_main_v53, val_main_v52, val_main_cst_13, val_main_v51, val_main_call1_v0, val_main_call1_cst, hc]
  rw [val_main_v5_apply, val_main_v4_apply, val_main_v3_apply,
    show IntOp.cmpi .sle (BitVec.ofNat 32 (ix3 j0 j1 j2 2).val) (BitVec.ofNat 32 (ix3 j0 j1 j2 1).val) = (if j2.val ≤ j1.val then 1#1 else 0#1) from sle_pos j2.isLt j1.isLt]
  simp only [up3_ix, lit_scale, lit_zero]
  by_cases e : j2.val ≤ j1.val
  · rw [if_pos e, ← EReal.coe_mul]; rfl
  · rw [if_neg e]
    have : gradS Q K V G M j0 j1 j2 = 0 := by unfold gradS weight expo; rw [if_neg e]; simp
    rw [this, zero_mul]
    rfl

theorem v54 : val_main_v54 (F := Ideal) (up3 Q) (up3 K) (up3 V) (up3 G) = up3 (gradK Q K V G M) := by
  funext j
  idx_vars j
  pointwise [val_main_v54, v53 V G hM]
  simp only [up3_ix, ← EReal.coe_mul, ← coe_sum]
  rfl

theorem v57 : val_main_v57 (F := Ideal) (up3 Q) (up3 K) (up3 V) (up3 G) = up3 (gradQ Q K V G M) := by
  funext j
  idx_vars j
  pointwise [val_main_v57, val_main_v56, val_main_cst_14, val_main_v55, v53 V G hM]
  simp only [up3_ix, ← EReal.coe_mul, ← coe_sum, lit_scale, div_real _ scale_ne]
  refine congrArg (fun z : ℝ => (z : EReal)) ?_
  unfold gradQ
  rw [Finset.sum_div]
  refine Finset.sum_congr rfl fun c _ => ?_
  have := scale_ne
  field_simp

theorem v37 : val_main_v37 (F := Ideal) (up3 Q) (up3 K) (up3 G) = up3 (gradV Q K G M) := by
  funext j
  idx_vars j
  pointwise [val_main_v37, val_main_v36, v31 hM]
  simp only [up3_ix, ← EReal.coe_mul, ← coe_sum]
  refine congrArg (fun z : ℝ => (z : EReal)) (Finset.sum_congr rfl fun c _ => mul_comm _ _)

/-- Columns of zeros after the 192. -/
def padded (Z : Fin 8 → Fin 4096 → Fin 192 → ℝ) (h : Fin 8) (r : Fin 4096) (d : Fin 256) : ℝ := if e : d.val < 192 then Z h r ⟨d.val, e⟩ else 0

omit hM in
/-- A padded array read where its heads lie side by side. -/
theorem padded_read (Z : Fin 8 → Fin 4096 → Fin 192 → ℝ) (r : Fin 4096) (x : Fin 2048) :
    (if h : x.val / 256 < 8 ∧ x.val % 256 < 192 then up3 Z (ix3 ⟨x.val / 256, h.1⟩ r ⟨x.val % 256, h.2⟩) else FloatOps.sitofp (F := Ideal) .f32 0#32)
      = ((padded Z ⟨x.val / 256, by omega⟩ r ⟨x.val % 256, by omega⟩ : ℝ) : EReal) := by
  unfold padded
  by_cases e : x.val % 256 < 192
  · rw [dif_pos ⟨by omega, e⟩, dif_pos e]; rfl
  · rw [dif_neg fun h => e h.2, dif_neg e]
    exact congrArg (fun z : ℝ => (z : EReal)) (by simp)

theorem v61 : val_main_v61 (F := Ideal) (up3 Q) (up3 K) (up3 V) (up3 G)
    = up2 fun r x => padded (gradQ Q K V G M) ⟨x.val / 256, by omega⟩ r ⟨x.val % 256, by omega⟩ := by
  funext j
  idx_vars j
  pointwise [val_main_v61, val_main_v60, val_main_v59, val_main_v58, val_main_call2_v0, val_main_c, v57 V G hM]
  exact padded_read _ j0 j1

theorem v65 : val_main_v65 (F := Ideal) (up3 Q) (up3 K) (up3 V) (up3 G)
    = up2 fun r x => padded (gradK Q K V G M) ⟨x.val / 256, by omega⟩ r ⟨x.val % 256, by omega⟩ := by
  funext j
  idx_vars j
  pointwise [val_main_v65, val_main_v64, val_main_v63, val_main_v62, val_main_call3_v0, val_main_c_15, v54 V G hM]
  exact padded_read _ j0 j1

theorem v68 : val_main_v68 (F := Ideal) (up3 Q) (up3 K) (up3 G)
    = up2 fun r x => gradV Q K G M ⟨x.val / 128, by omega⟩ r ⟨x.val % 128, by omega⟩ := by
  funext j
  idx_vars j
  pointwise [val_main_v68, val_main_v67, val_main_v66, v37 G hM]
  rfl

end Cert.Attn.Ref

end
-- ==== Proof.Attn.Host.lean ====
/-
  The attention backward call's host lines: what the call's operands hold, as arrays of reals.
-/
module

public import proofs.«01_k».proof.Proof.Attn.Arrays
public import proofs.«01_k».proof.Proof.Attn.Reference

@[expose] public section

set_option maxRecDepth 16384

noncomputable section

open Idealize.ShloMosaic Idealize.ShloMosaic.TcCoe Idealize.SL.Sem Cert.Lift

namespace Cert.Kernel4Ideal.Attn

open Cert.Kernel4Ideal Cert.Kernel4Ideal.Gen Cert.Attn Cert.Attn.Ref

abbrev Scores : Type := FVec Ideal S8x4096x4096 .f32
abbrev Rows (n : ℕ) : Type := FVec Ideal ⟨3, ![8, 4096, n]⟩ .f32
abbrev Stats : Type := FVec Ideal S8x4096 .f32

/-- The masked scores and their rows' maxima are the reference's own lines. -/
abbrev masked (q k : Rows 192) : Scores := Cert.Reference4Ideal.Read.val_main_v6_0 (F := Ideal) q k
@[inherit_doc masked]
abbrev rowMax (q k : Rows 192) : Stats := Cert.Reference4Ideal.Read.val_main_v7 (F := Ideal) q k

/-- A statistic of the rows as a column. -/
def column (s : Stats) : Rows 1 := broadcastInDim S8x4096x1 ![0, 1] bcast_S8x4096_S8x4096x1_0_1 s

/-- The exponentials. -/
def hExp (q k : Rows 192) : Scores := Host.exp (subf (masked q k) (broadcastInDim S8x4096x4096 ![0, 1, 2] bcast_S8x4096x1_S8x4096x4096_0_1_2 (column (rowMax q k))))

/-- Their sums. -/
def hSum (q k : Rows 192) : Stats := Host.reduceAdd (hExp q k) (constant S_ .f32 0x00000000#32) reducesTo_S8x4096x4096_S8x4096_d2 h_S_

/-- The attention's result. -/
def hOut (q k : Rows 192) (v : Rows 128) : Rows 128 :=
  Host.divf (Host.dotGeneral dot_S8x4096x4096_S8x4096x128_S8x4096x128_2_1_1_2_0_0 none (hExp q k) v)
    (broadcastInDim S8x4096x128 ![0, 1, 2] bcast_S8x4096x1_S8x4096x128_0_1_2 (column (hSum q k)))

/-- The logarithm of two, as the host takes it. -/
def hLn2 : FVec Ideal S_ .f32 := Host.log (constant S_ .f32 0x40000000#32)

/-- The rows' statistic in base two. -/
def hLse (q k : Rows 192) : Rows 1 :=
  Host.divf (addf (column (rowMax q k)) (Host.log (column (hSum q k)))) (broadcastInDim S8x4096x1 ![] bcast_S_S8x4096x1 hLn2)

/-- The rows' sums of result times gradient. -/
def hDelta (q k : Rows 192) (v g : Rows 128) : Stats :=
  Host.reduceAdd (mulf g (hOut q k v)) (constant S_ .f32 0x00000000#32) reducesTo_S8x4096x128_S8x4096_d2 h_S_

/-- The scaled queries. -/
def hScaled (q : Rows 192) : Rows 192 :=
  mulf q (broadcastInDim S8x4096x192 ![] bcast_S_S8x4096x192 (Host.divf (constant S_ .f32 0x3D93CD3A#32) hLn2))

/-- Heads of 192 columns, padded and side by side. -/
def hPad (z : Rows 192) : FVec Ideal S4096x2048 .bf16 :=
  truncf .bf16 (shapeCast S4096x2048 (transpose S4096x8x256 [1, 0, 2] (pad S8x4096x256 ![0, 0, 0] ![0, 0, 64] ![0, 0, 0] z
    (sitofp .f32 (constantI S_ 32 0#32)) pads_S8x4096x192_S8x4096x256_000_000_0640 h_S_) transposes_S8x4096x256_S4096x8x256_1_0_2)
    shapeCasts_S4096x8x256_S4096x2048) bitsLt_bf16_f32

/-- Heads of 128 columns side by side. -/
def hPack (z : Rows 128) : FVec Ideal S4096x1024 .bf16 :=
  truncf .bf16 (shapeCast S4096x1024 (transpose S4096x8x128 [1, 0, 2] z transposes_S8x4096x128_S4096x8x128_1_0_2)
    shapeCasts_S4096x8x128_S4096x1024) bitsLt_bf16_f32

variable (m : (ℓ : Loc nD τ sig) → Buf (Elt Ideal) ℓ) (c : Dev nD)

theorem V_main_v42 : @Eq (FVec Ideal S4096x1024 .bf16) (V m c main_v42) (hPack (m ((c.tc : Thread nD τ).loc main_arg2) : Rows 128)) := by
  unfold V
  simp only [hostOps0, hostOps0_1, hostOps0_2, hostOps0_3, hostOps0_4, hostOps0_5, hostOps0_6, List.flatten_cons, List.flatten_nil,
    List.append_nil, List.cons_append, List.nil_append]
  after_results
  rfl

theorem V_main_v45 : @Eq (FVec Ideal S4096x1024 .bf16) (V m c main_v45) (hPack (m ((c.tc : Thread nD τ).loc main_arg3) : Rows 128)) := by
  unfold V
  simp only [hostOps0, hostOps0_1, hostOps0_2, hostOps0_3, hostOps0_4, hostOps0_5, hostOps0_6, List.flatten_cons, List.flatten_nil,
    List.append_nil, List.cons_append, List.nil_append]
  after_results
  rfl

theorem V_main_v39 : @Eq (FVec Ideal S4096x2048 .bf16) (V m c main_v39) (hPad (m ((c.tc : Thread nD τ).loc main_arg1) : Rows 192)) := by
  unfold V
  simp only [hostOps0, hostOps0_1, hostOps0_2, hostOps0_3, hostOps0_4, hostOps0_5, hostOps0_6, List.flatten_cons, List.flatten_nil,
    List.append_nil, List.cons_append, List.nil_append]
  after_results
  rfl

theorem V_main_v35 : @Eq (FVec Ideal S4096x2048 .bf16) (V m c main_v35) (hPad (hScaled (m ((c.tc : Thread nD τ).loc main_arg0) : Rows 192))) := by
  unfold V
  simp only [hostOps0, hostOps0_1, hostOps0_2, hostOps0_3, hostOps0_4, hostOps0_5, hostOps0_6, List.flatten_cons, List.flatten_nil,
    List.append_nil, List.cons_append, List.nil_append]
  after_results
  rfl

theorem V_main_v23 : @Eq (FVec Ideal S8x8x1x512 .f32) (V m c main_v23) (shapeCast S8x8x1x512 (hLse (m ((c.tc : Thread nD τ).loc main_arg0) : Rows 192) (m ((c.tc : Thread nD τ).loc main_arg1) : Rows 192))
    shapeCasts_S8x4096x1_S8x8x1x512) := by
  unfold V
  simp only [hostOps0, hostOps0_1, hostOps0_2, hostOps0_3, hostOps0_4, hostOps0_5, hostOps0_6, List.flatten_cons, List.flatten_nil,
    List.append_nil, List.cons_append, List.nil_append]
  after_results
  rfl

theorem V_main_v26 : @Eq (FVec Ideal S8x16x1x256 .f32) (V m c main_v26) (shapeCast S8x16x1x256 (hDelta (m ((c.tc : Thread nD τ).loc main_arg0) : Rows 192) (m ((c.tc : Thread nD τ).loc main_arg1) : Rows 192)
    (m ((c.tc : Thread nD τ).loc main_arg2) : Rows 128) (m ((c.tc : Thread nD τ).loc main_arg3) : Rows 128)) shapeCasts_S8x4096_S8x16x1x256) := by
  unfold V
  simp only [hostOps0, hostOps0_1, hostOps0_2, hostOps0_3, hostOps0_4, hostOps0_5, hostOps0_6, List.flatten_cons, List.flatten_nil,
    List.append_nil, List.cons_append, List.nil_append]
  after_results
  rfl

variable (Q K : Fin 8 → Fin 4096 → Fin 192 → ℝ) (W G : Fin 8 → Fin 4096 → Fin 128 → ℝ) (M : Fin 8 → Fin 4096 → ℝ)

theorem hPad_real (Z : Fin 8 → Fin 4096 → Fin 192 → ℝ) : hPad (up3 Z) = up2 (wide (w := 2048) rfl (padded Z)) := by
  unfold hPad
  funext j
  idx_vars j
  pointwise []
  exact padded_read _ j0 j1

theorem hPack_real (Z : Fin 8 → Fin 4096 → Fin 128 → ℝ) : hPack (up3 Z) = up2 (wide (w := 1024) rfl Z) := by
  unfold hPack
  funext j
  idx_vars j
  pointwise []
  rfl

theorem log_two : Ideal.log (Ideal.ofBits .f32 0x40000000#32) = ((Real.log 2 : ℝ) : EReal) := by
  have e : Ideal.ofBits .f32 0x40000000#32 = ((2 : ℝ) : EReal) := by simp [Ideal.ofBits, Ideal.ieee, -EReal.coe_mul]; norm_num
  rw [e]
  exact if_neg (by norm_num)

theorem log_two_ne : Real.log 2 ≠ 0 := (Real.log_pos (by norm_num)).ne'

/-- A positive real's logarithm is the real one. -/
theorem log_pos_real {x : ℝ} (h : 0 < x) : Ideal.log (x : EReal) = ((Real.log x : ℝ) : EReal) := if_neg (not_le.mpr h)

theorem hLn2_real (i : S_.Idx) : hLn2 i = ((Real.log 2 : ℝ) : EReal) := log_two

theorem hScaled_real : hScaled (up3 Q) = up3 fun h r d => Q h r d * (scale / Real.log 2) := by
  unfold hScaled
  funext j
  idx_vars j
  pointwise [hLn2]
  rw [log_two, lit_scale, div_real _ log_two_ne, up3_ix, ← EReal.coe_mul]
  rfl

variable {Q K M} (hM : Cert.Reference4Ideal.Read.val_main_v7 (F := Ideal) (up3 Q) (up3 K) = up2 M)

include hM

theorem hExp_real : hExp (up3 Q) (up3 K) = up3 (expo Q K M) := by
  unfold hExp column
  funext j
  idx_vars j
  pointwise [hM]
  rw [show masked (up3 Q) (up3 K) (ix3 j0 j1 j2) = _ from v6 Q K j0 j1 j2, up2_ix, up3_ix]
  unfold expo
  by_cases e : j2.val ≤ j1.val
  · rw [if_pos e, if_pos e, ← EReal.coe_sub]; rfl
  · rw [if_neg e, if_neg e]; rfl

theorem hSum_real : hSum (up3 Q) (up3 K) = up2 (total Q K M) := by
  unfold hSum
  funext j
  idx_vars j
  pointwise [hExp_real hM]
  simp only [up3_ix, ← coe_sum, lit_zero, ← EReal.coe_add, zero_add]
  rfl

theorem hOut_real : hOut (up3 Q) (up3 K) (up3 W) = up3 fun h r d => (∑ c, expo Q K M h r c * W h c d) / total Q K M h r := by
  unfold hOut column
  funext j
  idx_vars j
  pointwise [hExp_real hM, hSum_real hM]
  simp only [up3_ix, up2_ix, ← EReal.coe_mul, ← coe_sum, div_real _ (total_pos Q K M _ _).ne']

theorem hDelta_real : hDelta (up3 Q) (up3 K) (up3 W) (up3 G) = up2 (delta Q K W G M) := by
  unfold hDelta
  funext j
  idx_vars j
  pointwise [hOut_real W hM]
  simp only [up3_ix, ← EReal.coe_mul, ← coe_sum, lit_zero, ← EReal.coe_add, zero_add, up2_ix]
  refine congrArg (fun z : ℝ => (z : EReal)) ?_
  unfold delta Cert.Attn.weight gradW
  simp only [Finset.mul_sum, Finset.sum_div]
  rw [Finset.sum_comm]
  refine Finset.sum_congr rfl fun c _ => Finset.sum_congr rfl fun d _ => ?_
  ring

/-- A query's statistic: what the exponent of its row loses, in base two. -/
def statistic (Q K : Fin 8 → Fin 4096 → Fin 192 → ℝ) (M : Fin 8 → Fin 4096 → ℝ) (h : Fin 8) (r : Fin 4096) : ℝ :=
  (M h r + Real.log (total Q K M h r)) / Real.log 2

theorem hLse_real (h : Fin 8) (r : Fin 4096) (z : Fin 1) : hLse (up3 Q) (up3 K) (ix3 h r z) = ((statistic Q K M h r : ℝ) : EReal) := by
  unfold hLse column
  pointwise [hM, hSum_real hM, hLn2]
  rw [log_two, up2_ix, up2_ix, log_pos_real (total_pos Q K M _ _), ← EReal.coe_add, div_real _ log_two_ne]
  rfl

omit hM in
/-- The heads that the call is given. -/
def heads (Q K : Fin 8 → Fin 4096 → Fin 192 → ℝ) (W G : Fin 8 → Fin 4096 → Fin 128 → ℝ) (M : Fin 8 → Fin 4096 → ℝ) : Heads where
  q := padded fun h r d => Q h r d * (scale / Real.log 2)
  k := padded K
  v := W
  o := G
  l h i a := statistic Q K M h ⟨512 * i.val + a.val, by omega⟩
  d h i a := delta Q K W G M h ⟨512 * i.val + a.val, by omega⟩

theorem l_real : @Eq (FVec Ideal S8x8x1x512 .f32) (shapeCast S8x8x1x512 (hLse (up3 Q) (up3 K)) shapeCasts_S8x4096x1_S8x8x1x512)
    (fun i : (⟨4, ![8, 8, 1, 512]⟩ : Shape).Idx => (((heads Q K W G M).l (i 0) (i 1) (i 3) : ℝ) : EReal)) := by
  funext j
  idx_vars j
  pointwise []
  rw [hLse_real hM]
  refine congrArg (fun z : Fin 4096 => ((statistic Q K M j0 z : ℝ) : EReal)) (Fin.ext ?_)
  show j1.val * 512 + j3.val = 512 * j1.val + j3.val
  omega

theorem d_real : @Eq (FVec Ideal S8x16x1x256 .f32) (shapeCast S8x16x1x256 (hDelta (up3 Q) (up3 K) (up3 W) (up3 G)) shapeCasts_S8x4096_S8x16x1x256)
    (fun i : (⟨4, ![8, 16, 1, 256]⟩ : Shape).Idx => (((heads Q K W G M).d (i 0) ⟨(i 1).val / 2, by have := (i 1).isLt; simp at this; omega⟩ ⟨256 * ((i 1).val % 2) + (i 3).val, by have := (i 3).isLt; simp at this; omega⟩ : ℝ) : EReal)) := by
  rw [hDelta_real W G hM]
  funext j
  idx_vars j
  pointwise []
  refine congrArg (fun z : Fin 4096 => ((delta Q K W G M j0 z : ℝ) : EReal)) (Fin.ext ?_)
  show j1.val * 256 + j3.val = 512 * (j1.val / 2) + (256 * (j1.val % 2) + j3.val)
  omega

/-- The call's operands, from arguments that are reals. -/
theorem packs (h0 : m ((c.tc : Thread nD τ).loc main_arg0) = up3 Q) (h1 : m ((c.tc : Thread nD τ).loc main_arg1) = up3 K)
    (h2 : m ((c.tc : Thread nD τ).loc main_arg2) = up3 W) (h3 : m ((c.tc : Thread nD τ).loc main_arg3) = up3 G) :
    Packs m c (heads Q K W G M) where
  q := (V_main_v35 m c).trans (by rw [h0, hScaled_real, hPad_real]; rfl)
  k := (V_main_v39 m c).trans (by rw [h1, hPad_real]; rfl)
  v := (V_main_v42 m c).trans (by rw [h2, hPack_real]; rfl)
  o := (V_main_v45 m c).trans (by rw [h3, hPack_real]; rfl)
  l := (V_main_v23 m c).trans (by rw [h0, h1]; exact l_real W G hM)
  d := (V_main_v26 m c).trans (by rw [h0, h1, h2, h3]; exact d_real W G hM)

end Cert.Kernel4Ideal.Attn

end
-- ==== Proof.Attn.Algebra.lean ====
/-
  What the attention backward kernel sums, head by head, is the gradient: its tiles are blocks of the matrix of weights.
-/
module

public import proofs.«01_k».proof.Proof.Attn.Host

@[expose] public section

set_option maxRecDepth 16384

noncomputable section

open Idealize.ShloMosaic Idealize.ShloMosaic.TcCoe Cert.Lift

namespace Cert.Kernel4Ideal.Attn

open Cert.Attn Cert.Attn.Ref

/-- Row `a` of block `i`. -/
def rowOf (i : Fin 8) (a : Fin 512) : Fin 4096 := ⟨512 * i.val + a.val, by omega⟩

theorem rowOf_div_mod (r : Fin 4096) : rowOf ⟨r.val / 512, by omega⟩ ⟨r.val % 512, by omega⟩ = r := Fin.ext (Nat.div_add_mod _ _)

/-- A sum over the rows, block by block. -/
theorem sum_rows (f : Fin 4096 → ℝ) : ∑ i : Fin 8, ∑ a : Fin 512, f (rowOf i a) = ∑ r, f r := by
  rw [← Fintype.sum_prod_type']
  refine Fintype.sum_equiv (finProdFinEquiv (m := 8) (n := 512)) _ _ fun x => congrArg f (Fin.ext ?_)
  show 512 * x.1.val + x.2.val = x.2.val + 512 * x.1.val
  omega

/-- Columns of zeros add nothing to a product. -/
theorem sum_padded (A B : Fin 8 → Fin 4096 → Fin 192 → ℝ) (h : Fin 8) (r c : Fin 4096) :
    ∑ d, padded A h r d * padded B h c d = ∑ d, A h r d * B h c d := by
  have e : ∀ d : Fin 256, padded A h r d * padded B h c d
      = if e : d.val < 192 then A h r ⟨d.val, e⟩ * B h c ⟨d.val, e⟩ else 0 := fun d => by
    unfold padded
    by_cases e : d.val < 192
    · rw [dif_pos e, dif_pos e, dif_pos e]
    · rw [dif_neg e, dif_neg e, dif_neg e, zero_mul]
  simp only [e]
  rw [show (256 : ℕ) = 192 + 64 from rfl, Fin.sum_univ_add]
  simp

variable (Q K : Fin 8 → Fin 4096 → Fin 192 → ℝ) (W G : Fin 8 → Fin 4096 → Fin 128 → ℝ) (M : Fin 8 → Fin 4096 → ℝ) (h : Fin 8)

theorem score_at (i j : Fin 8) (a b : Fin 512) :
    score ((heads Q K W G M).q h) (blk ((heads Q K W G M).k h) j) i a b = Cert.Attn.score Q K h (rowOf i b) (rowOf j a) / Real.log 2 := by
  show ∑ d, padded K h (rowOf j a) d * padded (fun h r d => Q h r d * (scale / Real.log 2)) h (rowOf i b) d = _
  rw [sum_padded]
  unfold Cert.Attn.score
  rw [Finset.sum_mul, Finset.sum_div]
  exact Finset.sum_congr rfl fun d _ => by ring

/-- A power of two as a weight. -/
theorem power (r c : Fin 4096) (e : c.val ≤ r.val) :
    (2 : ℝ) ^ (Cert.Attn.score Q K h r c / Real.log 2 - statistic Q K M h r) = Cert.Attn.weight Q K M h r c := by
  have hp := total_pos Q K M h r
  unfold Cert.Attn.weight expo statistic
  rw [if_pos e, Real.rpow_def_of_pos (by norm_num), ← sub_div, mul_div_cancel₀ _ log_two_ne, ← sub_sub, Real.exp_sub _ (Real.log _), Real.exp_log hp]

theorem weight_at (i j : Fin 8) (a b : Fin 512) (e : j.val ≤ i.val) :
    weight ((heads Q K W G M).q h) ((heads Q K W G M).l h) (blk ((heads Q K W G M).k h) j) j i a b = Cert.Attn.weight Q K M h (rowOf i b) (rowOf j a) := by
  have hs := score_at Q K W G M h i j a b
  unfold weight
  by_cases hij : i = j
  · subst hij
    rw [if_pos rfl]
    unfold probDiag
    rw [hs]
    by_cases hab : a.val ≤ b.val
    · rw [if_pos hab]
      exact power Q K M h _ _ (show 512 * i.val + a.val ≤ 512 * i.val + b.val by omega)
    · rw [if_neg hab]
      unfold Cert.Attn.weight expo
      rw [if_neg (show ¬ (rowOf i a).val ≤ (rowOf i b).val from fun t => hab (by change 512 * i.val + a.val ≤ 512 * i.val + b.val at t; omega)), zero_div]
  · rw [if_neg hij]
    have : j.val ≠ i.val := fun e => hij (Fin.ext e.symm)
    show (2 : ℝ) ^ (score ((heads Q K W G M).q h) (blk ((heads Q K W G M).k h) j) i a b - statistic Q K M h (rowOf i b)) = _
    rw [hs]
    exact power Q K M h _ _ (show 512 * j.val + a.val ≤ 512 * i.val + b.val by omega)

theorem wgrad_at (i j : Fin 8) (a b : Fin 512) (e : j.val ≤ i.val) :
    wgrad ((heads Q K W G M).q h) ((heads Q K W G M).o h) ((heads Q K W G M).l h) ((heads Q K W G M).d h) (blk ((heads Q K W G M).k h) j) (blk ((heads Q K W G M).v h) j) j i a b
      = gradS Q K W G M h (rowOf i b) (rowOf j a) := by
  unfold wgrad grad
  rw [weight_at Q K W G M h i j a b e]
  show _ * ((∑ d, W h (rowOf j a) d * G h (rowOf i b) d) - delta Q K W G M h (rowOf i b)) = _
  unfold gradS gradW
  simp only [mul_comm]

/-- Past the diagonal the weights are zero. -/
theorem weight_past (r c : Fin 4096) (e : r.val < c.val) : Cert.Attn.weight Q K M h r c = 0 := by
  unfold Cert.Attn.weight expo
  rw [if_neg (by omega), zero_div]

theorem gradS_past (r c : Fin 4096) (e : r.val < c.val) : gradS Q K W G M h r c = 0 := by
  unfold gradS
  rw [weight_past Q K M h r c e, zero_mul]

/-- The padded matrix times a number. -/
theorem padded_mul (Z : Fin 8 → Fin 4096 → Fin 192 → ℝ) (s : ℝ) (r : Fin 4096) (d : Fin 256) :
    padded (fun h r d => Z h r d * s) h r d = padded Z h r d * s := by
  unfold padded
  by_cases e : d.val < 192
  · rw [dif_pos e, dif_pos e]
  · rw [dif_neg e, dif_neg e, zero_mul]

theorem padded_sum (T : Fin 4096 → Fin 4096 → ℝ) (Z : Fin 8 → Fin 4096 → Fin 192 → ℝ) (r : Fin 4096) (d : Fin 256) :
    ∑ c, T r c * padded Z h c d = padded (fun h r d => ∑ c, T r c * Z h c d) h r d := by
  unfold padded
  by_cases e : d.val < 192
  · simp only [dif_pos e]
  · simp only [dif_neg e, mul_zero, Finset.sum_const_zero]

theorem headV_eq (c : Fin 4096) (d : Fin 128) : ofBlocks (headV (heads Q K W G M) h) c d = gradV Q K G M h c d := by
  obtain ⟨j, a, rfl⟩ : ∃ j a, c = rowOf j a := ⟨_, _, (rowOf_div_mod c).symm⟩
  rw [show ofBlocks (headV (heads Q K W G M) h) (rowOf j a) = headV (heads Q K W G M) h j a from ofBlocks_at _ j a _]
  unfold headV upV gradV
  rw [← sum_rows]
  refine Finset.sum_congr rfl fun i _ => ?_
  by_cases e : j.val ≤ i.val
  · rw [if_pos ⟨e, by omega⟩]
    exact Finset.sum_congr rfl fun b _ => congrArg (· * _) (weight_at Q K W G M h i j a b e)
  · rw [if_neg (fun t => e t.1)]
    refine (Finset.sum_eq_zero fun b _ => ?_).symm
    rw [weight_past Q K M h _ _ (show 512 * i.val + b.val < 512 * j.val + a.val by omega), zero_mul]

theorem headK_eq (c : Fin 4096) (d : Fin 256) :
    ofBlocks (fun j a d => headK (heads Q K W G M) h j a d * Real.log 2) c d = padded (gradK Q K W G M) h c d := by
  obtain ⟨j, a, rfl⟩ : ∃ j a, c = rowOf j a := ⟨_, _, (rowOf_div_mod c).symm⟩
  rw [show ofBlocks (fun j a d => headK (heads Q K W G M) h j a d * Real.log 2) (rowOf j a) = fun d => headK (heads Q K W G M) h j a d * Real.log 2 from
    ofBlocks_at (fun j a d => headK (heads Q K W G M) h j a d * Real.log 2) j a _]
  have e1 : headK (heads Q K W G M) h j a d = ∑ r, gradS Q K W G M h r (rowOf j a) * padded (fun h r d => Q h r d * (scale / Real.log 2)) h r d := by
    unfold headK upK
    rw [← sum_rows]
    refine Finset.sum_congr rfl fun i _ => ?_
    by_cases e : j.val ≤ i.val
    · rw [if_pos ⟨e, by omega⟩]
      exact Finset.sum_congr rfl fun b _ => congrArg (· * _) (wgrad_at Q K W G M h i j a b e)
    · rw [if_neg (fun t => e t.1)]
      refine (Finset.sum_eq_zero fun b _ => ?_).symm
      rw [gradS_past Q K W G M h _ _ (show 512 * i.val + b.val < 512 * j.val + a.val by omega), zero_mul]
  show headK (heads Q K W G M) h j a d * Real.log 2 = _
  rw [e1, Finset.sum_mul]
  have := log_two_ne
  unfold gradK padded
  by_cases e : d.val < 192
  · simp only [dif_pos e]
    refine Finset.sum_congr rfl fun r _ => ?_
    field_simp
  · simp only [dif_neg e, mul_zero, zero_mul, Finset.sum_const_zero]

theorem headQ_upto (n : ℕ) (hn : n ≤ 8) (r : Fin 4096) (d : Fin 256) :
    headQ (heads Q K W G M) h n r d = ∑ j : Fin 8, if j.val < n then ∑ a, gradS Q K W G M h r (rowOf j a) * padded K h (rowOf j a) d else 0 := by
  induction n with
  | zero => simp [headQ]
  | succ n ih =>
    have hj : (Fin.ofNat 8 n).val = n := Nat.mod_eq_of_lt (by omega)
    have es : ∀ T : Fin 8 → ℝ, (∑ j : Fin 8, if j.val < n + 1 then T j else 0) = (∑ j : Fin 8, if j.val < n then T j else 0) + T (Fin.ofNat 8 n) := fun T => by
      have e : T (Fin.ofNat 8 n) = ∑ j : Fin 8, if j = Fin.ofNat 8 n then T j else 0 := by simp
      rw [e, ← Finset.sum_add_distrib]
      refine Finset.sum_congr rfl fun x _ => ?_
      by_cases hx : x = Fin.ofNat 8 n
      · rw [if_pos hx, if_pos (by rw [hx, hj]; omega), if_neg (by rw [hx, hj]; omega), zero_add]
      · have : x.val ≠ n := fun t => hx (Fin.ext (t.trans hj.symm))
        rw [if_neg hx, add_zero]
        exact if_congr (by omega) rfl rfl
    rw [es, ← ih (by omega)]
    refine congrArg (headQ (heads Q K W G M) h n r d + ·) ?_
    generalize Fin.ofNat 8 n = j at hj
    by_cases e : j.val ≤ r.val / 512
    · rw [if_pos ⟨e, by omega⟩]
      refine Finset.sum_congr rfl fun a _ => congrArg (· * _) ?_
      rw [wgrad_at Q K W G M h _ j a _ e, rowOf_div_mod]
    · rw [if_neg (fun t => e t.1)]
      refine (Finset.sum_eq_zero fun a _ => ?_).symm
      rw [gradS_past Q K W G M h _ _ (show r.val < 512 * j.val + a.val by omega), zero_mul]

theorem headQ_eq (r : Fin 4096) (d : Fin 256) : headQ (heads Q K W G M) h 8 r d = padded (gradQ Q K W G M) h r d := by
  rw [headQ_upto Q K W G M h 8 le_rfl]
  have e : ∀ j : Fin 8, (if j.val < 8 then ∑ a, gradS Q K W G M h r (rowOf j a) * padded K h (rowOf j a) d else 0)
      = ∑ a, gradS Q K W G M h r (rowOf j a) * padded K h (rowOf j a) d := fun j => if_pos j.isLt
  simp only [e]
  rw [sum_rows fun c => gradS Q K W G M h r c * padded K h c d]
  unfold gradQ padded
  by_cases e : d.val < 192
  · simp only [dif_pos e]
  · simp only [dif_neg e, mul_zero, Finset.sum_const_zero]

theorem resQ_eq : resQ (heads Q K W G M) = wide rfl (padded (gradQ Q K W G M)) :=
  congrArg (wide rfl) (funext fun h => funext fun r => funext fun d => headQ_eq Q K W G M h r d)

theorem resK_eq : resK (heads Q K W G M) = wide rfl (padded (gradK Q K W G M)) :=
  congrArg (wide rfl) (funext fun h => funext fun r => funext fun d => headK_eq Q K W G M h r d)

theorem resV_eq : resV (heads Q K W G M) = wide rfl (gradV Q K G M) :=
  congrArg (wide rfl) (funext fun h => funext fun r => funext fun d => headV_eq Q K W G M h r d)

end Cert.Kernel4Ideal.Attn

end
-- ==== Proof.Attn.Claim.lean ====
/-
  The attention backward kernel computes the gradients of the plain attention: the claim over the reals.
-/
module

public import proofs.«01_k».proof.Defs
public import proofs.«01_k».proof.Proof.Common.Finite
public import proofs.«01_k».proof.Proof.Attn.Algebra
public import proofs.«01_k».proof.Proof.Gen.Pre_finite4
public import proofs.«01_k».proof.Proof.Gen.Reference4Ideal.Run

@[expose] public section

set_option maxRecDepth 16384

noncomputable section

open Idealize.ShloMosaic Idealize.ShloMosaic.TcCoe Idealize.SL.Sem Cert.Lift

namespace Cert.Kernel4Ideal.Attn

open Cert.Kernel4Ideal Cert.Kernel4Ideal.Gen Cert.Attn

/-- The arguments of one device are arrays of reals, and `M` is the rows' maxima. -/
structure Args (m : (ℓ : Loc nD τ sig) → Buf (Elt Ideal) ℓ) (c : Dev nD) (Q K : Fin 8 → Fin 4096 → Fin 192 → ℝ) (W G : Fin 8 → Fin 4096 → Fin 128 → ℝ)
    (M : Fin 8 → Fin 4096 → ℝ) : Prop where
  h0 : m ((c.tc : Thread nD τ).loc main_arg0) = up3 Q
  h1 : m ((c.tc : Thread nD τ).loc main_arg1) = up3 K
  h2 : m ((c.tc : Thread nD τ).loc main_arg2) = up3 W
  h3 : m ((c.tc : Thread nD τ).loc main_arg3) = up3 G
  hM : Cert.Reference4Ideal.Read.val_main_v7 (F := Ideal) (up3 Q) (up3 K) = up2 M

/-- Under the precondition there are such reals. -/
theorem exists_args (m : (ℓ : Loc nD τ sig) → Buf (Elt Ideal) ℓ) (h : Cert.Pre_Kernel4Ideal_finite4 m) (c : Dev nD) : ∃ Q K W G M, Args m c Q K W G M := by
  obtain ⟨e0, e1, e2, e3⟩ := h c
  obtain ⟨Q, hQ⟩ := exists_up3 (below_of_mask e0)
  obtain ⟨K, hK⟩ := exists_up3 (below_of_mask e1)
  obtain ⟨W, hW⟩ := exists_up3 (below_of_mask e2)
  obtain ⟨G, hG⟩ := exists_up3 (below_of_mask e3)
  obtain ⟨M, hM⟩ := Ref.exists_max Q K
  exact ⟨Q, K, W, G, M, hQ, hK, hW, hG, hM⟩

/-- The kernel's three results are the reference's three. -/
theorem algebraic : Cert.algebraic_Kernel4Ideal_Reference4Ideal_pre_finite4 := by
  intro m g m' g' hp hm
  choose Q K W G M a using exists_args m hp
  have hk := run_value (fun c => heads (Q c) (K c) (W c) (G c) (M c)) (fun c => packs m c (W c) (G c) (a c).hM (a c).h0 (a c).h1 (a c).h2 (a c).h3) g
  have hr := Cert.Reference4Ideal.Value.run (F := Ideal) m' g'
  refine ⟨fun c => up2 (resQ (heads (Q c) (K c) (W c) (G c) (M c))), fun c => up2 (resK (heads (Q c) (K c) (W c) (G c) (M c))),
    fun c => up2 (resV (heads (Q c) (K c) (W c) (G c) (M c))), (θ_run _ _ _).mono (fun r h => h.1) hk, (θ_run _ _ _).mono (fun r h c => ?_) hr⟩
  obtain ⟨q0, q1, q2, k⟩ := h c
  obtain ⟨i0, i1, i2, i3⟩ := hm c
  have l0 : m' ((c.tc : Thread Cert.Reference4Ideal.nD Cert.Reference4Ideal.τ).loc Cert.Reference4Ideal.main_arg0) = up3 (Q c) := i0.trans (a c).h0
  have l1 : m' ((c.tc : Thread Cert.Reference4Ideal.nD Cert.Reference4Ideal.τ).loc Cert.Reference4Ideal.main_arg1) = up3 (K c) := i1.trans (a c).h1
  have l2 : m' ((c.tc : Thread Cert.Reference4Ideal.nD Cert.Reference4Ideal.τ).loc Cert.Reference4Ideal.main_arg2) = up3 (W c) := i2.trans (a c).h2
  have l3 : m' ((c.tc : Thread Cert.Reference4Ideal.nD Cert.Reference4Ideal.τ).loc Cert.Reference4Ideal.main_arg3) = up3 (G c) := i3.trans (a c).h3
  refine ⟨(q0.trans (Cert.Reference4Ideal.Read.val_main_v61_eq m' c)).trans ?_, (q1.trans (Cert.Reference4Ideal.Read.val_main_v65_eq m' c)).trans ?_,
    (q2.trans (Cert.Reference4Ideal.Read.val_main_v68_eq _ _ _)).trans ?_, k⟩
  all_goals rw [l0, l1, l3]
  · rw [l2]
    exact (Ref.v61 (W c) (G c) (a c).hM).trans (congrArg up2 (resQ_eq (Q c) (K c) (W c) (G c) (M c)).symm)
  · rw [l2]
    exact (Ref.v65 (W c) (G c) (a c).hM).trans (congrArg up2 (resK_eq (Q c) (K c) (W c) (G c) (M c)).symm)
  · exact (Ref.v68 (G c) (a c).hM).trans (congrArg up2 (resV_eq (Q c) (K c) (W c) (G c) (M c)).symm)

end Cert.Kernel4Ideal.Attn

end
-- ==== Proof.Common.Rms.lean ====
/-
  The root mean square norm over rows of any length and its gradient: the real formulas, and the two programs' operations for
  them read as those formulas. The calls that end in this norm's gradient share these lemmas.
-/
module

public import proofs.«01_k».proof.Proof.Common.Norm

@[expose] public section

set_option maxRecDepth 16384

noncomputable section

open Idealize.ShloMosaic

namespace Cert.Lift

variable {P : ℕ}

theorem ix2_of {n p : ℕ} (j : (⟨2, ![n, p]⟩ : Shape).Idx) : ∃ a b, j = ix2 a b := ⟨_, _, eq_ix2 j⟩

/-- A column's entry comes from the vector's of the same number. -/
theorem col_of_vec {n : ℕ} (h : (⟨2, ![n, 1]⟩ : Shape).numel = (⟨1, ![n]⟩ : Shape).numel) (a : Fin n) (b : Fin 1) :
    Shape.reshapeEquiv h (ix2 a b) 0 = a := by
  rw [Shape.reshapeEquiv_eq_of_rowMajor h (y := ix1 a) (by
    rw [Shape.rowMajor_val_one, Shape.rowMajor_val_two]
    show a.val = a.val * 1 + b.val
    omega)]
  rfl

/-- So does a row's. -/
theorem row_of_vec {n : ℕ} (h : (⟨2, ![1, n]⟩ : Shape).numel = (⟨1, ![n]⟩ : Shape).numel) (a : Fin 1) (b : Fin n) :
    Shape.reshapeEquiv h (ix2 a b) 0 = b := by
  rw [Shape.reshapeEquiv_eq_of_rowMajor h (y := ix1 b) (by
    rw [Shape.rowMajor_val_one, Shape.rowMajor_val_two]
    show b.val = a.val * n + b.val
    rw [Subsingleton.elim a 0]
    simp)]
  rfl

/-- And back. -/
theorem vec_of_row {n : ℕ} (h : (⟨1, ![n]⟩ : Shape).numel = (⟨2, ![1, n]⟩ : Shape).numel) (b : Fin n) :
    Shape.reshapeEquiv h (ix1 b) = ix2 0 b :=
  Shape.reshapeEquiv_eq_of_rowMajor h (by
    rw [Shape.rowMajor_val_one, Shape.rowMajor_val_two]
    show 0 * n + b.val = b.val
    omega)

/-- A column along every row. -/
theorem along_rows {n q : ℕ} {α : Type} (h : Shape.Broadcasts ⟨2, ![n, 1]⟩ ⟨2, ![n, q]⟩) (x : (⟨2, ![n, 1]⟩ : Shape).Idx → α) :
    broadcastTo ⟨2, ![n, q]⟩ x h = fun j => x (ix2 (j 0) 0) :=
  funext fun j => broadcastTo_apply x h j _ fun a => by
    have h0 : (j 0).val < n := (j 0).isLt
    match a with
    | ⟨0, _⟩ =>
      show (j 0).val = if n = 1 then 0 else (j 0).val
      split_ifs <;> omega
    | ⟨1, _⟩ => rfl

/-- A row along every column. -/
theorem along_cols {n q : ℕ} {α : Type} (h : Shape.Broadcasts ⟨2, ![1, q]⟩ ⟨2, ![n, q]⟩) (x : (⟨2, ![1, q]⟩ : Shape).Idx → α) :
    broadcastTo ⟨2, ![n, q]⟩ x h = fun j => x (ix2 0 (j 1)) :=
  funext fun j => broadcastTo_apply x h j _ fun a => by
    have h1 : (j 1).val < q := (j 1).isLt
    match a with
    | ⟨0, _⟩ => rfl
    | ⟨1, _⟩ =>
      show (j 1).val = if q = 1 then 0 else (j 1).val
      split_ifs <;> omega

/-- The host's row along every column. -/
theorem along_cols_host {n q : ℕ} {α : Type} (h : Shape.BroadcastsInDim ⟨2, ![1, q]⟩ ⟨2, ![n, q]⟩ ![0, 1]) (x : (⟨2, ![1, q]⟩ : Shape).Idx → α) :
    broadcastInDim ⟨2, ![n, q]⟩ ![0, 1] h x = fun j => x (ix2 0 (j 1)) :=
  funext fun j => broadcastInDim_apply ![0, 1] h x j _ fun a => by
    have h1 : (j 1).val < q := (j 1).isLt
    match a with
    | ⟨0, _⟩ => rfl
    | ⟨1, _⟩ =>
      show (j 1).val = if q = 1 then 0 else (j 1).val
      split_ifs <;> omega

/-- A vector as a row. -/
theorem as_row {q : ℕ} {α : Type} (h : Shape.BroadcastsInDim ⟨1, ![q]⟩ ⟨2, ![1, q]⟩ ![1]) (x : (⟨1, ![q]⟩ : Shape).Idx → α) :
    broadcastInDim ⟨2, ![1, q]⟩ ![1] h x = fun j => x (ix1 (j 1)) :=
  funext fun j => broadcastInDim_apply ![1] h x j _ fun a => by
    have h1 : (j 1).val < q := (j 1).isLt
    match a with
    | ⟨0, _⟩ =>
      show (j 1).val = if q = 1 then 0 else (j 1).val
      split_ifs <;> omega

/-- The mean of a row. -/
def avg (x : Fin P → ℝ) : ℝ := (∑ k, x k) / P

theorem avg_sq_pos (x : Fin P → ℝ) : 0 < avg (fun k => x k * x k) + eps :=
  add_pos_of_nonneg_of_pos (div_nonneg (Finset.sum_nonneg fun k _ => mul_self_nonneg (x k)) (Nat.cast_nonneg P)) eps_pos

/-- The reciprocal of a row's root mean square. -/
def rrms (x : Fin P → ℝ) : ℝ := (Real.sqrt (avg (fun k => x k * x k) + eps))⁻¹

/-- The row over its root mean square. -/
def rnrm (x : Fin P → ℝ) (c : Fin P) : ℝ := x c * rrms x

/-- The gradient of the norm's input at the cotangent `d`, of the scale `g`. -/
def rmsGrad (g x d : Fin P → ℝ) (c : Fin P) : ℝ :=
  rrms x * (d c * g c - rnrm x c * avg (fun k => d k * g k * rnrm x k))

theorem rrms_sq (x : Fin P → ℝ) : rrms x * rrms x * (avg (fun k => x k * x k) + eps) = 1 := by
  have h := avg_sq_pos x
  unfold rrms
  rw [← mul_inv, Real.mul_self_sqrt h.le, inv_mul_cancel₀ h.ne']

/-- The row's cotangent that reaches the mean of the squares. -/
def rmsMean (g x d : Fin P → ℝ) : ℝ :=
  (∑ k, x k * (d k * g k)) * (-(1 / 2) * (rrms x / (avg (fun k => x k * x k) + eps))) / P

/-- What differentiating the mean and the reciprocal root one by one gives is the norm's gradient. -/
theorem rmsGrad_of_steps (g x d : Fin P → ℝ) (c : Fin P) :
    d c * g c * rrms x + x c * rmsMean g x d + rmsMean g x d * x c = rmsGrad g x d c := by
  have hs := avg_sq_pos x
  have hr := rrms_sq x
  have e : rrms x / (avg (fun k => x k * x k) + eps) = rrms x * rrms x * rrms x := by
    rw [div_eq_iff hs.ne']
    linear_combination -rrms x * hr
  have e2 : avg (fun k => d k * g k * rnrm x k) = (∑ k, x k * (d k * g k)) * rrms x / P := by
    unfold avg rnrm
    rw [Finset.sum_mul]
    exact congrArg (· / (P : ℝ)) (Finset.sum_congr rfl fun k _ => by ring)
  rw [rmsGrad, e2, rmsMean, e]
  unfold rnrm
  ring

/-- Division by the row length. -/
theorem over_len [NeZero P] (x : ℝ) : Ideal.div (x : EReal) ((P : ℝ) : EReal) = ((x / P : ℝ) : EReal) :=
  div_real x (Nat.cast_ne_zero.mpr (NeZero.ne P))

theorem over_1024 (x : ℝ) : Ideal.div (x : EReal) ((1024 : ℝ) : EReal) = ((x / 1024 : ℝ) : EReal) :=
  div_real x (by norm_num)

theorem len_1024 : Ideal.ofBits .f32 0x44800000#32 = (((1024 : ℕ) : ℝ) : EReal) := by
  rw [lit_1024, Nat.cast_ofNat]

/-! ## A kernel's operations on a block of rows -/

section kernel

/-- The shapes of a kernel's block of rows, of one row, and of the columns and vectors of their sums. -/
abbrev Tile (B P : ℕ) : Shape := ⟨2, ![B, P]⟩
@[inherit_doc Tile]
abbrev TileCol (B : ℕ) : Shape := ⟨2, ![B, 1]⟩
@[inherit_doc Tile]
abbrev TileVec (B : ℕ) : Shape := ⟨1, ![B]⟩
@[inherit_doc Tile]
abbrev OneRow (P : ℕ) : Shape := ⟨2, ![1, P]⟩
@[inherit_doc Tile]
abbrev RowVec (P : ℕ) : Shape := ⟨1, ![P]⟩

variable {B : ℕ} (lw : BitVec 32)
variable (hr : Shape.Reduces (Tile B P) [1] (TileVec B)) (hc : Shape.ShapeCasts (TileVec B) (TileCol B)) (hb : Shape.Broadcasts (TileCol B) (Tile B P))

/-- The column of reciprocal root mean squares. -/
def kRrms (x : FVec Ideal (Tile B P) .f32) : FVec Ideal (TileCol B) .f32 :=
  rsqrt (addf (divf (shapeCast (TileCol B) (multiReduction .add [1] (TileVec B) (mulf x x) 0x00000000#32 hr (.inl rfl) rfl) hc)
    (broadcast (TileCol B) (Scalar.ofBits .f32 lw))) (broadcast (TileCol B) (Scalar.ofBits .f32 0x358637BD#32)))

theorem kRrms_real [NeZero P] {w : BitVec 32} (hl : Ideal.ofBits .f32 w = ((P : ℝ) : EReal)) (X : Fin B → Fin P → ℝ) : kRrms w hr hc (up2 X) = up2 fun r _ => rrms (X r) := by
  funext j
  obtain ⟨j0, j1, rfl⟩ := ix2_of j
  pointwise [kRrms]
  simp only [up2_ix, col_of_vec, row_of_vec, zero_add, ← EReal.coe_mul, ← coe_sum, hl, over_len, lit_eps, ← EReal.coe_add]
  exact rsqrt_real (avg_sq_pos (X j0))

/-- The normalised block. -/
def kNrm (x : FVec Ideal (Tile B P) .f32) : FVec Ideal (Tile B P) .f32 := mulf x (broadcastTo (Tile B P) (kRrms lw hr hc x) hb)

theorem kNrm_real [NeZero P] {w : BitVec 32} (hl : Ideal.ofBits .f32 w = ((P : ℝ) : EReal)) (X : Fin B → Fin P → ℝ) : kNrm w hr hc hb (up2 X) = up2 fun r => rnrm (X r) := by
  funext j
  obtain ⟨j0, j1, rfl⟩ := ix2_of j
  unfold kNrm
  rw [kRrms_real (hl := hl), along_rows]
  pointwise
  simp only [up2_ix, ← EReal.coe_mul]
  rfl

/-- The scaled cotangent less its part along the normalised row. -/
def kTan (hg : Shape.Broadcasts (OneRow P) (Tile B P)) (d x : FVec Ideal (Tile B P) .f32) (g : FVec Ideal (OneRow P) .f32) : FVec Ideal (Tile B P) .f32 :=
  subf (mulf d (broadcastTo (Tile B P) g hg)) (mulf (kNrm lw hr hc hb x) (broadcastTo (Tile B P) (divf (shapeCast (TileCol B)
    (multiReduction .add [1] (TileVec B) (mulf (mulf d (broadcastTo (Tile B P) g hg)) (kNrm lw hr hc hb x)) 0x00000000#32 hr (.inl rfl) rfl) hc)
    (broadcast (TileCol B) (Scalar.ofBits .f32 lw))) hb))

theorem kTan_real [NeZero P] {w : BitVec 32} (hl : Ideal.ofBits .f32 w = ((P : ℝ) : EReal)) (hg : Shape.Broadcasts (OneRow P) (Tile B P)) (D X : Fin B → Fin P → ℝ) (G : Fin 1 → Fin P → ℝ) :
    kTan w hr hc hb hg (up2 D) (up2 X) (up2 G)
      = up2 fun r c => D r c * G 0 c - rnrm (X r) c * avg (fun k => D r k * G 0 k * rnrm (X r) k) := by
  funext j
  obtain ⟨j0, j1, rfl⟩ := ix2_of j
  unfold kTan
  rw [kNrm_real (hl := hl), along_rows, along_cols]
  pointwise
  simp only [up2_ix, col_of_vec, row_of_vec, zero_add, ← EReal.coe_mul, ← coe_sum, hl, over_len, ← EReal.coe_sub]
  rfl

/-- The norm's gradient. -/
def kGrad (hg : Shape.Broadcasts (OneRow P) (Tile B P)) (d x : FVec Ideal (Tile B P) .f32) (g : FVec Ideal (OneRow P) .f32) : FVec Ideal (Tile B P) .f32 :=
  mulf (broadcastTo (Tile B P) (kRrms lw hr hc x) hb) (kTan lw hr hc hb hg d x g)

theorem kGrad_real [NeZero P] {w : BitVec 32} (hl : Ideal.ofBits .f32 w = ((P : ℝ) : EReal)) (hg : Shape.Broadcasts (OneRow P) (Tile B P)) (D X : Fin B → Fin P → ℝ) (G : Fin 1 → Fin P → ℝ) :
    kGrad w hr hc hb hg (up2 D) (up2 X) (up2 G) = up2 fun r => rmsGrad (G 0) (X r) (D r) := by
  funext j
  obtain ⟨j0, j1, rfl⟩ := ix2_of j
  unfold kGrad
  rw [kTan_real (hl := hl), kRrms_real (hl := hl), along_rows]
  pointwise
  simp only [up2_ix, ← EReal.coe_mul]
  rfl

/-- The scale's gradient: what was there plus the block's sum of cotangent times normalised row. -/
def kScale (hs : Shape.Reduces (Tile B P) [0] (RowVec P)) (hv : Shape.ShapeCasts (RowVec P) (OneRow P)) (hw : Shape.ShapeCasts (OneRow P) (OneRow P))
    (d n : FVec Ideal (Tile B P) .f32) (o : FVec Ideal (OneRow P) .f32) : FVec Ideal (OneRow P) .f32 :=
  addf (shapeCast (OneRow P) o hw) (shapeCast (OneRow P) (multiReduction .add [0] (RowVec P) (mulf d n) 0x00000000#32 hs (.inl rfl) rfl) hv)

theorem kScale_real (hs : Shape.Reduces (Tile B P) [0] (RowVec P)) (hv : Shape.ShapeCasts (RowVec P) (OneRow P)) (hw : Shape.ShapeCasts (OneRow P) (OneRow P))
    (D N : Fin B → Fin P → ℝ) (O : Fin 1 → Fin P → ℝ) :
    kScale hs hv hw (up2 D) (up2 N) (up2 O) = up2 fun r c => O r c + ∑ k, D k c * N k c := by
  funext j
  obtain ⟨j0, j1, rfl⟩ := ix2_of j
  pointwise [kScale]
  simp only [up2_ix, col_of_vec, row_of_vec, zero_add, ← EReal.coe_mul, ← coe_sum, ← EReal.coe_add]

end kernel

/-! ## The derivative's operations on the whole array -/

section host

/-- The shapes of the whole array, of its columns and vectors of sums, and of a single number. -/
abbrev Full (P : ℕ) : Shape := ⟨2, ![4096, P]⟩
@[inherit_doc Full]
abbrev FullCol : Shape := ⟨2, ![4096, 1]⟩
@[inherit_doc Full]
abbrev FullVec : Shape := ⟨1, ![4096]⟩
@[inherit_doc Full]
abbrev Scal : Shape := ⟨0, ![]⟩

variable (lw : BitVec 32)
variable (hp : 0 < Shape.numel Scal) (hr : Shape.ReducesTo (Full P) [1] FullVec) (hc : Shape.BroadcastsInDim FullVec FullCol ![0])
  (h0 : Shape.BroadcastsInDim Scal FullCol ![]) (hb : Shape.BroadcastsInDim FullCol (Full P) ![0, 1])

/-- The column of mean squares, with the small number added. -/
def hMs (x : FVec Ideal (Full P) .f32) : FVec Ideal FullCol .f32 :=
  addf (Host.divf (broadcastInDim FullCol ![0] hc (Host.reduceAdd (mulf x x) (constant Scal .f32 0x00000000#32) hr hp))
    (broadcastInDim FullCol ![] h0 (constant Scal .f32 lw))) (broadcastInDim FullCol ![] h0 (constant Scal .f32 0x358637BD#32))

theorem hMs_real [NeZero P] {w : BitVec 32} (hl : Ideal.ofBits .f32 w = ((P : ℝ) : EReal)) (X : Fin 4096 → Fin P → ℝ) :
    hMs w hp hr hc h0 (up2 X) = up2 fun r _ => avg (fun k => X r k * X r k) + eps := by
  funext j
  obtain ⟨j0, j1, rfl⟩ := ix2_of j
  pointwise [hMs]
  simp only [up2_ix, col_of_vec, row_of_vec, zero_add, ← EReal.coe_mul, ← coe_sum, hl, over_len, lit_eps, ← EReal.coe_add]
  rfl

theorem hRrms_real [NeZero P] {w : BitVec 32} (hl : Ideal.ofBits .f32 w = ((P : ℝ) : EReal)) (X : Fin 4096 → Fin P → ℝ) :
    Host.rsqrt (hMs w hp hr hc h0 (up2 X)) = up2 fun r _ => rrms (X r) := by
  funext j
  obtain ⟨j0, j1, rfl⟩ := ix2_of j
  rw [hMs_real (hl := hl)]
  pointwise
  simp only [up2_ix, vec_of_row]
  exact rsqrt_real (avg_sq_pos (X j0))

/-- The normalised rows. -/
def hNrm (x : FVec Ideal (Full P) .f32) : FVec Ideal (Full P) .f32 :=
  mulf x (broadcastInDim (Full P) ![0, 1] hb (Host.rsqrt (hMs lw hp hr hc h0 x)))

theorem hNrm_real [NeZero P] {w : BitVec 32} (hl : Ideal.ofBits .f32 w = ((P : ℝ) : EReal)) (X : Fin 4096 → Fin P → ℝ) : hNrm w hp hr hc h0 hb (up2 X) = up2 fun r => rnrm (X r) := by
  funext j
  obtain ⟨j0, j1, rfl⟩ := ix2_of j
  unfold hNrm
  rw [hRrms_real (hl := hl)]
  pointwise
  simp only [up2_ix, ← EReal.coe_mul]
  rfl

variable (hv : Shape.ShapeCasts (OneRow P) (RowVec P)) (hw : Shape.BroadcastsInDim (RowVec P) (OneRow P) ![1]) (hg : Shape.BroadcastsInDim (OneRow P) (Full P) ![0, 1])

/-- The scale along every row. -/
def hSpread (g : FVec Ideal (OneRow P) .f32) : FVec Ideal (Full P) .f32 :=
  broadcastInDim (Full P) ![0, 1] hg (broadcastInDim (OneRow P) ![1] hw (shapeCast (RowVec P) g hv))

theorem hSpread_real (G : Fin 1 → Fin P → ℝ) : hSpread hv hw hg (up2 G) = up2 fun _ c => G 0 c := by
  funext j
  obtain ⟨j0, j1, rfl⟩ := ix2_of j
  unfold hSpread
  rw [along_cols_host, as_row]
  pointwise
  simp only [up2_ix, vec_of_row]

variable (hk : Shape.ShapeCasts FullVec FullCol) (he : Shape.ReducesTo FullCol [1] FullVec) (hf : Shape.BroadcastsInDim FullVec (Full P) ![0])

/-- The cotangent that reaches the mean of the squares, along every row. -/
def hMean (x e : FVec Ideal (Full P) .f32) : FVec Ideal (Full P) .f32 :=
  broadcastInDim (Full P) ![0] hf (Host.reduceAdd (Host.divf (mulf
    (shapeCast FullCol (Host.reduceAdd (mulf x e) (constant Scal .f32 0x00000000#32) hr hp) hk)
    (mulf (broadcastInDim FullCol ![] h0 (constant Scal .f32 0xBF000000#32))
      (Host.divf (Host.rsqrt (hMs lw hp hr hc h0 x)) (hMs lw hp hr hc h0 x))))
    (broadcastInDim FullCol ![] h0 (constant Scal .f32 lw))) (constant Scal .f32 0x00000000#32) he hp)

theorem hMean_real [NeZero P] {w : BitVec 32} (hl : Ideal.ofBits .f32 w = ((P : ℝ) : EReal)) (X E : Fin 4096 → Fin P → ℝ) : hMean w hp hr hc h0 hk he hf (up2 X) (up2 E)
    = up2 fun r _ => (∑ k, X r k * E r k) * (-(1 / 2) * (rrms (X r) / (avg (fun k => X r k * X r k) + eps))) / P := by
  funext j
  obtain ⟨j0, j1, rfl⟩ := ix2_of j
  unfold hMean
  rw [hRrms_real (hl := hl), hMs_real (hl := hl)]
  pointwise
  simp only [up2_ix, col_of_vec, row_of_vec, zero_add, Fin.sum_univ_one, lit_neg_half, div_real _ (avg_sq_pos _).ne', ← EReal.coe_mul, ← coe_sum,
    hl, over_len]

/-- The derivative's sum for the norm's input, from a value `p` already there and the scaled cotangent `e`. -/
theorem hGrad_real [NeZero P] {w : BitVec 32} (hl : Ideal.ofBits .f32 w = ((P : ℝ) : EReal)) (D X : Fin 4096 → Fin P → ℝ) (G : Fin 1 → Fin P → ℝ) :
    addf (addf (mulf (mulf (up2 D) (hSpread hv hw hg (up2 G))) (broadcastInDim (Full P) ![0, 1] hb (Host.rsqrt (hMs w hp hr hc h0 (up2 X)))))
      (mulf (up2 X) (hMean w hp hr hc h0 hk he hf (up2 X) (mulf (up2 D) (hSpread hv hw hg (up2 G))))))
      (mulf (hMean w hp hr hc h0 hk he hf (up2 X) (mulf (up2 D) (hSpread hv hw hg (up2 G)))) (up2 X))
    = (up2 fun r => rmsGrad (G 0) (X r) (D r) : FVec Ideal (Full P) .f32) := by
  have e : mulf (F := Ideal) (φ := .f32) (up2 D) (hSpread hv hw hg (up2 G)) = up2 fun r c => D r c * G 0 c := by
    funext j
    obtain ⟨j0, j1, rfl⟩ := ix2_of j
    rw [hSpread_real]
    pointwise
    simp only [up2_ix, ← EReal.coe_mul]
  rw [e, hMean_real (hl := hl), hRrms_real (hl := hl)]
  funext j
  obtain ⟨j0, j1, rfl⟩ := ix2_of j
  pointwise
  simp only [up2_ix, ← EReal.coe_mul, ← EReal.coe_add]
  exact congrArg (fun z : ℝ => (z : EReal)) (rmsGrad_of_steps (G 0) (X j0) (D j0) j1)

/-- The same with an array `O` added first. -/
theorem hGradAdd_real [NeZero P] {w : BitVec 32} (hl : Ideal.ofBits .f32 w = ((P : ℝ) : EReal)) (O D X : Fin 4096 → Fin P → ℝ) (G : Fin 1 → Fin P → ℝ) :
    addf (addf (addf (up2 O) (mulf (mulf (up2 D) (hSpread hv hw hg (up2 G))) (broadcastInDim (Full P) ![0, 1] hb (Host.rsqrt (hMs w hp hr hc h0 (up2 X))))))
      (mulf (up2 X) (hMean w hp hr hc h0 hk he hf (up2 X) (mulf (up2 D) (hSpread hv hw hg (up2 G))))))
      (mulf (hMean w hp hr hc h0 hk he hf (up2 X) (mulf (up2 D) (hSpread hv hw hg (up2 G)))) (up2 X))
    = (up2 fun r c => O r c + rmsGrad (G 0) (X r) (D r) c : FVec Ideal (Full P) .f32) := by
  have e := hGrad_real (hl := hl) hp hr hc h0 hb hv hw hg hk he hf D X G
  generalize mulf (F := Ideal) (φ := .f32) (up2 D) (hSpread hv hw hg (up2 G)) = u at e ⊢
  generalize broadcastInDim (s := FullCol) (Full P) ![0, 1] hb (Host.rsqrt (hMs w hp hr hc h0 (up2 X))) = v at e ⊢
  generalize hMean w hp hr hc h0 hk he hf (up2 X) u = w at e ⊢
  funext j
  have ej := congrFun e j
  refine Eq.trans (?_ : _ = up2 O j + (up2 fun r => rmsGrad (G 0) (X r) (D r) : FVec Ideal (Full P) .f32) j) (EReal.coe_add _ _).symm
  rw [← ej]
  show up2 O j + u j * v j + up2 X j * w j + w j * up2 X j = up2 O j + (u j * v j + up2 X j * w j + w j * up2 X j)
  rw [add_assoc, add_assoc, add_assoc]

variable (hs : Shape.ReducesTo (Full P) [0] (RowVec P)) (hq : Shape.ShapeCasts (RowVec P) (OneRow P)) (ht : Shape.ReducesTo (OneRow P) [0] (RowVec P))

/-- The scale's gradient: the sum over all rows. -/
def hScale (n d : FVec Ideal (Full P) .f32) : FVec Ideal (OneRow P) .f32 :=
  broadcastInDim (OneRow P) ![1] hw (Host.reduceAdd (shapeCast (OneRow P) (Host.reduceAdd (mulf n d) (constant Scal .f32 0x00000000#32) hs hp) hq)
    (constant Scal .f32 0x00000000#32) ht hp)

theorem hScale_real (N D : Fin 4096 → Fin P → ℝ) : hScale hp hw hs hq ht (up2 N) (up2 D) = up2 fun _ c => ∑ i, D i c * N i c := by
  funext j
  obtain ⟨j0, j1, rfl⟩ := ix2_of j
  unfold hScale
  rw [as_row]
  pointwise
  simp only [up2_ix, col_of_vec, row_of_vec, zero_add, Fin.sum_univ_one, ← EReal.coe_mul, ← coe_sum]
  exact congrArg (fun z : ℝ => (z : EReal)) (Finset.sum_congr rfl fun i _ => mul_comm _ _)

end host

end Cert.Lift
-- ==== Proof.Common.Window.lean ====
/-
  What a window of a tile of the rows of 4096, or of a whole array, reads of an array of reals.
-/
module

public import proofs.«01_k».proof.Proof.Common.Lift
public import proofs.«01_k».proof.Proof.Common.Tile

@[expose] public section

noncomputable section

open Idealize.ShloMosaic

namespace Cert.Lift

/-- The rows of tile `t`. -/
abbrev rowsOf {B p : ℕ} (X : Fin 4096 → Fin p → ℝ) (t : ℕ) (r : Fin B) : Fin p → ℝ := X (tileIx 4096 B t r)

/-- A window of a tile reads the tile's rows. -/
theorem rows_comp {B p : ℕ} (X : Fin 4096 → Fin p → ℝ) {t : ℕ} (ht : t * B + B ≤ 4096) (e : (⟨2, ![B, p]⟩ : Shape).Idx → (⟨2, ![4096, p]⟩ : Shape).Idx)
    {k : Fin 2 → ℕ} (hk : k 0 = t ∧ k 1 = 0) (e0 : ∀ j, (e j 0).val = k 0 * B + 1 * (j 0).val) (e1 : ∀ j, (e j 1).val = k 1 * p + 1 * (j 1).val) :
    (fun j => up2 X (e j)) = up2 (rowsOf X t) := by
  refine up2_comp X e (tileIx 4096 B t) id (fun j => ?_) fun j => ?_
  · refine Eq.trans ?_ (tileIx_val (N := 4096) (B := B) (s := t) (j 0) ht).symm
    rw [e0, hk.1, one_mul]
  · rw [e1, hk.2, one_mul, zero_mul, Nat.zero_add]
    rfl

/-- A window of the whole array reads it. -/
theorem whole_comp {n p : ℕ} (X : Fin n → Fin p → ℝ) (e : (⟨2, ![n, p]⟩ : Shape).Idx → (⟨2, ![n, p]⟩ : Shape).Idx)
    {k : Fin 2 → ℕ} (hk : k 0 = 0 ∧ k 1 = 0) (e0 : ∀ j, (e j 0).val = k 0 * n + 1 * (j 0).val) (e1 : ∀ j, (e j 1).val = k 1 * p + 1 * (j 1).val) :
    (fun j => up2 X (e j)) = up2 X := by
  refine up2_comp X e id id (fun j => ?_) fun j => ?_
  · rw [e0, hk.1, one_mul, zero_mul, Nat.zero_add]
    rfl
  · rw [e1, hk.2, one_mul, zero_mul, Nat.zero_add]
    rfl

/-- A window of the whole array of three axes reads it. -/
theorem whole_comp3 {n p q : ℕ} (X : Fin n → Fin p → Fin q → ℝ) (e : (⟨3, ![n, p, q]⟩ : Shape).Idx → (⟨3, ![n, p, q]⟩ : Shape).Idx)
    {k : Fin 3 → ℕ} (hk : k 0 = 0 ∧ k 1 = 0 ∧ k 2 = 0) (e0 : ∀ j, (e j 0).val = k 0 * n + 1 * (j 0).val)
    (e1 : ∀ j, (e j 1).val = k 1 * p + 1 * (j 1).val) (e2 : ∀ j, (e j 2).val = k 2 * q + 1 * (j 2).val) :
    (fun j => up3 X (e j)) = up3 X := by
  refine funext fun j => congrArg (up3 X) (funext fun a => Fin.ext ?_)
  match a with
  | ⟨0, _⟩ => exact (e0 j).trans (by rw [hk.1, one_mul, zero_mul, Nat.zero_add]; rfl)
  | ⟨1, _⟩ => exact (e1 j).trans (by rw [hk.2.1, one_mul, zero_mul, Nat.zero_add]; rfl)
  | ⟨2, _⟩ => exact (e2 j).trans (by rw [hk.2.2, one_mul, zero_mul, Nat.zero_add]; rfl)

/-- The tile of a row, and the bounds it gives. -/
theorem tile_bounds {A B i : ℕ} (hB : 0 < B) (h : i < A * B) : i / B < A ∧ i / B * B ≤ i ∧ i < i / B * B + B :=
  ⟨Nat.div_lt_of_lt_mul (by rwa [Nat.mul_comm]), Nat.div_mul_le_self i B, Nat.lt_div_mul_add hB⟩

/-- A row lies in the tile that its number names. -/
theorem in_tile {B p : ℕ} (hB : 0 < B) (i : (⟨2, ![4096, p]⟩ : Shape).Idx) (o : Fin 2 → ℕ) (h : o 0 = (i 0).val / B ∧ o 1 = 0) :
    ∀ a : Fin 2, o a * ![B, p] a ≤ (i a).val ∧ (i a).val < o a * ![B, p] a + ![B, p] a := by
  have h1 : (i 1).val < p := (i 1).isLt
  intro a
  match a with
  | ⟨0, _⟩ =>
    show o 0 * B ≤ (i 0).val ∧ (i 0).val < o 0 * B + B
    rw [h.1]
    exact ⟨Nat.div_mul_le_self _ B, Nat.lt_div_mul_add hB⟩
  | ⟨1, _⟩ =>
    show o 1 * p ≤ (i 1).val ∧ (i 1).val < o 1 * p + p
    rw [h.2]
    omega

/-- An entry lies in the block that is the whole array. -/
theorem in_whole {n p : ℕ} (i : (⟨2, ![n, p]⟩ : Shape).Idx) (o : Fin 2 → ℕ) (h : o 0 = 0 ∧ o 1 = 0) :
    ∀ a : Fin 2, o a * ![n, p] a ≤ (i a).val ∧ (i a).val < o a * ![n, p] a + ![n, p] a := by
  have h0 : (i 0).val < n := (i 0).isLt
  have h1 : (i 1).val < p := (i 1).isLt
  intro a
  match a with
  | ⟨0, _⟩ =>
    show o 0 * n ≤ (i 0).val ∧ (i 0).val < o 0 * n + n
    rw [h.1]
    omega
  | ⟨1, _⟩ =>
    show o 1 * p ≤ (i 1).val ∧ (i 1).val < o 1 * p + p
    rw [h.2]
    omega

end Cert.Lift

end
-- ==== Proof.Ff2.Body.lean ====
/-
  The backward kernel of the second feed-forward product: its body's values on blocks of reals.
-/
module

public import proofs.«01_k».proof.Proof.Common.Rms
public import proofs.«01_k».proof.Proof.Common.Window
public import proofs.«01_k».proof.Proof.Gen.Kernel6Ideal.Value
public import Idealize.ShloMosaic.Lib.Pipeline.ValueKit.Acc
public import Idealize.ShloMosaic.Lib.Pipeline.ValueKit.Tiles

@[expose] public section

set_option maxRecDepth 16384

noncomputable section

open Idealize.ShloMosaic Cert.Lift

namespace Cert.Ff2

open Cert.Kernel6Ideal Cert.Kernel6Ideal.Gen

theorem pay2 (X : Fin 512 → Fin 1024 → ℝ) : k0_pay2 (F := Ideal) (up2 X) = up2 X := by
  funext j
  idx_vars j
  pointwise [k0_pay2]

/-- The gradient of the product's rows. -/
theorem pay7 (D X : Fin 512 → Fin 1024 → ℝ) (G : Fin 1 → Fin 1024 → ℝ) :
    k0_pay7 (F := Ideal) (up2 D) (up2 X) (up2 G) = up2 fun r => rmsGrad (G 0) (X r) (D r) := by
  simp only [k0_pay7, k0_pay4, k0_pay3, pay2]
  exact kGrad_real (hl := len_1024) reduces_S512x1024_S512 shapeCasts_S512_S512x1 broadcasts_S512x1_S512x1024 broadcasts_S1x1024_S512x1024 D X G

/-- The gradient of the rows before the square of the positive part, from the positive part. -/
theorem pay1 (D : Fin 512 → Fin 1024 → ℝ) (W : Fin 4096 → Fin 1024 → ℝ) (R : Fin 512 → Fin 4096 → ℝ) :
    k0_pay1 (F := Ideal) (up2 D) (up2 W) (up2 R) = up2 fun r k => (∑ c, D r c * W k c) * (2 * R r k) := by
  funext j
  idx_vars j
  pointwise [k0_pay1]
  simp only [up2_ix, lit_two, zero_add, ← EReal.coe_mul, ← coe_sum]

/-- The scale's gradient so far. -/
theorem pay6 (D X : Fin 512 → Fin 1024 → ℝ) (O : Fin 1 → Fin 1024 → ℝ) :
    k0_pay6 (F := Ideal) (up2 D) (up2 X) (up2 O) = up2 fun r c => O r c + ∑ k, D k c * rnrm (X k) c := by
  simp only [k0_pay6, k0_pay4, k0_pay3, pay2]
  refine Eq.trans ?_ (kScale_real reduces_S512x1024_S1024 shapeCasts_S1024_S1x1024 shapeCasts_S1x1024_S1x1024 D (fun r => rnrm (X r)) O)
  rw [← kNrm_real (hl := len_1024) reduces_S512x1024_S512 shapeCasts_S512_S512x1 broadcasts_S512x1_S512x1024 X]
  rfl

theorem pay5 : k0_pay5 (F := Ideal) = up2 fun _ _ => 0 := by
  funext j
  idx_vars j
  pointwise [k0_pay5]
  rfl

end Cert.Ff2

end
-- ==== Proof.Ff2.Result.lean ====
/-
  The backward kernel of the second feed-forward product: its three results as arrays of reals, from the arrays its windows read.
-/
module

public import proofs.«01_k».proof.Proof.Ff2.Body

@[expose] public section

set_option maxRecDepth 16384

noncomputable section

open Idealize.ShloMosaic Idealize.ShloMosaic.TcCoe Idealize.SL.Sem Cert.Lift
open Idealize.ShloMosaic.Pipeline (Dat)

namespace Cert.Ff2

open Cert.Kernel6Ideal Cert.Kernel6Ideal.Gen

/-- The gradient of the product `F`. -/
def dF (F D : Fin 4096 → Fin 1024 → ℝ) (G : Fin 1 → Fin 1024 → ℝ) (r : Fin 4096) : Fin 1024 → ℝ := rmsGrad (G 0) (F r) (D r)

/-- The gradient of the first product's rows, from their positive part `R`. -/
def dR (F D : Fin 4096 → Fin 1024 → ℝ) (R : Fin 4096 → Fin 4096 → ℝ) (W : Fin 4096 → Fin 1024 → ℝ) (G : Fin 1 → Fin 1024 → ℝ) (r k : Fin 4096) : ℝ :=
  (∑ c, dF F D G r c * W k c) * (2 * R r k)

/-- A row's term of the gradient of the scale. -/
def gG (F D : Fin 4096 → Fin 1024 → ℝ) (c : Fin 1024) (i : Fin 4096) : ℝ := D i c * rnrm (F i) c

variable (m : (ℓ : Loc nD τ sig) → Buf (Elt Ideal) ℓ) (c : Dev nD)
variable (F D : Fin 4096 → Fin 1024 → ℝ) (R : Fin 4096 → Fin 4096 → ℝ) (W : Fin 4096 → Fin 1024 → ℝ) (G : Fin 1 → Fin 1024 → ℝ)

/-- The windows' arrays hold these reals. -/
structure Reads : Prop where
  d : V m c (Pipeline.arrRef spec0 0) = up2 D
  f : V m c (Pipeline.arrRef spec0 1) = up2 F
  r : V m c (Pipeline.arrRef spec0 2) = up2 R
  w : V m c (Pipeline.arrRef spec0 3) = up2 W
  g : V m c (Pipeline.arrRef spec0 4) = up2 G

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)

theorem lt8 (t : Fin cfg0.N) : t.val < 8 := lt_of_lt_of_eq t.isLt N_0

theorem rows_le (t : Fin cfg0.N) : t.val * 512 + 512 ≤ 4096 := by have := lt8 t; omega

variable {m c F D R W G}

theorem blk_d (h : Reads m c F D R W G) (t : Fin cfg0.N) : iblk m c 0 t = up2 (rowsOf D t.val) := by
  unfold iblk
  rw [h.d]
  exact rows_comp D (rows_le t) _ (idx0 t) (fun _ => rfl) fun _ => rfl

theorem blk_f (h : Reads m c F D R W G) (t : Fin cfg0.N) : iblk m c 1 t = up2 (rowsOf F t.val) := by
  unfold iblk
  rw [h.f]
  exact rows_comp F (rows_le t) _ (idx1 t) (fun _ => rfl) fun _ => rfl

theorem blk_r (h : Reads m c F D R W G) (t : Fin cfg0.N) : iblk m c 2 t = up2 (rowsOf R t.val) := by
  unfold iblk
  rw [h.r]
  exact rows_comp R (rows_le t) _ (idx2 t) (fun _ => rfl) fun _ => rfl

theorem blk_w (h : Reads m c F D R W G) (t : Fin cfg0.N) : iblk m c 3 t = up2 W := by
  unfold iblk
  rw [h.w]
  exact whole_comp W _ (idx3 t) (fun _ => rfl) fun _ => rfl

theorem blk_g (h : Reads m c F D R W G) (t : Fin cfg0.N) : iblk m c 4 t = up2 G := by
  unfold iblk
  rw [h.g]
  exact whole_comp G _ (idx4 t) (fun _ => rfl) fun _ => rfl

/-- The block of the product's gradient after point `t`. -/
theorem outs_f (h : Reads m c F D R W G) (t : Fin cfg0.N) : (outsAt0 m c t.val t.isLt).1 = up2 (rowsOf (dF F D G) t.val) := by
  refine Eq.trans (?_ : _ = k0_pay7 (iblk m c 0 t) (iblk m c 1 t) (iblk m c 4 t)) ?_
  · by_cases ht : t.val % 8 = 0
    · rw [outsAt0_A m c t ht]
      frame_out
    · rw [outsAt0_B m c t ht]
      frame_out
  · rw [blk_d h, blk_f h, blk_g h]
    exact pay7 _ _ G

/-- The block of the gradient of the first product's rows after point `t`. -/
theorem outs_r (h : Reads m c F D R W G) (t : Fin cfg0.N) : (outsAt0 m c t.val t.isLt).2.1 = up2 (rowsOf (dR F D R W G) t.val) := by
  refine Eq.trans (?_ : _ = k0_pay1 (k0_pay7 (iblk m c 0 t) (iblk m c 1 t) (iblk m c 4 t)) (iblk m c 3 t) (iblk m c 2 t)) ?_
  · by_cases ht : t.val % 8 = 0
    · rw [outsAt0_A m c t ht]
      frame_out
    · rw [outsAt0_B m c t ht]
      frame_out
  · rw [blk_d h, blk_f h, blk_g h, blk_w h, blk_r h, pay7, pay1]
    rfl

/-- The block of the gradient of the scale after point `n`: the sums over the rows of the tiles so far. -/
theorem outs_g (h : Reads m c F D R W G) : ∀ (n : ℕ) (hn : n < cfg0.N), (outsAt0 m c n hn).2.2 = up2 fun _ k => part 512 (gG F D k) (n + 1)
  | 0, hn => by
    refine Eq.trans (?_ : _ = k0_pay6 (iblk m c 0 ⟨0, hn⟩) (iblk m c 1 ⟨0, hn⟩) (k0_pay5 (F := Ideal))) ?_
    · rw [outsAt0_A m c ⟨0, hn⟩ rfl]
      frame_out
    · rw [blk_d h, blk_f h, pay5, pay6]
      simp only [Nat.zero_add, part_one, _root_.zero_add]
      rfl
  | n + 1, hn => by
    have hN : n + 1 < 8 := lt_of_lt_of_eq hn N_0
    refine Eq.trans (?_ : _ = k0_pay6 (iblk m c 0 ⟨n + 1, hn⟩) (iblk m c 1 ⟨n + 1, hn⟩) (outsAt0 m c n (Nat.lt_of_succ_lt hn)).2.2) ?_
    · rw [outsAt0_B m c ⟨n + 1, hn⟩ (by dsimp only; omega)]
      frame_out
      rfl
    · rw [outs_g h n (Nat.lt_of_succ_lt hn), blk_d h, blk_f h, pay6]
      simp only [part_succ _ _ (n + 1)]
      rfl

/-- Result 0: the gradient of the product. -/
theorem final5 (h : Reads m c F D R W G) : (dats m 0 c).arrAt 5 cfg0.N = up2 (dF F D G) := by
  refine (dats m 0 c).arrAt_eq_of_cover 5 (up2 (dF F D G)) (fun t _ => ?_) fun i => ?_
  · rw [Value.flushed5, outs_f h t]
    exact (rows_comp (dF F D G) (rows_le t) _ (idx5 t) (fun _ => rfl) fun _ => rfl).symm
  · have ht : (i 0 : Nat) / 512 < cfg0.N := lt_of_lt_of_eq (tile_bounds (A := 8) (B := 512) (by norm_num) (i 0).isLt).1 N_0.symm
    refine ⟨⟨(i 0 : Nat) / 512, ht⟩, flush0_5 _, ?_⟩
    show i ∈ ((View.whole main_v8_0).slice (win0_5.rect ⟨(i 0 : Nat) / 512, ht⟩)).set
    rw [View.set_slice_whole, Rect.mem_set_unit]
    exact in_tile (by norm_num) i _ (idx5 _)

/-- Result 1: the gradient of the first product's rows. -/
theorem final6 (h : Reads m c F D R W G) : (dats m 0 c).arrAt 6 cfg0.N = up2 (dR F D R W G) := by
  refine (dats m 0 c).arrAt_eq_of_cover 6 (up2 (dR F D R W G)) (fun t _ => ?_) fun i => ?_
  · rw [Value.flushed6, outs_r h t]
    exact (rows_comp (dR F D R W G) (rows_le t) _ (idx6 t) (fun _ => rfl) fun _ => rfl).symm
  · have ht : (i 0 : Nat) / 512 < cfg0.N := lt_of_lt_of_eq (tile_bounds (A := 8) (B := 512) (by norm_num) (i 0).isLt).1 N_0.symm
    refine ⟨⟨(i 0 : Nat) / 512, ht⟩, flush0_6 _, ?_⟩
    show i ∈ ((View.whole main_v8_1).slice (win0_6.rect ⟨(i 0 : Nat) / 512, ht⟩)).set
    rw [View.set_slice_whole, Rect.mem_set_unit]
    exact in_tile (by norm_num) i _ (idx6 _)

/-- Result 2: the gradient of the scale. -/
theorem final7 (h : Reads m c F D R W G) : (dats m 0 c).arrAt 7 cfg0.N = up2 fun (_ : Fin 1) k => ∑ i, gG F D k i := by
  refine (dats m 0 c).arrAt_eq_of_cover 7 (up2 fun (_ : Fin 1) k => ∑ i, gG F D k i) (fun t hf => ?_) fun i => ?_
  · have ht : t.val + 1 = 8 := by have := (flush0_7 t).mp hf; have := lt8 t; omega
    rw [Value.flushed7, outs_g h t.val t.isLt, ht]
    simp only [part_all (show 8 * 512 = 4096 by norm_num)]
    exact (whole_comp (fun (_ : Fin 1) k => ∑ i, gG F D k i) _ (idx7 t) (fun _ => rfl) fun _ => rfl).symm
  · have ht : 7 < cfg0.N := lt_of_lt_of_eq (by omega : 7 < 8) N_0.symm
    refine ⟨⟨7, ht⟩, (flush0_7 _).mpr rfl, ?_⟩
    show i ∈ ((View.whole main_v8_2).slice (win0_7.rect ⟨7, ht⟩)).set
    rw [View.set_slice_whole, Rect.mem_set_unit]
    exact in_whole i _ (idx7 _)

end Cert.Ff2

end
-- ==== Proof.Ff2.Reference.lean ====
/-
  The reference of the second feed-forward product's gradients: its three results as arrays of reals.
-/
module

public import proofs.«01_k».proof.Proof.Ff2.Result
public import proofs.«01_k».proof.Proof.Gen.Reference6Ideal.Read

@[expose] public section

set_option maxRecDepth 16384

noncomputable section

open Idealize.ShloMosaic Cert.Lift

namespace Cert.Ff2

/-- The positive part. -/
def pos (H : Fin 4096 → Fin 4096 → ℝ) (r k : Fin 4096) : ℝ := max (H r k) 0

/-- The square of the positive part times the matrix. -/
def prodF (H : Fin 4096 → Fin 4096 → ℝ) (W : Fin 4096 → Fin 1024 → ℝ) (r : Fin 4096) (c : Fin 1024) : ℝ := ∑ k, pos H r k * pos H r k * W k c

namespace Ref

open Cert.Reference6Ideal Cert.Reference6Ideal.Read Cert.Reference6Ideal.Facts₀

variable (H : Fin 4096 → Fin 4096 → ℝ) (M : Fin 1 → Fin 4096 → Fin 1024 → ℝ) (G : Fin 1 → Fin 1024 → ℝ) (D : Fin 4096 → Fin 1024 → ℝ)

theorem v0 : val_main_v0 (F := Ideal) (up2 H) = up2 (pos H) := by
  funext j
  idx_vars j
  pointwise [val_main_v0, val_main_call0_v0, val_main_call0_cst]
  simp only [up2_ix, lit_zero, pos, coe_max]
  rfl

theorem v8 : val_main_v8 (F := Ideal) (up2 H) (up3 M) = up2 (prodF H (M 0)) := by
  unfold val_main_v8 val_main_v4
  rw [v0]
  funext j
  idx_vars j
  pointwise [val_main_v7]
  simp only [up2_ix, up3_ix, zero_add, ← EReal.coe_mul, ← coe_sum]
  rfl

/-- The product's gradient. -/
theorem v45 : val_main_v45 (F := Ideal) (up2 H) (up3 M) (up2 G) (up2 D) = up2 (dF (prodF H (M 0)) D G) := by
  have key := hGrad_real (hl := len_1024) h_S_ reducesTo_S4096x1024_S4096_d1 bcast_S4096_S4096x1_0 bcast_S_S4096x1 bcast_S4096x1_S4096x1024_0_1
    shapeCasts_S1x1024_S1024 bcast_S1024_S1x1024_1 bcast_S1x1024_S4096x1024_0_1 shapeCasts_S4096_S4096x1 reducesTo_S4096x1_S4096_d1
    bcast_S4096_S4096x1024_0 D (prodF H (M 0)) G
  rw [← v8] at key
  exact key

/-- Result 0. -/
theorem v47 : val_main_v47 (F := Ideal) (up2 H) (up3 M) (up2 G) (up2 D) = up2 (dF (prodF H (M 0)) D G) := v45 H M G D

/-- Result 1: where the entry is not positive, the positive part is zero, and so is the gradient. -/
theorem v52 : val_main_v52 (F := Ideal) (up2 H) (up3 M) (up2 G) (up2 D) = up2 (dR (prodF H (M 0)) D (pos H) (M 0) G) := by
  unfold val_main_v52 val_main_v51 val_main_v49 val_main_v48 val_main_v6
  rw [v45, v0]
  funext j
  idx_vars j
  pointwise [val_main_v2, val_main_v1, val_main_cst, val_main_v5, val_main_cst_1, val_main_v50, val_main_cst_11, val_main_v7]
  simp only [up2_ix, up3_ix, lit_zero, lit_two, zero_add, ← EReal.coe_mul, ← coe_sum]
  split_ifs with hp
  · rfl
  · have hz : pos H j0 j1 = 0 := max_eq_right (not_lt.mp fun hq => hp (EReal.coe_pos.mpr hq))
    show (0 : EReal) = ((dR (prodF H (M 0)) D (pos H) (M 0) G j0 j1 : ℝ) : EReal)
    rw [dR, hz, mul_zero, mul_zero]
    rfl

/-- Result 2. -/
theorem v46 : val_main_v46 (F := Ideal) (up2 H) (up3 M) (up2 D) = up2 fun _ k => ∑ i, gG (prodF H (M 0)) D k i := by
  have key := hScale_real h_S_ bcast_S1024_S1x1024_1 reducesTo_S4096x1024_S1024_d0 shapeCasts_S1024_S1x1024 reducesTo_S1x1024_S1024_d0
    (fun r => rnrm (prodF H (M 0) r)) D
  rw [← hNrm_real (hl := len_1024) h_S_ reducesTo_S4096x1024_S4096_d1 bcast_S4096_S4096x1_0 bcast_S_S4096x1 bcast_S4096x1_S4096x1024_0_1 (prodF H (M 0)), ← v8] at key
  exact key

end Ref

end Cert.Ff2

end
-- ==== Proof.Ff2.Claim.lean ====
/-
  The backward kernel of the second feed-forward product computes the gradients of the plain square of the positive part, product and
  norm: the claim over the reals.
-/
module

public import proofs.«01_k».proof.Defs
public import proofs.«01_k».proof.Proof.Common.Finite
public import proofs.«01_k».proof.Proof.Ff2.Reference
public import proofs.«01_k».proof.Proof.Gen.Pre_finite6
public import proofs.«01_k».proof.Proof.Gen.Reference6Ideal.Run

@[expose] public section

set_option maxRecDepth 16384

noncomputable section

open Idealize.ShloMosaic Idealize.ShloMosaic.TcCoe Idealize.SL.Sem Cert.Lift

namespace Cert.Ff2

open Cert.Kernel6Ideal Cert.Kernel6Ideal.Gen

/-- The host's matrix in the shorter format. -/
def hostW (w : FVec Ideal S1x4096x1024 .f32) : FVec Ideal S4096x1024 .bf16 :=
  truncf .bf16 (shapeCast S4096x1024 w shapeCasts_S1x4096x1024_S4096x1024) bitsLt_bf16_f32

/-- The host's positive part. -/
def hostR (h : FVec Ideal S4096x4096 .f32) : FVec Ideal S4096x4096 .f32 :=
  maximumf h (broadcastInDim S4096x4096 ![] bcast_S_S4096x4096 (constant S_ .f32 0x00000000#32))

/-- The host's product of the squares. -/
def hostF (r : FVec Ideal S4096x4096 .f32) (w : FVec Ideal S4096x1024 .bf16) : FVec Ideal S4096x1024 .f32 :=
  Host.dotGeneral dot_S4096x4096_S4096x1024_S4096x1024_1_0_0_1_n_n none (truncf .bf16 (mulf r r) bitsLt_bf16_f32) w

theorem hostW_real (M : Fin 1 → Fin 4096 → Fin 1024 → ℝ) : hostW (up3 M) = up2 (M 0) := by
  funext j
  idx_vars j
  pointwise [hostW]
  rfl

theorem hostR_real (H : Fin 4096 → Fin 4096 → ℝ) : hostR (up2 H) = up2 (pos H) := by
  funext j
  idx_vars j
  pointwise [hostR]
  simp only [up2_ix, lit_zero, pos, coe_max]
  rfl

theorem hostF_real (H : Fin 4096 → Fin 4096 → ℝ) (W : Fin 4096 → Fin 1024 → ℝ) : hostF (up2 (pos H)) (up2 W) = up2 (prodF H W) := by
  funext j
  idx_vars j
  pointwise [hostF]
  simp only [up2_ix, zero_add, ← EReal.coe_mul, ← coe_sum]
  rfl

variable (m : (ℓ : Loc nD τ sig) → Buf (Elt Ideal) ℓ) (c : Dev nD)

theorem V_main_v1 : @Eq (FVec Ideal S4096x1024 .bf16) (V m c main_v1)
    (hostW (m ((c.tc : Thread nD τ).loc main_arg1) : FVec Ideal S1x4096x1024 .f32)) := by
  unfold V
  after_results
  rfl

theorem V_main_v6 : @Eq (FVec Ideal S4096x1024 .f32) (V m c main_v6)
    (hostF (hostR (m ((c.tc : Thread nD τ).loc main_arg0) : FVec Ideal S4096x4096 .f32))
      (hostW (m ((c.tc : Thread nD τ).loc main_arg1) : FVec Ideal S1x4096x1024 .f32))) := by
  unfold V
  after_results
  rfl

theorem V_main_v7 : @Eq (FVec Ideal S4096x4096 .bf16) (V m c main_v7)
    (truncf .bf16 (hostR (m ((c.tc : Thread nD τ).loc main_arg0) : FVec Ideal S4096x4096 .f32)) bitsLt_bf16_f32) := by
  unfold V
  after_results
  rfl

/-- The arguments of one device are arrays of reals. -/
structure Args (H : Fin 4096 → Fin 4096 → ℝ) (M : Fin 1 → Fin 4096 → Fin 1024 → ℝ) (G : Fin 1 → Fin 1024 → ℝ) (D : Fin 4096 → Fin 1024 → ℝ) : Prop where
  h0 : m ((c.tc : Thread nD τ).loc main_arg0) = up2 H
  h1 : m ((c.tc : Thread nD τ).loc main_arg1) = up3 M
  h2 : m ((c.tc : Thread nD τ).loc main_arg2) = up2 G
  h3 : m ((c.tc : Thread nD τ).loc main_arg3) = up2 D

/-- Under the precondition there are such reals. -/
theorem exists_args (h : Cert.Pre_Kernel6Ideal_finite6 m) : ∃ H M G D, Args m c H M G D := by
  obtain ⟨e0, e1, e2, e3⟩ := h c
  obtain ⟨H, hH⟩ := exists_up2 (below_of_mask e0)
  obtain ⟨M, hM⟩ := exists_up3 (below_of_mask e1)
  obtain ⟨G, hG⟩ := exists_up2 (below_of_mask e2)
  obtain ⟨D, hD⟩ := exists_up2 (below_of_mask e3)
  exact ⟨H, M, G, D, hH, hM, hG, hD⟩

variable {m c} {H : Fin 4096 → Fin 4096 → ℝ} {M : Fin 1 → Fin 4096 → Fin 1024 → ℝ} {G : Fin 1 → Fin 1024 → ℝ} {D : Fin 4096 → Fin 1024 → ℝ}

/-- What the kernel's windows read. -/
theorem reads (a : Args m c H M G D) : Reads m c (prodF H (M 0)) D (pos H) (M 0) G where
  d := (V_main_arg3 m c).trans a.h3
  f := by
    refine (V_main_v6 m c).trans ?_
    rw [a.h0, a.h1, hostR_real, hostW_real, hostF_real]
  r := by
    refine (V_main_v7 m c).trans ?_
    rw [a.h0, hostR_real]
    rfl
  w := by
    refine (V_main_v1 m c).trans ?_
    rw [a.h1, hostW_real]
  g := (V_main_arg2 m c).trans a.h2

/-- The kernel's three results are the reference's three. -/
theorem algebraic : Cert.algebraic_Kernel6Ideal_Reference6Ideal_pre_finite6 := by
  intro m g m' g' hp hm
  have hk := Value.run_blocks m g
  have hr := Cert.Reference6Ideal.Value.run (F := Ideal) m' g'
  refine ⟨fun c => (dats m 0 c).arrAt 5 cfg0.N, fun c => (dats m 0 c).arrAt 6 cfg0.N, fun c => (dats m 0 c).arrAt 7 cfg0.N, hk,
    (θ_run _ _ _).mono (fun r h c => ?_) hr⟩
  obtain ⟨q0, q1, q2, k⟩ := h c
  obtain ⟨H, M, G, D, a⟩ := exists_args m c hp
  obtain ⟨i0, i1, i2, i3⟩ := hm c
  have b := reads a
  refine ⟨(q0.trans (Cert.Reference6Ideal.Read.val_main_v47_eq ..)).trans ?_, (q1.trans (Cert.Reference6Ideal.Read.val_main_v52_eq ..)).trans ?_,
    (q2.trans (Cert.Reference6Ideal.Read.val_main_v46_eq ..)).trans ?_, k⟩
  · rw [i0.trans a.h0, i1.trans a.h1, i2.trans a.h2, i3.trans a.h3]
    exact (Ref.v47 ..).trans (final5 b).symm
  · rw [i0.trans a.h0, i1.trans a.h1, i2.trans a.h2, i3.trans a.h3]
    exact (Ref.v52 ..).trans (final6 b).symm
  · rw [i0.trans a.h0, i1.trans a.h1, i3.trans a.h3]
    exact (Ref.v46 ..).trans (final7 b).symm

end Cert.Ff2

end
-- ==== Proof.Ff1.Body.lean ====
/-
  The backward kernel of the first feed-forward product: its body's values on blocks of reals. The product runs over
  eight slices of 512 columns.
-/
module

public import proofs.«01_k».proof.Proof.Common.Rms
public import proofs.«01_k».proof.Proof.Common.Tile
public import proofs.«01_k».proof.Proof.Gen.Kernel7Ideal.Value
public import Idealize.ShloMosaic.Lib.Pipeline.ValueKit.Acc
public import Idealize.ShloMosaic.Lib.Pipeline.ValueKit.Tiles

@[expose] public section

set_option maxRecDepth 16384

noncomputable section

open Idealize.ShloMosaic Cert.Lift

namespace Cert.Ff1

open Cert.Kernel7Ideal Cert.Kernel7Ideal.Gen

/-- One slice's term of the product. -/
def term (A : Fin 512 → Fin 512 → ℝ) (B : Fin 1 → Fin 1024 → Fin 512 → ℝ) (r : Fin 512) (c : Fin 1024) : ℝ := ∑ k, A r k * B 0 c k

theorem pay4 (A0 A1 A2 A3 A4 : Fin 512 → Fin 512 → ℝ) (B0 B1 B2 B3 B4 : Fin 1 → Fin 1024 → Fin 512 → ℝ) :
    k0_pay4 (F := Ideal) (up2 A0) (up3 B0) (up2 A1) (up3 B1) (up2 A2) (up3 B2) (up2 A3) (up3 B3) (up2 A4) (up3 B4)
      = up2 fun r c => term A0 B0 r c + term A1 B1 r c + term A2 B2 r c + term A3 B3 r c + term A4 B4 r c := by
  funext j
  idx_vars j
  pointwise [k0_pay4]
  simp only [up2_ix, up3_ix, zero_add, ← EReal.coe_mul, ← coe_sum, ← EReal.coe_add]
  rfl

theorem pay5 (P : Fin 512 → Fin 1024 → ℝ) (A5 A6 A7 : Fin 512 → Fin 512 → ℝ) (B5 B6 B7 : Fin 1 → Fin 1024 → Fin 512 → ℝ) :
    k0_pay5 (F := Ideal) (up2 P) (up2 A5) (up3 B5) (up2 A6) (up3 B6) (up2 A7) (up3 B7)
      = up2 fun r c => P r c + term A5 B5 r c + term A6 B6 r c + term A7 B7 r c := by
  funext j
  idx_vars j
  pointwise [k0_pay5]
  simp only [up2_ix, up3_ix, zero_add, ← EReal.coe_mul, ← coe_sum, ← EReal.coe_add]
  rfl

/-- The product over all columns from the eight slices. -/
theorem terms (D : Fin 512 → Fin 4096 → ℝ) (W : Fin 8 → Fin 1024 → Fin 512 → ℝ) (U : Fin 1024 → Fin 4096 → ℝ)
    (h : ∀ (s : Fin 8) c k, W s c k = U c (tileIx 4096 512 s.val k)) (r : Fin 512) (c : Fin 1024) :
    term (fun r k => D r (tileIx 4096 512 0 k)) (fun _ => W 0) r c + term (fun r k => D r (tileIx 4096 512 1 k)) (fun _ => W 1) r c
      + term (fun r k => D r (tileIx 4096 512 2 k)) (fun _ => W 2) r c + term (fun r k => D r (tileIx 4096 512 3 k)) (fun _ => W 3) r c
      + term (fun r k => D r (tileIx 4096 512 4 k)) (fun _ => W 4) r c + term (fun r k => D r (tileIx 4096 512 5 k)) (fun _ => W 5) r c
      + term (fun r k => D r (tileIx 4096 512 6 k)) (fun _ => W 6) r c + term (fun r k => D r (tileIx 4096 512 7 k)) (fun _ => W 7) r c
    = ∑ k, D r k * U c k := by
  rw [← sum_tiles 8 512 (by norm_num) fun k => D r k * U c k]
  simp only [Finset.sum_range_succ, Finset.sum_range_zero, _root_.zero_add]
  unfold term
  simp only [h]
  rfl

/-- A slice of 512 columns of a block. -/
theorem ld_cols (D : Fin 512 → Fin 4096 → ℝ) (s : ℕ) (hs : s < 8) (o : ℕ) (ho : o = s * 512) (inb) :
    View.ld (Val := Elt Ideal) (e' := .bf16) (up2 D : S512x4096.Idx → EReal) (Rect.unit (s := S512x4096) ![0, o] S512x512.size inb) = up2 fun r k => D r (tileIx 4096 512 s k) := by
  subst ho
  funext x
  idx_vars x
  refine (View.ld_unit_apply_of _ _ _ _ _ (ix2 x0 (tileIx 4096 512 s x1)) fun a => ?_).trans rfl
  match a with
  | ⟨0, _⟩ => exact (Nat.zero_add _).symm
  | ⟨1, _⟩ => exact tileIx_val (N := 4096) (B := 512) (s := s) x1 (by omega)

/-- One of the eight slices of the matrix. -/
theorem ld_slice (W : Fin 8 → Fin 1024 → Fin 512 → ℝ) (s : Fin 8) (o : ℕ) (ho : o = s.val) (inb) :
    View.ld (Val := Elt Ideal) (e' := .bf16) (up3 W : S8x1024x512.Idx → EReal) (Rect.unit (s := S8x1024x512) ![o, 0, 0] S1x1024x512.size inb) = up3 fun _ => W s := by
  subst ho
  funext x
  idx_vars x
  refine (View.ld_unit_apply_of _ _ _ _ _ (ix3 s x1 x2) fun a => ?_).trans rfl
  match a with
  | ⟨0, _⟩ => show s.val = s.val + x0.val; omega
  | ⟨1, _⟩ => exact (Nat.zero_add _).symm
  | ⟨2, _⟩ => exact (Nat.zero_add _).symm

theorem pay7 (X : Fin 512 → Fin 1024 → ℝ) : k0_pay7 (F := Ideal) (up2 X) = up2 fun r => rnrm (X r) :=
  kNrm_real (hl := len_1024) reduces_S512x1024_S512 shapeCasts_S512_S512x1 broadcasts_S512x1_S512x1024 X

theorem pay2 (D N : Fin 512 → Fin 1024 → ℝ) (O : Fin 1 → Fin 1024 → ℝ) :
    k0_pay2 (F := Ideal) (up2 D) (up2 N) (up2 O) = up2 fun r c => O r c + ∑ k, D k c * N k c :=
  kScale_real reduces_S512x1024_S1024 shapeCasts_S1024_S1x1024 shapeCasts_S1x1024_S1x1024 D N O

theorem pay1 : k0_pay1 (F := Ideal) = up2 fun _ _ => 0 := by
  funext j
  idx_vars j
  pointwise [k0_pay1]
  rfl

/-- The body's product over its eight slices of the two blocks. -/
def product (d : FVec Ideal S512x4096 .bf16) (w : FVec Ideal S8x1024x512 .bf16) : FVec Ideal S512x1024 .f32 :=
  k0_pay5 (F := Ideal) (k0_pay4 (F := Ideal) (View.ld (Val := Elt Ideal) (e' := .bf16) d (Rect.unit (s := S512x4096) ![0, 0] S512x512.size inb_S512x4096_S512x512_0_0)) (View.ld (Val := Elt Ideal) (e' := .bf16) w (Rect.unit (s := S8x1024x512) ![0, 0, 0] S1x1024x512.size inb_S8x1024x512_S1x1024x512_0_0_0))
      (View.ld (Val := Elt Ideal) (e' := .bf16) d (Rect.unit (s := S512x4096) ![0, 512] S512x512.size inb_S512x4096_S512x512_0_512)) (View.ld (Val := Elt Ideal) (e' := .bf16) w (Rect.unit (s := S8x1024x512) ![1, 0, 0] S1x1024x512.size inb_S8x1024x512_S1x1024x512_1_0_0))
      (View.ld (Val := Elt Ideal) (e' := .bf16) d (Rect.unit (s := S512x4096) ![0, 1024] S512x512.size inb_S512x4096_S512x512_0_1024)) (View.ld (Val := Elt Ideal) (e' := .bf16) w (Rect.unit (s := S8x1024x512) ![2, 0, 0] S1x1024x512.size inb_S8x1024x512_S1x1024x512_2_0_0))
      (View.ld (Val := Elt Ideal) (e' := .bf16) d (Rect.unit (s := S512x4096) ![0, 1536] S512x512.size inb_S512x4096_S512x512_0_1536)) (View.ld (Val := Elt Ideal) (e' := .bf16) w (Rect.unit (s := S8x1024x512) ![3, 0, 0] S1x1024x512.size inb_S8x1024x512_S1x1024x512_3_0_0))
      (View.ld (Val := Elt Ideal) (e' := .bf16) d (Rect.unit (s := S512x4096) ![0, 2048] S512x512.size inb_S512x4096_S512x512_0_2048)) (View.ld (Val := Elt Ideal) (e' := .bf16) w (Rect.unit (s := S8x1024x512) ![4, 0, 0] S1x1024x512.size inb_S8x1024x512_S1x1024x512_4_0_0)))
      (View.ld (Val := Elt Ideal) (e' := .bf16) d (Rect.unit (s := S512x4096) ![0, 2560] S512x512.size inb_S512x4096_S512x512_0_2560)) (View.ld (Val := Elt Ideal) (e' := .bf16) w (Rect.unit (s := S8x1024x512) ![5, 0, 0] S1x1024x512.size inb_S8x1024x512_S1x1024x512_5_0_0))
      (View.ld (Val := Elt Ideal) (e' := .bf16) d (Rect.unit (s := S512x4096) ![0, 3072] S512x512.size inb_S512x4096_S512x512_0_3072)) (View.ld (Val := Elt Ideal) (e' := .bf16) w (Rect.unit (s := S8x1024x512) ![6, 0, 0] S1x1024x512.size inb_S8x1024x512_S1x1024x512_6_0_0))
      (View.ld (Val := Elt Ideal) (e' := .bf16) d (Rect.unit (s := S512x4096) ![0, 3584] S512x512.size inb_S512x4096_S512x512_0_3584)) (View.ld (Val := Elt Ideal) (e' := .bf16) w (Rect.unit (s := S8x1024x512) ![7, 0, 0] S1x1024x512.size inb_S8x1024x512_S1x1024x512_7_0_0))

theorem product_real (D : Fin 512 → Fin 4096 → ℝ) (W : Fin 8 → Fin 1024 → Fin 512 → ℝ) (U : Fin 1024 → Fin 4096 → ℝ)
    (h : ∀ (s : Fin 8) c k, W s c k = U c (tileIx 4096 512 s.val k)) : product (up2 D) (up3 W) = up2 fun r c => ∑ k, D r k * U c k := by
  unfold product
  rw [ld_cols D 0 (by omega) 0 rfl, ld_slice W 0 0 rfl, ld_cols D 1 (by omega) 512 rfl, ld_slice W 1 1 rfl, ld_cols D 2 (by omega) 1024 rfl, ld_slice W 2 2 rfl, ld_cols D 3 (by omega) 1536 rfl, ld_slice W 3 3 rfl, ld_cols D 4 (by omega) 2048 rfl, ld_slice W 4 4 rfl, ld_cols D 5 (by omega) 2560 rfl, ld_slice W 5 5 rfl, ld_cols D 6 (by omega) 3072 rfl, ld_slice W 6 6 rfl, ld_cols D 7 (by omega) 3584 rfl, ld_slice W 7 7 rfl]
  rw [pay4, pay5]
  exact congrArg up2 (funext fun r => funext fun c => terms D W U h r c)

/-- The block's gradient, as the body computes it. -/
def outX (d : FVec Ideal S512x4096 .bf16) (w : FVec Ideal S8x1024x512 .bf16) (x y : FVec Ideal S512x1024 .f32) (g : FVec Ideal S1x1024 .f32) :
    FVec Ideal S512x1024 .f32 :=
  addf y (kGrad 0x44800000#32 reduces_S512x1024_S512 shapeCasts_S512_S512x1 broadcasts_S512x1_S512x1024 broadcasts_S1x1024_S512x1024 (product d w) x g)

theorem outX_real (D : Fin 512 → Fin 4096 → ℝ) (W : Fin 8 → Fin 1024 → Fin 512 → ℝ) (U : Fin 1024 → Fin 4096 → ℝ)
    (h : ∀ (s : Fin 8) c k, W s c k = U c (tileIx 4096 512 s.val k)) (X Y : Fin 512 → Fin 1024 → ℝ) (G : Fin 1 → Fin 1024 → ℝ) :
    outX (up2 D) (up3 W) (up2 X) (up2 Y) (up2 G) = up2 fun r c => Y r c + rmsGrad (G 0) (X r) (fun c => ∑ k, D r k * U c k) c := by
  unfold outX
  rw [product_real D W U h, kGrad_real (hl := len_1024)]
  funext j
  idx_vars j
  pointwise
  exact (EReal.coe_add _ _).symm

end Cert.Ff1

end
-- ==== Proof.Ff1.Result.lean ====
/-
  The backward kernel of the first feed-forward product: its two results as arrays of reals, from the arrays its windows read.
-/
module

public import proofs.«01_k».proof.Proof.Ff1.Body
public import proofs.«01_k».proof.Proof.Common.Window

@[expose] public section

set_option maxRecDepth 16384

noncomputable section

open Idealize.ShloMosaic Idealize.ShloMosaic.TcCoe Idealize.SL.Sem Cert.Lift
open Idealize.ShloMosaic.Pipeline (Dat)

namespace Cert.Ff1

open Cert.Kernel7Ideal Cert.Kernel7Ideal.Gen

/-- The cotangent of the normalised rows: `D` times the transposed matrix. -/
def dH (D : Fin 4096 → Fin 4096 → ℝ) (U : Fin 1024 → Fin 4096 → ℝ) (r : Fin 4096) (c : Fin 1024) : ℝ := ∑ k, D r k * U c k

/-- The gradient of the residual's input. -/
def dX (X Y : Fin 4096 → Fin 1024 → ℝ) (D : Fin 4096 → Fin 4096 → ℝ) (U : Fin 1024 → Fin 4096 → ℝ) (G : Fin 1 → Fin 1024 → ℝ) (r : Fin 4096)
    (c : Fin 1024) : ℝ := Y r c + rmsGrad (G 0) (X r) (dH D U r) c

/-- A row's term of the gradient of the scale. -/
def gG (X : Fin 4096 → Fin 1024 → ℝ) (D : Fin 4096 → Fin 4096 → ℝ) (U : Fin 1024 → Fin 4096 → ℝ) (c : Fin 1024) (i : Fin 4096) : ℝ :=
  dH D U i c * rnrm (X i) c

variable (m : (ℓ : Loc nD τ sig) → Buf (Elt Ideal) ℓ) (c : Dev nD)
variable (X Y : Fin 4096 → Fin 1024 → ℝ) (D : Fin 4096 → Fin 4096 → ℝ) (W : Fin 8 → Fin 1024 → Fin 512 → ℝ) (U : Fin 1024 → Fin 4096 → ℝ)
  (G : Fin 1 → Fin 1024 → ℝ)

/-- The windows' arrays hold these reals; `W` is the matrix cut into slices of 512 columns. -/
structure Reads : Prop where
  d : V m c (Pipeline.arrRef spec0 0) = up2 D
  x : V m c (Pipeline.arrRef spec0 1) = up2 X
  y : V m c (Pipeline.arrRef spec0 2) = up2 Y
  w : V m c (Pipeline.arrRef spec0 3) = up3 W
  g : V m c (Pipeline.arrRef spec0 4) = up2 G
  cut : ∀ (s : Fin 8) c k, W s c k = U c (tileIx 4096 512 s.val k)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)

theorem lt8 (t : Fin cfg0.N) : t.val < 8 := lt_of_lt_of_eq t.isLt N_0

theorem rows_le (t : Fin cfg0.N) : t.val * 512 + 512 ≤ 4096 := by have := lt8 t; omega

variable {m c X Y D W U G}

theorem blk_d (h : Reads m c X Y D W U G) (t : Fin cfg0.N) : iblk m c 0 t = up2 (rowsOf D t.val) := by
  unfold iblk
  rw [h.d]
  exact rows_comp D (rows_le t) _ (idx0 t) (fun _ => rfl) fun _ => rfl

theorem blk_x (h : Reads m c X Y D W U G) (t : Fin cfg0.N) : iblk m c 1 t = up2 (rowsOf X t.val) := by
  unfold iblk
  rw [h.x]
  exact rows_comp X (rows_le t) _ (idx1 t) (fun _ => rfl) fun _ => rfl

theorem blk_y (h : Reads m c X Y D W U G) (t : Fin cfg0.N) : iblk m c 2 t = up2 (rowsOf Y t.val) := by
  unfold iblk
  rw [h.y]
  exact rows_comp Y (rows_le t) _ (idx2 t) (fun _ => rfl) fun _ => rfl

theorem blk_w (h : Reads m c X Y D W U G) (t : Fin cfg0.N) : iblk m c 3 t = up3 W := by
  unfold iblk
  rw [h.w]
  exact whole_comp3 W _ (idx3 t) (fun _ => rfl) (fun _ => rfl) fun _ => rfl

theorem blk_g (h : Reads m c X Y D W U G) (t : Fin cfg0.N) : iblk m c 4 t = up2 G := by
  unfold iblk
  rw [h.g]
  exact whole_comp G _ (idx4 t) (fun _ => rfl) fun _ => rfl

/-- The block of the gradient of the residual's input after point `t`. -/
theorem outs_x (h : Reads m c X Y D W U G) (t : Fin cfg0.N) : (outsAt0 m c t.val t.isLt).1 = up2 (rowsOf (dX X Y D U G) t.val) := by
  refine Eq.trans (?_ : _ = outX (iblk m c 0 t) (iblk m c 3 t) (iblk m c 1 t) (iblk m c 2 t) (iblk m c 4 t)) ?_
  · by_cases ht : t.val % 8 = 0
    · rw [outsAt0_A m c t ht]
      frame_out
      rfl
    · rw [outsAt0_B m c t ht]
      frame_out
      rfl
  · rw [blk_d h, blk_x h, blk_y h, blk_w h, blk_g h]
    exact outX_real _ W U h.cut _ _ G

/-- The block of the gradient of the scale after point `n`: the sums over the rows of the tiles so far. -/
theorem outs_g (h : Reads m c X Y D W U G) : ∀ (n : ℕ) (hn : n < cfg0.N), (outsAt0 m c n hn).2 = up2 fun _ k => part 512 (gG X D U k) (n + 1)
  | 0, hn => by
    refine Eq.trans (?_ : _ = k0_pay2 (product (iblk m c 0 ⟨0, hn⟩) (iblk m c 3 ⟨0, hn⟩)) (k0_pay7 (iblk m c 1 ⟨0, hn⟩)) (k0_pay1 (F := Ideal))) ?_
    · rw [outsAt0_A m c ⟨0, hn⟩ rfl]
      frame_out
      rfl
    · rw [blk_d h, blk_x h, blk_w h, product_real _ W U h.cut, pay7, pay1, pay2]
      simp only [Nat.zero_add, part_one, _root_.zero_add]
      rfl
  | n + 1, hn => by
    have hN : n + 1 < 8 := lt_of_lt_of_eq hn N_0
    refine Eq.trans (?_ : _ = k0_pay2 (product (iblk m c 0 ⟨n + 1, hn⟩) (iblk m c 3 ⟨n + 1, hn⟩)) (k0_pay7 (iblk m c 1 ⟨n + 1, hn⟩))
      (outsAt0 m c n (Nat.lt_of_succ_lt hn)).2) ?_
    · rw [outsAt0_B m c ⟨n + 1, hn⟩ (by dsimp only; omega)]
      frame_out
      rfl
    · rw [outs_g h n (Nat.lt_of_succ_lt hn), blk_d h, blk_x h, blk_w h, product_real _ W U h.cut, pay7, pay2]
      simp only [part_succ _ _ (n + 1)]
      rfl

/-- Result 0: the gradient of the residual's input. -/
theorem final5 (h : Reads m c X Y D W U G) : (dats m 0 c).arrAt 5 cfg0.N = up2 (dX X Y D U G) := by
  refine (dats m 0 c).arrAt_eq_of_cover 5 (up2 (dX X Y D U G)) (fun t _ => ?_) fun i => ?_
  · rw [Value.flushed5, outs_x h t]
    exact (rows_comp (dX X Y D U G) (rows_le t) _ (idx5 t) (fun _ => rfl) fun _ => rfl).symm
  · have ht : (i 0 : Nat) / 512 < cfg0.N := lt_of_lt_of_eq (tile_bounds (A := 8) (B := 512) (by norm_num) (i 0).isLt).1 N_0.symm
    refine ⟨⟨(i 0 : Nat) / 512, ht⟩, flush0_5 _, ?_⟩
    show i ∈ ((View.whole main_v4_0).slice (win0_5.rect ⟨(i 0 : Nat) / 512, ht⟩)).set
    rw [View.set_slice_whole, Rect.mem_set_unit]
    exact in_tile (by norm_num) i _ (idx5 _)

/-- Result 1: the gradient of the scale. -/
theorem final6 (h : Reads m c X Y D W U G) : (dats m 0 c).arrAt 6 cfg0.N = up2 fun (_ : Fin 1) k => ∑ i, gG X D U k i := by
  refine (dats m 0 c).arrAt_eq_of_cover 6 (up2 fun (_ : Fin 1) k => ∑ i, gG X D U k i) (fun t hf => ?_) fun i => ?_
  · have ht : t.val + 1 = 8 := by have := (flush0_6 t).mp hf; have := lt8 t; omega
    rw [Value.flushed6, outs_g h t.val t.isLt, ht]
    simp only [part_all (show 8 * 512 = 4096 by norm_num)]
    exact (whole_comp (fun (_ : Fin 1) k => ∑ i, gG X D U k i) _ (idx6 t) (fun _ => rfl) fun _ => rfl).symm
  · have ht : 7 < cfg0.N := lt_of_lt_of_eq (by omega : 7 < 8) N_0.symm
    refine ⟨⟨7, ht⟩, (flush0_6 _).mpr rfl, ?_⟩
    show i ∈ ((View.whole main_v4_1).slice (win0_6.rect ⟨7, ht⟩)).set
    rw [View.set_slice_whole, Rect.mem_set_unit]
    exact in_whole i _ (idx6 _)

end Cert.Ff1

end
-- ==== Proof.Ff1.Reference.lean ====
/-
  The reference of the first feed-forward product's gradients: its two results as arrays of reals.
-/
module

public import proofs.«01_k».proof.Proof.Ff1.Result
public import proofs.«01_k».proof.Proof.Gen.Reference7Ideal.Read

@[expose] public section

set_option maxRecDepth 16384

noncomputable section

open Idealize.ShloMosaic Cert.Lift

namespace Cert.Ff1.Ref

open Cert.Reference7Ideal Cert.Reference7Ideal.Read Cert.Reference7Ideal.Facts₀

variable (X Y : Fin 4096 → Fin 1024 → ℝ) (D : Fin 4096 → Fin 4096 → ℝ) (M : Fin 1 → Fin 1024 → Fin 4096 → ℝ) (G : Fin 1 → Fin 1024 → ℝ)

theorem v20 : val_main_v20 (F := Ideal) (up3 M) (up2 D) = up2 (dH D (M 0)) := by
  funext j
  idx_vars j
  pointwise [val_main_v20, val_main_v19, val_main_v17]
  simp only [up2_ix, up3_ix, zero_add, ← EReal.coe_mul, ← coe_sum]
  rfl

/-- Result 0. -/
theorem v41 : val_main_v41 (F := Ideal) (up2 X) (up2 G) (up3 M) (up2 Y) (up2 D) = up2 (dX X Y D (M 0) G) := by
  have key := hGradAdd_real (hl := len_1024) h_S_ reducesTo_S4096x1024_S4096_d1 bcast_S4096_S4096x1_0 bcast_S_S4096x1 bcast_S4096x1_S4096x1024_0_1
    shapeCasts_S1x1024_S1024 bcast_S1024_S1x1024_1 bcast_S1x1024_S4096x1024_0_1 shapeCasts_S4096_S4096x1 reducesTo_S4096x1_S4096_d1
    bcast_S4096_S4096x1024_0 Y (dH D (M 0)) X G
  rw [← v20] at key
  exact key

/-- Result 1. -/
theorem v42 : val_main_v42 (F := Ideal) (up2 X) (up3 M) (up2 D) = up2 fun _ k => ∑ i, gG X D (M 0) k i := by
  have key := hScale_real h_S_ bcast_S1024_S1x1024_1 reducesTo_S4096x1024_S1024_d0 shapeCasts_S1024_S1x1024 reducesTo_S1x1024_S1024_d0
    (fun r => rnrm (X r)) (dH D (M 0))
  rw [← v20, ← hNrm_real (hl := len_1024) h_S_ reducesTo_S4096x1024_S4096_d1 bcast_S4096_S4096x1_0 bcast_S_S4096x1 bcast_S4096x1_S4096x1024_0_1 X] at key
  exact key

end Cert.Ff1.Ref

end
-- ==== Proof.Ff1.Claim.lean ====
/-
  The backward kernel of the first feed-forward product computes the gradients of the plain norm and product: the claim over the
  reals.
-/
module

public import proofs.«01_k».proof.Defs
public import proofs.«01_k».proof.Proof.Common.Finite
public import proofs.«01_k».proof.Proof.Ff1.Reference
public import proofs.«01_k».proof.Proof.Gen.Pre_finite7
public import proofs.«01_k».proof.Proof.Gen.Reference7Ideal.Run

@[expose] public section

set_option maxRecDepth 16384

noncomputable section

open Idealize.ShloMosaic Idealize.ShloMosaic.TcCoe Idealize.SL.Sem Cert.Lift

namespace Cert.Ff1

open Cert.Kernel7Ideal Cert.Kernel7Ideal.Gen

/-- The host's cut of the matrix into slices of 512 columns. -/
def slices (w : FVec Ideal S1x1024x4096 .f32) : FVec Ideal S8x1024x512 .bf16 :=
  truncf .bf16 (transpose S8x1024x512 [1, 0, 2] (shapeCast S1024x8x512 (shapeCast S1024x4096 w shapeCasts_S1x1024x4096_S1024x4096)
    shapeCasts_S1024x4096_S1024x8x512) transposes_S1024x8x512_S8x1024x512_1_0_2) bitsLt_bf16_f32

theorem slices_real (M : Fin 1 → Fin 1024 → Fin 4096 → ℝ) : slices (up3 M) = up3 fun s c k => M 0 c (tileIx 4096 512 s.val k) := by
  funext j
  idx_vars j
  pointwise [slices]
  simp only [up3_ix]
  exact congrArg (fun z => ((M 0 j1 z : ℝ) : EReal)) (Fin.ext (tileIx_val (N := 4096) (B := 512) (s := j0.val) j2 (by omega)).symm)

variable (m : (ℓ : Loc nD τ sig) → Buf (Elt Ideal) ℓ) (c : Dev nD)

theorem V_main_v3 : @Eq (FVec Ideal S8x1024x512 .bf16) (V m c main_v3)
    (slices (m ((c.tc : Thread nD τ).loc main_arg2) : FVec Ideal S1x1024x4096 .f32)) := by
  unfold V
  after_results
  rfl

/-- The arguments of one device are arrays of reals. -/
structure Args (X Y : Fin 4096 → Fin 1024 → ℝ) (D : Fin 4096 → Fin 4096 → ℝ) (M : Fin 1 → Fin 1024 → Fin 4096 → ℝ) (G : Fin 1 → Fin 1024 → ℝ) : Prop where
  h0 : m ((c.tc : Thread nD τ).loc main_arg0) = up2 X
  h1 : m ((c.tc : Thread nD τ).loc main_arg1) = up2 G
  h2 : m ((c.tc : Thread nD τ).loc main_arg2) = up3 M
  h3 : m ((c.tc : Thread nD τ).loc main_arg3) = up2 Y
  h4 : m ((c.tc : Thread nD τ).loc main_arg4) = up2 D

/-- Under the precondition there are such reals. -/
theorem exists_args (h : Cert.Pre_Kernel7Ideal_finite7 m) : ∃ X Y D M G, Args m c X Y D M G := by
  obtain ⟨e0, e1, e2, e3, e4⟩ := h c
  obtain ⟨X, hX⟩ := exists_up2 (below_of_mask e0)
  obtain ⟨G, hG⟩ := exists_up2 (below_of_mask e1)
  obtain ⟨M, hM⟩ := exists_up3 (below_of_mask e2)
  obtain ⟨Y, hY⟩ := exists_up2 (below_of_mask e3)
  obtain ⟨D, hD⟩ := exists_up2 (below_of_mask16 e4)
  exact ⟨X, Y, D, M, G, hX, hG, hM, hY, hD⟩

variable {m c} {X Y : Fin 4096 → Fin 1024 → ℝ} {D : Fin 4096 → Fin 4096 → ℝ} {M : Fin 1 → Fin 1024 → Fin 4096 → ℝ} {G : Fin 1 → Fin 1024 → ℝ}

/-- What the kernel's windows read. -/
theorem reads (a : Args m c X Y D M G) : Reads m c X Y D (fun s c k => M 0 c (tileIx 4096 512 s.val k)) (M 0) G where
  d := (V_main_arg4 m c).trans a.h4
  x := (V_main_arg0 m c).trans a.h0
  y := (V_main_arg3 m c).trans a.h3
  w := by
    refine (V_main_v3 m c).trans ?_
    rw [a.h2, slices_real]
  g := (V_main_arg1 m c).trans a.h1
  cut _ _ _ := rfl

/-- The kernel's two results are the reference's two. -/
theorem algebraic : Cert.algebraic_Kernel7Ideal_Reference7Ideal_pre_finite7 := by
  intro m g m' g' hp hm
  have hk := Value.run_blocks m g
  have hr := Cert.Reference7Ideal.Value.run (F := Ideal) m' g'
  refine ⟨fun c => (dats m 0 c).arrAt 5 cfg0.N, fun c => (dats m 0 c).arrAt 6 cfg0.N, hk, (θ_run _ _ _).mono (fun r h c => ?_) hr⟩
  obtain ⟨q0, q1, k⟩ := h c
  obtain ⟨X, Y, D, M, G, a⟩ := exists_args m c hp
  obtain ⟨i0, i1, i2, i3, i4⟩ := hm c
  have b := reads a
  refine ⟨(q0.trans (Cert.Reference7Ideal.Read.val_main_v41_eq _ _)).trans ?_, (q1.trans (Cert.Reference7Ideal.Read.val_main_v42_eq _ _ _)).trans ?_, k⟩
  · rw [i0.trans a.h0, i1.trans a.h1, i2.trans a.h2, i3.trans a.h3, i4.trans a.h4]
    exact (Ref.v41 ..).trans (final5 b).symm
  · rw [i0.trans a.h0, i2.trans a.h2, i4.trans a.h4]
    exact (Ref.v42 ..).trans (final6 b).symm

end Cert.Ff1

end
-- ==== Proof.Common.Join.lean ====
/-
  Two rows of reals one after the other, and the sum of products over such a row.
-/
module

public import proofs.«01_k».proof.Proof.Common.Lift

@[expose] public section

noncomputable section

namespace Cert.Lift

/-- The row `f` followed by the row `g`. -/
def join {a b n : ℕ} (h : a + b = n) (f : Fin a → ℝ) (g : Fin b → ℝ) (x : Fin n) : ℝ :=
  if hx : x.val < a then f ⟨x.val, hx⟩ else g ⟨x.val - a, by omega⟩

theorem sum_join {a b n : ℕ} (h : a + b = n) (f : Fin a → ℝ) (g : Fin b → ℝ) (u : Fin n → ℝ) :
    ∑ x, join h f g x * u x = ∑ k : Fin a, f k * u ⟨k.val, by omega⟩ + ∑ k : Fin b, g k * u ⟨a + k.val, by omega⟩ := by
  subst h
  rw [Fin.sum_univ_add]
  refine congrArg₂ (· + ·) (Finset.sum_congr rfl fun k _ => congrArg (· * _) (dif_pos k.isLt))
    (Finset.sum_congr rfl fun k _ => congrArg (· * _) ((dif_neg (by simp)).trans (congrArg g (Fin.ext ?_))))
  simp

theorem coe_dite {p : Prop} [Decidable p] (f : p → ℝ) (g : ¬p → ℝ) :
    ((dite p f g : ℝ) : EReal) = if h : p then ((f h : ℝ) : EReal) else ((g h : ℝ) : EReal) := by split_ifs <;> rfl

end Cert.Lift

end
-- ==== Proof.Inproj.Body.lean ====
/-
  The backward kernel of the input projection: its body's values on blocks of reals. The product runs over five parts, the first
  padded with zeros from 704 columns to 768.
-/
module

public import proofs.«01_k».proof.Proof.Common.Rms
public import proofs.«01_k».proof.Proof.Common.Join
public import proofs.«01_k».proof.Proof.Common.Window
public import proofs.«01_k».proof.Proof.Gen.Kernel8Ideal.Value
public import Idealize.ShloMosaic.Lib.Pipeline.ValueKit.Acc
public import Idealize.ShloMosaic.Lib.Pipeline.ValueKit.Tiles

@[expose] public section

set_option maxRecDepth 16384

noncomputable section

open Idealize.ShloMosaic Cert.Lift

namespace Cert.Inproj

open Cert.Kernel8Ideal Cert.Kernel8Ideal.Gen

/-- A row of the product: five parts against the columns of the matrix `U` from 0, 704, 1728, 2752 and 3776 on. -/
def dot5 (U : Fin 4800 → ℝ) (z : Fin 704 → ℝ) (a b g h : Fin 1024 → ℝ) : ℝ :=
  ∑ k : Fin 704, z k * U ⟨k.val, by omega⟩ + ∑ k : Fin 1024, a k * U ⟨704 + k.val, by omega⟩ + ∑ k : Fin 1024, b k * U ⟨1728 + k.val, by omega⟩
    + ∑ k : Fin 1024, g k * U ⟨2752 + k.val, by omega⟩ + ∑ k : Fin 1024, h k * U ⟨3776 + k.val, by omega⟩

/-- The transposed matrix with 64 rows of zeros after row 704. -/
def gap (U : Fin 1024 → Fin 4800 → ℝ) (x : Fin 4864) (c : Fin 1024) : ℝ :=
  if h : x.val < 704 then U c ⟨x.val, by omega⟩ else if _ : x.val - 704 < 64 then 0 else U c ⟨704 + (x.val - 704 - 64), by omega⟩

/-- A row of 704 with 64 zeros after it. -/
def wide (z : Fin 704 → ℝ) : Fin 768 → ℝ := join (b := 64) rfl z fun _ => 0

theorem gap_lo (U : Fin 1024 → Fin 4800 → ℝ) (c : Fin 1024) (k : Fin 704) (h) : gap U ⟨k.val, h⟩ c = U c ⟨k.val, by omega⟩ := dif_pos k.isLt

theorem gap_hi (U : Fin 1024 → Fin 4800 → ℝ) (c : Fin 1024) (o : ℕ) (k : Fin 1024) (ho : o + 64 + 1024 ≤ 4864) (h7 : 704 ≤ o) (h) :
    gap U ⟨o + 64 + k.val, h⟩ c = U c ⟨o + k.val, by omega⟩ := by
  unfold gap
  rw [dif_neg (by dsimp only; omega), dif_neg (by dsimp only; omega)]
  exact congrArg (U c) (Fin.ext (by dsimp only; omega))

/-- The padded part's sum is the part's. -/
theorem sum_wide (U : Fin 1024 → Fin 4800 → ℝ) (z : Fin 704 → ℝ) (c : Fin 1024) :
    ∑ k : Fin 768, wide z k * gap U ⟨0 + k.val, by omega⟩ c = ∑ k : Fin 704, z k * U c ⟨k.val, by omega⟩ := by
  unfold wide
  refine (sum_join _ z (fun _ => 0) fun k : Fin 768 => gap U ⟨0 + k.val, by omega⟩ c).trans ?_
  simp only [zero_mul, Finset.sum_const_zero, add_zero]
  exact Finset.sum_congr rfl fun k _ => congrArg (z k * ·) ((congrArg (gap U · c) (Fin.ext (Nat.zero_add _))).trans (gap_lo U c k (by omega)))

theorem pay6 (Z : Fin 512 → Fin 768 → ℝ) (A B C D : Fin 512 → Fin 1024 → ℝ) (W0 : Fin 768 → Fin 1024 → ℝ) (W1 W2 W3 W4 : Fin 1024 → Fin 1024 → ℝ) :
    k0_pay6 (F := Ideal) (up2 Z) (up2 W0) (up2 A) (up2 W1) (up2 B) (up2 W2) (up2 C) (up2 W3) (up2 D) (up2 W4)
      = up2 fun r c => ∑ k, Z r k * W0 k c + ∑ k, A r k * W1 k c + ∑ k, B r k * W2 k c + ∑ k, C r k * W3 k c + ∑ k, D r k * W4 k c := by
  funext j
  idx_vars j
  pointwise [k0_pay6]
  simp only [up2_ix, zero_add, ← EReal.coe_mul, ← coe_sum, ← EReal.coe_add]

/-- A slice of the matrix's rows. -/
theorem ld_rows (P : Fin 4864 → Fin 1024 → ℝ) (n o : ℕ) (hn : o + n ≤ 4864) (inb) :
    View.ld (Val := Elt Ideal) (e' := .bf16) (up2 P : S4864x1024.Idx → EReal) (Rect.unit (s := S4864x1024) ![o, 0] ![n, 1024] inb)
      = up2 fun (k : Fin n) c => P ⟨o + k.val, by omega⟩ c := by
  funext x
  refine (View.ld_unit_apply_of _ _ _ _ _ (ix2 ⟨o + (x 0).val, by have : (x 0).val < n := (x 0).isLt; omega⟩ (x 1)) fun a => ?_).trans rfl
  match a with
  | ⟨0, _⟩ => rfl
  | ⟨1, _⟩ => exact (Nat.zero_add _).symm

/-- The body's product of its five parts with the slices of the matrix. -/
def product (z : FVec Ideal S512x768 .bf16) (a b g h : FVec Ideal S512x1024 .bf16) (w : FVec Ideal S4864x1024 .bf16) : FVec Ideal S512x1024 .f32 :=
  k0_pay6 (F := Ideal) z (View.ld (Val := Elt Ideal) (e' := .bf16) w (Rect.unit (s := S4864x1024) ![0, 0] S768x1024.size inb_S4864x1024_S768x1024_0_0))
    a (View.ld (Val := Elt Ideal) (e' := .bf16) w (Rect.unit (s := S4864x1024) ![768, 0] S1024x1024.size inb_S4864x1024_S1024x1024_768_0))
    b (View.ld (Val := Elt Ideal) (e' := .bf16) w (Rect.unit (s := S4864x1024) ![1792, 0] S1024x1024.size inb_S4864x1024_S1024x1024_1792_0))
    g (View.ld (Val := Elt Ideal) (e' := .bf16) w (Rect.unit (s := S4864x1024) ![2816, 0] S1024x1024.size inb_S4864x1024_S1024x1024_2816_0))
    h (View.ld (Val := Elt Ideal) (e' := .bf16) w (Rect.unit (s := S4864x1024) ![3840, 0] S1024x1024.size inb_S4864x1024_S1024x1024_3840_0))

theorem product_real (Z : Fin 512 → Fin 704 → ℝ) (A B C D : Fin 512 → Fin 1024 → ℝ) (U : Fin 1024 → Fin 4800 → ℝ) :
    product (up2 fun r => wide (Z r)) (up2 A) (up2 B) (up2 C) (up2 D) (up2 (gap U)) = up2 fun r c => dot5 (U c) (Z r) (A r) (B r) (C r) (D r) := by
  unfold product
  rw [ld_rows (gap U) 768 0 (by omega), ld_rows (gap U) 1024 768 (by omega), ld_rows (gap U) 1024 1792 (by omega), ld_rows (gap U) 1024 2816 (by omega),
    ld_rows (gap U) 1024 3840 (by omega)]
  rw [pay6]
  refine congrArg up2 (funext fun r => funext fun c => ?_)
  unfold dot5
  rw [sum_wide]
  refine congrArg₂ (· + ·) (congrArg₂ (· + ·) (congrArg₂ (· + ·) (congrArg₂ (· + ·) rfl ?_) ?_) ?_) ?_
  · exact Finset.sum_congr rfl fun k _ => congrArg (A r k * ·) (gap_hi U c 704 k (by omega) (by omega) (by omega))
  · exact Finset.sum_congr rfl fun k _ => congrArg (B r k * ·) (gap_hi U c 1728 k (by omega) (by omega) (by omega))
  · exact Finset.sum_congr rfl fun k _ => congrArg (C r k * ·) (gap_hi U c 2752 k (by omega) (by omega) (by omega))
  · exact Finset.sum_congr rfl fun k _ => congrArg (D r k * ·) (gap_hi U c 3776 k (by omega) (by omega) (by omega))

/-- The block's gradient, as the body computes it from the product. -/
def outX (d x : FVec Ideal S512x1024 .f32) (y : FVec Ideal S512x1024 .f32) (g : FVec Ideal S1x1024 .f32) : FVec Ideal S512x1024 .f32 :=
  addf y (kGrad 0x44800000#32 reduces_S512x1024_S512 shapeCasts_S512_S512x1 broadcasts_S512x1_S512x1024 broadcasts_S1x1024_S512x1024 d x g)

theorem outX_real (D X Y : Fin 512 → Fin 1024 → ℝ) (G : Fin 1 → Fin 1024 → ℝ) :
    outX (up2 D) (up2 X) (up2 Y) (up2 G) = up2 fun r c => Y r c + rmsGrad (G 0) (X r) (D r) c := by
  unfold outX
  rw [kGrad_real (hl := len_1024)]
  funext j
  idx_vars j
  pointwise
  exact (EReal.coe_add _ _).symm

/-- The scale's gradient so far, as the body computes it from the product. -/
def outG (d x : FVec Ideal S512x1024 .f32) (o : FVec Ideal S1x1024 .f32) : FVec Ideal S1x1024 .f32 :=
  kScale reduces_S512x1024_S1024 shapeCasts_S1024_S1x1024 shapeCasts_S1x1024_S1x1024 d
    (kNrm 0x44800000#32 reduces_S512x1024_S512 shapeCasts_S512_S512x1 broadcasts_S512x1_S512x1024 x) o

theorem outG_real (D X : Fin 512 → Fin 1024 → ℝ) (O : Fin 1 → Fin 1024 → ℝ) :
    outG (up2 D) (up2 X) (up2 O) = up2 fun r c => O r c + ∑ k, D k c * rnrm (X k) c := by
  unfold outG
  rw [kNrm_real (hl := len_1024), kScale_real]

theorem pay3 : k0_pay3 (F := Ideal) = up2 fun _ _ => 0 := by
  funext j
  idx_vars j
  pointwise [k0_pay3]
  rfl

end Cert.Inproj

end
-- ==== Proof.Inproj.Result.lean ====
/-
  The backward kernel of the input projection: its two results as arrays of reals, from the arrays its windows read.
-/
module

public import proofs.«01_k».proof.Proof.Inproj.Body

@[expose] public section

set_option maxRecDepth 16384

noncomputable section

open Idealize.ShloMosaic Idealize.ShloMosaic.TcCoe Idealize.SL.Sem Cert.Lift
open Idealize.ShloMosaic.Pipeline (Dat)

namespace Cert.Inproj

open Cert.Kernel8Ideal Cert.Kernel8Ideal.Gen

/-- The five cotangents of the projection's parts. -/
structure Parts where
  z : Fin 4096 → Fin 704 → ℝ
  a : Fin 4096 → Fin 1024 → ℝ
  b : Fin 4096 → Fin 1024 → ℝ
  g : Fin 4096 → Fin 1024 → ℝ
  h : Fin 4096 → Fin 1024 → ℝ

/-- The cotangent of the normalised rows: the five parts times the transposed matrix. -/
def dH (P : Parts) (U : Fin 1024 → Fin 4800 → ℝ) (r : Fin 4096) (c : Fin 1024) : ℝ := dot5 (U c) (P.z r) (P.a r) (P.b r) (P.g r) (P.h r)

/-- The gradient of the residual's input. -/
def dX (X Y : Fin 4096 → Fin 1024 → ℝ) (P : Parts) (U : Fin 1024 → Fin 4800 → ℝ) (G : Fin 1 → Fin 1024 → ℝ) (r : Fin 4096) (c : Fin 1024) : ℝ :=
  Y r c + rmsGrad (G 0) (X r) (dH P U r) c

/-- A row's term of the gradient of the scale. -/
def gG (X : Fin 4096 → Fin 1024 → ℝ) (P : Parts) (U : Fin 1024 → Fin 4800 → ℝ) (c : Fin 1024) (i : Fin 4096) : ℝ := dH P U i c * rnrm (X i) c

variable (m : (ℓ : Loc nD τ sig) → Buf (Elt Ideal) ℓ) (c : Dev nD)
variable (X Y : Fin 4096 → Fin 1024 → ℝ) (P : Parts) (U : Fin 1024 → Fin 4800 → ℝ) (G : Fin 1 → Fin 1024 → ℝ)

/-- The windows' arrays hold these reals. -/
structure Reads : Prop where
  z : V m c (Pipeline.arrRef spec0 0) = up2 fun r => wide (P.z r)
  a : V m c (Pipeline.arrRef spec0 1) = up2 P.a
  b : V m c (Pipeline.arrRef spec0 2) = up2 P.b
  p : V m c (Pipeline.arrRef spec0 3) = up2 P.g
  q : V m c (Pipeline.arrRef spec0 4) = up2 P.h
  x : V m c (Pipeline.arrRef spec0 5) = up2 X
  y : V m c (Pipeline.arrRef spec0 6) = up2 Y
  w : V m c (Pipeline.arrRef spec0 7) = up2 (gap U)
  g : V m c (Pipeline.arrRef spec0 8) = up2 G

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = t.val ∧ win0_9.index t 1 = 0 :=
  (by decide +kernel : ∀ t : Fin grid0.N, win0_9.index t 0 = t.val ∧ win0_9.index t 1 = 0)
theorem idx10 : ∀ t : Fin cfg0.N, win0_10.index t 0 = 0 ∧ win0_10.index t 1 = 0 :=
  (by decide +kernel : ∀ t : Fin grid0.N, win0_10.index t 0 = 0 ∧ win0_10.index t 1 = 0)

theorem lt8 (t : Fin cfg0.N) : t.val < 8 := lt_of_lt_of_eq t.isLt N_0

theorem rows_le (t : Fin cfg0.N) : t.val * 512 + 512 ≤ 4096 := by have := lt8 t; omega

variable {m c X Y P U G}

theorem blk_z (h : Reads m c X Y P U G) (t : Fin cfg0.N) : iblk m c 0 t = up2 (rowsOf (fun r => wide (P.z r)) t.val) := by
  unfold iblk
  rw [h.z]
  exact rows_comp (fun r => wide (P.z r)) (rows_le t) _ (idx0 t) (fun _ => rfl) fun _ => rfl

theorem blk_a (h : Reads m c X Y P U G) (t : Fin cfg0.N) : iblk m c 1 t = up2 (rowsOf P.a t.val) := by
  unfold iblk
  rw [h.a]
  exact rows_comp P.a (rows_le t) _ (idx1 t) (fun _ => rfl) fun _ => rfl

theorem blk_b (h : Reads m c X Y P U G) (t : Fin cfg0.N) : iblk m c 2 t = up2 (rowsOf P.b t.val) := by
  unfold iblk
  rw [h.b]
  exact rows_comp P.b (rows_le t) _ (idx2 t) (fun _ => rfl) fun _ => rfl

theorem blk_p (h : Reads m c X Y P U G) (t : Fin cfg0.N) : iblk m c 3 t = up2 (rowsOf P.g t.val) := by
  unfold iblk
  rw [h.p]
  exact rows_comp P.g (rows_le t) _ (idx3 t) (fun _ => rfl) fun _ => rfl

theorem blk_q (h : Reads m c X Y P U G) (t : Fin cfg0.N) : iblk m c 4 t = up2 (rowsOf P.h t.val) := by
  unfold iblk
  rw [h.q]
  exact rows_comp P.h (rows_le t) _ (idx4 t) (fun _ => rfl) fun _ => rfl

theorem blk_x (h : Reads m c X Y P U G) (t : Fin cfg0.N) : iblk m c 5 t = up2 (rowsOf X t.val) := by
  unfold iblk
  rw [h.x]
  exact rows_comp X (rows_le t) _ (idx5 t) (fun _ => rfl) fun _ => rfl

theorem blk_y (h : Reads m c X Y P U G) (t : Fin cfg0.N) : iblk m c 6 t = up2 (rowsOf Y t.val) := by
  unfold iblk
  rw [h.y]
  exact rows_comp Y (rows_le t) _ (idx6 t) (fun _ => rfl) fun _ => rfl

theorem blk_w (h : Reads m c X Y P U G) (t : Fin cfg0.N) : iblk m c 7 t = up2 (gap U) := by
  unfold iblk
  rw [h.w]
  exact whole_comp (gap U) _ (idx7 t) (fun _ => rfl) fun _ => rfl

theorem blk_g (h : Reads m c X Y P U G) (t : Fin cfg0.N) : iblk m c 8 t = up2 G := by
  unfold iblk
  rw [h.g]
  exact whole_comp G _ (idx8 t) (fun _ => rfl) fun _ => rfl

/-- The product of the blocks at a point. -/
def prod (m : (ℓ : Loc nD τ sig) → Buf (Elt Ideal) ℓ) (c : Dev nD) (t : Fin cfg0.N) : FVec Ideal S512x1024 .f32 :=
  product (iblk m c 0 t) (iblk m c 1 t) (iblk m c 2 t) (iblk m c 3 t) (iblk m c 4 t) (iblk m c 7 t)

theorem prod_real (h : Reads m c X Y P U G) (t : Fin cfg0.N) : prod m c t = up2 (rowsOf (dH P U) t.val) := by
  unfold prod
  rw [blk_z h, blk_a h, blk_b h, blk_p h, blk_q h, blk_w h]
  exact product_real _ _ _ _ _ U

/-- The block of the gradient of the residual's input after point `t`. -/
theorem outs_x (h : Reads m c X Y P U G) (t : Fin cfg0.N) : (outsAt0 m c t.val t.isLt).1 = up2 (rowsOf (dX X Y P U G) t.val) := by
  refine Eq.trans (?_ : _ = outX (prod m c t) (iblk m c 5 t) (iblk m c 6 t) (iblk m c 8 t)) ?_
  · by_cases ht : t.val % 8 = 0
    · rw [outsAt0_A m c t ht]
      frame_out
      rfl
    · rw [outsAt0_B m c t ht]
      frame_out
      rfl
  · rw [prod_real h, blk_x h, blk_y h, blk_g h]
    exact outX_real _ _ _ G

/-- The block of the gradient of the scale after point `n`: the sums over the rows of the tiles so far. -/
theorem outs_g (h : Reads m c X Y P U G) : ∀ (n : ℕ) (hn : n < cfg0.N), (outsAt0 m c n hn).2 = up2 fun _ k => part 512 (gG X P U k) (n + 1)
  | 0, hn => by
    refine Eq.trans (?_ : _ = outG (prod m c ⟨0, hn⟩) (iblk m c 5 ⟨0, hn⟩) (k0_pay3 (F := Ideal))) ?_
    · rw [outsAt0_A m c ⟨0, hn⟩ rfl]
      frame_out
      rfl
    · rw [prod_real h, blk_x h, pay3, outG_real]
      simp only [Nat.zero_add, part_one, _root_.zero_add]
      rfl
  | n + 1, hn => by
    have hN : n + 1 < 8 := lt_of_lt_of_eq hn N_0
    refine Eq.trans (?_ : _ = outG (prod m c ⟨n + 1, hn⟩) (iblk m c 5 ⟨n + 1, hn⟩) (outsAt0 m c n (Nat.lt_of_succ_lt hn)).2) ?_
    · rw [outsAt0_B m c ⟨n + 1, hn⟩ (by dsimp only; omega)]
      frame_out
      rfl
    · rw [outs_g h n (Nat.lt_of_succ_lt hn), prod_real h, blk_x h, outG_real]
      simp only [part_succ _ _ (n + 1)]
      rfl

/-- Result 0: the gradient of the residual's input. -/
theorem final9 (h : Reads m c X Y P U G) : (dats m 0 c).arrAt 9 cfg0.N = up2 (dX X Y P U G) := by
  refine (dats m 0 c).arrAt_eq_of_cover 9 (up2 (dX X Y P U G)) (fun t _ => ?_) fun i => ?_
  · rw [Value.flushed9, outs_x h t]
    exact (rows_comp (dX X Y P U G) (rows_le t) _ (idx9 t) (fun _ => rfl) fun _ => rfl).symm
  · have ht : (i 0 : Nat) / 512 < cfg0.N := lt_of_lt_of_eq (tile_bounds (A := 8) (B := 512) (by norm_num) (i 0).isLt).1 N_0.symm
    refine ⟨⟨(i 0 : Nat) / 512, ht⟩, flush0_9 _, ?_⟩
    show i ∈ ((View.whole main_v8_0).slice (win0_9.rect ⟨(i 0 : Nat) / 512, ht⟩)).set
    rw [View.set_slice_whole, Rect.mem_set_unit]
    exact in_tile (by norm_num) i _ (idx9 _)

/-- Result 1: the gradient of the scale. -/
theorem final10 (h : Reads m c X Y P U G) : (dats m 0 c).arrAt 10 cfg0.N = up2 fun (_ : Fin 1) k => ∑ i, gG X P U k i := by
  refine (dats m 0 c).arrAt_eq_of_cover 10 (up2 fun (_ : Fin 1) k => ∑ i, gG X P U k i) (fun t hf => ?_) fun i => ?_
  · have ht : t.val + 1 = 8 := by have := (flush0_10 t).mp hf; have := lt8 t; omega
    rw [Value.flushed10, outs_g h t.val t.isLt, ht]
    simp only [part_all (show 8 * 512 = 4096 by norm_num)]
    exact (whole_comp (fun (_ : Fin 1) k => ∑ i, gG X P U k i) _ (idx10 t) (fun _ => rfl) fun _ => rfl).symm
  · have ht : 7 < cfg0.N := lt_of_lt_of_eq (by omega : 7 < 8) N_0.symm
    refine ⟨⟨7, ht⟩, (flush0_10 _).mpr rfl, ?_⟩
    show i ∈ ((View.whole main_v8_1).slice (win0_10.rect ⟨7, ht⟩)).set
    rw [View.set_slice_whole, Rect.mem_set_unit]
    exact in_whole i _ (idx10 _)

end Cert.Inproj

end
-- ==== Proof.Inproj.Reference.lean ====
/-
  The reference of the input projection's gradients: its two results as arrays of reals.
-/
module

public import proofs.«01_k».proof.Proof.Inproj.Result
public import proofs.«01_k».proof.Proof.Gen.Reference8Ideal.Read

@[expose] public section

set_option maxRecDepth 16384

noncomputable section

open Idealize.ShloMosaic Cert.Lift

namespace Cert.Inproj.Ref

open Cert.Reference8Ideal Cert.Reference8Ideal.Read Cert.Reference8Ideal.Facts₀

variable (X Y : Fin 4096 → Fin 1024 → ℝ) (P : Parts) (M : Fin 1 → Fin 1024 → Fin 4800 → ℝ) (G : Fin 1 → Fin 1024 → ℝ)

/-- A row of the five parts, one after the other. -/
def row (r : Fin 4096) : Fin 4800 → ℝ :=
  join (b := 4096) rfl (P.z r) (join (b := 3072) rfl (P.a r) (join (b := 2048) rfl (P.b r) (join rfl (P.g r) (P.h r))))

theorem sum_row (r : Fin 4096) (u : Fin 4800 → ℝ) : ∑ x, row P r x * u x = dot5 u (P.z r) (P.a r) (P.b r) (P.g r) (P.h r) := by
  unfold row dot5
  rw [sum_join _ (P.z r) _ u, sum_join _ (P.a r) _ fun k => u ⟨704 + k.val, by omega⟩, sum_join _ (P.b r) _ fun k => u ⟨704 + (1024 + k.val), by omega⟩,
    sum_join _ (P.g r) _ fun k => u ⟨704 + (1024 + (1024 + k.val)), by omega⟩]
  simp only [← Nat.add_assoc, Nat.reduceAdd, ← _root_.add_assoc]

theorem v0 : val_main_v0 (F := Ideal) (up2 P.z) (up2 P.a) (up2 P.b) (up2 P.g) (up2 P.h) = up2 (row P) := by
  funext j
  idx_vars j
  pointwise [val_main_v0]
  simp only [up2_ix, row, join, coe_dite]

theorem v21 : val_main_v21 (F := Ideal) (up3 M) (up2 P.z) (up2 P.a) (up2 P.b) (up2 P.g) (up2 P.h) = up2 (dH P (M 0)) := by
  unfold val_main_v21 val_main_v1
  rw [v0]
  funext j
  idx_vars j
  pointwise [val_main_v19]
  simp only [up2_ix, up3_ix, zero_add, ← EReal.coe_mul, ← coe_sum]
  exact congrArg _ (sum_row P j0 (M 0 j1))

/-- Result 0. -/
theorem v42 : val_main_v42 (F := Ideal) (up2 X) (up2 G) (up3 M) (up2 Y) (up2 P.z) (up2 P.a) (up2 P.b) (up2 P.g) (up2 P.h) = up2 (dX X Y P (M 0) G) := by
  have key := hGradAdd_real (hl := len_1024) h_S_ reducesTo_S4096x1024_S4096_d1 bcast_S4096_S4096x1_0 bcast_S_S4096x1 bcast_S4096x1_S4096x1024_0_1
    shapeCasts_S1x1024_S1024 bcast_S1024_S1x1024_1 bcast_S1x1024_S4096x1024_0_1 shapeCasts_S4096_S4096x1 reducesTo_S4096x1_S4096_d1
    bcast_S4096_S4096x1024_0 Y (dH P (M 0)) X G
  rw [← v21] at key
  exact key

/-- Result 1. -/
theorem v43 : val_main_v43 (F := Ideal) (up2 X) (up3 M) (up2 P.z) (up2 P.a) (up2 P.b) (up2 P.g) (up2 P.h) = up2 fun _ k => ∑ i, gG X P (M 0) k i := by
  have key := hScale_real h_S_ bcast_S1024_S1x1024_1 reducesTo_S4096x1024_S1024_d0 shapeCasts_S1024_S1x1024 reducesTo_S1x1024_S1024_d0
    (fun r => rnrm (X r)) (dH P (M 0))
  rw [← v21, ← hNrm_real (hl := len_1024) h_S_ reducesTo_S4096x1024_S4096_d1 bcast_S4096_S4096x1_0 bcast_S_S4096x1 bcast_S4096x1_S4096x1024_0_1 X] at key
  exact key

end Cert.Inproj.Ref

end
-- ==== Proof.Inproj.Claim.lean ====
/-
  The backward kernel of the input projection computes the gradients of the plain norm and product: the claim over the reals.
-/
module

public import proofs.«01_k».proof.Defs
public import proofs.«01_k».proof.Proof.Common.Finite
public import proofs.«01_k».proof.Proof.Inproj.Reference
public import proofs.«01_k».proof.Proof.Gen.Pre_finite8
public import proofs.«01_k».proof.Proof.Gen.Reference8Ideal.Run

@[expose] public section

set_option maxRecDepth 16384

noncomputable section

open Idealize.ShloMosaic Idealize.ShloMosaic.TcCoe Idealize.SL.Sem Cert.Lift

namespace Cert.Inproj

open Cert.Kernel8Ideal Cert.Kernel8Ideal.Gen

/-- The host's transpose of the matrix with its gap of zeros. -/
def spread (w : FVec Ideal S1x1024x4800 .f32) : FVec Ideal S4864x1024 .bf16 :=
  let t := transpose S4800x1024 [1, 0] (shapeCast S1024x4800 w shapeCasts_S1x1024x4800_S1024x4800) transposes_S1024x4800_S4800x1024_1_0
  truncf .bf16 (concatenate S4864x1024 0 [⟨S704x1024, extractStridedSlice S704x1024 ![0, 0] t slices_S4800x1024_S704x1024_0_0⟩,
    ⟨S64x1024, broadcastInDim S64x1024 ![] bcast_S_S64x1024 (constant S_ .f32 0x00000000#32)⟩,
    ⟨S4096x1024, extractStridedSlice S4096x1024 ![704, 0] t slices_S4800x1024_S4096x1024_704_0⟩]
    concatenates_S704x1024_S64x1024_S4096x1024_S4864x1024_d0) bitsLt_bf16_f32

/-- The host's padding of the first part. -/
def padded (z : FVec Ideal S4096x704 .bf16) : FVec Ideal S4096x768 .bf16 :=
  pad S4096x768 ![0, 0] ![0, 64] ![0, 0] z (sitofp .bf16 (constantI S_ 32 0#32)) pads_S4096x704_S4096x768_000_0640 h_S_

theorem padded_real (Z : Fin 4096 → Fin 704 → ℝ) : padded (up2 Z) = up2 fun r => wide (Z r) := by
  funext j
  idx_vars j
  pointwise [padded]
  simp only [up2_ix, wide, join, coe_dite]
  refine dite_congr rfl (fun _ => rfl) fun _ => ?_
  show ((((0#32 : BitVec 32).toInt : ℝ)) : EReal) = _
  simp

theorem spread_real (M : Fin 1 → Fin 1024 → Fin 4800 → ℝ) : spread (up3 M) = up2 (gap (M 0)) := by
  funext j
  idx_vars j
  pointwise [spread]
  simp only [up2_ix, up3_ix, gap, coe_dite, lit_zero]
  rfl

variable (m : (ℓ : Loc nD τ sig) → Buf (Elt Ideal) ℓ) (c : Dev nD)

theorem V_main_v6 : @Eq (FVec Ideal S4864x1024 .bf16) (V m c main_v6)
    (spread (m ((c.tc : Thread nD τ).loc main_arg2) : FVec Ideal S1x1024x4800 .f32)) := by
  unfold V
  simp only [hostOps0, hostOps0_1, List.flatten_cons, List.flatten_nil, List.append_nil, List.cons_append, List.nil_append]
  after_results
  rfl

theorem V_main_v7 : @Eq (FVec Ideal S4096x768 .bf16) (V m c main_v7)
    (padded (m ((c.tc : Thread nD τ).loc main_arg4) : FVec Ideal S4096x704 .bf16)) := by
  unfold V
  simp only [hostOps0, hostOps0_1, List.flatten_cons, List.flatten_nil, List.append_nil, List.cons_append, List.nil_append]
  after_results
  rfl

/-- The arguments of one device are arrays of reals. -/
structure Args (X Y : Fin 4096 → Fin 1024 → ℝ) (P : Parts) (M : Fin 1 → Fin 1024 → Fin 4800 → ℝ) (G : Fin 1 → Fin 1024 → ℝ) : Prop where
  h0 : m ((c.tc : Thread nD τ).loc main_arg0) = up2 X
  h1 : m ((c.tc : Thread nD τ).loc main_arg1) = up2 G
  h2 : m ((c.tc : Thread nD τ).loc main_arg2) = up3 M
  h3 : m ((c.tc : Thread nD τ).loc main_arg3) = up2 Y
  h4 : m ((c.tc : Thread nD τ).loc main_arg4) = up2 P.z
  h5 : m ((c.tc : Thread nD τ).loc main_arg5) = up2 P.a
  h6 : m ((c.tc : Thread nD τ).loc main_arg6) = up2 P.b
  h7 : m ((c.tc : Thread nD τ).loc main_arg7) = up2 P.g
  h8 : m ((c.tc : Thread nD τ).loc main_arg8) = up2 P.h

/-- Under the precondition there are such reals. -/
theorem exists_args (h : Cert.Pre_Kernel8Ideal_finite8 m) : ∃ X Y P M G, Args m c X Y P M G := by
  obtain ⟨e0, e1, e2, e3, e4, e5, e6, e7, e8⟩ := h c
  obtain ⟨X, hX⟩ := exists_up2 (below_of_mask e0)
  obtain ⟨G, hG⟩ := exists_up2 (below_of_mask e1)
  obtain ⟨M, hM⟩ := exists_up3 (below_of_mask e2)
  obtain ⟨Y, hY⟩ := exists_up2 (below_of_mask e3)
  obtain ⟨z, hz⟩ := exists_up2 (below_of_mask16 e4)
  obtain ⟨a, ha⟩ := exists_up2 (below_of_mask16 e5)
  obtain ⟨b, hb⟩ := exists_up2 (below_of_mask16 e6)
  obtain ⟨p, hp⟩ := exists_up2 (below_of_mask16 e7)
  obtain ⟨q, hq⟩ := exists_up2 (below_of_mask16 e8)
  exact ⟨X, Y, ⟨z, a, b, p, q⟩, M, G, hX, hG, hM, hY, hz, ha, hb, hp, hq⟩

variable {m c} {X Y : Fin 4096 → Fin 1024 → ℝ} {P : Parts} {M : Fin 1 → Fin 1024 → Fin 4800 → ℝ} {G : Fin 1 → Fin 1024 → ℝ}

/-- What the kernel's windows read. -/
theorem reads (a : Args m c X Y P M G) : Reads m c X Y P (M 0) G where
  z := by
    refine (V_main_v7 m c).trans ?_
    rw [a.h4, padded_real]
  a := (V_main_arg5 m c).trans a.h5
  b := (V_main_arg6 m c).trans a.h6
  p := (V_main_arg7 m c).trans a.h7
  q := (V_main_arg8 m c).trans a.h8
  x := (V_main_arg0 m c).trans a.h0
  y := (V_main_arg3 m c).trans a.h3
  w := by
    refine (V_main_v6 m c).trans ?_
    rw [a.h2, spread_real]
  g := (V_main_arg1 m c).trans a.h1

/-- The kernel's two results are the reference's two. -/
theorem algebraic : Cert.algebraic_Kernel8Ideal_Reference8Ideal_pre_finite8 := by
  intro m g m' g' hp hm
  have hk := Value.run_blocks m g
  have hr := Cert.Reference8Ideal.Value.run (F := Ideal) m' g'
  refine ⟨fun c => (dats m 0 c).arrAt 9 cfg0.N, fun c => (dats m 0 c).arrAt 10 cfg0.N, hk, (θ_run _ _ _).mono (fun r h c => ?_) hr⟩
  obtain ⟨q0, q1, k⟩ := h c
  obtain ⟨X, Y, P, M, G, a⟩ := exists_args m c hp
  obtain ⟨i0, i1, i2, i3, i4, i5, i6, i7, i8⟩ := hm c
  have b := reads a
  refine ⟨(q0.trans (Cert.Reference8Ideal.Read.val_main_v42_eq _ _)).trans ?_, (q1.trans (Cert.Reference8Ideal.Read.val_main_v43_eq ..)).trans ?_, k⟩
  · rw [i0.trans a.h0, i1.trans a.h1, i2.trans a.h2, i3.trans a.h3, i4.trans a.h4, i5.trans a.h5, i6.trans a.h6, i7.trans a.h7, i8.trans a.h8]
    exact (Ref.v42 ..).trans (final9 b).symm
  · rw [i0.trans a.h0, i2.trans a.h2, i4.trans a.h4, i5.trans a.h5, i6.trans a.h6, i7.trans a.h7, i8.trans a.h8]
    exact (Ref.v43 ..).trans (final10 b).symm

end Cert.Inproj

end
-- ==== Proof.Loss.Body.lean ====
/-
  The kernel of the second feed-forward product and the loss: its body's values on blocks of reals.
-/
module

public import proofs.«01_k».proof.Proof.Common.Rms
public import proofs.«01_k».proof.Proof.Common.Window
public import proofs.«01_k».proof.Proof.Gen.Kernel9Ideal.Value
public import Idealize.ShloMosaic.Lib.Pipeline.ValueKit.Acc
public import Idealize.ShloMosaic.Lib.Pipeline.ValueKit.Tiles

@[expose] public section

set_option maxRecDepth 16384

noncomputable section

open Idealize.ShloMosaic Cert.Lift

namespace Cert.Loss

open Cert.Kernel9Ideal Cert.Kernel9Ideal.Gen

/-- An entry of the error: the residual plus the scaled normalised product, less the target. -/
def diff (g f x t : Fin 1024 → ℝ) (c : Fin 1024) : ℝ := x c + rnrm f c * g c - t c

theorem pay2 (A : Fin 512 → Fin 4096 → ℝ) (W : Fin 4096 → Fin 1024 → ℝ) :
    k0_pay2 (F := Ideal) (up2 A) (up2 W) = up2 fun r c => ∑ k, A r k * W k c := by
  funext j
  idx_vars j
  pointwise [k0_pay2]
  simp only [up2_ix, zero_add, ← EReal.coe_mul, ← coe_sum]

section

variable (A : Fin 512 → Fin 4096 → ℝ) (W : Fin 4096 → Fin 1024 → ℝ) (X : Fin 512 → Fin 1024 → ℝ) (G : Fin 1 → Fin 1024 → ℝ) (T : Fin 512 → Fin 1024 → ℝ)

/-- The block's error. -/
def diffs (r : Fin 512) : Fin 1024 → ℝ := diff (G 0) (fun c => ∑ k, A r k * W k c) (X r) (T r)

theorem pay3 : k0_pay3 (F := Ideal) (up2 A) (up2 W) (up2 X) (up2 G) (up2 T) = up2 (diffs A W X G T) := by
  have n := kNrm_real (hl := len_1024) reduces_S512x1024_S512 shapeCasts_S512_S512x1 broadcasts_S512x1_S512x1024 fun r c => ∑ k, A r k * W k c
  simp only [k0_pay3, pay2]
  change subf (addf (up2 X) (mulf (kNrm 0x44800000#32 reduces_S512x1024_S512 shapeCasts_S512_S512x1 broadcasts_S512x1_S512x1024 (up2 fun r c => ∑ k, A r k * W k c))
    (broadcastTo S512x1024 (up2 G) broadcasts_S1x1024_S512x1024))) (up2 T) = _
  rw [n]
  funext j
  idx_vars j
  pointwise
  simp only [up2_ix, ← EReal.coe_mul, ← EReal.coe_add, ← EReal.coe_sub]
  rfl

theorem pay4 : k0_pay4 (F := Ideal) (up2 A) (up2 W) (up2 X) (up2 G) (up2 T) = up2 fun r c => diffs A W X G T r c * (1 / 1024) := by
  unfold k0_pay4
  rw [pay3]
  funext j
  idx_vars j
  pointwise
  simp only [up2_ix, lit_inv_1024, ← EReal.coe_mul]

theorem pay5 : k0_pay5 (F := Ideal) (up2 A) (up2 W) (up2 X) (up2 G) (up2 T)
    = ((∑ r, ∑ c, diffs A W X G T r c * diffs A W X G T r c : ℝ) : EReal) := by
  unfold k0_pay5
  rw [pay3]
  pointwise
  simp only [up2_ix, ← EReal.coe_mul, ← coe_sum]

end

theorem pay1 (v : ℝ) (O : Fin 8 → Fin 128 → ℝ) : k0_pay1 (F := Ideal) ((v : ℝ) : EReal) (up2 O) = up2 fun a b => O a b + v := by
  funext j
  idx_vars j
  pointwise [k0_pay1]
  rfl

theorem pay6 : k0_pay6 (F := Ideal) = up2 fun _ _ => 0 := by
  funext j
  idx_vars j
  pointwise [k0_pay6]
  rfl

end Cert.Loss

end
-- ==== Proof.Loss.Result.lean ====
/-
  The kernel of the second feed-forward product and the loss: its three results as arrays of reals, from the arrays its windows read.
-/
module

public import proofs.«01_k».proof.Proof.Loss.Body

@[expose] public section

set_option maxRecDepth 16384

noncomputable section

open Idealize.ShloMosaic Idealize.ShloMosaic.TcCoe Idealize.SL.Sem Cert.Lift
open Idealize.ShloMosaic.Pipeline (Dat)

namespace Cert.Loss

open Cert.Kernel9Ideal Cert.Kernel9Ideal.Gen

/-- The product. -/
def prodF (A : Fin 4096 → Fin 4096 → ℝ) (W : Fin 4096 → Fin 1024 → ℝ) (r : Fin 4096) (c : Fin 1024) : ℝ := ∑ k, A r k * W k c

/-- The error. -/
def err (A : Fin 4096 → Fin 4096 → ℝ) (X T : Fin 4096 → Fin 1024 → ℝ) (W : Fin 4096 → Fin 1024 → ℝ) (G : Fin 1 → Fin 1024 → ℝ) (r : Fin 4096) :
    Fin 1024 → ℝ := diff (G 0) (prodF A W r) (X r) (T r)

/-- The gradient of the loss in the rows. -/
def dY (A : Fin 4096 → Fin 4096 → ℝ) (X T : Fin 4096 → Fin 1024 → ℝ) (W : Fin 4096 → Fin 1024 → ℝ) (G : Fin 1 → Fin 1024 → ℝ) (r : Fin 4096)
    (c : Fin 1024) : ℝ := err A X T W G r c * (1 / 1024)

/-- A row's sum of squared errors. -/
def sq (A : Fin 4096 → Fin 4096 → ℝ) (X T : Fin 4096 → Fin 1024 → ℝ) (W : Fin 4096 → Fin 1024 → ℝ) (G : Fin 1 → Fin 1024 → ℝ) (i : Fin 4096) : ℝ :=
  ∑ c, err A X T W G i c * err A X T W G i c

variable (m : (ℓ : Loc nD τ sig) → Buf (Elt Ideal) ℓ) (c : Dev nD)
variable (A : Fin 4096 → Fin 4096 → ℝ) (X T : Fin 4096 → Fin 1024 → ℝ) (W : Fin 4096 → Fin 1024 → ℝ) (G : Fin 1 → Fin 1024 → ℝ)

/-- The windows' arrays hold these reals. -/
structure Reads : Prop where
  a : V m c (Pipeline.arrRef spec0 0) = up2 A
  x : V m c (Pipeline.arrRef spec0 1) = up2 X
  t : V m c (Pipeline.arrRef spec0 2) = up2 T
  w : V m c (Pipeline.arrRef spec0 3) = up2 W
  g : V m c (Pipeline.arrRef spec0 4) = up2 G

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)

theorem lt8 (t : Fin cfg0.N) : t.val < 8 := lt_of_lt_of_eq t.isLt N_0

theorem rows_le (t : Fin cfg0.N) : t.val * 512 + 512 ≤ 4096 := by have := lt8 t; omega

variable {m c A X T W G}

theorem blk_a (h : Reads m c A X T W G) (t : Fin cfg0.N) : iblk m c 0 t = up2 (rowsOf A t.val) := by
  unfold iblk
  rw [h.a]
  exact rows_comp A (rows_le t) _ (idx0 t) (fun _ => rfl) fun _ => rfl

theorem blk_x (h : Reads m c A X T W G) (t : Fin cfg0.N) : iblk m c 1 t = up2 (rowsOf X t.val) := by
  unfold iblk
  rw [h.x]
  exact rows_comp X (rows_le t) _ (idx1 t) (fun _ => rfl) fun _ => rfl

theorem blk_t (h : Reads m c A X T W G) (t : Fin cfg0.N) : iblk m c 2 t = up2 (rowsOf T t.val) := by
  unfold iblk
  rw [h.t]
  exact rows_comp T (rows_le t) _ (idx2 t) (fun _ => rfl) fun _ => rfl

theorem blk_w (h : Reads m c A X T W G) (t : Fin cfg0.N) : iblk m c 3 t = up2 W := by
  unfold iblk
  rw [h.w]
  exact whole_comp W _ (idx3 t) (fun _ => rfl) fun _ => rfl

theorem blk_g (h : Reads m c A X T W G) (t : Fin cfg0.N) : iblk m c 4 t = up2 G := by
  unfold iblk
  rw [h.g]
  exact whole_comp G _ (idx4 t) (fun _ => rfl) fun _ => rfl

/-- The block of the product after point `t`. -/
theorem outs_f (h : Reads m c A X T W G) (t : Fin cfg0.N) : (outsAt0 m c t.val t.isLt).1 = up2 (rowsOf (prodF A W) t.val) := by
  refine Eq.trans (?_ : _ = k0_pay2 (iblk m c 0 t) (iblk m c 3 t)) ?_
  · by_cases ht : t.val % 8 = 0
    · rw [outsAt0_A m c t ht]
      frame_out
    · rw [outsAt0_B m c t ht]
      frame_out
  · rw [blk_a h, blk_w h]
    exact pay2 _ W

/-- The block of the loss's gradient after point `t`. -/
theorem outs_y (h : Reads m c A X T W G) (t : Fin cfg0.N) : (outsAt0 m c t.val t.isLt).2.1 = up2 (rowsOf (dY A X T W G) t.val) := by
  refine Eq.trans (?_ : _ = k0_pay4 (iblk m c 0 t) (iblk m c 3 t) (iblk m c 1 t) (iblk m c 4 t) (iblk m c 2 t)) ?_
  · by_cases ht : t.val % 8 = 0
    · rw [outsAt0_A m c t ht]
      frame_out
    · rw [outsAt0_B m c t ht]
      frame_out
  · rw [blk_a h, blk_w h, blk_x h, blk_g h, blk_t h]
    exact pay4 _ W _ G _

/-- The block of the loss after point `n`: the sum over the rows of the tiles so far, in every entry. -/
theorem outs_l (h : Reads m c A X T W G) : ∀ (n : ℕ) (hn : n < cfg0.N), (outsAt0 m c n hn).2.2 = up2 fun _ _ => part 512 (sq A X T W G) (n + 1)
  | 0, hn => by
    refine Eq.trans (?_ : _ = k0_pay1 (k0_pay5 (iblk m c 0 ⟨0, hn⟩) (iblk m c 3 ⟨0, hn⟩) (iblk m c 1 ⟨0, hn⟩) (iblk m c 4 ⟨0, hn⟩) (iblk m c 2 ⟨0, hn⟩)) (k0_pay6 (F := Ideal))) ?_
    · rw [outsAt0_A m c ⟨0, hn⟩ rfl]
      frame_out
    · rw [blk_a h, blk_w h, blk_x h, blk_g h, blk_t h, pay5, pay6, pay1]
      simp only [Nat.zero_add, part_one, _root_.zero_add]
      rfl
  | n + 1, hn => by
    have hN : n + 1 < 8 := lt_of_lt_of_eq hn N_0
    refine Eq.trans (?_ : _ = k0_pay1 (k0_pay5 (iblk m c 0 ⟨n + 1, hn⟩) (iblk m c 3 ⟨n + 1, hn⟩) (iblk m c 1 ⟨n + 1, hn⟩) (iblk m c 4 ⟨n + 1, hn⟩) (iblk m c 2 ⟨n + 1, hn⟩)) (outsAt0 m c n (Nat.lt_of_succ_lt hn)).2.2) ?_
    · rw [outsAt0_B m c ⟨n + 1, hn⟩ (by dsimp only; omega)]
      frame_out
      rfl
    · rw [outs_l h n (Nat.lt_of_succ_lt hn), blk_a h, blk_w h, blk_x h, blk_g h, blk_t h, pay5, pay1]
      simp only [part_succ _ _ (n + 1)]
      rfl

/-- Result 0: the product. -/
theorem final5 (h : Reads m c A X T W G) : (dats m 0 c).arrAt 5 cfg0.N = up2 (prodF A W) := by
  refine (dats m 0 c).arrAt_eq_of_cover 5 (up2 (prodF A W)) (fun t _ => ?_) fun i => ?_
  · rw [Value.flushed5, outs_f h t]
    exact (rows_comp (prodF A W) (rows_le t) _ (idx5 t) (fun _ => rfl) fun _ => rfl).symm
  · have ht : (i 0 : Nat) / 512 < cfg0.N := lt_of_lt_of_eq (tile_bounds (A := 8) (B := 512) (by norm_num) (i 0).isLt).1 N_0.symm
    refine ⟨⟨(i 0 : Nat) / 512, ht⟩, flush0_5 _, ?_⟩
    show i ∈ ((View.whole main_v2_0).slice (win0_5.rect ⟨(i 0 : Nat) / 512, ht⟩)).set
    rw [View.set_slice_whole, Rect.mem_set_unit]
    exact in_tile (by norm_num) i _ (idx5 _)

/-- Result 1: the gradient of the loss in the rows. -/
theorem final6 (h : Reads m c A X T W G) : (dats m 0 c).arrAt 6 cfg0.N = up2 (dY A X T W G) := by
  refine (dats m 0 c).arrAt_eq_of_cover 6 (up2 (dY A X T W G)) (fun t _ => ?_) fun i => ?_
  · rw [Value.flushed6, outs_y h t]
    exact (rows_comp (dY A X T W G) (rows_le t) _ (idx6 t) (fun _ => rfl) fun _ => rfl).symm
  · have ht : (i 0 : Nat) / 512 < cfg0.N := lt_of_lt_of_eq (tile_bounds (A := 8) (B := 512) (by norm_num) (i 0).isLt).1 N_0.symm
    refine ⟨⟨(i 0 : Nat) / 512, ht⟩, flush0_6 _, ?_⟩
    show i ∈ ((View.whole main_v2_1).slice (win0_6.rect ⟨(i 0 : Nat) / 512, ht⟩)).set
    rw [View.set_slice_whole, Rect.mem_set_unit]
    exact in_tile (by norm_num) i _ (idx6 _)

/-- Result 2: the loss, in every entry. -/
theorem final7 (h : Reads m c A X T W G) : (dats m 0 c).arrAt 7 cfg0.N = up2 fun (_ : Fin 8) (_ : Fin 128) => ∑ i, sq A X T W G i := by
  refine (dats m 0 c).arrAt_eq_of_cover 7 (up2 fun (_ : Fin 8) (_ : Fin 128) => ∑ i, sq A X T W G i) (fun t hf => ?_) fun i => ?_
  · have ht : t.val + 1 = 8 := by have := (flush0_7 t).mp hf; have := lt8 t; omega
    rw [Value.flushed7, outs_l h t.val t.isLt, ht]
    simp only [part_all (show 8 * 512 = 4096 by norm_num)]
    rfl
  · have ht : 7 < cfg0.N := lt_of_lt_of_eq (by omega : 7 < 8) N_0.symm
    refine ⟨⟨7, ht⟩, (flush0_7 _).mpr rfl, ?_⟩
    show i ∈ ((View.whole main_v2_2).slice (win0_7.rect ⟨7, ht⟩)).set
    rw [View.set_slice_whole, Rect.mem_set_unit]
    exact in_whole i _ (idx7 _)

end Cert.Loss

end
-- ==== Proof.Loss.Reference.lean ====
/-
  The reference of the second feed-forward product and the loss: its three results as arrays of reals.
-/
module

public import proofs.«01_k».proof.Proof.Loss.Result
public import proofs.«01_k».proof.Proof.Gen.Reference9Ideal.Read

@[expose] public section

set_option maxRecDepth 16384

noncomputable section

open Idealize.ShloMosaic Cert.Lift

namespace Cert.Loss.Ref

open Cert.Reference9Ideal Cert.Reference9Ideal.Read Cert.Reference9Ideal.Facts₀

variable (A : Fin 4096 → Fin 4096 → ℝ) (X T : Fin 4096 → Fin 1024 → ℝ) (M : Fin 1 → Fin 4096 → Fin 1024 → ℝ) (G : Fin 1 → Fin 1024 → ℝ)

/-- Result 0. -/
theorem v2 : val_main_v2 (F := Ideal) (up2 A) (up3 M) = up2 (prodF A (M 0)) := by
  funext j
  idx_vars j
  pointwise [val_main_v2, val_main_v0, val_main_v1]
  simp only [up2_ix, up3_ix, zero_add, ← EReal.coe_mul, ← coe_sum]
  rfl

theorem v13 : val_main_v13 (F := Ideal) (up2 A) (up3 M) = up2 fun r => rnrm (prodF A (M 0) r) := by
  have key := hNrm_real (hl := len_1024) h_S_ reducesTo_S4096x1024_S4096_d1 bcast_S4096_S4096x1_0 bcast_S_S4096x1 bcast_S4096x1_S4096x1024_0_1 (prodF A (M 0))
  rw [← v2] at key
  exact key

theorem v18 : val_main_v18 (F := Ideal) (up2 A) (up2 X) (up2 T) (up3 M) (up2 G) = up2 (err A X T (M 0) G) := by
  unfold val_main_v18 val_main_v17 val_main_v16
  rw [v13]
  funext j
  idx_vars j
  pointwise [val_main_v15, val_main_v14, val_main_v3]
  simp only [up2_ix, ← EReal.coe_mul, ← EReal.coe_add, ← EReal.coe_sub]
  rfl

/-- Result 1. -/
theorem v32 : val_main_v32 (F := Ideal) (up2 A) (up2 X) (up2 T) (up3 M) (up2 G) = up2 (dY A X T (M 0) G) := by
  unfold val_main_v32 val_main_v21
  rw [v18]
  funext j
  idx_vars j
  pointwise [val_main_v31, val_main_v30, val_main_v29, val_main_v28, val_main_v27, val_main_v20, val_main_cst_2, val_main_cst_7, val_main_cst_8, val_main_cst_9]
  simp only [up2_ix, lit_half, lit_one, lit_1024, lit_two, ← EReal.coe_mul, over_1024]
  refine congrArg _ ?_
  show 1 / 2 / 1024 * (2 * err A X T (M 0) G j0 j1) = err A X T (M 0) G j0 j1 * (1 / 1024)
  ring

/-- Result 2. -/
theorem v34 : val_main_v34 (F := Ideal) (up2 A) (up2 X) (up2 T) (up3 M) (up2 G) = up2 fun _ _ => ∑ i, sq A X T (M 0) G i := by
  unfold val_main_v34 val_main_v33 val_main_v26 val_main_v25 val_main_v24 val_main_v22 val_main_v19
  rw [v18]
  funext j
  idx_vars j
  pointwise [val_main_v23, val_main_cst_3, val_main_cst_4, val_main_cst_5, val_main_cst_6, val_main_cst_10]
  simp only [up2_ix, lit_half, lit_2048, lit_1024, lit_zero, ← EReal.coe_mul, ← coe_sum, over_1024, zero_add]
  refine congrArg _ ?_
  rw [← Finset.sum_div]
  show 1 / 2 * ((∑ i, sq A X T (M 0) G i) / 1024) * 2048 = ∑ i, sq A X T (M 0) G i
  ring

end Cert.Loss.Ref

end
-- ==== Proof.Loss.Claim.lean ====
/-
  The kernel of the second feed-forward product and the loss computes the plain product, the loss and its gradient: the claim over the
  reals.
-/
module

public import proofs.«01_k».proof.Defs
public import proofs.«01_k».proof.Proof.Common.Finite
public import proofs.«01_k».proof.Proof.Loss.Reference
public import proofs.«01_k».proof.Proof.Gen.Pre_finite9
public import proofs.«01_k».proof.Proof.Gen.Reference9Ideal.Run

@[expose] public section

set_option maxRecDepth 16384

noncomputable section

open Idealize.ShloMosaic Idealize.ShloMosaic.TcCoe Idealize.SL.Sem Cert.Lift

namespace Cert.Loss

open Cert.Kernel9Ideal Cert.Kernel9Ideal.Gen

/-- The host's matrix in the shorter format. -/
def hostW (w : FVec Ideal S1x4096x1024 .f32) : FVec Ideal S4096x1024 .bf16 :=
  truncf .bf16 (shapeCast S4096x1024 w shapeCasts_S1x4096x1024_S4096x1024) bitsLt_bf16_f32

theorem hostW_real (M : Fin 1 → Fin 4096 → Fin 1024 → ℝ) : hostW (up3 M) = up2 (M 0) := by
  funext j
  idx_vars j
  pointwise [hostW]
  rfl

variable (m : (ℓ : Loc nD τ sig) → Buf (Elt Ideal) ℓ) (c : Dev nD)

theorem V_main_v1 : @Eq (FVec Ideal S4096x1024 .bf16) (V m c main_v1)
    (hostW (m ((c.tc : Thread nD τ).loc main_arg3) : FVec Ideal S1x4096x1024 .f32)) := by
  unfold V
  after_results
  rfl

/-- The arguments of one device are arrays of reals. -/
structure Args (A : Fin 4096 → Fin 4096 → ℝ) (X T : Fin 4096 → Fin 1024 → ℝ) (M : Fin 1 → Fin 4096 → Fin 1024 → ℝ) (G : Fin 1 → Fin 1024 → ℝ) : Prop where
  h0 : m ((c.tc : Thread nD τ).loc main_arg0) = up2 A
  h1 : m ((c.tc : Thread nD τ).loc main_arg1) = up2 X
  h2 : m ((c.tc : Thread nD τ).loc main_arg2) = up2 T
  h3 : m ((c.tc : Thread nD τ).loc main_arg3) = up3 M
  h4 : m ((c.tc : Thread nD τ).loc main_arg4) = up2 G

/-- Under the precondition there are such reals. -/
theorem exists_args (h : Cert.Pre_Kernel9Ideal_finite9 m) : ∃ A X T M G, Args m c A X T M G := by
  obtain ⟨e0, e1, e2, e3, e4⟩ := h c
  obtain ⟨A, hA⟩ := exists_up2 (below_of_mask16 e0)
  obtain ⟨X, hX⟩ := exists_up2 (below_of_mask e1)
  obtain ⟨T, hT⟩ := exists_up2 (below_of_mask e2)
  obtain ⟨M, hM⟩ := exists_up3 (below_of_mask e3)
  obtain ⟨G, hG⟩ := exists_up2 (below_of_mask e4)
  exact ⟨A, X, T, M, G, hA, hX, hT, hM, hG⟩

variable {m c} {A : Fin 4096 → Fin 4096 → ℝ} {X T : Fin 4096 → Fin 1024 → ℝ} {M : Fin 1 → Fin 4096 → Fin 1024 → ℝ} {G : Fin 1 → Fin 1024 → ℝ}

/-- What the kernel's windows read. -/
theorem reads (a : Args m c A X T M G) : Reads m c A X T (M 0) G where
  a := (V_main_arg0 m c).trans a.h0
  x := (V_main_arg1 m c).trans a.h1
  t := (V_main_arg2 m c).trans a.h2
  w := by
    refine (V_main_v1 m c).trans ?_
    rw [a.h3, hostW_real]
  g := (V_main_arg4 m c).trans a.h4

/-- The kernel's three results are the reference's three. -/
theorem algebraic : Cert.algebraic_Kernel9Ideal_Reference9Ideal_pre_finite9 := by
  intro m g m' g' hp hm
  have hk := Value.run_blocks m g
  have hr := Cert.Reference9Ideal.Value.run (F := Ideal) m' g'
  refine ⟨fun c => (dats m 0 c).arrAt 5 cfg0.N, fun c => (dats m 0 c).arrAt 6 cfg0.N, fun c => (dats m 0 c).arrAt 7 cfg0.N, hk,
    (θ_run _ _ _).mono (fun r h c => ?_) hr⟩
  obtain ⟨q0, q1, q2, k⟩ := h c
  obtain ⟨A, X, T, M, G, a⟩ := exists_args m c hp
  obtain ⟨i0, i1, i2, i3, i4⟩ := hm c
  have b := reads a
  refine ⟨(q0.trans (Cert.Reference9Ideal.Read.val_main_v2_eq ..)).trans ?_, (q1.trans (Cert.Reference9Ideal.Read.val_main_v32_eq ..)).trans ?_,
    (q2.trans (Cert.Reference9Ideal.Read.val_main_v34_eq ..)).trans ?_, k⟩
  · rw [i0.trans a.h0, i3.trans a.h3]
    exact (Ref.v2 ..).trans (final5 b).symm
  · rw [i0.trans a.h0, i1.trans a.h1, i2.trans a.h2, i3.trans a.h3, i4.trans a.h4]
    exact (Ref.v32 ..).trans (final6 b).symm
  · rw [i0.trans a.h0, i1.trans a.h1, i2.trans a.h2, i3.trans a.h3, i4.trans a.h4]
    exact (Ref.v34 ..).trans (final7 b).symm

end Cert.Loss

end
-- ==== Proof.Conv.Scratch.lean ====
/-
  The backward kernel of the convolution: what its loads read of the two scratch buffers, of their copies shifted by one to seven rows,
  and what its row-by-row stores leave. The rows are numbered by natural numbers, so that a shift is an addition.
-/
module

public import proofs.«01_k».proof.Proof.Common.Rms
public import proofs.«01_k».proof.Proof.Gen.Kernel2Ideal.Value
public import Idealize.ShloMosaic.Lib.Pipeline.ReadBack
public import Idealize.ShloMosaic.Lib.Pipeline.ValueKit.Acc

@[expose] public section

set_option maxRecDepth 16384

noncomputable section

open Idealize.ShloMosaic Cert.Lift

namespace Cert.Conv

open Cert.Kernel2Ideal Cert.Kernel2Ideal.Gen

section general

variable {sig : RefSig} {κ : Kind} {sp : Space} {s : Shape} {e : EltTy} {Val : EltTy → Type} [∀ e, Nonempty (Val e)]

/-- A load that the stores cover reads the array that every store is a block of. -/
theorem readCov_pieces (v : View sig κ sp s e) (G : s.Idx → Val e) (L : List (View.Piece Val s e)) (B : LoadRect s) (h : View.PiecesOf G L)
    (hc : ∀ j, ∃ p ∈ L, B.idx j ∈ p.1.set) : v.readCov L B = fun j => G (B.idx j) := by
  rw [View.readCov_eq_canon _ _ _ hc]
  funext j
  have := View.canon_append_of_piecesOf G [] L h (B.idx j) (hc j)
  rwa [List.append_nil] at this

end general

/-- The rows from `o` on of a table of rows. -/
def rowsAt {n : ℕ} (T : ℕ → Fin 1024 → ℝ) (o : ℕ) : Fin n → Fin 1024 → ℝ := fun r c => T (o + r.val) c

/-- A table of rows as the contents of a buffer of 288 rows. -/
def buf288 (T : ℕ → Fin 1024 → ℝ) : S288x1024.Idx → EReal := up2 (rowsAt T 0)

variable {κ : Kind} {sp : Space} {sg : RefSig}

/-- A buffer stored in two parts, loaded from row `o` on. -/
theorem read_parts (v : View sg κ sp S288x1024 .f32) (T : ℕ → Fin 1024 → ℝ) (a b n o : ℕ) (hab : a + b = 288) (ia ib io) :
    v.readCov (Val := Elt Ideal) [(⟨Rect.unit (s := S288x1024) ![a, 0] ![b, 1024] ia, up2 (rowsAt (n := b) T a)⟩ : View.Piece (Elt Ideal) S288x1024 .f32),
        ⟨Rect.unit (s := S288x1024) ![0, 0] ![a, 1024] ib, up2 (rowsAt (n := a) T 0)⟩] (Rect.unit (s := S288x1024) ![o, 0] ![n, 1024] io).toLoadRect
      = up2 (rowsAt (n := n) T o) := by
  refine (readCov_pieces v (buf288 T) _ _ ?_ fun j => ?_).trans ?_
  · refine And.intro (fun x => ?_) (And.intro (fun x => ?_) trivial)
    · refine congrArg Real.toEReal (congrArg₂ T ?_ (Fin.ext ?_))
      · show a + (x 0).val = 0 + (a + 1 * (x 0).val)
        omega
      · show (x 1).val = 0 + 1 * (x 1).val
        omega
    · refine congrArg Real.toEReal (congrArg₂ T ?_ (Fin.ext ?_))
      · show 0 + (x 0).val = 0 + (0 + 1 * (x 0).val)
        omega
      · show (x 1).val = 0 + 1 * (x 1).val
        omega
  · have h0 : (j 0).val < n := (j 0).isLt
    have h1 : (j 1).val < 1024 := (j 1).isLt
    have hn : o + n ≤ 288 := io 0
    by_cases h : o + 1 * (j 0).val < a
    · refine ⟨_, List.mem_cons_of_mem _ (List.mem_singleton_self _), ?_⟩
      rw [Rect.mem_set_unit, Fin.forall_fin_two]
      show (0 ≤ o + 1 * (j 0).val ∧ o + 1 * (j 0).val < 0 + a) ∧ 0 ≤ 0 + 1 * (j 1).val ∧ 0 + 1 * (j 1).val < 0 + 1024
      omega
    · refine ⟨_, List.mem_cons_self, ?_⟩
      rw [Rect.mem_set_unit, Fin.forall_fin_two]
      show (a ≤ o + 1 * (j 0).val ∧ o + 1 * (j 0).val < a + b) ∧ 0 ≤ 0 + 1 * (j 1).val ∧ 0 + 1 * (j 1).val < 0 + 1024
      omega
  · funext j
    refine congrArg Real.toEReal (congrArg₂ T ?_ (Fin.ext ?_))
    · show 0 + (o + 1 * (j 0).val) = o + (j 0).val
      omega
    · show 0 + 1 * (j 1).val = (j 1).val
      omega

/-- The seven shifted copies as the contents of their buffer: copy `k` starts at row `k + 1`. -/
def bufShift (T : ℕ → Fin 1024 → ℝ) : S7x280x1024.Idx → EReal := up3 fun k r c => T (k.val + 1 + r.val) c

/-- One copy's payload. -/
def copyAt (T : ℕ → Fin 1024 → ℝ) (k : ℕ) : S1x280x1024.Idx → EReal := up3 fun _ r c => T (k + r.val) c

/-- A copy's store is a block of the buffer's contents. -/
theorem copy_piece (T : ℕ → Fin 1024 → ℝ) (k : ℕ) (i) (x : S1x280x1024.Idx) :
    copyAt T (k + 1) x = bufShift T ((Rect.unit (s := S7x280x1024) ![k, 0, 0] ![1, 280, 1024] i).emb x) := by
  have h : (x 0).val < 1 := (x 0).isLt
  refine congrArg Real.toEReal (congrArg₂ T ?_ (Fin.ext ?_))
  · show k + 1 + (x 1).val = (k + 1 * (x 0).val) + 1 + (0 + 1 * (x 1).val)
    omega
  · show (x 2).val = 0 + 1 * (x 2).val
    omega

/-- Copy `k`, loaded from row `o` on, is the table from row `k + 1 + o` on. -/
theorem read_copy (v : View sg κ sp S7x280x1024 .f32) (T : ℕ → Fin 1024 → ℝ) (k o : ℕ) (i0 i1 i2 i3 i4 i5 i6 ik io) (h0 hs h1)
    (hR : (Rect.unit (s := S280x1024) ![o, 0] ![256, 1024] io).toLoadRect.shape.numel
      = ((Rect.unit (s := S7x280x1024) ![k, 0, 0] ![1, 280, 1024] ik).withinL
        (LoadRect.consLift (Rect.unit (s := S280x1024) ![o, 0] ![256, 1024] io).toLoadRect ![1, 280, 1024] h0 hs) h1).shape.numel) :
    LoadRect.valAlong hR (v.readCov (Val := Elt Ideal)
        [(⟨Rect.unit (s := S7x280x1024) ![6, 0, 0] ![1, 280, 1024] i6, copyAt T 7⟩ : View.Piece (Elt Ideal) S7x280x1024 .f32),
          ⟨Rect.unit (s := S7x280x1024) ![5, 0, 0] ![1, 280, 1024] i5, copyAt T 6⟩, ⟨Rect.unit (s := S7x280x1024) ![4, 0, 0] ![1, 280, 1024] i4, copyAt T 5⟩,
          ⟨Rect.unit (s := S7x280x1024) ![3, 0, 0] ![1, 280, 1024] i3, copyAt T 4⟩, ⟨Rect.unit (s := S7x280x1024) ![2, 0, 0] ![1, 280, 1024] i2, copyAt T 3⟩,
          ⟨Rect.unit (s := S7x280x1024) ![1, 0, 0] ![1, 280, 1024] i1, copyAt T 2⟩, ⟨Rect.unit (s := S7x280x1024) ![0, 0, 0] ![1, 280, 1024] i0, copyAt T 1⟩]
        ((Rect.unit (s := S7x280x1024) ![k, 0, 0] ![1, 280, 1024] ik).withinL
          (LoadRect.consLift (Rect.unit (s := S280x1024) ![o, 0] ![256, 1024] io).toLoadRect ![1, 280, 1024] h0 hs) h1))
      = up2 (rowsAt (n := 256) T (k + 1 + o)) := by
  refine (congrArg (fun f => LoadRect.valAlong hR f) (readCov_pieces v (bufShift T) _ _ ?_ fun j => ?_)).trans ?_
  · exact And.intro (copy_piece T 6 i6) (And.intro (copy_piece T 5 i5) (And.intro (copy_piece T 4 i4)
      (And.intro (copy_piece T 3 i3) (And.intro (copy_piece T 2 i2) (And.intro (copy_piece T 1 i1) (And.intro (copy_piece T 0 i0) trivial))))))
  · have hm : ((Rect.unit (s := S7x280x1024) ![k, 0, 0] ![1, 280, 1024] ik).withinL
        (LoadRect.consLift (Rect.unit (s := S280x1024) ![o, 0] ![256, 1024] io).toLoadRect ![1, 280, 1024] h0 hs) h1).idx j
          ∈ (Rect.unit (s := S7x280x1024) ![k, 0, 0] ![1, 280, 1024] ik).set := by
      have j0 : (j 0).val < 1 := (j 0).isLt
      have j1 : (j 1).val < 256 := (j 1).isLt
      have j2 : (j 2).val < 1024 := (j 2).isLt
      have hn : o + 256 ≤ 280 := io 0
      rw [Rect.mem_set_unit]
      intro a
      match a with
      | ⟨0, _⟩ =>
        show k ≤ (k + 0) + 1 * (j 0).val ∧ (k + 0) + 1 * (j 0).val < k + 1
        omega
      | ⟨1, _⟩ =>
        show 0 ≤ (0 + o) + 1 * (j 1).val ∧ (0 + o) + 1 * (j 1).val < 0 + 280
        omega
      | ⟨2, _⟩ =>
        show 0 ≤ (0 + 0) + 1 * (j 2).val ∧ (0 + 0) + 1 * (j 2).val < 0 + 1024
        omega
    have hk : k + 1 ≤ 7 := ik 0
    obtain rfl | rfl | rfl | rfl | rfl | rfl | rfl : k = 0 ∨ k = 1 ∨ k = 2 ∨ k = 3 ∨ k = 4 ∨ k = 5 ∨ k = 6 := by omega
    · exact ⟨_, .tail _ (.tail _ (.tail _ (.tail _ (.tail _ (.tail _ (.head _)))))), hm⟩
    · exact ⟨_, .tail _ (.tail _ (.tail _ (.tail _ (.tail _ (.head _))))), hm⟩
    · exact ⟨_, .tail _ (.tail _ (.tail _ (.tail _ (.head _)))), hm⟩
    · exact ⟨_, .tail _ (.tail _ (.tail _ (.head _))), hm⟩
    · exact ⟨_, .tail _ (.tail _ (.head _)), hm⟩
    · exact ⟨_, .tail _ (.head _), hm⟩
    · exact ⟨_, .head _, hm⟩
  · funext x
    have e : Shape.reshapeEquiv hR x = Fin.cons ⟨0, Nat.one_pos⟩ x := Shape.reshapeEquiv_cons_one (d := ![256, 1024]) hR x
    show bufShift T _ = _
    rw [e]
    refine congrArg Real.toEReal (congrArg₂ T ?_ (Fin.ext ?_))
    · show ((k + 0) + 1 * 0) + 1 + ((0 + o) + 1 * (x 0).val) = k + 1 + o + (x 0).val
      omega
    · show (0 + 0) + 1 * (x 1).val = (x 1).val
      omega

end Cert.Conv

end
-- ==== Proof.Conv.Body.lean ====
/-
  The backward kernel of the convolution: its body's values. Every load is a run of rows of a table, every term of the sums a product
  of a row of weights with such a run, and every row of the weight's gradient its row of before with one sum over the tile's rows.
-/
module

public import proofs.«01_k».proof.Proof.Conv.Scratch
public import proofs.«01_k».proof.Proof.Common.Window
public import Idealize.ShloMosaic.Lib.WritesUnit

@[expose] public section

set_option maxRecDepth 65536

noncomputable section

open Idealize.ShloMosaic Idealize.ShloMosaic.TcCoe Idealize.SL.Sem Cert.Lift
open Idealize.ShloMosaic.Pipeline (Dat)

namespace Cert.Conv

open Cert.Kernel2Ideal Cert.Kernel2Ideal.Gen

/-! ## The stores of the scratch buffers -/

theorem same_rows {n : ℕ} (X : Fin n → Fin 1024 → ℝ) (h : Shape.ShapeCasts (⟨2, ![n, 1024]⟩ : Shape) ⟨2, ![n, 1024]⟩) :
    shapeCast (⟨2, ![n, 1024]⟩ : Shape) (up2 X : FVec Ideal (⟨2, ![n, 1024]⟩ : Shape) .f32) h = up2 X :=
  shapeCast_self _ h

theorem pay6 (X : Fin 256 → Fin 1024 → ℝ) : k0_pay6 (F := Ideal) (up2 X) = up2 X := same_rows X _

theorem pay9 (X : Fin 256 → Fin 1024 → ℝ) : k0_pay9 (F := Ideal) (up2 X) = up2 X := (congrArg (k0_pay6 (F := Ideal)) (same_rows X _)).trans (same_rows X _)

/-- A run of rows with an axis of one before it. -/
theorem one_copy (T : ℕ → Fin 1024 → ℝ) (k : ℕ) (h : Shape.ShapeCasts S280x1024 S1x280x1024) :
    shapeCast S1x280x1024 (up2 (rowsAt (n := 280) T k) : FVec Ideal S280x1024 .f32) h = copyAt T k := by
  funext j
  idx_vars j
  pointwise [up2, copyAt, up3]
  rfl

theorem pay10 (T : ℕ → Fin 1024 → ℝ) : k0_pay10 (F := Ideal) (up2 (rowsAt (n := 280) T 1)) = copyAt T 1 := one_copy T 1 _
theorem pay11 (T : ℕ → Fin 1024 → ℝ) : k0_pay11 (F := Ideal) (up2 (rowsAt (n := 280) T 2)) = copyAt T 2 := one_copy T 2 _
theorem pay12 (T : ℕ → Fin 1024 → ℝ) : k0_pay12 (F := Ideal) (up2 (rowsAt (n := 280) T 3)) = copyAt T 3 := one_copy T 3 _
theorem pay13 (T : ℕ → Fin 1024 → ℝ) : k0_pay13 (F := Ideal) (up2 (rowsAt (n := 280) T 4)) = copyAt T 4 := one_copy T 4 _
theorem pay14 (T : ℕ → Fin 1024 → ℝ) : k0_pay14 (F := Ideal) (up2 (rowsAt (n := 280) T 5)) = copyAt T 5 := one_copy T 5 _
theorem pay15 (T : ℕ → Fin 1024 → ℝ) : k0_pay15 (F := Ideal) (up2 (rowsAt (n := 280) T 6)) = copyAt T 6 := one_copy T 6 _
theorem pay16 (T : ℕ → Fin 1024 → ℝ) : k0_pay16 (F := Ideal) (up2 (rowsAt (n := 280) T 7)) = copyAt T 7 := one_copy T 7 _
theorem pay17 (T : ℕ → Fin 1024 → ℝ) : k0_pay17 (F := Ideal) (up2 (rowsAt (n := 280) T 1)) = copyAt T 1 := one_copy T 1 _
theorem pay18 (T : ℕ → Fin 1024 → ℝ) : k0_pay18 (F := Ideal) (up2 (rowsAt (n := 280) T 2)) = copyAt T 2 := one_copy T 2 _
theorem pay19 (T : ℕ → Fin 1024 → ℝ) : k0_pay19 (F := Ideal) (up2 (rowsAt (n := 280) T 3)) = copyAt T 3 := one_copy T 3 _
theorem pay20 (T : ℕ → Fin 1024 → ℝ) : k0_pay20 (F := Ideal) (up2 (rowsAt (n := 280) T 4)) = copyAt T 4 := one_copy T 4 _
theorem pay21 (T : ℕ → Fin 1024 → ℝ) : k0_pay21 (F := Ideal) (up2 (rowsAt (n := 280) T 5)) = copyAt T 5 := one_copy T 5 _
theorem pay22 (T : ℕ → Fin 1024 → ℝ) : k0_pay22 (F := Ideal) (up2 (rowsAt (n := 280) T 6)) = copyAt T 6 := one_copy T 6 _
theorem pay23 (T : ℕ → Fin 1024 → ℝ) : k0_pay23 (F := Ideal) (up2 (rowsAt (n := 280) T 7)) = copyAt T 7 := one_copy T 7 _

/-! ## The loads -/

variable {κ : Kind} {sp : Space} {sg : RefSig}

theorem read_down (v : View sg κ sp S288x1024 .f32) (T : ℕ → Fin 1024 → ℝ) (n o : ℕ) (ia ib io) :
    v.readCov (Val := Elt Ideal) [(⟨Rect.unit (s := S288x1024) ![256, 0] ![32, 1024] ia, up2 (rowsAt (n := 32) T 256)⟩ : View.Piece (Elt Ideal) S288x1024 .f32),
        ⟨Rect.unit (s := S288x1024) ![0, 0] ![256, 1024] ib, up2 (rowsAt (n := 256) T 0)⟩] (Rect.unit (s := S288x1024) ![o, 0] ![n, 1024] io).toLoadRect
      = up2 (rowsAt (n := n) T o) := read_parts v T 256 32 n o rfl ia ib io

theorem read_up (v : View sg κ sp S288x1024 .f32) (T : ℕ → Fin 1024 → ℝ) (n o : ℕ) (ia ib io) :
    v.readCov (Val := Elt Ideal) [(⟨Rect.unit (s := S288x1024) ![32, 0] ![256, 1024] ia, up2 (rowsAt (n := 256) T 32)⟩ : View.Piece (Elt Ideal) S288x1024 .f32),
        ⟨Rect.unit (s := S288x1024) ![0, 0] ![32, 1024] ib, up2 (rowsAt (n := 32) T 0)⟩] (Rect.unit (s := S288x1024) ![o, 0] ![n, 1024] io).toLoadRect
      = up2 (rowsAt (n := n) T o) := read_parts v T 32 256 n o rfl ia ib io

/-- A row of a table of 32 rows. -/
theorem read_row (W : ℕ → Fin 1024 → ℝ) (k : ℕ) (i) :
    View.ld (Val := Elt Ideal) (e' := .f32) (S := S32x1024) (up2 (rowsAt (n := 32) W 0)) (Rect.unit (s := S32x1024) ![k, 0] ![1, 1024] i) = up2 (rowsAt (n := 1) W k) := by
  funext j
  refine congrArg Real.toEReal (congrArg₂ W ?_ (Fin.ext ?_))
  · show 0 + (k + 1 * (j 0).val) = k + (j 0).val
    omega
  · show 0 + 1 * (j 1).val = (j 1).val
    omega

theorem read_down280 (v : View sg κ sp S288x1024 .f32) (T : ℕ → Fin 1024 → ℝ) (o : ℕ) (ia ib io) :
    v.readCov (Val := Elt Ideal) [(⟨Rect.unit (s := S288x1024) ![256, 0] S32x1024.size ia, up2 (rowsAt T 256)⟩ : View.Piece (Elt Ideal) S288x1024 .f32),
        ⟨Rect.unit (s := S288x1024) ![0, 0] S256x1024.size ib, up2 (rowsAt T 0)⟩] (Rect.unit (s := S288x1024) ![o, 0] S280x1024.size io).toLoadRect
      = up2 (rowsAt T o) := read_down v T _ o ia ib io

theorem read_up280 (v : View sg κ sp S288x1024 .f32) (T : ℕ → Fin 1024 → ℝ) (o : ℕ) (ia ib io) :
    v.readCov (Val := Elt Ideal) [(⟨Rect.unit (s := S288x1024) ![32, 0] S256x1024.size ia, up2 (rowsAt T 32)⟩ : View.Piece (Elt Ideal) S288x1024 .f32),
        ⟨Rect.unit (s := S288x1024) ![0, 0] S32x1024.size ib, up2 (rowsAt T 0)⟩] (Rect.unit (s := S288x1024) ![o, 0] S280x1024.size io).toLoadRect
      = up2 (rowsAt T o) := read_up v T _ o ia ib io

theorem read_down256 (v : View sg κ sp S288x1024 .f32) (T : ℕ → Fin 1024 → ℝ) (o : ℕ) (ia ib io) :
    v.readCov (Val := Elt Ideal) [(⟨Rect.unit (s := S288x1024) ![256, 0] S32x1024.size ia, up2 (rowsAt T 256)⟩ : View.Piece (Elt Ideal) S288x1024 .f32),
        ⟨Rect.unit (s := S288x1024) ![0, 0] S256x1024.size ib, up2 (rowsAt T 0)⟩] (Rect.unit (s := S288x1024) ![o, 0] S256x1024.size io).toLoadRect
      = up2 (rowsAt T o) := read_down v T _ o ia ib io

theorem read_up256 (v : View sg κ sp S288x1024 .f32) (T : ℕ → Fin 1024 → ℝ) (o : ℕ) (ia ib io) :
    v.readCov (Val := Elt Ideal) [(⟨Rect.unit (s := S288x1024) ![32, 0] S256x1024.size ia, up2 (rowsAt T 32)⟩ : View.Piece (Elt Ideal) S288x1024 .f32),
        ⟨Rect.unit (s := S288x1024) ![0, 0] S32x1024.size ib, up2 (rowsAt T 0)⟩] (Rect.unit (s := S288x1024) ![o, 0] S256x1024.size io).toLoadRect
      = up2 (rowsAt T o) := read_up v T _ o ia ib io

theorem read_row' (W : ℕ → Fin 1024 → ℝ) (k : ℕ) (i) :
    View.ld (Val := Elt Ideal) (e' := .f32) (S := S32x1024) (up2 (rowsAt (n := 32) W 0)) (Rect.unit (s := S32x1024) ![k, 0] S1x1024.size i) = up2 (rowsAt (n := 1) W k) :=
  read_row W k i

theorem read_copy' (v : View sg κ sp S7x280x1024 .f32) (T : ℕ → Fin 1024 → ℝ) (k o : ℕ) (i0 i1 i2 i3 i4 i5 i6 ik io) (h0 hs h1)
    (hR : (Rect.unit (s := S280x1024) ![o, 0] S256x1024.size io).toLoadRect.shape.numel
      = ((Rect.unit (s := S7x280x1024) ![k, 0, 0] S1x280x1024.size ik).withinL
        (LoadRect.consLift (Rect.unit (s := S280x1024) ![o, 0] S256x1024.size io).toLoadRect ![1, 280, 1024] h0 hs) h1).shape.numel) :
    LoadRect.valAlong hR (v.readCov (Val := Elt Ideal)
        [(⟨Rect.unit (s := S7x280x1024) ![6, 0, 0] S1x280x1024.size i6, copyAt T 7⟩ : View.Piece (Elt Ideal) S7x280x1024 .f32),
          ⟨Rect.unit (s := S7x280x1024) ![5, 0, 0] S1x280x1024.size i5, copyAt T 6⟩, ⟨Rect.unit (s := S7x280x1024) ![4, 0, 0] S1x280x1024.size i4, copyAt T 5⟩,
          ⟨Rect.unit (s := S7x280x1024) ![3, 0, 0] S1x280x1024.size i3, copyAt T 4⟩, ⟨Rect.unit (s := S7x280x1024) ![2, 0, 0] S1x280x1024.size i2, copyAt T 3⟩,
          ⟨Rect.unit (s := S7x280x1024) ![1, 0, 0] S1x280x1024.size i1, copyAt T 2⟩, ⟨Rect.unit (s := S7x280x1024) ![0, 0, 0] S1x280x1024.size i0, copyAt T 1⟩]
        ((Rect.unit (s := S7x280x1024) ![k, 0, 0] S1x280x1024.size ik).withinL
          (LoadRect.consLift (Rect.unit (s := S280x1024) ![o, 0] S256x1024.size io).toLoadRect ![1, 280, 1024] h0 hs) h1))
      = up2 (rowsAt (n := 256) T (k + 1 + o)) := read_copy v T k o i0 i1 i2 i3 i4 i5 i6 ik io h0 hs h1 hR

/-! ## The rows of the weight's gradient -/

/-- What a point leaves of the weight's gradient once its first `n` rows are stored. -/
def upto (P A U : ℕ → Fin 1024 → ℝ) (n : ℕ) (r : Fin 32) (c : Fin 1024) : ℝ :=
  if r.val < n then P r.val c + ∑ i : Fin 256, A i.val c * U (r.val + 2 + i.val) c else P r.val c

theorem upto_zero (P A U : ℕ → Fin 1024 → ℝ) : upto P A U 0 = rowsAt P 0 := by
  funext r c
  exact (if_neg (Nat.not_lt_zero _)).trans (congrArg (P · c) (Nat.zero_add _).symm)

theorem pay5 : k0_pay5 (F := Ideal) = up2 (rowsAt (n := 32) (fun _ _ => 0) 0) := by
  funext j
  idx_vars j
  pointwise [k0_pay5, up2, rowsAt]
  rfl

/-- The rows just filled. -/
theorem filled (v : View sg κ sp S32x1024 .f32) (f : v.ty.Contents (Elt Ideal)) (i) (P : Fin 32 → Fin 1024 → ℝ) :
    v.read (Elt Ideal) (v.writes (Elt Ideal) f [(⟨Rect.unit (s := S32x1024) ![0, 0] S32x1024.size i, up2 P⟩ : View.Piece (Elt Ideal) S32x1024 .f32)]) = up2 P := by
  funext y
  refine View.read_writes_cons_unit_of_mem v f i (up2 P) [] y y rfl fun a => ?_
  match a with
  | ⟨0, _⟩ => exact (Nat.zero_add _).symm
  | ⟨1, _⟩ => exact (Nat.zero_add _).symm

/-- The next row's store. -/
theorem next_row {v : View sg κ sp S32x1024 .f32} {f : v.ty.Contents (Elt Ideal)} {L : List (View.Piece (Elt Ideal) S32x1024 .f32)} {P A U : ℕ → Fin 1024 → ℝ} {n o : ℕ}
    {i} {w : Vec Ideal S1x1024 .f32} (h : v.read (Elt Ideal) (v.writes (Elt Ideal) f L) = up2 (upto P A U n))
    (hw : w = up2 fun (_ : Fin 1) c => P n c + ∑ r : Fin 256, A r.val c * U (o + r.val) c) (ho : o = n + 2) :
    v.read (Elt Ideal) (v.writes (Elt Ideal) f ((⟨Rect.unit (s := S32x1024) ![n, 0] S1x1024.size i, w⟩ : View.Piece (Elt Ideal) S32x1024 .f32) :: L))
      = up2 (upto P A U (n + 1)) := by
  subst ho
  funext y
  obtain ⟨y0, y1, rfl⟩ := ix2_of y
  by_cases e : y0.val = n
  · refine (View.read_writes_cons_unit_of_mem v f i w L _ (ix2 (0 : Fin 1) y1) rfl fun a => ?_).trans ?_
    · match a with
      | ⟨0, _⟩ => exact e
      | ⟨1, _⟩ => exact (Nat.zero_add _).symm
    · rw [hw]
      subst e
      exact congrArg Real.toEReal (if_pos (Nat.lt_succ_self _)).symm
  · refine (View.read_writes_cons_unit_of_not_mem v f i w L _ rfl 0 (show y0.val < n ∨ n + 1 ≤ y0.val by omega)).trans ?_
    rw [h]
    refine congrArg Real.toEReal ?_
    unfold upto
    exact if_congr (show y0.val < n ↔ y0.val < n + 1 by omega) rfl rfl

/-! ## The terms of the sums -/

/-- One more term: a row of weights times a run of rows. -/
theorem term {x b : FVec Ideal S256x1024 .f32} {w : FVec Ideal S1x1024 .f32} {X : Fin 256 → Fin 1024 → ℝ} {W T : ℕ → Fin 1024 → ℝ} {k o : ℕ} {h} {hb}
    (hx : x = up2 X) (hw : w = up2 (rowsAt (n := 1) W k)) (hT : b = up2 (rowsAt (n := 256) T o)) :
    addf x (mulf (broadcastTo S256x1024 (shapeCast S1x1024 w h) hb) b) = up2 fun r c => X r c + W k c * T (o + r.val) c := by
  rw [hx, hw, hT, same_rows]
  funext j
  idx_vars j
  pointwise [up2, rowsAt]
  simp only [← EReal.coe_mul, ← EReal.coe_add]

theorem none_yet : broadcast S256x1024 (Scalar.ofBits (F := Ideal) .f32 0x00000000#32) = up2 fun (_ : Fin 256) (_ : Fin 1024) => 0 := by
  funext j
  idx_vars j
  pointwise [up2]
  rfl

/-- A row of the weight's gradient: the row of before and the sum over the tile's rows. -/
theorem more {p : FVec Ideal S1x1024 .f32} {a b : FVec Ideal S256x1024 .f32} {P A T : ℕ → Fin 1024 → ℝ} {k o : ℕ} {h hv hs}
    (hp : p = up2 (rowsAt (n := 1) P k)) (ha : a = up2 (rowsAt (n := 256) A 0)) (hT : b = up2 (rowsAt (n := 256) T o)) :
    addf (shapeCast S1x1024 p h) (shapeCast S1x1024 (multiReduction .add [0] S1024 (mulf a b) 0x00000000#32 hs (.inl rfl) rfl) hv)
      = up2 fun (_ : Fin 1) c => P k c + ∑ r : Fin 256, A r.val c * T (o + r.val) c := by
  rw [hp, ha, hT]
  refine (kScale_real hs hv h (rowsAt A 0) (rowsAt T o) (rowsAt P k)).trans ?_
  funext j
  obtain ⟨j0, j1, rfl⟩ := ix2_of j
  simp only [up2_ix, rowsAt, Nat.zero_add]
  obtain rfl : j0 = 0 := Subsingleton.elim _ _
  rfl

theorem da_real {x s : FVec Ideal S256x1024 .f32} {X S : Fin 256 → Fin 1024 → ℝ} (hx : x = up2 X) (hs : s = up2 S) :
    k0_pay3 (F := Ideal) x s = up2 fun r c => X r c * S r c := by
  rw [hx, hs]
  funext j
  idx_vars j
  pointwise [k0_pay3, k0_pay2, up2]
  simp only [← EReal.coe_mul]

theorem db_real {x s a : FVec Ideal S256x1024 .f32} {X S A : Fin 256 → Fin 1024 → ℝ} (hx : x = up2 X) (hs : s = up2 S) (ha : a = up2 A) :
    k0_pay4 (F := Ideal) x s a = up2 fun r c => X r c * A r c * S r c * (1 - S r c) := by
  rw [hx, hs, ha]
  funext j
  idx_vars j
  pointwise [k0_pay4, k0_pay2, up2]
  simp only [← EReal.coe_one, ← EReal.coe_mul, ← EReal.coe_sub]

theorem branches {x s a : FVec Ideal S256x1024 .f32} {X Y S A : Fin 256 → Fin 1024 → ℝ} (hx : x = up2 X) (hX : ∀ r c, X r c = Y r c) (hs : s = up2 S) (ha : a = up2 A) :
    (k0_pay3 (F := Ideal) x s = up2 fun r c => Y r c * S r c) ∧ k0_pay4 (F := Ideal) x s a = up2 fun r c => Y r c * A r c * S r c * (1 - S r c) := by
  obtain rfl : X = Y := funext fun r => funext (hX r)
  exact ⟨da_real hx hs, db_real hx hs ha⟩

end Cert.Conv

end
-- ==== Proof.Conv.Point.lean ====
/-
  The backward kernel of the convolution: what its body leaves at a point, from the tables that its blocks are runs of.
-/
module

public import proofs.«01_k».proof.Proof.Conv.Body

@[expose] public section

set_option maxRecDepth 65536

noncomputable section

open Idealize.ShloMosaic Idealize.ShloMosaic.TcCoe Idealize.SL.Sem Cert.Lift
open Idealize.ShloMosaic.Pipeline (Dat)

namespace Cert.Conv

open Cert.Kernel2Ideal Cert.Kernel2Ideal.Gen

variable (m : (ℓ : Loc nD τ sig) → Buf (Elt Ideal) ℓ) (c : Dev nD)

/-- The blocks at a point are runs of two tables, one of cotangents from the tile's first row on and one of the gated input from 32 rows
before it, and of the weights. -/
structure At (t : Fin cfg0.N) (T U W : ℕ → Fin 1024 → ℝ) (A S : Fin 256 → Fin 1024 → ℝ) : Prop where
  d : iblk m c 0 t = up2 (rowsAt (n := 256) T 0)
  d' : k0_pay7 (grid0.coords t) (iblk m c 1 t) = up2 (rowsAt (n := 32) T 256)
  u : iblk m c 2 t = up2 (rowsAt (n := 256) U 32)
  u' : k0_pay8 (grid0.coords t) (iblk m c 3 t) = up2 (rowsAt (n := 32) U 0)
  a : iblk m c 4 t = up2 A
  s : iblk m c 5 t = up2 S
  w : iblk m c 6 t = up2 (rowsAt (n := 32) W 0)

/-- The gradient of the gated input: the later cotangents, each by its tap's weight. -/
def duAt (T W : ℕ → Fin 1024 → ℝ) (r : Fin 256) (c : Fin 1024) : ℝ := ∑ k ∈ Finset.range 31, W k c * T (30 - k + r.val) c

theorem du_sum (T W : ℕ → Fin 1024 → ℝ) (r : Fin 256) (c : Fin 1024) : ((((((((((((((((((((((((((((((0 + W 0 c * T (30 + r.val) c) + W 1 c * T (29 + r.val) c) + W 2 c * T (28 + r.val) c) + W 3 c * T (27 + r.val) c) + W 4 c * T (26 + r.val) c) + W 5 c * T (25 + r.val) c) + W 6 c * T (24 + r.val) c) + W 7 c * T (23 + r.val) c) + W 8 c * T (22 + r.val) c) + W 9 c * T (21 + r.val) c) + W 10 c * T (20 + r.val) c) + W 11 c * T (19 + r.val) c) + W 12 c * T (18 + r.val) c) + W 13 c * T (17 + r.val) c) + W 14 c * T (16 + r.val) c) + W 15 c * T (15 + r.val) c) + W 16 c * T (14 + r.val) c) + W 17 c * T (13 + r.val) c) + W 18 c * T (12 + r.val) c) + W 19 c * T (11 + r.val) c) + W 20 c * T (10 + r.val) c) + W 21 c * T (9 + r.val) c) + W 22 c * T (8 + r.val) c) + W 23 c * T (7 + r.val) c) + W 24 c * T (6 + r.val) c) + W 25 c * T (5 + r.val) c) + W 26 c * T (4 + r.val) c) + W 27 c * T (3 + r.val) c) + W 28 c * T (2 + r.val) c) + W 29 c * T (1 + r.val) c) + W 30 c * T (0 + r.val) c = duAt T W r c := by
  unfold duAt
  simp only [Finset.sum_range_succ, Finset.sum_range_zero, Nat.reduceSub]

variable {m c}

set_option maxHeartbeats 4000000 in
/-- The gradients of the two branches that a point leaves. -/
theorem outs_ab {t : Fin cfg0.N} {T U W : ℕ → Fin 1024 → ℝ} {A S : Fin 256 → Fin 1024 → ℝ} (h : At m c t T U W A S) :
    (outsAt0 m c t.val t.isLt).1 = (up2 fun r c => duAt T W r c * S r c)
      ∧ (outsAt0 m c t.val t.isLt).2.1 = up2 fun r c => duAt T W r c * A r c * S r c * (1 - S r c) := by
  by_cases ht : t.val % 16 = 0
  on_goal 1 => rw [outsAt0_A m c t ht]
  on_goal 2 => rw [outsAt0_B m c t ht]
  on_goal 1 => dsimp only; unfold out0_A_7 out0_A_8
  on_goal 2 => dsimp only; unfold out0_B_7 out0_B_8
  all_goals
    frame_open
    simp -proj (disch := decide) only [View.read_writes_junk_eq_canon, View.canon_cons_unit_lit', View.readAt_eq_ld, View.ld_unit_lit', Memref.IsWhole.read_unread]
    simp -proj only [h.d, h.d', h.u, h.u', h.a, h.s, h.w, pay6, pay9, read_down280, read_down256, read_up280, read_up256, read_row', pay10, pay11, pay12, pay13, pay14, pay15, pay16, pay17, pay18, pay19, pay20, pay21, pay22, pay23]
    simp -proj only [k0_pay1, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
    exact branches
      (term (term (term (term (term (term (term (term (term (term (term (term (term (term (term (term (term (term (term (term (term (term (term (term (term (term (term (term (term (term (term none_yet
    rfl (read_copy' _ T 5 24 _ _ _ _ _ _ _ _ _ _ _ _ _))
    rfl (read_copy' _ T 4 24 _ _ _ _ _ _ _ _ _ _ _ _ _))
    rfl (read_copy' _ T 3 24 _ _ _ _ _ _ _ _ _ _ _ _ _))
    rfl (read_copy' _ T 2 24 _ _ _ _ _ _ _ _ _ _ _ _ _))
    rfl (read_copy' _ T 1 24 _ _ _ _ _ _ _ _ _ _ _ _ _))
    rfl (read_copy' _ T 0 24 _ _ _ _ _ _ _ _ _ _ _ _ _))
    rfl rfl)
    rfl (read_copy' _ T 6 16 _ _ _ _ _ _ _ _ _ _ _ _ _))
    rfl (read_copy' _ T 5 16 _ _ _ _ _ _ _ _ _ _ _ _ _))
    rfl (read_copy' _ T 4 16 _ _ _ _ _ _ _ _ _ _ _ _ _))
    rfl (read_copy' _ T 3 16 _ _ _ _ _ _ _ _ _ _ _ _ _))
    rfl (read_copy' _ T 2 16 _ _ _ _ _ _ _ _ _ _ _ _ _))
    rfl (read_copy' _ T 1 16 _ _ _ _ _ _ _ _ _ _ _ _ _))
    rfl (read_copy' _ T 0 16 _ _ _ _ _ _ _ _ _ _ _ _ _))
    rfl rfl)
    rfl (read_copy' _ T 6 8 _ _ _ _ _ _ _ _ _ _ _ _ _))
    rfl (read_copy' _ T 5 8 _ _ _ _ _ _ _ _ _ _ _ _ _))
    rfl (read_copy' _ T 4 8 _ _ _ _ _ _ _ _ _ _ _ _ _))
    rfl (read_copy' _ T 3 8 _ _ _ _ _ _ _ _ _ _ _ _ _))
    rfl (read_copy' _ T 2 8 _ _ _ _ _ _ _ _ _ _ _ _ _))
    rfl (read_copy' _ T 1 8 _ _ _ _ _ _ _ _ _ _ _ _ _))
    rfl (read_copy' _ T 0 8 _ _ _ _ _ _ _ _ _ _ _ _ _))
    rfl rfl)
    rfl (read_copy' _ T 6 0 _ _ _ _ _ _ _ _ _ _ _ _ _))
    rfl (read_copy' _ T 5 0 _ _ _ _ _ _ _ _ _ _ _ _ _))
    rfl (read_copy' _ T 4 0 _ _ _ _ _ _ _ _ _ _ _ _ _))
    rfl (read_copy' _ T 3 0 _ _ _ _ _ _ _ _ _ _ _ _ _))
    rfl (read_copy' _ T 2 0 _ _ _ _ _ _ _ _ _ _ _ _ _))
    rfl (read_copy' _ T 1 0 _ _ _ _ _ _ _ _ _ _ _ _ _))
    rfl (read_copy' _ T 0 0 _ _ _ _ _ _ _ _ _ _ _ _ _))
    rfl rfl) (du_sum T W) rfl rfl

set_option maxHeartbeats 4000000 in
/-- The weight's gradient that a later point leaves, from what the point before left. -/
theorem outs_w_later {t : Fin cfg0.N} {T U W P : ℕ → Fin 1024 → ℝ} {A S : Fin 256 → Fin 1024 → ℝ} (h : At m c t T U W A S) (ht : ¬ t.val % 16 = 0)
    (hP : (outsAt0 m c (t.val - 1) (lt_of_le_of_lt (Nat.sub_le _ _) t.isLt)).2.2 = up2 (rowsAt (n := 32) P 0)) :
    (outsAt0 m c t.val t.isLt).2.2 = up2 (upto P T U 31) := by
  rw [outsAt0_B m c t ht]
  dsimp only
  rw [hP]
  unfold out0_B_9
  frame_open
  simp -proj (disch := decide) only [View.readAt_eq_ld, View.ld_unit_lit', Memref.IsWhole.read_unread]
  simp -proj only [h.d, h.d', h.u, h.u', h.a, h.s, h.w, pay6, pay9, read_down280, read_down256, read_up280, read_up256, read_row', pay10, pay11, pay12, pay13, pay14, pay15, pay16, pay17, pay18, pay19, pay20, pay21, pay22, pay23]
  simp -proj only [k0_pay1, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
  have hb := congrArg up2 (upto_zero P T U).symm
  exact
    (next_row (next_row (next_row (next_row (next_row (next_row (next_row (next_row (next_row (next_row (next_row (next_row (next_row (next_row (next_row (next_row (next_row (next_row (next_row (next_row (next_row (next_row (next_row (next_row (next_row (next_row (next_row (next_row (next_row (next_row (next_row ((Memref.IsWhole.read_unread _ _).trans hb)
      (more (P := P) (T := U) (k := 0) (o := 2) rfl rfl (read_copy' _ U 1 0 _ _ _ _ _ _ _ _ _ _ _ _ _)) rfl)
      (more (P := P) (T := U) (k := 1) (o := 3) rfl rfl (read_copy' _ U 2 0 _ _ _ _ _ _ _ _ _ _ _ _ _)) rfl)
      (more (P := P) (T := U) (k := 2) (o := 4) rfl rfl (read_copy' _ U 3 0 _ _ _ _ _ _ _ _ _ _ _ _ _)) rfl)
      (more (P := P) (T := U) (k := 3) (o := 5) rfl rfl (read_copy' _ U 4 0 _ _ _ _ _ _ _ _ _ _ _ _ _)) rfl)
      (more (P := P) (T := U) (k := 4) (o := 6) rfl rfl (read_copy' _ U 5 0 _ _ _ _ _ _ _ _ _ _ _ _ _)) rfl)
      (more (P := P) (T := U) (k := 5) (o := 7) rfl rfl (read_copy' _ U 6 0 _ _ _ _ _ _ _ _ _ _ _ _ _)) rfl)
      (more (P := P) (T := U) (k := 6) (o := 8) rfl rfl rfl) rfl)
      (more (P := P) (T := U) (k := 7) (o := 9) rfl rfl (read_copy' _ U 0 8 _ _ _ _ _ _ _ _ _ _ _ _ _)) rfl)
      (more (P := P) (T := U) (k := 8) (o := 10) rfl rfl (read_copy' _ U 1 8 _ _ _ _ _ _ _ _ _ _ _ _ _)) rfl)
      (more (P := P) (T := U) (k := 9) (o := 11) rfl rfl (read_copy' _ U 2 8 _ _ _ _ _ _ _ _ _ _ _ _ _)) rfl)
      (more (P := P) (T := U) (k := 10) (o := 12) rfl rfl (read_copy' _ U 3 8 _ _ _ _ _ _ _ _ _ _ _ _ _)) rfl)
      (more (P := P) (T := U) (k := 11) (o := 13) rfl rfl (read_copy' _ U 4 8 _ _ _ _ _ _ _ _ _ _ _ _ _)) rfl)
      (more (P := P) (T := U) (k := 12) (o := 14) rfl rfl (read_copy' _ U 5 8 _ _ _ _ _ _ _ _ _ _ _ _ _)) rfl)
      (more (P := P) (T := U) (k := 13) (o := 15) rfl rfl (read_copy' _ U 6 8 _ _ _ _ _ _ _ _ _ _ _ _ _)) rfl)
      (more (P := P) (T := U) (k := 14) (o := 16) rfl rfl rfl) rfl)
      (more (P := P) (T := U) (k := 15) (o := 17) rfl rfl (read_copy' _ U 0 16 _ _ _ _ _ _ _ _ _ _ _ _ _)) rfl)
      (more (P := P) (T := U) (k := 16) (o := 18) rfl rfl (read_copy' _ U 1 16 _ _ _ _ _ _ _ _ _ _ _ _ _)) rfl)
      (more (P := P) (T := U) (k := 17) (o := 19) rfl rfl (read_copy' _ U 2 16 _ _ _ _ _ _ _ _ _ _ _ _ _)) rfl)
      (more (P := P) (T := U) (k := 18) (o := 20) rfl rfl (read_copy' _ U 3 16 _ _ _ _ _ _ _ _ _ _ _ _ _)) rfl)
      (more (P := P) (T := U) (k := 19) (o := 21) rfl rfl (read_copy' _ U 4 16 _ _ _ _ _ _ _ _ _ _ _ _ _)) rfl)
      (more (P := P) (T := U) (k := 20) (o := 22) rfl rfl (read_copy' _ U 5 16 _ _ _ _ _ _ _ _ _ _ _ _ _)) rfl)
      (more (P := P) (T := U) (k := 21) (o := 23) rfl rfl (read_copy' _ U 6 16 _ _ _ _ _ _ _ _ _ _ _ _ _)) rfl)
      (more (P := P) (T := U) (k := 22) (o := 24) rfl rfl rfl) rfl)
      (more (P := P) (T := U) (k := 23) (o := 25) rfl rfl (read_copy' _ U 0 24 _ _ _ _ _ _ _ _ _ _ _ _ _)) rfl)
      (more (P := P) (T := U) (k := 24) (o := 26) rfl rfl (read_copy' _ U 1 24 _ _ _ _ _ _ _ _ _ _ _ _ _)) rfl)
      (more (P := P) (T := U) (k := 25) (o := 27) rfl rfl (read_copy' _ U 2 24 _ _ _ _ _ _ _ _ _ _ _ _ _)) rfl)
      (more (P := P) (T := U) (k := 26) (o := 28) rfl rfl (read_copy' _ U 3 24 _ _ _ _ _ _ _ _ _ _ _ _ _)) rfl)
      (more (P := P) (T := U) (k := 27) (o := 29) rfl rfl (read_copy' _ U 4 24 _ _ _ _ _ _ _ _ _ _ _ _ _)) rfl)
      (more (P := P) (T := U) (k := 28) (o := 30) rfl rfl (read_copy' _ U 5 24 _ _ _ _ _ _ _ _ _ _ _ _ _)) rfl)
      (more (P := P) (T := U) (k := 29) (o := 31) rfl rfl (read_copy' _ U 6 24 _ _ _ _ _ _ _ _ _ _ _ _ _)) rfl)
      (more (P := P) (T := U) (k := 30) (o := 32) rfl rfl (read_up _ U 256 32 _ _ _)) rfl)

end Cert.Conv

end
-- ==== Proof.Conv.First.lean ====
/-
  The backward kernel of the convolution: what its body leaves at the first point, from the tables that its blocks are runs of.
-/
module

public import proofs.«01_k».proof.Proof.Conv.Point

@[expose] public section

set_option maxRecDepth 65536

noncomputable section

open Idealize.ShloMosaic Idealize.ShloMosaic.TcCoe Idealize.SL.Sem Cert.Lift
open Idealize.ShloMosaic.Pipeline (Dat)

namespace Cert.Conv

open Cert.Kernel2Ideal Cert.Kernel2Ideal.Gen

variable {m : (ℓ : Loc nD τ sig) → Buf (Elt Ideal) ℓ} {c : Dev nD}

/-- A row's load passes over the stores of other rows. -/
theorem skip_row {κ : Kind} {sp : Space} {sg : RefSig} (v : View sg κ sp S32x1024 .f32) (r : Rect S32x1024) (w : r.shape.Idx → EReal)
    (L : List (View.Piece (Elt Ideal) S32x1024 .f32)) (B : LoadRect S32x1024) (h : LoadRect.disj r B = true) :
    v.readCov (Val := Elt Ideal) (⟨r, w⟩ :: L) B = v.readCov L B := View.readCov_skip v r w L B h

set_option maxHeartbeats 4000000 in
/-- The weight's gradient that the first point leaves: it fills the rows with zeros before. -/
theorem outs_w_first {t : Fin cfg0.N} {T U W : ℕ → Fin 1024 → ℝ} {A S : Fin 256 → Fin 1024 → ℝ} (h : At m c t T U W A S) (ht : t.val % 16 = 0) :
    (outsAt0 m c t.val t.isLt).2.2 = up2 (upto (fun _ _ => 0) T U 31) := by
  rw [outsAt0_A m c t ht]
  dsimp only
  unfold out0_A_9
  frame_open
  simp -proj (disch := decide) only [↓skip_row, ↓View.readCov_fill, View.readAt_eq_ld, View.ld_unit_lit', Memref.IsWhole.read_unread]
  simp -proj only [pay5, h.d, h.d', h.u, h.u', h.a, h.s, h.w, pay6, pay9, read_down280, read_down256, read_up280, read_up256, read_row', pay10, pay11, pay12, pay13, pay14, pay15, pay16, pay17, pay18, pay19, pay20, pay21, pay22, pay23]
  simp -proj only [k0_pay1, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85]
  have hb := congrArg up2 (upto_zero (fun _ _ => 0) T U).symm
  exact
    (next_row (next_row (next_row (next_row (next_row (next_row (next_row (next_row (next_row (next_row (next_row (next_row (next_row (next_row (next_row (next_row (next_row (next_row (next_row (next_row (next_row (next_row (next_row (next_row (next_row (next_row (next_row (next_row (next_row (next_row (next_row ((filled _ _ _ _).trans hb)
      (more (P := fun _ _ => 0) (T := U) (k := 0) (o := 2) rfl rfl (read_copy' _ U 1 0 _ _ _ _ _ _ _ _ _ _ _ _ _)) rfl)
      (more (P := fun _ _ => 0) (T := U) (k := 1) (o := 3) rfl rfl (read_copy' _ U 2 0 _ _ _ _ _ _ _ _ _ _ _ _ _)) rfl)
      (more (P := fun _ _ => 0) (T := U) (k := 2) (o := 4) rfl rfl (read_copy' _ U 3 0 _ _ _ _ _ _ _ _ _ _ _ _ _)) rfl)
      (more (P := fun _ _ => 0) (T := U) (k := 3) (o := 5) rfl rfl (read_copy' _ U 4 0 _ _ _ _ _ _ _ _ _ _ _ _ _)) rfl)
      (more (P := fun _ _ => 0) (T := U) (k := 4) (o := 6) rfl rfl (read_copy' _ U 5 0 _ _ _ _ _ _ _ _ _ _ _ _ _)) rfl)
      (more (P := fun _ _ => 0) (T := U) (k := 5) (o := 7) rfl rfl (read_copy' _ U 6 0 _ _ _ _ _ _ _ _ _ _ _ _ _)) rfl)
      (more (P := fun _ _ => 0) (T := U) (k := 6) (o := 8) rfl rfl rfl) rfl)
      (more (P := fun _ _ => 0) (T := U) (k := 7) (o := 9) rfl rfl (read_copy' _ U 0 8 _ _ _ _ _ _ _ _ _ _ _ _ _)) rfl)
      (more (P := fun _ _ => 0) (T := U) (k := 8) (o := 10) rfl rfl (read_copy' _ U 1 8 _ _ _ _ _ _ _ _ _ _ _ _ _)) rfl)
      (more (P := fun _ _ => 0) (T := U) (k := 9) (o := 11) rfl rfl (read_copy' _ U 2 8 _ _ _ _ _ _ _ _ _ _ _ _ _)) rfl)
      (more (P := fun _ _ => 0) (T := U) (k := 10) (o := 12) rfl rfl (read_copy' _ U 3 8 _ _ _ _ _ _ _ _ _ _ _ _ _)) rfl)
      (more (P := fun _ _ => 0) (T := U) (k := 11) (o := 13) rfl rfl (read_copy' _ U 4 8 _ _ _ _ _ _ _ _ _ _ _ _ _)) rfl)
      (more (P := fun _ _ => 0) (T := U) (k := 12) (o := 14) rfl rfl (read_copy' _ U 5 8 _ _ _ _ _ _ _ _ _ _ _ _ _)) rfl)
      (more (P := fun _ _ => 0) (T := U) (k := 13) (o := 15) rfl rfl (read_copy' _ U 6 8 _ _ _ _ _ _ _ _ _ _ _ _ _)) rfl)
      (more (P := fun _ _ => 0) (T := U) (k := 14) (o := 16) rfl rfl rfl) rfl)
      (more (P := fun _ _ => 0) (T := U) (k := 15) (o := 17) rfl rfl (read_copy' _ U 0 16 _ _ _ _ _ _ _ _ _ _ _ _ _)) rfl)
      (more (P := fun _ _ => 0) (T := U) (k := 16) (o := 18) rfl rfl (read_copy' _ U 1 16 _ _ _ _ _ _ _ _ _ _ _ _ _)) rfl)
      (more (P := fun _ _ => 0) (T := U) (k := 17) (o := 19) rfl rfl (read_copy' _ U 2 16 _ _ _ _ _ _ _ _ _ _ _ _ _)) rfl)
      (more (P := fun _ _ => 0) (T := U) (k := 18) (o := 20) rfl rfl (read_copy' _ U 3 16 _ _ _ _ _ _ _ _ _ _ _ _ _)) rfl)
      (more (P := fun _ _ => 0) (T := U) (k := 19) (o := 21) rfl rfl (read_copy' _ U 4 16 _ _ _ _ _ _ _ _ _ _ _ _ _)) rfl)
      (more (P := fun _ _ => 0) (T := U) (k := 20) (o := 22) rfl rfl (read_copy' _ U 5 16 _ _ _ _ _ _ _ _ _ _ _ _ _)) rfl)
      (more (P := fun _ _ => 0) (T := U) (k := 21) (o := 23) rfl rfl (read_copy' _ U 6 16 _ _ _ _ _ _ _ _ _ _ _ _ _)) rfl)
      (more (P := fun _ _ => 0) (T := U) (k := 22) (o := 24) rfl rfl rfl) rfl)
      (more (P := fun _ _ => 0) (T := U) (k := 23) (o := 25) rfl rfl (read_copy' _ U 0 24 _ _ _ _ _ _ _ _ _ _ _ _ _)) rfl)
      (more (P := fun _ _ => 0) (T := U) (k := 24) (o := 26) rfl rfl (read_copy' _ U 1 24 _ _ _ _ _ _ _ _ _ _ _ _ _)) rfl)
      (more (P := fun _ _ => 0) (T := U) (k := 25) (o := 27) rfl rfl (read_copy' _ U 2 24 _ _ _ _ _ _ _ _ _ _ _ _ _)) rfl)
      (more (P := fun _ _ => 0) (T := U) (k := 26) (o := 28) rfl rfl (read_copy' _ U 3 24 _ _ _ _ _ _ _ _ _ _ _ _ _)) rfl)
      (more (P := fun _ _ => 0) (T := U) (k := 27) (o := 29) rfl rfl (read_copy' _ U 4 24 _ _ _ _ _ _ _ _ _ _ _ _ _)) rfl)
      (more (P := fun _ _ => 0) (T := U) (k := 28) (o := 30) rfl rfl (read_copy' _ U 5 24 _ _ _ _ _ _ _ _ _ _ _ _ _)) rfl)
      (more (P := fun _ _ => 0) (T := U) (k := 29) (o := 31) rfl rfl (read_copy' _ U 6 24 _ _ _ _ _ _ _ _ _ _ _ _ _)) rfl)
      (more (P := fun _ _ => 0) (T := U) (k := 30) (o := 32) rfl rfl (read_up _ U 256 32 _ _ _)) rfl)

end Cert.Conv

end
-- ==== Proof.Conv.Result.lean ====
/-
  The backward kernel of the convolution: its three results as arrays of reals, from the arrays its windows read. The cotangents after
  the last row and the gated inputs before the first count as zeros.
-/
module

public import proofs.«01_k».proof.Proof.Conv.First

@[expose] public section

set_option maxRecDepth 16384

noncomputable section

open Idealize.ShloMosaic Idealize.ShloMosaic.TcCoe Idealize.SL.Sem Cert.Lift
open Idealize.ShloMosaic.Pipeline (Dat)

namespace Cert.Conv

open Cert.Kernel2Ideal Cert.Kernel2Ideal.Gen

/-- The rows of an array, and zeros after the last. -/
def after (D : Fin 4096 → Fin 1024 → ℝ) (n : ℕ) (c : Fin 1024) : ℝ := if h : n < 4096 then D ⟨n, h⟩ c else 0

/-- The rows of an array from row 32 on, and zeros before. -/
def before (U : Fin 4096 → Fin 1024 → ℝ) (n : ℕ) (c : Fin 1024) : ℝ := if 32 ≤ n then after U (n - 32) c else 0

/-- The gradient of the gated input. -/
def dU (D : Fin 4096 → Fin 1024 → ℝ) (W : ℕ → Fin 1024 → ℝ) (r : Fin 4096) (c : Fin 1024) : ℝ :=
  ∑ k ∈ Finset.range 31, W k c * after D (30 - k + r.val) c

/-- The gradients of the two branches. -/
def dA (D S : Fin 4096 → Fin 1024 → ℝ) (W : ℕ → Fin 1024 → ℝ) (r : Fin 4096) (c : Fin 1024) : ℝ := dU D W r c * S r c
@[inherit_doc dA]
def dB (D A S : Fin 4096 → Fin 1024 → ℝ) (W : ℕ → Fin 1024 → ℝ) (r : Fin 4096) (c : Fin 1024) : ℝ :=
  dU D W r c * A r c * S r c * (1 - S r c)

/-- A row's term of the gradient of tap `n`. -/
def tap (D U : Fin 4096 → Fin 1024 → ℝ) (n : ℕ) (c : Fin 1024) (i : Fin 4096) : ℝ := D i c * before U (n + 2 + i.val) c

/-- The gradient of the weights after `k` tiles. -/
def taps (D U : Fin 4096 → Fin 1024 → ℝ) (k n : ℕ) (c : Fin 1024) : ℝ := if n < 31 then part 256 (tap D U n c) k else 0

/-- The gradient of the weights, with a row of zeros after the 31 taps. -/
def dW (D U : Fin 4096 → Fin 1024 → ℝ) (n : Fin 32) (c : Fin 1024) : ℝ := if n.val < 31 then ∑ i, tap D U n.val c i else 0

variable (m : (ℓ : Loc nD τ sig) → Buf (Elt Ideal) ℓ) (c : Dev nD)
variable (D U A S : Fin 4096 → Fin 1024 → ℝ) (W : ℕ → Fin 1024 → ℝ)

/-- The windows' arrays hold these reals. -/
structure Reads : Prop where
  d : V m c (Pipeline.arrRef spec0 0) = up2 D
  d' : V m c (Pipeline.arrRef spec0 1) = up2 D
  u : V m c (Pipeline.arrRef spec0 2) = up2 U
  u' : V m c (Pipeline.arrRef spec0 3) = up2 U
  a : V m c (Pipeline.arrRef spec0 4) = up2 A
  s : V m c (Pipeline.arrRef spec0 5) = up2 S
  w : V m c (Pipeline.arrRef spec0 6) = up2 (rowsAt (n := 32) W 0)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = min (t.val * 8 + 8) 127 ∧ win0_1.index t 1 = 0 :=
  (by decide +kernel : ∀ t : Fin grid0.N, win0_1.index t 0 = min (t.val * 8 + 8) 127 ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val * 8 - 1 ∧ win0_3.index t 1 = 0 :=
  (by decide +kernel : ∀ t : Fin grid0.N, win0_3.index t 0 = t.val * 8 - 1 ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)

/-- The test for the last point, and for the first. -/
theorem isLast : ∀ t : Fin cfg0.N, Scalar.cmpi .eq (BitVec.ofNat 32 (grid0.coords t 0).val) 15#32 = if t.val = 15 then 1#1 else 0#1 :=
  (by decide +kernel : ∀ t : Fin grid0.N, Scalar.cmpi .eq (BitVec.ofNat 32 (grid0.coords t 0).val) 15#32 = if t.val = 15 then 1#1 else 0#1)
@[inherit_doc isLast]
theorem isFirst : ∀ t : Fin cfg0.N, Scalar.cmpi .eq (BitVec.ofNat 32 (grid0.coords t 0).val) 0#32 = if t.val = 0 then 1#1 else 0#1 :=
  (by decide +kernel : ∀ t : Fin grid0.N, Scalar.cmpi .eq (BitVec.ofNat 32 (grid0.coords t 0).val) 0#32 = if t.val = 0 then 1#1 else 0#1)

theorem lt16 (t : Fin cfg0.N) : t.val < 16 := lt_of_lt_of_eq t.isLt N_0

theorem rows_le (t : Fin cfg0.N) : t.val * 256 + 256 ≤ 4096 := by have := lt16 t; omega

/-- A tile's rows, as a run of the array's rows. -/
theorem rows_after {B : ℕ} {t : ℕ} (h : t * B + B ≤ 4096) (T : ℕ → Fin 1024 → ℝ) (o : ℕ) (hT : ∀ r < B, T (o + r) = after D (t * B + r)) :
    (rowsOf D t : Fin B → Fin 1024 → ℝ) = rowsAt T o := by
  funext r q
  have hr : t * B + r.val < 4096 := by have := r.isLt; omega
  refine Eq.trans ?_ (congrFun (hT r.val r.isLt) q).symm
  unfold after
  rw [dif_pos hr]
  exact congrArg (D · q) (Fin.ext (tileIx_val (N := 4096) (B := B) (s := t) r h))

/-- The next rows, or zeros at the last tile. -/
theorem pay7 {t : Fin cfg0.N} {T : ℕ → Fin 1024 → ℝ} {X : Fin 32 → Fin 1024 → ℝ} (h : t.val ≠ 15 → X = rowsAt T 256)
    (h0 : t.val = 15 → ∀ r q, rowsAt (n := 32) T 256 r q = 0) : k0_pay7 (F := Ideal) (grid0.coords t) (up2 X) = up2 (rowsAt (n := 32) T 256) := by
  by_cases e : t.val = 15
  · funext j
    idx_vars j
    pointwise [k0_pay7, up2]
    rw [h0 e]
    have := isLast t
    rw [if_pos e] at this
    simp only [this]
    rfl
  · rw [← h e]
    funext j
    idx_vars j
    pointwise [k0_pay7, up2]
    have := isLast t
    rw [if_neg e] at this
    simp only [this]
    rfl

/-- The rows before, or zeros at the first tile. -/
theorem pay8 {t : Fin cfg0.N} {T : ℕ → Fin 1024 → ℝ} {X : Fin 32 → Fin 1024 → ℝ} (h : t.val ≠ 0 → X = rowsAt T 0)
    (h0 : t.val = 0 → ∀ r q, rowsAt (n := 32) T 0 r q = 0) : k0_pay8 (F := Ideal) (grid0.coords t) (up2 X) = up2 (rowsAt (n := 32) T 0) := by
  by_cases e : t.val = 0
  · funext j
    idx_vars j
    pointwise [k0_pay8, up2]
    rw [h0 e]
    have := isFirst t
    rw [if_pos e] at this
    simp only [this]
    rfl
  · rw [← h e]
    funext j
    idx_vars j
    pointwise [k0_pay8, up2]
    have := isFirst t
    rw [if_neg e] at this
    simp only [this]
    rfl

variable {m c D U A S W}

/-- The blocks at a point are runs of the arrays' rows. -/
theorem at_point (h : Reads m c D U A S W) (t : Fin cfg0.N) :
    At m c t (fun n => after D (t.val * 256 + n)) (fun n => before U (t.val * 256 + n)) W (rowsOf A t.val) (rowsOf S t.val) where
  d := by
    unfold iblk
    rw [h.d]
    refine (rows_comp D (rows_le t) _ (idx0 t) (fun _ => rfl) fun _ => rfl).trans (congrArg up2 ?_)
    exact rows_after D (rows_le t) _ 0 fun r _ => by rw [Nat.zero_add]
  d' := by
    have ht := lt16 t
    have e : iblk m c 1 t = up2 (rowsOf (B := 32) D (min (t.val * 8 + 8) 127)) := by
      unfold iblk
      rw [h.d']
      exact rows_comp D (B := 32) (t := min (t.val * 8 + 8) 127) (by omega) _ (idx1 t) (fun _ => rfl) fun _ => rfl
    rw [e]
    refine pay7 (fun hn => ?_) fun hn r q => ?_
    · refine rows_after D (by omega) _ 256 fun r _ => congrArg (after D) ?_
      omega
    · exact dif_neg (show ¬ t.val * 256 + (256 + r.val) < 4096 by omega)
  u := by
    unfold iblk
    rw [h.u]
    refine (rows_comp U (rows_le t) _ (idx2 t) (fun _ => rfl) fun _ => rfl).trans (congrArg up2 ?_)
    refine rows_after U (rows_le t) _ 32 fun r _ => funext fun q => ?_
    exact (if_pos (by omega)).trans (congrArg (after U · q) (by omega))
  u' := by
    have ht := lt16 t
    have e : iblk m c 3 t = up2 (rowsOf (B := 32) U (t.val * 8 - 1)) := by
      unfold iblk
      rw [h.u']
      exact rows_comp U (B := 32) (t := t.val * 8 - 1) (by omega) _ (idx3 t) (fun _ => rfl) fun _ => rfl
    rw [e]
    refine pay8 (fun hn => ?_) fun hn r q => ?_
    · refine rows_after U (by omega) _ 0 fun r _ => funext fun q => ?_
      exact (if_pos (by omega)).trans (congrArg (after U · q) (by omega))
    · exact if_neg (show ¬ 32 ≤ t.val * 256 + (0 + r.val) by have := r.isLt; omega)
  a := by
    unfold iblk
    rw [h.a]
    exact rows_comp A (rows_le t) _ (idx4 t) (fun _ => rfl) fun _ => rfl
  s := by
    unfold iblk
    rw [h.s]
    exact rows_comp S (rows_le t) _ (idx5 t) (fun _ => rfl) fun _ => rfl
  w := by
    unfold iblk
    rw [h.w]
    exact whole_comp (rowsAt (n := 32) W 0) _ (idx6 t) (fun _ => rfl) fun _ => rfl

/-- A tile's rows of the gated input's gradient. -/
theorem du_tile (t : Fin cfg0.N) (r : Fin 256) (q : Fin 1024) : duAt (fun n => after D (t.val * 256 + n)) W r q = dU D W (tileIx 4096 256 t.val r) q := by
  unfold duAt dU
  rw [tileIx_val _ (rows_le t)]
  exact Finset.sum_congr rfl fun k _ => congrArg (fun n => W k q * after D n q) (by omega)

theorem outs_da (h : Reads m c D U A S W) (t : Fin cfg0.N) : (outsAt0 m c t.val t.isLt).1 = up2 (rowsOf (dA D S W) t.val) := by
  refine (outs_ab (at_point h t)).1.trans (congrArg up2 (funext fun r => funext fun q => ?_))
  rw [du_tile]
  rfl

theorem outs_db (h : Reads m c D U A S W) (t : Fin cfg0.N) : (outsAt0 m c t.val t.isLt).2.1 = up2 (rowsOf (dB D A S W) t.val) := by
  refine (outs_ab (at_point h t)).2.trans (congrArg up2 (funext fun r => funext fun q => ?_))
  rw [du_tile]
  rfl

/-- One tile more of the weights' gradient. -/
theorem taps_succ (t : Fin cfg0.N) :
    upto (taps D U t.val) (fun n => after D (t.val * 256 + n)) (fun n => before U (t.val * 256 + n)) 31 = rowsAt (taps D U (t.val + 1)) 0 := by
  funext r q
  unfold upto rowsAt taps
  rw [Nat.zero_add]
  by_cases e : r.val < 31
  · simp only [if_pos e]
    rw [part_succ]
    refine congrArg (_ + ·) (Finset.sum_congr rfl fun i _ => ?_)
    have hi := tileIx_val (N := 4096) (B := 256) (s := t.val) i (rows_le t)
    unfold tap
    rw [hi]
    refine congrArg₂ (· * ·) ((dif_pos (show t.val * 256 + i.val < 4096 by have := rows_le t; omega)).trans (congrArg (D · q) (Fin.ext hi.symm))) ?_
    exact congrArg (before U · q) (by omega)
  · simp only [if_neg e]

theorem outs_dw (h : Reads m c D U A S W) : ∀ (n : ℕ) (hn : n < cfg0.N), (outsAt0 m c n hn).2.2 = up2 (rowsAt (n := 32) (taps D U (n + 1)) 0)
  | 0, hn => by
    refine (outs_w_first (at_point h ⟨0, hn⟩) rfl).trans (congrArg up2 ?_)
    refine Eq.trans ?_ (taps_succ ⟨0, hn⟩)
    have e : taps D U 0 = fun _ _ => 0 := by
      funext k q
      unfold taps
      rw [part_zero, ite_self]
    rw [e]
  | n + 1, hn => by
    have hN : n + 1 < 16 := lt_of_lt_of_eq hn N_0
    refine (outs_w_later (at_point h ⟨n + 1, hn⟩) (by dsimp only; omega) (outs_dw h n (Nat.lt_of_succ_lt hn))).trans (congrArg up2 ?_)
    exact taps_succ ⟨n + 1, hn⟩

/-- Result 0: the gradient of the first branch. -/
theorem final7 (h : Reads m c D U A S W) : (dats m 0 c).arrAt 7 cfg0.N = up2 (dA D S W) := by
  refine (dats m 0 c).arrAt_eq_of_cover 7 (up2 (dA D S W)) (fun t _ => ?_) fun i => ?_
  · rw [Value.flushed7, outs_da h t]
    exact (rows_comp (dA D S W) (rows_le t) _ (idx7 t) (fun _ => rfl) fun _ => rfl).symm
  · have ht : (i 0 : Nat) / 256 < cfg0.N := lt_of_lt_of_eq (tile_bounds (A := 16) (B := 256) (by norm_num) (i 0).isLt).1 N_0.symm
    refine ⟨⟨(i 0 : Nat) / 256, ht⟩, flush0_7 _, ?_⟩
    show i ∈ ((View.whole main_v16_0).slice (win0_7.rect ⟨(i 0 : Nat) / 256, ht⟩)).set
    rw [View.set_slice_whole, Rect.mem_set_unit]
    exact in_tile (by norm_num) i _ (idx7 _)

/-- Result 1: the gradient of the second branch. -/
theorem final8 (h : Reads m c D U A S W) : (dats m 0 c).arrAt 8 cfg0.N = up2 (dB D A S W) := by
  refine (dats m 0 c).arrAt_eq_of_cover 8 (up2 (dB D A S W)) (fun t _ => ?_) fun i => ?_
  · rw [Value.flushed8, outs_db h t]
    exact (rows_comp (dB D A S W) (rows_le t) _ (idx8 t) (fun _ => rfl) fun _ => rfl).symm
  · have ht : (i 0 : Nat) / 256 < cfg0.N := lt_of_lt_of_eq (tile_bounds (A := 16) (B := 256) (by norm_num) (i 0).isLt).1 N_0.symm
    refine ⟨⟨(i 0 : Nat) / 256, ht⟩, flush0_8 _, ?_⟩
    show i ∈ ((View.whole main_v16_1).slice (win0_8.rect ⟨(i 0 : Nat) / 256, ht⟩)).set
    rw [View.set_slice_whole, Rect.mem_set_unit]
    exact in_tile (by norm_num) i _ (idx8 _)

/-- Result 2: the gradient of the weights. -/
theorem final9 (h : Reads m c D U A S W) : (dats m 0 c).arrAt 9 cfg0.N = up2 (dW D U) := by
  refine (dats m 0 c).arrAt_eq_of_cover 9 (up2 (dW D U)) (fun t hf => ?_) fun i => ?_
  · have ht : t.val + 1 = 16 := by have := (flush0_9 t).mp hf; have := lt16 t; omega
    have e : rowsAt (n := 32) (taps D U 16) 0 = dW D U := by
      funext r q
      unfold rowsAt taps dW
      rw [Nat.zero_add, part_all (show 16 * 256 = 4096 by norm_num)]
    rw [Value.flushed9, outs_dw h t.val t.isLt, ht, e]
    exact (whole_comp (dW D U) _ (idx9 t) (fun _ => rfl) fun _ => rfl).symm
  · have ht : 15 < cfg0.N := lt_of_lt_of_eq (by omega : 15 < 16) N_0.symm
    refine ⟨⟨15, ht⟩, (flush0_9 _).mpr rfl, ?_⟩
    show i ∈ ((View.whole main_v16_2).slice (win0_9.rect ⟨15, ht⟩)).set
    rw [View.set_slice_whole, Rect.mem_set_unit]
    exact in_whole i _ (idx9 _)

end Cert.Conv

end
-- ==== Proof.Qkv.Heads.lean ====
/-
  The backward kernel of the attention's projections: its body's operations on one head, and what its stores head by head leave in
  a block, on blocks of reals.
-/
module

public import proofs.«01_k».proof.Proof.Common.Rms
public import proofs.«01_k».proof.Proof.Common.Window
public import proofs.«01_k».proof.Proof.Gen.Kernel5Ideal.Value
public import Idealize.ShloMosaic.Lib.Pipeline.ValueKit.Acc
public import Idealize.ShloMosaic.Lib.Pipeline.ValueKit.Tiles
public import Idealize.ShloMosaic.Lib.KernelVsHost

@[expose] public section

set_option maxRecDepth 16384

noncomputable section

open Idealize.ShloMosaic Cert.Lift

namespace Cert.Qkv

open Cert.Kernel5Ideal Cert.Kernel5Ideal.Gen

/-- The scores' scale, as the nearest 32-bit float. -/
def scale : ℝ := 9686330 * (2 : ℝ) ^ (-27 : ℤ)

theorem lit_scale : Ideal.ofBits .f32 0x3D93CD3A#32 = ((scale : ℝ) : EReal) := by
  unfold scale; simp [Ideal.ofBits, Ideal.ieee, -EReal.coe_mul]

/-- The transposed rotation of a head's 128 lanes by the tables `c`, `a` and `b`. -/
def turn (c a b d : Fin 128 → ℝ) (i : Fin 128) : ℝ :=
  d i * c i - d ⟨(i.val + 32) % 128, Nat.mod_lt _ (by norm_num)⟩ * a i - d ⟨(i.val + 96) % 128, Nat.mod_lt _ (by norm_num)⟩ * b i

/-- The gradient of the projected queries, both parts of each head. -/
def dqOf (c a b : Fin 128 → ℝ) (q : Fin 2048 → ℝ) (x : Fin 2048) : ℝ :=
  if x.val % 256 < 128 then q x * scale
  else turn c a b (fun i => q ⟨x.val / 256 * 256 + 128 + i.val, by omega⟩) ⟨x.val % 256 - 128, by omega⟩ * scale

/-- The parts of the keys' gradient without the rotation, side by side. -/
def dkOf (k : Fin 2048 → ℝ) (x : Fin 1024) : ℝ := k ⟨x.val / 128 * 256 + x.val % 128, by omega⟩

theorem dqOf_lo (c a b : Fin 128 → ℝ) (q : Fin 2048 → ℝ) (n : ℕ) (i : Fin 128) (x : Fin 2048) (h : x.val = n * 256 + i.val) (hx) :
    dqOf c a b q x = q ⟨n * 256 + i.val, hx⟩ * scale := by
  unfold dqOf
  rw [if_pos (by omega)]
  exact congrArg (q · * scale) (Fin.ext h)

theorem dqOf_hi (c a b : Fin 128 → ℝ) (q : Fin 2048 → ℝ) (n : ℕ) (i : Fin 128) (x : Fin 2048) (h : x.val = n * 256 + 128 + i.val)
    (hx : ∀ i : Fin 128, n * 256 + 128 + i.val < 2048) :
    dqOf c a b q x = turn c a b (fun i => q ⟨n * 256 + 128 + i.val, hx i⟩) i * scale := by
  have e : x.val / 256 = n := by omega
  unfold dqOf
  rw [if_neg (by omega)]
  refine congrArg (· * scale) (congrArg₂ (turn c a b) (funext fun k => congrArg q (Fin.ext ?_)) (Fin.ext ?_))
  · show x.val / 256 * 256 + 128 + k.val = _
    rw [e]
  · show x.val % 256 - 128 = i.val
    omega

/-! ## One head -/

variable (C A B X : Fin 256 → Fin 128 → ℝ)

/-- The block turned by 96 lanes. -/
theorem roll96 (x : FVec Ideal S256x128 .f32) :
    dynamicRotate 1 96#32 none x rotates_S256x128_d1 = fun j => x (ix2 (j 0) ⟨((j 1).val + 32) % 128, Nat.mod_lt _ (by norm_num)⟩) :=
  funext fun j => dynamicRotate_apply 1 96#32 x _ j _ fun b => by
    have h1 : (j 1).val < 128 := (j 1).isLt
    match b with
    | ⟨0, _⟩ => rfl
    | ⟨1, _⟩ => show ((j 1).val + 32) % 128 = ((j 1).val + 128 - 96 % 128) % 128; omega

/-- The block turned by 32 lanes. -/
theorem roll32 (x : FVec Ideal S256x128 .f32) :
    dynamicRotate 1 32#32 none x rotates_S256x128_d1 = fun j => x (ix2 (j 0) ⟨((j 1).val + 96) % 128, Nat.mod_lt _ (by norm_num)⟩) :=
  funext fun j => dynamicRotate_apply 1 32#32 x _ j _ fun b => by
    have h1 : (j 1).val < 128 := (j 1).isLt
    match b with
    | ⟨0, _⟩ => rfl
    | ⟨1, _⟩ => show ((j 1).val + 96) % 128 = ((j 1).val + 128 - 32 % 128) % 128; omega

/-- The rotation as the body computes it. -/
theorem pay55 : k0_pay55 (F := Ideal) (up2 C) (up2 A) (up2 B) (up2 X) = up2 fun r => turn (C r) (A r) (B r) (X r) := by
  funext j
  idx_vars j
  unfold k0_pay55
  rw [roll96, roll32]
  pointwise
  simp only [up2_ix, ← EReal.coe_mul, ← EReal.coe_sub]
  rfl

theorem pay7 : k0_pay7 (F := Ideal) (up2 X) = up2 fun r i => X r i * scale := by
  funext j
  idx_vars j
  pointwise [k0_pay7]
  simp only [up2_ix, lit_scale, ← EReal.coe_mul]

theorem pay8 : k0_pay8 (F := Ideal) (up2 C) (up2 A) (up2 B) (up2 X) = up2 fun r i => turn (C r) (A r) (B r) (X r) i * scale := by
  funext j
  idx_vars j
  unfold k0_pay8
  rw [roll96, roll32]
  pointwise [k0_pay1, k0_pay2, k0_pay3]
  simp only [up2_ix, lit_scale, ← EReal.coe_mul, ← EReal.coe_sub]
  rfl

theorem pay11 : k0_pay11 (F := Ideal) (up2 X) = up2 X := by
  funext j
  idx_vars j
  pointwise [k0_pay11]

theorem pay12 : k0_pay12 (F := Ideal) (up2 A) (up2 X) = up2 fun r i => A r i + X r i := by
  funext j
  idx_vars j
  pointwise [k0_pay12]
  simp only [up2_ix, ← EReal.coe_add]

theorem pay15 (D : Fin 256 → Fin 384 → ℝ) (Q : Fin 256 → Fin 256 → ℝ) (W : Fin 1 → Fin 384 → Fin 256 → ℝ) :
    k0_pay15 (F := Ideal) (up2 D) (up2 Q) (up3 W) = up2 fun r c => D r c + ∑ k, Q r k * W 0 c k := by
  funext j
  idx_vars j
  pointwise [k0_pay15]
  simp only [up2_ix, up3_ix, zero_add, ← EReal.coe_mul, ← coe_sum, ← EReal.coe_add]

theorem pay5 : k0_pay5 (F := Ideal) = up2 fun _ _ => 0 := by
  funext j
  idx_vars j
  pointwise [k0_pay5]
  rfl

theorem pay6 : k0_pay6 (F := Ideal) = up2 fun _ _ => 0 := by
  funext j
  idx_vars j
  pointwise [k0_pay6]
  rfl

/-- A slice of a block's columns. -/
theorem ld_cols (P : Fin 256 → Fin 2048 → ℝ) (n o : ℕ) (hn : o + n ≤ 2048) (inb) :
    View.ld (Val := Elt Ideal) (e' := .bf16) (up2 P : S256x2048.Idx → EReal) (Rect.unit (s := S256x2048) ![0, o] ![256, n] inb)
      = up2 fun r (i : Fin n) => P r ⟨o + i.val, by omega⟩ := by
  funext x
  refine (View.ld_unit_apply_of _ _ _ _ _ (ix2 (x 0) ⟨o + (x 1).val, by have : (x 1).val < n := (x 1).isLt; omega⟩) fun a => ?_).trans rfl
  match a with
  | ⟨0, _⟩ => exact (Nat.zero_add _).symm
  | ⟨1, _⟩ => rfl

/-- One head's matrix. -/
theorem ld_head (W : Fin 8 → Fin 384 → Fin 256 → ℝ) (n : ℕ) (hn : n < 8) (inb) :
    View.ld (Val := Elt Ideal) (e' := .bf16) (up3 W : S8x384x256.Idx → EReal) (Rect.unit (s := S8x384x256) ![n, 0, 0] ![1, 384, 256] inb)
      = up3 fun _ => W ⟨n, hn⟩ := by
  funext x
  have h0 : (x 0).val < 1 := (x 0).isLt
  refine (View.ld_unit_apply_of _ _ _ _ _ (ix3 ⟨n, hn⟩ (x 1) (x 2)) fun a => ?_).trans rfl
  match a with
  | ⟨0, _⟩ => show n = n + (x 0).val; omega
  | ⟨1, _⟩ => exact (Nat.zero_add _).symm
  | ⟨2, _⟩ => exact (Nat.zero_add _).symm

/-! ## The stores of the first heads -/

/-- The place of a head's part of 128 columns fits. -/
theorem part_fits (o : ℕ) (h : o + 128 ≤ 2048) : ∀ a, (![0, o] : Fin 2 → ℕ) a + (![256, 128] : Fin 2 → ℕ) a ≤ S256x2048.size a := fun a =>
  match a with
  | ⟨0, _⟩ => by show 0 + 256 ≤ 256; omega
  | ⟨1, _⟩ => h

theorem half_fits (o : ℕ) (h : o + 128 ≤ 1024) : ∀ a, (![0, o] : Fin 2 → ℕ) a + (![256, 128] : Fin 2 → ℕ) a ≤ S256x1024.size a := fun a =>
  match a with
  | ⟨0, _⟩ => by show 0 + 256 ≤ 256; omega
  | ⟨1, _⟩ => h

theorem head_fits (n : ℕ) (h : n < 8) : ∀ a, (![0, n * 256] : Fin 2 → ℕ) a + (![256, 256] : Fin 2 → ℕ) a ≤ S256x2048.size a := fun a =>
  match a with
  | ⟨0, _⟩ => by show 0 + 256 ≤ 256; omega
  | ⟨1, _⟩ => by show n * 256 + 256 ≤ 2048; omega

theorem mat_fits (n : ℕ) (h : n < 8) : ∀ a, (![n, 0, 0] : Fin 3 → ℕ) a + (![1, 384, 256] : Fin 3 → ℕ) a ≤ S8x384x256.size a := fun a =>
  match a with
  | ⟨0, _⟩ => by show n + 1 ≤ 8; omega
  | ⟨1, _⟩ => by show 0 + 384 ≤ 384; omega
  | ⟨2, _⟩ => by show 0 + 256 ≤ 256; omega

/-- The stores of the first `n` heads of the queries' gradient, the last first. -/
def tiles (q : S256x2048.Idx → EReal) (c a b : S256x128.Idx → EReal) : (n : ℕ) → n ≤ 8 → List (View.Piece (Elt Ideal) S256x2048 .bf16)
  | 0, _ => []
  | n + 1, h =>
    ⟨Rect.unit (s := S256x2048) ![0, n * 256 + 128] ![256, 128] (part_fits _ (by omega)),
      k0_pay8 (F := Ideal) c a b (View.ld (Val := Elt Ideal) (e' := .bf16) q (Rect.unit (s := S256x2048) ![0, n * 256 + 128] ![256, 128] (part_fits _ (by omega))))⟩
    :: ⟨Rect.unit (s := S256x2048) ![0, n * 256] ![256, 128] (part_fits _ (by omega)),
      k0_pay7 (F := Ideal) (View.ld (Val := Elt Ideal) (e' := .bf16) q (Rect.unit (s := S256x2048) ![0, n * 256] ![256, 128] (part_fits _ (by omega))))⟩
    :: tiles q c a b n (by omega)

/-- The stores of the first `n` heads of the keys' gradient, the last first. -/
def kTiles (k : S256x2048.Idx → EReal) : (n : ℕ) → n ≤ 8 → List (View.Piece (Elt Ideal) S256x1024 .bf16)
  | 0, _ => []
  | n + 1, h =>
    ⟨Rect.unit (s := S256x1024) ![0, n * 128] ![256, 128] (half_fits _ (by omega)),
      k0_pay11 (F := Ideal) (View.ld (Val := Elt Ideal) (e' := .bf16) k (Rect.unit (s := S256x2048) ![0, n * 256] ![256, 128] (part_fits _ (by omega))))⟩
    :: kTiles k n (by omega)

theorem tiles_all (Q : Fin 256 → Fin 2048 → ℝ) (y : S256x2048.Idx) : (n : ℕ) → (h : n ≤ 8) →
    View.AllAt (tiles (up2 Q) (up2 C) (up2 A) (up2 B) n h) y (up2 (fun r => dqOf (C r) (A r) (B r) (Q r)) y)
  | 0, _ => View.allAt_nil _ _
  | n + 1, h => by
    refine View.allAt_cons_unit _ _ _ _ _ (fun x hx => ?_) (View.allAt_cons_unit _ _ _ _ _ (fun x hx => ?_) (tiles_all Q y n _))
    · rw [ld_cols Q 128 (n * 256 + 128) (by omega), pay8]
      have h0 : y 0 = x 0 := Fin.ext ((hx 0).trans (Nat.zero_add _))
      show ((_ : ℝ) : EReal) = ((_ : ℝ) : EReal)
      rw [h0]
      exact congrArg _ (dqOf_hi _ _ _ _ n (x 1) (y 1) (hx 1) (fun i => by omega)).symm
    · rw [ld_cols Q 128 (n * 256) (by omega), pay7]
      have h0 : y 0 = x 0 := Fin.ext ((hx 0).trans (Nat.zero_add _))
      show ((_ : ℝ) : EReal) = ((_ : ℝ) : EReal)
      rw [h0]
      exact congrArg _ (dqOf_lo _ _ _ _ n (x 1) (y 1) (hx 1) _).symm

theorem tiles_cover (q : S256x2048.Idx → EReal) (c a b : S256x128.Idx → EReal) (y : S256x2048.Idx) : (n : ℕ) → (h : n ≤ 8) →
    (y 1).val < n * 256 → ∃ p ∈ tiles q c a b n h, y ∈ p.1.set
  | 0, _, hy => by omega
  | n + 1, h, hy => by
    have y0 : (y 0).val < 256 := (y 0).isLt
    by_cases h1 : n * 256 + 128 ≤ (y 1).val
    · refine ⟨_, List.mem_cons_self, (Rect.mem_set_unit (inb := part_fits _ (by omega))).mpr fun a => ?_⟩
      match a with
      | ⟨0, _⟩ => exact ⟨Nat.zero_le _, by show (y 0).val < 0 + 256; omega⟩
      | ⟨1, _⟩ => exact ⟨h1, by show (y 1).val < n * 256 + 128 + 128; omega⟩
    · by_cases h2 : n * 256 ≤ (y 1).val
      · refine ⟨_, List.mem_cons_of_mem _ List.mem_cons_self, (Rect.mem_set_unit (inb := part_fits _ (by omega))).mpr fun a => ?_⟩
        match a with
        | ⟨0, _⟩ => exact ⟨Nat.zero_le _, by show (y 0).val < 0 + 256; omega⟩
        | ⟨1, _⟩ => exact ⟨h2, by show (y 1).val < n * 256 + 128; omega⟩
      · obtain ⟨p, hp, hy'⟩ := tiles_cover q c a b y n (by omega) (by omega)
        exact ⟨p, List.mem_cons_of_mem _ (List.mem_cons_of_mem _ hp), hy'⟩

/-- What the first heads' stores leave. -/
theorem tiles_canon (Q : Fin 256 → Fin 2048 → ℝ) (n : ℕ) (h : n ≤ 8) (y : S256x2048.Idx) (hy : (y 1).val < n * 256) :
    View.canon (tiles (up2 Q) (up2 C) (up2 A) (up2 B) n h) y = up2 (fun r => dqOf (C r) (A r) (B r) (Q r)) y :=
  View.canon_eq_of_allAt _ _ _ (tiles_cover _ _ _ _ y n h hy) (tiles_all C A B Q y n h)

theorem kTiles_all (K : Fin 256 → Fin 2048 → ℝ) (y : S256x1024.Idx) : (n : ℕ) → (h : n ≤ 8) →
    View.AllAt (kTiles (up2 K) n h) y (up2 (fun r => dkOf (K r)) y)
  | 0, _ => View.allAt_nil _ _
  | n + 1, h => by
    refine View.allAt_cons_unit _ _ _ _ _ (fun x hx => ?_) (kTiles_all K y n _)
    rw [ld_cols K 128 (n * 256) (by omega), pay11]
    have h0 : y 0 = x 0 := Fin.ext ((hx 0).trans (Nat.zero_add _))
    have h1 : (y 1).val = n * 128 + (x 1).val := hx 1
    have hl : (x 1).val < 128 := (x 1).isLt
    show ((_ : ℝ) : EReal) = ((_ : ℝ) : EReal)
    rw [h0]
    refine congrArg (fun z : ℝ => (z : EReal)) (congrArg (K (x 0)) (Fin.ext ?_))
    show n * 256 + (x 1).val = (y 1).val / 128 * 256 + (y 1).val % 128
    omega

theorem kTiles_cover (k : S256x2048.Idx → EReal) (y : S256x1024.Idx) : (n : ℕ) → (h : n ≤ 8) →
    (y 1).val < n * 128 → ∃ p ∈ kTiles k n h, y ∈ p.1.set
  | 0, _, hy => by omega
  | n + 1, h, hy => by
    have y0 : (y 0).val < 256 := (y 0).isLt
    by_cases h2 : n * 128 ≤ (y 1).val
    · refine ⟨_, List.mem_cons_self, (Rect.mem_set_unit (inb := half_fits _ (by omega))).mpr fun a => ?_⟩
      match a with
      | ⟨0, _⟩ => exact ⟨Nat.zero_le _, by show (y 0).val < 0 + 256; omega⟩
      | ⟨1, _⟩ => exact ⟨h2, by show (y 1).val < n * 128 + 128; omega⟩
    · obtain ⟨p, hp, hy'⟩ := kTiles_cover k y n (by omega) (by omega)
      exact ⟨p, List.mem_cons_of_mem _ hp, hy'⟩

/-- What the heads' stores leave of the keys. -/
theorem kTiles_canon (K : Fin 256 → Fin 2048 → ℝ) : View.canon (kTiles (up2 K) 8 le_rfl) = up2 fun r => dkOf (K r) :=
  funext fun y => View.canon_eq_of_allAt _ _ _ (kTiles_cover _ y 8 _ (show (y 1).val < 8 * 128 from (y 1).isLt)) (kTiles_all K y 8 _)

/-! ## The sums over the first heads -/

/-- The product with the queries' matrices over the first `n` heads. -/
def dcq {κ : Kind} {sp : Space} (v : View sig κ sp S256x2048 .bf16) (q : S256x2048.Idx → EReal) (c a b : S256x128.Idx → EReal)
    (w : S8x384x256.Idx → EReal) : (n : ℕ) → n ≤ 8 → FVec Ideal S256x384 .f32
  | 0, _ => k0_pay5 (F := Ideal)
  | n + 1, h => k0_pay15 (F := Ideal) (dcq v q c a b w n (by omega))
      (v.readCov (Val := Elt Ideal) (tiles q c a b (n + 1) h) (Rect.unit (s := S256x2048) ![0, n * 256] ![256, 256] (head_fits n h)).toLoadRect)
      (View.ld (Val := Elt Ideal) (e' := .bf16) w (Rect.unit (s := S8x384x256) ![n, 0, 0] ![1, 384, 256] (mat_fits n h)))

/-- The rotated parts of the keys' gradient, summed over the first `n` heads. -/
def dkr (k : S256x2048.Idx → EReal) : (n : ℕ) → n ≤ 8 → FVec Ideal S256x128 .f32
  | 0, _ => k0_pay6 (F := Ideal)
  | n + 1, h => k0_pay12 (F := Ideal) (dkr k n (by omega))
      (View.ld (Val := Elt Ideal) (e' := .bf16) k (Rect.unit (s := S256x2048) ![0, n * 256 + 128] ![256, 128] (part_fits _ (by omega))))

/-- The product over the first `n` heads, over the reals. -/
def dcqOf (q : Fin 2048 → ℝ) (W : Fin 8 → Fin 384 → Fin 256 → ℝ) (n : ℕ) (h : n ≤ 8) (c : Fin 384) : ℝ :=
  ∑ e : Fin n, ∑ k : Fin 256, q ⟨e.val * 256 + k.val, by omega⟩ * W ⟨e.val, by omega⟩ c k

/-- The sum over the first `n` heads, over the reals. -/
def dkrOf (k : Fin 2048 → ℝ) (n : ℕ) (h : n ≤ 8) (i : Fin 128) : ℝ := ∑ e : Fin n, k ⟨e.val * 256 + 128 + i.val, by omega⟩

theorem read_head {κ : Kind} {sp : Space} (v : View sig κ sp S256x2048 .bf16) (Q : Fin 256 → Fin 2048 → ℝ) (n : ℕ) (h : n + 1 ≤ 8) :
    v.readCov (Val := Elt Ideal) (tiles (up2 Q) (up2 C) (up2 A) (up2 B) (n + 1) h) (Rect.unit (s := S256x2048) ![0, n * 256] ![256, 256] (head_fits n h)).toLoadRect
      = up2 fun r (k : Fin 256) => dqOf (C r) (A r) (B r) (Q r) ⟨n * 256 + k.val, by omega⟩ := by
  rw [View.readCov_eq_canon']
  funext j
  have h1 : (j 1).val < 256 := (j 1).isLt
  have e0 : ((Rect.unit (s := S256x2048) ![0, n * 256] ![256, 256] (head_fits n h)).toLoadRect.idx j 0).val = (j 0).val := by
    rw [Rect.idx_unit_val]; exact Nat.zero_add _
  have e1 : ((Rect.unit (s := S256x2048) ![0, n * 256] ![256, 256] (head_fits n h)).toLoadRect.idx j 1).val = n * 256 + (j 1).val := by
    rw [Rect.idx_unit_val]; rfl
  rw [tiles_canon C A B Q (n + 1) h _ (by rw [e1]; omega)]
  refine congrArg (fun z : ℝ => (z : EReal)) ?_
  rw [show (Rect.unit (s := S256x2048) ![0, n * 256] ![256, 256] (head_fits n h)).toLoadRect.idx j 0 = j 0 from Fin.ext e0]
  exact congrArg (dqOf _ _ _ _) (Fin.ext e1)

theorem dcq_real {κ : Kind} {sp : Space} (v : View sig κ sp S256x2048 .bf16) (Q : Fin 256 → Fin 2048 → ℝ) (W : Fin 8 → Fin 384 → Fin 256 → ℝ) :
    (n : ℕ) → (h : n ≤ 8) → dcq v (up2 Q) (up2 C) (up2 A) (up2 B) (up3 W) n h = up2 fun r => dcqOf (dqOf (C r) (A r) (B r) (Q r)) W n h
  | 0, _ => pay5.trans (congrArg up2 (funext fun _ => funext fun _ => (Fin.sum_univ_zero _).symm))
  | n + 1, h => by
    unfold dcq
    rw [dcq_real v Q W n (by omega), read_head, ld_head W n h, pay15]
    exact congrArg up2 (funext fun r => funext fun c => (Fin.sum_univ_castSucc fun e : Fin (n + 1) => ∑ k : Fin 256, dqOf (C r) (A r) (B r) (Q r) ⟨e.val * 256 + k.val, by omega⟩ * W ⟨e.val, by omega⟩ c k).symm)

theorem dkr_real (K : Fin 256 → Fin 2048 → ℝ) : (n : ℕ) → (h : n ≤ 8) → dkr (up2 K) n h = up2 fun r => dkrOf (K r) n h
  | 0, _ => pay6.trans (congrArg up2 (funext fun _ => funext fun _ => (Fin.sum_univ_zero _).symm))
  | n + 1, h => by
    unfold dkr
    rw [dkr_real K n (by omega), ld_cols K 128 (n * 256 + 128) (by omega), pay12]
    exact congrArg up2 (funext fun r => funext fun c => (Fin.sum_univ_castSucc fun e : Fin (n + 1) => K r ⟨e.val * 256 + 128 + c.val, by omega⟩).symm)

end Cert.Qkv

end
-- ==== Proof.Qkv.Body.lean ====
/-
  The backward kernel of the attention's projections: what its body stores of the products, the norms and their scales, on blocks
  of reals.
-/
module

public import proofs.«01_k».proof.Proof.Qkv.Heads

@[expose] public section

set_option maxRecDepth 16384

noncomputable section

open Idealize.ShloMosaic Cert.Lift

namespace Cert.Qkv

open Cert.Kernel5Ideal Cert.Kernel5Ideal.Gen

theorem len_384 : Ideal.ofBits .f32 0x43C00000#32 = (((384 : ℕ) : ℝ) : EReal) := by
  simp [Ideal.ofBits, Ideal.ieee, -EReal.coe_mul]; norm_num

theorem len_256 : Ideal.ofBits .f32 0x43800000#32 = (((256 : ℕ) : ℝ) : EReal) := by
  simp [Ideal.ofBits, Ideal.ieee, -EReal.coe_mul]; norm_num

/-- The columns of the queries' compressed row. -/
def zq (z : Fin 768 → ℝ) (x : Fin 384) : ℝ := z ⟨x.val, by omega⟩

/-- The columns of the keys' and values' compressed row. -/
def zk (z : Fin 768 → ℝ) (x : Fin 256) : ℝ := z ⟨384 + x.val, by omega⟩

/-- The gradient of a compressed row: the two norms' gradients and the rotated part, side by side. -/
def side (p : Fin 384 → ℝ) (q : Fin 256 → ℝ) (r : Fin 128 → ℝ) (x : Fin 768) : ℝ :=
  if h : x.val < 384 then p ⟨x.val, h⟩ else if h' : x.val < 640 then q ⟨x.val - 384, by omega⟩ else r ⟨x.val - 640, by omega⟩

theorem side_lo (p : Fin 384 → ℝ) (q : Fin 256 → ℝ) (r : Fin 128 → ℝ) (x : Fin 768) (i : Fin 384) (h : x.val = i.val) : side p q r x = p i := by
  have := i.isLt
  unfold side
  rw [dif_pos (by omega)]
  exact congrArg p (Fin.ext h)

theorem side_mid (p : Fin 384 → ℝ) (q : Fin 256 → ℝ) (r : Fin 128 → ℝ) (x : Fin 768) (i : Fin 256) (h : x.val = 384 + i.val) : side p q r x = q i := by
  have := i.isLt
  unfold side
  rw [dif_neg (by omega), dif_pos (by omega)]
  exact congrArg q (Fin.ext (by show x.val - 384 = i.val; omega))

theorem side_hi (p : Fin 384 → ℝ) (q : Fin 256 → ℝ) (r : Fin 128 → ℝ) (x : Fin 768) (i : Fin 128) (h : x.val = 640 + i.val) : side p q r x = r i := by
  have := i.isLt
  unfold side
  rw [dif_neg (by omega), dif_neg (by omega)]
  exact congrArg r (Fin.ext (by show x.val - 640 = i.val; omega))

theorem pay1 (X : Fin 256 → Fin 128 → ℝ) : k0_pay1 (F := Ideal) (up2 X) = up2 X := by
  funext j
  idx_vars j
  pointwise [k0_pay1]

theorem pay48 (Z : Fin 256 → Fin 768 → ℝ) : k0_pay48 (F := Ideal) (k0_pay4 (F := Ideal) (up2 Z)) = up2 fun r => zq (Z r) := by
  funext j
  idx_vars j
  pointwise [k0_pay48, k0_pay4]
  rfl

theorem pay57 (Z : Fin 256 → Fin 768 → ℝ) : k0_pay57 (F := Ideal) (k0_pay4 (F := Ideal) (up2 Z)) = up2 fun r => zk (Z r) := by
  funext j
  idx_vars j
  pointwise [k0_pay57, k0_pay4]
  rfl

theorem pay56 (D V W U : Fin 256 → Fin 1024 → ℝ) :
    k0_pay56 (F := Ideal) (up2 D) (up2 W) (up2 V) (up2 U) = up2 fun r c => ∑ x, D r x * W c x + ∑ x, V r x * U c x := by
  funext j
  idx_vars j
  pointwise [k0_pay56]
  simp only [up2_ix, zero_add, ← EReal.coe_mul, ← coe_sum, ← EReal.coe_add]

theorem pay52 : k0_pay52 (F := Ideal) = up2 fun _ _ => 0 := by
  funext j
  idx_vars j
  pointwise [k0_pay52]
  rfl

theorem pay60 : k0_pay60 (F := Ideal) = up2 fun _ _ => 0 := by
  funext j
  idx_vars j
  pointwise [k0_pay60]
  rfl

/-- The gradient of the queries' norm, as the body computes it. -/
def normQ (d : FVec Ideal S256x384 .f32) (x : FVec Ideal S256x384 .f32) (g : FVec Ideal S1x384 .f32) : FVec Ideal S256x384 .f32 :=
  kGrad 0x43C00000#32 reduces_S256x384_S256 shapeCasts_S256_S256x1 broadcasts_S256x1_S256x384 broadcasts_S1x384_S256x384 d x g

/-- The gradient of the queries' scale so far, as the body computes it. -/
def scaleQ (d x : FVec Ideal S256x384 .f32) (o : FVec Ideal S1x384 .f32) : FVec Ideal S1x384 .f32 :=
  kScale reduces_S256x384_S384 shapeCasts_S384_S1x384 shapeCasts_S1x384_S1x384 d
    (kNrm 0x43C00000#32 reduces_S256x384_S256 shapeCasts_S256_S256x1 broadcasts_S256x1_S256x384 x) o

/-- The gradient of the keys' norm, as the body computes it. -/
def normK (d : FVec Ideal S256x256 .f32) (x : FVec Ideal S256x256 .f32) (g : FVec Ideal S1x256 .f32) : FVec Ideal S256x256 .f32 :=
  kGrad 0x43800000#32 reduces_S256x256_S256 shapeCasts_S256_S256x1 broadcasts_S256x1_S256x256 broadcasts_S1x256_S256x256 d x g

/-- The gradient of the keys' scale so far, as the body computes it. -/
def scaleK (d x : FVec Ideal S256x256 .f32) (o : FVec Ideal S1x256 .f32) : FVec Ideal S1x256 .f32 :=
  kScale reduces_S256x256_S256_2 shapeCasts_S256_S1x256 shapeCasts_S1x256_S1x256 d
    (kNrm 0x43800000#32 reduces_S256x256_S256 shapeCasts_S256_S256x1 broadcasts_S256x1_S256x256 x) o

theorem normQ_real (D X : Fin 256 → Fin 384 → ℝ) (G : Fin 1 → Fin 384 → ℝ) : normQ (up2 D) (up2 X) (up2 G) = up2 fun r => rmsGrad (G 0) (X r) (D r) :=
  kGrad_real (hl := len_384) ..

theorem normK_real (D X : Fin 256 → Fin 256 → ℝ) (G : Fin 1 → Fin 256 → ℝ) : normK (up2 D) (up2 X) (up2 G) = up2 fun r => rmsGrad (G 0) (X r) (D r) :=
  kGrad_real (hl := len_256) ..

theorem scaleQ_real (D X : Fin 256 → Fin 384 → ℝ) (O : Fin 1 → Fin 384 → ℝ) :
    scaleQ (up2 D) (up2 X) (up2 O) = up2 fun r c => O r c + ∑ k, D k c * rnrm (X k) c := by
  unfold scaleQ
  rw [kNrm_real (hl := len_384), kScale_real]

theorem scaleK_real (D X : Fin 256 → Fin 256 → ℝ) (O : Fin 1 → Fin 256 → ℝ) :
    scaleK (up2 D) (up2 X) (up2 O) = up2 fun r c => O r c + ∑ k, D k c * rnrm (X k) c := by
  unfold scaleK
  rw [kNrm_real (hl := len_256), kScale_real]

/-- The keys' block read back whole. -/
theorem read_keys {κ : Kind} {sp : Space} (v : View sig κ sp S256x1024 .bf16) (K : Fin 256 → Fin 2048 → ℝ) :
    v.readCov (Val := Elt Ideal) (kTiles (up2 K) 8 le_rfl) (Rect.unit (s := S256x1024) ![0, 0] ![256, 1024] inb_S256x1024_S256x1024_0_0).toLoadRect
      = up2 fun r => dkOf (K r) := by
  rw [View.readCov_eq_canon', kTiles_canon]
  funext j
  refine congrArg (up2 fun r => dkOf (K r)) (funext fun a => Fin.ext ?_)
  rw [Rect.idx_unit_val]
  match a with
  | ⟨0, _⟩ => exact Nat.zero_add _
  | ⟨1, _⟩ => exact Nat.zero_add _

/-- The three stores of the compressed rows' gradient, the last first. -/
def parts (p : FVec Ideal S256x384 .f32) (q : FVec Ideal S256x256 .f32) (r : FVec Ideal S256x128 .bf16) : List (View.Piece (Elt Ideal) S256x768 .bf16) :=
  [⟨Rect.unit (s := S256x768) ![0, 384] ![256, 256] inb_S256x768_S256x256_0_384, q⟩,
    ⟨Rect.unit (s := S256x768) ![0, 640] ![256, 128] inb_S256x768_S256x128_0_640, r⟩,
    ⟨Rect.unit (s := S256x768) ![0, 0] ![256, 384] inb_S256x768_S256x384_0_0, p⟩]

theorem parts_canon (P : Fin 256 → Fin 384 → ℝ) (Q : Fin 256 → Fin 256 → ℝ) (R : Fin 256 → Fin 128 → ℝ) :
    View.canon (parts (up2 P) (up2 Q) (up2 R)) = up2 fun r => side (P r) (Q r) (R r) := by
  funext y
  have y0 : (y 0).val < 256 := (y 0).isLt
  have y1 : (y 1).val < 768 := (y 1).isLt
  refine View.canon_eq_of_allAt _ _ _ ?_ (View.allAt_cons_unit _ _ _ _ _ (fun x hx => ?_) (View.allAt_cons_unit _ _ _ _ _ (fun x hx => ?_)
    (View.allAt_cons_unit _ _ _ _ _ (fun x hx => ?_) (View.allAt_nil _ _))))
  · by_cases h1 : 640 ≤ (y 1).val
    · refine ⟨_, List.mem_cons_of_mem _ List.mem_cons_self, (Rect.mem_set_unit (inb := inb_S256x768_S256x128_0_640)).mpr fun a => ?_⟩
      match a with
      | ⟨0, _⟩ => exact ⟨Nat.zero_le _, by show (y 0).val < 0 + 256; omega⟩
      | ⟨1, _⟩ => exact ⟨h1, by show (y 1).val < 640 + 128; omega⟩
    · by_cases h2 : 384 ≤ (y 1).val
      · refine ⟨_, List.mem_cons_self, (Rect.mem_set_unit (inb := inb_S256x768_S256x256_0_384)).mpr fun a => ?_⟩
        match a with
        | ⟨0, _⟩ => exact ⟨Nat.zero_le _, by show (y 0).val < 0 + 256; omega⟩
        | ⟨1, _⟩ => exact ⟨h2, by show (y 1).val < 384 + 256; omega⟩
      · refine ⟨_, List.mem_cons_of_mem _ (List.mem_cons_of_mem _ List.mem_cons_self), (Rect.mem_set_unit (inb := inb_S256x768_S256x384_0_0)).mpr fun a => ?_⟩
        match a with
        | ⟨0, _⟩ => exact ⟨Nat.zero_le _, by show (y 0).val < 0 + 256; omega⟩
        | ⟨1, _⟩ => exact ⟨Nat.zero_le _, by show (y 1).val < 0 + 384; omega⟩
  · have h0 : y 0 = x 0 := Fin.ext ((hx 0).trans (Nat.zero_add _))
    show ((_ : ℝ) : EReal) = ((_ : ℝ) : EReal)
    rw [h0]
    exact congrArg (fun z : ℝ => (z : EReal)) (side_mid _ _ _ (y 1) (x 1) (hx 1)).symm
  · have h0 : y 0 = x 0 := Fin.ext ((hx 0).trans (Nat.zero_add _))
    show ((_ : ℝ) : EReal) = ((_ : ℝ) : EReal)
    rw [h0]
    exact congrArg (fun z : ℝ => (z : EReal)) (side_hi _ _ _ (y 1) (x 1) (hx 1)).symm
  · have h0 : y 0 = x 0 := Fin.ext ((hx 0).trans (Nat.zero_add _))
    show ((_ : ℝ) : EReal) = ((_ : ℝ) : EReal)
    rw [h0]
    exact congrArg (fun z : ℝ => (z : EReal)) (side_lo _ _ _ (y 1) (x 1) ((hx 1).trans (Nat.zero_add _))).symm

end Cert.Qkv

end
-- ==== Proof.Qkv.Result.lean ====
/-
  The backward kernel of the attention's projections: its five results as arrays of reals, from the arrays its windows read.
-/
module

public import proofs.«01_k».proof.Proof.Qkv.Body

@[expose] public section

set_option maxRecDepth 16384

noncomputable section

open Idealize.ShloMosaic Idealize.ShloMosaic.TcCoe Idealize.SL.Sem Cert.Lift
open Idealize.ShloMosaic.Pipeline (Dat)

namespace Cert.Qkv

open Cert.Kernel5Ideal Cert.Kernel5Ideal.Gen

/-- The reals that the kernel's windows hold. -/
structure Data where
  q : Fin 4096 → Fin 2048 → ℝ
  k : Fin 4096 → Fin 2048 → ℝ
  v : Fin 4096 → Fin 1024 → ℝ
  z : Fin 4096 → Fin 768 → ℝ
  c : Fin 4096 → Fin 128 → ℝ
  a : Fin 4096 → Fin 128 → ℝ
  b : Fin 4096 → Fin 128 → ℝ
  gq : Fin 1 → Fin 384 → ℝ
  gk : Fin 1 → Fin 256 → ℝ
  wq : Fin 8 → Fin 384 → Fin 256 → ℝ
  wk : Fin 256 → Fin 1024 → ℝ
  wv : Fin 256 → Fin 1024 → ℝ

namespace Data

variable (D : Data)

/-- The gradient of the projected queries. -/
def dq (r : Fin 4096) : Fin 2048 → ℝ := dqOf (D.c r) (D.a r) (D.b r) (D.q r)

/-- The gradient of the keys' parts without the rotation. -/
def dk (r : Fin 4096) : Fin 1024 → ℝ := dkOf (D.k r)

/-- The gradient of the normalised compressed queries. -/
def cq (r : Fin 4096) : Fin 384 → ℝ := dcqOf (D.dq r) D.wq 8 le_rfl

/-- The gradient of the normalised compressed keys and values. -/
def ck (r : Fin 4096) (c : Fin 256) : ℝ := ∑ x, D.dk r x * D.wk c x + ∑ x, D.v r x * D.wv c x

/-- The gradient of the keys' shared rotated part. -/
def kr (r : Fin 4096) : Fin 128 → ℝ := turn (D.c r) (D.a r) (D.b r) (dkrOf (D.k r) 8 le_rfl)

/-- The gradient of the compressed rows. -/
def dz (r : Fin 4096) : Fin 768 → ℝ :=
  side (rmsGrad (D.gq 0) (zq (D.z r)) (D.cq r)) (rmsGrad (D.gk 0) (zk (D.z r)) (D.ck r)) (D.kr r)

/-- A row's term of the gradient of the queries' scale. -/
def tq (c : Fin 384) (i : Fin 4096) : ℝ := D.cq i c * rnrm (zq (D.z i)) c

/-- A row's term of the gradient of the keys' scale. -/
def tk (c : Fin 256) (i : Fin 4096) : ℝ := D.ck i c * rnrm (zk (D.z i)) c

end Data

variable (m : (ℓ : Loc nD τ sig) → Buf (Elt Ideal) ℓ) (c : Dev nD) (D : Data)

/-- The windows' arrays hold these reals. -/
structure Reads : Prop where
  w0 : V m c (Pipeline.arrRef spec0 0) = up2 D.q
  w1 : V m c (Pipeline.arrRef spec0 1) = up2 D.k
  w2 : V m c (Pipeline.arrRef spec0 2) = up2 D.v
  w3 : V m c (Pipeline.arrRef spec0 3) = up2 D.z
  w4 : V m c (Pipeline.arrRef spec0 4) = up2 D.c
  w5 : V m c (Pipeline.arrRef spec0 5) = up2 D.a
  w6 : V m c (Pipeline.arrRef spec0 6) = up2 D.b
  w7 : V m c (Pipeline.arrRef spec0 7) = up2 D.gq
  w8 : V m c (Pipeline.arrRef spec0 8) = up2 D.gk
  w9 : V m c (Pipeline.arrRef spec0 9) = up3 D.wq
  w10 : V m c (Pipeline.arrRef spec0 10) = up2 D.wk
  w11 : V m c (Pipeline.arrRef spec0 11) = up2 D.wv

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = 0 ∧ win0_9.index t 1 = 0 ∧ win0_9.index t 2 = 0 :=
  (by decide +kernel : ∀ t : Fin grid0.N, win0_9.index t 0 = 0 ∧ win0_9.index t 1 = 0 ∧ win0_9.index t 2 = 0)
theorem idx10 : ∀ t : Fin cfg0.N, win0_10.index t 0 = 0 ∧ win0_10.index t 1 = 0 :=
  (by decide +kernel : ∀ t : Fin grid0.N, win0_10.index t 0 = 0 ∧ win0_10.index t 1 = 0)
theorem idx11 : ∀ t : Fin cfg0.N, win0_11.index t 0 = 0 ∧ win0_11.index t 1 = 0 :=
  (by decide +kernel : ∀ t : Fin grid0.N, win0_11.index t 0 = 0 ∧ win0_11.index t 1 = 0)
theorem idx12 : ∀ t : Fin cfg0.N, win0_12.index t 0 = t.val ∧ win0_12.index t 1 = 0 :=
  (by decide +kernel : ∀ t : Fin grid0.N, win0_12.index t 0 = t.val ∧ win0_12.index t 1 = 0)
theorem idx13 : ∀ t : Fin cfg0.N, win0_13.index t 0 = t.val ∧ win0_13.index t 1 = 0 :=
  (by decide +kernel : ∀ t : Fin grid0.N, win0_13.index t 0 = t.val ∧ win0_13.index t 1 = 0)
theorem idx14 : ∀ t : Fin cfg0.N, win0_14.index t 0 = t.val ∧ win0_14.index t 1 = 0 :=
  (by decide +kernel : ∀ t : Fin grid0.N, win0_14.index t 0 = t.val ∧ win0_14.index t 1 = 0)
theorem idx15 : ∀ t : Fin cfg0.N, win0_15.index t 0 = 0 ∧ win0_15.index t 1 = 0 :=
  (by decide +kernel : ∀ t : Fin grid0.N, win0_15.index t 0 = 0 ∧ win0_15.index t 1 = 0)
theorem idx16 : ∀ t : Fin cfg0.N, win0_16.index t 0 = 0 ∧ win0_16.index t 1 = 0 :=
  (by decide +kernel : ∀ t : Fin grid0.N, win0_16.index t 0 = 0 ∧ win0_16.index t 1 = 0)

theorem lt16 (t : Fin cfg0.N) : t.val < 16 := lt_of_lt_of_eq t.isLt N_0

theorem rows_le (t : Fin cfg0.N) : t.val * 256 + 256 ≤ 4096 := by have := lt16 t; omega

variable {m c D}

theorem blk0 (h : Reads m c D) (t : Fin cfg0.N) : iblk m c 0 t = up2 (rowsOf D.q t.val) := by
  unfold iblk
  rw [h.w0]
  exact rows_comp D.q (rows_le t) _ (idx0 t) (fun _ => rfl) fun _ => rfl

theorem blk1 (h : Reads m c D) (t : Fin cfg0.N) : iblk m c 1 t = up2 (rowsOf D.k t.val) := by
  unfold iblk
  rw [h.w1]
  exact rows_comp D.k (rows_le t) _ (idx1 t) (fun _ => rfl) fun _ => rfl

theorem blk2 (h : Reads m c D) (t : Fin cfg0.N) : iblk m c 2 t = up2 (rowsOf D.v t.val) := by
  unfold iblk
  rw [h.w2]
  exact rows_comp D.v (rows_le t) _ (idx2 t) (fun _ => rfl) fun _ => rfl

theorem blk3 (h : Reads m c D) (t : Fin cfg0.N) : iblk m c 3 t = up2 (rowsOf D.z t.val) := by
  unfold iblk
  rw [h.w3]
  exact rows_comp D.z (rows_le t) _ (idx3 t) (fun _ => rfl) fun _ => rfl

theorem blk4 (h : Reads m c D) (t : Fin cfg0.N) : iblk m c 4 t = up2 (rowsOf D.c t.val) := by
  unfold iblk
  rw [h.w4]
  exact rows_comp D.c (rows_le t) _ (idx4 t) (fun _ => rfl) fun _ => rfl

theorem blk5 (h : Reads m c D) (t : Fin cfg0.N) : iblk m c 5 t = up2 (rowsOf D.a t.val) := by
  unfold iblk
  rw [h.w5]
  exact rows_comp D.a (rows_le t) _ (idx5 t) (fun _ => rfl) fun _ => rfl

theorem blk6 (h : Reads m c D) (t : Fin cfg0.N) : iblk m c 6 t = up2 (rowsOf D.b t.val) := by
  unfold iblk
  rw [h.w6]
  exact rows_comp D.b (rows_le t) _ (idx6 t) (fun _ => rfl) fun _ => rfl

theorem blk7 (h : Reads m c D) (t : Fin cfg0.N) : iblk m c 7 t = up2 D.gq := by
  unfold iblk
  rw [h.w7]
  exact whole_comp D.gq _ (idx7 t) (fun _ => rfl) fun _ => rfl

theorem blk8 (h : Reads m c D) (t : Fin cfg0.N) : iblk m c 8 t = up2 D.gk := by
  unfold iblk
  rw [h.w8]
  exact whole_comp D.gk _ (idx8 t) (fun _ => rfl) fun _ => rfl

theorem blk9 (h : Reads m c D) (t : Fin cfg0.N) : iblk m c 9 t = up3 D.wq := by
  unfold iblk
  rw [h.w9]
  exact whole_comp3 D.wq _ (idx9 t) (fun _ => rfl) (fun _ => rfl) fun _ => rfl

theorem blk10 (h : Reads m c D) (t : Fin cfg0.N) : iblk m c 10 t = up2 D.wk := by
  unfold iblk
  rw [h.w10]
  exact whole_comp D.wk _ (idx10 t) (fun _ => rfl) fun _ => rfl

theorem blk11 (h : Reads m c D) (t : Fin cfg0.N) : iblk m c 11 t = up2 D.wv := by
  unfold iblk
  rw [h.w11]
  exact whole_comp D.wv _ (idx11 t) (fun _ => rfl) fun _ => rfl

/-- The body's product with the queries' matrices at a point. -/
def pq (m : (ℓ : Loc nD τ sig) → Buf (Elt Ideal) ℓ) (c : Dev nD) (t : Fin cfg0.N) : FVec Ideal S256x384 .f32 :=
  dcq (ms0_12 t).view (iblk m c 0 t) (iblk m c 4 t) (iblk m c 5 t) (iblk m c 6 t) (iblk m c 9 t) 8 le_rfl

/-- The body's product with the keys' and values' matrices at a point. -/
def pk (m : (ℓ : Loc nD τ sig) → Buf (Elt Ideal) ℓ) (c : Dev nD) (t : Fin cfg0.N) : FVec Ideal S256x256 .f32 :=
  k0_pay56 (F := Ideal) ((ms0_13 t).view.readCov (Val := Elt Ideal) (kTiles (iblk m c 1 t) 8 le_rfl)
    (Rect.unit (s := S256x1024) ![0, 0] ![256, 1024] inb_S256x1024_S256x1024_0_0).toLoadRect) (iblk m c 10 t) (iblk m c 2 t) (iblk m c 11 t)

/-- The body's rotated part of the keys' gradient at a point. -/
def pr (m : (ℓ : Loc nD τ sig) → Buf (Elt Ideal) ℓ) (c : Dev nD) (t : Fin cfg0.N) : FVec Ideal S256x128 .bf16 :=
  k0_pay55 (F := Ideal) (k0_pay1 (F := Ideal) (iblk m c 4 t)) (k0_pay1 (F := Ideal) (iblk m c 5 t)) (k0_pay1 (F := Ideal) (iblk m c 6 t))
    (dkr (iblk m c 1 t) 8 le_rfl)

theorem pq_real (h : Reads m c D) (t : Fin cfg0.N) : pq m c t = up2 (rowsOf D.cq t.val) := by
  unfold pq
  rw [blk0 h, blk4 h, blk5 h, blk6 h, blk9 h]
  exact dcq_real _ _ _ _ _ D.wq 8 le_rfl

theorem pk_real (h : Reads m c D) (t : Fin cfg0.N) : pk m c t = up2 (rowsOf D.ck t.val) := by
  unfold pk
  rw [blk1 h, blk2 h, blk10 h, blk11 h, read_keys]
  exact pay56 _ _ _ _

theorem pr_real (h : Reads m c D) (t : Fin cfg0.N) : pr m c t = up2 (rowsOf D.kr t.val) := by
  unfold pr
  rw [blk1 h, blk4 h, blk5 h, blk6 h, dkr_real, pay1, pay1, pay1]
  exact pay55 _ _ _ _

theorem xq_real (h : Reads m c D) (t : Fin cfg0.N) : k0_pay48 (F := Ideal) (k0_pay4 (F := Ideal) (iblk m c 3 t)) = up2 (rowsOf (fun r => zq (D.z r)) t.val) := by
  rw [blk3 h]
  exact pay48 _

theorem xk_real (h : Reads m c D) (t : Fin cfg0.N) : k0_pay57 (F := Ideal) (k0_pay4 (F := Ideal) (iblk m c 3 t)) = up2 (rowsOf (fun r => zk (D.z r)) t.val) := by
  rw [blk3 h]
  exact pay57 _

/-- The block of the queries' gradient after point `t`. -/
theorem outs12 (h : Reads m c D) (t : Fin cfg0.N) : (outsAt0 m c t.val t.isLt).1 = up2 (rowsOf D.dq t.val) := by
  refine Eq.trans (?_ : _ = View.canon (tiles (iblk m c 0 t) (iblk m c 4 t) (iblk m c 5 t) (iblk m c 6 t) 8 le_rfl)) ?_
  · by_cases ht : t.val % 16 = 0
    · rw [outsAt0_A m c t ht ht]
      frame_out <;> rfl
    · rw [outsAt0_B m c t ht ht]
      frame_out <;> rfl
  · rw [blk0 h, blk4 h, blk5 h, blk6 h]
    exact funext fun y => tiles_canon _ _ _ _ 8 le_rfl y (show (y 1).val < 8 * 256 from (y 1).isLt)

/-- The block of the keys' gradient after point `t`. -/
theorem outs13 (h : Reads m c D) (t : Fin cfg0.N) : (outsAt0 m c t.val t.isLt).2.1 = up2 (rowsOf D.dk t.val) := by
  refine Eq.trans (?_ : _ = View.canon (kTiles (iblk m c 1 t) 8 le_rfl)) ?_
  · by_cases ht : t.val % 16 = 0
    · rw [outsAt0_A m c t ht ht]
      frame_out <;> rfl
    · rw [outsAt0_B m c t ht ht]
      frame_out <;> rfl
  · rw [blk1 h]
    exact kTiles_canon _

/-- The block of the compressed rows' gradient after point `t`. -/
theorem outs14 (h : Reads m c D) (t : Fin cfg0.N) : (outsAt0 m c t.val t.isLt).2.2.1 = up2 (rowsOf D.dz t.val) := by
  refine Eq.trans (?_ : _ = View.canon (parts (normQ (pq m c t) (k0_pay48 (F := Ideal) (k0_pay4 (F := Ideal) (iblk m c 3 t))) (iblk m c 7 t))
    (normK (pk m c t) (k0_pay57 (F := Ideal) (k0_pay4 (F := Ideal) (iblk m c 3 t))) (iblk m c 8 t)) (pr m c t))) ?_
  · by_cases ht : t.val % 16 = 0
    · rw [outsAt0_A m c t ht ht]
      frame_out <;> rfl
    · rw [outsAt0_B m c t ht ht]
      frame_out <;> rfl
  · rw [pq_real h, pk_real h, pr_real h, xq_real h, xk_real h, blk7 h, blk8 h, normQ_real, normK_real]
    exact parts_canon _ _ _

/-- The block of the gradient of the queries' scale after point `n`: the sums over the rows of the tiles so far. -/
theorem outs15 (h : Reads m c D) : ∀ (n : ℕ) (hn : n < cfg0.N), (outsAt0 m c n hn).2.2.2.1 = up2 fun _ k => part 256 (D.tq k) (n + 1)
  | 0, hn => by
    refine Eq.trans (?_ : _ = scaleQ (pq m c ⟨0, hn⟩) (k0_pay48 (F := Ideal) (k0_pay4 (F := Ideal) (iblk m c 3 ⟨0, hn⟩))) (k0_pay52 (F := Ideal))) ?_
    · rw [outsAt0_A m c ⟨0, hn⟩ rfl rfl]
      frame_out <;> rfl
    · rw [pq_real h, xq_real h, pay52, scaleQ_real]
      simp only [Nat.zero_add, part_one, _root_.zero_add]
      rfl
  | n + 1, hn => by
    have hN : n + 1 < 16 := lt_of_lt_of_eq hn N_0
    refine Eq.trans (?_ : _ = scaleQ (pq m c ⟨n + 1, hn⟩) (k0_pay48 (F := Ideal) (k0_pay4 (F := Ideal) (iblk m c 3 ⟨n + 1, hn⟩)))
      (outsAt0 m c n (Nat.lt_of_succ_lt hn)).2.2.2.1) ?_
    · rw [outsAt0_B m c ⟨n + 1, hn⟩ (by dsimp only; omega) (by dsimp only; omega)]
      frame_out <;> rfl
    · rw [outs15 h n (Nat.lt_of_succ_lt hn), pq_real h, xq_real h, scaleQ_real]
      simp only [part_succ _ _ (n + 1)]
      rfl

/-- The block of the gradient of the keys' scale after point `n`: the sums over the rows of the tiles so far. -/
theorem outs16 (h : Reads m c D) : ∀ (n : ℕ) (hn : n < cfg0.N), (outsAt0 m c n hn).2.2.2.2 = up2 fun _ k => part 256 (D.tk k) (n + 1)
  | 0, hn => by
    refine Eq.trans (?_ : _ = scaleK (pk m c ⟨0, hn⟩) (k0_pay57 (F := Ideal) (k0_pay4 (F := Ideal) (iblk m c 3 ⟨0, hn⟩))) (k0_pay60 (F := Ideal))) ?_
    · rw [outsAt0_A m c ⟨0, hn⟩ rfl rfl]
      frame_out <;> rfl
    · rw [pk_real h, xk_real h, pay60, scaleK_real]
      simp only [Nat.zero_add, part_one, _root_.zero_add]
      rfl
  | n + 1, hn => by
    have hN : n + 1 < 16 := lt_of_lt_of_eq hn N_0
    refine Eq.trans (?_ : _ = scaleK (pk m c ⟨n + 1, hn⟩) (k0_pay57 (F := Ideal) (k0_pay4 (F := Ideal) (iblk m c 3 ⟨n + 1, hn⟩)))
      (outsAt0 m c n (Nat.lt_of_succ_lt hn)).2.2.2.2) ?_
    · rw [outsAt0_B m c ⟨n + 1, hn⟩ (by dsimp only; omega) (by dsimp only; omega)]
      frame_out <;> rfl
    · rw [outs16 h n (Nat.lt_of_succ_lt hn), pk_real h, xk_real h, scaleK_real]
      simp only [part_succ _ _ (n + 1)]
      rfl

/-- Result 0: the gradient of the projected queries. -/
theorem final12 (h : Reads m c D) : (dats m 0 c).arrAt 12 cfg0.N = up2 D.dq := by
  refine (dats m 0 c).arrAt_eq_of_cover 12 (up2 D.dq) (fun t _ => ?_) fun i => ?_
  · rw [Value.flushed12, outs12 h t]
    exact (rows_comp D.dq (rows_le t) _ (idx12 t) (fun _ => rfl) fun _ => rfl).symm
  · have ht : (i 0 : Nat) / 256 < cfg0.N := lt_of_lt_of_eq (tile_bounds (A := 16) (B := 256) (by norm_num) (i 0).isLt).1 N_0.symm
    refine ⟨⟨(i 0 : Nat) / 256, ht⟩, flush0_12 _, ?_⟩
    show i ∈ ((View.whole main_v41_0).slice (win0_12.rect ⟨(i 0 : Nat) / 256, ht⟩)).set
    rw [View.set_slice_whole, Rect.mem_set_unit]
    exact in_tile (by norm_num) i _ (idx12 _)

/-- Result 1: the gradient of the keys' parts without the rotation. -/
theorem final13 (h : Reads m c D) : (dats m 0 c).arrAt 13 cfg0.N = up2 D.dk := by
  refine (dats m 0 c).arrAt_eq_of_cover 13 (up2 D.dk) (fun t _ => ?_) fun i => ?_
  · rw [Value.flushed13, outs13 h t]
    exact (rows_comp D.dk (rows_le t) _ (idx13 t) (fun _ => rfl) fun _ => rfl).symm
  · have ht : (i 0 : Nat) / 256 < cfg0.N := lt_of_lt_of_eq (tile_bounds (A := 16) (B := 256) (by norm_num) (i 0).isLt).1 N_0.symm
    refine ⟨⟨(i 0 : Nat) / 256, ht⟩, flush0_13 _, ?_⟩
    show i ∈ ((View.whole main_v41_1).slice (win0_13.rect ⟨(i 0 : Nat) / 256, ht⟩)).set
    rw [View.set_slice_whole, Rect.mem_set_unit]
    exact in_tile (by norm_num) i _ (idx13 _)

/-- Result 2: the gradient of the compressed rows. -/
theorem final14 (h : Reads m c D) : (dats m 0 c).arrAt 14 cfg0.N = up2 D.dz := by
  refine (dats m 0 c).arrAt_eq_of_cover 14 (up2 D.dz) (fun t _ => ?_) fun i => ?_
  · rw [Value.flushed14, outs14 h t]
    exact (rows_comp D.dz (rows_le t) _ (idx14 t) (fun _ => rfl) fun _ => rfl).symm
  · have ht : (i 0 : Nat) / 256 < cfg0.N := lt_of_lt_of_eq (tile_bounds (A := 16) (B := 256) (by norm_num) (i 0).isLt).1 N_0.symm
    refine ⟨⟨(i 0 : Nat) / 256, ht⟩, flush0_14 _, ?_⟩
    show i ∈ ((View.whole main_v41_2).slice (win0_14.rect ⟨(i 0 : Nat) / 256, ht⟩)).set
    rw [View.set_slice_whole, Rect.mem_set_unit]
    exact in_tile (by norm_num) i _ (idx14 _)

/-- Result 3: the gradient of the queries' scale. -/
theorem final15 (h : Reads m c D) : (dats m 0 c).arrAt 15 cfg0.N = up2 fun (_ : Fin 1) k => ∑ i, D.tq k i := by
  refine (dats m 0 c).arrAt_eq_of_cover 15 (up2 fun (_ : Fin 1) k => ∑ i, D.tq k i) (fun t hf => ?_) fun i => ?_
  · have ht : t.val + 1 = 16 := by have := (flush0_15 t).mp hf; have := lt16 t; omega
    rw [Value.flushed15, outs15 h t.val t.isLt, ht]
    simp only [part_all (show 16 * 256 = 4096 by norm_num)]
    exact (whole_comp (fun (_ : Fin 1) k => ∑ i, D.tq k i) _ (idx15 t) (fun _ => rfl) fun _ => rfl).symm
  · have ht : 15 < cfg0.N := lt_of_lt_of_eq (by omega : 15 < 16) N_0.symm
    refine ⟨⟨15, ht⟩, (flush0_15 _).mpr rfl, ?_⟩
    show i ∈ ((View.whole main_v41_3).slice (win0_15.rect ⟨15, ht⟩)).set
    rw [View.set_slice_whole, Rect.mem_set_unit]
    exact in_whole i _ (idx15 _)

/-- Result 4: the gradient of the keys' scale. -/
theorem final16 (h : Reads m c D) : (dats m 0 c).arrAt 16 cfg0.N = up2 fun (_ : Fin 1) k => ∑ i, D.tk k i := by
  refine (dats m 0 c).arrAt_eq_of_cover 16 (up2 fun (_ : Fin 1) k => ∑ i, D.tk k i) (fun t hf => ?_) fun i => ?_
  · have ht : t.val + 1 = 16 := by have := (flush0_16 t).mp hf; have := lt16 t; omega
    rw [Value.flushed16, outs16 h t.val t.isLt, ht]
    simp only [part_all (show 16 * 256 = 4096 by norm_num)]
    exact (whole_comp (fun (_ : Fin 1) k => ∑ i, D.tk k i) _ (idx16 t) (fun _ => rfl) fun _ => rfl).symm
  · have ht : 15 < cfg0.N := lt_of_lt_of_eq (by omega : 15 < 16) N_0.symm
    refine ⟨⟨15, ht⟩, (flush0_16 _).mpr rfl, ?_⟩
    show i ∈ ((View.whole main_v41_4).slice (win0_16.rect ⟨15, ht⟩)).set
    rw [View.set_slice_whole, Rect.mem_set_unit]
    exact in_whole i _ (idx16 _)

end Cert.Qkv

end
-- ==== Proof.Qkv.Packed.lean ====
/-
  The backward kernel of the attention's projections: the arrays its windows hold, from the arrays the call is given, and the
  kernel's gradients said of those.
-/
module

public import proofs.«01_k».proof.Proof.Qkv.Result
public import proofs.«01_k».proof.Proof.Common.Join
public import proofs.«01_k».proof.Proof.Common.Tile

@[expose] public section

set_option maxRecDepth 16384

noncomputable section

open Cert.Lift

namespace Cert.Qkv

/-- A sum over `m` runs of `n`. -/
theorem sum_runs {m n N : ℕ} (hN : m * n = N) (f : Fin N → ℝ) (hb : ∀ (e : Fin m) (k : Fin n), e.val * n + k.val < N) :
    ∑ x, f x = ∑ e : Fin m, ∑ k : Fin n, f ⟨e.val * n + k.val, hb e k⟩ := by
  subst hN
  rw [← finProdFinEquiv.sum_comp, Fintype.sum_prod_type]
  refine Finset.sum_congr rfl fun e _ => Finset.sum_congr rfl fun k _ => congrArg f (Fin.ext ?_)
  show k.val + n * e.val = e.val * n + k.val
  rw [Nat.mul_comm, Nat.add_comm]

/-- Eight heads of 192 lanes, each followed by 64 zeros. -/
def pack (q : Fin 8 → Fin 192 → ℝ) (x : Fin 2048) : ℝ :=
  if h : x.val % 256 < 192 then q ⟨x.val / 256, by omega⟩ ⟨x.val % 256, h⟩ else 0

theorem pack_at (q : Fin 8 → Fin 192 → ℝ) (x : Fin 2048) (e : Fin 8) (k : Fin 192) (h : x.val = e.val * 256 + k.val) : pack q x = q e k := by
  have hk := k.isLt
  unfold pack
  rw [dif_pos (by omega)]
  exact congrArg₂ q (Fin.ext (by show x.val / 256 = e.val; omega)) (Fin.ext (by show x.val % 256 = k.val; omega))

theorem pack_zero (q : Fin 8 → Fin 192 → ℝ) (x : Fin 2048) (h : 192 ≤ x.val % 256) : pack q x = 0 := dif_neg (by omega)

/-- The cosines of a row in both halves of the rotated lanes, then zeros. -/
def tabC (co : Fin 32 → ℝ) (i : Fin 128) : ℝ :=
  if h : i.val < 32 then co ⟨i.val, h⟩ else if h' : i.val - 32 < 32 then co ⟨i.val - 32, h'⟩ else 0

/-- The negated sines of a row in the first half, then zeros. -/
def tabA (si : Fin 32 → ℝ) (i : Fin 128) : ℝ := if h : i.val < 32 then -si ⟨i.val, h⟩ else 0

/-- The sines of a row in the second half, zeros elsewhere. -/
def tabB (si : Fin 32 → ℝ) (i : Fin 128) : ℝ :=
  if i.val < 32 then 0 else if h' : i.val - 32 < 32 then si ⟨i.val - 32, h'⟩ else 0

/-- The rotation's gradient on 64 lanes. -/
def back (co si : Fin 32 → ℝ) (d : Fin 64 → ℝ) (y : Fin 64) : ℝ :=
  if h : y.val < 32 then d ⟨32 + y.val, by omega⟩ * si ⟨y.val, h⟩ + d ⟨y.val, by omega⟩ * co ⟨y.val, h⟩
  else d ⟨32 + (y.val - 32), by omega⟩ * co ⟨y.val - 32, by omega⟩ + -d ⟨y.val - 32, by omega⟩ * si ⟨y.val - 32, by omega⟩

theorem back_scale (co si : Fin 32 → ℝ) (d : Fin 64 → ℝ) (s : ℝ) (y : Fin 64) : back co si (fun i => d i * s) y = back co si d y * s := by
  unfold back
  split_ifs <;> ring

/-- The kernel's rotation is that gradient on the first 64 lanes and zero on the others. -/
theorem turn_tab (co si : Fin 32 → ℝ) (d : Fin 128 → ℝ) (i : Fin 128) :
    turn (tabC co) (tabA si) (tabB si) d i = if h : i.val < 64 then back co si (fun y => d ⟨y.val, by omega⟩) ⟨i.val, h⟩ else 0 := by
  unfold turn tabC tabA tabB back
  by_cases h : i.val < 32
  · simp only [h, if_true, dif_pos, show i.val < 64 by omega, show (i.val + 32) % 128 = 32 + i.val by omega]
    ring
  · by_cases h' : i.val < 64
    · simp only [h, h', if_false, dif_neg, dif_pos, not_false_eq_true, show i.val - 32 < 32 by omega, show (i.val + 96) % 128 = i.val - 32 by omega,
        show 32 + (i.val - 32) = i.val by omega]
      ring
    · simp only [h, h', if_false, dif_neg, not_false_eq_true, show ¬i.val - 32 < 32 by omega]
      ring

/-- The reals that the call is given; `co` and `si` are the cosines and sines of the positions' angles. -/
structure Given where
  z : Fin 4096 → Fin 704 → ℝ
  co : Fin 4096 → Fin 32 → ℝ
  si : Fin 4096 → Fin 32 → ℝ
  gq : Fin 1 → Fin 384 → ℝ
  wq : Fin 1 → Fin 384 → Fin 1536 → ℝ
  gk : Fin 1 → Fin 256 → ℝ
  wk : Fin 1 → Fin 256 → Fin 8 → Fin 128 → ℝ
  wv : Fin 1 → Fin 256 → Fin 8 → Fin 128 → ℝ
  q : Fin 4096 → Fin 8 → Fin 192 → ℝ
  k : Fin 4096 → Fin 8 → Fin 192 → ℝ
  v : Fin 4096 → Fin 1024 → ℝ

/-- One head's columns of the queries' weight, followed by zeros. -/
def packW (w : Fin 384 → Fin 1536 → ℝ) (e : Fin 8) (c : Fin 384) (k : Fin 256) : ℝ :=
  if h : k.val < 192 then w c ⟨e.val * 192 + k.val, by omega⟩ else 0

/-- The heads of a weight side by side. -/
def flat (w : Fin 8 → Fin 128 → ℝ) (x : Fin 1024) : ℝ := w ⟨x.val / 128, by omega⟩ ⟨x.val % 128, by omega⟩

theorem sum_flat (w : Fin 8 → Fin 128 → ℝ) (u : Fin 1024 → ℝ) :
    ∑ x, u x * flat w x = ∑ e : Fin 8, ∑ k : Fin 128, u ⟨e.val * 128 + k.val, by omega⟩ * w e k := by
  rw [sum_runs (m := 8) (n := 128) rfl _ fun e k => by omega]
  refine Finset.sum_congr rfl fun e _ => Finset.sum_congr rfl fun k _ => congrArg (_ * ·) ?_
  exact congrArg₂ w (Fin.ext (by show (e.val * 128 + k.val) / 128 = e.val; omega)) (Fin.ext (by show (e.val * 128 + k.val) % 128 = k.val; omega))

namespace Given

variable (A : Given)

/-- What the windows hold. -/
def data : Data where
  q r := pack (A.q r)
  k r := pack (A.k r)
  v := A.v
  z r x := if h : x.val < 704 then A.z r ⟨x.val, h⟩ else 0
  c r := tabC (A.co r)
  a r := tabA (A.si r)
  b r := tabB (A.si r)
  gq := A.gq
  gk := A.gk
  wq := packW (A.wq 0)
  wk c := flat (A.wk 0 c)
  wv c := flat (A.wv 0 c)

/-- The gradient of the projected queries, head by head. -/
def rq (r : Fin 4096) (e : Fin 8) (x : Fin 192) : ℝ :=
  if x.val < 128 then A.q r e x * scale
  else back (A.co r) (A.si r) (fun y => A.q r e ⟨128 + y.val, by omega⟩ * scale) ⟨x.val - 128, by omega⟩

/-- The keys' rotated parts summed over the heads. -/
def rk (r : Fin 4096) (y : Fin 64) : ℝ := ∑ e : Fin 8, A.k r e ⟨128 + y.val, by omega⟩

theorem dq_eq (r : Fin 4096) : A.data.dq r = pack (A.rq r) := by
  funext x
  show dqOf (tabC (A.co r)) (tabA (A.si r)) (tabB (A.si r)) (pack (A.q r)) x = _
  unfold dqOf
  by_cases h : x.val % 256 < 128
  · rw [if_pos h, pack_at _ x ⟨x.val / 256, by omega⟩ ⟨x.val % 256, by omega⟩ (by show x.val = x.val / 256 * 256 + x.val % 256; omega),
      pack_at _ x ⟨x.val / 256, by omega⟩ ⟨x.val % 256, by omega⟩ (by show x.val = x.val / 256 * 256 + x.val % 256; omega)]
    exact (if_pos h).symm
  · rw [if_neg h, turn_tab]
    by_cases h' : x.val % 256 < 192
    · rw [dif_pos (by show x.val % 256 - 128 < 64; omega), ← back_scale,
        pack_at (A.rq r) x ⟨x.val / 256, by omega⟩ ⟨x.val % 256, by omega⟩ (by show x.val = x.val / 256 * 256 + x.val % 256; omega), rq, if_neg h]
      refine congrArg (fun d => back (A.co r) (A.si r) d _) (funext fun y => congrArg (· * scale) ?_)
      exact pack_at _ _ ⟨x.val / 256, by omega⟩ ⟨128 + y.val, by omega⟩ (by show x.val / 256 * 256 + 128 + y.val = x.val / 256 * 256 + (128 + y.val); omega)
    · rw [dif_neg (by show ¬x.val % 256 - 128 < 64; omega), pack_zero _ x (by omega), zero_mul]

theorem dk_eq (r : Fin 4096) (x : Fin 1024) : A.data.dk r x = A.k r ⟨x.val / 128, by omega⟩ ⟨x.val % 128, by omega⟩ :=
  pack_at _ _ ⟨x.val / 128, by omega⟩ ⟨x.val % 128, by omega⟩ rfl

theorem cq_eq (r : Fin 4096) (c : Fin 384) :
    A.data.cq r c = ∑ x : Fin 1536, A.rq r ⟨x.val / 192, by omega⟩ ⟨x.val % 192, by omega⟩ * A.wq 0 c x := by
  show ∑ e : Fin 8, ∑ k : Fin 256, A.data.dq r ⟨e.val * 256 + k.val, by omega⟩ * packW (A.wq 0) e c k = _
  rw [dq_eq, sum_runs (m := 8) (n := 192) rfl _ fun e k => by omega]
  refine Finset.sum_congr rfl fun e _ => ?_
  rw [show (∑ k : Fin 256, pack (A.rq r) ⟨e.val * 256 + k.val, by omega⟩ * packW (A.wq 0) e c k)
      = ∑ k : Fin (192 + 64), pack (A.rq r) ⟨e.val * 256 + k.val, by omega⟩ * packW (A.wq 0) e c k from rfl, Fin.sum_univ_add]
  rw [Finset.sum_eq_zero (s := (Finset.univ : Finset (Fin 64))) fun k _ => ?_, add_zero]
  · refine Finset.sum_congr rfl fun k _ => ?_
    rw [pack_at _ _ e k rfl, packW, dif_pos (show (Fin.castAdd 64 k).val < 192 from k.isLt)]
    refine congrArg₂ (fun a b => A.rq r a b * _) (Fin.ext ?_) (Fin.ext ?_)
    · show e.val = (e.val * 192 + k.val) / 192
      omega
    · show k.val = (e.val * 192 + k.val) % 192
      omega
  · rw [packW, dif_neg (by show ¬192 + k.val < 192; omega), mul_zero]

theorem ck_eq (r : Fin 4096) (c : Fin 256) : A.data.ck r c
    = ∑ e : Fin 8, ∑ k : Fin 128, A.v r ⟨e.val * 128 + k.val, by omega⟩ * A.wv 0 c e k
      + ∑ e : Fin 8, ∑ k : Fin 128, A.k r e ⟨k.val, by omega⟩ * A.wk 0 c e k := by
  show ∑ x, A.data.dk r x * flat (A.wk 0 c) x + ∑ x, A.v r x * flat (A.wv 0 c) x = _
  rw [sum_flat, sum_flat, add_comm]
  refine congrArg (_ + ·) (Finset.sum_congr rfl fun e _ => Finset.sum_congr rfl fun k _ => congrArg (· * _) ?_)
  rw [dk_eq]
  refine congrArg₂ (A.k r) (Fin.ext ?_) (Fin.ext ?_)
  · show (e.val * 128 + k.val) / 128 = e.val
    omega
  · show (e.val * 128 + k.val) % 128 = k.val
    omega

theorem kr_eq (r : Fin 4096) (i : Fin 128) :
    A.data.kr r i = if h : i.val < 64 then back (A.co r) (A.si r) (A.rk r) ⟨i.val, h⟩ else 0 := by
  show turn (tabC (A.co r)) (tabA (A.si r)) (tabB (A.si r)) (dkrOf (pack (A.k r)) 8 le_rfl) i = _
  rw [turn_tab]
  refine dite_congr rfl (fun _ => congrArg (fun d => back (A.co r) (A.si r) d _) (funext fun y => Finset.sum_congr rfl fun e _ => ?_)) fun _ => rfl
  exact pack_at _ _ e ⟨128 + y.val, by omega⟩ (by show e.val * 256 + 128 + y.val = e.val * 256 + (128 + y.val); omega)

/-- The columns of the compressed rows. -/
def zq (r : Fin 4096) (x : Fin 384) : ℝ := A.z r ⟨x.val, by omega⟩
@[inherit_doc zq]
def zk (r : Fin 4096) (x : Fin 256) : ℝ := A.z r ⟨384 + x.val, by omega⟩

theorem zq_eq (r : Fin 4096) : Qkv.zq (A.data.z r) = A.zq r := funext fun x => dif_pos (by show x.val < 704; omega)

theorem zk_eq (r : Fin 4096) : Qkv.zk (A.data.z r) = A.zk r := funext fun x => dif_pos (by show 384 + x.val < 704; omega)

end Given

end Cert.Qkv

end
-- ==== Proof.Qkv.RefHeads.lean ====
/-
  The reference of the attention projections' gradients: the gradients of the projected queries and of the keys' parts as arrays
  of reals.
-/
module

public import proofs.«01_k».proof.Proof.Qkv.Packed
public import proofs.«01_k».proof.Proof.Gen.Reference5Ideal.Read

@[expose] public section

set_option maxRecDepth 16384

noncomputable section

open Idealize.ShloMosaic Cert.Lift

namespace Cert.Qkv.Ref

open Cert.Reference5Ideal Cert.Reference5Ideal.Read Cert.Reference5Ideal.Facts₀

variable (A : Given) (p : IVec S1x4096 32)

/-- The reference's cosines and sines are the given ones. -/
structure Angles : Prop where
  co : val_main_v17 (F := Ideal) p = up2 A.co
  si : val_main_v18 (F := Ideal) p = up2 A.si

variable {A p}

theorem v45 : val_main_v45 (F := Ideal) (up3 A.q) = up3 fun r e x => A.q r e x * scale := by
  funext j
  idx_vars j
  pointwise [val_main_v45, val_main_v44, val_main_v19, val_main_cst_5]
  simp only [up3_ix, lit_scale, ← EReal.coe_mul]

theorem v58 (h : Angles A p) : val_main_v58 (F := Ideal) p (up3 A.q)
    = up3 fun r e (y : Fin 32) => A.q r e ⟨128 + (32 + y.val), by omega⟩ * scale * A.co r y + -(A.q r e ⟨128 + y.val, by omega⟩ * scale) * A.si r y := by
  unfold val_main_v58 val_main_v57 val_main_v54 val_main_v53 val_main_v56 val_main_v25 val_main_v26 val_main_v55 val_main_v50 val_main_v49 val_main_v47
  rw [h.co, h.si, v45]
  funext j
  idx_vars j
  pointwise
  simp only [up2_ix, up3_ix, ← EReal.coe_mul, ← EReal.coe_neg, ← EReal.coe_add]

theorem v61 (h : Angles A p) : val_main_v61 (F := Ideal) p (up3 A.q)
    = up3 fun r e (y : Fin 32) => A.q r e ⟨128 + (32 + y.val), by omega⟩ * scale * A.si r y + A.q r e ⟨128 + y.val, by omega⟩ * scale * A.co r y := by
  unfold val_main_v61 val_main_v60 val_main_v52 val_main_v51 val_main_v59 val_main_v25 val_main_v26 val_main_v50 val_main_v49 val_main_v47
  rw [h.co, h.si, v45]
  funext j
  idx_vars j
  pointwise
  simp only [up2_ix, up3_ix, ← EReal.coe_mul, ← EReal.coe_add]

theorem v66 (h : Angles A p) : val_main_v66 (F := Ideal) p (up3 A.q) = up3 A.rq := by
  have z6 : val_main_cst_6 (F := Ideal) (Shape.Idx.first Gen.h_S_) = ((0 : ℝ) : EReal) := lit_zero
  have z7 : val_main_cst_7 (F := Ideal) (Shape.Idx.first Gen.h_S_) = ((0 : ℝ) : EReal) := lit_zero
  have z8 : val_main_cst_8 (F := Ideal) (Shape.Idx.first Gen.h_S_) = ((0 : ℝ) : EReal) := lit_zero
  have z9 : val_main_cst_9 (F := Ideal) (Shape.Idx.first Gen.h_S_) = ((0 : ℝ) : EReal) := lit_zero
  unfold val_main_v66 val_main_v65 val_main_v64 val_main_v63 val_main_v62 val_main_v48 val_main_v46
  rw [v58 h, v61 h, v45]
  funext j
  idx_vars j
  pointwise
  simp only [up3_ix, z6, z7, z8, z9, ← coe_dite, ← EReal.coe_add]
  refine congrArg (fun z : ℝ => (z : EReal)) ?_
  have hj := j2.isLt
  unfold Given.rq back
  by_cases h1 : j2.val < 128
  · simp only [h1, if_true, dif_pos, show ¬(128 ≤ j2.val ∧ j2.val - 128 < 64) by omega, dif_neg, not_false_eq_true, add_zero]
  · by_cases h2 : j2.val - 128 < 32
    · simp only [h1, h2, if_false, dif_pos, show 128 ≤ j2.val ∧ j2.val - 128 < 64 by omega, show ¬(32 ≤ j2.val - 128 ∧ j2.val - 128 - 32 < 32) by omega,
        and_self, dif_neg, not_false_eq_true, zero_add]
    · simp only [h1, h2, if_false, dif_pos, show 128 ≤ j2.val ∧ j2.val - 128 < 64 by omega, show 32 ≤ j2.val - 128 ∧ j2.val - 128 - 32 < 32 by omega,
        and_self, dif_neg, not_false_eq_true, zero_add, add_zero]

theorem v202 (h : Angles A p) : val_main_v202 (F := Ideal) p (up3 A.q) = up3 A.rq := by
  unfold val_main_v202 val_main_v67
  rw [v66 h]
  funext j
  idx_vars j
  pointwise

theorem v67 (h : Angles A p) : val_main_v67 (F := Ideal) p (up3 A.q) = up2 fun r (x : Fin 1536) => A.rq r ⟨x.val / 192, by omega⟩ ⟨x.val % 192, by omega⟩ := by
  unfold val_main_v67
  rw [v66 h]
  funext j
  idx_vars j
  pointwise
  rfl

/-- Result 0. -/
theorem v205 (h : Angles A p) : val_main_v205 (F := Ideal) p (up3 A.q) = up2 A.data.dq := by
  have z : val_main_call0_v0 (F := Ideal) (Shape.Idx.first Gen.h_S_) = ((0 : ℝ) : EReal) := by
    show ((((0#32 : BitVec 32).toInt : ℝ)) : EReal) = _
    simp
  unfold val_main_v205 val_main_v204 val_main_v203
  rw [v202 h]
  funext j
  idx_vars j
  pointwise
  simp only [up3_ix, up2_ix, z, ← coe_dite, A.dq_eq]
  refine congrArg (fun z : ℝ => (z : EReal)) ?_
  have hj := j1.isLt
  unfold pack
  by_cases h1 : j1.val % 256 < 192
  · rw [dif_pos h1, dif_pos ⟨by omega, h1⟩]
  · rw [dif_neg h1, dif_neg fun h => h1 h.2]

/-- Result 1. -/
theorem v208 : val_main_v208 (F := Ideal) (up3 A.k) = up2 A.data.dk := by
  funext j
  idx_vars j
  pointwise [val_main_v208, val_main_v207, val_main_v206, val_main_v20]
  simp only [up3_ix, up2_ix, A.dk_eq]

end Cert.Qkv.Ref

end
-- ==== Proof.Qkv.Reference.lean ====
/-
  The reference of the attention projections' gradients: the gradients of the compressed rows and of the two scales as arrays of
  reals.
-/
module

public import proofs.«01_k».proof.Proof.Qkv.RefHeads

@[expose] public section

set_option maxRecDepth 16384

noncomputable section

open Idealize.ShloMosaic Cert.Lift

namespace Cert.Qkv.Ref

open Cert.Reference5Ideal Cert.Reference5Ideal.Read Cert.Reference5Ideal.Facts₀

/-- A rank four array of reals as one of extended reals. -/
def up4 {n p q l : ℕ} (X : Fin n → Fin p → Fin q → Fin l → ℝ) : (⟨4, ![n, p, q, l]⟩ : Shape).Idx → EReal :=
  fun i => ((X (i 0) (i 1) (i 2) (i 3) : ℝ) : EReal)

theorem up4_ix {n p q l : ℕ} (X : Fin n → Fin p → Fin q → Fin l → ℝ) (a : Fin n) (b : Fin p) (c : Fin q) (d : Fin l) :
    up4 X (ix4 a b c d) = ((X a b c d : ℝ) : EReal) := rfl

/-- Three rows padded with zeros to 704 and added, with zeros after them. -/
theorem pads_side (P : Fin 384 → ℝ) (Q : Fin 256 → ℝ) (R : Fin 64 → ℝ) (x : Fin 768) :
    (if _ : x.val < 704 then
      ((if h : 640 ≤ x.val ∧ x.val - 640 < 64 then R ⟨x.val - 640, h.2⟩ else 0) + if h : 384 ≤ x.val ∧ x.val - 384 < 256 then Q ⟨x.val - 384, h.2⟩ else 0)
        + if h : x.val < 384 then P ⟨x.val, h⟩ else 0
    else 0) = side P Q (fun i => if h : i.val < 64 then R ⟨i.val, h⟩ else 0) x := by
  have hx := x.isLt
  unfold side
  by_cases h1 : x.val < 384
  · rw [dif_pos (by omega), dif_neg (by omega), dif_neg (by omega), dif_pos h1, dif_pos h1, zero_add, zero_add]
  · by_cases h2 : x.val < 640
    · rw [dif_pos (by omega), dif_neg (by omega), dif_pos (by omega), dif_neg h1, dif_neg h1, dif_pos h2, zero_add, add_zero]
    · by_cases h3 : x.val < 704
      · rw [dif_pos h3, dif_pos (by omega), dif_neg (by omega), dif_neg h1, dif_neg h1, dif_neg h2, add_zero, add_zero]
        exact Eq.symm (dif_pos (c := x.val - 640 < 64) (by omega))
      · rw [dif_neg h3, dif_neg h1, dif_neg h2]
        exact Eq.symm (dif_neg (c := x.val - 640 < 64) (by omega))

variable {A : Given} {p : IVec S1x4096 32}

theorem v68 : val_main_v68 (F := Ideal) (up2 A.z) = up2 A.zq := by
  funext j
  idx_vars j
  pointwise [val_main_v68]
  rfl

theorem v69 : val_main_v69 (F := Ideal) (up2 A.z) = up2 A.zk := by
  funext j
  idx_vars j
  pointwise [val_main_v69]
  rfl

theorem v174 (h : Angles A p) : val_main_v174 (F := Ideal) p (up3 A.wq) (up3 A.q) = up2 A.data.cq := by
  unfold val_main_v174 val_main_v88
  rw [v67 h]
  funext j
  idx_vars j
  pointwise
  simp only [up2_ix, up3_ix, ← EReal.coe_mul, ← coe_sum, A.cq_eq]

theorem v149 : val_main_v149 (F := Ideal) (up4 A.wk) (up4 A.wv) (up3 A.k) (up2 A.v) = up2 A.data.ck := by
  unfold val_main_v149
  funext j
  idx_vars j
  pointwise [val_main_v144, val_main_v148, val_main_v124, val_main_v21, val_main_v125, val_main_v20, val_main_v109, val_main_v107]
  simp only [up2_ix, up3_ix, up4_ix, ← EReal.coe_mul, ← coe_sum, ← EReal.coe_add, A.ck_eq]

theorem v129 : val_main_v129 (F := Ideal) (up3 A.k) = up2 A.rk := by
  funext j
  idx_vars j
  pointwise [val_main_v129, val_main_v128, val_main_v127, val_main_v126, val_main_v20]
  have z8 : val_main_cst_18 (F := Ideal) (Shape.Idx.first Gen.h_S_) = 0 := lit_zero
  have z9 : val_main_cst_19 (F := Ideal) (Shape.Idx.first Gen.h_S_) = 0 := lit_zero
  simp only [up2_ix, up3_ix, z8, z9, zero_add, Fin.sum_univ_one, ← coe_sum]
  rfl

theorem v136 (h : Angles A p) : val_main_v136 (F := Ideal) p (up3 A.k)
    = up2 fun r (y : Fin 32) => A.rk r ⟨32 + y.val, by omega⟩ * A.co r y + -A.rk r ⟨y.val, by omega⟩ * A.si r y := by
  unfold val_main_v136 val_main_v135 val_main_v133 val_main_v134 val_main_v131 val_main_v130
  rw [h.co, h.si, v129]
  funext j
  idx_vars j
  pointwise
  simp only [up2_ix, ← EReal.coe_mul, ← EReal.coe_neg, ← EReal.coe_add]

theorem v138 (h : Angles A p) : val_main_v138 (F := Ideal) p (up3 A.k)
    = up2 fun r (y : Fin 32) => A.rk r ⟨32 + y.val, by omega⟩ * A.si r y + A.rk r ⟨y.val, by omega⟩ * A.co r y := by
  unfold val_main_v138 val_main_v137 val_main_v132 val_main_v131 val_main_v130
  rw [h.co, h.si, v129]
  funext j
  idx_vars j
  pointwise
  simp only [up2_ix, ← EReal.coe_mul, ← EReal.coe_add]

theorem v141 (h : Angles A p) : val_main_v141 (F := Ideal) p (up3 A.k) = up2 fun r => back (A.co r) (A.si r) (A.rk r) := by
  have z0 : val_main_cst_20 (F := Ideal) (Shape.Idx.first Gen.h_S_) = ((0 : ℝ) : EReal) := lit_zero
  have z1 : val_main_cst_21 (F := Ideal) (Shape.Idx.first Gen.h_S_) = ((0 : ℝ) : EReal) := lit_zero
  unfold val_main_v141 val_main_v139 val_main_v140
  rw [v136 h, v138 h]
  funext j
  idx_vars j
  pointwise
  simp only [up2_ix, z0, z1, ← coe_dite, ← EReal.coe_add]
  refine congrArg (fun z : ℝ => (z : EReal)) ?_
  have hj := j1.isLt
  unfold back
  by_cases h2 : j1.val < 32
  · simp only [h2, dif_pos, show ¬(32 ≤ j1.val ∧ j1.val - 32 < 32) by omega, dif_neg, not_false_eq_true, zero_add]
  · simp only [h2, show 32 ≤ j1.val ∧ j1.val - 32 < 32 by omega, and_self, dif_pos, dif_neg, not_false_eq_true, add_zero]

theorem v195 (h : Angles A p) : val_main_v195 (F := Ideal) (up2 A.z) p (up2 A.gq) (up3 A.wq) (up3 A.q)
    = up2 fun r => rmsGrad (A.gq 0) (A.zq r) (A.data.cq r) := by
  have key := hGrad_real (hl := len_384) h_S_ reducesTo_S4096x384_S4096_d1 bcast_S4096_S4096x1_0 bcast_S_S4096x1 bcast_S4096x1_S4096x384_0_1
    shapeCasts_S1x384_S384 bcast_S384_S1x384_1 bcast_S1x384_S4096x384_0_1 shapeCasts_S4096_S4096x1 reducesTo_S4096x1_S4096_d1
    bcast_S4096_S4096x384_0 A.data.cq A.zq A.gq
  rw [← v174 h, ← v68] at key
  exact key

theorem v170 : val_main_v170 (F := Ideal) (up2 A.z) (up2 A.gk) (up4 A.wk) (up4 A.wv) (up3 A.k) (up2 A.v)
    = up2 fun r => rmsGrad (A.gk 0) (A.zk r) (A.data.ck r) := by
  have key := hGrad_real (hl := len_256) h_S_ reducesTo_S4096x256_S4096_d1 bcast_S4096_S4096x1_0 bcast_S_S4096x1 bcast_S4096x1_S4096x256_0_1
    shapeCasts_S1x256_S256 bcast_S256_S1x256_1 bcast_S1x256_S4096x256_0_1 shapeCasts_S4096_S4096x1 reducesTo_S4096x1_S4096_d1
    bcast_S4096_S4096x256_0 A.data.ck A.zk A.gk
  rw [← v149, ← v69] at key
  exact key

/-- Result 3. -/
theorem v196 (h : Angles A p) : val_main_v196 (F := Ideal) (up2 A.z) p (up3 A.wq) (up3 A.q) = up2 fun (_ : Fin 1) k => ∑ i, A.data.tq k i := by
  have key := hScale_real h_S_ bcast_S384_S1x384_1 reducesTo_S4096x384_S384_d0 shapeCasts_S384_S1x384 reducesTo_S1x384_S384_d0
    (fun r => rnrm (A.zq r)) A.data.cq
  rw [← v174 h, ← hNrm_real (hl := len_384) h_S_ reducesTo_S4096x384_S4096_d1 bcast_S4096_S4096x1_0 bcast_S_S4096x1 bcast_S4096x1_S4096x384_0_1 A.zq,
    ← v68] at key
  refine Eq.trans key (congrArg up2 (funext fun _ => funext fun k => Finset.sum_congr rfl fun i _ => ?_))
  rw [Data.tq, A.zq_eq]

/-- Result 4. -/
theorem v171 : val_main_v171 (F := Ideal) (up2 A.z) (up4 A.wk) (up4 A.wv) (up3 A.k) (up2 A.v) = up2 fun (_ : Fin 1) k => ∑ i, A.data.tk k i := by
  have key := hScale_real h_S_ bcast_S256_S1x256_1 reducesTo_S4096x256_S256_d0 shapeCasts_S256_S1x256 reducesTo_S1x256_S256_d0
    (fun r => rnrm (A.zk r)) A.data.ck
  rw [← v149, ← hNrm_real (hl := len_256) h_S_ reducesTo_S4096x256_S4096_d1 bcast_S4096_S4096x1_0 bcast_S_S4096x1 bcast_S4096x1_S4096x256_0_1 A.zk,
    ← v69] at key
  refine Eq.trans key (congrArg up2 (funext fun _ => funext fun k => Finset.sum_congr rfl fun i _ => ?_))
  rw [Data.tk, A.zk_eq]

/-- Result 2. -/
theorem v210 (h : Angles A p) : val_main_v210 (F := Ideal) (up2 A.z) p (up2 A.gq) (up3 A.wq) (up2 A.gk) (up4 A.wk) (up4 A.wv) (up3 A.q) (up3 A.k) (up2 A.v)
    = up2 A.data.dz := by
  have z2 : val_main_cst_32 (F := Ideal) (Shape.Idx.first Gen.h_S_) = ((0 : ℝ) : EReal) := lit_zero
  have z3 : val_main_cst_33 (F := Ideal) (Shape.Idx.first Gen.h_S_) = ((0 : ℝ) : EReal) := lit_zero
  have z4 : val_main_cst_34 (F := Ideal) (Shape.Idx.first Gen.h_S_) = ((0 : ℝ) : EReal) := lit_zero
  have z5 : val_main_call1_v0 (F := Ideal) (Shape.Idx.first Gen.h_S_) = ((0 : ℝ) : EReal) := by
    show ((((0#32 : BitVec 32).toInt : ℝ)) : EReal) = _
    simp
  unfold val_main_v210 val_main_v209 val_main_v201 val_main_v200 val_main_v199 val_main_v198 val_main_v197
  rw [v141 h, v195 h, v170]
  funext j
  idx_vars j
  pointwise
  simp only [up2_ix, z2, z3, z4, z5, ← coe_dite, ← EReal.coe_add]
  refine congrArg (fun z : ℝ => (z : EReal)) ?_
  have hj := j1.isLt
  show _ = side (rmsGrad (A.gq 0) (Qkv.zq (A.data.z j0)) (A.data.cq j0)) (rmsGrad (A.gk 0) (Qkv.zk (A.data.z j0)) (A.data.ck j0)) (A.data.kr j0) j1
  rw [A.zq_eq, A.zk_eq, funext (A.kr_eq j0)]
  exact pads_side ..

end Cert.Qkv.Ref

end
-- ==== Proof.Qkv.Host.lean ====
/-
  The backward kernel of the attention's projections: the arrays that the host code around it computes, as arrays of reals.
-/
module

public import proofs.«01_k».proof.Proof.Qkv.Reference

@[expose] public section

set_option maxRecDepth 16384

noncomputable section

open Idealize.ShloMosaic Idealize.ShloMosaic.TcCoe Idealize.SL.Sem Cert.Lift

namespace Cert.Qkv

/-! ## The angles, the same on both sides -/

section angles

open Cert.Reference5Ideal Cert.Reference5Ideal.Read

/-- The frequencies are real. -/
theorem freq_real : ∃ f : Fin 32 → ℝ, val_main_v9 (F := Ideal) = up1 f := by
  have e0 : ∀ i : Fin 32, val_main_v0 (F := Ideal) (ix1 i) = (((BitVec.ofNat 32 i.val).toInt : ℝ) : EReal) := fun i => rfl
  have h64 : Ideal.ofBits .f32 0x42800000#32 = ((64 : ℝ) : EReal) := by simp [Ideal.ofBits, Ideal.ieee, -EReal.coe_mul]; norm_num
  have hb : Ideal.ofBits .f32 0x461C4000#32 = ((10000 : ℝ) : EReal) := by simp [Ideal.ofBits, Ideal.ieee, -EReal.coe_mul]; norm_num
  refine ⟨fun i => Real.rpow 10000 (-(2 * ((BitVec.ofNat 32 i.val).toInt : ℝ)) / 64), funext fun j => ?_⟩
  idx_vars j
  pointwise [val_main_v9, val_main_v8, val_main_cst_2, val_main_v7, val_main_v6, val_main_cst_1, val_main_v5, val_main_v4, val_main_v3, val_main_cst_0,
    val_main_v2, val_main_v1, val_main_cst]
  rw [e0, h64, hb, lit_two, ← EReal.coe_mul]
  rw [← EReal.coe_neg, div_real _ (by norm_num)]
  rfl

theorem angle_real (p : IVec S1x4096 32) : ∃ a : Fin 4096 → Fin 32 → ℝ, val_main_v16 (F := Ideal) p = up2 a := by
  obtain ⟨f, hf⟩ := freq_real
  refine ⟨fun r i => ((p (ix2 0 r)).toInt : ℝ) * f i, ?_⟩
  unfold val_main_v16 val_main_v15 val_main_v13
  rw [hf]
  funext j
  idx_vars j
  pointwise [val_main_v14, val_main_v12, val_main_v11, val_main_v10]
  simp only [up1_ix, up2_ix, EReal.coe_mul]
  rfl

theorem exists_angles (p : IVec S1x4096 32) :
    ∃ co si : Fin 4096 → Fin 32 → ℝ, val_main_v17 (F := Ideal) p = up2 co ∧ val_main_v18 (F := Ideal) p = up2 si := by
  obtain ⟨a, ha⟩ := angle_real p
  refine ⟨fun r i => Real.cos (a r i), fun r i => Real.sin (a r i), ?_, ?_⟩
  · unfold val_main_v17
    rw [ha]
    rfl
  · unfold val_main_v18
    rw [ha]
    rfl

end angles

open Cert.Kernel5Ideal Cert.Kernel5Ideal.Gen

/-! ## The host's tables, paddings and packings -/

/-- Zero, as the host's padding converts it. -/
theorem pad_zero (φ : FTy) : (FloatOps.sitofp (F := Ideal) φ 0#32 : EReal) = ((0 : ℝ) : EReal) := by
  show ((((0#32 : BitVec 32).toInt : ℝ)) : EReal) = _
  simp

/-- Zeros. -/
def zeros64 : FVec Ideal S4096x64 .f32 := broadcastInDim S4096x64 ![] bcast_S_S4096x64 (constant S_ .f32 0x00000000#32)
@[inherit_doc zeros64]
def zeros32 : FVec Ideal S4096x32 .f32 := broadcastInDim S4096x32 ![] bcast_S_S4096x32 (constant S_ .f32 0x00000000#32)

/-- Three pieces side by side. -/
def three (x y : FVec Ideal S4096x32 .f32) (z : FVec Ideal S4096x64 .f32) : FVec Ideal S4096x128 .f32 :=
  concatenate S4096x128 1 [⟨S4096x32, x⟩, ⟨S4096x32, y⟩, ⟨S4096x64, z⟩] concatenates_S4096x32_S4096x32_S4096x64_S4096x128_d1

/-- The host's packing of the heads. -/
def hPack (x : FVec Ideal S4096x8x192 .bf16) : FVec Ideal S4096x2048 .bf16 :=
  shapeCast S4096x2048 (pad S4096x8x256 ![0, 0, 0] ![0, 0, 64] ![0, 0, 0] x (sitofp .bf16 (constantI S_ 32 0#32))
    pads_S4096x8x192_S4096x8x256_000_000_0640 h_S_) shapeCasts_S4096x8x256_S4096x2048

/-- The host's padding of the compressed rows. -/
def hWide (x : FVec Ideal S4096x704 .f32) : FVec Ideal S4096x768 .f32 :=
  pad S4096x768 ![0, 0] ![0, 64] ![0, 0] x (sitofp .f32 (constantI S_ 32 0#32)) pads_S4096x704_S4096x768_000_0640 h_S_

/-- The host's packing of the queries' weight. -/
def hWq (w : FVec Ideal S1x384x1536 .f32) : FVec Ideal S8x384x256 .bf16 :=
  truncf .bf16 (pad S8x384x256 ![0, 0, 0] ![0, 0, 64] ![0, 0, 0]
    (transpose S8x384x192 [1, 0, 2] (shapeCast S384x8x192 (shapeCast S384x1536 w shapeCasts_S1x384x1536_S384x1536) shapeCasts_S384x1536_S384x8x192)
      transposes_S384x8x192_S8x384x192_1_0_2) (sitofp .f32 (constantI S_ 32 0#32)) pads_S8x384x192_S8x384x256_000_000_0640 h_S_) bitsLt_bf16_f32

/-- The host's packing of the keys' and values' weights. -/
def hFlat (w : FVec Ideal S1x256x8x128 .f32) : FVec Ideal S256x1024 .bf16 :=
  truncf .bf16 (shapeCast S256x1024 (shapeCast S256x8x128 w shapeCasts_S1x256x8x128_S256x8x128) shapeCasts_S256x8x128_S256x1024) bitsLt_bf16_f32

variable (A : Given)

theorem hPack_real (Q : Fin 4096 → Fin 8 → Fin 192 → ℝ) : hPack (up3 Q) = up2 fun r => pack (Q r) := by
  funext j
  idx_vars j
  pointwise [hPack]
  simp only [up2_ix, up3_ix, pack, coe_dite, pad_zero]
  have hj := j1.isLt
  by_cases h1 : j1.val % 256 < 192
  · rw [dif_pos h1, dif_pos ⟨by omega, h1⟩]
  · rw [dif_neg h1, dif_neg fun h => h1 h.2]

theorem hWide_real : hWide (up2 A.z) = up2 A.data.z := by
  funext j
  idx_vars j
  pointwise [hWide]
  simp only [up2_ix, Given.data, coe_dite]
  exact dite_congr rfl (fun _ => rfl) fun _ => pad_zero _

theorem hWq_real : hWq (up3 A.wq) = up3 A.data.wq := by
  funext j
  idx_vars j
  pointwise [hWq]
  simp only [up3_ix, Given.data, packW, coe_dite]
  exact dite_congr rfl (fun _ => rfl) fun _ => pad_zero _

theorem hFlat_real (W : Fin 1 → Fin 256 → Fin 8 → Fin 128 → ℝ) : hFlat (Ref.up4 W) = up2 fun c => flat (W 0 c) := by
  funext j
  idx_vars j
  pointwise [hFlat]
  simp only [up2_ix, Ref.up4_ix, flat]

theorem tabC_real (co : Fin 4096 → Fin 32 → ℝ) : three (up2 co) (up2 co) zeros64 = up2 fun r => tabC (co r) := by
  funext j
  idx_vars j
  pointwise [three, zeros64]
  simp only [up2_ix, lit_zero, tabC, coe_dite, EReal.coe_zero]

theorem tabA_real (si : Fin 4096 → Fin 32 → ℝ) : three (Host.negf (φ := .f32) (up2 si)) zeros32 zeros64 = up2 fun r => tabA (si r) := by
  funext j
  idx_vars j
  pointwise [three, zeros64, zeros32]
  simp only [up2_ix, lit_zero, tabA, coe_dite, EReal.coe_neg, EReal.coe_zero, dite_eq_ite, ite_self]

theorem tabB_real (si : Fin 4096 → Fin 32 → ℝ) : three zeros32 (up2 si) zeros64 = up2 fun r => tabB (si r) := by
  funext j
  idx_vars j
  pointwise [three, zeros64, zeros32]
  simp only [up2_ix, lit_zero, tabB]
  split_ifs <;> rfl

end Cert.Qkv

end
-- ==== Proof.Qkv.Windows.lean ====
/-
  The backward kernel of the attention's projections: what its windows' arrays are, as the host code computed them.
-/
module

public import proofs.«01_k».proof.Proof.Qkv.Host

@[expose] public section

set_option maxRecDepth 16384

noncomputable section

open Idealize.ShloMosaic Idealize.ShloMosaic.TcCoe Idealize.SL.Sem Cert.Lift

namespace Cert.Qkv

open Cert.Kernel5Ideal Cert.Kernel5Ideal.Gen

variable (m : (ℓ : Loc nD τ sig) → Buf (Elt Ideal) ℓ) (c : Dev nD)

theorem V_main_v38 : @Eq (FVec Ideal S4096x2048 .bf16) (V m c main_v38) (hPack (m ((c.tc : Thread nD τ).loc main_arg7) : FVec Ideal S4096x8x192 .bf16)) := by
  unfold V
  simp only [hostOps0, hostOps0_1, hostOps0_2, hostOps0_3, hostOps0_4, hostOps0_5, hostOps0_6, hostOps0_7, hostOps0_8, List.flatten_cons, List.flatten_nil,
    List.append_nil, List.cons_append, List.nil_append]
  after_results
  rfl

theorem V_main_v40 : @Eq (FVec Ideal S4096x2048 .bf16) (V m c main_v40) (hPack (m ((c.tc : Thread nD τ).loc main_arg8) : FVec Ideal S4096x8x192 .bf16)) := by
  unfold V
  simp only [hostOps0, hostOps0_1, hostOps0_2, hostOps0_3, hostOps0_4, hostOps0_5, hostOps0_6, hostOps0_7, hostOps0_8, List.flatten_cons, List.flatten_nil,
    List.append_nil, List.cons_append, List.nil_append]
  after_results
  rfl

theorem V_main_v25 : @Eq (FVec Ideal S4096x768 .f32) (V m c main_v25) (hWide (m ((c.tc : Thread nD τ).loc main_arg0) : FVec Ideal S4096x704 .f32)) := by
  unfold V
  simp only [hostOps0, hostOps0_1, hostOps0_2, hostOps0_3, hostOps0_4, hostOps0_5, hostOps0_6, hostOps0_7, hostOps0_8, List.flatten_cons, List.flatten_nil,
    List.append_nil, List.cons_append, List.nil_append]
  after_results
  rfl

theorem V_main_v30 : @Eq (FVec Ideal S8x384x256 .bf16) (V m c main_v30) (hWq (m ((c.tc : Thread nD τ).loc main_arg3) : FVec Ideal S1x384x1536 .f32)) := by
  unfold V
  simp only [hostOps0, hostOps0_1, hostOps0_2, hostOps0_3, hostOps0_4, hostOps0_5, hostOps0_6, hostOps0_7, hostOps0_8, List.flatten_cons, List.flatten_nil,
    List.append_nil, List.cons_append, List.nil_append]
  after_results
  rfl

theorem V_main_v33 : @Eq (FVec Ideal S256x1024 .bf16) (V m c main_v33) (hFlat (m ((c.tc : Thread nD τ).loc main_arg5) : FVec Ideal S1x256x8x128 .f32)) := by
  unfold V
  simp only [hostOps0, hostOps0_1, hostOps0_2, hostOps0_3, hostOps0_4, hostOps0_5, hostOps0_6, hostOps0_7, hostOps0_8, List.flatten_cons, List.flatten_nil,
    List.append_nil, List.cons_append, List.nil_append]
  after_results
  rfl

theorem V_main_v36 : @Eq (FVec Ideal S256x1024 .bf16) (V m c main_v36) (hFlat (m ((c.tc : Thread nD τ).loc main_arg6) : FVec Ideal S1x256x8x128 .f32)) := by
  unfold V
  simp only [hostOps0, hostOps0_1, hostOps0_2, hostOps0_3, hostOps0_4, hostOps0_5, hostOps0_6, hostOps0_7, hostOps0_8, List.flatten_cons, List.flatten_nil,
    List.append_nil, List.cons_append, List.nil_append]
  after_results
  rfl

theorem V_main_v21 : @Eq (FVec Ideal S4096x128 .f32) (V m c main_v21)
    (three (Cert.Reference5Ideal.Read.val_main_v17 (m ((c.tc : Thread nD τ).loc main_arg1) : IVec S1x4096 32))
      (Cert.Reference5Ideal.Read.val_main_v17 (m ((c.tc : Thread nD τ).loc main_arg1) : IVec S1x4096 32)) zeros64) := by
  unfold V
  simp only [hostOps0, hostOps0_1, hostOps0_2, hostOps0_3, hostOps0_4, hostOps0_5, hostOps0_6, hostOps0_7, hostOps0_8, List.flatten_cons, List.flatten_nil,
    List.append_nil, List.cons_append, List.nil_append]
  after_results
  rfl

theorem V_main_v23 : @Eq (FVec Ideal S4096x128 .f32) (V m c main_v23)
    (three (Host.negf (Cert.Reference5Ideal.Read.val_main_v18 (m ((c.tc : Thread nD τ).loc main_arg1) : IVec S1x4096 32))) zeros32 zeros64) := by
  unfold V
  simp only [hostOps0, hostOps0_1, hostOps0_2, hostOps0_3, hostOps0_4, hostOps0_5, hostOps0_6, hostOps0_7, hostOps0_8, List.flatten_cons, List.flatten_nil,
    List.append_nil, List.cons_append, List.nil_append]
  after_results
  rfl

theorem V_main_v24 : @Eq (FVec Ideal S4096x128 .f32) (V m c main_v24)
    (three zeros32 (Cert.Reference5Ideal.Read.val_main_v18 (m ((c.tc : Thread nD τ).loc main_arg1) : IVec S1x4096 32)) zeros64) := by
  unfold V
  simp only [hostOps0, hostOps0_1, hostOps0_2, hostOps0_3, hostOps0_4, hostOps0_5, hostOps0_6, hostOps0_7, hostOps0_8, List.flatten_cons, List.flatten_nil,
    List.append_nil, List.cons_append, List.nil_append]
  after_results
  rfl

end Cert.Qkv

end
-- ==== Proof.Qkv.Claim.lean ====
/-
  The backward kernel of the attention's projections computes the gradients of the plain projections, norms and rotation: the claim
  over the reals.
-/
module

public import proofs.«01_k».proof.Defs
public import proofs.«01_k».proof.Proof.Common.Finite
public import proofs.«01_k».proof.Proof.Qkv.Windows
public import proofs.«01_k».proof.Proof.Gen.Pre_finite5
public import proofs.«01_k».proof.Proof.Gen.Reference5Ideal.Run

@[expose] public section

set_option maxRecDepth 16384

noncomputable section

open Idealize.ShloMosaic Idealize.ShloMosaic.TcCoe Idealize.SL.Sem Cert.Lift

namespace Cert.Qkv

open Cert.Kernel5Ideal Cert.Kernel5Ideal.Gen

/-- A finite rank four array is the image of a real one. -/
theorem exists_up4 {n p q l : ℕ} {x : (⟨4, ![n, p, q, l]⟩ : Shape).Idx → EReal} (h : ∀ i, max (x i) (-(x i)) < ⊤) :
    ∃ X : Fin n → Fin p → Fin q → Fin l → ℝ, x = Ref.up4 X := by
  choose f hf using fun i => real_of_abs_lt_top (h i)
  exact ⟨fun a b c d => f (ix4 a b c d), funext fun i => (hf i).trans (by rw [Ref.up4, ← eq_ix4 i])⟩

variable (m : (ℓ : Loc nD τ sig) → Buf (Elt Ideal) ℓ) (c : Dev nD)

/-- The arguments of one device are arrays of reals. -/
structure Args (A : Given) : Prop where
  h0 : m ((c.tc : Thread nD τ).loc main_arg0) = up2 A.z
  h1 : Ref.Angles A (m ((c.tc : Thread nD τ).loc main_arg1) : IVec S1x4096 32)
  h2 : m ((c.tc : Thread nD τ).loc main_arg2) = up2 A.gq
  h3 : m ((c.tc : Thread nD τ).loc main_arg3) = up3 A.wq
  h4 : m ((c.tc : Thread nD τ).loc main_arg4) = up2 A.gk
  h5 : m ((c.tc : Thread nD τ).loc main_arg5) = Ref.up4 A.wk
  h6 : m ((c.tc : Thread nD τ).loc main_arg6) = Ref.up4 A.wv
  h7 : m ((c.tc : Thread nD τ).loc main_arg7) = up3 A.q
  h8 : m ((c.tc : Thread nD τ).loc main_arg8) = up3 A.k
  h9 : m ((c.tc : Thread nD τ).loc main_arg9) = up2 A.v

/-- Under the precondition there are such reals. -/
theorem exists_args (h : Cert.Pre_Kernel5Ideal_finite5 m) : ∃ A, Args m c A := by
  obtain ⟨e0, e2, e3, e4, e5, e6, e7, e8, e9⟩ := h c
  obtain ⟨z, h0⟩ := exists_up2 (below_of_mask e0)
  obtain ⟨co, si, hc, hs⟩ := exists_angles (m ((c.tc : Thread nD τ).loc main_arg1) : IVec S1x4096 32)
  obtain ⟨gq, h2⟩ := exists_up2 (below_of_mask e2)
  obtain ⟨wq, h3⟩ := exists_up3 (below_of_mask e3)
  obtain ⟨gk, h4⟩ := exists_up2 (below_of_mask e4)
  obtain ⟨wk, h5⟩ := exists_up4 (below_of_mask e5)
  obtain ⟨wv, h6⟩ := exists_up4 (below_of_mask e6)
  obtain ⟨q, h7⟩ := exists_up3 (below_of_mask16 e7)
  obtain ⟨k, h8⟩ := exists_up3 (below_of_mask16 e8)
  obtain ⟨v, h9⟩ := exists_up2 (below_of_mask16 e9)
  exact ⟨⟨z, co, si, gq, wq, gk, wk, wv, q, k, v⟩, h0, ⟨hc, hs⟩, h2, h3, h4, h5, h6, h7, h8, h9⟩

variable {m c} {A : Given}

/-- What the kernel's windows read. -/
theorem reads (a : Args m c A) : Reads m c A.data where
  w0 := by
    refine (V_main_v38 m c).trans ?_
    rw [a.h7, hPack_real]
    rfl
  w1 := by
    refine (V_main_v40 m c).trans ?_
    rw [a.h8, hPack_real]
    rfl
  w2 := (V_main_arg9 m c).trans a.h9
  w3 := by
    refine (V_main_v25 m c).trans ?_
    rw [a.h0, hWide_real]
  w4 := by
    refine (V_main_v21 m c).trans ?_
    rw [a.h1.co, tabC_real]
    rfl
  w5 := by
    refine (V_main_v23 m c).trans ?_
    rw [a.h1.si, tabA_real]
    rfl
  w6 := by
    refine (V_main_v24 m c).trans ?_
    rw [a.h1.si, tabB_real]
    rfl
  w7 := (V_main_arg2 m c).trans a.h2
  w8 := (V_main_arg4 m c).trans a.h4
  w9 := by
    refine (V_main_v30 m c).trans ?_
    rw [a.h3, hWq_real]
  w10 := by
    refine (V_main_v33 m c).trans ?_
    rw [a.h5, hFlat_real]
    rfl
  w11 := by
    refine (V_main_v36 m c).trans ?_
    rw [a.h6, hFlat_real]
    rfl

set_option maxHeartbeats 2000000 in
/-- The kernel's five results are the reference's five. -/
theorem algebraic : Cert.algebraic_Kernel5Ideal_Reference5Ideal_pre_finite5 := by
  intro m g m' g' hp hm
  have hk := Value.run_blocks m g
  have hr := Cert.Reference5Ideal.Value.run (F := Ideal) m' g'
  refine ⟨fun c => (dats m 0 c).arrAt 12 cfg0.N, fun c => (dats m 0 c).arrAt 13 cfg0.N, fun c => (dats m 0 c).arrAt 14 cfg0.N,
    fun c => (dats m 0 c).arrAt 15 cfg0.N, fun c => (dats m 0 c).arrAt 16 cfg0.N, hk, (θ_run _ _ _).mono (fun r h c => ?_) hr⟩
  obtain ⟨q0, q1, q2, q3, q4, k⟩ := h c
  obtain ⟨A, a⟩ := exists_args m c hp
  obtain ⟨i0, i1, i2, i3, i4, i5, i6, i7, i8, i9⟩ := hm c
  have b := reads a
  have e0 : StableHlo.launchContents m' c (Proc.tc.devRef Cert.Reference5Ideal.main_arg0) = up2 A.z := i0.trans a.h0
  have e1 : StableHlo.launchContents m' c (Proc.tc.devRef Cert.Reference5Ideal.main_arg1) = m ((c.tc : Thread nD τ).loc main_arg1) := i1
  have e2 : StableHlo.launchContents m' c (Proc.tc.devRef Cert.Reference5Ideal.main_arg2) = up2 A.gq := i2.trans a.h2
  have e3 : StableHlo.launchContents m' c (Proc.tc.devRef Cert.Reference5Ideal.main_arg3) = up3 A.wq := i3.trans a.h3
  have e4 : StableHlo.launchContents m' c (Proc.tc.devRef Cert.Reference5Ideal.main_arg4) = up2 A.gk := i4.trans a.h4
  have e5 : StableHlo.launchContents m' c (Proc.tc.devRef Cert.Reference5Ideal.main_arg5) = Ref.up4 A.wk := i5.trans a.h5
  have e6 : StableHlo.launchContents m' c (Proc.tc.devRef Cert.Reference5Ideal.main_arg6) = Ref.up4 A.wv := i6.trans a.h6
  have e7 : StableHlo.launchContents m' c (Proc.tc.devRef Cert.Reference5Ideal.main_arg7) = up3 A.q := i7.trans a.h7
  have e8 : StableHlo.launchContents m' c (Proc.tc.devRef Cert.Reference5Ideal.main_arg8) = up3 A.k := i8.trans a.h8
  have e9 : StableHlo.launchContents m' c (Proc.tc.devRef Cert.Reference5Ideal.main_arg9) = up2 A.v := i9.trans a.h9
  refine ⟨(q0.trans (Cert.Reference5Ideal.Read.val_main_v205_eq ..)).trans ?_, (q1.trans (Cert.Reference5Ideal.Read.val_main_v208_eq ..)).trans ?_,
    (q2.trans (Cert.Reference5Ideal.Read.val_main_v210_eq ..)).trans ?_, (q3.trans (Cert.Reference5Ideal.Read.val_main_v196_eq ..)).trans ?_,
    (q4.trans (Cert.Reference5Ideal.Read.val_main_v171_eq ..)).trans ?_, k⟩
  · rw [e1, e7]
    exact (Ref.v205 a.h1).trans (final12 b).symm
  · rw [e8]
    exact Ref.v208.trans (final13 b).symm
  · rw [e0, e1, e2, e3, e4, e5, e6, e7, e8, e9]
    exact (Ref.v210 a.h1).trans (final14 b).symm
  · rw [e0, e1, e3, e7]
    exact (Ref.v196 a.h1).trans (final15 b).symm
  · rw [e0, e5, e6, e8, e9]
    exact Ref.v171.trans (final16 b).symm

end Cert.Qkv

end
-- ==== Proof.Conv.Reference.lean ====
/-
  The reference of the convolution's gradients: its three results as arrays of reals. The reference picks the shifted rows by a table of
  ones and zeros.
-/
module

public import Idealize.ShloMosaic.Lib.TwoAxisContraction
public import proofs.«01_k».proof.Proof.Conv.Result
public import proofs.«01_k».proof.Proof.Qkv.Claim
public import proofs.«01_k».proof.Proof.Gen.Reference2Ideal.Read

@[expose] public section

set_option maxRecDepth 16384

noncomputable section

open Idealize.ShloMosaic Cert.Lift Cert.Qkv.Ref

namespace Cert.Conv

/-- The gates. -/
def gates (B : Fin 4096 → Fin 1024 → ℝ) (r : Fin 4096) (c : Fin 1024) : ℝ := sig (B r c)

/-- The gated input. -/
def gated (A B : Fin 4096 → Fin 1024 → ℝ) (r : Fin 4096) (c : Fin 1024) : ℝ := A r c * gates B r c

/-- The weights of the taps, and zeros after them. -/
def weights (w : Fin 1 → Fin 31 → Fin 1 → Fin 1024 → ℝ) (n : ℕ) (c : Fin 1024) : ℝ := if h : n < 31 then w 0 ⟨n, h⟩ 0 c else 0

/-- The table that picks the shifted rows. -/
def pick (k : Fin 31) (t s : Fin 4096) : ℝ := if s.val + 30 = t.val + k.val then 1 else 0

/-- Picking a row of the gated input. -/
theorem sum_pick (U : Fin 4096 → Fin 1024 → ℝ) (k : Fin 31) (t : Fin 4096) (c : Fin 1024) :
    ∑ s, pick k t s * U s c = before U (k.val + 2 + t.val) c := by
  have hk := k.isLt
  have ht := t.isLt
  unfold pick before after
  by_cases h : 32 ≤ k.val + 2 + t.val
  · have hr : k.val + 2 + t.val - 32 < 4096 := by omega
    rw [if_pos h, dif_pos hr, Finset.sum_eq_single ⟨k.val + 2 + t.val - 32, hr⟩]
    · rw [if_pos (by show k.val + 2 + t.val - 32 + 30 = t.val + k.val; omega), one_mul]
    · intro s _ hs
      rw [if_neg fun e => hs (Fin.ext (by show s.val = k.val + 2 + t.val - 32; omega)), zero_mul]
    · exact fun h => absurd (Finset.mem_univ _) h
  · rw [if_neg h]
    refine Finset.sum_eq_zero fun s _ => ?_
    rw [if_neg (by omega), zero_mul]

/-- Picking the cotangents that a row of the gated input reached. -/
theorem sum_picks (D : Fin 4096 → Fin 1024 → ℝ) (w : Fin 1 → Fin 31 → Fin 1 → Fin 1024 → ℝ) (s : Fin 4096) (c : Fin 1024) :
    ∑ k, ∑ t, w 0 k 0 c * D t c * pick k t s = dU D (weights w) s c := by
  have hs := s.isLt
  unfold dU
  rw [Finset.sum_range]
  refine Finset.sum_congr rfl fun k _ => ?_
  have hk := k.isLt
  unfold pick weights after
  rw [dif_pos hk]
  by_cases h : 30 - k.val + s.val < 4096
  · rw [dif_pos h, Finset.sum_eq_single ⟨30 - k.val + s.val, h⟩]
    · rw [if_pos (by show s.val + 30 = 30 - k.val + s.val + k.val; omega), mul_one]
    · intro t _ ht
      rw [if_neg fun e => ht (Fin.ext (by show t.val = 30 - k.val + s.val; omega)), mul_zero]
    · exact fun h => absurd (Finset.mem_univ _) h
  · rw [dif_neg h, mul_zero]
    refine Finset.sum_eq_zero fun t _ => ?_
    have ht := t.isLt
    rw [if_neg (by omega), mul_zero]

namespace Ref

open Cert.Reference2Ideal Cert.Reference2Ideal.Read Cert.Reference2Ideal.Facts₀

variable (D A B : Fin 4096 → Fin 1024 → ℝ) (w : Fin 1 → Fin 31 → Fin 1 → Fin 1024 → ℝ)

theorem v5 : val_main_v5 (F := Ideal) (up2 B) = up2 (gates B) := by
  funext j
  idx_vars j
  pointwise [val_main_v5, val_main_v4, val_main_cst_0, val_main_v3, val_main_v2, val_main_cst, val_main_v1, val_main_v0]
  simp only [up2_ix, sig_real_host]
  rfl

theorem v8 : val_main_v8 (F := Ideal) (up2 B) = up2 fun r c => gates B r c * (1 - gates B r c) := by
  unfold val_main_v8 val_main_v7
  rw [v5]
  funext j
  idx_vars j
  pointwise [val_main_v6, val_main_cst_1]
  rw [up2_ix, up2_ix, EReal.coe_mul, EReal.coe_sub, EReal.coe_one]

theorem v9 : val_main_v9 (F := Ideal) (up2 A) (up2 B) = up2 (gated A B) := by
  unfold val_main_v9
  rw [v5]
  funext j
  idx_vars j
  pointwise
  simp only [up2_ix, ← EReal.coe_mul]
  rfl

/-- The rows' numbers agree as words exactly when they agree. -/
theorem shift_iff (k : Fin 31) (t s : Fin 4096) :
    BitVec.ofNat 32 s.val = BitVec.ofNat 32 t.val + BitVec.ofNat 32 k.val - 30#32 ↔ s.val + 30 = t.val + k.val := by
  have hk := k.isLt
  have ht := t.isLt
  have hs := s.isLt
  rw [← BitVec.toNat_inj]
  simp only [BitVec.toNat_ofNat, BitVec.toNat_add, BitVec.toNat_sub]
  omega

theorem v17 : val_main_v17 (F := Ideal) = up3 pick := by
  funext j
  idx_vars j
  rw [val_main_v17_apply, val_main_v16_apply, val_main_v15_apply, val_main_v13_apply, val_main_v14_apply, val_main_call0_v0_apply, val_main_call0_v1_apply,
    up3_ix, pick, ← if_congr (shift_iff j0 j1 j2) rfl rfl]
  show Scalar.select (IntOp.cmpi .eq (BitVec.ofNat 32 j2.val) (BitVec.ofNat 32 j1.val + BitVec.ofNat 32 j0.val - 30#32)) (Ideal.ofBits .f32 0x3F800000#32)
    (Ideal.ofBits .f32 0x00000000#32) = _
  rw [show Ideal.ofBits .f32 0x3F800000#32 = ((1 : ℝ) : EReal) from lit_one, show Ideal.ofBits .f32 0x00000000#32 = ((0 : ℝ) : EReal) from lit_zero]
  by_cases h : BitVec.ofNat 32 j2.val = BitVec.ofNat 32 j1.val + BitVec.ofNat 32 j0.val - 30#32
  · rw [if_pos h, ← h]
    simp [Scalar.select, IntOp.cmpi]
  · rw [if_neg h]
    have e : (BitVec.ofNat 32 j2.val == BitVec.ofNat 32 j1.val + BitVec.ofNat 32 j0.val - 30#32) = false := beq_eq_false_iff_ne.mpr h
    simp only [Scalar.select, IntOp.cmpi, e]
    rfl

theorem v19 : val_main_v19 (F := Ideal) (up2 A) (up2 B) = up3 fun k t c => before (gated A B) (k.val + 2 + t.val) c := by
  funext j
  idx_vars j
  rw [val_main_v19_apply, v17, v9, up3_ix, ← sum_pick, coe_sum]
  refine Finset.sum_congr rfl fun s _ => ?_
  rw [EReal.coe_mul]
  rfl

theorem v26 : val_main_v26 (F := Ideal) (up2 D) (up2 A) (up2 B) = up3 fun k t c => tap D (gated A B) k.val c t := by
  unfold val_main_v26
  rw [v19]
  funext j
  idx_vars j
  pointwise [val_main_v23]
  simp only [up2_ix, up3_ix, ← EReal.coe_mul]
  rfl

theorem v27 : val_main_v27 (F := Ideal) (up2 D) (up2 A) (up2 B) = up2 fun k c => ∑ t, tap D (gated A B) k.val c t := by
  have z : val_main_cst_5 (F := Ideal) (Shape.Idx.first h_S_) = ((0 : ℝ) : EReal) := lit_zero
  funext j
  idx_vars j
  rw [val_main_v27_apply, v26, z, EReal.coe_zero, zero_add, up2_ix, coe_sum]
  rfl

/-- The gradient of the weights. -/
theorem v38 : val_main_v38 (F := Ideal) (up2 D) (up2 A) (up2 B) = up2 (dW D (gated A B)) := by
  unfold val_main_v38 val_main_v37 val_main_v31 val_main_v28
  rw [v27]
  funext j
  idx_vars j
  pointwise [val_main_call1_v0, val_main_c_6]
  simp only [up2_ix, dW]
  have hj := j0.isLt
  by_cases h : j0.val < 31
  · simp only [h, dif_pos, if_pos]
  · simp only [h, dif_neg, if_neg, not_false_eq_true]
    exact Cert.Qkv.pad_zero _

theorem v25 : val_main_v25 (F := Ideal) (up2 D) (up4 w) = up3 fun k t c => w 0 k 0 c * D t c := by
  funext j
  idx_vars j
  pointwise [val_main_v25, val_main_v24, val_main_v23, val_main_v18]
  simp only [up2_ix, up4_ix, up3_ix, EReal.coe_mul]

/-- A product summed over the taps and the rows. -/
theorem sum_two (X : Fin 31 → Fin 4096 → Fin 1024 → ℝ) (Y : Fin 31 → Fin 4096 → Fin 4096 → ℝ) (c : Fin 1024) (s : Fin 4096) :
    Host.dotGeneral (F := Ideal) (φ₁ := .f32) (φ₂ := .f32) dot_S31x4096x1024_S31x4096x4096_S1024x4096_01_01_2_2_n_n none (up3 X) (up3 Y) (ix2 c s)
      = ((∑ k, ∑ t, X k t c * Y k t s : ℝ) : EReal) := by
  simp only [Host.dotGeneral]
  rw [Ideal.dotGeneral_apply, ValueIdx.sum_contr2 dot_S31x4096x1024_S31x4096x4096_S1024x4096_01_01_2_2_n_n 31 4096 rfl rfl rfl, coe_sum]
  refine Finset.sum_congr rfl fun k _ => ?_
  rw [coe_sum]
  refine Finset.sum_congr rfl fun t _ => ?_
  have h0 := ValueIdx.contrEquiv2_symm_val0 dot_S31x4096x1024_S31x4096x4096_S1024x4096_01_01_2_2_n_n 31 4096 rfl rfl rfl (k, t)
  have h1 := ValueIdx.contrEquiv2_symm_val1 dot_S31x4096x1024_S31x4096x4096_S1024x4096_01_01_2_2_n_n 31 4096 rfl rfl rfl (k, t)
  have el : dot_S31x4096x1024_S31x4096x4096_S1024x4096_01_01_2_2_n_n.lhsIdx (ix2 c s)
      ((ValueIdx.contrEquiv2 dot_S31x4096x1024_S31x4096x4096_S1024x4096_01_01_2_2_n_n 31 4096 rfl rfl rfl).symm (k, t)) = ix3 k t c := by
    funext a
    apply Fin.ext
    match a with
    | ⟨0, _⟩ => exact h0
    | ⟨1, _⟩ => exact h1
    | ⟨2, _⟩ => rfl
  have er : dot_S31x4096x1024_S31x4096x4096_S1024x4096_01_01_2_2_n_n.rhsIdx (ix2 c s)
      ((ValueIdx.contrEquiv2 dot_S31x4096x1024_S31x4096x4096_S1024x4096_01_01_2_2_n_n 31 4096 rfl rfl rfl).symm (k, t)) = ix3 k t s := by
    funext a
    apply Fin.ext
    match a with
    | ⟨0, _⟩ => exact h0
    | ⟨1, _⟩ => exact h1
    | ⟨2, _⟩ => rfl
  rw [el, er, up3_ix, up3_ix, EReal.coe_mul]

theorem v30 : val_main_v30 (F := Ideal) (up2 D) (up4 w) = up2 (dU D (weights w)) := by
  funext j
  idx_vars j
  rw [val_main_v30_apply]
  unfold val_main_v29
  rw [v25, v17, up2_ix, ← sum_picks]
  exact sum_two (fun k t c => w 0 k 0 c * D t c) pick j1 j0

/-- The gradient of the first branch. -/
theorem v35 : val_main_v35 (F := Ideal) (up2 D) (up2 B) (up4 w) = up2 (dA D (gates B) (weights w)) := by
  unfold val_main_v35 val_main_v33
  rw [v30, v5]
  funext j
  idx_vars j
  pointwise
  simp only [up2_ix, ← EReal.coe_mul]
  rfl

/-- The gradient of the second branch. -/
theorem v36 : val_main_v36 (F := Ideal) (up2 D) (up2 A) (up2 B) (up4 w) = up2 (dB D A (gates B) (weights w)) := by
  unfold val_main_v36 val_main_v34 val_main_v32
  rw [v30, v8]
  funext j
  idx_vars j
  pointwise
  simp only [up2_ix, ← EReal.coe_mul]
  refine congrArg Real.toEReal ?_
  unfold dB
  ring

end Ref

end Cert.Conv

end
-- ==== Proof.Conv.Claim.lean ====
/-
  The backward kernel of the convolution computes the gradients of the plain gated convolution: the claim over the reals.
-/
module

public import proofs.«01_k».proof.Defs
public import proofs.«01_k».proof.Proof.Common.Finite
public import proofs.«01_k».proof.Proof.Conv.Reference
public import proofs.«01_k».proof.Proof.Gen.Pre_finite2
public import proofs.«01_k».proof.Proof.Gen.Reference2Ideal.Run

@[expose] public section

set_option maxRecDepth 16384

noncomputable section

open Idealize.ShloMosaic Idealize.ShloMosaic.TcCoe Idealize.SL.Sem Cert.Lift Cert.Qkv.Ref

namespace Cert.Conv

open Cert.Kernel2Ideal Cert.Kernel2Ideal.Gen

/-- The host's weights: the sum of the two shorter parts that it splits them into, with a row of zeros after the taps. -/
def hostTaps (w : FVec Ideal S31x1024 .f32) : FVec Ideal S32x1024 .f32 :=
  pad S32x1024 ![0, 0] ![1, 0] ![0, 0] (addf (extf .f32 (truncf .bf16 w bitsLt_bf16_f32) bitsLt_bf16_f32)
    (extf .f32 (truncf .bf16 (subf w (extf .f32 (truncf .bf16 w bitsLt_bf16_f32) bitsLt_bf16_f32)) bitsLt_bf16_f32) bitsLt_bf16_f32))
    (sitofp .f32 (constantI S_ 32 0#32)) pads_S31x1024_S32x1024_010_000 h_S_

theorem hostTaps_real (w : Fin 1 → Fin 31 → Fin 1 → Fin 1024 → ℝ) :
    hostTaps (shapeCast S31x1024 (up4 w) shapeCasts_S1x31x1x1024_S31x1024) = up2 (rowsAt (n := 32) (weights w) 0) := by
  funext j
  idx_vars j
  pointwise [hostTaps]
  simp only [up2_ix, up4_ix, rowsAt, weights, zero_add, ← EReal.coe_sub, ← EReal.coe_add, sub_self, add_zero]
  have hj := j0.isLt
  by_cases h : j0.val < 31
  · simp only [h, dif_pos]
  · simp only [h, dif_neg, not_false_eq_true]
    exact Cert.Qkv.pad_zero _

variable (m : (ℓ : Loc nD τ sig) → Buf (Elt Ideal) ℓ) (c : Dev nD)

theorem V_main_v5 : @Eq (FVec Ideal S4096x1024 .f32) (V m c main_v5)
    (Cert.Reference2Ideal.Read.val_main_v5 (F := Ideal) (m ((c.tc : Thread nD τ).loc main_arg2) : FVec Ideal S4096x1024 .f32)) := by
  unfold V
  simp only [hostOps0, hostOps0_1, hostOps0_2, List.flatten_cons, List.flatten_nil, List.append_nil, List.cons_append, List.nil_append]
  after_results
  rfl

theorem V_main_v15 : @Eq (FVec Ideal S4096x1024 .f32) (V m c main_v15)
    (Cert.Reference2Ideal.Read.val_main_v9 (F := Ideal) (m ((c.tc : Thread nD τ).loc main_arg1) : FVec Ideal S4096x1024 .f32)
      (m ((c.tc : Thread nD τ).loc main_arg2) : FVec Ideal S4096x1024 .f32)) := by
  unfold V
  simp only [hostOps0, hostOps0_1, hostOps0_2, List.flatten_cons, List.flatten_nil, List.append_nil, List.cons_append, List.nil_append]
  after_results
  rfl

theorem V_main_v14 : @Eq (FVec Ideal S32x1024 .f32) (V m c main_v14)
    (hostTaps (shapeCast S31x1024 (m ((c.tc : Thread nD τ).loc main_arg3) : FVec Ideal S1x31x1x1024 .f32) shapeCasts_S1x31x1x1024_S31x1024)) := by
  unfold V
  simp only [hostOps0, hostOps0_1, hostOps0_2, List.flatten_cons, List.flatten_nil, List.append_nil, List.cons_append, List.nil_append]
  after_results
  rfl

/-- The arguments of one device are arrays of reals. -/
structure Args (D A B : Fin 4096 → Fin 1024 → ℝ) (w : Fin 1 → Fin 31 → Fin 1 → Fin 1024 → ℝ) : Prop where
  h0 : m ((c.tc : Thread nD τ).loc main_arg0) = up2 D
  h1 : m ((c.tc : Thread nD τ).loc main_arg1) = up2 A
  h2 : m ((c.tc : Thread nD τ).loc main_arg2) = up2 B
  h3 : m ((c.tc : Thread nD τ).loc main_arg3) = up4 w

/-- Under the precondition there are such reals. -/
theorem exists_args (h : Cert.Pre_Kernel2Ideal_finite2 m) : ∃ D A B w, Args m c D A B w := by
  obtain ⟨e0, e1, e2, e3⟩ := h c
  obtain ⟨D, h0⟩ := exists_up2 (below_of_mask e0)
  obtain ⟨A, h1⟩ := exists_up2 (below_of_mask e1)
  obtain ⟨B, h2⟩ := exists_up2 (below_of_mask e2)
  obtain ⟨w, h3⟩ := Cert.Qkv.exists_up4 (below_of_mask e3)
  exact ⟨D, A, B, w, h0, h1, h2, h3⟩

variable {m c} {D A B : Fin 4096 → Fin 1024 → ℝ} {w : Fin 1 → Fin 31 → Fin 1 → Fin 1024 → ℝ}

/-- What the kernel's windows read. -/
theorem reads (a : Args m c D A B w) : Reads m c D (gated A B) A (gates B) (weights w) where
  d := (V_main_arg0 m c).trans a.h0
  d' := (V_main_arg0 m c).trans a.h0
  u := by
    refine (V_main_v15 m c).trans ?_
    rw [a.h1, a.h2]
    exact Ref.v9 A B
  u' := by
    refine (V_main_v15 m c).trans ?_
    rw [a.h1, a.h2]
    exact Ref.v9 A B
  a := (V_main_arg1 m c).trans a.h1
  s := by
    refine (V_main_v5 m c).trans ?_
    rw [a.h2]
    exact Ref.v5 B
  w := by
    refine (V_main_v14 m c).trans ?_
    rw [a.h3]
    exact hostTaps_real w

set_option maxHeartbeats 2000000 in
/-- The kernel's three results are the reference's three. -/
theorem algebraic : Cert.algebraic_Kernel2Ideal_Reference2Ideal_pre_finite2 := by
  intro m g m' g' hp hm
  have hk := Value.run_blocks m g
  have hr := Cert.Reference2Ideal.Value.run (F := Ideal) m' g'
  refine ⟨fun c => (dats m 0 c).arrAt 7 cfg0.N, fun c => (dats m 0 c).arrAt 8 cfg0.N, fun c => (dats m 0 c).arrAt 9 cfg0.N, hk,
    (θ_run _ _ _).mono (fun r h c => ?_) hr⟩
  obtain ⟨q0, q1, q2, k⟩ := h c
  obtain ⟨D, A, B, w, a⟩ := exists_args m c hp
  obtain ⟨i0, i1, i2, i3⟩ := hm c
  have b := reads a
  have e0 := i0.trans a.h0
  have e1 := i1.trans a.h1
  have e2 := i2.trans a.h2
  have e3 := i3.trans a.h3
  refine ⟨(q0.trans (Cert.Reference2Ideal.Read.val_main_v35_eq ..)).trans ?_, (q1.trans (Cert.Reference2Ideal.Read.val_main_v36_eq ..)).trans ?_,
    (q2.trans (Cert.Reference2Ideal.Read.val_main_v38_eq ..)).trans ?_, k⟩
  · rw [e0, e2, e3]
    exact (Ref.v35 ..).trans (final7 b).symm
  · rw [e0, e1, e2, e3]
    exact (Ref.v36 ..).trans (final8 b).symm
  · rw [e0, e1, e2]
    exact (Ref.v38 ..).trans (final9 b).symm

end Cert.Conv

end
-- ==== Proof.Merge.Body.lean ====
/-
  The backward kernel of the gated merge: its body's values on blocks of reals.
-/
module

public import proofs.«01_k».proof.Proof.Common.Rms
public import proofs.«01_k».proof.Proof.Common.Window
public import proofs.«01_k».proof.Proof.Gen.Kernel3Ideal.Value
public import Idealize.ShloMosaic.Lib.Pipeline.ValueKit.Acc
public import Idealize.ShloMosaic.Lib.Pipeline.ValueKit.Tiles

@[expose] public section

set_option maxRecDepth 16384

noncomputable section

open Idealize.ShloMosaic Cert.Lift

namespace Cert.Merge

open Cert.Kernel3Ideal Cert.Kernel3Ideal.Gen

/-- Rows against the transposed matrix. -/
def timesT {n : ℕ} (D : Fin n → Fin 1024 → ℝ) (W : Fin 1024 → Fin 1024 → ℝ) (r : Fin n) (k : Fin 1024) : ℝ := ∑ c, D r c * W k c

/-- The gate's gradient: the merged cotangent, the branch and the gate. -/
def gateGrad {n : ℕ} (P Y S : Fin n → Fin 1024 → ℝ) (r : Fin n) (k : Fin 1024) : ℝ := P r k * Y r k * S r k * (1 - S r k)

/-- The sum of a row's head of 128 columns. -/
def headSum {n : ℕ} (Q : Fin n → Fin 1024 → ℝ) (r : Fin n) (h : Fin 8) : ℝ := ∑ k : Fin 128, Q r ⟨h.val * 128 + k.val, by omega⟩

variable (D X S T Y : Fin 256 → Fin 1024 → ℝ) (W : Fin 1024 → Fin 1024 → ℝ) (G O : Fin 1 → Fin 1024 → ℝ)

theorem pay6 : k0_pay6 (F := Ideal) (up2 X) = up2 X := by
  funext j
  idx_vars j
  pointwise [k0_pay6]

theorem pay13 : k0_pay13 (F := Ideal) (up2 X) = up2 X := pay6 X

theorem pay14 : k0_pay14 (F := Ideal) (up2 X) = up2 X := pay6 X

/-- The gradient of the product's rows. -/
theorem pay11 : k0_pay11 (F := Ideal) (up2 D) (up2 X) (up2 G) = up2 fun r => rmsGrad (G 0) (X r) (D r) := by
  simp only [k0_pay11, k0_pay8, k0_pay7, pay6]
  exact kGrad_real (hl := len_1024) reduces_S256x1024_S256 shapeCasts_S256_S256x1 broadcasts_S256x1_S256x1024 broadcasts_S1x1024_S256x1024 D X G

/-- The scale's gradient so far. -/
theorem pay10 : k0_pay10 (F := Ideal) (up2 D) (up2 X) (up2 O) = up2 fun r c => O r c + ∑ k, D k c * rnrm (X k) c := by
  simp only [k0_pay10, k0_pay8, k0_pay7, pay6]
  refine Eq.trans ?_ (kScale_real reduces_S256x1024_S1024 shapeCasts_S1024_S1x1024 shapeCasts_S1x1024_S1x1024 D (fun r => rnrm (X r)) O)
  rw [← kNrm_real (hl := len_1024) reduces_S256x1024_S256 shapeCasts_S256_S256x1 broadcasts_S256x1_S256x1024 X]
  rfl

theorem pay9 : k0_pay9 (F := Ideal) = up2 fun _ _ => 0 := by
  funext j
  idx_vars j
  pointwise [k0_pay9]
  rfl

/-- The merged branches' cotangent. -/
theorem pay12 : k0_pay12 (F := Ideal) (up2 D) (up2 W) = up2 (timesT D W) := by
  funext j
  idx_vars j
  pointwise [k0_pay12]
  simp only [up2_ix, zero_add, ← EReal.coe_mul, ← coe_sum]
  rfl

theorem pay15 : k0_pay15 (F := Ideal) (up2 D) (up2 W) (up2 S) = up2 fun r k => timesT D W r k * S r k := by
  unfold k0_pay15
  rw [pay12, pay14]
  funext j
  idx_vars j
  pointwise
  simp only [up2_ix, ← EReal.coe_mul]

theorem pay18 : k0_pay18 (F := Ideal) (up2 D) (up2 W) (up2 S) = up2 fun r k => timesT D W r k * S r k := pay15 D S W

theorem pay19 : k0_pay19 (F := Ideal) (up2 D) (up2 W) (up2 S) = up2 fun r k => timesT D W r k * S r k := pay15 D S W

theorem pay16 : k0_pay16 (F := Ideal) = up2 fun _ _ => 0 := pay9

/-- The shift's gradient so far. -/
theorem pay17 : k0_pay17 (F := Ideal) (up2 D) (up2 W) (up2 S) (up2 O) = up2 fun r c => O r c + ∑ k, timesT D W k c * S k c := by
  unfold k0_pay17
  rw [pay15]
  funext j
  idx_vars j
  pointwise
  simp only [up2_ix, zero_add, ← coe_sum, ← EReal.coe_add]

theorem pay21 : k0_pay21 (F := Ideal) (up2 D) (up2 S) (up2 Y) = up2 (gateGrad D Y S) := by
  funext j
  idx_vars j
  pointwise [k0_pay21]
  simp only [up2_ix, lit_one, ← EReal.coe_mul, ← EReal.coe_sub]
  rfl

theorem pay20 : k0_pay20 (F := Ideal) (up2 D) (up2 W) (up2 S) (up2 Y) = up2 (gateGrad (timesT D W) Y S) := by
  unfold k0_pay20
  rw [pay12, pay13]
  exact pay21 (timesT D W) S Y

theorem pay22 : k0_pay22 (F := Ideal) (up2 D) (up2 W) = up2 (timesT D W) := pay12 D W

theorem pay23 : k0_pay23 (F := Ideal) (up2 D) (up2 W) = up2 (timesT D W) := pay12 D W

theorem pay5 : k0_pay5 (F := Ideal) (up2 D) (up2 W) = up2 (timesT D W) := pay12 D W

theorem pay24 : k0_pay24 (F := Ideal) (up2 D) (up2 W) (up2 Y) = up2 fun r k => timesT D W r k * Y r k := by
  unfold k0_pay24
  rw [pay22]
  funext j
  idx_vars j
  pointwise
  simp only [up2_ix, ← EReal.coe_mul]

end Cert.Merge

end
-- ==== Proof.Merge.Heads.lean ====
/-
  The backward kernel of the gated merge: the eight sums of a row's heads, laid out by rows.
-/
module

public import proofs.«01_k».proof.Proof.Merge.Body

@[expose] public section

set_option maxRecDepth 16384

noncomputable section

open Idealize.ShloMosaic Cert.Lift

namespace Cert.Merge

open Cert.Kernel3Ideal Cert.Kernel3Ideal.Gen

/-- One head's sums, in the lane that the word names. -/
def oneHead (w : BitVec 32) (o : ℕ) (hs : Shape.Slices S256x1024 ![0, o] S256x128) (x : FVec Ideal S256x1024 .f32) : FVec Ideal S256x128 .f32 :=
  select (cmpi .eq (iota .tc S256x128 32 [1] iota_S256x128_d1_w32) (broadcast S256x128 w))
    (broadcastTo S256x128 (shapeCast S256x1 (shapeCast S256x1
      (multiReduction .add [1] S256 (extractStridedSlice S256x128 ![0, o] x hs) 0x00000000#32 reduces_S256x128_S256 (.inl rfl) rfl)
      shapeCasts_S256_S256x1) shapeCasts_S256x1_S256x1) broadcasts_S256x1_S256x128)
    (broadcast S256x128 (Scalar.ofBits .f32 0x00000000#32))

theorem oneHead_real (h : Fin 8) (hs : Shape.Slices S256x1024 ![0, h.val * 128] S256x128) (Q : Fin 256 → Fin 1024 → ℝ) (r : Fin 256) (l : Fin 128) :
    oneHead (BitVec.ofNat 32 h) (h.val * 128) hs (up2 Q) (ix2 r l) = (((if l.val = h.val then headSum Q r h else 0 : ℝ)) : EReal) := by
  unfold oneHead
  pointwise
  have e : IntOp.cmpi CmpIPredicate.eq (BitVec.ofNat 32 l.val) (BitVec.ofNat 32 h.val) = if l.val = h.val then 1#1 else 0#1 := by
    show BitVec.ofBool (BitVec.ofNat 32 l.val == BitVec.ofNat 32 h.val) = _
    by_cases hl : l.val = h.val
    · simp [hl]
    · have : BitVec.ofNat 32 l.val ≠ BitVec.ofNat 32 h.val := fun e => hl (by
        have := congrArg BitVec.toNat e
        simp only [BitVec.toNat_ofNat] at this
        omega)
      rw [if_neg hl, beq_eq_false_iff_ne.mpr this]
      rfl
  rw [e]
  simp only [up2_ix, ← coe_sum]
  by_cases hl : l.val = h.val
  · simp only [if_pos hl]
    rfl
  · simp only [if_neg hl]
    rfl

/-- The eight sums, rows along lanes: the array the body stores from. -/
def heads (x : FVec Ideal S256x1024 .f32) : FVec Ideal S128x256 .f32 :=
  transpose S128x256 [1, 0] (addf (addf (addf (addf (addf (addf (addf (addf (broadcast S256x128 (Scalar.ofBits .f32 0x00000000#32))
    (oneHead 0#32 0 slices_S256x1024_o0_0_S256x128 x)) (oneHead 1#32 128 slices_S256x1024_o0_128_S256x128 x))
    (oneHead 2#32 256 slices_S256x1024_o0_256_S256x128 x)) (oneHead 3#32 384 slices_S256x1024_o0_384_S256x128 x))
    (oneHead 4#32 512 slices_S256x1024_o0_512_S256x128 x)) (oneHead 5#32 640 slices_S256x1024_o0_640_S256x128 x))
    (oneHead 6#32 768 slices_S256x1024_o0_768_S256x128 x)) (oneHead 7#32 896 slices_S256x1024_o0_896_S256x128 x))
    transposes_S256x128_p1_0_S128x256

theorem heads_real (Q : Fin 256 → Fin 1024 → ℝ) (h : Fin 8) (r : Fin 256) : heads (up2 Q) (ix2 ⟨h.val, by omega⟩ r) = ((headSum Q r h : ℝ) : EReal) := by
  unfold heads
  pointwise
  rw [show oneHead 0#32 0 slices_S256x1024_o0_0_S256x128 (up2 Q) (ix2 r ⟨h.val, by omega⟩) = _ from oneHead_real 0 _ Q r _,
    show oneHead 1#32 128 slices_S256x1024_o0_128_S256x128 (up2 Q) (ix2 r ⟨h.val, by omega⟩) = _ from oneHead_real 1 _ Q r _,
    show oneHead 2#32 256 slices_S256x1024_o0_256_S256x128 (up2 Q) (ix2 r ⟨h.val, by omega⟩) = _ from oneHead_real 2 _ Q r _,
    show oneHead 3#32 384 slices_S256x1024_o0_384_S256x128 (up2 Q) (ix2 r ⟨h.val, by omega⟩) = _ from oneHead_real 3 _ Q r _,
    show oneHead 4#32 512 slices_S256x1024_o0_512_S256x128 (up2 Q) (ix2 r ⟨h.val, by omega⟩) = _ from oneHead_real 4 _ Q r _,
    show oneHead 5#32 640 slices_S256x1024_o0_640_S256x128 (up2 Q) (ix2 r ⟨h.val, by omega⟩) = _ from oneHead_real 5 _ Q r _,
    show oneHead 6#32 768 slices_S256x1024_o0_768_S256x128 (up2 Q) (ix2 r ⟨h.val, by omega⟩) = _ from oneHead_real 6 _ Q r _,
    show oneHead 7#32 896 slices_S256x1024_o0_896_S256x128 (up2 Q) (ix2 r ⟨h.val, by omega⟩) = _ from oneHead_real 7 _ Q r _]
  simp only [← EReal.coe_add]
  fin_cases h <;> simp

/-- A row of an array of 256 columns, as a block of the last result. -/
def laneRow (a : ℕ) (x : FVec Ideal S128x256 .f32) (hs : Shape.Slices S128x256 ![a, 0] S1x256) : FVec Ideal S1x1x1x256 .f32 :=
  shapeCast S1x1x1x256 (extractStridedSlice S1x256 ![a, 0] x hs) shapeCasts_S1x256_S1x1x1x256

theorem laneRow_apply (a : Fin 8) (x : FVec Ideal S128x256 .f32) (hs : Shape.Slices S128x256 ![a.val, 0] S1x256) (j : S1x1x1x256.Idx) :
    laneRow a.val x hs j = x (ix2 ⟨a.val, by omega⟩ (j 3)) := by
  idx_vars j
  pointwise [laneRow]

/-- The head sums of a tile's rows, as the block the body stores. -/
def laneBlock (Q : Fin 256 → Fin 1024 → ℝ) (j : S8x1x1x256.Idx) : EReal := ((headSum Q (j 3) (j 0) : ℝ) : EReal)

/-- A stored row is its part of the block. -/
theorem laneRow_block {Q : Fin 256 → Fin 1024 → ℝ} {q : FVec Ideal S256x1024 .f32} (hq : q = up2 Q) (a : Fin 8) (hs : Shape.Slices S128x256 ![a.val, 0] S1x256)
    {x : S1x1x1x256.Idx} {j : S8x1x1x256.Idx} (e0 : (j 0).val = a.val + (x 0).val) (e3 : (j 3).val = (x 3).val) :
    laneRow a.val (heads q) hs x = laneBlock Q j := by
  have h0 : (x 0).val < 1 := (x 0).isLt
  rw [hq, laneRow_apply, show heads (up2 Q) (ix2 ⟨a.val, by omega⟩ (x 3)) = _ from heads_real Q a (x 3), laneBlock]
  rw [show j 0 = a from Fin.ext (by omega), show j 3 = x 3 from Fin.ext e3]

end Cert.Merge

end
-- ==== Proof.Merge.Result.lean ====
/-
  The backward kernel of the gated merge: its results as arrays of reals, from the arrays its windows read.
-/
module

public import proofs.«01_k».proof.Proof.Merge.Heads

@[expose] public section

set_option maxRecDepth 16384

noncomputable section

open Idealize.ShloMosaic Idealize.ShloMosaic.TcCoe Idealize.SL.Sem Cert.Lift
open Idealize.ShloMosaic.Pipeline (Dat)

namespace Cert.Merge

open Cert.Kernel3Ideal Cert.Kernel3Ideal.Gen

/-- The gradient of the product's rows. -/
def dM (D M : Fin 4096 → Fin 1024 → ℝ) (G : Fin 1 → Fin 1024 → ℝ) (r : Fin 4096) : Fin 1024 → ℝ := rmsGrad (G 0) (M r) (D r)

/-- The gradient of the merged branches. -/
def dP (D M : Fin 4096 → Fin 1024 → ℝ) (WT : Fin 1024 → Fin 1024 → ℝ) (G : Fin 1 → Fin 1024 → ℝ) : Fin 4096 → Fin 1024 → ℝ := timesT (dM D M G) WT

/-- The gradient of a branch, through its gate. -/
def dY (D M S : Fin 4096 → Fin 1024 → ℝ) (WT : Fin 1024 → Fin 1024 → ℝ) (G : Fin 1 → Fin 1024 → ℝ) (r : Fin 4096) (k : Fin 1024) : ℝ :=
  dP D M WT G r k * S r k

/-- A row's term of the gradient of the scale. -/
def gG (M D : Fin 4096 → Fin 1024 → ℝ) (c : Fin 1024) (i : Fin 4096) : ℝ := D i c * rnrm (M i) c

/-- The products of the rows' gradients and values, which the head sums add. -/
def dQ (D M SA AT : Fin 4096 → Fin 1024 → ℝ) (WT WO : Fin 1024 → Fin 1024 → ℝ) (G : Fin 1 → Fin 1024 → ℝ) (r : Fin 4096) (k : Fin 1024) : ℝ :=
  timesT (dY D M SA WT G) WO r k * AT r k

variable (m : (ℓ : Loc nD τ sig) → Buf (Elt Ideal) ℓ) (c : Dev nD)
variable (D M SA SC YA YC AT : Fin 4096 → Fin 1024 → ℝ) (WT WO WP : Fin 1024 → Fin 1024 → ℝ) (G : Fin 1 → Fin 1024 → ℝ)

/-- The windows' arrays hold these reals. -/
structure Reads : Prop where
  w0 : V m c (Pipeline.arrRef spec0 0) = up2 D
  w1 : V m c (Pipeline.arrRef spec0 1) = up2 M
  w2 : V m c (Pipeline.arrRef spec0 2) = up2 SA
  w3 : V m c (Pipeline.arrRef spec0 3) = up2 SC
  w4 : V m c (Pipeline.arrRef spec0 4) = up2 YA
  w5 : V m c (Pipeline.arrRef spec0 5) = up2 YC
  w6 : V m c (Pipeline.arrRef spec0 6) = up2 AT
  w7 : V m c (Pipeline.arrRef spec0 7) = up2 WT
  w8 : V m c (Pipeline.arrRef spec0 8) = up2 WO
  w9 : V m c (Pipeline.arrRef spec0 9) = up2 WP
  w10 : V m c (Pipeline.arrRef spec0 10) = up2 G

theorem idx0 : ∀ t : Fin cfg0.N, win0_0.index t 0 = t.val ∧ win0_0.index t 1 = 0 := (by decide +kernel : ∀ t : Fin grid0.N, win0_0.index t 0 = t.val ∧ win0_0.index t 1 = 0)
theorem idx1 : ∀ t : Fin cfg0.N, win0_1.index t 0 = t.val ∧ win0_1.index t 1 = 0 := (by decide +kernel : ∀ t : Fin grid0.N, win0_1.index t 0 = t.val ∧ win0_1.index t 1 = 0)
theorem idx2 : ∀ t : Fin cfg0.N, win0_2.index t 0 = t.val ∧ win0_2.index t 1 = 0 := (by decide +kernel : ∀ t : Fin grid0.N, win0_2.index t 0 = t.val ∧ win0_2.index t 1 = 0)
theorem idx3 : ∀ t : Fin cfg0.N, win0_3.index t 0 = t.val ∧ win0_3.index t 1 = 0 := (by decide +kernel : ∀ t : Fin grid0.N, win0_3.index t 0 = t.val ∧ win0_3.index t 1 = 0)
theorem idx4 : ∀ t : Fin cfg0.N, win0_4.index t 0 = t.val ∧ win0_4.index t 1 = 0 := (by decide +kernel : ∀ t : Fin grid0.N, win0_4.index t 0 = t.val ∧ win0_4.index t 1 = 0)
theorem idx5 : ∀ t : Fin cfg0.N, win0_5.index t 0 = t.val ∧ win0_5.index t 1 = 0 := (by decide +kernel : ∀ t : Fin grid0.N, win0_5.index t 0 = t.val ∧ win0_5.index t 1 = 0)
theorem idx6 : ∀ t : Fin cfg0.N, win0_6.index t 0 = t.val ∧ win0_6.index t 1 = 0 := (by decide +kernel : ∀ t : Fin grid0.N, win0_6.index t 0 = t.val ∧ win0_6.index t 1 = 0)
theorem idx7 : ∀ t : Fin cfg0.N, win0_7.index t 0 = 0 ∧ win0_7.index t 1 = 0 := (by decide +kernel : ∀ t : Fin grid0.N, win0_7.index t 0 = 0 ∧ win0_7.index t 1 = 0)
theorem idx8 : ∀ t : Fin cfg0.N, win0_8.index t 0 = 0 ∧ win0_8.index t 1 = 0 := (by decide +kernel : ∀ t : Fin grid0.N, win0_8.index t 0 = 0 ∧ win0_8.index t 1 = 0)
theorem idx9 : ∀ t : Fin cfg0.N, win0_9.index t 0 = 0 ∧ win0_9.index t 1 = 0 := (by decide +kernel : ∀ t : Fin grid0.N, win0_9.index t 0 = 0 ∧ win0_9.index t 1 = 0)
theorem idx10 : ∀ t : Fin cfg0.N, win0_10.index t 0 = 0 ∧ win0_10.index t 1 = 0 := (by decide +kernel : ∀ t : Fin grid0.N, win0_10.index t 0 = 0 ∧ win0_10.index t 1 = 0)
theorem idx11 : ∀ t : Fin cfg0.N, win0_11.index t 0 = t.val ∧ win0_11.index t 1 = 0 := (by decide +kernel : ∀ t : Fin grid0.N, win0_11.index t 0 = t.val ∧ win0_11.index t 1 = 0)
theorem idx12 : ∀ t : Fin cfg0.N, win0_12.index t 0 = t.val ∧ win0_12.index t 1 = 0 := (by decide +kernel : ∀ t : Fin grid0.N, win0_12.index t 0 = t.val ∧ win0_12.index t 1 = 0)
theorem idx13 : ∀ t : Fin cfg0.N, win0_13.index t 0 = t.val ∧ win0_13.index t 1 = 0 := (by decide +kernel : ∀ t : Fin grid0.N, win0_13.index t 0 = t.val ∧ win0_13.index t 1 = 0)
theorem idx14 : ∀ t : Fin cfg0.N, win0_14.index t 0 = t.val ∧ win0_14.index t 1 = 0 := (by decide +kernel : ∀ t : Fin grid0.N, win0_14.index t 0 = t.val ∧ win0_14.index t 1 = 0)
theorem idx15 : ∀ t : Fin cfg0.N, win0_15.index t 0 = t.val ∧ win0_15.index t 1 = 0 := (by decide +kernel : ∀ t : Fin grid0.N, win0_15.index t 0 = t.val ∧ win0_15.index t 1 = 0)
theorem idx16 : ∀ t : Fin cfg0.N, win0_16.index t 0 = t.val ∧ win0_16.index t 1 = 0 := (by decide +kernel : ∀ t : Fin grid0.N, win0_16.index t 0 = t.val ∧ win0_16.index t 1 = 0)
theorem idx17 : ∀ t : Fin cfg0.N, win0_17.index t 0 = t.val ∧ win0_17.index t 1 = 0 := (by decide +kernel : ∀ t : Fin grid0.N, win0_17.index t 0 = t.val ∧ win0_17.index t 1 = 0)
theorem idx18 : ∀ t : Fin cfg0.N, win0_18.index t 0 = 0 ∧ win0_18.index t 1 = 0 := (by decide +kernel : ∀ t : Fin grid0.N, win0_18.index t 0 = 0 ∧ win0_18.index t 1 = 0)
theorem idx19 : ∀ t : Fin cfg0.N, win0_19.index t 0 = 0 ∧ win0_19.index t 1 = 0 := (by decide +kernel : ∀ t : Fin grid0.N, win0_19.index t 0 = 0 ∧ win0_19.index t 1 = 0)
theorem idx20 : ∀ t : Fin cfg0.N, win0_20.index t 0 = 0 ∧ win0_20.index t 1 = t.val ∧ win0_20.index t 2 = 0 ∧ win0_20.index t 3 = 0 :=
  (by decide +kernel : ∀ t : Fin grid0.N, win0_20.index t 0 = 0 ∧ win0_20.index t 1 = t.val ∧ win0_20.index t 2 = 0 ∧ win0_20.index t 3 = 0)

theorem lt16 (t : Fin cfg0.N) : t.val < 16 := lt_of_lt_of_eq t.isLt N_0

theorem rows_le (t : Fin cfg0.N) : t.val * 256 + 256 ≤ 4096 := by have := lt16 t; omega

variable {m c D M SA SC YA YC AT WT WO WP G}

theorem blk0 (h : Reads m c D M SA SC YA YC AT WT WO WP G) (t : Fin cfg0.N) : iblk m c 0 t = up2 (rowsOf D t.val) := by
  unfold iblk
  rw [h.w0]
  exact rows_comp D (rows_le t) _ (idx0 t) (fun _ => rfl) fun _ => rfl

theorem blk1 (h : Reads m c D M SA SC YA YC AT WT WO WP G) (t : Fin cfg0.N) : iblk m c 1 t = up2 (rowsOf M t.val) := by
  unfold iblk
  rw [h.w1]
  exact rows_comp M (rows_le t) _ (idx1 t) (fun _ => rfl) fun _ => rfl

theorem blk2 (h : Reads m c D M SA SC YA YC AT WT WO WP G) (t : Fin cfg0.N) : iblk m c 2 t = up2 (rowsOf SA t.val) := by
  unfold iblk
  rw [h.w2]
  exact rows_comp SA (rows_le t) _ (idx2 t) (fun _ => rfl) fun _ => rfl

theorem blk3 (h : Reads m c D M SA SC YA YC AT WT WO WP G) (t : Fin cfg0.N) : iblk m c 3 t = up2 (rowsOf SC t.val) := by
  unfold iblk
  rw [h.w3]
  exact rows_comp SC (rows_le t) _ (idx3 t) (fun _ => rfl) fun _ => rfl

theorem blk4 (h : Reads m c D M SA SC YA YC AT WT WO WP G) (t : Fin cfg0.N) : iblk m c 4 t = up2 (rowsOf YA t.val) := by
  unfold iblk
  rw [h.w4]
  exact rows_comp YA (rows_le t) _ (idx4 t) (fun _ => rfl) fun _ => rfl

theorem blk5 (h : Reads m c D M SA SC YA YC AT WT WO WP G) (t : Fin cfg0.N) : iblk m c 5 t = up2 (rowsOf YC t.val) := by
  unfold iblk
  rw [h.w5]
  exact rows_comp YC (rows_le t) _ (idx5 t) (fun _ => rfl) fun _ => rfl

theorem blk6 (h : Reads m c D M SA SC YA YC AT WT WO WP G) (t : Fin cfg0.N) : iblk m c 6 t = up2 (rowsOf AT t.val) := by
  unfold iblk
  rw [h.w6]
  exact rows_comp AT (rows_le t) _ (idx6 t) (fun _ => rfl) fun _ => rfl

theorem blk7 (h : Reads m c D M SA SC YA YC AT WT WO WP G) (t : Fin cfg0.N) : iblk m c 7 t = up2 WT := by
  unfold iblk
  rw [h.w7]
  exact whole_comp WT _ (idx7 t) (fun _ => rfl) fun _ => rfl

theorem blk8 (h : Reads m c D M SA SC YA YC AT WT WO WP G) (t : Fin cfg0.N) : iblk m c 8 t = up2 WO := by
  unfold iblk
  rw [h.w8]
  exact whole_comp WO _ (idx8 t) (fun _ => rfl) fun _ => rfl

theorem blk9 (h : Reads m c D M SA SC YA YC AT WT WO WP G) (t : Fin cfg0.N) : iblk m c 9 t = up2 WP := by
  unfold iblk
  rw [h.w9]
  exact whole_comp WP _ (idx9 t) (fun _ => rfl) fun _ => rfl

theorem blk10 (h : Reads m c D M SA SC YA YC AT WT WO WP G) (t : Fin cfg0.N) : iblk m c 10 t = up2 G := by
  unfold iblk
  rw [h.w10]
  exact whole_comp G _ (idx10 t) (fun _ => rfl) fun _ => rfl

theorem blk_dm (h : Reads m c D M SA SC YA YC AT WT WO WP G) (t : Fin cfg0.N) : k0_pay11 (iblk m c 0 t) (iblk m c 1 t) (iblk m c 10 t) = up2 (rowsOf (dM D M G) t.val) := by
  rw [blk0 h, blk1 h, blk10 h]
  exact pay11 _ _ G

theorem blk_dy (h : Reads m c D M SA SC YA YC AT WT WO WP G) (t : Fin cfg0.N) : k0_pay18 (k0_pay11 (iblk m c 0 t) (iblk m c 1 t) (iblk m c 10 t)) (iblk m c 7 t) (iblk m c 2 t) = up2 (rowsOf (dY D M SA WT G) t.val) := by
  rw [blk_dm h, blk7 h, blk2 h]
  exact pay18 _ _ WT

theorem blk_dc (h : Reads m c D M SA SC YA YC AT WT WO WP G) (t : Fin cfg0.N) : k0_pay19 (k0_pay11 (iblk m c 0 t) (iblk m c 1 t) (iblk m c 10 t)) (iblk m c 7 t) (iblk m c 3 t) = up2 (rowsOf (dY D M SC WT G) t.val) := by
  rw [blk_dm h, blk7 h, blk3 h]
  exact pay19 _ _ WT

/-- The block of the product's gradient after point `t`. -/
theorem outs11 (h : Reads m c D M SA SC YA YC AT WT WO WP G) (t : Fin cfg0.N) : (outsAt0 m c t.val t.isLt).1 = up2 (rowsOf (dM D M G) t.val) := by
  refine Eq.trans (?_ : _ = k0_pay11 (iblk m c 0 t) (iblk m c 1 t) (iblk m c 10 t)) ?_
  · by_cases ht : t.val % 16 = 0
    · rw [outsAt0_A m c t ht ht]
      frame_out <;> rfl
    · rw [outsAt0_B m c t ht ht]
      frame_out <;> rfl
  · exact blk_dm h t

/-- The block of the first branch's gradient after point `t`. -/
theorem outs12 (h : Reads m c D M SA SC YA YC AT WT WO WP G) (t : Fin cfg0.N) : (outsAt0 m c t.val t.isLt).2.1 = up2 (rowsOf (dY D M SA WT G) t.val) := by
  refine Eq.trans (?_ : _ = k0_pay18 (k0_pay11 (iblk m c 0 t) (iblk m c 1 t) (iblk m c 10 t)) (iblk m c 7 t) (iblk m c 2 t)) ?_
  · by_cases ht : t.val % 16 = 0
    · rw [outsAt0_A m c t ht ht]
      frame_out <;> rfl
    · rw [outsAt0_B m c t ht ht]
      frame_out <;> rfl
  · exact blk_dy h t

/-- The block of the second branch's gradient after point `t`. -/
theorem outs13 (h : Reads m c D M SA SC YA YC AT WT WO WP G) (t : Fin cfg0.N) : (outsAt0 m c t.val t.isLt).2.2.1 = up2 (rowsOf (dY D M SC WT G) t.val) := by
  refine Eq.trans (?_ : _ = k0_pay19 (k0_pay11 (iblk m c 0 t) (iblk m c 1 t) (iblk m c 10 t)) (iblk m c 7 t) (iblk m c 3 t)) ?_
  · by_cases ht : t.val % 16 = 0
    · rw [outsAt0_A m c t ht ht]
      frame_out <;> rfl
    · rw [outsAt0_B m c t ht ht]
      frame_out <;> rfl
  · exact blk_dc h t

/-- The block of the first gate's gradient after point `t`. -/
theorem outs14 (h : Reads m c D M SA SC YA YC AT WT WO WP G) (t : Fin cfg0.N) : (outsAt0 m c t.val t.isLt).2.2.2.1 = up2 (rowsOf (gateGrad (dP D M WT G) YA SA) t.val) := by
  refine Eq.trans (?_ : _ = k0_pay20 (k0_pay11 (iblk m c 0 t) (iblk m c 1 t) (iblk m c 10 t)) (iblk m c 7 t) (iblk m c 2 t) (iblk m c 4 t)) ?_
  · by_cases ht : t.val % 16 = 0
    · rw [outsAt0_A m c t ht ht]
      frame_out <;> rfl
    · rw [outsAt0_B m c t ht ht]
      frame_out <;> rfl
  · rw [blk_dm h, blk7 h, blk2 h, blk4 h]
    exact pay20 _ _ _ WT

/-- The block of the second gate's gradient after point `t`. -/
theorem outs15 (h : Reads m c D M SA SC YA YC AT WT WO WP G) (t : Fin cfg0.N) : (outsAt0 m c t.val t.isLt).2.2.2.2.1 = up2 (rowsOf (gateGrad (dP D M WT G) YC SC) t.val) := by
  refine Eq.trans (?_ : _ = k0_pay21 (k0_pay12 (k0_pay11 (iblk m c 0 t) (iblk m c 1 t) (iblk m c 10 t)) (iblk m c 7 t)) (k0_pay14 (iblk m c 3 t)) (iblk m c 5 t)) ?_
  · by_cases ht : t.val % 16 = 0
    · rw [outsAt0_A m c t ht ht]
      frame_out <;> rfl
    · rw [outsAt0_B m c t ht ht]
      frame_out <;> rfl
  · rw [blk_dm h, blk7 h, blk3 h, blk5 h, pay12, pay14]
    exact pay21 _ _ _

/-- The block of the gradient of the first branch's rows after point `t`. -/
theorem outs16 (h : Reads m c D M SA SC YA YC AT WT WO WP G) (t : Fin cfg0.N) : (outsAt0 m c t.val t.isLt).2.2.2.2.2.1 = up2 (rowsOf (timesT (dY D M SA WT G) WO) t.val) := by
  refine Eq.trans (?_ : _ = k0_pay23 (k0_pay18 (k0_pay11 (iblk m c 0 t) (iblk m c 1 t) (iblk m c 10 t)) (iblk m c 7 t) (iblk m c 2 t)) (iblk m c 8 t)) ?_
  · by_cases ht : t.val % 16 = 0
    · rw [outsAt0_A m c t ht ht]
      frame_out <;> rfl
    · rw [outsAt0_B m c t ht ht]
      frame_out <;> rfl
  · rw [blk_dy h, blk8 h]
    exact pay23 _ WO

/-- The block of the gradient of the second branch's rows after point `t`. -/
theorem outs17 (h : Reads m c D M SA SC YA YC AT WT WO WP G) (t : Fin cfg0.N) : (outsAt0 m c t.val t.isLt).2.2.2.2.2.2.1 = up2 (rowsOf (timesT (dY D M SC WT G) WP) t.val) := by
  refine Eq.trans (?_ : _ = k0_pay5 (k0_pay19 (k0_pay11 (iblk m c 0 t) (iblk m c 1 t) (iblk m c 10 t)) (iblk m c 7 t) (iblk m c 3 t)) (iblk m c 9 t)) ?_
  · by_cases ht : t.val % 16 = 0
    · rw [outsAt0_A m c t ht ht]
      frame_out <;> rfl
    · rw [outsAt0_B m c t ht ht]
      frame_out <;> rfl
  · rw [blk_dc h, blk9 h]
    exact pay5 _ WP

/-- The block of the scale's gradient after point `n`: the sums over the rows of the tiles so far. -/
theorem outs18 (h : Reads m c D M SA SC YA YC AT WT WO WP G) : ∀ (n : ℕ) (hn : n < cfg0.N), (outsAt0 m c n hn).2.2.2.2.2.2.2.1 = up2 fun _ k => part 256 (gG M D k) (n + 1)
  | 0, hn => by
    refine Eq.trans (?_ : _ = k0_pay10 (iblk m c 0 ⟨0, hn⟩) (iblk m c 1 ⟨0, hn⟩) (k0_pay9 (F := Ideal))) ?_
    · rw [outsAt0_A m c ⟨0, hn⟩ rfl rfl]
      frame_out <;> rfl
    · rw [blk0 h, blk1 h, pay9, pay10]
      simp only [Nat.zero_add, part_one, _root_.zero_add]
      rfl
  | n + 1, hn => by
    have hN : n + 1 < 16 := lt_of_lt_of_eq hn N_0
    refine Eq.trans (?_ : _ = k0_pay10 (iblk m c 0 ⟨n + 1, hn⟩) (iblk m c 1 ⟨n + 1, hn⟩) (outsAt0 m c n (Nat.lt_of_succ_lt hn)).2.2.2.2.2.2.2.1) ?_
    · rw [outsAt0_B m c ⟨n + 1, hn⟩ (by dsimp only; omega) (by dsimp only; omega)]
      frame_out <;> rfl
    · rw [outs18 h n (Nat.lt_of_succ_lt hn), blk0 h, blk1 h, pay10]
      simp only [part_succ _ _ (n + 1)]
      rfl

/-- The block of the shift's gradient after point `n`: the sums over the rows of the tiles so far. -/
theorem outs19 (h : Reads m c D M SA SC YA YC AT WT WO WP G) : ∀ (n : ℕ) (hn : n < cfg0.N), (outsAt0 m c n hn).2.2.2.2.2.2.2.2.1 = up2 fun _ k => part 256 (fun i => dY D M SC WT G i k) (n + 1)
  | 0, hn => by
    refine Eq.trans (?_ : _ = k0_pay17 (k0_pay11 (iblk m c 0 ⟨0, hn⟩) (iblk m c 1 ⟨0, hn⟩) (iblk m c 10 ⟨0, hn⟩)) (iblk m c 7 ⟨0, hn⟩) (iblk m c 3 ⟨0, hn⟩) (k0_pay16 (F := Ideal))) ?_
    · rw [outsAt0_A m c ⟨0, hn⟩ rfl rfl]
      frame_out <;> rfl
    · rw [blk_dm h, blk7 h, blk3 h, pay16, pay17]
      simp only [Nat.zero_add, part_one, _root_.zero_add]
      rfl
  | n + 1, hn => by
    have hN : n + 1 < 16 := lt_of_lt_of_eq hn N_0
    refine Eq.trans (?_ : _ = k0_pay17 (k0_pay11 (iblk m c 0 ⟨n + 1, hn⟩) (iblk m c 1 ⟨n + 1, hn⟩) (iblk m c 10 ⟨n + 1, hn⟩)) (iblk m c 7 ⟨n + 1, hn⟩) (iblk m c 3 ⟨n + 1, hn⟩) (outsAt0 m c n (Nat.lt_of_succ_lt hn)).2.2.2.2.2.2.2.2.1) ?_
    · rw [outsAt0_B m c ⟨n + 1, hn⟩ (by dsimp only; omega) (by dsimp only; omega)]
      frame_out <;> rfl
    · rw [outs19 h n (Nat.lt_of_succ_lt hn), blk_dm h, blk7 h, blk3 h, pay17]
      simp only [part_succ _ _ (n + 1)]
      rfl

/-- Result 0: the product's gradient. -/
theorem final11 (h : Reads m c D M SA SC YA YC AT WT WO WP G) : (dats m 0 c).arrAt 11 cfg0.N = up2 (dM D M G) := by
  refine (dats m 0 c).arrAt_eq_of_cover 11 (up2 (dM D M G)) (fun t _ => ?_) fun i => ?_
  · rw [Value.flushed11, outs11 h t]
    exact (rows_comp (dM D M G) (rows_le t) _ (idx11 t) (fun _ => rfl) fun _ => rfl).symm
  · have ht : (i 0 : Nat) / 256 < cfg0.N := lt_of_lt_of_eq (tile_bounds (A := 16) (B := 256) (by norm_num) (i 0).isLt).1 N_0.symm
    refine ⟨⟨(i 0 : Nat) / 256, ht⟩, flush0_11 _, ?_⟩
    show i ∈ ((View.whole main_v29_0).slice (win0_11.rect ⟨(i 0 : Nat) / 256, ht⟩)).set
    rw [View.set_slice_whole, Rect.mem_set_unit]
    exact in_tile (by norm_num) i _ (idx11 _)

/-- Result 1: the first branch's gradient. -/
theorem final12 (h : Reads m c D M SA SC YA YC AT WT WO WP G) : (dats m 0 c).arrAt 12 cfg0.N = up2 (dY D M SA WT G) := by
  refine (dats m 0 c).arrAt_eq_of_cover 12 (up2 (dY D M SA WT G)) (fun t _ => ?_) fun i => ?_
  · rw [Value.flushed12, outs12 h t]
    exact (rows_comp (dY D M SA WT G) (rows_le t) _ (idx12 t) (fun _ => rfl) fun _ => rfl).symm
  · have ht : (i 0 : Nat) / 256 < cfg0.N := lt_of_lt_of_eq (tile_bounds (A := 16) (B := 256) (by norm_num) (i 0).isLt).1 N_0.symm
    refine ⟨⟨(i 0 : Nat) / 256, ht⟩, flush0_12 _, ?_⟩
    show i ∈ ((View.whole main_v29_1).slice (win0_12.rect ⟨(i 0 : Nat) / 256, ht⟩)).set
    rw [View.set_slice_whole, Rect.mem_set_unit]
    exact in_tile (by norm_num) i _ (idx12 _)

/-- Result 2: the second branch's gradient. -/
theorem final13 (h : Reads m c D M SA SC YA YC AT WT WO WP G) : (dats m 0 c).arrAt 13 cfg0.N = up2 (dY D M SC WT G) := by
  refine (dats m 0 c).arrAt_eq_of_cover 13 (up2 (dY D M SC WT G)) (fun t _ => ?_) fun i => ?_
  · rw [Value.flushed13, outs13 h t]
    exact (rows_comp (dY D M SC WT G) (rows_le t) _ (idx13 t) (fun _ => rfl) fun _ => rfl).symm
  · have ht : (i 0 : Nat) / 256 < cfg0.N := lt_of_lt_of_eq (tile_bounds (A := 16) (B := 256) (by norm_num) (i 0).isLt).1 N_0.symm
    refine ⟨⟨(i 0 : Nat) / 256, ht⟩, flush0_13 _, ?_⟩
    show i ∈ ((View.whole main_v29_2).slice (win0_13.rect ⟨(i 0 : Nat) / 256, ht⟩)).set
    rw [View.set_slice_whole, Rect.mem_set_unit]
    exact in_tile (by norm_num) i _ (idx13 _)

/-- Result 3: the first gate's gradient. -/
theorem final14 (h : Reads m c D M SA SC YA YC AT WT WO WP G) : (dats m 0 c).arrAt 14 cfg0.N = up2 (gateGrad (dP D M WT G) YA SA) := by
  refine (dats m 0 c).arrAt_eq_of_cover 14 (up2 (gateGrad (dP D M WT G) YA SA)) (fun t _ => ?_) fun i => ?_
  · rw [Value.flushed14, outs14 h t]
    exact (rows_comp (gateGrad (dP D M WT G) YA SA) (rows_le t) _ (idx14 t) (fun _ => rfl) fun _ => rfl).symm
  · have ht : (i 0 : Nat) / 256 < cfg0.N := lt_of_lt_of_eq (tile_bounds (A := 16) (B := 256) (by norm_num) (i 0).isLt).1 N_0.symm
    refine ⟨⟨(i 0 : Nat) / 256, ht⟩, flush0_14 _, ?_⟩
    show i ∈ ((View.whole main_v29_3).slice (win0_14.rect ⟨(i 0 : Nat) / 256, ht⟩)).set
    rw [View.set_slice_whole, Rect.mem_set_unit]
    exact in_tile (by norm_num) i _ (idx14 _)

/-- Result 4: the second gate's gradient. -/
theorem final15 (h : Reads m c D M SA SC YA YC AT WT WO WP G) : (dats m 0 c).arrAt 15 cfg0.N = up2 (gateGrad (dP D M WT G) YC SC) := by
  refine (dats m 0 c).arrAt_eq_of_cover 15 (up2 (gateGrad (dP D M WT G) YC SC)) (fun t _ => ?_) fun i => ?_
  · rw [Value.flushed15, outs15 h t]
    exact (rows_comp (gateGrad (dP D M WT G) YC SC) (rows_le t) _ (idx15 t) (fun _ => rfl) fun _ => rfl).symm
  · have ht : (i 0 : Nat) / 256 < cfg0.N := lt_of_lt_of_eq (tile_bounds (A := 16) (B := 256) (by norm_num) (i 0).isLt).1 N_0.symm
    refine ⟨⟨(i 0 : Nat) / 256, ht⟩, flush0_15 _, ?_⟩
    show i ∈ ((View.whole main_v29_4).slice (win0_15.rect ⟨(i 0 : Nat) / 256, ht⟩)).set
    rw [View.set_slice_whole, Rect.mem_set_unit]
    exact in_tile (by norm_num) i _ (idx15 _)

/-- Result 5: the gradient of the first branch's rows. -/
theorem final16 (h : Reads m c D M SA SC YA YC AT WT WO WP G) : (dats m 0 c).arrAt 16 cfg0.N = up2 (timesT (dY D M SA WT G) WO) := by
  refine (dats m 0 c).arrAt_eq_of_cover 16 (up2 (timesT (dY D M SA WT G) WO)) (fun t _ => ?_) fun i => ?_
  · rw [Value.flushed16, outs16 h t]
    exact (rows_comp (timesT (dY D M SA WT G) WO) (rows_le t) _ (idx16 t) (fun _ => rfl) fun _ => rfl).symm
  · have ht : (i 0 : Nat) / 256 < cfg0.N := lt_of_lt_of_eq (tile_bounds (A := 16) (B := 256) (by norm_num) (i 0).isLt).1 N_0.symm
    refine ⟨⟨(i 0 : Nat) / 256, ht⟩, flush0_16 _, ?_⟩
    show i ∈ ((View.whole main_v29_5).slice (win0_16.rect ⟨(i 0 : Nat) / 256, ht⟩)).set
    rw [View.set_slice_whole, Rect.mem_set_unit]
    exact in_tile (by norm_num) i _ (idx16 _)

/-- Result 6: the gradient of the second branch's rows. -/
theorem final17 (h : Reads m c D M SA SC YA YC AT WT WO WP G) : (dats m 0 c).arrAt 17 cfg0.N = up2 (timesT (dY D M SC WT G) WP) := by
  refine (dats m 0 c).arrAt_eq_of_cover 17 (up2 (timesT (dY D M SC WT G) WP)) (fun t _ => ?_) fun i => ?_
  · rw [Value.flushed17, outs17 h t]
    exact (rows_comp (timesT (dY D M SC WT G) WP) (rows_le t) _ (idx17 t) (fun _ => rfl) fun _ => rfl).symm
  · have ht : (i 0 : Nat) / 256 < cfg0.N := lt_of_lt_of_eq (tile_bounds (A := 16) (B := 256) (by norm_num) (i 0).isLt).1 N_0.symm
    refine ⟨⟨(i 0 : Nat) / 256, ht⟩, flush0_17 _, ?_⟩
    show i ∈ ((View.whole main_v29_6).slice (win0_17.rect ⟨(i 0 : Nat) / 256, ht⟩)).set
    rw [View.set_slice_whole, Rect.mem_set_unit]
    exact in_tile (by norm_num) i _ (idx17 _)

/-- Result 7: the scale's gradient. -/
theorem final18 (h : Reads m c D M SA SC YA YC AT WT WO WP G) : (dats m 0 c).arrAt 18 cfg0.N = up2 fun (_ : Fin 1) k => ∑ i, gG M D k i := by
  refine (dats m 0 c).arrAt_eq_of_cover 18 (up2 fun (_ : Fin 1) k => ∑ i, gG M D k i) (fun t hf => ?_) fun i => ?_
  · have ht : t.val + 1 = 16 := by have := (flush0_18 t).mp hf; have := lt16 t; omega
    rw [Value.flushed18, outs18 h t.val t.isLt, ht]
    simp only [part_all (show 16 * 256 = 4096 by norm_num)]
    exact (whole_comp (fun (_ : Fin 1) k => ∑ i, gG M D k i) _ (idx18 t) (fun _ => rfl) fun _ => rfl).symm
  · have ht : 15 < cfg0.N := lt_of_lt_of_eq (by omega : 15 < 16) N_0.symm
    refine ⟨⟨15, ht⟩, (flush0_18 _).mpr rfl, ?_⟩
    show i ∈ ((View.whole main_v29_7).slice (win0_18.rect ⟨15, ht⟩)).set
    rw [View.set_slice_whole, Rect.mem_set_unit]
    exact in_whole i _ (idx18 _)

/-- Result 8: the shift's gradient. -/
theorem final19 (h : Reads m c D M SA SC YA YC AT WT WO WP G) : (dats m 0 c).arrAt 19 cfg0.N = up2 fun (_ : Fin 1) k => ∑ i, dY D M SC WT G i k := by
  refine (dats m 0 c).arrAt_eq_of_cover 19 (up2 fun (_ : Fin 1) k => ∑ i, dY D M SC WT G i k) (fun t hf => ?_) fun i => ?_
  · have ht : t.val + 1 = 16 := by have := (flush0_19 t).mp hf; have := lt16 t; omega
    rw [Value.flushed19, outs19 h t.val t.isLt, ht]
    simp only [part_all (show 16 * 256 = 4096 by norm_num)]
    exact (whole_comp (fun (_ : Fin 1) k => ∑ i, dY D M SC WT G i k) _ (idx19 t) (fun _ => rfl) fun _ => rfl).symm
  · have ht : 15 < cfg0.N := lt_of_lt_of_eq (by omega : 15 < 16) N_0.symm
    refine ⟨⟨15, ht⟩, (flush0_19 _).mpr rfl, ?_⟩
    show i ∈ ((View.whole main_v29_8).slice (win0_19.rect ⟨15, ht⟩)).set
    rw [View.set_slice_whole, Rect.mem_set_unit]
    exact in_whole i _ (idx19 _)

end Cert.Merge

end
-- ==== Proof.Merge.Delta.lean ====
/-
  The backward kernel of the gated merge: its last result, the head sums, as an array of reals.
-/
module

public import proofs.«01_k».proof.Proof.Merge.Result

@[expose] public section

set_option maxRecDepth 16384

noncomputable section

open Idealize.ShloMosaic Idealize.ShloMosaic.TcCoe Idealize.SL.Sem Cert.Lift
open Idealize.ShloMosaic.Pipeline (Dat)

namespace Cert.Merge

open Cert.Kernel3Ideal Cert.Kernel3Ideal.Gen

variable {m : (ℓ : Loc nD τ sig) → Buf (Elt Ideal) ℓ} {c : Dev nD}
variable {D M SA SC YA YC AT : Fin 4096 → Fin 1024 → ℝ} {WT WO WP : Fin 1024 → Fin 1024 → ℝ} {G : Fin 1 → Fin 1024 → ℝ}

/-- The head sums of all rows, as the result. -/
def laneSums (Q : Fin 4096 → Fin 1024 → ℝ) (j : S8x16x1x256.Idx) : EReal :=
  ((headSum Q (tileIx 4096 256 (j 1).val (j 3)) (j 0) : ℝ) : EReal)

/-- A window of a tile's head sums reads the tile's block. -/
theorem lane_comp (Q : Fin 4096 → Fin 1024 → ℝ) {t : ℕ} (e : S8x1x1x256.Idx → S8x16x1x256.Idx) {k : Fin 4 → ℕ}
    (hk : k 0 = 0 ∧ k 1 = t ∧ k 2 = 0 ∧ k 3 = 0) (e0 : ∀ j, (e j 0).val = k 0 * 8 + 1 * (j 0).val) (e1 : ∀ j, (e j 1).val = k 1 * 1 + 1 * (j 1).val)
    (e3 : ∀ j, (e j 3).val = k 3 * 256 + 1 * (j 3).val) : (fun j => laneSums Q (e j)) = laneBlock (rowsOf Q t) := by
  funext j
  have h1 : (j 1).val < 1 := (j 1).isLt
  have a0 := e0 j
  have a1 := e1 j
  have a3 := e3 j
  rw [hk.1] at a0
  rw [hk.2.1] at a1
  rw [hk.2.2.2] at a3
  rw [laneSums, laneBlock, show e j 0 = j 0 from Fin.ext (by omega), show e j 3 = j 3 from Fin.ext (by omega), show (e j 1).val = t by omega]
  rfl

/-- The block of head sums after point `t`. -/
theorem outs20 (h : Reads m c D M SA SC YA YC AT WT WO WP G) (t : Fin cfg0.N) :
    (outsAt0 m c t.val t.isLt).2.2.2.2.2.2.2.2.2 = laneBlock (rowsOf (dQ D M SA AT WT WO G) t.val) := by
  have hq : k0_pay24 (k0_pay18 (k0_pay11 (iblk m c 0 t) (iblk m c 1 t) (iblk m c 10 t)) (iblk m c 7 t) (iblk m c 2 t)) (iblk m c 8 t) (iblk m c 6 t)
      = up2 (rowsOf (dQ D M SA AT WT WO G) t.val) := by
    rw [blk_dy h, blk8 h, blk6 h]
    exact pay24 _ _ WO
  by_cases ht : t.val % 16 = 0
  on_goal 1 => rw [outsAt0_A m c t ht ht]
  on_goal 2 => rw [outsAt0_B m c t ht ht]
  all_goals
    frame_out
    funext j
    canon_tiles x e
    · exact laneRow_block hq 7 slices_S128x256_o7_0_S1x256 e0 e3
    · exact laneRow_block hq 6 slices_S128x256_o6_0_S1x256 e0 e3
    · exact laneRow_block hq 5 slices_S128x256_o5_0_S1x256 e0 e3
    · exact laneRow_block hq 4 slices_S128x256_o4_0_S1x256 e0 e3
    · exact laneRow_block hq 3 slices_S128x256_o3_0_S1x256 e0 e3
    · exact laneRow_block hq 2 slices_S128x256_o2_0_S1x256 e0 e3
    · exact laneRow_block hq 1 slices_S128x256_o1_0_S1x256 e0 e3
    · exact laneRow_block hq 0 slices_S128x256_o0_0_S1x256 (e0.trans (Nat.zero_add _).symm) e3

/-- Result 9: the head sums. -/
theorem final20 (h : Reads m c D M SA SC YA YC AT WT WO WP G) : (dats m 0 c).arrAt 20 cfg0.N = laneSums (dQ D M SA AT WT WO G) := by
  refine (dats m 0 c).arrAt_eq_of_cover 20 (laneSums (dQ D M SA AT WT WO G)) (fun t _ => ?_) fun i => ?_
  · rw [Value.flushed20, outs20 h t]
    exact (lane_comp (dQ D M SA AT WT WO G) _ (idx20 t) (fun _ => rfl) (fun _ => rfl) fun _ => rfl).symm
  · have h1 : (i 1).val < 16 := (i 1).isLt
    have ht : (i 1 : Nat) < cfg0.N := lt_of_lt_of_eq h1 N_0.symm
    refine ⟨⟨(i 1 : Nat), ht⟩, flush0_20 _, ?_⟩
    show i ∈ ((View.whole main_v29_9).slice (win0_20.rect ⟨(i 1 : Nat), ht⟩)).set
    rw [View.set_slice_whole, Rect.mem_set_unit]
    have hi := idx20 ⟨(i 1 : Nat), ht⟩
    intro a
    match a with
    | ⟨0, _⟩ =>
      have b : (i 0).val < 8 := (i 0).isLt
      show win0_20.index ⟨(i 1 : Nat), ht⟩ 0 * 8 ≤ (i 0).val ∧ (i 0).val < win0_20.index ⟨(i 1 : Nat), ht⟩ 0 * 8 + 8
      rw [hi.1]
      omega
    | ⟨1, _⟩ =>
      show win0_20.index ⟨(i 1 : Nat), ht⟩ 1 * 1 ≤ (i 1).val ∧ (i 1).val < win0_20.index ⟨(i 1 : Nat), ht⟩ 1 * 1 + 1
      rw [hi.2.1]
      show (i 1 : Nat) * 1 ≤ (i 1 : Nat) ∧ (i 1 : Nat) < (i 1 : Nat) * 1 + 1
      omega
    | ⟨2, _⟩ =>
      have b : (i 2).val < 1 := (i 2).isLt
      show win0_20.index ⟨(i 1 : Nat), ht⟩ 2 * 1 ≤ (i 2).val ∧ (i 2).val < win0_20.index ⟨(i 1 : Nat), ht⟩ 2 * 1 + 1
      rw [hi.2.2.1]
      omega
    | ⟨3, _⟩ =>
      have b : (i 3).val < 256 := (i 3).isLt
      show win0_20.index ⟨(i 1 : Nat), ht⟩ 3 * 256 ≤ (i 3).val ∧ (i 3).val < win0_20.index ⟨(i 1 : Nat), ht⟩ 3 * 256 + 256
      rw [hi.2.2.2]
      omega

end Cert.Merge

end
-- ==== Proof.Merge.Reference.lean ====
/-
  The reference of the gated merge's gradients: its ten results as arrays of reals.
-/
module

public import proofs.«01_k».proof.Proof.Merge.Delta
public import proofs.«01_k».proof.Proof.Common.Norm
public import proofs.«01_k».proof.Proof.Gen.Reference3Ideal.Read

@[expose] public section

set_option maxRecDepth 16384

noncomputable section

open Idealize.ShloMosaic Cert.Lift

namespace Cert.Merge

/-- Rows times the matrix. -/
def times (X : Fin 4096 → Fin 1024 → ℝ) (W : Fin 1024 → Fin 1024 → ℝ) (r : Fin 4096) (c : Fin 1024) : ℝ := ∑ k, X r k * W k c

/-- A branch with its shift. -/
def shifted (X : Fin 4096 → Fin 1024 → ℝ) (W : Fin 1024 → Fin 1024 → ℝ) (b : Fin 1 → Fin 1024 → ℝ) (r : Fin 4096) (c : Fin 1024) : ℝ := times X W r c + b 0 c

/-- A gate. -/
def gate (X : Fin 4096 → Fin 1024 → ℝ) (r : Fin 4096) (c : Fin 1024) : ℝ := sig (X r c)

/-- The gated sum of the two branches. -/
def merged (SA YA SC YC : Fin 4096 → Fin 1024 → ℝ) (r : Fin 4096) (c : Fin 1024) : ℝ := SA r c * YA r c + SC r c * YC r c

/-- A head's sum, at the row that a tile and a row of it name. -/
theorem sum_lane (P A : Fin 4096 → Fin 1024 → ℝ) (j0 : Fin 8) (j1 : Fin 16) (j2 : Fin 1) (j3 : Fin 256) (hr : j1.val * 256 + j3.val < 4096)
    (hc : ∀ x : Fin 128, j0.val * 128 + x.val < 1024) :
    (∑ x : Fin 128, up2 P (ix2 ⟨j1.val * 256 + j3.val, hr⟩ ⟨j0.val * 128 + x.val, hc x⟩) * up2 A (ix2 ⟨j1.val * 256 + j3.val, hr⟩ ⟨j0.val * 128 + x.val, hc x⟩))
      = laneSums (fun r k => P r k * A r k) (ix4 j0 j1 j2 j3) := by
  simp only [up2_ix, ← EReal.coe_mul, ← coe_sum]
  have e : (⟨j1.val * 256 + j3.val, hr⟩ : Fin 4096) = tileIx 4096 256 j1.val j3 := Fin.ext (tileIx_val (N := 4096) (B := 256) (s := j1.val) j3 (by omega)).symm
  rw [e]
  rfl

namespace Ref

open Cert.Reference3Ideal Cert.Reference3Ideal.Read Cert.Reference3Ideal.Facts₀

variable (AT UA GA GC D : Fin 4096 → Fin 1024 → ℝ) (WO WP WT : Fin 1 → Fin 1024 → Fin 1024 → ℝ) (BP G : Fin 1 → Fin 1024 → ℝ)

/-- The product's value. -/
abbrev mv : Fin 4096 → Fin 1024 → ℝ := times (merged (gate GA) (times AT (WO 0)) (gate GC) (shifted UA (WP 0) BP)) (WT 0)

theorem v3 : val_main_v3 (F := Ideal) (up2 AT) (up3 WO) = up2 (times AT (WO 0)) := by
  funext j
  idx_vars j
  pointwise [val_main_v3, val_main_v0, val_main_v2]
  simp only [up2_ix, up3_ix, zero_add, ← EReal.coe_mul, ← coe_sum]
  rfl

theorem v9 : val_main_v9 (F := Ideal) (up2 UA) (up3 WP) (up2 BP) = up2 (shifted UA (WP 0) BP) := by
  unfold val_main_v9
  rw [show val_main_v5 (F := Ideal) (up2 UA) (up3 WP) = _ from v3 UA WP]
  funext j
  idx_vars j
  pointwise [val_main_v8, val_main_v7, val_main_v6]
  simp only [up2_ix, ← EReal.coe_add]
  rfl

theorem v15 : val_main_v15 (F := Ideal) (up2 GA) = up2 (gate GA) := by
  funext j
  idx_vars j
  pointwise [val_main_v15, val_main_v14, val_main_cst_0, val_main_v13, val_main_v12, val_main_cst, val_main_v11, val_main_v10]
  simp only [up2_ix, sig_real_host]
  rfl

theorem v25 : val_main_v25 (F := Ideal) (up2 GC) = up2 (gate GC) := v15 GC

theorem v32 : val_main_v32 (F := Ideal) (up2 AT) (up2 UA) (up2 GA) (up2 GC) (up3 WO) (up3 WP) (up2 BP) (up3 WT) = up2 (mv AT UA GA GC WO WP WT BP) := by
  unfold val_main_v32 val_main_v30 val_main_v19 val_main_v29
  rw [v3, v9, v15, v25]
  funext j
  idx_vars j
  pointwise [val_main_v31]
  simp only [up2_ix, up3_ix, zero_add, ← EReal.coe_mul, ← EReal.coe_add, ← coe_sum]
  rfl

/-- Result 0. -/
theorem v69 : val_main_v69 (F := Ideal) (up2 AT) (up2 UA) (up2 GA) (up2 GC) (up3 WO) (up3 WP) (up2 BP) (up3 WT) (up2 G) (up2 D)
    = up2 (dM D (mv AT UA GA GC WO WP WT BP) G) := by
  have key := hGrad_real (hl := len_1024) h_S_ reducesTo_S4096x1024_S4096_d1 bcast_S4096_S4096x1_0 bcast_S_S4096x1 bcast_S4096x1_S4096x1024_0_1
    shapeCasts_S1x1024_S1024 bcast_S1024_S1x1024_1 bcast_S1x1024_S4096x1024_0_1 shapeCasts_S4096_S4096x1 reducesTo_S4096x1_S4096_d1
    bcast_S4096_S4096x1024_0 D (mv AT UA GA GC WO WP WT BP) G
  rw [← v32] at key
  exact key

/-- Result 7. -/
theorem v70 : val_main_v70 (F := Ideal) (up2 AT) (up2 UA) (up2 GA) (up2 GC) (up3 WO) (up3 WP) (up2 BP) (up3 WT) (up2 D)
    = up2 fun _ k => ∑ i, gG (mv AT UA GA GC WO WP WT BP) D k i := by
  have key := hScale_real h_S_ bcast_S1024_S1x1024_1 reducesTo_S4096x1024_S1024_d0 shapeCasts_S1024_S1x1024 reducesTo_S1x1024_S1024_d0
    (fun r => rnrm (mv AT UA GA GC WO WP WT BP r)) D
  rw [← hNrm_real (hl := len_1024) h_S_ reducesTo_S4096x1024_S4096_d1 bcast_S4096_S4096x1_0 bcast_S_S4096x1 bcast_S4096x1_S4096x1024_0_1 (mv AT UA GA GC WO WP WT BP), ← v32] at key
  exact key

/-- The gradient of the merged branches. -/
theorem v71 : val_main_v71 (F := Ideal) (up2 AT) (up2 UA) (up2 GA) (up2 GC) (up3 WO) (up3 WP) (up2 BP) (up3 WT) (up2 G) (up2 D)
    = up2 (dP D (mv AT UA GA GC WO WP WT BP) (WT 0) G) := by
  unfold val_main_v71
  rw [v69]
  funext j
  idx_vars j
  pointwise [val_main_v31]
  simp only [up2_ix, up3_ix, zero_add, ← EReal.coe_mul, ← coe_sum]
  rfl

/-- Result 1. -/
theorem v75 : val_main_v75 (F := Ideal) (up2 AT) (up2 UA) (up2 GA) (up2 GC) (up3 WO) (up3 WP) (up2 BP) (up3 WT) (up2 G) (up2 D)
    = up2 (dY D (mv AT UA GA GC WO WP WT BP) (gate GA) (WT 0) G) := by
  unfold val_main_v75
  rw [v71, v15]
  funext j
  idx_vars j
  pointwise
  simp only [up2_ix, ← EReal.coe_mul]
  exact congrArg _ (mul_comm _ _)

/-- Result 2. -/
theorem v72 : val_main_v72 (F := Ideal) (up2 AT) (up2 UA) (up2 GA) (up2 GC) (up3 WO) (up3 WP) (up2 BP) (up3 WT) (up2 G) (up2 D)
    = up2 (dY D (mv AT UA GA GC WO WP WT BP) (gate GC) (WT 0) G) := by
  unfold val_main_v72
  rw [v71, v25]
  funext j
  idx_vars j
  pointwise
  simp only [up2_ix, ← EReal.coe_mul]
  exact congrArg _ (mul_comm _ _)

/-- Result 3. -/
theorem v77 : val_main_v77 (F := Ideal) (up2 AT) (up2 UA) (up2 GA) (up2 GC) (up3 WO) (up3 WP) (up2 BP) (up3 WT) (up2 G) (up2 D)
    = up2 (gateGrad (dP D (mv AT UA GA GC WO WP WT BP) (WT 0) G) (times AT (WO 0)) (gate GA)) := by
  unfold val_main_v77 val_main_v76 val_main_v18 val_main_v17
  rw [v71, v15, v3]
  funext j
  idx_vars j
  pointwise [val_main_v16, val_main_cst_1]
  simp only [up2_ix, lit_one, ← EReal.coe_one, ← EReal.coe_mul, ← EReal.coe_sub]
  exact congrArg _ (mul_assoc _ _ _).symm

/-- Result 4. -/
theorem v74 : val_main_v74 (F := Ideal) (up2 AT) (up2 UA) (up2 GA) (up2 GC) (up3 WO) (up3 WP) (up2 BP) (up3 WT) (up2 G) (up2 D)
    = up2 (gateGrad (dP D (mv AT UA GA GC WO WP WT BP) (WT 0) G) (shifted UA (WP 0) BP) (gate GC)) := by
  unfold val_main_v74 val_main_v73 val_main_v28 val_main_v27
  rw [v71, v25, v9]
  funext j
  idx_vars j
  pointwise [val_main_v26, val_main_cst_4]
  simp only [up2_ix, lit_one, ← EReal.coe_one, ← EReal.coe_mul, ← EReal.coe_sub]
  exact congrArg _ (mul_assoc _ _ _).symm

/-- Result 5. -/
theorem v83 : val_main_v83 (F := Ideal) (up2 AT) (up2 UA) (up2 GA) (up2 GC) (up3 WO) (up3 WP) (up2 BP) (up3 WT) (up2 G) (up2 D)
    = up2 (timesT (dY D (mv AT UA GA GC WO WP WT BP) (gate GA) (WT 0) G) (WO 0)) := by
  unfold val_main_v83
  rw [v75]
  funext j
  idx_vars j
  pointwise [val_main_v2]
  simp only [up2_ix, up3_ix, zero_add, ← EReal.coe_mul, ← coe_sum]
  rfl

/-- Result 6. -/
theorem v82 : val_main_v82 (F := Ideal) (up2 AT) (up2 UA) (up2 GA) (up2 GC) (up3 WO) (up3 WP) (up2 BP) (up3 WT) (up2 G) (up2 D)
    = up2 (timesT (dY D (mv AT UA GA GC WO WP WT BP) (gate GC) (WT 0) G) (WP 0)) := by
  unfold val_main_v82
  rw [v72]
  funext j
  idx_vars j
  pointwise [val_main_v4]
  simp only [up2_ix, up3_ix, zero_add, ← EReal.coe_mul, ← coe_sum]
  rfl

/-- Result 8. -/
theorem v81 : val_main_v81 (F := Ideal) (up2 AT) (up2 UA) (up2 GA) (up2 GC) (up3 WO) (up3 WP) (up2 BP) (up3 WT) (up2 G) (up2 D)
    = up2 fun _ k => ∑ i, dY D (mv AT UA GA GC WO WP WT BP) (gate GC) (WT 0) G i k := by
  unfold val_main_v81 val_main_v80 val_main_v79 val_main_v78
  rw [v72]
  funext j
  idx_vars j
  pointwise [val_main_cst_14, val_main_cst_15]
  simp only [up2_ix, zero_add, ← coe_sum]
  rw [Fin.sum_univ_one]

/-- Result 9. -/
theorem v88 : val_main_v88 (F := Ideal) (up2 AT) (up2 UA) (up2 GA) (up2 GC) (up3 WO) (up3 WP) (up2 BP) (up3 WT) (up2 G) (up2 D)
    = laneSums (dQ D (mv AT UA GA GC WO WP WT BP) (gate GA) AT (WT 0) (WO 0) G) := by
  unfold val_main_v88 val_main_v87 val_main_v86 val_main_v85 val_main_v84
  rw [v83]
  funext j
  idx_vars j
  pointwise [val_main_cst_16, val_main_v0]
  have hr : j1.val * 256 + j3.val < 4096 := by omega
  have hc : ∀ x : Fin 128, j0.val * 128 + x.val < 1024 := fun x => by omega
  exact sum_lane (timesT (dY D (mv AT UA GA GC WO WP WT BP) (gate GA) (WT 0) G) (WO 0)) AT j0 j1 j2 j3 hr hc

end Ref

end Cert.Merge

end
-- ==== Proof.Merge.Claim.lean ====
/-
  The backward kernel of the gated merge computes the gradients of the plain gated merge, product and norm: the claim over the reals.
-/
module

public import proofs.«01_k».proof.Defs
public import proofs.«01_k».proof.Proof.Common.Finite
public import proofs.«01_k».proof.Proof.Merge.Reference
public import proofs.«01_k».proof.Proof.Gen.Pre_finite3
public import proofs.«01_k».proof.Proof.Gen.Reference3Ideal.Run

@[expose] public section

set_option maxRecDepth 16384

noncomputable section

open Idealize.ShloMosaic Idealize.ShloMosaic.TcCoe Idealize.SL.Sem Cert.Lift

namespace Cert.Merge

open Cert.Kernel3Ideal Cert.Kernel3Ideal.Gen

/-- The host's matrix in the shorter format. -/
def hostW (w : FVec Ideal S1x1024x1024 .f32) : FVec Ideal S1024x1024 .bf16 :=
  truncf .bf16 (shapeCast S1024x1024 w shapeCasts_S1x1024x1024_S1024x1024) bitsLt_bf16_f32

/-- The host's gate. -/
def hostGate (x : FVec Ideal S4096x1024 .f32) : FVec Ideal S4096x1024 .f32 :=
  Host.divf (broadcastInDim S4096x1024 ![] bcast_S_S4096x1024 (constant S_ .f32 0x3F800000#32))
    (addf (broadcastInDim S4096x1024 ![] bcast_S_S4096x1024 (constant S_ .f32 0x3F800000#32)) (Host.exp (Host.negf x)))

/-- The host's product. -/
def hostDot (x : FVec Ideal S4096x1024 .bf16) (w : FVec Ideal S1024x1024 .bf16) : FVec Ideal S4096x1024 .f32 :=
  Host.dotGeneral dot_S4096x1024_S1024x1024_S4096x1024_1_0_0_1_n_n none x w

/-- The host's product and shift. -/
def hostShift (x : FVec Ideal S4096x1024 .bf16) (w : FVec Ideal S1024x1024 .bf16) (b : FVec Ideal S1x1024 .f32) : FVec Ideal S4096x1024 .f32 :=
  addf (hostDot x w) (broadcastInDim S4096x1024 ![0, 1] bcast_S1x1024_S4096x1024_0_1 b)

/-- The host's gated sum. -/
def hostMerged (sa ya sc yc : FVec Ideal S4096x1024 .f32) : FVec Ideal S4096x1024 .bf16 :=
  truncf .bf16 (addf (mulf sa ya) (mulf sc yc)) bitsLt_bf16_f32

theorem hostW_real (M : Fin 1 → Fin 1024 → Fin 1024 → ℝ) : hostW (up3 M) = up2 (M 0) := by
  funext j
  idx_vars j
  pointwise [hostW]
  rfl

theorem hostGate_real (X : Fin 4096 → Fin 1024 → ℝ) : hostGate (up2 X) = up2 (gate X) := by
  funext j
  idx_vars j
  pointwise [hostGate]
  simp only [up2_ix, sig_real_host]
  rfl

theorem hostDot_real (X : Fin 4096 → Fin 1024 → ℝ) (W : Fin 1024 → Fin 1024 → ℝ) : hostDot (up2 X) (up2 W) = up2 (times X W) := by
  funext j
  idx_vars j
  pointwise [hostDot]
  simp only [up2_ix, zero_add, ← EReal.coe_mul, ← coe_sum]
  rfl

theorem hostShift_real (X : Fin 4096 → Fin 1024 → ℝ) (W : Fin 1024 → Fin 1024 → ℝ) (B : Fin 1 → Fin 1024 → ℝ) :
    hostShift (up2 X) (up2 W) (up2 B) = up2 (shifted X W B) := by
  unfold hostShift
  rw [hostDot_real]
  funext j
  idx_vars j
  pointwise
  simp only [up2_ix, ← EReal.coe_add]
  rfl

theorem hostMerged_real (SA YA SC YC : Fin 4096 → Fin 1024 → ℝ) : hostMerged (up2 SA) (up2 YA) (up2 SC) (up2 YC) = up2 (merged SA YA SC YC) := by
  funext j
  idx_vars j
  pointwise [hostMerged]
  simp only [up2_ix, ← EReal.coe_mul, ← EReal.coe_add]
  rfl

variable (m : (ℓ : Loc nD τ sig) → Buf (Elt Ideal) ℓ) (c : Dev nD)

/-- The first branch on the host. -/
def hYA : FVec Ideal S4096x1024 .f32 :=
  hostDot (m ((c.tc : Thread nD τ).loc main_arg0) : FVec Ideal S4096x1024 .bf16) (hostW (m ((c.tc : Thread nD τ).loc main_arg4) : FVec Ideal S1x1024x1024 .f32))

/-- The second branch on the host. -/
def hYC : FVec Ideal S4096x1024 .f32 :=
  hostShift (m ((c.tc : Thread nD τ).loc main_arg1) : FVec Ideal S4096x1024 .bf16) (hostW (m ((c.tc : Thread nD τ).loc main_arg5) : FVec Ideal S1x1024x1024 .f32))
    (m ((c.tc : Thread nD τ).loc main_arg6) : FVec Ideal S1x1024 .f32)

theorem V_main_v1 : @Eq (FVec Ideal S1024x1024 .bf16) (V m c main_v1) (hostW (m ((c.tc : Thread nD τ).loc main_arg4) : FVec Ideal S1x1024x1024 .f32)) := by
  unfold V
  after_results
  rfl

theorem V_main_v3 : @Eq (FVec Ideal S1024x1024 .bf16) (V m c main_v3) (hostW (m ((c.tc : Thread nD τ).loc main_arg5) : FVec Ideal S1x1024x1024 .f32)) := by
  unfold V
  after_results
  rfl

theorem V_main_v5 : @Eq (FVec Ideal S1024x1024 .bf16) (V m c main_v5) (hostW (m ((c.tc : Thread nD τ).loc main_arg7) : FVec Ideal S1x1024x1024 .f32)) := by
  unfold V
  after_results
  rfl

theorem V_main_v11 : @Eq (FVec Ideal S4096x1024 .f32) (V m c main_v11) (hostGate (m ((c.tc : Thread nD τ).loc main_arg2) : FVec Ideal S4096x1024 .f32)) := by
  unfold V
  after_results
  rfl

theorem V_main_v17 : @Eq (FVec Ideal S4096x1024 .f32) (V m c main_v17) (hostGate (m ((c.tc : Thread nD τ).loc main_arg3) : FVec Ideal S4096x1024 .f32)) := by
  unfold V
  after_results
  rfl

theorem V_main_v27 : @Eq (FVec Ideal S4096x1024 .bf16) (V m c main_v27) (truncf .bf16 (hYA m c) bitsLt_bf16_f32) := by
  unfold V
  after_results
  rfl

theorem V_main_v28 : @Eq (FVec Ideal S4096x1024 .bf16) (V m c main_v28) (truncf .bf16 (hYC m c) bitsLt_bf16_f32) := by
  unfold V
  after_results
  rfl

theorem V_main_v26 : @Eq (FVec Ideal S4096x1024 .f32) (V m c main_v26)
    (hostDot (hostMerged (hostGate (m ((c.tc : Thread nD τ).loc main_arg2) : FVec Ideal S4096x1024 .f32)) (hYA m c)
      (hostGate (m ((c.tc : Thread nD τ).loc main_arg3) : FVec Ideal S4096x1024 .f32)) (hYC m c))
      (hostW (m ((c.tc : Thread nD τ).loc main_arg7) : FVec Ideal S1x1024x1024 .f32))) := by
  unfold V
  after_results
  rfl

/-- The arguments of one device are arrays of reals. -/
structure Args (AT UA GA GC D : Fin 4096 → Fin 1024 → ℝ) (WO WP WT : Fin 1 → Fin 1024 → Fin 1024 → ℝ) (BP G : Fin 1 → Fin 1024 → ℝ) : Prop where
  h0 : m ((c.tc : Thread nD τ).loc main_arg0) = up2 AT
  h1 : m ((c.tc : Thread nD τ).loc main_arg1) = up2 UA
  h2 : m ((c.tc : Thread nD τ).loc main_arg2) = up2 GA
  h3 : m ((c.tc : Thread nD τ).loc main_arg3) = up2 GC
  h4 : m ((c.tc : Thread nD τ).loc main_arg4) = up3 WO
  h5 : m ((c.tc : Thread nD τ).loc main_arg5) = up3 WP
  h6 : m ((c.tc : Thread nD τ).loc main_arg6) = up2 BP
  h7 : m ((c.tc : Thread nD τ).loc main_arg7) = up3 WT
  h8 : m ((c.tc : Thread nD τ).loc main_arg8) = up2 G
  h9 : m ((c.tc : Thread nD τ).loc main_arg9) = up2 D

/-- Under the precondition there are such reals. -/
theorem exists_args (h : Cert.Pre_Kernel3Ideal_finite3 m) : ∃ AT UA GA GC D WO WP WT BP G, Args m c AT UA GA GC D WO WP WT BP G := by
  obtain ⟨e0, e1, e2, e3, e4, e5, e6, e7, e8, e9⟩ := h c
  obtain ⟨AT, h0⟩ := exists_up2 (below_of_mask16 e0)
  obtain ⟨UA, h1⟩ := exists_up2 (below_of_mask16 e1)
  obtain ⟨GA, h2⟩ := exists_up2 (below_of_mask e2)
  obtain ⟨GC, h3⟩ := exists_up2 (below_of_mask e3)
  obtain ⟨WO, h4⟩ := exists_up3 (below_of_mask e4)
  obtain ⟨WP, h5⟩ := exists_up3 (below_of_mask e5)
  obtain ⟨BP, h6⟩ := exists_up2 (below_of_mask e6)
  obtain ⟨WT, h7⟩ := exists_up3 (below_of_mask e7)
  obtain ⟨G, h8⟩ := exists_up2 (below_of_mask e8)
  obtain ⟨D, h9⟩ := exists_up2 (below_of_mask e9)
  exact ⟨AT, UA, GA, GC, D, WO, WP, WT, BP, G, h0, h1, h2, h3, h4, h5, h6, h7, h8, h9⟩

variable {m c} {AT UA GA GC D : Fin 4096 → Fin 1024 → ℝ} {WO WP WT : Fin 1 → Fin 1024 → Fin 1024 → ℝ} {BP G : Fin 1 → Fin 1024 → ℝ}

theorem hYA_real (a : Args m c AT UA GA GC D WO WP WT BP G) : hYA m c = up2 (times AT (WO 0)) := by
  unfold hYA
  rw [a.h0, a.h4, hostW_real]
  exact hostDot_real AT (WO 0)

theorem hYC_real (a : Args m c AT UA GA GC D WO WP WT BP G) : hYC m c = up2 (shifted UA (WP 0) BP) := by
  unfold hYC
  rw [a.h1, a.h5, a.h6, hostW_real]
  exact hostShift_real UA (WP 0) BP

/-- What the kernel's windows read. -/
theorem reads (a : Args m c AT UA GA GC D WO WP WT BP G) : Reads m c D (Ref.mv AT UA GA GC WO WP WT BP) (gate GA) (gate GC) (times AT (WO 0))
    (shifted UA (WP 0) BP) AT (WT 0) (WO 0) (WP 0) G where
  w0 := (V_main_arg9 m c).trans a.h9
  w1 := by
    refine (V_main_v26 m c).trans ?_
    rw [hYA_real a, hYC_real a, a.h2, a.h3, a.h7, hostGate_real, hostGate_real, hostMerged_real, hostW_real, hostDot_real]
  w2 := by
    refine (V_main_v11 m c).trans ?_
    rw [a.h2, hostGate_real]
  w3 := by
    refine (V_main_v17 m c).trans ?_
    rw [a.h3, hostGate_real]
  w4 := by
    refine (V_main_v27 m c).trans ?_
    rw [hYA_real a]
    rfl
  w5 := by
    refine (V_main_v28 m c).trans ?_
    rw [hYC_real a]
    rfl
  w6 := (V_main_arg0 m c).trans a.h0
  w7 := by
    refine (V_main_v5 m c).trans ?_
    rw [a.h7, hostW_real]
  w8 := by
    refine (V_main_v1 m c).trans ?_
    rw [a.h4, hostW_real]
  w9 := by
    refine (V_main_v3 m c).trans ?_
    rw [a.h5, hostW_real]
  w10 := (V_main_arg8 m c).trans a.h8

set_option maxHeartbeats 2000000 in
/-- The kernel's ten results are the reference's ten. -/
theorem algebraic : Cert.algebraic_Kernel3Ideal_Reference3Ideal_pre_finite3 := by
  intro m g m' g' hp hm
  have hk := Value.run_blocks m g
  have hr := Cert.Reference3Ideal.Value.run (F := Ideal) m' g'
  refine ⟨fun c => (dats m 0 c).arrAt 11 cfg0.N, fun c => (dats m 0 c).arrAt 12 cfg0.N, fun c => (dats m 0 c).arrAt 13 cfg0.N,
    fun c => (dats m 0 c).arrAt 14 cfg0.N, fun c => (dats m 0 c).arrAt 15 cfg0.N, fun c => (dats m 0 c).arrAt 16 cfg0.N,
    fun c => (dats m 0 c).arrAt 17 cfg0.N, fun c => (dats m 0 c).arrAt 18 cfg0.N, fun c => (dats m 0 c).arrAt 19 cfg0.N,
    fun c => (dats m 0 c).arrAt 20 cfg0.N, hk, (θ_run _ _ _).mono (fun r h c => ?_) hr⟩
  obtain ⟨q0, q1, q2, q3, q4, q5, q6, q7, q8, q9, k⟩ := h c
  obtain ⟨AT, UA, GA, GC, D, WO, WP, WT, BP, G, a⟩ := exists_args m c hp
  obtain ⟨i0, i1, i2, i3, i4, i5, i6, i7, i8, i9⟩ := hm c
  have b := reads a
  have e0 := i0.trans a.h0
  have e1 := i1.trans a.h1
  have e2 := i2.trans a.h2
  have e3 := i3.trans a.h3
  have e4 := i4.trans a.h4
  have e5 := i5.trans a.h5
  have e6 := i6.trans a.h6
  have e7 := i7.trans a.h7
  have e8 := i8.trans a.h8
  have e9 := i9.trans a.h9
  refine ⟨(q0.trans (Cert.Reference3Ideal.Read.val_main_v89_eq ..)).trans ?_, (q1.trans (Cert.Reference3Ideal.Read.val_main_v90_eq ..)).trans ?_,
    (q2.trans (Cert.Reference3Ideal.Read.val_main_v91_eq ..)).trans ?_, (q3.trans (Cert.Reference3Ideal.Read.val_main_v92_eq ..)).trans ?_,
    (q4.trans (Cert.Reference3Ideal.Read.val_main_v93_eq ..)).trans ?_, (q5.trans (Cert.Reference3Ideal.Read.val_main_v94_eq ..)).trans ?_,
    (q6.trans (Cert.Reference3Ideal.Read.val_main_v95_eq ..)).trans ?_, (q7.trans (Cert.Reference3Ideal.Read.val_main_v70_eq ..)).trans ?_,
    (q8.trans (Cert.Reference3Ideal.Read.val_main_v81_eq ..)).trans ?_, (q9.trans (Cert.Reference3Ideal.Read.val_main_v88_eq ..)).trans ?_, k⟩
  · rw [e0, e1, e2, e3, e4, e5, e6, e7, e8, e9]
    exact (Ref.v69 ..).trans (final11 b).symm
  · rw [e0, e1, e2, e3, e4, e5, e6, e7, e8, e9]
    exact (Ref.v75 ..).trans (final12 b).symm
  · rw [e0, e1, e2, e3, e4, e5, e6, e7, e8, e9]
    exact (Ref.v72 ..).trans (final13 b).symm
  · rw [e0, e1, e2, e3, e4, e5, e6, e7, e8, e9]
    exact (Ref.v77 ..).trans (final14 b).symm
  · rw [e0, e1, e2, e3, e4, e5, e6, e7, e8, e9]
    exact (Ref.v74 ..).trans (final15 b).symm
  · rw [e0, e1, e2, e3, e4, e5, e6, e7, e8, e9]
    exact (Ref.v83 ..).trans (final16 b).symm
  · rw [e0, e1, e2, e3, e4, e5, e6, e7, e8, e9]
    exact (Ref.v82 ..).trans (final17 b).symm
  · rw [e0, e1, e2, e3, e4, e5, e6, e7, e9]
    exact (Ref.v70 ..).trans (final18 b).symm
  · rw [e0, e1, e2, e3, e4, e5, e6, e7, e8, e9]
    exact (Ref.v81 ..).trans (final19 b).symm
  · rw [e0, e1, e2, e3, e4, e5, e6, e7, e8, e9]
    exact (Ref.v88 ..).trans (final20 b).symm

end Cert.Merge

end
-- ==== Proof.lean ====
/-
  The proof of every claim: the generated frames, and the value claim of each call from its own folder.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Pre_finite2
public import proofs.«01_k».proof.Proof.Gen.Pre_finite3
public import proofs.«01_k».proof.Proof.Gen.Pre_finite5
public import proofs.«01_k».proof.Proof.Gen.Pre_finite4
public import proofs.«01_k».proof.Proof.Gen.Pre_finite9
public import proofs.«01_k».proof.Proof.Gen.Pre_finite8
public import proofs.«01_k».proof.Proof.Gen.Pre_finite7
public import proofs.«01_k».proof.Proof.Gen.Pre_finite6
public import proofs.«01_k».proof.Proof.Gen.KernelIdeal.Value
public import proofs.«01_k».proof.Proof.Gen.ReferenceIdeal.Run
public import proofs.«01_k».proof.Proof.Gen.ReferenceIdeal.Read
public import proofs.«01_k».proof.Proof.Ln.Claim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Loops
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Loops
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Frames.References
public import proofs.«01_k».proof.Proof.AttnBits.Launch
public import proofs.«01_k».proof.Proof.Attn.Launch
public import proofs.«01_k».proof.Proof.Attn.Claim
public import proofs.«01_k».proof.Proof.Ff2.Claim
public import proofs.«01_k».proof.Proof.Ff1.Claim
public import proofs.«01_k».proof.Proof.Inproj.Claim
public import proofs.«01_k».proof.Proof.Loss.Claim
public import proofs.«01_k».proof.Proof.Conv.Claim
public import proofs.«01_k».proof.Proof.Merge.Claim
public import proofs.«01_k».proof.Proof.Qkv.Claim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Pre_finite.Gen.facts, Cert.Pre_finite2.Gen.facts, Cert.Pre_finite3.Gen.facts, Cert.Pre_finite4.Gen.facts, Cert.Pre_finite5.Gen.facts, Cert.Pre_finite6.Gen.facts, Cert.Pre_finite7.Gen.facts, Cert.Pre_finite8.Gen.facts, Cert.Pre_finite9.Gen.facts,
    fun m ρ _ => Cert.Kernel.Gen.frame m ρ,
    fun m ρ _ => Cert.KernelIdeal.Gen.frame m ρ,
    fun m ρ _ => Cert.KernelIdeal.Gen.frame m ρ,
    fun m ρ _ => Cert.Ln.frame_reference m ρ trivial,
    fun m ρ _ => Cert.Ln.frame_reference m ρ trivial,
    fun m ρ _ => Cert.Kernel2.Gen.frame m ρ,
    fun m ρ _ => Cert.Kernel2Ideal.Gen.frame m ρ,
    fun m ρ _ => Cert.Kernel2Ideal.Gen.frame m ρ,
    fun m ρ _ => Cert.Frames.reference2 m ρ trivial,
    fun m ρ _ => Cert.Frames.reference2 m ρ trivial,
    fun m ρ _ => Cert.Kernel3.Gen.frame m ρ,
    fun m ρ _ => Cert.Kernel3Ideal.Gen.frame m ρ,
    fun m ρ _ => Cert.Kernel3Ideal.Gen.frame m ρ,
    fun m ρ _ => Cert.Frames.reference3 m ρ trivial,
    fun m ρ _ => Cert.Frames.reference3 m ρ trivial,
    fun m ρ _ => Cert.Kernel4.Attn.frame m ρ,
    fun m ρ _ => Cert.Kernel4Ideal.Attn.frame m ρ,
    fun m ρ _ => Cert.Kernel4Ideal.Attn.frame m ρ,
    fun m ρ _ => Cert.Frames.reference4 m ρ trivial,
    fun m ρ _ => Cert.Frames.reference4 m ρ trivial,
    fun m ρ _ => Cert.Kernel5.Gen.frame m ρ,
    fun m ρ _ => Cert.Kernel5Ideal.Gen.frame m ρ,
    fun m ρ _ => Cert.Kernel5Ideal.Gen.frame m ρ,
    fun m ρ _ => Cert.Frames.reference5 m ρ trivial,
    fun m ρ _ => Cert.Frames.reference5 m ρ trivial,
    fun m ρ _ => Cert.Kernel6.Gen.frame m ρ,
    fun m ρ _ => Cert.Kernel6Ideal.Gen.frame m ρ,
    fun m ρ _ => Cert.Kernel6Ideal.Gen.frame m ρ,
    fun m ρ _ => Cert.Frames.reference6 m ρ trivial,
    fun m ρ _ => Cert.Frames.reference6 m ρ trivial,
    fun m ρ _ => Cert.Kernel7.Gen.frame m ρ,
    fun m ρ _ => Cert.Kernel7Ideal.Gen.frame m ρ,
    fun m ρ _ => Cert.Kernel7Ideal.Gen.frame m ρ,
    fun m ρ _ => Cert.Frames.reference7 m ρ trivial,
    fun m ρ _ => Cert.Frames.reference7 m ρ trivial,
    fun m ρ _ => Cert.Kernel8.Gen.frame m ρ,
    fun m ρ _ => Cert.Kernel8Ideal.Gen.frame m ρ,
    fun m ρ _ => Cert.Kernel8Ideal.Gen.frame m ρ,
    fun m ρ _ => Cert.Frames.reference8 m ρ trivial,
    fun m ρ _ => Cert.Frames.reference8 m ρ trivial,
    fun m ρ _ => Cert.Kernel9.Gen.frame m ρ,
    fun m ρ _ => Cert.Kernel9Ideal.Gen.frame m ρ,
    fun m ρ _ => Cert.Kernel9Ideal.Gen.frame m ρ,
    fun m ρ _ => Cert.Frames.reference9 m ρ trivial,
    fun m ρ _ => Cert.Frames.reference9 m ρ trivial,
    trivial,
    Cert.Ln.algebraic,
    trivial,
    Cert.Conv.algebraic,
    trivial,
    Cert.Merge.algebraic,
    IdealRules.named_const.statement Cert.Kernel4Ideal.κ "ln2" .f32 0x3F317218#32 ((Real.log 2 : ℝ) : EReal) rfl,
    Cert.Kernel4Ideal.Attn.algebraic,
    trivial,
    Cert.Qkv.algebraic,
    trivial,
    Cert.Ff2.algebraic,
    trivial,
    Cert.Ff1.algebraic,
    trivial,
    Cert.Inproj.algebraic,
    trivial,
    Cert.Loss.algebraic⟩

end Cert.Proof

end
